-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_GatherReference (m : (ℓ : Loc Cert.GatherReference.nD Cert.GatherReference.τ Cert.GatherReference.sig) → Buf (Elt Bits) ℓ) : Prop :=
  True

def Pre_Sibling (m : (ℓ : Loc Cert.Sibling.nD Cert.Sibling.τ Cert.Sibling.sig) → Buf (Elt Bits) ℓ) : Prop :=
  True

def Pre_SiblingIdeal (m : (ℓ : Loc Cert.SiblingIdeal.nD Cert.SiblingIdeal.τ Cert.SiblingIdeal.sig) → Buf (Elt Ideal) ℓ) : Prop :=
  True

def Pre_SiblingReferenceIdeal (m : (ℓ : Loc Cert.SiblingReferenceIdeal.nD Cert.SiblingReferenceIdeal.τ Cert.SiblingReferenceIdeal.sig) → Buf (Elt Ideal) ℓ) : Prop :=
  True

def Pre_SiblingReference (m : (ℓ : Loc Cert.SiblingReference.nD Cert.SiblingReference.τ Cert.SiblingReference.sig) → Buf (Elt Bits) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_SmallReference (m : (ℓ : Loc Cert.SmallReference.nD Cert.SmallReference.τ Cert.SmallReference.sig) → Buf (Elt Bits) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInReferenceIdeal (m : (ℓ : Loc Cert.SumInReferenceIdeal.nD Cert.SumInReferenceIdeal.τ Cert.SumInReferenceIdeal.sig) → Buf (Elt Ideal) ℓ) : Prop :=
  True

def Pre_UpdateIn (m : (ℓ : Loc Cert.UpdateIn.nD Cert.UpdateIn.τ Cert.UpdateIn.sig) → Buf (Elt Bits) ℓ) : Prop :=
  True

def Pre_UpdateInIdeal (m : (ℓ : Loc Cert.UpdateInIdeal.nD Cert.UpdateInIdeal.τ Cert.UpdateInIdeal.sig) → Buf (Elt Ideal) ℓ) : Prop :=
  True

def Pre_UpdateInReferenceIdeal (m : (ℓ : Loc Cert.UpdateInReferenceIdeal.nD Cert.UpdateInReferenceIdeal.τ Cert.UpdateInReferenceIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutReferenceIdeal (m : (ℓ : Loc Cert.SumOutReferenceIdeal.nD Cert.SumOutReferenceIdeal.τ Cert.SumOutReferenceIdeal.sig) → Buf (Elt Ideal) ℓ) : Prop :=
  True

def Pre_UpdateOut (m : (ℓ : Loc Cert.UpdateOut.nD Cert.UpdateOut.τ Cert.UpdateOut.sig) → Buf (Elt Bits) ℓ) : Prop :=
  True

def Pre_UpdateOutIdeal (m : (ℓ : Loc Cert.UpdateOutIdeal.nD Cert.UpdateOutIdeal.τ Cert.UpdateOutIdeal.sig) → Buf (Elt Ideal) ℓ) : Prop :=
  True

def Pre_UpdateOutReferenceIdeal (m : (ℓ : Loc Cert.UpdateOutReferenceIdeal.nD Cert.UpdateOutReferenceIdeal.τ Cert.UpdateOutReferenceIdeal.sig) → Buf (Elt Ideal) ℓ) : Prop :=
  True

def Pre_SumFfn (m : (ℓ : Loc Cert.SumFfn.nD Cert.SumFfn.τ Cert.SumFfn.sig) → Buf (Elt Bits) ℓ) : Prop :=
  True

def Pre_SumFfnIdeal (m : (ℓ : Loc Cert.SumFfnIdeal.nD Cert.SumFfnIdeal.τ Cert.SumFfnIdeal.sig) → Buf (Elt Ideal) ℓ) : Prop :=
  True

def Pre_SumFfnReferenceIdeal (m : (ℓ : Loc Cert.SumFfnReferenceIdeal.nD Cert.SumFfnReferenceIdeal.τ Cert.SumFfnReferenceIdeal.sig) → Buf (Elt Ideal) ℓ) : Prop :=
  True

def Pre_UpdateFfn (m : (ℓ : Loc Cert.UpdateFfn.nD Cert.UpdateFfn.τ Cert.UpdateFfn.sig) → Buf (Elt Bits) ℓ) : Prop :=
  True

def Pre_UpdateFfnIdeal (m : (ℓ : Loc Cert.UpdateFfnIdeal.nD Cert.UpdateFfnIdeal.τ Cert.UpdateFfnIdeal.sig) → Buf (Elt Ideal) ℓ) : Prop :=
  True

def Pre_UpdateFfnReferenceIdeal (m : (ℓ : Loc Cert.UpdateFfnReferenceIdeal.nD Cert.UpdateFfnReferenceIdeal.τ Cert.UpdateFfnReferenceIdeal.sig) → Buf (Elt Ideal) ℓ) : Prop :=
  True

def Pre_SumDown (m : (ℓ : Loc Cert.SumDown.nD Cert.SumDown.τ Cert.SumDown.sig) → Buf (Elt Bits) ℓ) : Prop :=
  True

def Pre_SumDownIdeal (m : (ℓ : Loc Cert.SumDownIdeal.nD Cert.SumDownIdeal.τ Cert.SumDownIdeal.sig) → Buf (Elt Ideal) ℓ) : Prop :=
  True

def Pre_SumDownReferenceIdeal (m : (ℓ : Loc Cert.SumDownReferenceIdeal.nD Cert.SumDownReferenceIdeal.τ Cert.SumDownReferenceIdeal.sig) → Buf (Elt Ideal) ℓ) : Prop :=
  True

def Pre_UpdateDown (m : (ℓ : Loc Cert.UpdateDown.nD Cert.UpdateDown.τ Cert.UpdateDown.sig) → Buf (Elt Bits) ℓ) : Prop :=
  True

def Pre_UpdateDownIdeal (m : (ℓ : Loc Cert.UpdateDownIdeal.nD Cert.UpdateDownIdeal.τ Cert.UpdateDownIdeal.sig) → Buf (Elt Ideal) ℓ) : Prop :=
  True

def Pre_UpdateDownReferenceIdeal (m : (ℓ : Loc Cert.UpdateDownReferenceIdeal.nD Cert.UpdateDownReferenceIdeal.τ Cert.UpdateDownReferenceIdeal.sig) → Buf (Elt Ideal) ℓ) : Prop :=
  True

def Pre_SumPle (m : (ℓ : Loc Cert.SumPle.nD Cert.SumPle.τ Cert.SumPle.sig) → Buf (Elt Bits) ℓ) : Prop :=
  True

def Pre_SumPleIdeal (m : (ℓ : Loc Cert.SumPleIdeal.nD Cert.SumPleIdeal.τ Cert.SumPleIdeal.sig) → Buf (Elt Ideal) ℓ) : Prop :=
  True

def Pre_SumPleReferenceIdeal (m : (ℓ : Loc Cert.SumPleReferenceIdeal.nD Cert.SumPleReferenceIdeal.τ Cert.SumPleReferenceIdeal.sig) → Buf (Elt Ideal) ℓ) : Prop :=
  True

def Pre_UpdatePle (m : (ℓ : Loc Cert.UpdatePle.nD Cert.UpdatePle.τ Cert.UpdatePle.sig) → Buf (Elt Bits) ℓ) : Prop :=
  True

def Pre_UpdatePleIdeal (m : (ℓ : Loc Cert.UpdatePleIdeal.nD Cert.UpdatePleIdeal.τ Cert.UpdatePleIdeal.sig) → Buf (Elt Ideal) ℓ) : Prop :=
  True

def Pre_UpdatePleReferenceIdeal (m : (ℓ : Loc Cert.UpdatePleReferenceIdeal.nD Cert.UpdatePleReferenceIdeal.τ Cert.UpdatePleReferenceIdeal.sig) → Buf (Elt Ideal) ℓ) : Prop :=
  True

def Pre_UpdateSmall (m : (ℓ : Loc Cert.UpdateSmall.nD Cert.UpdateSmall.τ Cert.UpdateSmall.sig) → Buf (Elt Bits) ℓ) : Prop :=
  True

def Pre_UpdateSmallIdeal (m : (ℓ : Loc Cert.UpdateSmallIdeal.nD Cert.UpdateSmallIdeal.τ Cert.UpdateSmallIdeal.sig) → Buf (Elt Ideal) ℓ) : Prop :=
  True

def Pre_UpdateSmallReferenceIdeal (m : (ℓ : Loc Cert.UpdateSmallReferenceIdeal.nD Cert.UpdateSmallReferenceIdeal.τ Cert.UpdateSmallReferenceIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInReferenceIdeal (m : (ℓ : Loc Cert.GradInReferenceIdeal.nD Cert.GradInReferenceIdeal.τ Cert.GradInReferenceIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutReferenceIdeal (m : (ℓ : Loc Cert.GradOutReferenceIdeal.nD Cert.GradOutReferenceIdeal.τ Cert.GradOutReferenceIdeal.sig) → Buf (Elt Ideal) ℓ) : Prop :=
  True

def Pre_GradFfn (m : (ℓ : Loc Cert.GradFfn.nD Cert.GradFfn.τ Cert.GradFfn.sig) → Buf (Elt Bits) ℓ) : Prop :=
  True

def Pre_GradFfnIdeal (m : (ℓ : Loc Cert.GradFfnIdeal.nD Cert.GradFfnIdeal.τ Cert.GradFfnIdeal.sig) → Buf (Elt Ideal) ℓ) : Prop :=
  True

def Pre_GradFfnReferenceIdeal (m : (ℓ : Loc Cert.GradFfnReferenceIdeal.nD Cert.GradFfnReferenceIdeal.τ Cert.GradFfnReferenceIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownReferenceIdeal (m : (ℓ : Loc Cert.GradDownReferenceIdeal.nD Cert.GradDownReferenceIdeal.τ Cert.GradDownReferenceIdeal.sig) → Buf (Elt Ideal) ℓ) : Prop :=
  True

def Pre_GradPle (m : (ℓ : Loc Cert.GradPle.nD Cert.GradPle.τ Cert.GradPle.sig) → Buf (Elt Bits) ℓ) : Prop :=
  True

def Pre_GradPleIdeal (m : (ℓ : Loc Cert.GradPleIdeal.nD Cert.GradPleIdeal.τ Cert.GradPleIdeal.sig) → Buf (Elt Ideal) ℓ) : Prop :=
  True

def Pre_GradPleReferenceIdeal (m : (ℓ : Loc Cert.GradPleReferenceIdeal.nD Cert.GradPleReferenceIdeal.τ Cert.GradPleReferenceIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInReferenceIdeal (m : (ℓ : Loc Cert.NormInReferenceIdeal.nD Cert.NormInReferenceIdeal.τ Cert.NormInReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInReferenceIdeal (m : (ℓ : Loc Cert.FfnInReferenceIdeal.nD Cert.FfnInReferenceIdeal.τ Cert.FfnInReferenceIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutReferenceIdeal (m : (ℓ : Loc Cert.FfnOutReferenceIdeal.nD Cert.FfnOutReferenceIdeal.τ Cert.FfnOutReferenceIdeal.sig) → Buf (Elt Ideal) ℓ) : Prop :=
  True

def Pre_PleGate (m : (ℓ : Loc Cert.PleGate.nD Cert.PleGate.τ Cert.PleGate.sig) → Buf (Elt Bits) ℓ) : Prop :=
  True

def Pre_PleGateIdeal (m : (ℓ : Loc Cert.PleGateIdeal.nD Cert.PleGateIdeal.τ Cert.PleGateIdeal.sig) → Buf (Elt Ideal) ℓ) : Prop :=
  True

def Pre_PleGateReferenceIdeal (m : (ℓ : Loc Cert.PleGateReferenceIdeal.nD Cert.PleGateReferenceIdeal.τ Cert.PleGateReferenceIdeal.sig) → Buf (Elt Ideal) ℓ) : Prop :=
  True

def Pre_PleGrad (m : (ℓ : Loc Cert.PleGrad.nD Cert.PleGrad.τ Cert.PleGrad.sig) → Buf (Elt Bits) ℓ) : Prop :=
  True

def Pre_PleGradIdeal (m : (ℓ : Loc Cert.PleGradIdeal.nD Cert.PleGradIdeal.τ Cert.PleGradIdeal.sig) → Buf (Elt Ideal) ℓ) : Prop :=
  True

def Pre_PleGradReferenceIdeal (m : (ℓ : Loc Cert.PleGradReferenceIdeal.nD Cert.PleGradReferenceIdeal.τ Cert.PleGradReferenceIdeal.sig) → Buf (Elt Ideal) ℓ) : Prop :=
  True

def Pre_FfnInGrad (m : (ℓ : Loc Cert.FfnInGrad.nD Cert.FfnInGrad.τ Cert.FfnInGrad.sig) → Buf (Elt Bits) ℓ) : Prop :=
  True

def Pre_FfnInGradIdeal (m : (ℓ : Loc Cert.FfnInGradIdeal.nD Cert.FfnInGradIdeal.τ Cert.FfnInGradIdeal.sig) → Buf (Elt Ideal) ℓ) : Prop :=
  True

def Pre_FfnInGradReferenceIdeal (m : (ℓ : Loc Cert.FfnInGradReferenceIdeal.nD Cert.FfnInGradReferenceIdeal.τ Cert.FfnInGradReferenceIdeal.sig) → Buf (Elt Ideal) ℓ) : Prop :=
  True

def Pre_MixOutGrad (m : (ℓ : Loc Cert.MixOutGrad.nD Cert.MixOutGrad.τ Cert.MixOutGrad.sig) → Buf (Elt Bits) ℓ) : Prop :=
  True

def Pre_MixOutGradIdeal (m : (ℓ : Loc Cert.MixOutGradIdeal.nD Cert.MixOutGradIdeal.τ Cert.MixOutGradIdeal.sig) → Buf (Elt Ideal) ℓ) : Prop :=
  True

def Pre_MixOutGradReferenceIdeal (m : (ℓ : Loc Cert.MixOutGradReferenceIdeal.nD Cert.MixOutGradReferenceIdeal.τ Cert.MixOutGradReferenceIdeal.sig) → Buf (Elt Ideal) ℓ) : Prop :=
  True

def Pre_NormInGrad (m : (ℓ : Loc Cert.NormInGrad.nD Cert.NormInGrad.τ Cert.NormInGrad.sig) → Buf (Elt Bits) ℓ) : Prop :=
  True

def Pre_NormInGradIdeal (m : (ℓ : Loc Cert.NormInGradIdeal.nD Cert.NormInGradIdeal.τ Cert.NormInGradIdeal.sig) → Buf (Elt Ideal) ℓ) : Prop :=
  True

def Pre_NormInGradReferenceIdeal (m : (ℓ : Loc Cert.NormInGradReferenceIdeal.nD Cert.NormInGradReferenceIdeal.τ Cert.NormInGradReferenceIdeal.sig) → Buf (Elt Ideal) ℓ) : Prop :=
  True

def Pre_FfnOutGrad (m : (ℓ : Loc Cert.FfnOutGrad.nD Cert.FfnOutGrad.τ Cert.FfnOutGrad.sig) → Buf (Elt Bits) ℓ) : Prop :=
  True

def Pre_FfnOutGradIdeal (m : (ℓ : Loc Cert.FfnOutGradIdeal.nD Cert.FfnOutGradIdeal.τ Cert.FfnOutGradIdeal.sig) → Buf (Elt Ideal) ℓ) : Prop :=
  True

def Pre_FfnOutGradReferenceIdeal (m : (ℓ : Loc Cert.FfnOutGradReferenceIdeal.nD Cert.FfnOutGradReferenceIdeal.τ Cert.FfnOutGradReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4)
      ∧ r.2.mem ((c.tc : Thread Cert.Gather.nD Cert.Gather.τ).loc Cert.Gather.main_arg5) = m ((c.tc : Thread Cert.Gather.nD Cert.Gather.τ).loc Cert.Gather.main_arg5)
      ∧ r.2.mem ((c.tc : Thread Cert.Gather.nD Cert.Gather.τ).loc Cert.Gather.main_arg6) = m ((c.tc : Thread Cert.Gather.nD Cert.Gather.τ).loc Cert.Gather.main_arg6))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
      ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
      ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1)
      ∧ r.2.mem ((c.tc : Thread Cert.GatherReferenceIdeal.nD Cert.GatherReferenceIdeal.τ).loc Cert.GatherReferenceIdeal.main_arg2) = m ((c.tc : Thread Cert.GatherReferenceIdeal.nD Cert.GatherReferenceIdeal.τ).loc Cert.GatherReferenceIdeal.main_arg2)
      ∧ r.2.mem ((c.tc : Thread Cert.GatherReferenceIdeal.nD Cert.GatherReferenceIdeal.τ).loc Cert.GatherReferenceIdeal.main_arg3) = m ((c.tc : Thread Cert.GatherReferenceIdeal.nD Cert.GatherReferenceIdeal.τ).loc Cert.GatherReferenceIdeal.main_arg3)
      ∧ r.2.mem ((c.tc : Thread Cert.GatherReferenceIdeal.nD Cert.GatherReferenceIdeal.τ).loc Cert.GatherReferenceIdeal.main_arg4) = m ((c.tc : Thread Cert.GatherReferenceIdeal.nD Cert.GatherReferenceIdeal.τ).loc Cert.GatherReferenceIdeal.main_arg4)
      ∧ r.2.mem ((c.tc : Thread Cert.GatherReferenceIdeal.nD Cert.GatherReferenceIdeal.τ).loc Cert.GatherReferenceIdeal.main_arg5) = m ((c.tc : Thread Cert.GatherReferenceIdeal.nD Cert.GatherReferenceIdeal.τ).loc Cert.GatherReferenceIdeal.main_arg5)
      ∧ r.2.mem ((c.tc : Thread Cert.GatherReferenceIdeal.nD Cert.GatherReferenceIdeal.τ).loc Cert.GatherReferenceIdeal.main_arg6) = m ((c.tc : Thread Cert.GatherReferenceIdeal.nD Cert.GatherReferenceIdeal.τ).loc Cert.GatherReferenceIdeal.main_arg6))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1)
      ∧ r.2.mem ((c.tc : Thread Cert.GatherReference.nD Cert.GatherReference.τ).loc Cert.GatherReference.main_arg2) = m ((c.tc : Thread Cert.GatherReference.nD Cert.GatherReference.τ).loc Cert.GatherReference.main_arg2)
      ∧ r.2.mem ((c.tc : Thread Cert.GatherReference.nD Cert.GatherReference.τ).loc Cert.GatherReference.main_arg3) = m ((c.tc : Thread Cert.GatherReference.nD Cert.GatherReference.τ).loc Cert.GatherReference.main_arg3)
      ∧ r.2.mem ((c.tc : Thread Cert.GatherReference.nD Cert.GatherReference.τ).loc Cert.GatherReference.main_arg4) = m ((c.tc : Thread Cert.GatherReference.nD Cert.GatherReference.τ).loc Cert.GatherReference.main_arg4)
      ∧ r.2.mem ((c.tc : Thread Cert.GatherReference.nD Cert.GatherReference.τ).loc Cert.GatherReference.main_arg5) = m ((c.tc : Thread Cert.GatherReference.nD Cert.GatherReference.τ).loc Cert.GatherReference.main_arg5)
      ∧ r.2.mem ((c.tc : Thread Cert.GatherReference.nD Cert.GatherReference.τ).loc Cert.GatherReference.main_arg6) = m ((c.tc : Thread Cert.GatherReference.nD Cert.GatherReference.τ).loc Cert.GatherReference.main_arg6))
      ∧ r.2.sem = fun _ => 0)

def quiescent_Sibling [hSibling : Cert.Sibling.Facts] : Prop :=
  ∀ (m : (ℓ : Loc Cert.Sibling.nD Cert.Sibling.τ Cert.Sibling.sig) → Buf (Elt Bits) ℓ) (g : Dev Cert.Sibling.nD → PrngReg), Pre_Sibling m →
    θ_run (Cert.Sibling.defs (F := Bits)) (onTc (τ := Cert.Sibling.τ) (Cert.Sibling.main (F := Bits))) ⟨m, fun _ => 0, g⟩ (fun r => (∀ c : Dev Cert.Sibling.nD,
      r.2.mem ((c.tc : Thread Cert.Sibling.nD Cert.Sibling.τ).loc Cert.Sibling.main_arg0) = m ((c.tc : Thread Cert.Sibling.nD Cert.Sibling.τ).loc Cert.Sibling.main_arg0)
      ∧ r.2.mem ((c.tc : Thread Cert.Sibling.nD Cert.Sibling.τ).loc Cert.Sibling.main_arg1) = m ((c.tc : Thread Cert.Sibling.nD Cert.Sibling.τ).loc Cert.Sibling.main_arg1)
      ∧ r.2.mem ((c.tc : Thread Cert.Sibling.nD Cert.Sibling.τ).loc Cert.Sibling.main_arg2) = m ((c.tc : Thread Cert.Sibling.nD Cert.Sibling.τ).loc Cert.Sibling.main_arg2)
      ∧ r.2.mem ((c.tc : Thread Cert.Sibling.nD Cert.Sibling.τ).loc Cert.Sibling.main_arg3) = m ((c.tc : Thread Cert.Sibling.nD Cert.Sibling.τ).loc Cert.Sibling.main_arg3)
      ∧ r.2.mem ((c.tc : Thread Cert.Sibling.nD Cert.Sibling.τ).loc Cert.Sibling.main_arg4) = m ((c.tc : Thread Cert.Sibling.nD Cert.Sibling.τ).loc Cert.Sibling.main_arg4)
      ∧ r.2.mem ((c.tc : Thread Cert.Sibling.nD Cert.Sibling.τ).loc Cert.Sibling.main_arg5) = m ((c.tc : Thread Cert.Sibling.nD Cert.Sibling.τ).loc Cert.Sibling.main_arg5)
      ∧ r.2.mem ((c.tc : Thread Cert.Sibling.nD Cert.Sibling.τ).loc Cert.Sibling.main_arg6) = m ((c.tc : Thread Cert.Sibling.nD Cert.Sibling.τ).loc Cert.Sibling.main_arg6))
      ∧ r.2.sem = fun _ => 0)

def quiescent_SiblingIdeal [hSiblingIdeal : Cert.SiblingIdeal.Facts] : Prop :=
  ∀ (m : (ℓ : Loc Cert.SiblingIdeal.nD Cert.SiblingIdeal.τ Cert.SiblingIdeal.sig) → Buf (Elt Ideal) ℓ) (g : Dev Cert.SiblingIdeal.nD → PrngReg), Pre_SiblingIdeal m →
    θ_run (Cert.SiblingIdeal.defs (F := Ideal)) (onTc (τ := Cert.SiblingIdeal.τ) (Cert.SiblingIdeal.main (F := Ideal))) ⟨m, fun _ => 0, g⟩ (fun r => (∀ c : Dev Cert.SiblingIdeal.nD,
      r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0)
      ∧ r.2.mem ((c.tc : Thread Cert.SiblingIdeal.nD Cert.SiblingIdeal.τ).loc Cert.SiblingIdeal.main_arg1) = m ((c.tc : Thread Cert.SiblingIdeal.nD Cert.SiblingIdeal.τ).loc Cert.SiblingIdeal.main_arg1)
      ∧ r.2.mem ((c.tc : Thread Cert.SiblingIdeal.nD Cert.SiblingIdeal.τ).loc Cert.SiblingIdeal.main_arg2) = m ((c.tc : Thread Cert.SiblingIdeal.nD Cert.SiblingIdeal.τ).loc Cert.SiblingIdeal.main_arg2)
      ∧ r.2.mem ((c.tc : Thread Cert.SiblingIdeal.nD Cert.SiblingIdeal.τ).loc Cert.SiblingIdeal.main_arg3) = m ((c.tc : Thread Cert.SiblingIdeal.nD Cert.SiblingIdeal.τ).loc Cert.SiblingIdeal.main_arg3)
      ∧ r.2.mem ((c.tc : Thread Cert.SiblingIdeal.nD Cert.SiblingIdeal.τ).loc Cert.SiblingIdeal.main_arg4) = m ((c.tc : Thread Cert.SiblingIdeal.nD Cert.SiblingIdeal.τ).loc Cert.SiblingIdeal.main_arg4)
      ∧ r.2.mem ((c.tc : Thread Cert.SiblingIdeal.nD Cert.SiblingIdeal.τ).loc Cert.SiblingIdeal.main_arg5) = m ((c.tc : Thread Cert.SiblingIdeal.nD Cert.SiblingIdeal.τ).loc Cert.SiblingIdeal.main_arg5)
      ∧ r.2.mem ((c.tc : Thread Cert.SiblingIdeal.nD Cert.SiblingIdeal.τ).loc Cert.SiblingIdeal.main_arg6) = m ((c.tc : Thread Cert.SiblingIdeal.nD Cert.SiblingIdeal.τ).loc Cert.SiblingIdeal.main_arg6))
      ∧ r.2.sem = fun _ => 0)

def quiescent_SiblingReferenceIdeal [hSiblingReferenceIdeal : Cert.SiblingReferenceIdeal.Facts] : Prop :=
  ∀ (m : (ℓ : Loc Cert.SiblingReferenceIdeal.nD Cert.SiblingReferenceIdeal.τ Cert.SiblingReferenceIdeal.sig) → Buf (Elt Ideal) ℓ) (g : Dev Cert.SiblingReferenceIdeal.nD → PrngReg), Pre_SiblingReferenceIdeal m →
    θ_run (Cert.SiblingReferenceIdeal.defs (F := Ideal)) (onTc (τ := Cert.SiblingReferenceIdeal.τ) (Cert.SiblingReferenceIdeal.main (F := Ideal))) ⟨m, fun _ => 0, g⟩ (fun r => (∀ c : Dev Cert.SiblingReferenceIdeal.nD,
      r.2.mem ((c.tc : Thread Cert.SiblingReferenceIdeal.nD Cert.SiblingReferenceIdeal.τ).loc Cert.SiblingReferenceIdeal.main_arg0) = m ((c.tc : Thread Cert.SiblingReferenceIdeal.nD Cert.SiblingReferenceIdeal.τ).loc Cert.SiblingReferenceIdeal.main_arg0)
      ∧ r.2.mem ((c.tc : Thread Cert.SiblingReferenceIdeal.nD Cert.SiblingReferenceIdeal.τ).loc Cert.SiblingReferenceIdeal.main_arg1) = m ((c.tc : Thread Cert.SiblingReferenceIdeal.nD Cert.SiblingReferenceIdeal.τ).loc Cert.SiblingReferenceIdeal.main_arg1)
      ∧ r.2.mem ((c.tc : Thread Cert.SiblingReferenceIdeal.nD Cert.SiblingReferenceIdeal.τ).loc Cert.SiblingReferenceIdeal.main_arg2) = m ((c.tc : Thread Cert.SiblingReferenceIdeal.nD Cert.SiblingReferenceIdeal.τ).loc Cert.SiblingReferenceIdeal.main_arg2)
      ∧ r.2.mem ((c.tc : Thread Cert.SiblingReferenceIdeal.nD Cert.SiblingReferenceIdeal.τ).loc Cert.SiblingReferenceIdeal.main_arg3) = m ((c.tc : Thread Cert.SiblingReferenceIdeal.nD Cert.SiblingReferenceIdeal.τ).loc Cert.SiblingReferenceIdeal.main_arg3)
      ∧ r.2.mem ((c.tc : Thread Cert.SiblingReferenceIdeal.nD Cert.SiblingReferenceIdeal.τ).loc Cert.SiblingReferenceIdeal.main_arg4) = m ((c.tc : Thread Cert.SiblingReferenceIdeal.nD Cert.SiblingReferenceIdeal.τ).loc Cert.SiblingReferenceIdeal.main_arg4)
      ∧ r.2.mem ((c.tc : Thread Cert.SiblingReferenceIdeal.nD Cert.SiblingReferenceIdeal.τ).loc Cert.SiblingReferenceIdeal.main_arg5) = m ((c.tc : Thread Cert.SiblingReferenceIdeal.nD Cert.SiblingReferenceIdeal.τ).loc Cert.SiblingReferenceIdeal.main_arg5)
      ∧ r.2.mem ((c.tc : Thread Cert.SiblingReferenceIdeal.nD Cert.SiblingReferenceIdeal.τ).loc Cert.SiblingReferenceIdeal.main_arg6) = m ((c.tc : Thread Cert.SiblingReferenceIdeal.nD Cert.SiblingReferenceIdeal.τ).loc Cert.SiblingReferenceIdeal.main_arg6))
      ∧ r.2.sem = fun _ => 0)

def quiescent_SiblingReference [hSiblingReference : Cert.SiblingReference.Facts] : Prop :=
  ∀ (m : (ℓ : Loc Cert.SiblingReference.nD Cert.SiblingReference.τ Cert.SiblingReference.sig) → Buf (Elt Bits) ℓ) (g : Dev Cert.SiblingReference.nD → PrngReg), Pre_SiblingReference m →
    θ_run (Cert.SiblingReference.defs (F := Bits)) (onTc (τ := Cert.SiblingReference.τ) (Cert.SiblingReference.main (F := Bits))) ⟨m, fun _ => 0, g⟩ (fun r => (∀ c : Dev Cert.SiblingReference.nD,
      r.2.mem ((c.tc : Thread Cert.SiblingReference.nD Cert.SiblingReference.τ).loc Cert.SiblingReference.main_arg0) = m ((c.tc : Thread Cert.SiblingReference.nD Cert.SiblingReference.τ).loc Cert.SiblingReference.main_arg0)
      ∧ r.2.mem ((c.tc : Thread Cert.SiblingReference.nD Cert.SiblingReference.τ).loc Cert.SiblingReference.main_arg1) = m ((c.tc : Thread Cert.SiblingReference.nD Cert.SiblingReference.τ).loc Cert.SiblingReference.main_arg1)
      ∧ r.2.mem ((c.tc : Thread Cert.SiblingReference.nD Cert.SiblingReference.τ).loc Cert.SiblingReference.main_arg2) = m ((c.tc : Thread Cert.SiblingReference.nD Cert.SiblingReference.τ).loc Cert.SiblingReference.main_arg2)
      ∧ r.2.mem ((c.tc : Thread Cert.SiblingReference.nD Cert.SiblingReference.τ).loc Cert.SiblingReference.main_arg3) = m ((c.tc : Thread Cert.SiblingReference.nD Cert.SiblingReference.τ).loc Cert.SiblingReference.main_arg3)
      ∧ r.2.mem ((c.tc : Thread Cert.SiblingReference.nD Cert.SiblingReference.τ).loc Cert.SiblingReference.main_arg4) = m ((c.tc : Thread Cert.SiblingReference.nD Cert.SiblingReference.τ).loc Cert.SiblingReference.main_arg4)
      ∧ r.2.mem ((c.tc : Thread Cert.SiblingReference.nD Cert.SiblingReference.τ).loc Cert.SiblingReference.main_arg5) = m ((c.tc : Thread Cert.SiblingReference.nD Cert.SiblingReference.τ).loc Cert.SiblingReference.main_arg5)
      ∧ r.2.mem ((c.tc : Thread Cert.SiblingReference.nD Cert.SiblingReference.τ).loc Cert.SiblingReference.main_arg6) = m ((c.tc : Thread Cert.SiblingReference.nD Cert.SiblingReference.τ).loc Cert.SiblingReference.main_arg6))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0))
      ∧ r.2.sem = fun _ => 0)

def quiescent_SmallReference [hSmallReference : Cert.SmallReference.Facts] : Prop :=
  ∀ (m : (ℓ : Loc Cert.SmallReference.nD Cert.SmallReference.τ Cert.SmallReference.sig) → Buf (Elt Bits) ℓ) (g : Dev Cert.SmallReference.nD → PrngReg), Pre_SmallReference m →
    θ_run (Cert.SmallReference.defs (F := Bits)) (onTc (τ := Cert.SmallReference.τ) (Cert.SmallReference.main (F := Bits))) ⟨m, fun _ => 0, g⟩ (fun r => (∀ c : Dev Cert.SmallReference.nD,
      r.2.mem ((c.tc : Thread Cert.SmallReference.nD Cert.SmallReference.τ).loc Cert.SmallReference.main_arg0) = m ((c.tc : Thread Cert.SmallReference.nD Cert.SmallReference.τ).loc Cert.SmallReference.main_arg0))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ r.2.sem = fun _ => 0)

def quiescent_SumInReferenceIdeal [hSumInReferenceIdeal : Cert.SumInReferenceIdeal.Facts] : Prop :=
  ∀ (m : (ℓ : Loc Cert.SumInReferenceIdeal.nD Cert.SumInReferenceIdeal.τ Cert.SumInReferenceIdeal.sig) → Buf (Elt Ideal) ℓ) (g : Dev Cert.SumInReferenceIdeal.nD → PrngReg), Pre_SumInReferenceIdeal m →
    θ_run (Cert.SumInReferenceIdeal.defs (F := Ideal)) (onTc (τ := Cert.SumInReferenceIdeal.τ) (Cert.SumInReferenceIdeal.main (F := Ideal))) ⟨m, fun _ => 0, g⟩ (fun r => (∀ c : Dev Cert.SumInReferenceIdeal.nD,
      r.2.mem ((c.tc : Thread Cert.SumInReferenceIdeal.nD Cert.SumInReferenceIdeal.τ).loc Cert.SumInReferenceIdeal.main_arg0) = m ((c.tc : Thread Cert.SumInReferenceIdeal.nD Cert.SumInReferenceIdeal.τ).loc Cert.SumInReferenceIdeal.main_arg0))
      ∧ r.2.sem = fun _ => 0)

def quiescent_UpdateIn [hUpdateIn : Cert.UpdateIn.Facts] : Prop :=
  ∀ (m : (ℓ : Loc Cert.UpdateIn.nD Cert.UpdateIn.τ Cert.UpdateIn.sig) → Buf (Elt Bits) ℓ) (g : Dev Cert.UpdateIn.nD → PrngReg), Pre_UpdateIn m →
    θ_run (Cert.UpdateIn.defs (F := Bits)) (onTc (τ := Cert.UpdateIn.τ) (Cert.UpdateIn.main (F := Bits))) ⟨m, fun _ => 0, g⟩ (fun r => (∀ c : Dev Cert.UpdateIn.nD,
      r.2.mem ((c.tc : Thread Cert.UpdateIn.nD Cert.UpdateIn.τ).loc Cert.UpdateIn.main_arg0) = m ((c.tc : Thread Cert.UpdateIn.nD Cert.UpdateIn.τ).loc Cert.UpdateIn.main_arg0)
      ∧ r.2.mem ((c.tc : Thread Cert.UpdateIn.nD Cert.UpdateIn.τ).loc Cert.UpdateIn.main_arg1) = m ((c.tc : Thread Cert.UpdateIn.nD Cert.UpdateIn.τ).loc Cert.UpdateIn.main_arg1)
      ∧ r.2.mem ((c.tc : Thread Cert.UpdateIn.nD Cert.UpdateIn.τ).loc Cert.UpdateIn.main_arg2) = m ((c.tc : Thread Cert.UpdateIn.nD Cert.UpdateIn.τ).loc Cert.UpdateIn.main_arg2)
      ∧ r.2.mem ((c.tc : Thread Cert.UpdateIn.nD Cert.UpdateIn.τ).loc Cert.UpdateIn.main_arg3) = m ((c.tc : Thread Cert.UpdateIn.nD Cert.UpdateIn.τ).loc Cert.UpdateIn.main_arg3)
      ∧ r.2.mem ((c.tc : Thread Cert.UpdateIn.nD Cert.UpdateIn.τ).loc Cert.UpdateIn.main_arg4) = m ((c.tc : Thread Cert.UpdateIn.nD Cert.UpdateIn.τ).loc Cert.UpdateIn.main_arg4))
      ∧ r.2.sem = fun _ => 0)

def quiescent_UpdateInIdeal [hUpdateInIdeal : Cert.UpdateInIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg), Pre_UpdateInIdeal m →
    θ_run (Cert.UpdateInIdeal.defs (F := Ideal)) (onTc (τ := Cert.UpdateInIdeal.τ) (Cert.UpdateInIdeal.main (F := Ideal))) ⟨m, fun _ => 0, g⟩ (fun r => (∀ c : Dev Cert.UpdateInIdeal.nD,
      r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
      ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
      ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
      ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3)
      ∧ r.2.mem ((c.tc : Thread Cert.UpdateInIdeal.nD Cert.UpdateInIdeal.τ).loc Cert.UpdateInIdeal.main_arg4) = m ((c.tc : Thread Cert.UpdateInIdeal.nD Cert.UpdateInIdeal.τ).loc Cert.UpdateInIdeal.main_arg4))
      ∧ r.2.sem = fun _ => 0)

def quiescent_UpdateInReferenceIdeal [hUpdateInReferenceIdeal : Cert.UpdateInReferenceIdeal.Facts] : Prop :=
  ∀ (m : (ℓ : Loc Cert.UpdateInReferenceIdeal.nD Cert.UpdateInReferenceIdeal.τ Cert.UpdateInReferenceIdeal.sig) → Buf (Elt Ideal) ℓ) (g : Dev Cert.UpdateInReferenceIdeal.nD → PrngReg), Pre_UpdateInReferenceIdeal m →
    θ_run (Cert.UpdateInReferenceIdeal.defs (F := Ideal)) (onTc (τ := Cert.UpdateInReferenceIdeal.τ) (Cert.UpdateInReferenceIdeal.main (F := Ideal))) ⟨m, fun _ => 0, g⟩ (fun r => (∀ c : Dev Cert.UpdateInReferenceIdeal.nD,
      r.2.mem ((c.tc : Thread Cert.UpdateInReferenceIdeal.nD Cert.UpdateInReferenceIdeal.τ).loc Cert.UpdateInReferenceIdeal.main_arg0) = m ((c.tc : Thread Cert.UpdateInReferenceIdeal.nD Cert.UpdateInReferenceIdeal.τ).loc Cert.UpdateInReferenceIdeal.main_arg0)
      ∧ r.2.mem ((c.tc : Thread Cert.UpdateInReferenceIdeal.nD Cert.UpdateInReferenceIdeal.τ).loc Cert.UpdateInReferenceIdeal.main_arg1) = m ((c.tc : Thread Cert.UpdateInReferenceIdeal.nD Cert.UpdateInReferenceIdeal.τ).loc Cert.UpdateInReferenceIdeal.main_arg1)
      ∧ r.2.mem ((c.tc : Thread Cert.UpdateInReferenceIdeal.nD Cert.UpdateInReferenceIdeal.τ).loc Cert.UpdateInReferenceIdeal.main_arg2) = m ((c.tc : Thread Cert.UpdateInReferenceIdeal.nD Cert.UpdateInReferenceIdeal.τ).loc Cert.UpdateInReferenceIdeal.main_arg2)
      ∧ r.2.mem ((c.tc : Thread Cert.UpdateInReferenceIdeal.nD Cert.UpdateInReferenceIdeal.τ).loc Cert.UpdateInReferenceIdeal.main_arg3) = m ((c.tc : Thread Cert.UpdateInReferenceIdeal.nD Cert.UpdateInReferenceIdeal.τ).loc Cert.UpdateInReferenceIdeal.main_arg3)
      ∧ r.2.mem ((c.tc : Thread Cert.UpdateInReferenceIdeal.nD Cert.UpdateInReferenceIdeal.τ).loc Cert.UpdateInReferenceIdeal.main_arg4) = m ((c.tc : Thread Cert.UpdateInReferenceIdeal.nD Cert.UpdateInReferenceIdeal.τ).loc Cert.UpdateInReferenceIdeal.main_arg4))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ r.2.sem = fun _ => 0)

def quiescent_SumOutReferenceIdeal [hSumOutReferenceIdeal : Cert.SumOutReferenceIdeal.Facts] : Prop :=
  ∀ (m : (ℓ : Loc Cert.SumOutReferenceIdeal.nD Cert.SumOutReferenceIdeal.τ Cert.SumOutReferenceIdeal.sig) → Buf (Elt Ideal) ℓ) (g : Dev Cert.SumOutReferenceIdeal.nD → PrngReg), Pre_SumOutReferenceIdeal m →
    θ_run (Cert.SumOutReferenceIdeal.defs (F := Ideal)) (onTc (τ := Cert.SumOutReferenceIdeal.τ) (Cert.SumOutReferenceIdeal.main (F := Ideal))) ⟨m, fun _ => 0, g⟩ (fun r => (∀ c : Dev Cert.SumOutReferenceIdeal.nD,
      r.2.mem ((c.tc : Thread Cert.SumOutReferenceIdeal.nD Cert.SumOutReferenceIdeal.τ).loc Cert.SumOutReferenceIdeal.main_arg0) = m ((c.tc : Thread Cert.SumOutReferenceIdeal.nD Cert.SumOutReferenceIdeal.τ).loc Cert.SumOutReferenceIdeal.main_arg0))
      ∧ r.2.sem = fun _ => 0)

def quiescent_UpdateOut [hUpdateOut : Cert.UpdateOut.Facts] : Prop :=
  ∀ (m : (ℓ : Loc Cert.UpdateOut.nD Cert.UpdateOut.τ Cert.UpdateOut.sig) → Buf (Elt Bits) ℓ) (g : Dev Cert.UpdateOut.nD → PrngReg), Pre_UpdateOut m →
    θ_run (Cert.UpdateOut.defs (F := Bits)) (onTc (τ := Cert.UpdateOut.τ) (Cert.UpdateOut.main (F := Bits))) ⟨m, fun _ => 0, g⟩ (fun r => (∀ c : Dev Cert.UpdateOut.nD,
      r.2.mem ((c.tc : Thread Cert.UpdateOut.nD Cert.UpdateOut.τ).loc Cert.UpdateOut.main_arg0) = m ((c.tc : Thread Cert.UpdateOut.nD Cert.UpdateOut.τ).loc Cert.UpdateOut.main_arg0)
      ∧ r.2.mem ((c.tc : Thread Cert.UpdateOut.nD Cert.UpdateOut.τ).loc Cert.UpdateOut.main_arg1) = m ((c.tc : Thread Cert.UpdateOut.nD Cert.UpdateOut.τ).loc Cert.UpdateOut.main_arg1)
      ∧ r.2.mem ((c.tc : Thread Cert.UpdateOut.nD Cert.UpdateOut.τ).loc Cert.UpdateOut.main_arg2) = m ((c.tc : Thread Cert.UpdateOut.nD Cert.UpdateOut.τ).loc Cert.UpdateOut.main_arg2)
      ∧ r.2.mem ((c.tc : Thread Cert.UpdateOut.nD Cert.UpdateOut.τ).loc Cert.UpdateOut.main_arg3) = m ((c.tc : Thread Cert.UpdateOut.nD Cert.UpdateOut.τ).loc Cert.UpdateOut.main_arg3)
      ∧ r.2.mem ((c.tc : Thread Cert.UpdateOut.nD Cert.UpdateOut.τ).loc Cert.UpdateOut.main_arg4) = m ((c.tc : Thread Cert.UpdateOut.nD Cert.UpdateOut.τ).loc Cert.UpdateOut.main_arg4))
      ∧ r.2.sem = fun _ => 0)

def quiescent_UpdateOutIdeal [hUpdateOutIdeal : Cert.UpdateOutIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg), Pre_UpdateOutIdeal m →
    θ_run (Cert.UpdateOutIdeal.defs (F := Ideal)) (onTc (τ := Cert.UpdateOutIdeal.τ) (Cert.UpdateOutIdeal.main (F := Ideal))) ⟨m, fun _ => 0, g⟩ (fun r => (∀ c : Dev Cert.UpdateOutIdeal.nD,
      r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
      ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
      ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
      ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3)
      ∧ r.2.mem ((c.tc : Thread Cert.UpdateOutIdeal.nD Cert.UpdateOutIdeal.τ).loc Cert.UpdateOutIdeal.main_arg4) = m ((c.tc : Thread Cert.UpdateOutIdeal.nD Cert.UpdateOutIdeal.τ).loc Cert.UpdateOutIdeal.main_arg4))
      ∧ r.2.sem = fun _ => 0)

def quiescent_UpdateOutReferenceIdeal [hUpdateOutReferenceIdeal : Cert.UpdateOutReferenceIdeal.Facts] : Prop :=
  ∀ (m : (ℓ : Loc Cert.UpdateOutReferenceIdeal.nD Cert.UpdateOutReferenceIdeal.τ Cert.UpdateOutReferenceIdeal.sig) → Buf (Elt Ideal) ℓ) (g : Dev Cert.UpdateOutReferenceIdeal.nD → PrngReg), Pre_UpdateOutReferenceIdeal m →
    θ_run (Cert.UpdateOutReferenceIdeal.defs (F := Ideal)) (onTc (τ := Cert.UpdateOutReferenceIdeal.τ) (Cert.UpdateOutReferenceIdeal.main (F := Ideal))) ⟨m, fun _ => 0, g⟩ (fun r => (∀ c : Dev Cert.UpdateOutReferenceIdeal.nD,
      r.2.mem ((c.tc : Thread Cert.UpdateOutReferenceIdeal.nD Cert.UpdateOutReferenceIdeal.τ).loc Cert.UpdateOutReferenceIdeal.main_arg0) = m ((c.tc : Thread Cert.UpdateOutReferenceIdeal.nD Cert.UpdateOutReferenceIdeal.τ).loc Cert.UpdateOutReferenceIdeal.main_arg0)
      ∧ r.2.mem ((c.tc : Thread Cert.UpdateOutReferenceIdeal.nD Cert.UpdateOutReferenceIdeal.τ).loc Cert.UpdateOutReferenceIdeal.main_arg1) = m ((c.tc : Thread Cert.UpdateOutReferenceIdeal.nD Cert.UpdateOutReferenceIdeal.τ).loc Cert.UpdateOutReferenceIdeal.main_arg1)
      ∧ r.2.mem ((c.tc : Thread Cert.UpdateOutReferenceIdeal.nD Cert.UpdateOutReferenceIdeal.τ).loc Cert.UpdateOutReferenceIdeal.main_arg2) = m ((c.tc : Thread Cert.UpdateOutReferenceIdeal.nD Cert.UpdateOutReferenceIdeal.τ).loc Cert.UpdateOutReferenceIdeal.main_arg2)
      ∧ r.2.mem ((c.tc : Thread Cert.UpdateOutReferenceIdeal.nD Cert.UpdateOutReferenceIdeal.τ).loc Cert.UpdateOutReferenceIdeal.main_arg3) = m ((c.tc : Thread Cert.UpdateOutReferenceIdeal.nD Cert.UpdateOutReferenceIdeal.τ).loc Cert.UpdateOutReferenceIdeal.main_arg3)
      ∧ r.2.mem ((c.tc : Thread Cert.UpdateOutReferenceIdeal.nD Cert.UpdateOutReferenceIdeal.τ).loc Cert.UpdateOutReferenceIdeal.main_arg4) = m ((c.tc : Thread Cert.UpdateOutReferenceIdeal.nD Cert.UpdateOutReferenceIdeal.τ).loc Cert.UpdateOutReferenceIdeal.main_arg4))
      ∧ r.2.sem = fun _ => 0)

def quiescent_SumFfn [hSumFfn : Cert.SumFfn.Facts] : Prop :=
  ∀ (m : (ℓ : Loc Cert.SumFfn.nD Cert.SumFfn.τ Cert.SumFfn.sig) → Buf (Elt Bits) ℓ) (g : Dev Cert.SumFfn.nD → PrngReg), Pre_SumFfn m →
    θ_run (Cert.SumFfn.defs (F := Bits)) (onTc (τ := Cert.SumFfn.τ) (Cert.SumFfn.main (F := Bits))) ⟨m, fun _ => 0, g⟩ (fun r => (∀ c : Dev Cert.SumFfn.nD,
      r.2.mem ((c.tc : Thread Cert.SumFfn.nD Cert.SumFfn.τ).loc Cert.SumFfn.main_arg0) = m ((c.tc : Thread Cert.SumFfn.nD Cert.SumFfn.τ).loc Cert.SumFfn.main_arg0))
      ∧ r.2.sem = fun _ => 0)

def quiescent_SumFfnIdeal [hSumFfnIdeal : Cert.SumFfnIdeal.Facts] : Prop :=
  ∀ (m : (ℓ : Loc Cert.SumFfnIdeal.nD Cert.SumFfnIdeal.τ Cert.SumFfnIdeal.sig) → Buf (Elt Ideal) ℓ) (g : Dev Cert.SumFfnIdeal.nD → PrngReg), Pre_SumFfnIdeal m →
    θ_run (Cert.SumFfnIdeal.defs (F := Ideal)) (onTc (τ := Cert.SumFfnIdeal.τ) (Cert.SumFfnIdeal.main (F := Ideal))) ⟨m, fun _ => 0, g⟩ (fun r => (∀ c : Dev Cert.SumFfnIdeal.nD,
      r.2.mem ((c.tc : Thread Cert.SumFfnIdeal.nD Cert.SumFfnIdeal.τ).loc Cert.SumFfnIdeal.main_arg0) = m ((c.tc : Thread Cert.SumFfnIdeal.nD Cert.SumFfnIdeal.τ).loc Cert.SumFfnIdeal.main_arg0))
      ∧ r.2.sem = fun _ => 0)

def quiescent_SumFfnReferenceIdeal [hSumFfnReferenceIdeal : Cert.SumFfnReferenceIdeal.Facts] : Prop :=
  ∀ (m : (ℓ : Loc Cert.SumFfnReferenceIdeal.nD Cert.SumFfnReferenceIdeal.τ Cert.SumFfnReferenceIdeal.sig) → Buf (Elt Ideal) ℓ) (g : Dev Cert.SumFfnReferenceIdeal.nD → PrngReg), Pre_SumFfnReferenceIdeal m →
    θ_run (Cert.SumFfnReferenceIdeal.defs (F := Ideal)) (onTc (τ := Cert.SumFfnReferenceIdeal.τ) (Cert.SumFfnReferenceIdeal.main (F := Ideal))) ⟨m, fun _ => 0, g⟩ (fun r => (∀ c : Dev Cert.SumFfnReferenceIdeal.nD,
      r.2.mem ((c.tc : Thread Cert.SumFfnReferenceIdeal.nD Cert.SumFfnReferenceIdeal.τ).loc Cert.SumFfnReferenceIdeal.main_arg0) = m ((c.tc : Thread Cert.SumFfnReferenceIdeal.nD Cert.SumFfnReferenceIdeal.τ).loc Cert.SumFfnReferenceIdeal.main_arg0))
      ∧ r.2.sem = fun _ => 0)

def quiescent_UpdateFfn [hUpdateFfn : Cert.UpdateFfn.Facts] : Prop :=
  ∀ (m : (ℓ : Loc Cert.UpdateFfn.nD Cert.UpdateFfn.τ Cert.UpdateFfn.sig) → Buf (Elt Bits) ℓ) (g : Dev Cert.UpdateFfn.nD → PrngReg), Pre_UpdateFfn m →
    θ_run (Cert.UpdateFfn.defs (F := Bits)) (onTc (τ := Cert.UpdateFfn.τ) (Cert.UpdateFfn.main (F := Bits))) ⟨m, fun _ => 0, g⟩ (fun r => (∀ c : Dev Cert.UpdateFfn.nD,
      r.2.mem ((c.tc : Thread Cert.UpdateFfn.nD Cert.UpdateFfn.τ).loc Cert.UpdateFfn.main_arg0) = m ((c.tc : Thread Cert.UpdateFfn.nD Cert.UpdateFfn.τ).loc Cert.UpdateFfn.main_arg0)
      ∧ r.2.mem ((c.tc : Thread Cert.UpdateFfn.nD Cert.UpdateFfn.τ).loc Cert.UpdateFfn.main_arg1) = m ((c.tc : Thread Cert.UpdateFfn.nD Cert.UpdateFfn.τ).loc Cert.UpdateFfn.main_arg1)
      ∧ r.2.mem ((c.tc : Thread Cert.UpdateFfn.nD Cert.UpdateFfn.τ).loc Cert.UpdateFfn.main_arg2) = m ((c.tc : Thread Cert.UpdateFfn.nD Cert.UpdateFfn.τ).loc Cert.UpdateFfn.main_arg2)
      ∧ r.2.mem ((c.tc : Thread Cert.UpdateFfn.nD Cert.UpdateFfn.τ).loc Cert.UpdateFfn.main_arg3) = m ((c.tc : Thread Cert.UpdateFfn.nD Cert.UpdateFfn.τ).loc Cert.UpdateFfn.main_arg3)
      ∧ r.2.mem ((c.tc : Thread Cert.UpdateFfn.nD Cert.UpdateFfn.τ).loc Cert.UpdateFfn.main_arg4) = m ((c.tc : Thread Cert.UpdateFfn.nD Cert.UpdateFfn.τ).loc Cert.UpdateFfn.main_arg4))
      ∧ r.2.sem = fun _ => 0)

def quiescent_UpdateFfnIdeal [hUpdateFfnIdeal : Cert.UpdateFfnIdeal.Facts] : Prop :=
  ∀ (m : (ℓ : Loc Cert.UpdateFfnIdeal.nD Cert.UpdateFfnIdeal.τ Cert.UpdateFfnIdeal.sig) → Buf (Elt Ideal) ℓ) (g : Dev Cert.UpdateFfnIdeal.nD → PrngReg), Pre_UpdateFfnIdeal m →
    θ_run (Cert.UpdateFfnIdeal.defs (F := Ideal)) (onTc (τ := Cert.UpdateFfnIdeal.τ) (Cert.UpdateFfnIdeal.main (F := Ideal))) ⟨m, fun _ => 0, g⟩ (fun r => (∀ c : Dev Cert.UpdateFfnIdeal.nD,
      r.2.mem ((c.tc : Thread Cert.UpdateFfnIdeal.nD Cert.UpdateFfnIdeal.τ).loc Cert.UpdateFfnIdeal.main_arg0) = m ((c.tc : Thread Cert.UpdateFfnIdeal.nD Cert.UpdateFfnIdeal.τ).loc Cert.UpdateFfnIdeal.main_arg0)
      ∧ r.2.mem ((c.tc : Thread Cert.UpdateFfnIdeal.nD Cert.UpdateFfnIdeal.τ).loc Cert.UpdateFfnIdeal.main_arg1) = m ((c.tc : Thread Cert.UpdateFfnIdeal.nD Cert.UpdateFfnIdeal.τ).loc Cert.UpdateFfnIdeal.main_arg1)
      ∧ r.2.mem ((c.tc : Thread Cert.UpdateFfnIdeal.nD Cert.UpdateFfnIdeal.τ).loc Cert.UpdateFfnIdeal.main_arg2) = m ((c.tc : Thread Cert.UpdateFfnIdeal.nD Cert.UpdateFfnIdeal.τ).loc Cert.UpdateFfnIdeal.main_arg2)
      ∧ r.2.mem ((c.tc : Thread Cert.UpdateFfnIdeal.nD Cert.UpdateFfnIdeal.τ).loc Cert.UpdateFfnIdeal.main_arg3) = m ((c.tc : Thread Cert.UpdateFfnIdeal.nD Cert.UpdateFfnIdeal.τ).loc Cert.UpdateFfnIdeal.main_arg3)
      ∧ r.2.mem ((c.tc : Thread Cert.UpdateFfnIdeal.nD Cert.UpdateFfnIdeal.τ).loc Cert.UpdateFfnIdeal.main_arg4) = m ((c.tc : Thread Cert.UpdateFfnIdeal.nD Cert.UpdateFfnIdeal.τ).loc Cert.UpdateFfnIdeal.main_arg4))
      ∧ r.2.sem = fun _ => 0)

def quiescent_UpdateFfnReferenceIdeal [hUpdateFfnReferenceIdeal : Cert.UpdateFfnReferenceIdeal.Facts] : Prop :=
  ∀ (m : (ℓ : Loc Cert.UpdateFfnReferenceIdeal.nD Cert.UpdateFfnReferenceIdeal.τ Cert.UpdateFfnReferenceIdeal.sig) → Buf (Elt Ideal) ℓ) (g : Dev Cert.UpdateFfnReferenceIdeal.nD → PrngReg), Pre_UpdateFfnReferenceIdeal m →
    θ_run (Cert.UpdateFfnReferenceIdeal.defs (F := Ideal)) (onTc (τ := Cert.UpdateFfnReferenceIdeal.τ) (Cert.UpdateFfnReferenceIdeal.main (F := Ideal))) ⟨m, fun _ => 0, g⟩ (fun r => (∀ c : Dev Cert.UpdateFfnReferenceIdeal.nD,
      r.2.mem ((c.tc : Thread Cert.UpdateFfnReferenceIdeal.nD Cert.UpdateFfnReferenceIdeal.τ).loc Cert.UpdateFfnReferenceIdeal.main_arg0) = m ((c.tc : Thread Cert.UpdateFfnReferenceIdeal.nD Cert.UpdateFfnReferenceIdeal.τ).loc Cert.UpdateFfnReferenceIdeal.main_arg0)
      ∧ r.2.mem ((c.tc : Thread Cert.UpdateFfnReferenceIdeal.nD Cert.UpdateFfnReferenceIdeal.τ).loc Cert.UpdateFfnReferenceIdeal.main_arg1) = m ((c.tc : Thread Cert.UpdateFfnReferenceIdeal.nD Cert.UpdateFfnReferenceIdeal.τ).loc Cert.UpdateFfnReferenceIdeal.main_arg1)
      ∧ r.2.mem ((c.tc : Thread Cert.UpdateFfnReferenceIdeal.nD Cert.UpdateFfnReferenceIdeal.τ).loc Cert.UpdateFfnReferenceIdeal.main_arg2) = m ((c.tc : Thread Cert.UpdateFfnReferenceIdeal.nD Cert.UpdateFfnReferenceIdeal.τ).loc Cert.UpdateFfnReferenceIdeal.main_arg2)
      ∧ r.2.mem ((c.tc : Thread Cert.UpdateFfnReferenceIdeal.nD Cert.UpdateFfnReferenceIdeal.τ).loc Cert.UpdateFfnReferenceIdeal.main_arg3) = m ((c.tc : Thread Cert.UpdateFfnReferenceIdeal.nD Cert.UpdateFfnReferenceIdeal.τ).loc Cert.UpdateFfnReferenceIdeal.main_arg3)
      ∧ r.2.mem ((c.tc : Thread Cert.UpdateFfnReferenceIdeal.nD Cert.UpdateFfnReferenceIdeal.τ).loc Cert.UpdateFfnReferenceIdeal.main_arg4) = m ((c.tc : Thread Cert.UpdateFfnReferenceIdeal.nD Cert.UpdateFfnReferenceIdeal.τ).loc Cert.UpdateFfnReferenceIdeal.main_arg4))
      ∧ r.2.sem = fun _ => 0)

def quiescent_SumDown [hSumDown : Cert.SumDown.Facts] : Prop :=
  ∀ (m : (ℓ : Loc Cert.SumDown.nD Cert.SumDown.τ Cert.SumDown.sig) → Buf (Elt Bits) ℓ) (g : Dev Cert.SumDown.nD → PrngReg), Pre_SumDown m →
    θ_run (Cert.SumDown.defs (F := Bits)) (onTc (τ := Cert.SumDown.τ) (Cert.SumDown.main (F := Bits))) ⟨m, fun _ => 0, g⟩ (fun r => (∀ c : Dev Cert.SumDown.nD,
      r.2.mem ((c.tc : Thread Cert.SumDown.nD Cert.SumDown.τ).loc Cert.SumDown.main_arg0) = m ((c.tc : Thread Cert.SumDown.nD Cert.SumDown.τ).loc Cert.SumDown.main_arg0))
      ∧ r.2.sem = fun _ => 0)

def quiescent_SumDownIdeal [hSumDownIdeal : Cert.SumDownIdeal.Facts] : Prop :=
  ∀ (m : (ℓ : Loc Cert.SumDownIdeal.nD Cert.SumDownIdeal.τ Cert.SumDownIdeal.sig) → Buf (Elt Ideal) ℓ) (g : Dev Cert.SumDownIdeal.nD → PrngReg), Pre_SumDownIdeal m →
    θ_run (Cert.SumDownIdeal.defs (F := Ideal)) (onTc (τ := Cert.SumDownIdeal.τ) (Cert.SumDownIdeal.main (F := Ideal))) ⟨m, fun _ => 0, g⟩ (fun r => (∀ c : Dev Cert.SumDownIdeal.nD,
      r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ r.2.sem = fun _ => 0)

def quiescent_SumDownReferenceIdeal [hSumDownReferenceIdeal : Cert.SumDownReferenceIdeal.Facts] : Prop :=
  ∀ (m : (ℓ : Loc Cert.SumDownReferenceIdeal.nD Cert.SumDownReferenceIdeal.τ Cert.SumDownReferenceIdeal.sig) → Buf (Elt Ideal) ℓ) (g : Dev Cert.SumDownReferenceIdeal.nD → PrngReg), Pre_SumDownReferenceIdeal m →
    θ_run (Cert.SumDownReferenceIdeal.defs (F := Ideal)) (onTc (τ := Cert.SumDownReferenceIdeal.τ) (Cert.SumDownReferenceIdeal.main (F := Ideal))) ⟨m, fun _ => 0, g⟩ (fun r => (∀ c : Dev Cert.SumDownReferenceIdeal.nD,
      r.2.mem ((c.tc : Thread Cert.SumDownReferenceIdeal.nD Cert.SumDownReferenceIdeal.τ).loc Cert.SumDownReferenceIdeal.main_arg0) = m ((c.tc : Thread Cert.SumDownReferenceIdeal.nD Cert.SumDownReferenceIdeal.τ).loc Cert.SumDownReferenceIdeal.main_arg0))
      ∧ r.2.sem = fun _ => 0)

def quiescent_UpdateDown [hUpdateDown : Cert.UpdateDown.Facts] : Prop :=
  ∀ (m : (ℓ : Loc Cert.UpdateDown.nD Cert.UpdateDown.τ Cert.UpdateDown.sig) → Buf (Elt Bits) ℓ) (g : Dev Cert.UpdateDown.nD → PrngReg), Pre_UpdateDown m →
    θ_run (Cert.UpdateDown.defs (F := Bits)) (onTc (τ := Cert.UpdateDown.τ) (Cert.UpdateDown.main (F := Bits))) ⟨m, fun _ => 0, g⟩ (fun r => (∀ c : Dev Cert.UpdateDown.nD,
      r.2.mem ((c.tc : Thread Cert.UpdateDown.nD Cert.UpdateDown.τ).loc Cert.UpdateDown.main_arg0) = m ((c.tc : Thread Cert.UpdateDown.nD Cert.UpdateDown.τ).loc Cert.UpdateDown.main_arg0)
      ∧ r.2.mem ((c.tc : Thread Cert.UpdateDown.nD Cert.UpdateDown.τ).loc Cert.UpdateDown.main_arg1) = m ((c.tc : Thread Cert.UpdateDown.nD Cert.UpdateDown.τ).loc Cert.UpdateDown.main_arg1)
      ∧ r.2.mem ((c.tc : Thread Cert.UpdateDown.nD Cert.UpdateDown.τ).loc Cert.UpdateDown.main_arg2) = m ((c.tc : Thread Cert.UpdateDown.nD Cert.UpdateDown.τ).loc Cert.UpdateDown.main_arg2)
      ∧ r.2.mem ((c.tc : Thread Cert.UpdateDown.nD Cert.UpdateDown.τ).loc Cert.UpdateDown.main_arg3) = m ((c.tc : Thread Cert.UpdateDown.nD Cert.UpdateDown.τ).loc Cert.UpdateDown.main_arg3)
      ∧ r.2.mem ((c.tc : Thread Cert.UpdateDown.nD Cert.UpdateDown.τ).loc Cert.UpdateDown.main_arg4) = m ((c.tc : Thread Cert.UpdateDown.nD Cert.UpdateDown.τ).loc Cert.UpdateDown.main_arg4))
      ∧ r.2.sem = fun _ => 0)

def quiescent_UpdateDownIdeal [hUpdateDownIdeal : Cert.UpdateDownIdeal.Facts] : Prop :=
  ∀ (m : (ℓ : Loc Cert.UpdateDownIdeal.nD Cert.UpdateDownIdeal.τ Cert.UpdateDownIdeal.sig) → Buf (Elt Ideal) ℓ) (g : Dev Cert.UpdateDownIdeal.nD → PrngReg), Pre_UpdateDownIdeal m →
    θ_run (Cert.UpdateDownIdeal.defs (F := Ideal)) (onTc (τ := Cert.UpdateDownIdeal.τ) (Cert.UpdateDownIdeal.main (F := Ideal))) ⟨m, fun _ => 0, g⟩ (fun r => (∀ c : Dev Cert.UpdateDownIdeal.nD,
      r.2.mem ((c.tc : Thread Cert.UpdateDownIdeal.nD Cert.UpdateDownIdeal.τ).loc Cert.UpdateDownIdeal.main_arg0) = m ((c.tc : Thread Cert.UpdateDownIdeal.nD Cert.UpdateDownIdeal.τ).loc Cert.UpdateDownIdeal.main_arg0)
      ∧ r.2.mem ((c.tc : Thread Cert.UpdateDownIdeal.nD Cert.UpdateDownIdeal.τ).loc Cert.UpdateDownIdeal.main_arg1) = m ((c.tc : Thread Cert.UpdateDownIdeal.nD Cert.UpdateDownIdeal.τ).loc Cert.UpdateDownIdeal.main_arg1)
      ∧ r.2.mem ((c.tc : Thread Cert.UpdateDownIdeal.nD Cert.UpdateDownIdeal.τ).loc Cert.UpdateDownIdeal.main_arg2) = m ((c.tc : Thread Cert.UpdateDownIdeal.nD Cert.UpdateDownIdeal.τ).loc Cert.UpdateDownIdeal.main_arg2)
      ∧ r.2.mem ((c.tc : Thread Cert.UpdateDownIdeal.nD Cert.UpdateDownIdeal.τ).loc Cert.UpdateDownIdeal.main_arg3) = m ((c.tc : Thread Cert.UpdateDownIdeal.nD Cert.UpdateDownIdeal.τ).loc Cert.UpdateDownIdeal.main_arg3)
      ∧ r.2.mem ((c.tc : Thread Cert.UpdateDownIdeal.nD Cert.UpdateDownIdeal.τ).loc Cert.UpdateDownIdeal.main_arg4) = m ((c.tc : Thread Cert.UpdateDownIdeal.nD Cert.UpdateDownIdeal.τ).loc Cert.UpdateDownIdeal.main_arg4))
      ∧ r.2.sem = fun _ => 0)

def quiescent_UpdateDownReferenceIdeal [hUpdateDownReferenceIdeal : Cert.UpdateDownReferenceIdeal.Facts] : Prop :=
  ∀ (m : (ℓ : Loc Cert.UpdateDownReferenceIdeal.nD Cert.UpdateDownReferenceIdeal.τ Cert.UpdateDownReferenceIdeal.sig) → Buf (Elt Ideal) ℓ) (g : Dev Cert.UpdateDownReferenceIdeal.nD → PrngReg), Pre_UpdateDownReferenceIdeal m →
    θ_run (Cert.UpdateDownReferenceIdeal.defs (F := Ideal)) (onTc (τ := Cert.UpdateDownReferenceIdeal.τ) (Cert.UpdateDownReferenceIdeal.main (F := Ideal))) ⟨m, fun _ => 0, g⟩ (fun r => (∀ c : Dev Cert.UpdateDownReferenceIdeal.nD,
      r.2.mem ((c.tc : Thread Cert.UpdateDownReferenceIdeal.nD Cert.UpdateDownReferenceIdeal.τ).loc Cert.UpdateDownReferenceIdeal.main_arg0) = m ((c.tc : Thread Cert.UpdateDownReferenceIdeal.nD Cert.UpdateDownReferenceIdeal.τ).loc Cert.UpdateDownReferenceIdeal.main_arg0)
      ∧ r.2.mem ((c.tc : Thread Cert.UpdateDownReferenceIdeal.nD Cert.UpdateDownReferenceIdeal.τ).loc Cert.UpdateDownReferenceIdeal.main_arg1) = m ((c.tc : Thread Cert.UpdateDownReferenceIdeal.nD Cert.UpdateDownReferenceIdeal.τ).loc Cert.UpdateDownReferenceIdeal.main_arg1)
      ∧ r.2.mem ((c.tc : Thread Cert.UpdateDownReferenceIdeal.nD Cert.UpdateDownReferenceIdeal.τ).loc Cert.UpdateDownReferenceIdeal.main_arg2) = m ((c.tc : Thread Cert.UpdateDownReferenceIdeal.nD Cert.UpdateDownReferenceIdeal.τ).loc Cert.UpdateDownReferenceIdeal.main_arg2)
      ∧ r.2.mem ((c.tc : Thread Cert.UpdateDownReferenceIdeal.nD Cert.UpdateDownReferenceIdeal.τ).loc Cert.UpdateDownReferenceIdeal.main_arg3) = m ((c.tc : Thread Cert.UpdateDownReferenceIdeal.nD Cert.UpdateDownReferenceIdeal.τ).loc Cert.UpdateDownReferenceIdeal.main_arg3)
      ∧ r.2.mem ((c.tc : Thread Cert.UpdateDownReferenceIdeal.nD Cert.UpdateDownReferenceIdeal.τ).loc Cert.UpdateDownReferenceIdeal.main_arg4) = m ((c.tc : Thread Cert.UpdateDownReferenceIdeal.nD Cert.UpdateDownReferenceIdeal.τ).loc Cert.UpdateDownReferenceIdeal.main_arg4))
      ∧ r.2.sem = fun _ => 0)

def quiescent_SumPle [hSumPle : Cert.SumPle.Facts] : Prop :=
  ∀ (m : (ℓ : Loc Cert.SumPle.nD Cert.SumPle.τ Cert.SumPle.sig) → Buf (Elt Bits) ℓ) (g : Dev Cert.SumPle.nD → PrngReg), Pre_SumPle m →
    θ_run (Cert.SumPle.defs (F := Bits)) (onTc (τ := Cert.SumPle.τ) (Cert.SumPle.main (F := Bits))) ⟨m, fun _ => 0, g⟩ (fun r => (∀ c : Dev Cert.SumPle.nD,
      r.2.mem ((c.tc : Thread Cert.SumPle.nD Cert.SumPle.τ).loc Cert.SumPle.main_arg0) = m ((c.tc : Thread Cert.SumPle.nD Cert.SumPle.τ).loc Cert.SumPle.main_arg0))
      ∧ r.2.sem = fun _ => 0)

def quiescent_SumPleIdeal [hSumPleIdeal : Cert.SumPleIdeal.Facts] : Prop :=
  ∀ (m : (ℓ : Loc Cert.SumPleIdeal.nD Cert.SumPleIdeal.τ Cert.SumPleIdeal.sig) → Buf (Elt Ideal) ℓ) (g : Dev Cert.SumPleIdeal.nD → PrngReg), Pre_SumPleIdeal m →
    θ_run (Cert.SumPleIdeal.defs (F := Ideal)) (onTc (τ := Cert.SumPleIdeal.τ) (Cert.SumPleIdeal.main (F := Ideal))) ⟨m, fun _ => 0, g⟩ (fun r => (∀ c : Dev Cert.SumPleIdeal.nD,
      r.2.mem ((c.tc : Thread Cert.SumPleIdeal.nD Cert.SumPleIdeal.τ).loc Cert.SumPleIdeal.main_arg0) = m ((c.tc : Thread Cert.SumPleIdeal.nD Cert.SumPleIdeal.τ).loc Cert.SumPleIdeal.main_arg0))
      ∧ r.2.sem = fun _ => 0)

def quiescent_SumPleReferenceIdeal [hSumPleReferenceIdeal : Cert.SumPleReferenceIdeal.Facts] : Prop :=
  ∀ (m : (ℓ : Loc Cert.SumPleReferenceIdeal.nD Cert.SumPleReferenceIdeal.τ Cert.SumPleReferenceIdeal.sig) → Buf (Elt Ideal) ℓ) (g : Dev Cert.SumPleReferenceIdeal.nD → PrngReg), Pre_SumPleReferenceIdeal m →
    θ_run (Cert.SumPleReferenceIdeal.defs (F := Ideal)) (onTc (τ := Cert.SumPleReferenceIdeal.τ) (Cert.SumPleReferenceIdeal.main (F := Ideal))) ⟨m, fun _ => 0, g⟩ (fun r => (∀ c : Dev Cert.SumPleReferenceIdeal.nD,
      r.2.mem ((c.tc : Thread Cert.SumPleReferenceIdeal.nD Cert.SumPleReferenceIdeal.τ).loc Cert.SumPleReferenceIdeal.main_arg0) = m ((c.tc : Thread Cert.SumPleReferenceIdeal.nD Cert.SumPleReferenceIdeal.τ).loc Cert.SumPleReferenceIdeal.main_arg0))
      ∧ r.2.sem = fun _ => 0)

def quiescent_UpdatePle [hUpdatePle : Cert.UpdatePle.Facts] : Prop :=
  ∀ (m : (ℓ : Loc Cert.UpdatePle.nD Cert.UpdatePle.τ Cert.UpdatePle.sig) → Buf (Elt Bits) ℓ) (g : Dev Cert.UpdatePle.nD → PrngReg), Pre_UpdatePle m →
    θ_run (Cert.UpdatePle.defs (F := Bits)) (onTc (τ := Cert.UpdatePle.τ) (Cert.UpdatePle.main (F := Bits))) ⟨m, fun _ => 0, g⟩ (fun r => (∀ c : Dev Cert.UpdatePle.nD,
      r.2.mem ((c.tc : Thread Cert.UpdatePle.nD Cert.UpdatePle.τ).loc Cert.UpdatePle.main_arg0) = m ((c.tc : Thread Cert.UpdatePle.nD Cert.UpdatePle.τ).loc Cert.UpdatePle.main_arg0)
      ∧ r.2.mem ((c.tc : Thread Cert.UpdatePle.nD Cert.UpdatePle.τ).loc Cert.UpdatePle.main_arg1) = m ((c.tc : Thread Cert.UpdatePle.nD Cert.UpdatePle.τ).loc Cert.UpdatePle.main_arg1)
      ∧ r.2.mem ((c.tc : Thread Cert.UpdatePle.nD Cert.UpdatePle.τ).loc Cert.UpdatePle.main_arg2) = m ((c.tc : Thread Cert.UpdatePle.nD Cert.UpdatePle.τ).loc Cert.UpdatePle.main_arg2)
      ∧ r.2.mem ((c.tc : Thread Cert.UpdatePle.nD Cert.UpdatePle.τ).loc Cert.UpdatePle.main_arg3) = m ((c.tc : Thread Cert.UpdatePle.nD Cert.UpdatePle.τ).loc Cert.UpdatePle.main_arg3)
      ∧ r.2.mem ((c.tc : Thread Cert.UpdatePle.nD Cert.UpdatePle.τ).loc Cert.UpdatePle.main_arg4) = m ((c.tc : Thread Cert.UpdatePle.nD Cert.UpdatePle.τ).loc Cert.UpdatePle.main_arg4))
      ∧ r.2.sem = fun _ => 0)

def quiescent_UpdatePleIdeal [hUpdatePleIdeal : Cert.UpdatePleIdeal.Facts] : Prop :=
  ∀ (m : (ℓ : Loc Cert.UpdatePleIdeal.nD Cert.UpdatePleIdeal.τ Cert.UpdatePleIdeal.sig) → Buf (Elt Ideal) ℓ) (g : Dev Cert.UpdatePleIdeal.nD → PrngReg), Pre_UpdatePleIdeal m →
    θ_run (Cert.UpdatePleIdeal.defs (F := Ideal)) (onTc (τ := Cert.UpdatePleIdeal.τ) (Cert.UpdatePleIdeal.main (F := Ideal))) ⟨m, fun _ => 0, g⟩ (fun r => (∀ c : Dev Cert.UpdatePleIdeal.nD,
      r.2.mem ((c.tc : Thread Cert.UpdatePleIdeal.nD Cert.UpdatePleIdeal.τ).loc Cert.UpdatePleIdeal.main_arg0) = m ((c.tc : Thread Cert.UpdatePleIdeal.nD Cert.UpdatePleIdeal.τ).loc Cert.UpdatePleIdeal.main_arg0)
      ∧ r.2.mem ((c.tc : Thread Cert.UpdatePleIdeal.nD Cert.UpdatePleIdeal.τ).loc Cert.UpdatePleIdeal.main_arg1) = m ((c.tc : Thread Cert.UpdatePleIdeal.nD Cert.UpdatePleIdeal.τ).loc Cert.UpdatePleIdeal.main_arg1)
      ∧ r.2.mem ((c.tc : Thread Cert.UpdatePleIdeal.nD Cert.UpdatePleIdeal.τ).loc Cert.UpdatePleIdeal.main_arg2) = m ((c.tc : Thread Cert.UpdatePleIdeal.nD Cert.UpdatePleIdeal.τ).loc Cert.UpdatePleIdeal.main_arg2)
      ∧ r.2.mem ((c.tc : Thread Cert.UpdatePleIdeal.nD Cert.UpdatePleIdeal.τ).loc Cert.UpdatePleIdeal.main_arg3) = m ((c.tc : Thread Cert.UpdatePleIdeal.nD Cert.UpdatePleIdeal.τ).loc Cert.UpdatePleIdeal.main_arg3)
      ∧ r.2.mem ((c.tc : Thread Cert.UpdatePleIdeal.nD Cert.UpdatePleIdeal.τ).loc Cert.UpdatePleIdeal.main_arg4) = m ((c.tc : Thread Cert.UpdatePleIdeal.nD Cert.UpdatePleIdeal.τ).loc Cert.UpdatePleIdeal.main_arg4))
      ∧ r.2.sem = fun _ => 0)

def quiescent_UpdatePleReferenceIdeal [hUpdatePleReferenceIdeal : Cert.UpdatePleReferenceIdeal.Facts] : Prop :=
  ∀ (m : (ℓ : Loc Cert.UpdatePleReferenceIdeal.nD Cert.UpdatePleReferenceIdeal.τ Cert.UpdatePleReferenceIdeal.sig) → Buf (Elt Ideal) ℓ) (g : Dev Cert.UpdatePleReferenceIdeal.nD → PrngReg), Pre_UpdatePleReferenceIdeal m →
    θ_run (Cert.UpdatePleReferenceIdeal.defs (F := Ideal)) (onTc (τ := Cert.UpdatePleReferenceIdeal.τ) (Cert.UpdatePleReferenceIdeal.main (F := Ideal))) ⟨m, fun _ => 0, g⟩ (fun r => (∀ c : Dev Cert.UpdatePleReferenceIdeal.nD,
      r.2.mem ((c.tc : Thread Cert.UpdatePleReferenceIdeal.nD Cert.UpdatePleReferenceIdeal.τ).loc Cert.UpdatePleReferenceIdeal.main_arg0) = m ((c.tc : Thread Cert.UpdatePleReferenceIdeal.nD Cert.UpdatePleReferenceIdeal.τ).loc Cert.UpdatePleReferenceIdeal.main_arg0)
      ∧ r.2.mem ((c.tc : Thread Cert.UpdatePleReferenceIdeal.nD Cert.UpdatePleReferenceIdeal.τ).loc Cert.UpdatePleReferenceIdeal.main_arg1) = m ((c.tc : Thread Cert.UpdatePleReferenceIdeal.nD Cert.UpdatePleReferenceIdeal.τ).loc Cert.UpdatePleReferenceIdeal.main_arg1)
      ∧ r.2.mem ((c.tc : Thread Cert.UpdatePleReferenceIdeal.nD Cert.UpdatePleReferenceIdeal.τ).loc Cert.UpdatePleReferenceIdeal.main_arg2) = m ((c.tc : Thread Cert.UpdatePleReferenceIdeal.nD Cert.UpdatePleReferenceIdeal.τ).loc Cert.UpdatePleReferenceIdeal.main_arg2)
      ∧ r.2.mem ((c.tc : Thread Cert.UpdatePleReferenceIdeal.nD Cert.UpdatePleReferenceIdeal.τ).loc Cert.UpdatePleReferenceIdeal.main_arg3) = m ((c.tc : Thread Cert.UpdatePleReferenceIdeal.nD Cert.UpdatePleReferenceIdeal.τ).loc Cert.UpdatePleReferenceIdeal.main_arg3)
      ∧ r.2.mem ((c.tc : Thread Cert.UpdatePleReferenceIdeal.nD Cert.UpdatePleReferenceIdeal.τ).loc Cert.UpdatePleReferenceIdeal.main_arg4) = m ((c.tc : Thread Cert.UpdatePleReferenceIdeal.nD Cert.UpdatePleReferenceIdeal.τ).loc Cert.UpdatePleReferenceIdeal.main_arg4))
      ∧ r.2.sem = fun _ => 0)

def quiescent_UpdateSmall [hUpdateSmall : Cert.UpdateSmall.Facts] : Prop :=
  ∀ (m : (ℓ : Loc Cert.UpdateSmall.nD Cert.UpdateSmall.τ Cert.UpdateSmall.sig) → Buf (Elt Bits) ℓ) (g : Dev Cert.UpdateSmall.nD → PrngReg), Pre_UpdateSmall m →
    θ_run (Cert.UpdateSmall.defs (F := Bits)) (onTc (τ := Cert.UpdateSmall.τ) (Cert.UpdateSmall.main (F := Bits))) ⟨m, fun _ => 0, g⟩ (fun r => (∀ c : Dev Cert.UpdateSmall.nD,
      r.2.mem ((c.tc : Thread Cert.UpdateSmall.nD Cert.UpdateSmall.τ).loc Cert.UpdateSmall.main_arg0) = m ((c.tc : Thread Cert.UpdateSmall.nD Cert.UpdateSmall.τ).loc Cert.UpdateSmall.main_arg0)
      ∧ r.2.mem ((c.tc : Thread Cert.UpdateSmall.nD Cert.UpdateSmall.τ).loc Cert.UpdateSmall.main_arg1) = m ((c.tc : Thread Cert.UpdateSmall.nD Cert.UpdateSmall.τ).loc Cert.UpdateSmall.main_arg1)
      ∧ r.2.mem ((c.tc : Thread Cert.UpdateSmall.nD Cert.UpdateSmall.τ).loc Cert.UpdateSmall.main_arg2) = m ((c.tc : Thread Cert.UpdateSmall.nD Cert.UpdateSmall.τ).loc Cert.UpdateSmall.main_arg2)
      ∧ r.2.mem ((c.tc : Thread Cert.UpdateSmall.nD Cert.UpdateSmall.τ).loc Cert.UpdateSmall.main_arg3) = m ((c.tc : Thread Cert.UpdateSmall.nD Cert.UpdateSmall.τ).loc Cert.UpdateSmall.main_arg3))
      ∧ r.2.sem = fun _ => 0)

def quiescent_UpdateSmallIdeal [hUpdateSmallIdeal : Cert.UpdateSmallIdeal.Facts] : Prop :=
  ∀ (m : (ℓ : Loc Cert.UpdateSmallIdeal.nD Cert.UpdateSmallIdeal.τ Cert.UpdateSmallIdeal.sig) → Buf (Elt Ideal) ℓ) (g : Dev Cert.UpdateSmallIdeal.nD → PrngReg), Pre_UpdateSmallIdeal m →
    θ_run (Cert.UpdateSmallIdeal.defs (F := Ideal)) (onTc (τ := Cert.UpdateSmallIdeal.τ) (Cert.UpdateSmallIdeal.main (F := Ideal))) ⟨m, fun _ => 0, g⟩ (fun r => (∀ c : Dev Cert.UpdateSmallIdeal.nD,
      r.2.mem ((c.tc : Thread Cert.UpdateSmallIdeal.nD Cert.UpdateSmallIdeal.τ).loc Cert.UpdateSmallIdeal.main_arg0) = m ((c.tc : Thread Cert.UpdateSmallIdeal.nD Cert.UpdateSmallIdeal.τ).loc Cert.UpdateSmallIdeal.main_arg0)
      ∧ r.2.mem ((c.tc : Thread Cert.UpdateSmallIdeal.nD Cert.UpdateSmallIdeal.τ).loc Cert.UpdateSmallIdeal.main_arg1) = m ((c.tc : Thread Cert.UpdateSmallIdeal.nD Cert.UpdateSmallIdeal.τ).loc Cert.UpdateSmallIdeal.main_arg1)
      ∧ r.2.mem ((c.tc : Thread Cert.UpdateSmallIdeal.nD Cert.UpdateSmallIdeal.τ).loc Cert.UpdateSmallIdeal.main_arg2) = m ((c.tc : Thread Cert.UpdateSmallIdeal.nD Cert.UpdateSmallIdeal.τ).loc Cert.UpdateSmallIdeal.main_arg2)
      ∧ r.2.mem ((c.tc : Thread Cert.UpdateSmallIdeal.nD Cert.UpdateSmallIdeal.τ).loc Cert.UpdateSmallIdeal.main_arg3) = m ((c.tc : Thread Cert.UpdateSmallIdeal.nD Cert.UpdateSmallIdeal.τ).loc Cert.UpdateSmallIdeal.main_arg3))
      ∧ r.2.sem = fun _ => 0)

def quiescent_UpdateSmallReferenceIdeal [hUpdateSmallReferenceIdeal : Cert.UpdateSmallReferenceIdeal.Facts] : Prop :=
  ∀ (m : (ℓ : Loc Cert.UpdateSmallReferenceIdeal.nD Cert.UpdateSmallReferenceIdeal.τ Cert.UpdateSmallReferenceIdeal.sig) → Buf (Elt Ideal) ℓ) (g : Dev Cert.UpdateSmallReferenceIdeal.nD → PrngReg), Pre_UpdateSmallReferenceIdeal m →
    θ_run (Cert.UpdateSmallReferenceIdeal.defs (F := Ideal)) (onTc (τ := Cert.UpdateSmallReferenceIdeal.τ) (Cert.UpdateSmallReferenceIdeal.main (F := Ideal))) ⟨m, fun _ => 0, g⟩ (fun r => (∀ c : Dev Cert.UpdateSmallReferenceIdeal.nD,
      r.2.mem ((c.tc : Thread Cert.UpdateSmallReferenceIdeal.nD Cert.UpdateSmallReferenceIdeal.τ).loc Cert.UpdateSmallReferenceIdeal.main_arg0) = m ((c.tc : Thread Cert.UpdateSmallReferenceIdeal.nD Cert.UpdateSmallReferenceIdeal.τ).loc Cert.UpdateSmallReferenceIdeal.main_arg0)
      ∧ r.2.mem ((c.tc : Thread Cert.UpdateSmallReferenceIdeal.nD Cert.UpdateSmallReferenceIdeal.τ).loc Cert.UpdateSmallReferenceIdeal.main_arg1) = m ((c.tc : Thread Cert.UpdateSmallReferenceIdeal.nD Cert.UpdateSmallReferenceIdeal.τ).loc Cert.UpdateSmallReferenceIdeal.main_arg1)
      ∧ r.2.mem ((c.tc : Thread Cert.UpdateSmallReferenceIdeal.nD Cert.UpdateSmallReferenceIdeal.τ).loc Cert.UpdateSmallReferenceIdeal.main_arg2) = m ((c.tc : Thread Cert.UpdateSmallReferenceIdeal.nD Cert.UpdateSmallReferenceIdeal.τ).loc Cert.UpdateSmallReferenceIdeal.main_arg2)
      ∧ r.2.mem ((c.tc : Thread Cert.UpdateSmallReferenceIdeal.nD Cert.UpdateSmallReferenceIdeal.τ).loc Cert.UpdateSmallReferenceIdeal.main_arg3) = m ((c.tc : Thread Cert.UpdateSmallReferenceIdeal.nD Cert.UpdateSmallReferenceIdeal.τ).loc Cert.UpdateSmallReferenceIdeal.main_arg3))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInReferenceIdeal [hGradInReferenceIdeal : Cert.GradInReferenceIdeal.Facts] : Prop :=
  ∀ (m : (ℓ : Loc Cert.GradInReferenceIdeal.nD Cert.GradInReferenceIdeal.τ Cert.GradInReferenceIdeal.sig) → Buf (Elt Ideal) ℓ) (g : Dev Cert.GradInReferenceIdeal.nD → PrngReg), Pre_GradInReferenceIdeal m →
    θ_run (Cert.GradInReferenceIdeal.defs (F := Ideal)) (onTc (τ := Cert.GradInReferenceIdeal.τ) (Cert.GradInReferenceIdeal.main (F := Ideal))) ⟨m, fun _ => 0, g⟩ (fun r => (∀ c : Dev Cert.GradInReferenceIdeal.nD,
      r.2.mem ((c.tc : Thread Cert.GradInReferenceIdeal.nD Cert.GradInReferenceIdeal.τ).loc Cert.GradInReferenceIdeal.main_arg0) = m ((c.tc : Thread Cert.GradInReferenceIdeal.nD Cert.GradInReferenceIdeal.τ).loc Cert.GradInReferenceIdeal.main_arg0)
      ∧ r.2.mem ((c.tc : Thread Cert.GradInReferenceIdeal.nD Cert.GradInReferenceIdeal.τ).loc Cert.GradInReferenceIdeal.main_arg1) = m ((c.tc : Thread Cert.GradInReferenceIdeal.nD Cert.GradInReferenceIdeal.τ).loc Cert.GradInReferenceIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutReferenceIdeal [hGradOutReferenceIdeal : Cert.GradOutReferenceIdeal.Facts] : Prop :=
  ∀ (m : (ℓ : Loc Cert.GradOutReferenceIdeal.nD Cert.GradOutReferenceIdeal.τ Cert.GradOutReferenceIdeal.sig) → Buf (Elt Ideal) ℓ) (g : Dev Cert.GradOutReferenceIdeal.nD → PrngReg), Pre_GradOutReferenceIdeal m →
    θ_run (Cert.GradOutReferenceIdeal.defs (F := Ideal)) (onTc (τ := Cert.GradOutReferenceIdeal.τ) (Cert.GradOutReferenceIdeal.main (F := Ideal))) ⟨m, fun _ => 0, g⟩ (fun r => (∀ c : Dev Cert.GradOutReferenceIdeal.nD,
      r.2.mem ((c.tc : Thread Cert.GradOutReferenceIdeal.nD Cert.GradOutReferenceIdeal.τ).loc Cert.GradOutReferenceIdeal.main_arg0) = m ((c.tc : Thread Cert.GradOutReferenceIdeal.nD Cert.GradOutReferenceIdeal.τ).loc Cert.GradOutReferenceIdeal.main_arg0)
      ∧ r.2.mem ((c.tc : Thread Cert.GradOutReferenceIdeal.nD Cert.GradOutReferenceIdeal.τ).loc Cert.GradOutReferenceIdeal.main_arg1) = m ((c.tc : Thread Cert.GradOutReferenceIdeal.nD Cert.GradOutReferenceIdeal.τ).loc Cert.GradOutReferenceIdeal.main_arg1))
      ∧ r.2.sem = fun _ => 0)

def quiescent_GradFfn [hGradFfn : Cert.GradFfn.Facts] : Prop :=
  ∀ (m : (ℓ : Loc Cert.GradFfn.nD Cert.GradFfn.τ Cert.GradFfn.sig) → Buf (Elt Bits) ℓ) (g : Dev Cert.GradFfn.nD → PrngReg), Pre_GradFfn m →
    θ_run (Cert.GradFfn.defs (F := Bits)) (onTc (τ := Cert.GradFfn.τ) (Cert.GradFfn.main (F := Bits))) ⟨m, fun _ => 0, g⟩ (fun r => (∀ c : Dev Cert.GradFfn.nD,
      r.2.mem ((c.tc : Thread Cert.GradFfn.nD Cert.GradFfn.τ).loc Cert.GradFfn.main_arg0) = m ((c.tc : Thread Cert.GradFfn.nD Cert.GradFfn.τ).loc Cert.GradFfn.main_arg0)
      ∧ r.2.mem ((c.tc : Thread Cert.GradFfn.nD Cert.GradFfn.τ).loc Cert.GradFfn.main_arg1) = m ((c.tc : Thread Cert.GradFfn.nD Cert.GradFfn.τ).loc Cert.GradFfn.main_arg1))
      ∧ r.2.sem = fun _ => 0)

def quiescent_GradFfnIdeal [hGradFfnIdeal : Cert.GradFfnIdeal.Facts] : Prop :=
  ∀ (m : (ℓ : Loc Cert.GradFfnIdeal.nD Cert.GradFfnIdeal.τ Cert.GradFfnIdeal.sig) → Buf (Elt Ideal) ℓ) (g : Dev Cert.GradFfnIdeal.nD → PrngReg), Pre_GradFfnIdeal m →
    θ_run (Cert.GradFfnIdeal.defs (F := Ideal)) (onTc (τ := Cert.GradFfnIdeal.τ) (Cert.GradFfnIdeal.main (F := Ideal))) ⟨m, fun _ => 0, g⟩ (fun r => (∀ c : Dev Cert.GradFfnIdeal.nD,
      r.2.mem ((c.tc : Thread Cert.GradFfnIdeal.nD Cert.GradFfnIdeal.τ).loc Cert.GradFfnIdeal.main_arg0) = m ((c.tc : Thread Cert.GradFfnIdeal.nD Cert.GradFfnIdeal.τ).loc Cert.GradFfnIdeal.main_arg0)
      ∧ r.2.mem ((c.tc : Thread Cert.GradFfnIdeal.nD Cert.GradFfnIdeal.τ).loc Cert.GradFfnIdeal.main_arg1) = m ((c.tc : Thread Cert.GradFfnIdeal.nD Cert.GradFfnIdeal.τ).loc Cert.GradFfnIdeal.main_arg1))
      ∧ r.2.sem = fun _ => 0)

def quiescent_GradFfnReferenceIdeal [hGradFfnReferenceIdeal : Cert.GradFfnReferenceIdeal.Facts] : Prop :=
  ∀ (m : (ℓ : Loc Cert.GradFfnReferenceIdeal.nD Cert.GradFfnReferenceIdeal.τ Cert.GradFfnReferenceIdeal.sig) → Buf (Elt Ideal) ℓ) (g : Dev Cert.GradFfnReferenceIdeal.nD → PrngReg), Pre_GradFfnReferenceIdeal m →
    θ_run (Cert.GradFfnReferenceIdeal.defs (F := Ideal)) (onTc (τ := Cert.GradFfnReferenceIdeal.τ) (Cert.GradFfnReferenceIdeal.main (F := Ideal))) ⟨m, fun _ => 0, g⟩ (fun r => (∀ c : Dev Cert.GradFfnReferenceIdeal.nD,
      r.2.mem ((c.tc : Thread Cert.GradFfnReferenceIdeal.nD Cert.GradFfnReferenceIdeal.τ).loc Cert.GradFfnReferenceIdeal.main_arg0) = m ((c.tc : Thread Cert.GradFfnReferenceIdeal.nD Cert.GradFfnReferenceIdeal.τ).loc Cert.GradFfnReferenceIdeal.main_arg0)
      ∧ r.2.mem ((c.tc : Thread Cert.GradFfnReferenceIdeal.nD Cert.GradFfnReferenceIdeal.τ).loc Cert.GradFfnReferenceIdeal.main_arg1) = m ((c.tc : Thread Cert.GradFfnReferenceIdeal.nD Cert.GradFfnReferenceIdeal.τ).loc Cert.GradFfnReferenceIdeal.main_arg1))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownReferenceIdeal [hGradDownReferenceIdeal : Cert.GradDownReferenceIdeal.Facts] : Prop :=
  ∀ (m : (ℓ : Loc Cert.GradDownReferenceIdeal.nD Cert.GradDownReferenceIdeal.τ Cert.GradDownReferenceIdeal.sig) → Buf (Elt Ideal) ℓ) (g : Dev Cert.GradDownReferenceIdeal.nD → PrngReg), Pre_GradDownReferenceIdeal m →
    θ_run (Cert.GradDownReferenceIdeal.defs (F := Ideal)) (onTc (τ := Cert.GradDownReferenceIdeal.τ) (Cert.GradDownReferenceIdeal.main (F := Ideal))) ⟨m, fun _ => 0, g⟩ (fun r => (∀ c : Dev Cert.GradDownReferenceIdeal.nD,
      r.2.mem ((c.tc : Thread Cert.GradDownReferenceIdeal.nD Cert.GradDownReferenceIdeal.τ).loc Cert.GradDownReferenceIdeal.main_arg0) = m ((c.tc : Thread Cert.GradDownReferenceIdeal.nD Cert.GradDownReferenceIdeal.τ).loc Cert.GradDownReferenceIdeal.main_arg0)
      ∧ r.2.mem ((c.tc : Thread Cert.GradDownReferenceIdeal.nD Cert.GradDownReferenceIdeal.τ).loc Cert.GradDownReferenceIdeal.main_arg1) = m ((c.tc : Thread Cert.GradDownReferenceIdeal.nD Cert.GradDownReferenceIdeal.τ).loc Cert.GradDownReferenceIdeal.main_arg1))
      ∧ r.2.sem = fun _ => 0)

def quiescent_GradPle [hGradPle : Cert.GradPle.Facts] : Prop :=
  ∀ (m : (ℓ : Loc Cert.GradPle.nD Cert.GradPle.τ Cert.GradPle.sig) → Buf (Elt Bits) ℓ) (g : Dev Cert.GradPle.nD → PrngReg), Pre_GradPle m →
    θ_run (Cert.GradPle.defs (F := Bits)) (onTc (τ := Cert.GradPle.τ) (Cert.GradPle.main (F := Bits))) ⟨m, fun _ => 0, g⟩ (fun r => (∀ c : Dev Cert.GradPle.nD,
      r.2.mem ((c.tc : Thread Cert.GradPle.nD Cert.GradPle.τ).loc Cert.GradPle.main_arg0) = m ((c.tc : Thread Cert.GradPle.nD Cert.GradPle.τ).loc Cert.GradPle.main_arg0)
      ∧ r.2.mem ((c.tc : Thread Cert.GradPle.nD Cert.GradPle.τ).loc Cert.GradPle.main_arg1) = m ((c.tc : Thread Cert.GradPle.nD Cert.GradPle.τ).loc Cert.GradPle.main_arg1))
      ∧ r.2.sem = fun _ => 0)

def quiescent_GradPleIdeal [hGradPleIdeal : Cert.GradPleIdeal.Facts] : Prop :=
  ∀ (m : (ℓ : Loc Cert.GradPleIdeal.nD Cert.GradPleIdeal.τ Cert.GradPleIdeal.sig) → Buf (Elt Ideal) ℓ) (g : Dev Cert.GradPleIdeal.nD → PrngReg), Pre_GradPleIdeal m →
    θ_run (Cert.GradPleIdeal.defs (F := Ideal)) (onTc (τ := Cert.GradPleIdeal.τ) (Cert.GradPleIdeal.main (F := Ideal))) ⟨m, fun _ => 0, g⟩ (fun r => (∀ c : Dev Cert.GradPleIdeal.nD,
      r.2.mem ((c.tc : Thread Cert.GradPleIdeal.nD Cert.GradPleIdeal.τ).loc Cert.GradPleIdeal.main_arg0) = m ((c.tc : Thread Cert.GradPleIdeal.nD Cert.GradPleIdeal.τ).loc Cert.GradPleIdeal.main_arg0)
      ∧ r.2.mem ((c.tc : Thread Cert.GradPleIdeal.nD Cert.GradPleIdeal.τ).loc Cert.GradPleIdeal.main_arg1) = m ((c.tc : Thread Cert.GradPleIdeal.nD Cert.GradPleIdeal.τ).loc Cert.GradPleIdeal.main_arg1))
      ∧ r.2.sem = fun _ => 0)

def quiescent_GradPleReferenceIdeal [hGradPleReferenceIdeal : Cert.GradPleReferenceIdeal.Facts] : Prop :=
  ∀ (m : (ℓ : Loc Cert.GradPleReferenceIdeal.nD Cert.GradPleReferenceIdeal.τ Cert.GradPleReferenceIdeal.sig) → Buf (Elt Ideal) ℓ) (g : Dev Cert.GradPleReferenceIdeal.nD → PrngReg), Pre_GradPleReferenceIdeal m →
    θ_run (Cert.GradPleReferenceIdeal.defs (F := Ideal)) (onTc (τ := Cert.GradPleReferenceIdeal.τ) (Cert.GradPleReferenceIdeal.main (F := Ideal))) ⟨m, fun _ => 0, g⟩ (fun r => (∀ c : Dev Cert.GradPleReferenceIdeal.nD,
      r.2.mem ((c.tc : Thread Cert.GradPleReferenceIdeal.nD Cert.GradPleReferenceIdeal.τ).loc Cert.GradPleReferenceIdeal.main_arg0) = m ((c.tc : Thread Cert.GradPleReferenceIdeal.nD Cert.GradPleReferenceIdeal.τ).loc Cert.GradPleReferenceIdeal.main_arg0)
      ∧ r.2.mem ((c.tc : Thread Cert.GradPleReferenceIdeal.nD Cert.GradPleReferenceIdeal.τ).loc Cert.GradPleReferenceIdeal.main_arg1) = m ((c.tc : Thread Cert.GradPleReferenceIdeal.nD Cert.GradPleReferenceIdeal.τ).loc Cert.GradPleReferenceIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2))
      ∧ r.2.sem = fun _ => 0)

def quiescent_NormInReferenceIdeal [hNormInReferenceIdeal : Cert.NormInReferenceIdeal.Facts] : Prop :=
  ∀ (m : (ℓ : Loc Cert.NormInReferenceIdeal.nD Cert.NormInReferenceIdeal.τ Cert.NormInReferenceIdeal.sig) → Buf (Elt Ideal) ℓ) (g : Dev Cert.NormInReferenceIdeal.nD → PrngReg), Pre_NormInReferenceIdeal m →
    θ_run (Cert.NormInReferenceIdeal.defs (F := Ideal)) (onTc (τ := Cert.NormInReferenceIdeal.τ) (Cert.NormInReferenceIdeal.main (F := Ideal))) ⟨m, fun _ => 0, g⟩ (fun r => (∀ c : Dev Cert.NormInReferenceIdeal.nD,
      r.2.mem ((c.tc : Thread Cert.NormInReferenceIdeal.nD Cert.NormInReferenceIdeal.τ).loc Cert.NormInReferenceIdeal.main_arg0) = m ((c.tc : Thread Cert.NormInReferenceIdeal.nD Cert.NormInReferenceIdeal.τ).loc Cert.NormInReferenceIdeal.main_arg0)
      ∧ r.2.mem ((c.tc : Thread Cert.NormInReferenceIdeal.nD Cert.NormInReferenceIdeal.τ).loc Cert.NormInReferenceIdeal.main_arg1) = m ((c.tc : Thread Cert.NormInReferenceIdeal.nD Cert.NormInReferenceIdeal.τ).loc Cert.NormInReferenceIdeal.main_arg1)
      ∧ r.2.mem ((c.tc : Thread Cert.NormInReferenceIdeal.nD Cert.NormInReferenceIdeal.τ).loc Cert.NormInReferenceIdeal.main_arg2) = m ((c.tc : Thread Cert.NormInReferenceIdeal.nD Cert.NormInReferenceIdeal.τ).loc Cert.NormInReferenceIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4)
      ∧ r.2.mem ((c.tc : Thread Cert.MixOutReferenceIdeal.nD Cert.MixOutReferenceIdeal.τ).loc Cert.MixOutReferenceIdeal.main_arg5) = m ((c.tc : Thread Cert.MixOutReferenceIdeal.nD Cert.MixOutReferenceIdeal.τ).loc Cert.MixOutReferenceIdeal.main_arg5))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3))
      ∧ r.2.sem = fun _ => 0)

def quiescent_FfnInReferenceIdeal [hFfnInReferenceIdeal : Cert.FfnInReferenceIdeal.Facts] : Prop :=
  ∀ (m : (ℓ : Loc Cert.FfnInReferenceIdeal.nD Cert.FfnInReferenceIdeal.τ Cert.FfnInReferenceIdeal.sig) → Buf (Elt Ideal) ℓ) (g : Dev Cert.FfnInReferenceIdeal.nD → PrngReg), Pre_FfnInReferenceIdeal m →
    θ_run (Cert.FfnInReferenceIdeal.defs (F := Ideal)) (onTc (τ := Cert.FfnInReferenceIdeal.τ) (Cert.FfnInReferenceIdeal.main (F := Ideal))) ⟨m, fun _ => 0, g⟩ (fun r => (∀ c : Dev Cert.FfnInReferenceIdeal.nD,
      r.2.mem ((c.tc : Thread Cert.FfnInReferenceIdeal.nD Cert.FfnInReferenceIdeal.τ).loc Cert.FfnInReferenceIdeal.main_arg0) = m ((c.tc : Thread Cert.FfnInReferenceIdeal.nD Cert.FfnInReferenceIdeal.τ).loc Cert.FfnInReferenceIdeal.main_arg0)
      ∧ r.2.mem ((c.tc : Thread Cert.FfnInReferenceIdeal.nD Cert.FfnInReferenceIdeal.τ).loc Cert.FfnInReferenceIdeal.main_arg1) = m ((c.tc : Thread Cert.FfnInReferenceIdeal.nD Cert.FfnInReferenceIdeal.τ).loc Cert.FfnInReferenceIdeal.main_arg1)
      ∧ r.2.mem ((c.tc : Thread Cert.FfnInReferenceIdeal.nD Cert.FfnInReferenceIdeal.τ).loc Cert.FfnInReferenceIdeal.main_arg2) = m ((c.tc : Thread Cert.FfnInReferenceIdeal.nD Cert.FfnInReferenceIdeal.τ).loc Cert.FfnInReferenceIdeal.main_arg2)
      ∧ r.2.mem ((c.tc : Thread Cert.FfnInReferenceIdeal.nD Cert.FfnInReferenceIdeal.τ).loc Cert.FfnInReferenceIdeal.main_arg3) = m ((c.tc : Thread Cert.FfnInReferenceIdeal.nD Cert.FfnInReferenceIdeal.τ).loc Cert.FfnInReferenceIdeal.main_arg3))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3)
      ∧ r.2.mem ((c.tc : Thread Cert.FfnOut.nD Cert.FfnOut.τ).loc Cert.FfnOut.main_arg4) = m ((c.tc : Thread Cert.FfnOut.nD Cert.FfnOut.τ).loc Cert.FfnOut.main_arg4))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ r.2.sem = fun _ => 0)

def quiescent_FfnOutReferenceIdeal [hFfnOutReferenceIdeal : Cert.FfnOutReferenceIdeal.Facts] : Prop :=
  ∀ (m : (ℓ : Loc Cert.FfnOutReferenceIdeal.nD Cert.FfnOutReferenceIdeal.τ Cert.FfnOutReferenceIdeal.sig) → Buf (Elt Ideal) ℓ) (g : Dev Cert.FfnOutReferenceIdeal.nD → PrngReg), Pre_FfnOutReferenceIdeal m →
    θ_run (Cert.FfnOutReferenceIdeal.defs (F := Ideal)) (onTc (τ := Cert.FfnOutReferenceIdeal.τ) (Cert.FfnOutReferenceIdeal.main (F := Ideal))) ⟨m, fun _ => 0, g⟩ (fun r => (∀ c : Dev Cert.FfnOutReferenceIdeal.nD,
      r.2.mem ((c.tc : Thread Cert.FfnOutReferenceIdeal.nD Cert.FfnOutReferenceIdeal.τ).loc Cert.FfnOutReferenceIdeal.main_arg0) = m ((c.tc : Thread Cert.FfnOutReferenceIdeal.nD Cert.FfnOutReferenceIdeal.τ).loc Cert.FfnOutReferenceIdeal.main_arg0)
      ∧ r.2.mem ((c.tc : Thread Cert.FfnOutReferenceIdeal.nD Cert.FfnOutReferenceIdeal.τ).loc Cert.FfnOutReferenceIdeal.main_arg1) = m ((c.tc : Thread Cert.FfnOutReferenceIdeal.nD Cert.FfnOutReferenceIdeal.τ).loc Cert.FfnOutReferenceIdeal.main_arg1)
      ∧ r.2.mem ((c.tc : Thread Cert.FfnOutReferenceIdeal.nD Cert.FfnOutReferenceIdeal.τ).loc Cert.FfnOutReferenceIdeal.main_arg2) = m ((c.tc : Thread Cert.FfnOutReferenceIdeal.nD Cert.FfnOutReferenceIdeal.τ).loc Cert.FfnOutReferenceIdeal.main_arg2)
      ∧ r.2.mem ((c.tc : Thread Cert.FfnOutReferenceIdeal.nD Cert.FfnOutReferenceIdeal.τ).loc Cert.FfnOutReferenceIdeal.main_arg3) = m ((c.tc : Thread Cert.FfnOutReferenceIdeal.nD Cert.FfnOutReferenceIdeal.τ).loc Cert.FfnOutReferenceIdeal.main_arg3)
      ∧ r.2.mem ((c.tc : Thread Cert.FfnOutReferenceIdeal.nD Cert.FfnOutReferenceIdeal.τ).loc Cert.FfnOutReferenceIdeal.main_arg4) = m ((c.tc : Thread Cert.FfnOutReferenceIdeal.nD Cert.FfnOutReferenceIdeal.τ).loc Cert.FfnOutReferenceIdeal.main_arg4))
      ∧ r.2.sem = fun _ => 0)

def quiescent_PleGate [hPleGate : Cert.PleGate.Facts] : Prop :=
  ∀ (m : (ℓ : Loc Cert.PleGate.nD Cert.PleGate.τ Cert.PleGate.sig) → Buf (Elt Bits) ℓ) (g : Dev Cert.PleGate.nD → PrngReg), Pre_PleGate m →
    θ_run (Cert.PleGate.defs (F := Bits)) (onTc (τ := Cert.PleGate.τ) (Cert.PleGate.main (F := Bits))) ⟨m, fun _ => 0, g⟩ (fun r => (∀ c : Dev Cert.PleGate.nD,
      r.2.mem ((c.tc : Thread Cert.PleGate.nD Cert.PleGate.τ).loc Cert.PleGate.main_arg0) = m ((c.tc : Thread Cert.PleGate.nD Cert.PleGate.τ).loc Cert.PleGate.main_arg0)
      ∧ r.2.mem ((c.tc : Thread Cert.PleGate.nD Cert.PleGate.τ).loc Cert.PleGate.main_arg1) = m ((c.tc : Thread Cert.PleGate.nD Cert.PleGate.τ).loc Cert.PleGate.main_arg1)
      ∧ r.2.mem ((c.tc : Thread Cert.PleGate.nD Cert.PleGate.τ).loc Cert.PleGate.main_arg2) = m ((c.tc : Thread Cert.PleGate.nD Cert.PleGate.τ).loc Cert.PleGate.main_arg2)
      ∧ r.2.mem ((c.tc : Thread Cert.PleGate.nD Cert.PleGate.τ).loc Cert.PleGate.main_arg3) = m ((c.tc : Thread Cert.PleGate.nD Cert.PleGate.τ).loc Cert.PleGate.main_arg3)
      ∧ r.2.mem ((c.tc : Thread Cert.PleGate.nD Cert.PleGate.τ).loc Cert.PleGate.main_arg4) = m ((c.tc : Thread Cert.PleGate.nD Cert.PleGate.τ).loc Cert.PleGate.main_arg4))
      ∧ r.2.sem = fun _ => 0)

def quiescent_PleGateIdeal [hPleGateIdeal : Cert.PleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1)
      ∧ r.2.mem ((c.tc : Thread Cert.PleGateIdeal.nD Cert.PleGateIdeal.τ).loc Cert.PleGateIdeal.main_arg2) = m ((c.tc : Thread Cert.PleGateIdeal.nD Cert.PleGateIdeal.τ).loc Cert.PleGateIdeal.main_arg2)
      ∧ r.2.mem ((c.tc : Thread Cert.PleGateIdeal.nD Cert.PleGateIdeal.τ).loc Cert.PleGateIdeal.main_arg3) = m ((c.tc : Thread Cert.PleGateIdeal.nD Cert.PleGateIdeal.τ).loc Cert.PleGateIdeal.main_arg3)
      ∧ r.2.mem ((c.tc : Thread Cert.PleGateIdeal.nD Cert.PleGateIdeal.τ).loc Cert.PleGateIdeal.main_arg4) = m ((c.tc : Thread Cert.PleGateIdeal.nD Cert.PleGateIdeal.τ).loc Cert.PleGateIdeal.main_arg4))
      ∧ r.2.sem = fun _ => 0)

def quiescent_PleGateReferenceIdeal [hPleGateReferenceIdeal : Cert.PleGateReferenceIdeal.Facts] : Prop :=
  ∀ (m : (ℓ : Loc Cert.PleGateReferenceIdeal.nD Cert.PleGateReferenceIdeal.τ Cert.PleGateReferenceIdeal.sig) → Buf (Elt Ideal) ℓ) (g : Dev Cert.PleGateReferenceIdeal.nD → PrngReg), Pre_PleGateReferenceIdeal m →
    θ_run (Cert.PleGateReferenceIdeal.defs (F := Ideal)) (onTc (τ := Cert.PleGateReferenceIdeal.τ) (Cert.PleGateReferenceIdeal.main (F := Ideal))) ⟨m, fun _ => 0, g⟩ (fun r => (∀ c : Dev Cert.PleGateReferenceIdeal.nD,
      r.2.mem ((c.tc : Thread Cert.PleGateReferenceIdeal.nD Cert.PleGateReferenceIdeal.τ).loc Cert.PleGateReferenceIdeal.main_arg0) = m ((c.tc : Thread Cert.PleGateReferenceIdeal.nD Cert.PleGateReferenceIdeal.τ).loc Cert.PleGateReferenceIdeal.main_arg0)
      ∧ r.2.mem ((c.tc : Thread Cert.PleGateReferenceIdeal.nD Cert.PleGateReferenceIdeal.τ).loc Cert.PleGateReferenceIdeal.main_arg1) = m ((c.tc : Thread Cert.PleGateReferenceIdeal.nD Cert.PleGateReferenceIdeal.τ).loc Cert.PleGateReferenceIdeal.main_arg1)
      ∧ r.2.mem ((c.tc : Thread Cert.PleGateReferenceIdeal.nD Cert.PleGateReferenceIdeal.τ).loc Cert.PleGateReferenceIdeal.main_arg2) = m ((c.tc : Thread Cert.PleGateReferenceIdeal.nD Cert.PleGateReferenceIdeal.τ).loc Cert.PleGateReferenceIdeal.main_arg2)
      ∧ r.2.mem ((c.tc : Thread Cert.PleGateReferenceIdeal.nD Cert.PleGateReferenceIdeal.τ).loc Cert.PleGateReferenceIdeal.main_arg3) = m ((c.tc : Thread Cert.PleGateReferenceIdeal.nD Cert.PleGateReferenceIdeal.τ).loc Cert.PleGateReferenceIdeal.main_arg3)
      ∧ r.2.mem ((c.tc : Thread Cert.PleGateReferenceIdeal.nD Cert.PleGateReferenceIdeal.τ).loc Cert.PleGateReferenceIdeal.main_arg4) = m ((c.tc : Thread Cert.PleGateReferenceIdeal.nD Cert.PleGateReferenceIdeal.τ).loc Cert.PleGateReferenceIdeal.main_arg4))
      ∧ r.2.sem = fun _ => 0)

def quiescent_PleGrad [hPleGrad : Cert.PleGrad.Facts] : Prop :=
  ∀ (m : (ℓ : Loc Cert.PleGrad.nD Cert.PleGrad.τ Cert.PleGrad.sig) → Buf (Elt Bits) ℓ) (g : Dev Cert.PleGrad.nD → PrngReg), Pre_PleGrad m →
    θ_run (Cert.PleGrad.defs (F := Bits)) (onTc (τ := Cert.PleGrad.τ) (Cert.PleGrad.main (F := Bits))) ⟨m, fun _ => 0, g⟩ (fun r => (∀ c : Dev Cert.PleGrad.nD,
      r.2.mem ((c.tc : Thread Cert.PleGrad.nD Cert.PleGrad.τ).loc Cert.PleGrad.main_arg0) = m ((c.tc : Thread Cert.PleGrad.nD Cert.PleGrad.τ).loc Cert.PleGrad.main_arg0)
      ∧ r.2.mem ((c.tc : Thread Cert.PleGrad.nD Cert.PleGrad.τ).loc Cert.PleGrad.main_arg1) = m ((c.tc : Thread Cert.PleGrad.nD Cert.PleGrad.τ).loc Cert.PleGrad.main_arg1)
      ∧ r.2.mem ((c.tc : Thread Cert.PleGrad.nD Cert.PleGrad.τ).loc Cert.PleGrad.main_arg2) = m ((c.tc : Thread Cert.PleGrad.nD Cert.PleGrad.τ).loc Cert.PleGrad.main_arg2)
      ∧ r.2.mem ((c.tc : Thread Cert.PleGrad.nD Cert.PleGrad.τ).loc Cert.PleGrad.main_arg3) = m ((c.tc : Thread Cert.PleGrad.nD Cert.PleGrad.τ).loc Cert.PleGrad.main_arg3)
      ∧ r.2.mem ((c.tc : Thread Cert.PleGrad.nD Cert.PleGrad.τ).loc Cert.PleGrad.main_arg4) = m ((c.tc : Thread Cert.PleGrad.nD Cert.PleGrad.τ).loc Cert.PleGrad.main_arg4)
      ∧ r.2.mem ((c.tc : Thread Cert.PleGrad.nD Cert.PleGrad.τ).loc Cert.PleGrad.main_arg5) = m ((c.tc : Thread Cert.PleGrad.nD Cert.PleGrad.τ).loc Cert.PleGrad.main_arg5))
      ∧ r.2.sem = fun _ => 0)

def quiescent_PleGradIdeal [hPleGradIdeal : Cert.PleGradIdeal.Facts] : Prop :=
  ∀ (m : (ℓ : Loc Cert.PleGradIdeal.nD Cert.PleGradIdeal.τ Cert.PleGradIdeal.sig) → Buf (Elt Ideal) ℓ) (g : Dev Cert.PleGradIdeal.nD → PrngReg), Pre_PleGradIdeal m →
    θ_run (Cert.PleGradIdeal.defs (F := Ideal)) (onTc (τ := Cert.PleGradIdeal.τ) (Cert.PleGradIdeal.main (F := Ideal))) ⟨m, fun _ => 0, g⟩ (fun r => (∀ c : Dev Cert.PleGradIdeal.nD,
      r.2.mem ((c.tc : Thread Cert.PleGradIdeal.nD Cert.PleGradIdeal.τ).loc Cert.PleGradIdeal.main_arg0) = m ((c.tc : Thread Cert.PleGradIdeal.nD Cert.PleGradIdeal.τ).loc Cert.PleGradIdeal.main_arg0)
      ∧ r.2.mem ((c.tc : Thread Cert.PleGradIdeal.nD Cert.PleGradIdeal.τ).loc Cert.PleGradIdeal.main_arg1) = m ((c.tc : Thread Cert.PleGradIdeal.nD Cert.PleGradIdeal.τ).loc Cert.PleGradIdeal.main_arg1)
      ∧ r.2.mem ((c.tc : Thread Cert.PleGradIdeal.nD Cert.PleGradIdeal.τ).loc Cert.PleGradIdeal.main_arg2) = m ((c.tc : Thread Cert.PleGradIdeal.nD Cert.PleGradIdeal.τ).loc Cert.PleGradIdeal.main_arg2)
      ∧ r.2.mem ((c.tc : Thread Cert.PleGradIdeal.nD Cert.PleGradIdeal.τ).loc Cert.PleGradIdeal.main_arg3) = m ((c.tc : Thread Cert.PleGradIdeal.nD Cert.PleGradIdeal.τ).loc Cert.PleGradIdeal.main_arg3)
      ∧ r.2.mem ((c.tc : Thread Cert.PleGradIdeal.nD Cert.PleGradIdeal.τ).loc Cert.PleGradIdeal.main_arg4) = m ((c.tc : Thread Cert.PleGradIdeal.nD Cert.PleGradIdeal.τ).loc Cert.PleGradIdeal.main_arg4)
      ∧ r.2.mem ((c.tc : Thread Cert.PleGradIdeal.nD Cert.PleGradIdeal.τ).loc Cert.PleGradIdeal.main_arg5) = m ((c.tc : Thread Cert.PleGradIdeal.nD Cert.PleGradIdeal.τ).loc Cert.PleGradIdeal.main_arg5))
      ∧ r.2.sem = fun _ => 0)

def quiescent_PleGradReferenceIdeal [hPleGradReferenceIdeal : Cert.PleGradReferenceIdeal.Facts] : Prop :=
  ∀ (m : (ℓ : Loc Cert.PleGradReferenceIdeal.nD Cert.PleGradReferenceIdeal.τ Cert.PleGradReferenceIdeal.sig) → Buf (Elt Ideal) ℓ) (g : Dev Cert.PleGradReferenceIdeal.nD → PrngReg), Pre_PleGradReferenceIdeal m →
    θ_run (Cert.PleGradReferenceIdeal.defs (F := Ideal)) (onTc (τ := Cert.PleGradReferenceIdeal.τ) (Cert.PleGradReferenceIdeal.main (F := Ideal))) ⟨m, fun _ => 0, g⟩ (fun r => (∀ c : Dev Cert.PleGradReferenceIdeal.nD,
      r.2.mem ((c.tc : Thread Cert.PleGradReferenceIdeal.nD Cert.PleGradReferenceIdeal.τ).loc Cert.PleGradReferenceIdeal.main_arg0) = m ((c.tc : Thread Cert.PleGradReferenceIdeal.nD Cert.PleGradReferenceIdeal.τ).loc Cert.PleGradReferenceIdeal.main_arg0)
      ∧ r.2.mem ((c.tc : Thread Cert.PleGradReferenceIdeal.nD Cert.PleGradReferenceIdeal.τ).loc Cert.PleGradReferenceIdeal.main_arg1) = m ((c.tc : Thread Cert.PleGradReferenceIdeal.nD Cert.PleGradReferenceIdeal.τ).loc Cert.PleGradReferenceIdeal.main_arg1)
      ∧ r.2.mem ((c.tc : Thread Cert.PleGradReferenceIdeal.nD Cert.PleGradReferenceIdeal.τ).loc Cert.PleGradReferenceIdeal.main_arg2) = m ((c.tc : Thread Cert.PleGradReferenceIdeal.nD Cert.PleGradReferenceIdeal.τ).loc Cert.PleGradReferenceIdeal.main_arg2)
      ∧ r.2.mem ((c.tc : Thread Cert.PleGradReferenceIdeal.nD Cert.PleGradReferenceIdeal.τ).loc Cert.PleGradReferenceIdeal.main_arg3) = m ((c.tc : Thread Cert.PleGradReferenceIdeal.nD Cert.PleGradReferenceIdeal.τ).loc Cert.PleGradReferenceIdeal.main_arg3)
      ∧ r.2.mem ((c.tc : Thread Cert.PleGradReferenceIdeal.nD Cert.PleGradReferenceIdeal.τ).loc Cert.PleGradReferenceIdeal.main_arg4) = m ((c.tc : Thread Cert.PleGradReferenceIdeal.nD Cert.PleGradReferenceIdeal.τ).loc Cert.PleGradReferenceIdeal.main_arg4)
      ∧ r.2.mem ((c.tc : Thread Cert.PleGradReferenceIdeal.nD Cert.PleGradReferenceIdeal.τ).loc Cert.PleGradReferenceIdeal.main_arg5) = m ((c.tc : Thread Cert.PleGradReferenceIdeal.nD Cert.PleGradReferenceIdeal.τ).loc Cert.PleGradReferenceIdeal.main_arg5))
      ∧ r.2.sem = fun _ => 0)

def quiescent_FfnInGrad [hFfnInGrad : Cert.FfnInGrad.Facts] : Prop :=
  ∀ (m : (ℓ : Loc Cert.FfnInGrad.nD Cert.FfnInGrad.τ Cert.FfnInGrad.sig) → Buf (Elt Bits) ℓ) (g : Dev Cert.FfnInGrad.nD → PrngReg), Pre_FfnInGrad m →
    θ_run (Cert.FfnInGrad.defs (F := Bits)) (onTc (τ := Cert.FfnInGrad.τ) (Cert.FfnInGrad.main (F := Bits))) ⟨m, fun _ => 0, g⟩ (fun r => (∀ c : Dev Cert.FfnInGrad.nD,
      r.2.mem ((c.tc : Thread Cert.FfnInGrad.nD Cert.FfnInGrad.τ).loc Cert.FfnInGrad.main_arg0) = m ((c.tc : Thread Cert.FfnInGrad.nD Cert.FfnInGrad.τ).loc Cert.FfnInGrad.main_arg0)
      ∧ r.2.mem ((c.tc : Thread Cert.FfnInGrad.nD Cert.FfnInGrad.τ).loc Cert.FfnInGrad.main_arg1) = m ((c.tc : Thread Cert.FfnInGrad.nD Cert.FfnInGrad.τ).loc Cert.FfnInGrad.main_arg1)
      ∧ r.2.mem ((c.tc : Thread Cert.FfnInGrad.nD Cert.FfnInGrad.τ).loc Cert.FfnInGrad.main_arg2) = m ((c.tc : Thread Cert.FfnInGrad.nD Cert.FfnInGrad.τ).loc Cert.FfnInGrad.main_arg2)
      ∧ r.2.mem ((c.tc : Thread Cert.FfnInGrad.nD Cert.FfnInGrad.τ).loc Cert.FfnInGrad.main_arg3) = m ((c.tc : Thread Cert.FfnInGrad.nD Cert.FfnInGrad.τ).loc Cert.FfnInGrad.main_arg3)
      ∧ r.2.mem ((c.tc : Thread Cert.FfnInGrad.nD Cert.FfnInGrad.τ).loc Cert.FfnInGrad.main_arg4) = m ((c.tc : Thread Cert.FfnInGrad.nD Cert.FfnInGrad.τ).loc Cert.FfnInGrad.main_arg4)
      ∧ r.2.mem ((c.tc : Thread Cert.FfnInGrad.nD Cert.FfnInGrad.τ).loc Cert.FfnInGrad.main_arg5) = m ((c.tc : Thread Cert.FfnInGrad.nD Cert.FfnInGrad.τ).loc Cert.FfnInGrad.main_arg5)
      ∧ r.2.mem ((c.tc : Thread Cert.FfnInGrad.nD Cert.FfnInGrad.τ).loc Cert.FfnInGrad.main_arg6) = m ((c.tc : Thread Cert.FfnInGrad.nD Cert.FfnInGrad.τ).loc Cert.FfnInGrad.main_arg6))
      ∧ r.2.sem = fun _ => 0)

def quiescent_FfnInGradIdeal [hFfnInGradIdeal : Cert.FfnInGradIdeal.Facts] : Prop :=
  ∀ (m : (ℓ : Loc Cert.FfnInGradIdeal.nD Cert.FfnInGradIdeal.τ Cert.FfnInGradIdeal.sig) → Buf (Elt Ideal) ℓ) (g : Dev Cert.FfnInGradIdeal.nD → PrngReg), Pre_FfnInGradIdeal m →
    θ_run (Cert.FfnInGradIdeal.defs (F := Ideal)) (onTc (τ := Cert.FfnInGradIdeal.τ) (Cert.FfnInGradIdeal.main (F := Ideal))) ⟨m, fun _ => 0, g⟩ (fun r => (∀ c : Dev Cert.FfnInGradIdeal.nD,
      r.2.mem ((c.tc : Thread Cert.FfnInGradIdeal.nD Cert.FfnInGradIdeal.τ).loc Cert.FfnInGradIdeal.main_arg0) = m ((c.tc : Thread Cert.FfnInGradIdeal.nD Cert.FfnInGradIdeal.τ).loc Cert.FfnInGradIdeal.main_arg0)
      ∧ r.2.mem ((c.tc : Thread Cert.FfnInGradIdeal.nD Cert.FfnInGradIdeal.τ).loc Cert.FfnInGradIdeal.main_arg1) = m ((c.tc : Thread Cert.FfnInGradIdeal.nD Cert.FfnInGradIdeal.τ).loc Cert.FfnInGradIdeal.main_arg1)
      ∧ r.2.mem ((c.tc : Thread Cert.FfnInGradIdeal.nD Cert.FfnInGradIdeal.τ).loc Cert.FfnInGradIdeal.main_arg2) = m ((c.tc : Thread Cert.FfnInGradIdeal.nD Cert.FfnInGradIdeal.τ).loc Cert.FfnInGradIdeal.main_arg2)
      ∧ r.2.mem ((c.tc : Thread Cert.FfnInGradIdeal.nD Cert.FfnInGradIdeal.τ).loc Cert.FfnInGradIdeal.main_arg3) = m ((c.tc : Thread Cert.FfnInGradIdeal.nD Cert.FfnInGradIdeal.τ).loc Cert.FfnInGradIdeal.main_arg3)
      ∧ r.2.mem ((c.tc : Thread Cert.FfnInGradIdeal.nD Cert.FfnInGradIdeal.τ).loc Cert.FfnInGradIdeal.main_arg4) = m ((c.tc : Thread Cert.FfnInGradIdeal.nD Cert.FfnInGradIdeal.τ).loc Cert.FfnInGradIdeal.main_arg4)
      ∧ r.2.mem ((c.tc : Thread Cert.FfnInGradIdeal.nD Cert.FfnInGradIdeal.τ).loc Cert.FfnInGradIdeal.main_arg5) = m ((c.tc : Thread Cert.FfnInGradIdeal.nD Cert.FfnInGradIdeal.τ).loc Cert.FfnInGradIdeal.main_arg5)
      ∧ r.2.mem ((c.tc : Thread Cert.FfnInGradIdeal.nD Cert.FfnInGradIdeal.τ).loc Cert.FfnInGradIdeal.main_arg6) = m ((c.tc : Thread Cert.FfnInGradIdeal.nD Cert.FfnInGradIdeal.τ).loc Cert.FfnInGradIdeal.main_arg6))
      ∧ r.2.sem = fun _ => 0)

def quiescent_FfnInGradReferenceIdeal [hFfnInGradReferenceIdeal : Cert.FfnInGradReferenceIdeal.Facts] : Prop :=
  ∀ (m : (ℓ : Loc Cert.FfnInGradReferenceIdeal.nD Cert.FfnInGradReferenceIdeal.τ Cert.FfnInGradReferenceIdeal.sig) → Buf (Elt Ideal) ℓ) (g : Dev Cert.FfnInGradReferenceIdeal.nD → PrngReg), Pre_FfnInGradReferenceIdeal m →
    θ_run (Cert.FfnInGradReferenceIdeal.defs (F := Ideal)) (onTc (τ := Cert.FfnInGradReferenceIdeal.τ) (Cert.FfnInGradReferenceIdeal.main (F := Ideal))) ⟨m, fun _ => 0, g⟩ (fun r => (∀ c : Dev Cert.FfnInGradReferenceIdeal.nD,
      r.2.mem ((c.tc : Thread Cert.FfnInGradReferenceIdeal.nD Cert.FfnInGradReferenceIdeal.τ).loc Cert.FfnInGradReferenceIdeal.main_arg0) = m ((c.tc : Thread Cert.FfnInGradReferenceIdeal.nD Cert.FfnInGradReferenceIdeal.τ).loc Cert.FfnInGradReferenceIdeal.main_arg0)
      ∧ r.2.mem ((c.tc : Thread Cert.FfnInGradReferenceIdeal.nD Cert.FfnInGradReferenceIdeal.τ).loc Cert.FfnInGradReferenceIdeal.main_arg1) = m ((c.tc : Thread Cert.FfnInGradReferenceIdeal.nD Cert.FfnInGradReferenceIdeal.τ).loc Cert.FfnInGradReferenceIdeal.main_arg1)
      ∧ r.2.mem ((c.tc : Thread Cert.FfnInGradReferenceIdeal.nD Cert.FfnInGradReferenceIdeal.τ).loc Cert.FfnInGradReferenceIdeal.main_arg2) = m ((c.tc : Thread Cert.FfnInGradReferenceIdeal.nD Cert.FfnInGradReferenceIdeal.τ).loc Cert.FfnInGradReferenceIdeal.main_arg2)
      ∧ r.2.mem ((c.tc : Thread Cert.FfnInGradReferenceIdeal.nD Cert.FfnInGradReferenceIdeal.τ).loc Cert.FfnInGradReferenceIdeal.main_arg3) = m ((c.tc : Thread Cert.FfnInGradReferenceIdeal.nD Cert.FfnInGradReferenceIdeal.τ).loc Cert.FfnInGradReferenceIdeal.main_arg3)
      ∧ r.2.mem ((c.tc : Thread Cert.FfnInGradReferenceIdeal.nD Cert.FfnInGradReferenceIdeal.τ).loc Cert.FfnInGradReferenceIdeal.main_arg4) = m ((c.tc : Thread Cert.FfnInGradReferenceIdeal.nD Cert.FfnInGradReferenceIdeal.τ).loc Cert.FfnInGradReferenceIdeal.main_arg4)
      ∧ r.2.mem ((c.tc : Thread Cert.FfnInGradReferenceIdeal.nD Cert.FfnInGradReferenceIdeal.τ).loc Cert.FfnInGradReferenceIdeal.main_arg5) = m ((c.tc : Thread Cert.FfnInGradReferenceIdeal.nD Cert.FfnInGradReferenceIdeal.τ).loc Cert.FfnInGradReferenceIdeal.main_arg5)
      ∧ r.2.mem ((c.tc : Thread Cert.FfnInGradReferenceIdeal.nD Cert.FfnInGradReferenceIdeal.τ).loc Cert.FfnInGradReferenceIdeal.main_arg6) = m ((c.tc : Thread Cert.FfnInGradReferenceIdeal.nD Cert.FfnInGradReferenceIdeal.τ).loc Cert.FfnInGradReferenceIdeal.main_arg6))
      ∧ r.2.sem = fun _ => 0)

def quiescent_MixOutGrad [hMixOutGrad : Cert.MixOutGrad.Facts] : Prop :=
  ∀ (m : (ℓ : Loc Cert.MixOutGrad.nD Cert.MixOutGrad.τ Cert.MixOutGrad.sig) → Buf (Elt Bits) ℓ) (g : Dev Cert.MixOutGrad.nD → PrngReg), Pre_MixOutGrad m →
    θ_run (Cert.MixOutGrad.defs (F := Bits)) (onTc (τ := Cert.MixOutGrad.τ) (Cert.MixOutGrad.main (F := Bits))) ⟨m, fun _ => 0, g⟩ (fun r => (∀ c : Dev Cert.MixOutGrad.nD,
      r.2.mem ((c.tc : Thread Cert.MixOutGrad.nD Cert.MixOutGrad.τ).loc Cert.MixOutGrad.main_arg0) = m ((c.tc : Thread Cert.MixOutGrad.nD Cert.MixOutGrad.τ).loc Cert.MixOutGrad.main_arg0)
      ∧ r.2.mem ((c.tc : Thread Cert.MixOutGrad.nD Cert.MixOutGrad.τ).loc Cert.MixOutGrad.main_arg1) = m ((c.tc : Thread Cert.MixOutGrad.nD Cert.MixOutGrad.τ).loc Cert.MixOutGrad.main_arg1)
      ∧ r.2.mem ((c.tc : Thread Cert.MixOutGrad.nD Cert.MixOutGrad.τ).loc Cert.MixOutGrad.main_arg2) = m ((c.tc : Thread Cert.MixOutGrad.nD Cert.MixOutGrad.τ).loc Cert.MixOutGrad.main_arg2)
      ∧ r.2.mem ((c.tc : Thread Cert.MixOutGrad.nD Cert.MixOutGrad.τ).loc Cert.MixOutGrad.main_arg3) = m ((c.tc : Thread Cert.MixOutGrad.nD Cert.MixOutGrad.τ).loc Cert.MixOutGrad.main_arg3)
      ∧ r.2.mem ((c.tc : Thread Cert.MixOutGrad.nD Cert.MixOutGrad.τ).loc Cert.MixOutGrad.main_arg4) = m ((c.tc : Thread Cert.MixOutGrad.nD Cert.MixOutGrad.τ).loc Cert.MixOutGrad.main_arg4)
      ∧ r.2.mem ((c.tc : Thread Cert.MixOutGrad.nD Cert.MixOutGrad.τ).loc Cert.MixOutGrad.main_arg5) = m ((c.tc : Thread Cert.MixOutGrad.nD Cert.MixOutGrad.τ).loc Cert.MixOutGrad.main_arg5)
      ∧ r.2.mem ((c.tc : Thread Cert.MixOutGrad.nD Cert.MixOutGrad.τ).loc Cert.MixOutGrad.main_arg6) = m ((c.tc : Thread Cert.MixOutGrad.nD Cert.MixOutGrad.τ).loc Cert.MixOutGrad.main_arg6))
      ∧ r.2.sem = fun _ => 0)

def quiescent_MixOutGradIdeal [hMixOutGradIdeal : Cert.MixOutGradIdeal.Facts] : Prop :=
  ∀ (m : (ℓ : Loc Cert.MixOutGradIdeal.nD Cert.MixOutGradIdeal.τ Cert.MixOutGradIdeal.sig) → Buf (Elt Ideal) ℓ) (g : Dev Cert.MixOutGradIdeal.nD → PrngReg), Pre_MixOutGradIdeal m →
    θ_run (Cert.MixOutGradIdeal.defs (F := Ideal)) (onTc (τ := Cert.MixOutGradIdeal.τ) (Cert.MixOutGradIdeal.main (F := Ideal))) ⟨m, fun _ => 0, g⟩ (fun r => (∀ c : Dev Cert.MixOutGradIdeal.nD,
      r.2.mem ((c.tc : Thread Cert.MixOutGradIdeal.nD Cert.MixOutGradIdeal.τ).loc Cert.MixOutGradIdeal.main_arg0) = m ((c.tc : Thread Cert.MixOutGradIdeal.nD Cert.MixOutGradIdeal.τ).loc Cert.MixOutGradIdeal.main_arg0)
      ∧ r.2.mem ((c.tc : Thread Cert.MixOutGradIdeal.nD Cert.MixOutGradIdeal.τ).loc Cert.MixOutGradIdeal.main_arg1) = m ((c.tc : Thread Cert.MixOutGradIdeal.nD Cert.MixOutGradIdeal.τ).loc Cert.MixOutGradIdeal.main_arg1)
      ∧ r.2.mem ((c.tc : Thread Cert.MixOutGradIdeal.nD Cert.MixOutGradIdeal.τ).loc Cert.MixOutGradIdeal.main_arg2) = m ((c.tc : Thread Cert.MixOutGradIdeal.nD Cert.MixOutGradIdeal.τ).loc Cert.MixOutGradIdeal.main_arg2)
      ∧ r.2.mem ((c.tc : Thread Cert.MixOutGradIdeal.nD Cert.MixOutGradIdeal.τ).loc Cert.MixOutGradIdeal.main_arg3) = m ((c.tc : Thread Cert.MixOutGradIdeal.nD Cert.MixOutGradIdeal.τ).loc Cert.MixOutGradIdeal.main_arg3)
      ∧ r.2.mem ((c.tc : Thread Cert.MixOutGradIdeal.nD Cert.MixOutGradIdeal.τ).loc Cert.MixOutGradIdeal.main_arg4) = m ((c.tc : Thread Cert.MixOutGradIdeal.nD Cert.MixOutGradIdeal.τ).loc Cert.MixOutGradIdeal.main_arg4)
      ∧ r.2.mem ((c.tc : Thread Cert.MixOutGradIdeal.nD Cert.MixOutGradIdeal.τ).loc Cert.MixOutGradIdeal.main_arg5) = m ((c.tc : Thread Cert.MixOutGradIdeal.nD Cert.MixOutGradIdeal.τ).loc Cert.MixOutGradIdeal.main_arg5)
      ∧ r.2.mem ((c.tc : Thread Cert.MixOutGradIdeal.nD Cert.MixOutGradIdeal.τ).loc Cert.MixOutGradIdeal.main_arg6) = m ((c.tc : Thread Cert.MixOutGradIdeal.nD Cert.MixOutGradIdeal.τ).loc Cert.MixOutGradIdeal.main_arg6))
      ∧ r.2.sem = fun _ => 0)

def quiescent_MixOutGradReferenceIdeal [hMixOutGradReferenceIdeal : Cert.MixOutGradReferenceIdeal.Facts] : Prop :=
  ∀ (m : (ℓ : Loc Cert.MixOutGradReferenceIdeal.nD Cert.MixOutGradReferenceIdeal.τ Cert.MixOutGradReferenceIdeal.sig) → Buf (Elt Ideal) ℓ) (g : Dev Cert.MixOutGradReferenceIdeal.nD → PrngReg), Pre_MixOutGradReferenceIdeal m →
    θ_run (Cert.MixOutGradReferenceIdeal.defs (F := Ideal)) (onTc (τ := Cert.MixOutGradReferenceIdeal.τ) (Cert.MixOutGradReferenceIdeal.main (F := Ideal))) ⟨m, fun _ => 0, g⟩ (fun r => (∀ c : Dev Cert.MixOutGradReferenceIdeal.nD,
      r.2.mem ((c.tc : Thread Cert.MixOutGradReferenceIdeal.nD Cert.MixOutGradReferenceIdeal.τ).loc Cert.MixOutGradReferenceIdeal.main_arg0) = m ((c.tc : Thread Cert.MixOutGradReferenceIdeal.nD Cert.MixOutGradReferenceIdeal.τ).loc Cert.MixOutGradReferenceIdeal.main_arg0)
      ∧ r.2.mem ((c.tc : Thread Cert.MixOutGradReferenceIdeal.nD Cert.MixOutGradReferenceIdeal.τ).loc Cert.MixOutGradReferenceIdeal.main_arg1) = m ((c.tc : Thread Cert.MixOutGradReferenceIdeal.nD Cert.MixOutGradReferenceIdeal.τ).loc Cert.MixOutGradReferenceIdeal.main_arg1)
      ∧ r.2.mem ((c.tc : Thread Cert.MixOutGradReferenceIdeal.nD Cert.MixOutGradReferenceIdeal.τ).loc Cert.MixOutGradReferenceIdeal.main_arg2) = m ((c.tc : Thread Cert.MixOutGradReferenceIdeal.nD Cert.MixOutGradReferenceIdeal.τ).loc Cert.MixOutGradReferenceIdeal.main_arg2)
      ∧ r.2.mem ((c.tc : Thread Cert.MixOutGradReferenceIdeal.nD Cert.MixOutGradReferenceIdeal.τ).loc Cert.MixOutGradReferenceIdeal.main_arg3) = m ((c.tc : Thread Cert.MixOutGradReferenceIdeal.nD Cert.MixOutGradReferenceIdeal.τ).loc Cert.MixOutGradReferenceIdeal.main_arg3)
      ∧ r.2.mem ((c.tc : Thread Cert.MixOutGradReferenceIdeal.nD Cert.MixOutGradReferenceIdeal.τ).loc Cert.MixOutGradReferenceIdeal.main_arg4) = m ((c.tc : Thread Cert.MixOutGradReferenceIdeal.nD Cert.MixOutGradReferenceIdeal.τ).loc Cert.MixOutGradReferenceIdeal.main_arg4)
      ∧ r.2.mem ((c.tc : Thread Cert.MixOutGradReferenceIdeal.nD Cert.MixOutGradReferenceIdeal.τ).loc Cert.MixOutGradReferenceIdeal.main_arg5) = m ((c.tc : Thread Cert.MixOutGradReferenceIdeal.nD Cert.MixOutGradReferenceIdeal.τ).loc Cert.MixOutGradReferenceIdeal.main_arg5)
      ∧ r.2.mem ((c.tc : Thread Cert.MixOutGradReferenceIdeal.nD Cert.MixOutGradReferenceIdeal.τ).loc Cert.MixOutGradReferenceIdeal.main_arg6) = m ((c.tc : Thread Cert.MixOutGradReferenceIdeal.nD Cert.MixOutGradReferenceIdeal.τ).loc Cert.MixOutGradReferenceIdeal.main_arg6))
      ∧ r.2.sem = fun _ => 0)

def quiescent_NormInGrad [hNormInGrad : Cert.NormInGrad.Facts] : Prop :=
  ∀ (m : (ℓ : Loc Cert.NormInGrad.nD Cert.NormInGrad.τ Cert.NormInGrad.sig) → Buf (Elt Bits) ℓ) (g : Dev Cert.NormInGrad.nD → PrngReg), Pre_NormInGrad m →
    θ_run (Cert.NormInGrad.defs (F := Bits)) (onTc (τ := Cert.NormInGrad.τ) (Cert.NormInGrad.main (F := Bits))) ⟨m, fun _ => 0, g⟩ (fun r => (∀ c : Dev Cert.NormInGrad.nD,
      r.2.mem ((c.tc : Thread Cert.NormInGrad.nD Cert.NormInGrad.τ).loc Cert.NormInGrad.main_arg0) = m ((c.tc : Thread Cert.NormInGrad.nD Cert.NormInGrad.τ).loc Cert.NormInGrad.main_arg0)
      ∧ r.2.mem ((c.tc : Thread Cert.NormInGrad.nD Cert.NormInGrad.τ).loc Cert.NormInGrad.main_arg1) = m ((c.tc : Thread Cert.NormInGrad.nD Cert.NormInGrad.τ).loc Cert.NormInGrad.main_arg1)
      ∧ r.2.mem ((c.tc : Thread Cert.NormInGrad.nD Cert.NormInGrad.τ).loc Cert.NormInGrad.main_arg2) = m ((c.tc : Thread Cert.NormInGrad.nD Cert.NormInGrad.τ).loc Cert.NormInGrad.main_arg2)
      ∧ r.2.mem ((c.tc : Thread Cert.NormInGrad.nD Cert.NormInGrad.τ).loc Cert.NormInGrad.main_arg3) = m ((c.tc : Thread Cert.NormInGrad.nD Cert.NormInGrad.τ).loc Cert.NormInGrad.main_arg3)
      ∧ r.2.mem ((c.tc : Thread Cert.NormInGrad.nD Cert.NormInGrad.τ).loc Cert.NormInGrad.main_arg4) = m ((c.tc : Thread Cert.NormInGrad.nD Cert.NormInGrad.τ).loc Cert.NormInGrad.main_arg4)
      ∧ r.2.mem ((c.tc : Thread Cert.NormInGrad.nD Cert.NormInGrad.τ).loc Cert.NormInGrad.main_arg5) = m ((c.tc : Thread Cert.NormInGrad.nD Cert.NormInGrad.τ).loc Cert.NormInGrad.main_arg5)
      ∧ r.2.mem ((c.tc : Thread Cert.NormInGrad.nD Cert.NormInGrad.τ).loc Cert.NormInGrad.main_arg6) = m ((c.tc : Thread Cert.NormInGrad.nD Cert.NormInGrad.τ).loc Cert.NormInGrad.main_arg6))
      ∧ r.2.sem = fun _ => 0)

def quiescent_NormInGradIdeal [hNormInGradIdeal : Cert.NormInGradIdeal.Facts] : Prop :=
  ∀ (m : (ℓ : Loc Cert.NormInGradIdeal.nD Cert.NormInGradIdeal.τ Cert.NormInGradIdeal.sig) → Buf (Elt Ideal) ℓ) (g : Dev Cert.NormInGradIdeal.nD → PrngReg), Pre_NormInGradIdeal m →
    θ_run (Cert.NormInGradIdeal.defs (F := Ideal)) (onTc (τ := Cert.NormInGradIdeal.τ) (Cert.NormInGradIdeal.main (F := Ideal))) ⟨m, fun _ => 0, g⟩ (fun r => (∀ c : Dev Cert.NormInGradIdeal.nD,
      r.2.mem ((c.tc : Thread Cert.NormInGradIdeal.nD Cert.NormInGradIdeal.τ).loc Cert.NormInGradIdeal.main_arg0) = m ((c.tc : Thread Cert.NormInGradIdeal.nD Cert.NormInGradIdeal.τ).loc Cert.NormInGradIdeal.main_arg0)
      ∧ r.2.mem ((c.tc : Thread Cert.NormInGradIdeal.nD Cert.NormInGradIdeal.τ).loc Cert.NormInGradIdeal.main_arg1) = m ((c.tc : Thread Cert.NormInGradIdeal.nD Cert.NormInGradIdeal.τ).loc Cert.NormInGradIdeal.main_arg1)
      ∧ r.2.mem ((c.tc : Thread Cert.NormInGradIdeal.nD Cert.NormInGradIdeal.τ).loc Cert.NormInGradIdeal.main_arg2) = m ((c.tc : Thread Cert.NormInGradIdeal.nD Cert.NormInGradIdeal.τ).loc Cert.NormInGradIdeal.main_arg2)
      ∧ r.2.mem ((c.tc : Thread Cert.NormInGradIdeal.nD Cert.NormInGradIdeal.τ).loc Cert.NormInGradIdeal.main_arg3) = m ((c.tc : Thread Cert.NormInGradIdeal.nD Cert.NormInGradIdeal.τ).loc Cert.NormInGradIdeal.main_arg3)
      ∧ r.2.mem ((c.tc : Thread Cert.NormInGradIdeal.nD Cert.NormInGradIdeal.τ).loc Cert.NormInGradIdeal.main_arg4) = m ((c.tc : Thread Cert.NormInGradIdeal.nD Cert.NormInGradIdeal.τ).loc Cert.NormInGradIdeal.main_arg4)
      ∧ r.2.mem ((c.tc : Thread Cert.NormInGradIdeal.nD Cert.NormInGradIdeal.τ).loc Cert.NormInGradIdeal.main_arg5) = m ((c.tc : Thread Cert.NormInGradIdeal.nD Cert.NormInGradIdeal.τ).loc Cert.NormInGradIdeal.main_arg5)
      ∧ r.2.mem ((c.tc : Thread Cert.NormInGradIdeal.nD Cert.NormInGradIdeal.τ).loc Cert.NormInGradIdeal.main_arg6) = m ((c.tc : Thread Cert.NormInGradIdeal.nD Cert.NormInGradIdeal.τ).loc Cert.NormInGradIdeal.main_arg6))
      ∧ r.2.sem = fun _ => 0)

def quiescent_NormInGradReferenceIdeal [hNormInGradReferenceIdeal : Cert.NormInGradReferenceIdeal.Facts] : Prop :=
  ∀ (m : (ℓ : Loc Cert.NormInGradReferenceIdeal.nD Cert.NormInGradReferenceIdeal.τ Cert.NormInGradReferenceIdeal.sig) → Buf (Elt Ideal) ℓ) (g : Dev Cert.NormInGradReferenceIdeal.nD → PrngReg), Pre_NormInGradReferenceIdeal m →
    θ_run (Cert.NormInGradReferenceIdeal.defs (F := Ideal)) (onTc (τ := Cert.NormInGradReferenceIdeal.τ) (Cert.NormInGradReferenceIdeal.main (F := Ideal))) ⟨m, fun _ => 0, g⟩ (fun r => (∀ c : Dev Cert.NormInGradReferenceIdeal.nD,
      r.2.mem ((c.tc : Thread Cert.NormInGradReferenceIdeal.nD Cert.NormInGradReferenceIdeal.τ).loc Cert.NormInGradReferenceIdeal.main_arg0) = m ((c.tc : Thread Cert.NormInGradReferenceIdeal.nD Cert.NormInGradReferenceIdeal.τ).loc Cert.NormInGradReferenceIdeal.main_arg0)
      ∧ r.2.mem ((c.tc : Thread Cert.NormInGradReferenceIdeal.nD Cert.NormInGradReferenceIdeal.τ).loc Cert.NormInGradReferenceIdeal.main_arg1) = m ((c.tc : Thread Cert.NormInGradReferenceIdeal.nD Cert.NormInGradReferenceIdeal.τ).loc Cert.NormInGradReferenceIdeal.main_arg1)
      ∧ r.2.mem ((c.tc : Thread Cert.NormInGradReferenceIdeal.nD Cert.NormInGradReferenceIdeal.τ).loc Cert.NormInGradReferenceIdeal.main_arg2) = m ((c.tc : Thread Cert.NormInGradReferenceIdeal.nD Cert.NormInGradReferenceIdeal.τ).loc Cert.NormInGradReferenceIdeal.main_arg2)
      ∧ r.2.mem ((c.tc : Thread Cert.NormInGradReferenceIdeal.nD Cert.NormInGradReferenceIdeal.τ).loc Cert.NormInGradReferenceIdeal.main_arg3) = m ((c.tc : Thread Cert.NormInGradReferenceIdeal.nD Cert.NormInGradReferenceIdeal.τ).loc Cert.NormInGradReferenceIdeal.main_arg3)
      ∧ r.2.mem ((c.tc : Thread Cert.NormInGradReferenceIdeal.nD Cert.NormInGradReferenceIdeal.τ).loc Cert.NormInGradReferenceIdeal.main_arg4) = m ((c.tc : Thread Cert.NormInGradReferenceIdeal.nD Cert.NormInGradReferenceIdeal.τ).loc Cert.NormInGradReferenceIdeal.main_arg4)
      ∧ r.2.mem ((c.tc : Thread Cert.NormInGradReferenceIdeal.nD Cert.NormInGradReferenceIdeal.τ).loc Cert.NormInGradReferenceIdeal.main_arg5) = m ((c.tc : Thread Cert.NormInGradReferenceIdeal.nD Cert.NormInGradReferenceIdeal.τ).loc Cert.NormInGradReferenceIdeal.main_arg5)
      ∧ r.2.mem ((c.tc : Thread Cert.NormInGradReferenceIdeal.nD Cert.NormInGradReferenceIdeal.τ).loc Cert.NormInGradReferenceIdeal.main_arg6) = m ((c.tc : Thread Cert.NormInGradReferenceIdeal.nD Cert.NormInGradReferenceIdeal.τ).loc Cert.NormInGradReferenceIdeal.main_arg6))
      ∧ r.2.sem = fun _ => 0)

def quiescent_FfnOutGrad [hFfnOutGrad : Cert.FfnOutGrad.Facts] : Prop :=
  ∀ (m : (ℓ : Loc Cert.FfnOutGrad.nD Cert.FfnOutGrad.τ Cert.FfnOutGrad.sig) → Buf (Elt Bits) ℓ) (g : Dev Cert.FfnOutGrad.nD → PrngReg), Pre_FfnOutGrad m →
    θ_run (Cert.FfnOutGrad.defs (F := Bits)) (onTc (τ := Cert.FfnOutGrad.τ) (Cert.FfnOutGrad.main (F := Bits))) ⟨m, fun _ => 0, g⟩ (fun r => (∀ c : Dev Cert.FfnOutGrad.nD,
      r.2.mem ((c.tc : Thread Cert.FfnOutGrad.nD Cert.FfnOutGrad.τ).loc Cert.FfnOutGrad.main_arg0) = m ((c.tc : Thread Cert.FfnOutGrad.nD Cert.FfnOutGrad.τ).loc Cert.FfnOutGrad.main_arg0)
      ∧ r.2.mem ((c.tc : Thread Cert.FfnOutGrad.nD Cert.FfnOutGrad.τ).loc Cert.FfnOutGrad.main_arg1) = m ((c.tc : Thread Cert.FfnOutGrad.nD Cert.FfnOutGrad.τ).loc Cert.FfnOutGrad.main_arg1)
      ∧ r.2.mem ((c.tc : Thread Cert.FfnOutGrad.nD Cert.FfnOutGrad.τ).loc Cert.FfnOutGrad.main_arg2) = m ((c.tc : Thread Cert.FfnOutGrad.nD Cert.FfnOutGrad.τ).loc Cert.FfnOutGrad.main_arg2)
      ∧ r.2.mem ((c.tc : Thread Cert.FfnOutGrad.nD Cert.FfnOutGrad.τ).loc Cert.FfnOutGrad.main_arg3) = m ((c.tc : Thread Cert.FfnOutGrad.nD Cert.FfnOutGrad.τ).loc Cert.FfnOutGrad.main_arg3)
      ∧ r.2.mem ((c.tc : Thread Cert.FfnOutGrad.nD Cert.FfnOutGrad.τ).loc Cert.FfnOutGrad.main_arg4) = m ((c.tc : Thread Cert.FfnOutGrad.nD Cert.FfnOutGrad.τ).loc Cert.FfnOutGrad.main_arg4)
      ∧ r.2.mem ((c.tc : Thread Cert.FfnOutGrad.nD Cert.FfnOutGrad.τ).loc Cert.FfnOutGrad.main_arg5) = m ((c.tc : Thread Cert.FfnOutGrad.nD Cert.FfnOutGrad.τ).loc Cert.FfnOutGrad.main_arg5))
      ∧ r.2.sem = fun _ => 0)

def quiescent_FfnOutGradIdeal [hFfnOutGradIdeal : Cert.FfnOutGradIdeal.Facts] : Prop :=
  ∀ (m : (ℓ : Loc Cert.FfnOutGradIdeal.nD Cert.FfnOutGradIdeal.τ Cert.FfnOutGradIdeal.sig) → Buf (Elt Ideal) ℓ) (g : Dev Cert.FfnOutGradIdeal.nD → PrngReg), Pre_FfnOutGradIdeal m →
    θ_run (Cert.FfnOutGradIdeal.defs (F := Ideal)) (onTc (τ := Cert.FfnOutGradIdeal.τ) (Cert.FfnOutGradIdeal.main (F := Ideal))) ⟨m, fun _ => 0, g⟩ (fun r => (∀ c : Dev Cert.FfnOutGradIdeal.nD,
      r.2.mem ((c.tc : Thread Cert.FfnOutGradIdeal.nD Cert.FfnOutGradIdeal.τ).loc Cert.FfnOutGradIdeal.main_arg0) = m ((c.tc : Thread Cert.FfnOutGradIdeal.nD Cert.FfnOutGradIdeal.τ).loc Cert.FfnOutGradIdeal.main_arg0)
      ∧ r.2.mem ((c.tc : Thread Cert.FfnOutGradIdeal.nD Cert.FfnOutGradIdeal.τ).loc Cert.FfnOutGradIdeal.main_arg1) = m ((c.tc : Thread Cert.FfnOutGradIdeal.nD Cert.FfnOutGradIdeal.τ).loc Cert.FfnOutGradIdeal.main_arg1)
      ∧ r.2.mem ((c.tc : Thread Cert.FfnOutGradIdeal.nD Cert.FfnOutGradIdeal.τ).loc Cert.FfnOutGradIdeal.main_arg2) = m ((c.tc : Thread Cert.FfnOutGradIdeal.nD Cert.FfnOutGradIdeal.τ).loc Cert.FfnOutGradIdeal.main_arg2)
      ∧ r.2.mem ((c.tc : Thread Cert.FfnOutGradIdeal.nD Cert.FfnOutGradIdeal.τ).loc Cert.FfnOutGradIdeal.main_arg3) = m ((c.tc : Thread Cert.FfnOutGradIdeal.nD Cert.FfnOutGradIdeal.τ).loc Cert.FfnOutGradIdeal.main_arg3)
      ∧ r.2.mem ((c.tc : Thread Cert.FfnOutGradIdeal.nD Cert.FfnOutGradIdeal.τ).loc Cert.FfnOutGradIdeal.main_arg4) = m ((c.tc : Thread Cert.FfnOutGradIdeal.nD Cert.FfnOutGradIdeal.τ).loc Cert.FfnOutGradIdeal.main_arg4)
      ∧ r.2.mem ((c.tc : Thread Cert.FfnOutGradIdeal.nD Cert.FfnOutGradIdeal.τ).loc Cert.FfnOutGradIdeal.main_arg5) = m ((c.tc : Thread Cert.FfnOutGradIdeal.nD Cert.FfnOutGradIdeal.τ).loc Cert.FfnOutGradIdeal.main_arg5))
      ∧ r.2.sem = fun _ => 0)

def quiescent_FfnOutGradReferenceIdeal [hFfnOutGradReferenceIdeal : Cert.FfnOutGradReferenceIdeal.Facts] : Prop :=
  ∀ (m : (ℓ : Loc Cert.FfnOutGradReferenceIdeal.nD Cert.FfnOutGradReferenceIdeal.τ Cert.FfnOutGradReferenceIdeal.sig) → Buf (Elt Ideal) ℓ) (g : Dev Cert.FfnOutGradReferenceIdeal.nD → PrngReg), Pre_FfnOutGradReferenceIdeal m →
    θ_run (Cert.FfnOutGradReferenceIdeal.defs (F := Ideal)) (onTc (τ := Cert.FfnOutGradReferenceIdeal.τ) (Cert.FfnOutGradReferenceIdeal.main (F := Ideal))) ⟨m, fun _ => 0, g⟩ (fun r => (∀ c : Dev Cert.FfnOutGradReferenceIdeal.nD,
      r.2.mem ((c.tc : Thread Cert.FfnOutGradReferenceIdeal.nD Cert.FfnOutGradReferenceIdeal.τ).loc Cert.FfnOutGradReferenceIdeal.main_arg0) = m ((c.tc : Thread Cert.FfnOutGradReferenceIdeal.nD Cert.FfnOutGradReferenceIdeal.τ).loc Cert.FfnOutGradReferenceIdeal.main_arg0)
      ∧ r.2.mem ((c.tc : Thread Cert.FfnOutGradReferenceIdeal.nD Cert.FfnOutGradReferenceIdeal.τ).loc Cert.FfnOutGradReferenceIdeal.main_arg1) = m ((c.tc : Thread Cert.FfnOutGradReferenceIdeal.nD Cert.FfnOutGradReferenceIdeal.τ).loc Cert.FfnOutGradReferenceIdeal.main_arg1)
      ∧ r.2.mem ((c.tc : Thread Cert.FfnOutGradReferenceIdeal.nD Cert.FfnOutGradReferenceIdeal.τ).loc Cert.FfnOutGradReferenceIdeal.main_arg2) = m ((c.tc : Thread Cert.FfnOutGradReferenceIdeal.nD Cert.FfnOutGradReferenceIdeal.τ).loc Cert.FfnOutGradReferenceIdeal.main_arg2)
      ∧ r.2.mem ((c.tc : Thread Cert.FfnOutGradReferenceIdeal.nD Cert.FfnOutGradReferenceIdeal.τ).loc Cert.FfnOutGradReferenceIdeal.main_arg3) = m ((c.tc : Thread Cert.FfnOutGradReferenceIdeal.nD Cert.FfnOutGradReferenceIdeal.τ).loc Cert.FfnOutGradReferenceIdeal.main_arg3)
      ∧ r.2.mem ((c.tc : Thread Cert.FfnOutGradReferenceIdeal.nD Cert.FfnOutGradReferenceIdeal.τ).loc Cert.FfnOutGradReferenceIdeal.main_arg4) = m ((c.tc : Thread Cert.FfnOutGradReferenceIdeal.nD Cert.FfnOutGradReferenceIdeal.τ).loc Cert.FfnOutGradReferenceIdeal.main_arg4)
      ∧ r.2.mem ((c.tc : Thread Cert.FfnOutGradReferenceIdeal.nD Cert.FfnOutGradReferenceIdeal.τ).loc Cert.FfnOutGradReferenceIdeal.main_arg5) = m ((c.tc : Thread Cert.FfnOutGradReferenceIdeal.nD Cert.FfnOutGradReferenceIdeal.τ).loc Cert.FfnOutGradReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨4, ![4, 4, 1024, 448]⟩ ⟨4, ![32, 4, 1024, 448]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨4, ![4, 4, 256, 1024]⟩ ⟨4, ![32, 4, 256, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![4, 4, 1024, 704]⟩ ⟨4, ![32, 4, 1024, 704]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![4, 4, 1024, 704]⟩ ⟨4, ![32, 4, 1024, 704]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![4, 4, 704, 1024]⟩ ⟨4, ![32, 4, 704, 1024]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨4, ![4, 4, 256, 256]⟩ ⟨4, ![32, 4, 256, 256]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨4, ![4, 4, 256, 1024]⟩ ⟨4, ![32, 4, 256, 1024]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v2)) (v1 : Buf (Elt Ideal) (((0 : Dev Cert.ReferenceIdeal.nD).tc : Thread Cert.ReferenceIdeal.nD Cert.ReferenceIdeal.τ).loc Cert.ReferenceIdeal.main_v5)) (v2 : Buf (Elt Ideal) (((0 : Dev Cert.ReferenceIdeal.nD).tc : Thread Cert.ReferenceIdeal.nD Cert.ReferenceIdeal.τ).loc Cert.ReferenceIdeal.main_v8)) (v3 : Buf (Elt Ideal) (((0 : Dev Cert.ReferenceIdeal.nD).tc : Thread Cert.ReferenceIdeal.nD Cert.ReferenceIdeal.τ).loc Cert.ReferenceIdeal.main_v11)) (v4 : Buf (Elt Ideal) (((0 : Dev Cert.ReferenceIdeal.nD).tc : Thread Cert.ReferenceIdeal.nD Cert.ReferenceIdeal.τ).loc Cert.ReferenceIdeal.main_v14)) (v5 : Buf (Elt Ideal) (((0 : Dev Cert.ReferenceIdeal.nD).tc : Thread Cert.ReferenceIdeal.nD Cert.ReferenceIdeal.τ).loc Cert.ReferenceIdeal.main_v17)) (v6 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨4, ![4, 4, 1024, 448]⟩ ⟨4, ![32, 4, 1024, 448]⟩ 0 8 c v0
          ∧ r.2.mem ((c.tc : Thread Cert.KernelIdeal.nD Cert.KernelIdeal.τ).loc Cert.KernelIdeal.main_v1_1) = Layout.block ⟨4, ![4, 4, 256, 1024]⟩ ⟨4, ![32, 4, 256, 1024]⟩ 0 8 c v1
          ∧ r.2.mem ((c.tc : Thread Cert.KernelIdeal.nD Cert.KernelIdeal.τ).loc Cert.KernelIdeal.main_v1_2) = Layout.block ⟨4, ![4, 4, 1024, 704]⟩ ⟨4, ![32, 4, 1024, 704]⟩ 0 8 c v2
          ∧ r.2.mem ((c.tc : Thread Cert.KernelIdeal.nD Cert.KernelIdeal.τ).loc Cert.KernelIdeal.main_v1_3) = Layout.block ⟨4, ![4, 4, 1024, 704]⟩ ⟨4, ![32, 4, 1024, 704]⟩ 0 8 c v3
          ∧ r.2.mem ((c.tc : Thread Cert.KernelIdeal.nD Cert.KernelIdeal.τ).loc Cert.KernelIdeal.main_v1_4) = Layout.block ⟨4, ![4, 4, 704, 1024]⟩ ⟨4, ![32, 4, 704, 1024]⟩ 0 8 c v4
          ∧ r.2.mem ((c.tc : Thread Cert.KernelIdeal.nD Cert.KernelIdeal.τ).loc Cert.KernelIdeal.main_v1_5) = Layout.block ⟨4, ![4, 4, 256, 256]⟩ ⟨4, ![32, 4, 256, 256]⟩ 0 8 c v5
          ∧ r.2.mem ((c.tc : Thread Cert.KernelIdeal.nD Cert.KernelIdeal.τ).loc Cert.KernelIdeal.main_v1_6) = Layout.block ⟨4, ![4, 4, 256, 1024]⟩ ⟨4, ![32, 4, 256, 1024]⟩ 0 8 c v6
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_v5) = v1
          ∧ r.2.mem (((0 : Dev Cert.ReferenceIdeal.nD).tc : Thread Cert.ReferenceIdeal.nD Cert.ReferenceIdeal.τ).loc Cert.ReferenceIdeal.main_v8) = v2
          ∧ r.2.mem (((0 : Dev Cert.ReferenceIdeal.nD).tc : Thread Cert.ReferenceIdeal.nD Cert.ReferenceIdeal.τ).loc Cert.ReferenceIdeal.main_v11) = v3
          ∧ r.2.mem (((0 : Dev Cert.ReferenceIdeal.nD).tc : Thread Cert.ReferenceIdeal.nD Cert.ReferenceIdeal.τ).loc Cert.ReferenceIdeal.main_v14) = v4
          ∧ r.2.mem (((0 : Dev Cert.ReferenceIdeal.nD).tc : Thread Cert.ReferenceIdeal.nD Cert.ReferenceIdeal.τ).loc Cert.ReferenceIdeal.main_v17) = v5
          ∧ r.2.mem (((0 : Dev Cert.ReferenceIdeal.nD).tc : Thread Cert.ReferenceIdeal.nD Cert.ReferenceIdeal.τ).loc Cert.ReferenceIdeal.main_v20) = v6
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨4, ![4, 4, 1024, 448]⟩ ⟨4, ![32, 4, 1024, 448]⟩ 0 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨4, ![4, 4, 256, 1024]⟩ ⟨4, ![32, 4, 256, 1024]⟩ 0 8 c (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.block ⟨4, ![4, 4, 1024, 704]⟩ ⟨4, ![32, 4, 1024, 704]⟩ 0 8 c (m' (((0 : Dev Cert.Reference.nD).tc : Thread Cert.Reference.nD Cert.Reference.τ).loc Cert.Reference.main_arg2))
      ∧ m ((c.tc : Thread Cert.Kernel.nD Cert.Kernel.τ).loc Cert.Kernel.main_arg3) = Layout.block ⟨4, ![4, 4, 1024, 704]⟩ ⟨4, ![32, 4, 1024, 704]⟩ 0 8 c (m' (((0 : Dev Cert.Reference.nD).tc : Thread Cert.Reference.nD Cert.Reference.τ).loc Cert.Reference.main_arg3))
      ∧ m ((c.tc : Thread Cert.Kernel.nD Cert.Kernel.τ).loc Cert.Kernel.main_arg4) = Layout.block ⟨4, ![4, 4, 704, 1024]⟩ ⟨4, ![32, 4, 704, 1024]⟩ 0 8 c (m' (((0 : Dev Cert.Reference.nD).tc : Thread Cert.Reference.nD Cert.Reference.τ).loc Cert.Reference.main_arg4))
      ∧ m ((c.tc : Thread Cert.Kernel.nD Cert.Kernel.τ).loc Cert.Kernel.main_arg5) = Layout.block ⟨4, ![4, 4, 256, 256]⟩ ⟨4, ![32, 4, 256, 256]⟩ 0 8 c (m' (((0 : Dev Cert.Reference.nD).tc : Thread Cert.Reference.nD Cert.Reference.τ).loc Cert.Reference.main_arg5))
      ∧ m ((c.tc : Thread Cert.Kernel.nD Cert.Kernel.τ).loc Cert.Kernel.main_arg6) = Layout.block ⟨4, ![4, 4, 256, 1024]⟩ ⟨4, ![32, 4, 256, 1024]⟩ 0 8 c (m' (((0 : Dev Cert.Reference.nD).tc : Thread Cert.Reference.nD Cert.Reference.τ).loc Cert.Reference.main_arg6))) →
    ∃ (v0 : Buf (Elt Bits) (((0 : Dev Cert.Reference.nD).tc : Thread Cert.Reference.nD Cert.Reference.τ).loc Cert.Reference.main_v2)) (v1 : Buf (Elt Bits) (((0 : Dev Cert.Reference.nD).tc : Thread Cert.Reference.nD Cert.Reference.τ).loc Cert.Reference.main_v5)) (v2 : Buf (Elt Bits) (((0 : Dev Cert.Reference.nD).tc : Thread Cert.Reference.nD Cert.Reference.τ).loc Cert.Reference.main_v8)) (v3 : Buf (Elt Bits) (((0 : Dev Cert.Reference.nD).tc : Thread Cert.Reference.nD Cert.Reference.τ).loc Cert.Reference.main_v11)) (v4 : Buf (Elt Bits) (((0 : Dev Cert.Reference.nD).tc : Thread Cert.Reference.nD Cert.Reference.τ).loc Cert.Reference.main_v14)) (v5 : Buf (Elt Bits) (((0 : Dev Cert.Reference.nD).tc : Thread Cert.Reference.nD Cert.Reference.τ).loc Cert.Reference.main_v17)) (v6 : Buf (Elt Bits) (((0 : Dev Cert.Reference.nD).tc : Thread Cert.Reference.nD Cert.Reference.τ).loc Cert.Reference.main_v20)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = Layout.block ⟨4, ![4, 4, 1024, 448]⟩ ⟨4, ![32, 4, 1024, 448]⟩ 0 8 c v0
          ∧ r.2.mem ((c.tc : Thread Cert.Kernel.nD Cert.Kernel.τ).loc Cert.Kernel.main_v1_1) = Layout.block ⟨4, ![4, 4, 256, 1024]⟩ ⟨4, ![32, 4, 256, 1024]⟩ 0 8 c v1
          ∧ r.2.mem ((c.tc : Thread Cert.Kernel.nD Cert.Kernel.τ).loc Cert.Kernel.main_v1_2) = Layout.block ⟨4, ![4, 4, 1024, 704]⟩ ⟨4, ![32, 4, 1024, 704]⟩ 0 8 c v2
          ∧ r.2.mem ((c.tc : Thread Cert.Kernel.nD Cert.Kernel.τ).loc Cert.Kernel.main_v1_3) = Layout.block ⟨4, ![4, 4, 1024, 704]⟩ ⟨4, ![32, 4, 1024, 704]⟩ 0 8 c v3
          ∧ r.2.mem ((c.tc : Thread Cert.Kernel.nD Cert.Kernel.τ).loc Cert.Kernel.main_v1_4) = Layout.block ⟨4, ![4, 4, 704, 1024]⟩ ⟨4, ![32, 4, 704, 1024]⟩ 0 8 c v4
          ∧ r.2.mem ((c.tc : Thread Cert.Kernel.nD Cert.Kernel.τ).loc Cert.Kernel.main_v1_5) = Layout.block ⟨4, ![4, 4, 256, 256]⟩ ⟨4, ![32, 4, 256, 256]⟩ 0 8 c v5
          ∧ r.2.mem ((c.tc : Thread Cert.Kernel.nD Cert.Kernel.τ).loc Cert.Kernel.main_v1_6) = Layout.block ⟨4, ![4, 4, 256, 1024]⟩ ⟨4, ![32, 4, 256, 1024]⟩ 0 8 c v6
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v2) = v0
          ∧ r.2.mem (((0 : Dev Cert.Reference.nD).tc : Thread Cert.Reference.nD Cert.Reference.τ).loc Cert.Reference.main_v5) = v1
          ∧ r.2.mem (((0 : Dev Cert.Reference.nD).tc : Thread Cert.Reference.nD Cert.Reference.τ).loc Cert.Reference.main_v8) = v2
          ∧ r.2.mem (((0 : Dev Cert.Reference.nD).tc : Thread Cert.Reference.nD Cert.Reference.τ).loc Cert.Reference.main_v11) = v3
          ∧ r.2.mem (((0 : Dev Cert.Reference.nD).tc : Thread Cert.Reference.nD Cert.Reference.τ).loc Cert.Reference.main_v14) = v4
          ∧ r.2.mem (((0 : Dev Cert.Reference.nD).tc : Thread Cert.Reference.nD Cert.Reference.τ).loc Cert.Reference.main_v17) = v5
          ∧ r.2.mem (((0 : Dev Cert.Reference.nD).tc : Thread Cert.Reference.nD Cert.Reference.τ).loc Cert.Reference.main_v20) = v6
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2)
          ∧ r.2.mem (((0 : Dev Cert.Reference.nD).tc : Thread Cert.Reference.nD Cert.Reference.τ).loc Cert.Reference.main_arg3) = m' (((0 : Dev Cert.Reference.nD).tc : Thread Cert.Reference.nD Cert.Reference.τ).loc Cert.Reference.main_arg3)
          ∧ r.2.mem (((0 : Dev Cert.Reference.nD).tc : Thread Cert.Reference.nD Cert.Reference.τ).loc Cert.Reference.main_arg4) = m' (((0 : Dev Cert.Reference.nD).tc : Thread Cert.Reference.nD Cert.Reference.τ).loc Cert.Reference.main_arg4)
          ∧ r.2.mem (((0 : Dev Cert.Reference.nD).tc : Thread Cert.Reference.nD Cert.Reference.τ).loc Cert.Reference.main_arg5) = m' (((0 : Dev Cert.Reference.nD).tc : Thread Cert.Reference.nD Cert.Reference.τ).loc Cert.Reference.main_arg5)
          ∧ r.2.mem (((0 : Dev Cert.Reference.nD).tc : Thread Cert.Reference.nD Cert.Reference.τ).loc Cert.Reference.main_arg6) = m' (((0 : Dev Cert.Reference.nD).tc : Thread Cert.Reference.nD Cert.Reference.τ).loc Cert.Reference.main_arg6))

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨3, ![4, 1024, 448]⟩ ⟨3, ![4, 1024, 1792]⟩ (Layout.meshBlock [2, 2, 2] ![[], [], [0, 1]] c) (m' (((0 : Dev Cert.GatherReferenceIdeal.nD).tc : Thread Cert.GatherReferenceIdeal.nD Cert.GatherReferenceIdeal.τ).loc Cert.GatherReferenceIdeal.main_arg0))
      ∧ m ((c.tc : Thread Cert.GatherIdeal.nD Cert.GatherIdeal.τ).loc Cert.GatherIdeal.main_arg1) = Layout.blockN ⟨3, ![4, 256, 1024]⟩ ⟨3, ![4, 1024, 1024]⟩ (Layout.meshBlock [2, 2, 2] ![[], [0, 1], []] c) (m' (((0 : Dev Cert.GatherReferenceIdeal.nD).tc : Thread Cert.GatherReferenceIdeal.nD Cert.GatherReferenceIdeal.τ).loc Cert.GatherReferenceIdeal.main_arg1))
      ∧ m ((c.tc : Thread Cert.GatherIdeal.nD Cert.GatherIdeal.τ).loc Cert.GatherIdeal.main_arg2) = Layout.blockN ⟨3, ![4, 1024, 704]⟩ ⟨3, ![4, 1024, 2816]⟩ (Layout.meshBlock [2, 2, 2] ![[], [], [0, 1]] c) (m' (((0 : Dev Cert.GatherReferenceIdeal.nD).tc : Thread Cert.GatherReferenceIdeal.nD Cert.GatherReferenceIdeal.τ).loc Cert.GatherReferenceIdeal.main_arg2))
      ∧ m ((c.tc : Thread Cert.GatherIdeal.nD Cert.GatherIdeal.τ).loc Cert.GatherIdeal.main_arg3) = Layout.blockN ⟨3, ![4, 1024, 704]⟩ ⟨3, ![4, 1024, 2816]⟩ (Layout.meshBlock [2, 2, 2] ![[], [], [0, 1]] c) (m' (((0 : Dev Cert.GatherReferenceIdeal.nD).tc : Thread Cert.GatherReferenceIdeal.nD Cert.GatherReferenceIdeal.τ).loc Cert.GatherReferenceIdeal.main_arg3))
      ∧ m ((c.tc : Thread Cert.GatherIdeal.nD Cert.GatherIdeal.τ).loc Cert.GatherIdeal.main_arg4) = Layout.blockN ⟨3, ![4, 704, 1024]⟩ ⟨3, ![4, 2816, 1024]⟩ (Layout.meshBlock [2, 2, 2] ![[], [0, 1], []] c) (m' (((0 : Dev Cert.GatherReferenceIdeal.nD).tc : Thread Cert.GatherReferenceIdeal.nD Cert.GatherReferenceIdeal.τ).loc Cert.GatherReferenceIdeal.main_arg4))
      ∧ m ((c.tc : Thread Cert.GatherIdeal.nD Cert.GatherIdeal.τ).loc Cert.GatherIdeal.main_arg5) = Layout.blockN ⟨3, ![4, 256, 256]⟩ ⟨3, ![4, 256, 1024]⟩ (Layout.meshBlock [2, 2, 2] ![[], [], [0, 1]] c) (m' (((0 : Dev Cert.GatherReferenceIdeal.nD).tc : Thread Cert.GatherReferenceIdeal.nD Cert.GatherReferenceIdeal.τ).loc Cert.GatherReferenceIdeal.main_arg5))
      ∧ m ((c.tc : Thread Cert.GatherIdeal.nD Cert.GatherIdeal.τ).loc Cert.GatherIdeal.main_arg6) = Layout.blockN ⟨3, ![4, 256, 1024]⟩ ⟨3, ![4, 1024, 1024]⟩ (Layout.meshBlock [2, 2, 2] ![[], [0, 1], []] c) (m' (((0 : Dev Cert.GatherReferenceIdeal.nD).tc : Thread Cert.GatherReferenceIdeal.nD Cert.GatherReferenceIdeal.τ).loc Cert.GatherReferenceIdeal.main_arg6))) →
    ∃ (v0 : Buf (Elt Ideal) (((0 : Dev Cert.GatherReferenceIdeal.nD).tc : Thread Cert.GatherReferenceIdeal.nD Cert.GatherReferenceIdeal.τ).loc Cert.GatherReferenceIdeal.main_v1)) (v1 : Buf (Elt Ideal) (((0 : Dev Cert.GatherReferenceIdeal.nD).tc : Thread Cert.GatherReferenceIdeal.nD Cert.GatherReferenceIdeal.τ).loc Cert.GatherReferenceIdeal.main_v3)) (v2 : Buf (Elt Ideal) (((0 : Dev Cert.GatherReferenceIdeal.nD).tc : Thread Cert.GatherReferenceIdeal.nD Cert.GatherReferenceIdeal.τ).loc Cert.GatherReferenceIdeal.main_v5)) (v3 : Buf (Elt Ideal) (((0 : Dev Cert.GatherReferenceIdeal.nD).tc : Thread Cert.GatherReferenceIdeal.nD Cert.GatherReferenceIdeal.τ).loc Cert.GatherReferenceIdeal.main_v7)) (v4 : Buf (Elt Ideal) (((0 : Dev Cert.GatherReferenceIdeal.nD).tc : Thread Cert.GatherReferenceIdeal.nD Cert.GatherReferenceIdeal.τ).loc Cert.GatherReferenceIdeal.main_v9)) (v5 : Buf (Elt Ideal) (((0 : Dev Cert.GatherReferenceIdeal.nD).tc : Thread Cert.GatherReferenceIdeal.nD Cert.GatherReferenceIdeal.τ).loc Cert.GatherReferenceIdeal.main_v11)) (v6 : Buf (Elt Ideal) (((0 : Dev Cert.GatherReferenceIdeal.nD).tc : Thread Cert.GatherReferenceIdeal.nD Cert.GatherReferenceIdeal.τ).loc Cert.GatherReferenceIdeal.main_v13)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_v1_4) = v4
          ∧ r.2.mem ((c.tc : Thread Cert.GatherIdeal.nD Cert.GatherIdeal.τ).loc Cert.GatherIdeal.main_v1_5) = v5
          ∧ r.2.mem ((c.tc : Thread Cert.GatherIdeal.nD Cert.GatherIdeal.τ).loc Cert.GatherIdeal.main_v1_6) = v6
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
          ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
          ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v1) = v0
          ∧ r.2.mem (((0 : Dev Cert.GatherReferenceIdeal.nD).tc : Thread Cert.GatherReferenceIdeal.nD Cert.GatherReferenceIdeal.τ).loc Cert.GatherReferenceIdeal.main_v3) = v1
          ∧ r.2.mem (((0 : Dev Cert.GatherReferenceIdeal.nD).tc : Thread Cert.GatherReferenceIdeal.nD Cert.GatherReferenceIdeal.τ).loc Cert.GatherReferenceIdeal.main_v5) = v2
          ∧ r.2.mem (((0 : Dev Cert.GatherReferenceIdeal.nD).tc : Thread Cert.GatherReferenceIdeal.nD Cert.GatherReferenceIdeal.τ).loc Cert.GatherReferenceIdeal.main_v7) = v3
          ∧ r.2.mem (((0 : Dev Cert.GatherReferenceIdeal.nD).tc : Thread Cert.GatherReferenceIdeal.nD Cert.GatherReferenceIdeal.τ).loc Cert.GatherReferenceIdeal.main_v9) = v4
          ∧ r.2.mem (((0 : Dev Cert.GatherReferenceIdeal.nD).tc : Thread Cert.GatherReferenceIdeal.nD Cert.GatherReferenceIdeal.τ).loc Cert.GatherReferenceIdeal.main_v11) = v5
          ∧ r.2.mem (((0 : Dev Cert.GatherReferenceIdeal.nD).tc : Thread Cert.GatherReferenceIdeal.nD Cert.GatherReferenceIdeal.τ).loc Cert.GatherReferenceIdeal.main_v13) = v6
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0)
          ∧ r.2.mem (((0 : Dev Cert.GatherReferenceIdeal.nD).tc : Thread Cert.GatherReferenceIdeal.nD Cert.GatherReferenceIdeal.τ).loc Cert.GatherReferenceIdeal.main_arg1) = m' (((0 : Dev Cert.GatherReferenceIdeal.nD).tc : Thread Cert.GatherReferenceIdeal.nD Cert.GatherReferenceIdeal.τ).loc Cert.GatherReferenceIdeal.main_arg1)
          ∧ r.2.mem (((0 : Dev Cert.GatherReferenceIdeal.nD).tc : Thread Cert.GatherReferenceIdeal.nD Cert.GatherReferenceIdeal.τ).loc Cert.GatherReferenceIdeal.main_arg2) = m' (((0 : Dev Cert.GatherReferenceIdeal.nD).tc : Thread Cert.GatherReferenceIdeal.nD Cert.GatherReferenceIdeal.τ).loc Cert.GatherReferenceIdeal.main_arg2)
          ∧ r.2.mem (((0 : Dev Cert.GatherReferenceIdeal.nD).tc : Thread Cert.GatherReferenceIdeal.nD Cert.GatherReferenceIdeal.τ).loc Cert.GatherReferenceIdeal.main_arg3) = m' (((0 : Dev Cert.GatherReferenceIdeal.nD).tc : Thread Cert.GatherReferenceIdeal.nD Cert.GatherReferenceIdeal.τ).loc Cert.GatherReferenceIdeal.main_arg3)
          ∧ r.2.mem (((0 : Dev Cert.GatherReferenceIdeal.nD).tc : Thread Cert.GatherReferenceIdeal.nD Cert.GatherReferenceIdeal.τ).loc Cert.GatherReferenceIdeal.main_arg4) = m' (((0 : Dev Cert.GatherReferenceIdeal.nD).tc : Thread Cert.GatherReferenceIdeal.nD Cert.GatherReferenceIdeal.τ).loc Cert.GatherReferenceIdeal.main_arg4)
          ∧ r.2.mem (((0 : Dev Cert.GatherReferenceIdeal.nD).tc : Thread Cert.GatherReferenceIdeal.nD Cert.GatherReferenceIdeal.τ).loc Cert.GatherReferenceIdeal.main_arg5) = m' (((0 : Dev Cert.GatherReferenceIdeal.nD).tc : Thread Cert.GatherReferenceIdeal.nD Cert.GatherReferenceIdeal.τ).loc Cert.GatherReferenceIdeal.main_arg5)
          ∧ r.2.mem (((0 : Dev Cert.GatherReferenceIdeal.nD).tc : Thread Cert.GatherReferenceIdeal.nD Cert.GatherReferenceIdeal.τ).loc Cert.GatherReferenceIdeal.main_arg6) = m' (((0 : Dev Cert.GatherReferenceIdeal.nD).tc : Thread Cert.GatherReferenceIdeal.nD Cert.GatherReferenceIdeal.τ).loc Cert.GatherReferenceIdeal.main_arg6))

def bitexact_Gather_GatherReference [hGather : Cert.Gather.Facts] [hGatherReference : Cert.GatherReference.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m ((c.tc : Thread Cert.Gather.nD Cert.Gather.τ).loc Cert.Gather.main_arg0) = Layout.blockN ⟨3, ![4, 1024, 448]⟩ ⟨3, ![4, 1024, 1792]⟩ (Layout.meshBlock [2, 2, 2] ![[], [], [0, 1]] c) (m' (((0 : Dev Cert.GatherReference.nD).tc : Thread Cert.GatherReference.nD Cert.GatherReference.τ).loc Cert.GatherReference.main_arg0))
      ∧ m ((c.tc : Thread Cert.Gather.nD Cert.Gather.τ).loc Cert.Gather.main_arg1) = Layout.blockN ⟨3, ![4, 256, 1024]⟩ ⟨3, ![4, 1024, 1024]⟩ (Layout.meshBlock [2, 2, 2] ![[], [0, 1], []] c) (m' (((0 : Dev Cert.GatherReference.nD).tc : Thread Cert.GatherReference.nD Cert.GatherReference.τ).loc Cert.GatherReference.main_arg1))
      ∧ m ((c.tc : Thread Cert.Gather.nD Cert.Gather.τ).loc Cert.Gather.main_arg2) = Layout.blockN ⟨3, ![4, 1024, 704]⟩ ⟨3, ![4, 1024, 2816]⟩ (Layout.meshBlock [2, 2, 2] ![[], [], [0, 1]] c) (m' (((0 : Dev Cert.GatherReference.nD).tc : Thread Cert.GatherReference.nD Cert.GatherReference.τ).loc Cert.GatherReference.main_arg2))
      ∧ m ((c.tc : Thread Cert.Gather.nD Cert.Gather.τ).loc Cert.Gather.main_arg3) = Layout.blockN ⟨3, ![4, 1024, 704]⟩ ⟨3, ![4, 1024, 2816]⟩ (Layout.meshBlock [2, 2, 2] ![[], [], [0, 1]] c) (m' (((0 : Dev Cert.GatherReference.nD).tc : Thread Cert.GatherReference.nD Cert.GatherReference.τ).loc Cert.GatherReference.main_arg3))
      ∧ m ((c.tc : Thread Cert.Gather.nD Cert.Gather.τ).loc Cert.Gather.main_arg4) = Layout.blockN ⟨3, ![4, 704, 1024]⟩ ⟨3, ![4, 2816, 1024]⟩ (Layout.meshBlock [2, 2, 2] ![[], [0, 1], []] c) (m' (((0 : Dev Cert.GatherReference.nD).tc : Thread Cert.GatherReference.nD Cert.GatherReference.τ).loc Cert.GatherReference.main_arg4))
      ∧ m ((c.tc : Thread Cert.Gather.nD Cert.Gather.τ).loc Cert.Gather.main_arg5) = Layout.blockN ⟨3, ![4, 256, 256]⟩ ⟨3, ![4, 256, 1024]⟩ (Layout.meshBlock [2, 2, 2] ![[], [], [0, 1]] c) (m' (((0 : Dev Cert.GatherReference.nD).tc : Thread Cert.GatherReference.nD Cert.GatherReference.τ).loc Cert.GatherReference.main_arg5))
      ∧ m ((c.tc : Thread Cert.Gather.nD Cert.Gather.τ).loc Cert.Gather.main_arg6) = Layout.blockN ⟨3, ![4, 256, 1024]⟩ ⟨3, ![4, 1024, 1024]⟩ (Layout.meshBlock [2, 2, 2] ![[], [0, 1], []] c) (m' (((0 : Dev Cert.GatherReference.nD).tc : Thread Cert.GatherReference.nD Cert.GatherReference.τ).loc Cert.GatherReference.main_arg6))) →
    ∃ (v0 : Buf (Elt Bits) (((0 : Dev Cert.GatherReference.nD).tc : Thread Cert.GatherReference.nD Cert.GatherReference.τ).loc Cert.GatherReference.main_v1)) (v1 : Buf (Elt Bits) (((0 : Dev Cert.GatherReference.nD).tc : Thread Cert.GatherReference.nD Cert.GatherReference.τ).loc Cert.GatherReference.main_v3)) (v2 : Buf (Elt Bits) (((0 : Dev Cert.GatherReference.nD).tc : Thread Cert.GatherReference.nD Cert.GatherReference.τ).loc Cert.GatherReference.main_v5)) (v3 : Buf (Elt Bits) (((0 : Dev Cert.GatherReference.nD).tc : Thread Cert.GatherReference.nD Cert.GatherReference.τ).loc Cert.GatherReference.main_v7)) (v4 : Buf (Elt Bits) (((0 : Dev Cert.GatherReference.nD).tc : Thread Cert.GatherReference.nD Cert.GatherReference.τ).loc Cert.GatherReference.main_v9)) (v5 : Buf (Elt Bits) (((0 : Dev Cert.GatherReference.nD).tc : Thread Cert.GatherReference.nD Cert.GatherReference.τ).loc Cert.GatherReference.main_v11)) (v6 : Buf (Elt Bits) (((0 : Dev Cert.GatherReference.nD).tc : Thread Cert.GatherReference.nD Cert.GatherReference.τ).loc Cert.GatherReference.main_v13)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_v1_4) = v4
          ∧ r.2.mem ((c.tc : Thread Cert.Gather.nD Cert.Gather.τ).loc Cert.Gather.main_v1_5) = v5
          ∧ r.2.mem ((c.tc : Thread Cert.Gather.nD Cert.Gather.τ).loc Cert.Gather.main_v1_6) = v6
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3)
          ∧ r.2.mem ((c.tc : Thread Cert.Gather.nD Cert.Gather.τ).loc Cert.Gather.main_arg4) = m ((c.tc : Thread Cert.Gather.nD Cert.Gather.τ).loc Cert.Gather.main_arg4)
          ∧ r.2.mem ((c.tc : Thread Cert.Gather.nD Cert.Gather.τ).loc Cert.Gather.main_arg5) = m ((c.tc : Thread Cert.Gather.nD Cert.Gather.τ).loc Cert.Gather.main_arg5)
          ∧ r.2.mem ((c.tc : Thread Cert.Gather.nD Cert.Gather.τ).loc Cert.Gather.main_arg6) = m ((c.tc : Thread Cert.Gather.nD Cert.Gather.τ).loc Cert.Gather.main_arg6))
      ∧ θ_run (Cert.GatherReference.defs (F := Bits)) (onTc (τ := Cert.GatherReference.τ) (Cert.GatherReference.main (F := Bits))) ⟨m', fun _ => 0, g'⟩ (fun r =>
          r.2.mem (((0 : Dev Cert.GatherReference.nD).tc : Thread Cert.GatherReference.nD Cert.GatherReference.τ).loc Cert.GatherReference.main_v1) = v0
          ∧ r.2.mem (((0 : Dev Cert.GatherReference.nD).tc : Thread Cert.GatherReference.nD Cert.GatherReference.τ).loc Cert.GatherReference.main_v3) = v1
          ∧ r.2.mem (((0 : Dev Cert.GatherReference.nD).tc : Thread Cert.GatherReference.nD Cert.GatherReference.τ).loc Cert.GatherReference.main_v5) = v2
          ∧ r.2.mem (((0 : Dev Cert.GatherReference.nD).tc : Thread Cert.GatherReference.nD Cert.GatherReference.τ).loc Cert.GatherReference.main_v7) = v3
          ∧ r.2.mem (((0 : Dev Cert.GatherReference.nD).tc : Thread Cert.GatherReference.nD Cert.GatherReference.τ).loc Cert.GatherReference.main_v9) = v4
          ∧ r.2.mem (((0 : Dev Cert.GatherReference.nD).tc : Thread Cert.GatherReference.nD Cert.GatherReference.τ).loc Cert.GatherReference.main_v11) = v5
          ∧ r.2.mem (((0 : Dev Cert.GatherReference.nD).tc : Thread Cert.GatherReference.nD Cert.GatherReference.τ).loc Cert.GatherReference.main_v13) = v6
          ∧ r.2.mem (((0 : Dev Cert.GatherReference.nD).tc : Thread Cert.GatherReference.nD Cert.GatherReference.τ).loc Cert.GatherReference.main_arg0) = m' (((0 : Dev Cert.GatherReference.nD).tc : Thread Cert.GatherReference.nD Cert.GatherReference.τ).loc Cert.GatherReference.main_arg0)
          ∧ r.2.mem (((0 : Dev Cert.GatherReference.nD).tc : Thread Cert.GatherReference.nD Cert.GatherReference.τ).loc Cert.GatherReference.main_arg1) = m' (((0 : Dev Cert.GatherReference.nD).tc : Thread Cert.GatherReference.nD Cert.GatherReference.τ).loc Cert.GatherReference.main_arg1)
          ∧ r.2.mem (((0 : Dev Cert.GatherReference.nD).tc : Thread Cert.GatherReference.nD Cert.GatherReference.τ).loc Cert.GatherReference.main_arg2) = m' (((0 : Dev Cert.GatherReference.nD).tc : Thread Cert.GatherReference.nD Cert.GatherReference.τ).loc Cert.GatherReference.main_arg2)
          ∧ r.2.mem (((0 : Dev Cert.GatherReference.nD).tc : Thread Cert.GatherReference.nD Cert.GatherReference.τ).loc Cert.GatherReference.main_arg3) = m' (((0 : Dev Cert.GatherReference.nD).tc : Thread Cert.GatherReference.nD Cert.GatherReference.τ).loc Cert.GatherReference.main_arg3)
          ∧ r.2.mem (((0 : Dev Cert.GatherReference.nD).tc : Thread Cert.GatherReference.nD Cert.GatherReference.τ).loc Cert.GatherReference.main_arg4) = m' (((0 : Dev Cert.GatherReference.nD).tc : Thread Cert.GatherReference.nD Cert.GatherReference.τ).loc Cert.GatherReference.main_arg4)
          ∧ r.2.mem (((0 : Dev Cert.GatherReference.nD).tc : Thread Cert.GatherReference.nD Cert.GatherReference.τ).loc Cert.GatherReference.main_arg5) = m' (((0 : Dev Cert.GatherReference.nD).tc : Thread Cert.GatherReference.nD Cert.GatherReference.τ).loc Cert.GatherReference.main_arg5)
          ∧ r.2.mem (((0 : Dev Cert.GatherReference.nD).tc : Thread Cert.GatherReference.nD Cert.GatherReference.τ).loc Cert.GatherReference.main_arg6) = m' (((0 : Dev Cert.GatherReference.nD).tc : Thread Cert.GatherReference.nD Cert.GatherReference.τ).loc Cert.GatherReference.main_arg6))

def preserves_Sibling_SiblingIdeal : Prop :=
  True

def algebraic_SiblingIdeal_SiblingReferenceIdeal [hSiblingIdeal : Cert.SiblingIdeal.Facts] [hSiblingReferenceIdeal : Cert.SiblingReferenceIdeal.Facts] : Prop :=
  ∀ (m : (ℓ : Loc Cert.SiblingIdeal.nD Cert.SiblingIdeal.τ Cert.SiblingIdeal.sig) → Buf (Elt Ideal) ℓ) (g : Dev Cert.SiblingIdeal.nD → PrngReg)
    (m' : (ℓ : Loc Cert.SiblingReferenceIdeal.nD Cert.SiblingReferenceIdeal.τ Cert.SiblingReferenceIdeal.sig) → Buf (Elt Ideal) ℓ) (g' : Dev Cert.SiblingReferenceIdeal.nD → PrngReg), Pre_SiblingIdeal m →
    (∀ c : Dev Cert.SiblingIdeal.nD,
      m ((c.tc : Thread Cert.SiblingIdeal.nD Cert.SiblingIdeal.τ).loc Cert.SiblingIdeal.main_arg0) = Layout.block ⟨2, ![4096, 448]⟩ ⟨2, ![32768, 448]⟩ 0 8 c (m' (((0 : Dev Cert.SiblingReferenceIdeal.nD).tc : Thread Cert.SiblingReferenceIdeal.nD Cert.SiblingReferenceIdeal.τ).loc Cert.SiblingReferenceIdeal.main_arg0))
      ∧ m ((c.tc : Thread Cert.SiblingIdeal.nD Cert.SiblingIdeal.τ).loc Cert.SiblingIdeal.main_arg1) = Layout.block ⟨2, ![1024, 1024]⟩ ⟨2, ![8192, 1024]⟩ 0 8 c (m' (((0 : Dev Cert.SiblingReferenceIdeal.nD).tc : Thread Cert.SiblingReferenceIdeal.nD Cert.SiblingReferenceIdeal.τ).loc Cert.SiblingReferenceIdeal.main_arg1))
      ∧ m ((c.tc : Thread Cert.SiblingIdeal.nD Cert.SiblingIdeal.τ).loc Cert.SiblingIdeal.main_arg2) = Layout.block ⟨2, ![4096, 704]⟩ ⟨2, ![32768, 704]⟩ 0 8 c (m' (((0 : Dev Cert.SiblingReferenceIdeal.nD).tc : Thread Cert.SiblingReferenceIdeal.nD Cert.SiblingReferenceIdeal.τ).loc Cert.SiblingReferenceIdeal.main_arg2))
      ∧ m ((c.tc : Thread Cert.SiblingIdeal.nD Cert.SiblingIdeal.τ).loc Cert.SiblingIdeal.main_arg3) = Layout.block ⟨2, ![4096, 704]⟩ ⟨2, ![32768, 704]⟩ 0 8 c (m' (((0 : Dev Cert.SiblingReferenceIdeal.nD).tc : Thread Cert.SiblingReferenceIdeal.nD Cert.SiblingReferenceIdeal.τ).loc Cert.SiblingReferenceIdeal.main_arg3))
      ∧ m ((c.tc : Thread Cert.SiblingIdeal.nD Cert.SiblingIdeal.τ).loc Cert.SiblingIdeal.main_arg4) = Layout.block ⟨2, ![2816, 1024]⟩ ⟨2, ![22528, 1024]⟩ 0 8 c (m' (((0 : Dev Cert.SiblingReferenceIdeal.nD).tc : Thread Cert.SiblingReferenceIdeal.nD Cert.SiblingReferenceIdeal.τ).loc Cert.SiblingReferenceIdeal.main_arg4))
      ∧ m ((c.tc : Thread Cert.SiblingIdeal.nD Cert.SiblingIdeal.τ).loc Cert.SiblingIdeal.main_arg5) = Layout.block ⟨2, ![1024, 256]⟩ ⟨2, ![8192, 256]⟩ 0 8 c (m' (((0 : Dev Cert.SiblingReferenceIdeal.nD).tc : Thread Cert.SiblingReferenceIdeal.nD Cert.SiblingReferenceIdeal.τ).loc Cert.SiblingReferenceIdeal.main_arg5))
      ∧ m ((c.tc : Thread Cert.SiblingIdeal.nD Cert.SiblingIdeal.τ).loc Cert.SiblingIdeal.main_arg6) = Layout.block ⟨2, ![1024, 1024]⟩ ⟨2, ![8192, 1024]⟩ 0 8 c (m' (((0 : Dev Cert.SiblingReferenceIdeal.nD).tc : Thread Cert.SiblingReferenceIdeal.nD Cert.SiblingReferenceIdeal.τ).loc Cert.SiblingReferenceIdeal.main_arg6))) →
    ∃ (v0 : Buf (Elt Ideal) (((0 : Dev Cert.SiblingReferenceIdeal.nD).tc : Thread Cert.SiblingReferenceIdeal.nD Cert.SiblingReferenceIdeal.τ).loc Cert.SiblingReferenceIdeal.main_v2)) (v1 : Buf (Elt Ideal) (((0 : Dev Cert.SiblingReferenceIdeal.nD).tc : Thread Cert.SiblingReferenceIdeal.nD Cert.SiblingReferenceIdeal.τ).loc Cert.SiblingReferenceIdeal.main_v5)) (v2 : Buf (Elt Ideal) (((0 : Dev Cert.SiblingReferenceIdeal.nD).tc : Thread Cert.SiblingReferenceIdeal.nD Cert.SiblingReferenceIdeal.τ).loc Cert.SiblingReferenceIdeal.main_v8)) (v3 : Buf (Elt Ideal) (((0 : Dev Cert.SiblingReferenceIdeal.nD).tc : Thread Cert.SiblingReferenceIdeal.nD Cert.SiblingReferenceIdeal.τ).loc Cert.SiblingReferenceIdeal.main_v11)) (v4 : Buf (Elt Ideal) (((0 : Dev Cert.SiblingReferenceIdeal.nD).tc : Thread Cert.SiblingReferenceIdeal.nD Cert.SiblingReferenceIdeal.τ).loc Cert.SiblingReferenceIdeal.main_v14)) (v5 : Buf (Elt Ideal) (((0 : Dev Cert.SiblingReferenceIdeal.nD).tc : Thread Cert.SiblingReferenceIdeal.nD Cert.SiblingReferenceIdeal.τ).loc Cert.SiblingReferenceIdeal.main_v17)) (v6 : Buf (Elt Ideal) (((0 : Dev Cert.SiblingReferenceIdeal.nD).tc : Thread Cert.SiblingReferenceIdeal.nD Cert.SiblingReferenceIdeal.τ).loc Cert.SiblingReferenceIdeal.main_v20)),
      θ_run (Cert.SiblingIdeal.defs (F := Ideal)) (onTc (τ := Cert.SiblingIdeal.τ) (Cert.SiblingIdeal.main (F := Ideal))) ⟨m, fun _ => 0, g⟩ (fun r => ∀ c : Dev Cert.SiblingIdeal.nD,
          r.2.mem ((c.tc : Thread Cert.SiblingIdeal.nD Cert.SiblingIdeal.τ).loc Cert.SiblingIdeal.main_v1_0) = Layout.block ⟨2, ![4096, 448]⟩ ⟨2, ![32768, 448]⟩ 0 8 c v0
          ∧ r.2.mem ((c.tc : Thread Cert.SiblingIdeal.nD Cert.SiblingIdeal.τ).loc Cert.SiblingIdeal.main_v1_1) = Layout.block ⟨2, ![1024, 1024]⟩ ⟨2, ![8192, 1024]⟩ 0 8 c v1
          ∧ r.2.mem ((c.tc : Thread Cert.SiblingIdeal.nD Cert.SiblingIdeal.τ).loc Cert.SiblingIdeal.main_v1_2) = Layout.block ⟨2, ![4096, 704]⟩ ⟨2, ![32768, 704]⟩ 0 8 c v2
          ∧ r.2.mem ((c.tc : Thread Cert.SiblingIdeal.nD Cert.SiblingIdeal.τ).loc Cert.SiblingIdeal.main_v1_3) = Layout.block ⟨2, ![4096, 704]⟩ ⟨2, ![32768, 704]⟩ 0 8 c v3
          ∧ r.2.mem ((c.tc : Thread Cert.SiblingIdeal.nD Cert.SiblingIdeal.τ).loc Cert.SiblingIdeal.main_v1_4) = Layout.block ⟨2, ![2816, 1024]⟩ ⟨2, ![22528, 1024]⟩ 0 8 c v4
          ∧ r.2.mem ((c.tc : Thread Cert.SiblingIdeal.nD Cert.SiblingIdeal.τ).loc Cert.SiblingIdeal.main_v1_5) = Layout.block ⟨2, ![1024, 256]⟩ ⟨2, ![8192, 256]⟩ 0 8 c v5
          ∧ r.2.mem ((c.tc : Thread Cert.SiblingIdeal.nD Cert.SiblingIdeal.τ).loc Cert.SiblingIdeal.main_v1_6) = Layout.block ⟨2, ![1024, 1024]⟩ ⟨2, ![8192, 1024]⟩ 0 8 c v6
          ∧ r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0)
          ∧ r.2.mem ((c.tc : Thread Cert.SiblingIdeal.nD Cert.SiblingIdeal.τ).loc Cert.SiblingIdeal.main_arg1) = m ((c.tc : Thread Cert.SiblingIdeal.nD Cert.SiblingIdeal.τ).loc Cert.SiblingIdeal.main_arg1)
          ∧ r.2.mem ((c.tc : Thread Cert.SiblingIdeal.nD Cert.SiblingIdeal.τ).loc Cert.SiblingIdeal.main_arg2) = m ((c.tc : Thread Cert.SiblingIdeal.nD Cert.SiblingIdeal.τ).loc Cert.SiblingIdeal.main_arg2)
          ∧ r.2.mem ((c.tc : Thread Cert.SiblingIdeal.nD Cert.SiblingIdeal.τ).loc Cert.SiblingIdeal.main_arg3) = m ((c.tc : Thread Cert.SiblingIdeal.nD Cert.SiblingIdeal.τ).loc Cert.SiblingIdeal.main_arg3)
          ∧ r.2.mem ((c.tc : Thread Cert.SiblingIdeal.nD Cert.SiblingIdeal.τ).loc Cert.SiblingIdeal.main_arg4) = m ((c.tc : Thread Cert.SiblingIdeal.nD Cert.SiblingIdeal.τ).loc Cert.SiblingIdeal.main_arg4)
          ∧ r.2.mem ((c.tc : Thread Cert.SiblingIdeal.nD Cert.SiblingIdeal.τ).loc Cert.SiblingIdeal.main_arg5) = m ((c.tc : Thread Cert.SiblingIdeal.nD Cert.SiblingIdeal.τ).loc Cert.SiblingIdeal.main_arg5)
          ∧ r.2.mem ((c.tc : Thread Cert.SiblingIdeal.nD Cert.SiblingIdeal.τ).loc Cert.SiblingIdeal.main_arg6) = m ((c.tc : Thread Cert.SiblingIdeal.nD Cert.SiblingIdeal.τ).loc Cert.SiblingIdeal.main_arg6))
      ∧ θ_run (Cert.SiblingReferenceIdeal.defs (F := Ideal)) (onTc (τ := Cert.SiblingReferenceIdeal.τ) (Cert.SiblingReferenceIdeal.main (F := Ideal))) ⟨m', fun _ => 0, g'⟩ (fun r =>
          r.2.mem (((0 : Dev Cert.SiblingReferenceIdeal.nD).tc : Thread Cert.SiblingReferenceIdeal.nD Cert.SiblingReferenceIdeal.τ).loc Cert.SiblingReferenceIdeal.main_v2) = v0
          ∧ r.2.mem (((0 : Dev Cert.SiblingReferenceIdeal.nD).tc : Thread Cert.SiblingReferenceIdeal.nD Cert.SiblingReferenceIdeal.τ).loc Cert.SiblingReferenceIdeal.main_v5) = v1
          ∧ r.2.mem (((0 : Dev Cert.SiblingReferenceIdeal.nD).tc : Thread Cert.SiblingReferenceIdeal.nD Cert.SiblingReferenceIdeal.τ).loc Cert.SiblingReferenceIdeal.main_v8) = v2
          ∧ r.2.mem (((0 : Dev Cert.SiblingReferenceIdeal.nD).tc : Thread Cert.SiblingReferenceIdeal.nD Cert.SiblingReferenceIdeal.τ).loc Cert.SiblingReferenceIdeal.main_v11) = v3
          ∧ r.2.mem (((0 : Dev Cert.SiblingReferenceIdeal.nD).tc : Thread Cert.SiblingReferenceIdeal.nD Cert.SiblingReferenceIdeal.τ).loc Cert.SiblingReferenceIdeal.main_v14) = v4
          ∧ r.2.mem (((0 : Dev Cert.SiblingReferenceIdeal.nD).tc : Thread Cert.SiblingReferenceIdeal.nD Cert.SiblingReferenceIdeal.τ).loc Cert.SiblingReferenceIdeal.main_v17) = v5
          ∧ r.2.mem (((0 : Dev Cert.SiblingReferenceIdeal.nD).tc : Thread Cert.SiblingReferenceIdeal.nD Cert.SiblingReferenceIdeal.τ).loc Cert.SiblingReferenceIdeal.main_v20) = v6
          ∧ r.2.mem (((0 : Dev Cert.SiblingReferenceIdeal.nD).tc : Thread Cert.SiblingReferenceIdeal.nD Cert.SiblingReferenceIdeal.τ).loc Cert.SiblingReferenceIdeal.main_arg0) = m' (((0 : Dev Cert.SiblingReferenceIdeal.nD).tc : Thread Cert.SiblingReferenceIdeal.nD Cert.SiblingReferenceIdeal.τ).loc Cert.SiblingReferenceIdeal.main_arg0)
          ∧ r.2.mem (((0 : Dev Cert.SiblingReferenceIdeal.nD).tc : Thread Cert.SiblingReferenceIdeal.nD Cert.SiblingReferenceIdeal.τ).loc Cert.SiblingReferenceIdeal.main_arg1) = m' (((0 : Dev Cert.SiblingReferenceIdeal.nD).tc : Thread Cert.SiblingReferenceIdeal.nD Cert.SiblingReferenceIdeal.τ).loc Cert.SiblingReferenceIdeal.main_arg1)
          ∧ r.2.mem (((0 : Dev Cert.SiblingReferenceIdeal.nD).tc : Thread Cert.SiblingReferenceIdeal.nD Cert.SiblingReferenceIdeal.τ).loc Cert.SiblingReferenceIdeal.main_arg2) = m' (((0 : Dev Cert.SiblingReferenceIdeal.nD).tc : Thread Cert.SiblingReferenceIdeal.nD Cert.SiblingReferenceIdeal.τ).loc Cert.SiblingReferenceIdeal.main_arg2)
          ∧ r.2.mem (((0 : Dev Cert.SiblingReferenceIdeal.nD).tc : Thread Cert.SiblingReferenceIdeal.nD Cert.SiblingReferenceIdeal.τ).loc Cert.SiblingReferenceIdeal.main_arg3) = m' (((0 : Dev Cert.SiblingReferenceIdeal.nD).tc : Thread Cert.SiblingReferenceIdeal.nD Cert.SiblingReferenceIdeal.τ).loc Cert.SiblingReferenceIdeal.main_arg3)
          ∧ r.2.mem (((0 : Dev Cert.SiblingReferenceIdeal.nD).tc : Thread Cert.SiblingReferenceIdeal.nD Cert.SiblingReferenceIdeal.τ).loc Cert.SiblingReferenceIdeal.main_arg4) = m' (((0 : Dev Cert.SiblingReferenceIdeal.nD).tc : Thread Cert.SiblingReferenceIdeal.nD Cert.SiblingReferenceIdeal.τ).loc Cert.SiblingReferenceIdeal.main_arg4)
          ∧ r.2.mem (((0 : Dev Cert.SiblingReferenceIdeal.nD).tc : Thread Cert.SiblingReferenceIdeal.nD Cert.SiblingReferenceIdeal.τ).loc Cert.SiblingReferenceIdeal.main_arg5) = m' (((0 : Dev Cert.SiblingReferenceIdeal.nD).tc : Thread Cert.SiblingReferenceIdeal.nD Cert.SiblingReferenceIdeal.τ).loc Cert.SiblingReferenceIdeal.main_arg5)
          ∧ r.2.mem (((0 : Dev Cert.SiblingReferenceIdeal.nD).tc : Thread Cert.SiblingReferenceIdeal.nD Cert.SiblingReferenceIdeal.τ).loc Cert.SiblingReferenceIdeal.main_arg6) = m' (((0 : Dev Cert.SiblingReferenceIdeal.nD).tc : Thread Cert.SiblingReferenceIdeal.nD Cert.SiblingReferenceIdeal.τ).loc Cert.SiblingReferenceIdeal.main_arg6))

def bitexact_Sibling_SiblingReference [hSibling : Cert.Sibling.Facts] [hSiblingReference : Cert.SiblingReference.Facts] : Prop :=
  ∀ (m : (ℓ : Loc Cert.Sibling.nD Cert.Sibling.τ Cert.Sibling.sig) → Buf (Elt Bits) ℓ) (g : Dev Cert.Sibling.nD → PrngReg)
    (m' : (ℓ : Loc Cert.SiblingReference.nD Cert.SiblingReference.τ Cert.SiblingReference.sig) → Buf (Elt Bits) ℓ) (g' : Dev Cert.SiblingReference.nD → PrngReg), Pre_Sibling m →
    (∀ c : Dev Cert.Sibling.nD,
      m ((c.tc : Thread Cert.Sibling.nD Cert.Sibling.τ).loc Cert.Sibling.main_arg0) = Layout.block ⟨2, ![4096, 448]⟩ ⟨2, ![32768, 448]⟩ 0 8 c (m' (((0 : Dev Cert.SiblingReference.nD).tc : Thread Cert.SiblingReference.nD Cert.SiblingReference.τ).loc Cert.SiblingReference.main_arg0))
      ∧ m ((c.tc : Thread Cert.Sibling.nD Cert.Sibling.τ).loc Cert.Sibling.main_arg1) = Layout.block ⟨2, ![1024, 1024]⟩ ⟨2, ![8192, 1024]⟩ 0 8 c (m' (((0 : Dev Cert.SiblingReference.nD).tc : Thread Cert.SiblingReference.nD Cert.SiblingReference.τ).loc Cert.SiblingReference.main_arg1))
      ∧ m ((c.tc : Thread Cert.Sibling.nD Cert.Sibling.τ).loc Cert.Sibling.main_arg2) = Layout.block ⟨2, ![4096, 704]⟩ ⟨2, ![32768, 704]⟩ 0 8 c (m' (((0 : Dev Cert.SiblingReference.nD).tc : Thread Cert.SiblingReference.nD Cert.SiblingReference.τ).loc Cert.SiblingReference.main_arg2))
      ∧ m ((c.tc : Thread Cert.Sibling.nD Cert.Sibling.τ).loc Cert.Sibling.main_arg3) = Layout.block ⟨2, ![4096, 704]⟩ ⟨2, ![32768, 704]⟩ 0 8 c (m' (((0 : Dev Cert.SiblingReference.nD).tc : Thread Cert.SiblingReference.nD Cert.SiblingReference.τ).loc Cert.SiblingReference.main_arg3))
      ∧ m ((c.tc : Thread Cert.Sibling.nD Cert.Sibling.τ).loc Cert.Sibling.main_arg4) = Layout.block ⟨2, ![2816, 1024]⟩ ⟨2, ![22528, 1024]⟩ 0 8 c (m' (((0 : Dev Cert.SiblingReference.nD).tc : Thread Cert.SiblingReference.nD Cert.SiblingReference.τ).loc Cert.SiblingReference.main_arg4))
      ∧ m ((c.tc : Thread Cert.Sibling.nD Cert.Sibling.τ).loc Cert.Sibling.main_arg5) = Layout.block ⟨2, ![1024, 256]⟩ ⟨2, ![8192, 256]⟩ 0 8 c (m' (((0 : Dev Cert.SiblingReference.nD).tc : Thread Cert.SiblingReference.nD Cert.SiblingReference.τ).loc Cert.SiblingReference.main_arg5))
      ∧ m ((c.tc : Thread Cert.Sibling.nD Cert.Sibling.τ).loc Cert.Sibling.main_arg6) = Layout.block ⟨2, ![1024, 1024]⟩ ⟨2, ![8192, 1024]⟩ 0 8 c (m' (((0 : Dev Cert.SiblingReference.nD).tc : Thread Cert.SiblingReference.nD Cert.SiblingReference.τ).loc Cert.SiblingReference.main_arg6))) →
    ∃ (v0 : Buf (Elt Bits) (((0 : Dev Cert.SiblingReference.nD).tc : Thread Cert.SiblingReference.nD Cert.SiblingReference.τ).loc Cert.SiblingReference.main_v2)) (v1 : Buf (Elt Bits) (((0 : Dev Cert.SiblingReference.nD).tc : Thread Cert.SiblingReference.nD Cert.SiblingReference.τ).loc Cert.SiblingReference.main_v5)) (v2 : Buf (Elt Bits) (((0 : Dev Cert.SiblingReference.nD).tc : Thread Cert.SiblingReference.nD Cert.SiblingReference.τ).loc Cert.SiblingReference.main_v8)) (v3 : Buf (Elt Bits) (((0 : Dev Cert.SiblingReference.nD).tc : Thread Cert.SiblingReference.nD Cert.SiblingReference.τ).loc Cert.SiblingReference.main_v11)) (v4 : Buf (Elt Bits) (((0 : Dev Cert.SiblingReference.nD).tc : Thread Cert.SiblingReference.nD Cert.SiblingReference.τ).loc Cert.SiblingReference.main_v14)) (v5 : Buf (Elt Bits) (((0 : Dev Cert.SiblingReference.nD).tc : Thread Cert.SiblingReference.nD Cert.SiblingReference.τ).loc Cert.SiblingReference.main_v17)) (v6 : Buf (Elt Bits) (((0 : Dev Cert.SiblingReference.nD).tc : Thread Cert.SiblingReference.nD Cert.SiblingReference.τ).loc Cert.SiblingReference.main_v20)),
      θ_run (Cert.Sibling.defs (F := Bits)) (onTc (τ := Cert.Sibling.τ) (Cert.Sibling.main (F := Bits))) ⟨m, fun _ => 0, g⟩ (fun r => ∀ c : Dev Cert.Sibling.nD,
          r.2.mem ((c.tc : Thread Cert.Sibling.nD Cert.Sibling.τ).loc Cert.Sibling.main_v1_0) = Layout.block ⟨2, ![4096, 448]⟩ ⟨2, ![32768, 448]⟩ 0 8 c v0
          ∧ r.2.mem ((c.tc : Thread Cert.Sibling.nD Cert.Sibling.τ).loc Cert.Sibling.main_v1_1) = Layout.block ⟨2, ![1024, 1024]⟩ ⟨2, ![8192, 1024]⟩ 0 8 c v1
          ∧ r.2.mem ((c.tc : Thread Cert.Sibling.nD Cert.Sibling.τ).loc Cert.Sibling.main_v1_2) = Layout.block ⟨2, ![4096, 704]⟩ ⟨2, ![32768, 704]⟩ 0 8 c v2
          ∧ r.2.mem ((c.tc : Thread Cert.Sibling.nD Cert.Sibling.τ).loc Cert.Sibling.main_v1_3) = Layout.block ⟨2, ![4096, 704]⟩ ⟨2, ![32768, 704]⟩ 0 8 c v3
          ∧ r.2.mem ((c.tc : Thread Cert.Sibling.nD Cert.Sibling.τ).loc Cert.Sibling.main_v1_4) = Layout.block ⟨2, ![2816, 1024]⟩ ⟨2, ![22528, 1024]⟩ 0 8 c v4
          ∧ r.2.mem ((c.tc : Thread Cert.Sibling.nD Cert.Sibling.τ).loc Cert.Sibling.main_v1_5) = Layout.block ⟨2, ![1024, 256]⟩ ⟨2, ![8192, 256]⟩ 0 8 c v5
          ∧ r.2.mem ((c.tc : Thread Cert.Sibling.nD Cert.Sibling.τ).loc Cert.Sibling.main_v1_6) = Layout.block ⟨2, ![1024, 1024]⟩ ⟨2, ![8192, 1024]⟩ 0 8 c v6
          ∧ r.2.mem ((c.tc : Thread Cert.Sibling.nD Cert.Sibling.τ).loc Cert.Sibling.main_arg0) = m ((c.tc : Thread Cert.Sibling.nD Cert.Sibling.τ).loc Cert.Sibling.main_arg0)
          ∧ r.2.mem ((c.tc : Thread Cert.Sibling.nD Cert.Sibling.τ).loc Cert.Sibling.main_arg1) = m ((c.tc : Thread Cert.Sibling.nD Cert.Sibling.τ).loc Cert.Sibling.main_arg1)
          ∧ r.2.mem ((c.tc : Thread Cert.Sibling.nD Cert.Sibling.τ).loc Cert.Sibling.main_arg2) = m ((c.tc : Thread Cert.Sibling.nD Cert.Sibling.τ).loc Cert.Sibling.main_arg2)
          ∧ r.2.mem ((c.tc : Thread Cert.Sibling.nD Cert.Sibling.τ).loc Cert.Sibling.main_arg3) = m ((c.tc : Thread Cert.Sibling.nD Cert.Sibling.τ).loc Cert.Sibling.main_arg3)
          ∧ r.2.mem ((c.tc : Thread Cert.Sibling.nD Cert.Sibling.τ).loc Cert.Sibling.main_arg4) = m ((c.tc : Thread Cert.Sibling.nD Cert.Sibling.τ).loc Cert.Sibling.main_arg4)
          ∧ r.2.mem ((c.tc : Thread Cert.Sibling.nD Cert.Sibling.τ).loc Cert.Sibling.main_arg5) = m ((c.tc : Thread Cert.Sibling.nD Cert.Sibling.τ).loc Cert.Sibling.main_arg5)
          ∧ r.2.mem ((c.tc : Thread Cert.Sibling.nD Cert.Sibling.τ).loc Cert.Sibling.main_arg6) = m ((c.tc : Thread Cert.Sibling.nD Cert.Sibling.τ).loc Cert.Sibling.main_arg6))
      ∧ θ_run (Cert.SiblingReference.defs (F := Bits)) (onTc (τ := Cert.SiblingReference.τ) (Cert.SiblingReference.main (F := Bits))) ⟨m', fun _ => 0, g'⟩ (fun r =>
          r.2.mem (((0 : Dev Cert.SiblingReference.nD).tc : Thread Cert.SiblingReference.nD Cert.SiblingReference.τ).loc Cert.SiblingReference.main_v2) = v0
          ∧ r.2.mem (((0 : Dev Cert.SiblingReference.nD).tc : Thread Cert.SiblingReference.nD Cert.SiblingReference.τ).loc Cert.SiblingReference.main_v5) = v1
          ∧ r.2.mem (((0 : Dev Cert.SiblingReference.nD).tc : Thread Cert.SiblingReference.nD Cert.SiblingReference.τ).loc Cert.SiblingReference.main_v8) = v2
          ∧ r.2.mem (((0 : Dev Cert.SiblingReference.nD).tc : Thread Cert.SiblingReference.nD Cert.SiblingReference.τ).loc Cert.SiblingReference.main_v11) = v3
          ∧ r.2.mem (((0 : Dev Cert.SiblingReference.nD).tc : Thread Cert.SiblingReference.nD Cert.SiblingReference.τ).loc Cert.SiblingReference.main_v14) = v4
          ∧ r.2.mem (((0 : Dev Cert.SiblingReference.nD).tc : Thread Cert.SiblingReference.nD Cert.SiblingReference.τ).loc Cert.SiblingReference.main_v17) = v5
          ∧ r.2.mem (((0 : Dev Cert.SiblingReference.nD).tc : Thread Cert.SiblingReference.nD Cert.SiblingReference.τ).loc Cert.SiblingReference.main_v20) = v6
          ∧ r.2.mem (((0 : Dev Cert.SiblingReference.nD).tc : Thread Cert.SiblingReference.nD Cert.SiblingReference.τ).loc Cert.SiblingReference.main_arg0) = m' (((0 : Dev Cert.SiblingReference.nD).tc : Thread Cert.SiblingReference.nD Cert.SiblingReference.τ).loc Cert.SiblingReference.main_arg0)
          ∧ r.2.mem (((0 : Dev Cert.SiblingReference.nD).tc : Thread Cert.SiblingReference.nD Cert.SiblingReference.τ).loc Cert.SiblingReference.main_arg1) = m' (((0 : Dev Cert.SiblingReference.nD).tc : Thread Cert.SiblingReference.nD Cert.SiblingReference.τ).loc Cert.SiblingReference.main_arg1)
          ∧ r.2.mem (((0 : Dev Cert.SiblingReference.nD).tc : Thread Cert.SiblingReference.nD Cert.SiblingReference.τ).loc Cert.SiblingReference.main_arg2) = m' (((0 : Dev Cert.SiblingReference.nD).tc : Thread Cert.SiblingReference.nD Cert.SiblingReference.τ).loc Cert.SiblingReference.main_arg2)
          ∧ r.2.mem (((0 : Dev Cert.SiblingReference.nD).tc : Thread Cert.SiblingReference.nD Cert.SiblingReference.τ).loc Cert.SiblingReference.main_arg3) = m' (((0 : Dev Cert.SiblingReference.nD).tc : Thread Cert.SiblingReference.nD Cert.SiblingReference.τ).loc Cert.SiblingReference.main_arg3)
          ∧ r.2.mem (((0 : Dev Cert.SiblingReference.nD).tc : Thread Cert.SiblingReference.nD Cert.SiblingReference.τ).loc Cert.SiblingReference.main_arg4) = m' (((0 : Dev Cert.SiblingReference.nD).tc : Thread Cert.SiblingReference.nD Cert.SiblingReference.τ).loc Cert.SiblingReference.main_arg4)
          ∧ r.2.mem (((0 : Dev Cert.SiblingReference.nD).tc : Thread Cert.SiblingReference.nD Cert.SiblingReference.τ).loc Cert.SiblingReference.main_arg5) = m' (((0 : Dev Cert.SiblingReference.nD).tc : Thread Cert.SiblingReference.nD Cert.SiblingReference.τ).loc Cert.SiblingReference.main_arg5)
          ∧ r.2.mem (((0 : Dev Cert.SiblingReference.nD).tc : Thread Cert.SiblingReference.nD Cert.SiblingReference.τ).loc Cert.SiblingReference.main_arg6) = m' (((0 : Dev Cert.SiblingReference.nD).tc : Thread Cert.SiblingReference.nD Cert.SiblingReference.τ).loc Cert.SiblingReference.main_arg6))

def preserves_Small_SmallIdeal : Prop :=
  True

def algebraic_SmallIdeal_SmallReferenceIdeal [hSmallIdeal : Cert.SmallIdeal.Facts] [hSmallReferenceIdeal : Cert.SmallReferenceIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallIdeal m →
    (∀ c : Dev Cert.SmallIdeal.nD,
      m ((c.tc : Thread Cert.SmallIdeal.nD Cert.SmallIdeal.τ).loc Cert.SmallIdeal.main_arg0) = Layout.block ⟨2, ![4608, 128]⟩ ⟨2, ![36864, 128]⟩ 0 8 c (m' (((0 : Dev Cert.SmallReferenceIdeal.nD).tc : Thread Cert.SmallReferenceIdeal.nD Cert.SmallReferenceIdeal.τ).loc Cert.SmallReferenceIdeal.main_arg0))) →
    ∃ (v0 : Buf (Elt Ideal) (((0 : Dev Cert.SmallReferenceIdeal.nD).tc : Thread Cert.SmallReferenceIdeal.nD Cert.SmallReferenceIdeal.τ).loc Cert.SmallReferenceIdeal.main_v0)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v1) = v0
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ θ_run (Cert.SmallReferenceIdeal.defs (F := Ideal)) (onTc (τ := Cert.SmallReferenceIdeal.τ) (Cert.SmallReferenceIdeal.main (F := Ideal))) ⟨m', fun _ => 0, g'⟩ (fun r =>
          r.2.mem (((0 : Dev Cert.SmallReferenceIdeal.nD).tc : Thread Cert.SmallReferenceIdeal.nD Cert.SmallReferenceIdeal.τ).loc Cert.SmallReferenceIdeal.main_v0) = v0
          ∧ r.2.mem (((0 : Dev Cert.SmallReferenceIdeal.nD).tc : Thread Cert.SmallReferenceIdeal.nD Cert.SmallReferenceIdeal.τ).loc Cert.SmallReferenceIdeal.main_arg0) = m' (((0 : Dev Cert.SmallReferenceIdeal.nD).tc : Thread Cert.SmallReferenceIdeal.nD Cert.SmallReferenceIdeal.τ).loc Cert.SmallReferenceIdeal.main_arg0))

def bitexact_Small_SmallReference [hSmall : Cert.Small.Facts] [hSmallReference : Cert.SmallReference.Facts] : Prop :=
  ∀ (m : (ℓ : Loc Cert.Small.nD Cert.Small.τ Cert.Small.sig) → Buf (Elt Bits) ℓ) (g : Dev Cert.Small.nD → PrngReg)
    (m' : (ℓ : Loc Cert.SmallReference.nD Cert.SmallReference.τ Cert.SmallReference.sig) → Buf (Elt Bits) ℓ) (g' : Dev Cert.SmallReference.nD → PrngReg), Pre_Small m →
    (∀ c : Dev Cert.Small.nD,
      m ((c.tc : Thread Cert.Small.nD Cert.Small.τ).loc Cert.Small.main_arg0) = Layout.block ⟨2, ![4608, 128]⟩ ⟨2, ![36864, 128]⟩ 0 8 c (m' (((0 : Dev Cert.SmallReference.nD).tc : Thread Cert.SmallReference.nD Cert.SmallReference.τ).loc Cert.SmallReference.main_arg0))) →
    ∃ (v0 : Buf (Elt Bits) (((0 : Dev Cert.SmallReference.nD).tc : Thread Cert.SmallReference.nD Cert.SmallReference.τ).loc Cert.SmallReference.main_v0)),
      θ_run (Cert.Small.defs (F := Bits)) (onTc (τ := Cert.Small.τ) (Cert.Small.main (F := Bits))) ⟨m, fun _ => 0, g⟩ (fun r => ∀ c : Dev Cert.Small.nD,
          r.2.mem ((c.tc : Thread Cert.Small.nD Cert.Small.τ).loc Cert.Small.main_v1) = v0
          ∧ r.2.mem ((c.tc : Thread Cert.Small.nD Cert.Small.τ).loc Cert.Small.main_arg0) = m ((c.tc : Thread Cert.Small.nD Cert.Small.τ).loc Cert.Small.main_arg0))
      ∧ θ_run (Cert.SmallReference.defs (F := Bits)) (onTc (τ := Cert.SmallReference.τ) (Cert.SmallReference.main (F := Bits))) ⟨m', fun _ => 0, g'⟩ (fun r =>
          r.2.mem (((0 : Dev Cert.SmallReference.nD).tc : Thread Cert.SmallReference.nD Cert.SmallReference.τ).loc Cert.SmallReference.main_v0) = v0
          ∧ r.2.mem (((0 : Dev Cert.SmallReference.nD).tc : Thread Cert.SmallReference.nD Cert.SmallReference.τ).loc Cert.SmallReference.main_arg0) = m' (((0 : Dev Cert.SmallReference.nD).tc : Thread Cert.SmallReference.nD Cert.SmallReference.τ).loc Cert.SmallReference.main_arg0))

def preserves_SumIn_SumInIdeal : Prop :=
  True

def algebraic_SumInIdeal_SumInReferenceIdeal [hSumInIdeal : Cert.SumInIdeal.Facts] [hSumInReferenceIdeal : Cert.SumInReferenceIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInReferenceIdeal.nD Cert.SumInReferenceIdeal.τ Cert.SumInReferenceIdeal.sig) → Buf (Elt Ideal) ℓ) (g' : Dev Cert.SumInReferenceIdeal.nD → PrngReg), Pre_SumInIdeal m →
    (∀ c : Dev Cert.SumInIdeal.nD,
      m' ((c.tc : Thread Cert.SumInReferenceIdeal.nD Cert.SumInReferenceIdeal.τ).loc Cert.SumInReferenceIdeal.main_arg0) = m ((c.tc : Thread Cert.SumInIdeal.nD Cert.SumInIdeal.τ).loc Cert.SumInIdeal.main_arg0)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ θ_run (Cert.SumInReferenceIdeal.defs (F := Ideal)) (onTc (τ := Cert.SumInReferenceIdeal.τ) (Cert.SumInReferenceIdeal.main (F := Ideal))) ⟨m', fun _ => 0, g'⟩ (fun r => ∀ c : Dev Cert.SumInReferenceIdeal.nD,
          r.2.mem ((c.tc : Thread Cert.SumInReferenceIdeal.nD Cert.SumInReferenceIdeal.τ).loc Cert.SumInReferenceIdeal.main_v0) = v0 c
          ∧ r.2.mem ((c.tc : Thread Cert.SumInReferenceIdeal.nD Cert.SumInReferenceIdeal.τ).loc Cert.SumInReferenceIdeal.main_arg0) = m' ((c.tc : Thread Cert.SumInReferenceIdeal.nD Cert.SumInReferenceIdeal.τ).loc Cert.SumInReferenceIdeal.main_arg0))

def preserves_UpdateIn_UpdateInIdeal : Prop :=
  True

def algebraic_UpdateInIdeal_UpdateInReferenceIdeal [hUpdateInIdeal : Cert.UpdateInIdeal.Facts] [hUpdateInReferenceIdeal : Cert.UpdateInReferenceIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg)
    (m' : (ℓ : Loc Cert.UpdateInReferenceIdeal.nD Cert.UpdateInReferenceIdeal.τ Cert.UpdateInReferenceIdeal.sig) → Buf (Elt Ideal) ℓ) (g' : Dev Cert.UpdateInReferenceIdeal.nD → PrngReg), Pre_UpdateInIdeal m →
    (∀ c : Dev Cert.UpdateInIdeal.nD,
      m' ((c.tc : Thread Cert.UpdateInReferenceIdeal.nD Cert.UpdateInReferenceIdeal.τ).loc Cert.UpdateInReferenceIdeal.main_arg0) = m ((c.tc : Thread Cert.UpdateInIdeal.nD Cert.UpdateInIdeal.τ).loc Cert.UpdateInIdeal.main_arg0)
      ∧ m' ((c.tc : Thread Cert.UpdateInReferenceIdeal.nD Cert.UpdateInReferenceIdeal.τ).loc Cert.UpdateInReferenceIdeal.main_arg1) = m ((c.tc : Thread Cert.UpdateInIdeal.nD Cert.UpdateInIdeal.τ).loc Cert.UpdateInIdeal.main_arg1)
      ∧ m' ((c.tc : Thread Cert.UpdateInReferenceIdeal.nD Cert.UpdateInReferenceIdeal.τ).loc Cert.UpdateInReferenceIdeal.main_arg2) = m ((c.tc : Thread Cert.UpdateInIdeal.nD Cert.UpdateInIdeal.τ).loc Cert.UpdateInIdeal.main_arg2)
      ∧ m' ((c.tc : Thread Cert.UpdateInReferenceIdeal.nD Cert.UpdateInReferenceIdeal.τ).loc Cert.UpdateInReferenceIdeal.main_arg3) = m ((c.tc : Thread Cert.UpdateInIdeal.nD Cert.UpdateInIdeal.τ).loc Cert.UpdateInIdeal.main_arg3)
      ∧ m' ((c.tc : Thread Cert.UpdateInReferenceIdeal.nD Cert.UpdateInReferenceIdeal.τ).loc Cert.UpdateInReferenceIdeal.main_arg4) = m ((c.tc : Thread Cert.UpdateInIdeal.nD Cert.UpdateInIdeal.τ).loc Cert.UpdateInIdeal.main_arg4)) →
    ∃ (v0 : (c : Dev Cert.UpdateInIdeal.nD) → Buf (Elt Ideal) ((c.tc : Thread Cert.UpdateInIdeal.nD Cert.UpdateInIdeal.τ).loc Cert.UpdateInIdeal.main_v0_0)) (v1 : (c : Dev Cert.UpdateInIdeal.nD) → Buf (Elt Ideal) ((c.tc : Thread Cert.UpdateInIdeal.nD Cert.UpdateInIdeal.τ).loc Cert.UpdateInIdeal.main_v0_1)) (v2 : (c : Dev Cert.UpdateInIdeal.nD) → Buf (Elt Ideal) ((c.tc : Thread Cert.UpdateInIdeal.nD Cert.UpdateInIdeal.τ).loc Cert.UpdateInIdeal.main_v0_2)) (v3 : (c : Dev Cert.UpdateInIdeal.nD) → Buf (Elt Ideal) ((c.tc : Thread Cert.UpdateInIdeal.nD Cert.UpdateInIdeal.τ).loc Cert.UpdateInIdeal.main_v0_3)),
      θ_run (Cert.UpdateInIdeal.defs (F := Ideal)) (onTc (τ := Cert.UpdateInIdeal.τ) (Cert.UpdateInIdeal.main (F := Ideal))) ⟨m, fun _ => 0, g⟩ (fun r => ∀ c : Dev Cert.UpdateInIdeal.nD,
          r.2.mem ((c.tc : Thread Cert.UpdateInIdeal.nD Cert.UpdateInIdeal.τ).loc Cert.UpdateInIdeal.main_v0_0) = v0 c
          ∧ r.2.mem ((c.tc : Thread Cert.UpdateInIdeal.nD Cert.UpdateInIdeal.τ).loc Cert.UpdateInIdeal.main_v0_1) = v1 c
          ∧ r.2.mem ((c.tc : Thread Cert.UpdateInIdeal.nD Cert.UpdateInIdeal.τ).loc Cert.UpdateInIdeal.main_v0_2) = v2 c
          ∧ r.2.mem ((c.tc : Thread Cert.UpdateInIdeal.nD Cert.UpdateInIdeal.τ).loc Cert.UpdateInIdeal.main_v0_3) = v3 c
          ∧ r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
          ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
          ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
          ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3)
          ∧ r.2.mem ((c.tc : Thread Cert.UpdateInIdeal.nD Cert.UpdateInIdeal.τ).loc Cert.UpdateInIdeal.main_arg4) = m ((c.tc : Thread Cert.UpdateInIdeal.nD Cert.UpdateInIdeal.τ).loc Cert.UpdateInIdeal.main_arg4))
      ∧ θ_run (Cert.UpdateInReferenceIdeal.defs (F := Ideal)) (onTc (τ := Cert.UpdateInReferenceIdeal.τ) (Cert.UpdateInReferenceIdeal.main (F := Ideal))) ⟨m', fun _ => 0, g'⟩ (fun r => ∀ c : Dev Cert.UpdateInReferenceIdeal.nD,
          r.2.mem ((c.tc : Thread Cert.UpdateInReferenceIdeal.nD Cert.UpdateInReferenceIdeal.τ).loc Cert.UpdateInReferenceIdeal.main_v0) = v0 c
          ∧ r.2.mem ((c.tc : Thread Cert.UpdateInReferenceIdeal.nD Cert.UpdateInReferenceIdeal.τ).loc Cert.UpdateInReferenceIdeal.main_v24) = v1 c
          ∧ r.2.mem ((c.tc : Thread Cert.UpdateInReferenceIdeal.nD Cert.UpdateInReferenceIdeal.τ).loc Cert.UpdateInReferenceIdeal.main_v5) = v2 c
          ∧ r.2.mem ((c.tc : Thread Cert.UpdateInReferenceIdeal.nD Cert.UpdateInReferenceIdeal.τ).loc Cert.UpdateInReferenceIdeal.main_v11) = v3 c
          ∧ r.2.mem ((c.tc : Thread Cert.UpdateInReferenceIdeal.nD Cert.UpdateInReferenceIdeal.τ).loc Cert.UpdateInReferenceIdeal.main_arg0) = m' ((c.tc : Thread Cert.UpdateInReferenceIdeal.nD Cert.UpdateInReferenceIdeal.τ).loc Cert.UpdateInReferenceIdeal.main_arg0)
          ∧ r.2.mem ((c.tc : Thread Cert.UpdateInReferenceIdeal.nD Cert.UpdateInReferenceIdeal.τ).loc Cert.UpdateInReferenceIdeal.main_arg1) = m' ((c.tc : Thread Cert.UpdateInReferenceIdeal.nD Cert.UpdateInReferenceIdeal.τ).loc Cert.UpdateInReferenceIdeal.main_arg1)
          ∧ r.2.mem ((c.tc : Thread Cert.UpdateInReferenceIdeal.nD Cert.UpdateInReferenceIdeal.τ).loc Cert.UpdateInReferenceIdeal.main_arg2) = m' ((c.tc : Thread Cert.UpdateInReferenceIdeal.nD Cert.UpdateInReferenceIdeal.τ).loc Cert.UpdateInReferenceIdeal.main_arg2)
          ∧ r.2.mem ((c.tc : Thread Cert.UpdateInReferenceIdeal.nD Cert.UpdateInReferenceIdeal.τ).loc Cert.UpdateInReferenceIdeal.main_arg3) = m' ((c.tc : Thread Cert.UpdateInReferenceIdeal.nD Cert.UpdateInReferenceIdeal.τ).loc Cert.UpdateInReferenceIdeal.main_arg3)
          ∧ r.2.mem ((c.tc : Thread Cert.UpdateInReferenceIdeal.nD Cert.UpdateInReferenceIdeal.τ).loc Cert.UpdateInReferenceIdeal.main_arg4) = m' ((c.tc : Thread Cert.UpdateInReferenceIdeal.nD Cert.UpdateInReferenceIdeal.τ).loc Cert.UpdateInReferenceIdeal.main_arg4))

def preserves_SumOut_SumOutIdeal : Prop :=
  True

def algebraic_SumOutIdeal_SumOutReferenceIdeal [hSumOutIdeal : Cert.SumOutIdeal.Facts] [hSumOutReferenceIdeal : Cert.SumOutReferenceIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutReferenceIdeal.nD Cert.SumOutReferenceIdeal.τ Cert.SumOutReferenceIdeal.sig) → Buf (Elt Ideal) ℓ) (g' : Dev Cert.SumOutReferenceIdeal.nD → PrngReg), Pre_SumOutIdeal m →
    (∀ c : Dev Cert.SumOutIdeal.nD,
      m' ((c.tc : Thread Cert.SumOutReferenceIdeal.nD Cert.SumOutReferenceIdeal.τ).loc Cert.SumOutReferenceIdeal.main_arg0) = m ((c.tc : Thread Cert.SumOutIdeal.nD Cert.SumOutIdeal.τ).loc Cert.SumOutIdeal.main_arg0)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ θ_run (Cert.SumOutReferenceIdeal.defs (F := Ideal)) (onTc (τ := Cert.SumOutReferenceIdeal.τ) (Cert.SumOutReferenceIdeal.main (F := Ideal))) ⟨m', fun _ => 0, g'⟩ (fun r => ∀ c : Dev Cert.SumOutReferenceIdeal.nD,
          r.2.mem ((c.tc : Thread Cert.SumOutReferenceIdeal.nD Cert.SumOutReferenceIdeal.τ).loc Cert.SumOutReferenceIdeal.main_v0) = v0 c
          ∧ r.2.mem ((c.tc : Thread Cert.SumOutReferenceIdeal.nD Cert.SumOutReferenceIdeal.τ).loc Cert.SumOutReferenceIdeal.main_arg0) = m' ((c.tc : Thread Cert.SumOutReferenceIdeal.nD Cert.SumOutReferenceIdeal.τ).loc Cert.SumOutReferenceIdeal.main_arg0))

def preserves_UpdateOut_UpdateOutIdeal : Prop :=
  True

def algebraic_UpdateOutIdeal_UpdateOutReferenceIdeal [hUpdateOutIdeal : Cert.UpdateOutIdeal.Facts] [hUpdateOutReferenceIdeal : Cert.UpdateOutReferenceIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg)
    (m' : (ℓ : Loc Cert.UpdateOutReferenceIdeal.nD Cert.UpdateOutReferenceIdeal.τ Cert.UpdateOutReferenceIdeal.sig) → Buf (Elt Ideal) ℓ) (g' : Dev Cert.UpdateOutReferenceIdeal.nD → PrngReg), Pre_UpdateOutIdeal m →
    (∀ c : Dev Cert.UpdateOutIdeal.nD,
      m' ((c.tc : Thread Cert.UpdateOutReferenceIdeal.nD Cert.UpdateOutReferenceIdeal.τ).loc Cert.UpdateOutReferenceIdeal.main_arg0) = m ((c.tc : Thread Cert.UpdateOutIdeal.nD Cert.UpdateOutIdeal.τ).loc Cert.UpdateOutIdeal.main_arg0)
      ∧ m' ((c.tc : Thread Cert.UpdateOutReferenceIdeal.nD Cert.UpdateOutReferenceIdeal.τ).loc Cert.UpdateOutReferenceIdeal.main_arg1) = m ((c.tc : Thread Cert.UpdateOutIdeal.nD Cert.UpdateOutIdeal.τ).loc Cert.UpdateOutIdeal.main_arg1)
      ∧ m' ((c.tc : Thread Cert.UpdateOutReferenceIdeal.nD Cert.UpdateOutReferenceIdeal.τ).loc Cert.UpdateOutReferenceIdeal.main_arg2) = m ((c.tc : Thread Cert.UpdateOutIdeal.nD Cert.UpdateOutIdeal.τ).loc Cert.UpdateOutIdeal.main_arg2)
      ∧ m' ((c.tc : Thread Cert.UpdateOutReferenceIdeal.nD Cert.UpdateOutReferenceIdeal.τ).loc Cert.UpdateOutReferenceIdeal.main_arg3) = m ((c.tc : Thread Cert.UpdateOutIdeal.nD Cert.UpdateOutIdeal.τ).loc Cert.UpdateOutIdeal.main_arg3)
      ∧ m' ((c.tc : Thread Cert.UpdateOutReferenceIdeal.nD Cert.UpdateOutReferenceIdeal.τ).loc Cert.UpdateOutReferenceIdeal.main_arg4) = m ((c.tc : Thread Cert.UpdateOutIdeal.nD Cert.UpdateOutIdeal.τ).loc Cert.UpdateOutIdeal.main_arg4)) →
    ∃ (v0 : (c : Dev Cert.UpdateOutIdeal.nD) → Buf (Elt Ideal) ((c.tc : Thread Cert.UpdateOutIdeal.nD Cert.UpdateOutIdeal.τ).loc Cert.UpdateOutIdeal.main_v0_0)) (v1 : (c : Dev Cert.UpdateOutIdeal.nD) → Buf (Elt Ideal) ((c.tc : Thread Cert.UpdateOutIdeal.nD Cert.UpdateOutIdeal.τ).loc Cert.UpdateOutIdeal.main_v0_1)) (v2 : (c : Dev Cert.UpdateOutIdeal.nD) → Buf (Elt Ideal) ((c.tc : Thread Cert.UpdateOutIdeal.nD Cert.UpdateOutIdeal.τ).loc Cert.UpdateOutIdeal.main_v0_2)) (v3 : (c : Dev Cert.UpdateOutIdeal.nD) → Buf (Elt Ideal) ((c.tc : Thread Cert.UpdateOutIdeal.nD Cert.UpdateOutIdeal.τ).loc Cert.UpdateOutIdeal.main_v0_3)),
      θ_run (Cert.UpdateOutIdeal.defs (F := Ideal)) (onTc (τ := Cert.UpdateOutIdeal.τ) (Cert.UpdateOutIdeal.main (F := Ideal))) ⟨m, fun _ => 0, g⟩ (fun r => ∀ c : Dev Cert.UpdateOutIdeal.nD,
          r.2.mem ((c.tc : Thread Cert.UpdateOutIdeal.nD Cert.UpdateOutIdeal.τ).loc Cert.UpdateOutIdeal.main_v0_0) = v0 c
          ∧ r.2.mem ((c.tc : Thread Cert.UpdateOutIdeal.nD Cert.UpdateOutIdeal.τ).loc Cert.UpdateOutIdeal.main_v0_1) = v1 c
          ∧ r.2.mem ((c.tc : Thread Cert.UpdateOutIdeal.nD Cert.UpdateOutIdeal.τ).loc Cert.UpdateOutIdeal.main_v0_2) = v2 c
          ∧ r.2.mem ((c.tc : Thread Cert.UpdateOutIdeal.nD Cert.UpdateOutIdeal.τ).loc Cert.UpdateOutIdeal.main_v0_3) = v3 c
          ∧ r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
          ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
          ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
          ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3)
          ∧ r.2.mem ((c.tc : Thread Cert.UpdateOutIdeal.nD Cert.UpdateOutIdeal.τ).loc Cert.UpdateOutIdeal.main_arg4) = m ((c.tc : Thread Cert.UpdateOutIdeal.nD Cert.UpdateOutIdeal.τ).loc Cert.UpdateOutIdeal.main_arg4))
      ∧ θ_run (Cert.UpdateOutReferenceIdeal.defs (F := Ideal)) (onTc (τ := Cert.UpdateOutReferenceIdeal.τ) (Cert.UpdateOutReferenceIdeal.main (F := Ideal))) ⟨m', fun _ => 0, g'⟩ (fun r => ∀ c : Dev Cert.UpdateOutReferenceIdeal.nD,
          r.2.mem ((c.tc : Thread Cert.UpdateOutReferenceIdeal.nD Cert.UpdateOutReferenceIdeal.τ).loc Cert.UpdateOutReferenceIdeal.main_v0) = v0 c
          ∧ r.2.mem ((c.tc : Thread Cert.UpdateOutReferenceIdeal.nD Cert.UpdateOutReferenceIdeal.τ).loc Cert.UpdateOutReferenceIdeal.main_v24) = v1 c
          ∧ r.2.mem ((c.tc : Thread Cert.UpdateOutReferenceIdeal.nD Cert.UpdateOutReferenceIdeal.τ).loc Cert.UpdateOutReferenceIdeal.main_v5) = v2 c
          ∧ r.2.mem ((c.tc : Thread Cert.UpdateOutReferenceIdeal.nD Cert.UpdateOutReferenceIdeal.τ).loc Cert.UpdateOutReferenceIdeal.main_v11) = v3 c
          ∧ r.2.mem ((c.tc : Thread Cert.UpdateOutReferenceIdeal.nD Cert.UpdateOutReferenceIdeal.τ).loc Cert.UpdateOutReferenceIdeal.main_arg0) = m' ((c.tc : Thread Cert.UpdateOutReferenceIdeal.nD Cert.UpdateOutReferenceIdeal.τ).loc Cert.UpdateOutReferenceIdeal.main_arg0)
          ∧ r.2.mem ((c.tc : Thread Cert.UpdateOutReferenceIdeal.nD Cert.UpdateOutReferenceIdeal.τ).loc Cert.UpdateOutReferenceIdeal.main_arg1) = m' ((c.tc : Thread Cert.UpdateOutReferenceIdeal.nD Cert.UpdateOutReferenceIdeal.τ).loc Cert.UpdateOutReferenceIdeal.main_arg1)
          ∧ r.2.mem ((c.tc : Thread Cert.UpdateOutReferenceIdeal.nD Cert.UpdateOutReferenceIdeal.τ).loc Cert.UpdateOutReferenceIdeal.main_arg2) = m' ((c.tc : Thread Cert.UpdateOutReferenceIdeal.nD Cert.UpdateOutReferenceIdeal.τ).loc Cert.UpdateOutReferenceIdeal.main_arg2)
          ∧ r.2.mem ((c.tc : Thread Cert.UpdateOutReferenceIdeal.nD Cert.UpdateOutReferenceIdeal.τ).loc Cert.UpdateOutReferenceIdeal.main_arg3) = m' ((c.tc : Thread Cert.UpdateOutReferenceIdeal.nD Cert.UpdateOutReferenceIdeal.τ).loc Cert.UpdateOutReferenceIdeal.main_arg3)
          ∧ r.2.mem ((c.tc : Thread Cert.UpdateOutReferenceIdeal.nD Cert.UpdateOutReferenceIdeal.τ).loc Cert.UpdateOutReferenceIdeal.main_arg4) = m' ((c.tc : Thread Cert.UpdateOutReferenceIdeal.nD Cert.UpdateOutReferenceIdeal.τ).loc Cert.UpdateOutReferenceIdeal.main_arg4))

def preserves_SumFfn_SumFfnIdeal : Prop :=
  True

def algebraic_SumFfnIdeal_SumFfnReferenceIdeal [hSumFfnIdeal : Cert.SumFfnIdeal.Facts] [hSumFfnReferenceIdeal : Cert.SumFfnReferenceIdeal.Facts] : Prop :=
  ∀ (m : (ℓ : Loc Cert.SumFfnIdeal.nD Cert.SumFfnIdeal.τ Cert.SumFfnIdeal.sig) → Buf (Elt Ideal) ℓ) (g : Dev Cert.SumFfnIdeal.nD → PrngReg)
    (m' : (ℓ : Loc Cert.SumFfnReferenceIdeal.nD Cert.SumFfnReferenceIdeal.τ Cert.SumFfnReferenceIdeal.sig) → Buf (Elt Ideal) ℓ) (g' : Dev Cert.SumFfnReferenceIdeal.nD → PrngReg), Pre_SumFfnIdeal m →
    (∀ c : Dev Cert.SumFfnIdeal.nD,
      m' ((c.tc : Thread Cert.SumFfnReferenceIdeal.nD Cert.SumFfnReferenceIdeal.τ).loc Cert.SumFfnReferenceIdeal.main_arg0) = m ((c.tc : Thread Cert.SumFfnIdeal.nD Cert.SumFfnIdeal.τ).loc Cert.SumFfnIdeal.main_arg0)) →
    ∃ (v0 : (c : Dev Cert.SumFfnIdeal.nD) → Buf (Elt Ideal) ((c.tc : Thread Cert.SumFfnIdeal.nD Cert.SumFfnIdeal.τ).loc Cert.SumFfnIdeal.main_v0)),
      θ_run (Cert.SumFfnIdeal.defs (F := Ideal)) (onTc (τ := Cert.SumFfnIdeal.τ) (Cert.SumFfnIdeal.main (F := Ideal))) ⟨m, fun _ => 0, g⟩ (fun r => ∀ c : Dev Cert.SumFfnIdeal.nD,
          r.2.mem ((c.tc : Thread Cert.SumFfnIdeal.nD Cert.SumFfnIdeal.τ).loc Cert.SumFfnIdeal.main_v0) = v0 c
          ∧ r.2.mem ((c.tc : Thread Cert.SumFfnIdeal.nD Cert.SumFfnIdeal.τ).loc Cert.SumFfnIdeal.main_arg0) = m ((c.tc : Thread Cert.SumFfnIdeal.nD Cert.SumFfnIdeal.τ).loc Cert.SumFfnIdeal.main_arg0))
      ∧ θ_run (Cert.SumFfnReferenceIdeal.defs (F := Ideal)) (onTc (τ := Cert.SumFfnReferenceIdeal.τ) (Cert.SumFfnReferenceIdeal.main (F := Ideal))) ⟨m', fun _ => 0, g'⟩ (fun r => ∀ c : Dev Cert.SumFfnReferenceIdeal.nD,
          r.2.mem ((c.tc : Thread Cert.SumFfnReferenceIdeal.nD Cert.SumFfnReferenceIdeal.τ).loc Cert.SumFfnReferenceIdeal.main_v0) = v0 c
          ∧ r.2.mem ((c.tc : Thread Cert.SumFfnReferenceIdeal.nD Cert.SumFfnReferenceIdeal.τ).loc Cert.SumFfnReferenceIdeal.main_arg0) = m' ((c.tc : Thread Cert.SumFfnReferenceIdeal.nD Cert.SumFfnReferenceIdeal.τ).loc Cert.SumFfnReferenceIdeal.main_arg0))

def preserves_UpdateFfn_UpdateFfnIdeal : Prop :=
  True

def algebraic_UpdateFfnIdeal_UpdateFfnReferenceIdeal [hUpdateFfnIdeal : Cert.UpdateFfnIdeal.Facts] [hUpdateFfnReferenceIdeal : Cert.UpdateFfnReferenceIdeal.Facts] : Prop :=
  ∀ (m : (ℓ : Loc Cert.UpdateFfnIdeal.nD Cert.UpdateFfnIdeal.τ Cert.UpdateFfnIdeal.sig) → Buf (Elt Ideal) ℓ) (g : Dev Cert.UpdateFfnIdeal.nD → PrngReg)
    (m' : (ℓ : Loc Cert.UpdateFfnReferenceIdeal.nD Cert.UpdateFfnReferenceIdeal.τ Cert.UpdateFfnReferenceIdeal.sig) → Buf (Elt Ideal) ℓ) (g' : Dev Cert.UpdateFfnReferenceIdeal.nD → PrngReg), Pre_UpdateFfnIdeal m →
    (∀ c : Dev Cert.UpdateFfnIdeal.nD,
      m' ((c.tc : Thread Cert.UpdateFfnReferenceIdeal.nD Cert.UpdateFfnReferenceIdeal.τ).loc Cert.UpdateFfnReferenceIdeal.main_arg0) = m ((c.tc : Thread Cert.UpdateFfnIdeal.nD Cert.UpdateFfnIdeal.τ).loc Cert.UpdateFfnIdeal.main_arg0)
      ∧ m' ((c.tc : Thread Cert.UpdateFfnReferenceIdeal.nD Cert.UpdateFfnReferenceIdeal.τ).loc Cert.UpdateFfnReferenceIdeal.main_arg1) = m ((c.tc : Thread Cert.UpdateFfnIdeal.nD Cert.UpdateFfnIdeal.τ).loc Cert.UpdateFfnIdeal.main_arg1)
      ∧ m' ((c.tc : Thread Cert.UpdateFfnReferenceIdeal.nD Cert.UpdateFfnReferenceIdeal.τ).loc Cert.UpdateFfnReferenceIdeal.main_arg2) = m ((c.tc : Thread Cert.UpdateFfnIdeal.nD Cert.UpdateFfnIdeal.τ).loc Cert.UpdateFfnIdeal.main_arg2)
      ∧ m' ((c.tc : Thread Cert.UpdateFfnReferenceIdeal.nD Cert.UpdateFfnReferenceIdeal.τ).loc Cert.UpdateFfnReferenceIdeal.main_arg3) = m ((c.tc : Thread Cert.UpdateFfnIdeal.nD Cert.UpdateFfnIdeal.τ).loc Cert.UpdateFfnIdeal.main_arg3)
      ∧ m' ((c.tc : Thread Cert.UpdateFfnReferenceIdeal.nD Cert.UpdateFfnReferenceIdeal.τ).loc Cert.UpdateFfnReferenceIdeal.main_arg4) = m ((c.tc : Thread Cert.UpdateFfnIdeal.nD Cert.UpdateFfnIdeal.τ).loc Cert.UpdateFfnIdeal.main_arg4)) →
    ∃ (v0 : (c : Dev Cert.UpdateFfnIdeal.nD) → Buf (Elt Ideal) ((c.tc : Thread Cert.UpdateFfnIdeal.nD Cert.UpdateFfnIdeal.τ).loc Cert.UpdateFfnIdeal.main_v0_0)) (v1 : (c : Dev Cert.UpdateFfnIdeal.nD) → Buf (Elt Ideal) ((c.tc : Thread Cert.UpdateFfnIdeal.nD Cert.UpdateFfnIdeal.τ).loc Cert.UpdateFfnIdeal.main_v0_1)) (v2 : (c : Dev Cert.UpdateFfnIdeal.nD) → Buf (Elt Ideal) ((c.tc : Thread Cert.UpdateFfnIdeal.nD Cert.UpdateFfnIdeal.τ).loc Cert.UpdateFfnIdeal.main_v0_2)) (v3 : (c : Dev Cert.UpdateFfnIdeal.nD) → Buf (Elt Ideal) ((c.tc : Thread Cert.UpdateFfnIdeal.nD Cert.UpdateFfnIdeal.τ).loc Cert.UpdateFfnIdeal.main_v0_3)),
      θ_run (Cert.UpdateFfnIdeal.defs (F := Ideal)) (onTc (τ := Cert.UpdateFfnIdeal.τ) (Cert.UpdateFfnIdeal.main (F := Ideal))) ⟨m, fun _ => 0, g⟩ (fun r => ∀ c : Dev Cert.UpdateFfnIdeal.nD,
          r.2.mem ((c.tc : Thread Cert.UpdateFfnIdeal.nD Cert.UpdateFfnIdeal.τ).loc Cert.UpdateFfnIdeal.main_v0_0) = v0 c
          ∧ r.2.mem ((c.tc : Thread Cert.UpdateFfnIdeal.nD Cert.UpdateFfnIdeal.τ).loc Cert.UpdateFfnIdeal.main_v0_1) = v1 c
          ∧ r.2.mem ((c.tc : Thread Cert.UpdateFfnIdeal.nD Cert.UpdateFfnIdeal.τ).loc Cert.UpdateFfnIdeal.main_v0_2) = v2 c
          ∧ r.2.mem ((c.tc : Thread Cert.UpdateFfnIdeal.nD Cert.UpdateFfnIdeal.τ).loc Cert.UpdateFfnIdeal.main_v0_3) = v3 c
          ∧ r.2.mem ((c.tc : Thread Cert.UpdateFfnIdeal.nD Cert.UpdateFfnIdeal.τ).loc Cert.UpdateFfnIdeal.main_arg0) = m ((c.tc : Thread Cert.UpdateFfnIdeal.nD Cert.UpdateFfnIdeal.τ).loc Cert.UpdateFfnIdeal.main_arg0)
          ∧ r.2.mem ((c.tc : Thread Cert.UpdateFfnIdeal.nD Cert.UpdateFfnIdeal.τ).loc Cert.UpdateFfnIdeal.main_arg1) = m ((c.tc : Thread Cert.UpdateFfnIdeal.nD Cert.UpdateFfnIdeal.τ).loc Cert.UpdateFfnIdeal.main_arg1)
          ∧ r.2.mem ((c.tc : Thread Cert.UpdateFfnIdeal.nD Cert.UpdateFfnIdeal.τ).loc Cert.UpdateFfnIdeal.main_arg2) = m ((c.tc : Thread Cert.UpdateFfnIdeal.nD Cert.UpdateFfnIdeal.τ).loc Cert.UpdateFfnIdeal.main_arg2)
          ∧ r.2.mem ((c.tc : Thread Cert.UpdateFfnIdeal.nD Cert.UpdateFfnIdeal.τ).loc Cert.UpdateFfnIdeal.main_arg3) = m ((c.tc : Thread Cert.UpdateFfnIdeal.nD Cert.UpdateFfnIdeal.τ).loc Cert.UpdateFfnIdeal.main_arg3)
          ∧ r.2.mem ((c.tc : Thread Cert.UpdateFfnIdeal.nD Cert.UpdateFfnIdeal.τ).loc Cert.UpdateFfnIdeal.main_arg4) = m ((c.tc : Thread Cert.UpdateFfnIdeal.nD Cert.UpdateFfnIdeal.τ).loc Cert.UpdateFfnIdeal.main_arg4))
      ∧ θ_run (Cert.UpdateFfnReferenceIdeal.defs (F := Ideal)) (onTc (τ := Cert.UpdateFfnReferenceIdeal.τ) (Cert.UpdateFfnReferenceIdeal.main (F := Ideal))) ⟨m', fun _ => 0, g'⟩ (fun r => ∀ c : Dev Cert.UpdateFfnReferenceIdeal.nD,
          r.2.mem ((c.tc : Thread Cert.UpdateFfnReferenceIdeal.nD Cert.UpdateFfnReferenceIdeal.τ).loc Cert.UpdateFfnReferenceIdeal.main_v0) = v0 c
          ∧ r.2.mem ((c.tc : Thread Cert.UpdateFfnReferenceIdeal.nD Cert.UpdateFfnReferenceIdeal.τ).loc Cert.UpdateFfnReferenceIdeal.main_v24) = v1 c
          ∧ r.2.mem ((c.tc : Thread Cert.UpdateFfnReferenceIdeal.nD Cert.UpdateFfnReferenceIdeal.τ).loc Cert.UpdateFfnReferenceIdeal.main_v5) = v2 c
          ∧ r.2.mem ((c.tc : Thread Cert.UpdateFfnReferenceIdeal.nD Cert.UpdateFfnReferenceIdeal.τ).loc Cert.UpdateFfnReferenceIdeal.main_v11) = v3 c
          ∧ r.2.mem ((c.tc : Thread Cert.UpdateFfnReferenceIdeal.nD Cert.UpdateFfnReferenceIdeal.τ).loc Cert.UpdateFfnReferenceIdeal.main_arg0) = m' ((c.tc : Thread Cert.UpdateFfnReferenceIdeal.nD Cert.UpdateFfnReferenceIdeal.τ).loc Cert.UpdateFfnReferenceIdeal.main_arg0)
          ∧ r.2.mem ((c.tc : Thread Cert.UpdateFfnReferenceIdeal.nD Cert.UpdateFfnReferenceIdeal.τ).loc Cert.UpdateFfnReferenceIdeal.main_arg1) = m' ((c.tc : Thread Cert.UpdateFfnReferenceIdeal.nD Cert.UpdateFfnReferenceIdeal.τ).loc Cert.UpdateFfnReferenceIdeal.main_arg1)
          ∧ r.2.mem ((c.tc : Thread Cert.UpdateFfnReferenceIdeal.nD Cert.UpdateFfnReferenceIdeal.τ).loc Cert.UpdateFfnReferenceIdeal.main_arg2) = m' ((c.tc : Thread Cert.UpdateFfnReferenceIdeal.nD Cert.UpdateFfnReferenceIdeal.τ).loc Cert.UpdateFfnReferenceIdeal.main_arg2)
          ∧ r.2.mem ((c.tc : Thread Cert.UpdateFfnReferenceIdeal.nD Cert.UpdateFfnReferenceIdeal.τ).loc Cert.UpdateFfnReferenceIdeal.main_arg3) = m' ((c.tc : Thread Cert.UpdateFfnReferenceIdeal.nD Cert.UpdateFfnReferenceIdeal.τ).loc Cert.UpdateFfnReferenceIdeal.main_arg3)
          ∧ r.2.mem ((c.tc : Thread Cert.UpdateFfnReferenceIdeal.nD Cert.UpdateFfnReferenceIdeal.τ).loc Cert.UpdateFfnReferenceIdeal.main_arg4) = m' ((c.tc : Thread Cert.UpdateFfnReferenceIdeal.nD Cert.UpdateFfnReferenceIdeal.τ).loc Cert.UpdateFfnReferenceIdeal.main_arg4))

def preserves_SumDown_SumDownIdeal : Prop :=
  True

def algebraic_SumDownIdeal_SumDownReferenceIdeal [hSumDownIdeal : Cert.SumDownIdeal.Facts] [hSumDownReferenceIdeal : Cert.SumDownReferenceIdeal.Facts] : Prop :=
  ∀ (m : (ℓ : Loc Cert.SumDownIdeal.nD Cert.SumDownIdeal.τ Cert.SumDownIdeal.sig) → Buf (Elt Ideal) ℓ) (g : Dev Cert.SumDownIdeal.nD → PrngReg)
    (m' : (ℓ : Loc Cert.SumDownReferenceIdeal.nD Cert.SumDownReferenceIdeal.τ Cert.SumDownReferenceIdeal.sig) → Buf (Elt Ideal) ℓ) (g' : Dev Cert.SumDownReferenceIdeal.nD → PrngReg), Pre_SumDownIdeal m →
    (∀ c : Dev Cert.SumDownIdeal.nD,
      m' ((c.tc : Thread Cert.SumDownReferenceIdeal.nD Cert.SumDownReferenceIdeal.τ).loc Cert.SumDownReferenceIdeal.main_arg0) = m ((c.tc : Thread Cert.SumDownIdeal.nD Cert.SumDownIdeal.τ).loc Cert.SumDownIdeal.main_arg0)) →
    ∃ (v0 : (c : Dev Cert.SumDownIdeal.nD) → Buf (Elt Ideal) ((c.tc : Thread Cert.SumDownIdeal.nD Cert.SumDownIdeal.τ).loc Cert.SumDownIdeal.main_v0)),
      θ_run (Cert.SumDownIdeal.defs (F := Ideal)) (onTc (τ := Cert.SumDownIdeal.τ) (Cert.SumDownIdeal.main (F := Ideal))) ⟨m, fun _ => 0, g⟩ (fun r => ∀ c : Dev Cert.SumDownIdeal.nD,
          r.2.mem ((c.tc : Thread Cert.SumDownIdeal.nD Cert.SumDownIdeal.τ).loc Cert.SumDownIdeal.main_v0) = v0 c
          ∧ r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ θ_run (Cert.SumDownReferenceIdeal.defs (F := Ideal)) (onTc (τ := Cert.SumDownReferenceIdeal.τ) (Cert.SumDownReferenceIdeal.main (F := Ideal))) ⟨m', fun _ => 0, g'⟩ (fun r => ∀ c : Dev Cert.SumDownReferenceIdeal.nD,
          r.2.mem ((c.tc : Thread Cert.SumDownReferenceIdeal.nD Cert.SumDownReferenceIdeal.τ).loc Cert.SumDownReferenceIdeal.main_v0) = v0 c
          ∧ r.2.mem ((c.tc : Thread Cert.SumDownReferenceIdeal.nD Cert.SumDownReferenceIdeal.τ).loc Cert.SumDownReferenceIdeal.main_arg0) = m' ((c.tc : Thread Cert.SumDownReferenceIdeal.nD Cert.SumDownReferenceIdeal.τ).loc Cert.SumDownReferenceIdeal.main_arg0))

def preserves_UpdateDown_UpdateDownIdeal : Prop :=
  True

def algebraic_UpdateDownIdeal_UpdateDownReferenceIdeal [hUpdateDownIdeal : Cert.UpdateDownIdeal.Facts] [hUpdateDownReferenceIdeal : Cert.UpdateDownReferenceIdeal.Facts] : Prop :=
  ∀ (m : (ℓ : Loc Cert.UpdateDownIdeal.nD Cert.UpdateDownIdeal.τ Cert.UpdateDownIdeal.sig) → Buf (Elt Ideal) ℓ) (g : Dev Cert.UpdateDownIdeal.nD → PrngReg)
    (m' : (ℓ : Loc Cert.UpdateDownReferenceIdeal.nD Cert.UpdateDownReferenceIdeal.τ Cert.UpdateDownReferenceIdeal.sig) → Buf (Elt Ideal) ℓ) (g' : Dev Cert.UpdateDownReferenceIdeal.nD → PrngReg), Pre_UpdateDownIdeal m →
    (∀ c : Dev Cert.UpdateDownIdeal.nD,
      m' ((c.tc : Thread Cert.UpdateDownReferenceIdeal.nD Cert.UpdateDownReferenceIdeal.τ).loc Cert.UpdateDownReferenceIdeal.main_arg0) = m ((c.tc : Thread Cert.UpdateDownIdeal.nD Cert.UpdateDownIdeal.τ).loc Cert.UpdateDownIdeal.main_arg0)
      ∧ m' ((c.tc : Thread Cert.UpdateDownReferenceIdeal.nD Cert.UpdateDownReferenceIdeal.τ).loc Cert.UpdateDownReferenceIdeal.main_arg1) = m ((c.tc : Thread Cert.UpdateDownIdeal.nD Cert.UpdateDownIdeal.τ).loc Cert.UpdateDownIdeal.main_arg1)
      ∧ m' ((c.tc : Thread Cert.UpdateDownReferenceIdeal.nD Cert.UpdateDownReferenceIdeal.τ).loc Cert.UpdateDownReferenceIdeal.main_arg2) = m ((c.tc : Thread Cert.UpdateDownIdeal.nD Cert.UpdateDownIdeal.τ).loc Cert.UpdateDownIdeal.main_arg2)
      ∧ m' ((c.tc : Thread Cert.UpdateDownReferenceIdeal.nD Cert.UpdateDownReferenceIdeal.τ).loc Cert.UpdateDownReferenceIdeal.main_arg3) = m ((c.tc : Thread Cert.UpdateDownIdeal.nD Cert.UpdateDownIdeal.τ).loc Cert.UpdateDownIdeal.main_arg3)
      ∧ m' ((c.tc : Thread Cert.UpdateDownReferenceIdeal.nD Cert.UpdateDownReferenceIdeal.τ).loc Cert.UpdateDownReferenceIdeal.main_arg4) = m ((c.tc : Thread Cert.UpdateDownIdeal.nD Cert.UpdateDownIdeal.τ).loc Cert.UpdateDownIdeal.main_arg4)) →
    ∃ (v0 : (c : Dev Cert.UpdateDownIdeal.nD) → Buf (Elt Ideal) ((c.tc : Thread Cert.UpdateDownIdeal.nD Cert.UpdateDownIdeal.τ).loc Cert.UpdateDownIdeal.main_v0_0)) (v1 : (c : Dev Cert.UpdateDownIdeal.nD) → Buf (Elt Ideal) ((c.tc : Thread Cert.UpdateDownIdeal.nD Cert.UpdateDownIdeal.τ).loc Cert.UpdateDownIdeal.main_v0_1)) (v2 : (c : Dev Cert.UpdateDownIdeal.nD) → Buf (Elt Ideal) ((c.tc : Thread Cert.UpdateDownIdeal.nD Cert.UpdateDownIdeal.τ).loc Cert.UpdateDownIdeal.main_v0_2)) (v3 : (c : Dev Cert.UpdateDownIdeal.nD) → Buf (Elt Ideal) ((c.tc : Thread Cert.UpdateDownIdeal.nD Cert.UpdateDownIdeal.τ).loc Cert.UpdateDownIdeal.main_v0_3)),
      θ_run (Cert.UpdateDownIdeal.defs (F := Ideal)) (onTc (τ := Cert.UpdateDownIdeal.τ) (Cert.UpdateDownIdeal.main (F := Ideal))) ⟨m, fun _ => 0, g⟩ (fun r => ∀ c : Dev Cert.UpdateDownIdeal.nD,
          r.2.mem ((c.tc : Thread Cert.UpdateDownIdeal.nD Cert.UpdateDownIdeal.τ).loc Cert.UpdateDownIdeal.main_v0_0) = v0 c
          ∧ r.2.mem ((c.tc : Thread Cert.UpdateDownIdeal.nD Cert.UpdateDownIdeal.τ).loc Cert.UpdateDownIdeal.main_v0_1) = v1 c
          ∧ r.2.mem ((c.tc : Thread Cert.UpdateDownIdeal.nD Cert.UpdateDownIdeal.τ).loc Cert.UpdateDownIdeal.main_v0_2) = v2 c
          ∧ r.2.mem ((c.tc : Thread Cert.UpdateDownIdeal.nD Cert.UpdateDownIdeal.τ).loc Cert.UpdateDownIdeal.main_v0_3) = v3 c
          ∧ r.2.mem ((c.tc : Thread Cert.UpdateDownIdeal.nD Cert.UpdateDownIdeal.τ).loc Cert.UpdateDownIdeal.main_arg0) = m ((c.tc : Thread Cert.UpdateDownIdeal.nD Cert.UpdateDownIdeal.τ).loc Cert.UpdateDownIdeal.main_arg0)
          ∧ r.2.mem ((c.tc : Thread Cert.UpdateDownIdeal.nD Cert.UpdateDownIdeal.τ).loc Cert.UpdateDownIdeal.main_arg1) = m ((c.tc : Thread Cert.UpdateDownIdeal.nD Cert.UpdateDownIdeal.τ).loc Cert.UpdateDownIdeal.main_arg1)
          ∧ r.2.mem ((c.tc : Thread Cert.UpdateDownIdeal.nD Cert.UpdateDownIdeal.τ).loc Cert.UpdateDownIdeal.main_arg2) = m ((c.tc : Thread Cert.UpdateDownIdeal.nD Cert.UpdateDownIdeal.τ).loc Cert.UpdateDownIdeal.main_arg2)
          ∧ r.2.mem ((c.tc : Thread Cert.UpdateDownIdeal.nD Cert.UpdateDownIdeal.τ).loc Cert.UpdateDownIdeal.main_arg3) = m ((c.tc : Thread Cert.UpdateDownIdeal.nD Cert.UpdateDownIdeal.τ).loc Cert.UpdateDownIdeal.main_arg3)
          ∧ r.2.mem ((c.tc : Thread Cert.UpdateDownIdeal.nD Cert.UpdateDownIdeal.τ).loc Cert.UpdateDownIdeal.main_arg4) = m ((c.tc : Thread Cert.UpdateDownIdeal.nD Cert.UpdateDownIdeal.τ).loc Cert.UpdateDownIdeal.main_arg4))
      ∧ θ_run (Cert.UpdateDownReferenceIdeal.defs (F := Ideal)) (onTc (τ := Cert.UpdateDownReferenceIdeal.τ) (Cert.UpdateDownReferenceIdeal.main (F := Ideal))) ⟨m', fun _ => 0, g'⟩ (fun r => ∀ c : Dev Cert.UpdateDownReferenceIdeal.nD,
          r.2.mem ((c.tc : Thread Cert.UpdateDownReferenceIdeal.nD Cert.UpdateDownReferenceIdeal.τ).loc Cert.UpdateDownReferenceIdeal.main_v0) = v0 c
          ∧ r.2.mem ((c.tc : Thread Cert.UpdateDownReferenceIdeal.nD Cert.UpdateDownReferenceIdeal.τ).loc Cert.UpdateDownReferenceIdeal.main_v24) = v1 c
          ∧ r.2.mem ((c.tc : Thread Cert.UpdateDownReferenceIdeal.nD Cert.UpdateDownReferenceIdeal.τ).loc Cert.UpdateDownReferenceIdeal.main_v5) = v2 c
          ∧ r.2.mem ((c.tc : Thread Cert.UpdateDownReferenceIdeal.nD Cert.UpdateDownReferenceIdeal.τ).loc Cert.UpdateDownReferenceIdeal.main_v11) = v3 c
          ∧ r.2.mem ((c.tc : Thread Cert.UpdateDownReferenceIdeal.nD Cert.UpdateDownReferenceIdeal.τ).loc Cert.UpdateDownReferenceIdeal.main_arg0) = m' ((c.tc : Thread Cert.UpdateDownReferenceIdeal.nD Cert.UpdateDownReferenceIdeal.τ).loc Cert.UpdateDownReferenceIdeal.main_arg0)
          ∧ r.2.mem ((c.tc : Thread Cert.UpdateDownReferenceIdeal.nD Cert.UpdateDownReferenceIdeal.τ).loc Cert.UpdateDownReferenceIdeal.main_arg1) = m' ((c.tc : Thread Cert.UpdateDownReferenceIdeal.nD Cert.UpdateDownReferenceIdeal.τ).loc Cert.UpdateDownReferenceIdeal.main_arg1)
          ∧ r.2.mem ((c.tc : Thread Cert.UpdateDownReferenceIdeal.nD Cert.UpdateDownReferenceIdeal.τ).loc Cert.UpdateDownReferenceIdeal.main_arg2) = m' ((c.tc : Thread Cert.UpdateDownReferenceIdeal.nD Cert.UpdateDownReferenceIdeal.τ).loc Cert.UpdateDownReferenceIdeal.main_arg2)
          ∧ r.2.mem ((c.tc : Thread Cert.UpdateDownReferenceIdeal.nD Cert.UpdateDownReferenceIdeal.τ).loc Cert.UpdateDownReferenceIdeal.main_arg3) = m' ((c.tc : Thread Cert.UpdateDownReferenceIdeal.nD Cert.UpdateDownReferenceIdeal.τ).loc Cert.UpdateDownReferenceIdeal.main_arg3)
          ∧ r.2.mem ((c.tc : Thread Cert.UpdateDownReferenceIdeal.nD Cert.UpdateDownReferenceIdeal.τ).loc Cert.UpdateDownReferenceIdeal.main_arg4) = m' ((c.tc : Thread Cert.UpdateDownReferenceIdeal.nD Cert.UpdateDownReferenceIdeal.τ).loc Cert.UpdateDownReferenceIdeal.main_arg4))

def preserves_SumPle_SumPleIdeal : Prop :=
  True

def algebraic_SumPleIdeal_SumPleReferenceIdeal [hSumPleIdeal : Cert.SumPleIdeal.Facts] [hSumPleReferenceIdeal : Cert.SumPleReferenceIdeal.Facts] : Prop :=
  ∀ (m : (ℓ : Loc Cert.SumPleIdeal.nD Cert.SumPleIdeal.τ Cert.SumPleIdeal.sig) → Buf (Elt Ideal) ℓ) (g : Dev Cert.SumPleIdeal.nD → PrngReg)
    (m' : (ℓ : Loc Cert.SumPleReferenceIdeal.nD Cert.SumPleReferenceIdeal.τ Cert.SumPleReferenceIdeal.sig) → Buf (Elt Ideal) ℓ) (g' : Dev Cert.SumPleReferenceIdeal.nD → PrngReg), Pre_SumPleIdeal m →
    (∀ c : Dev Cert.SumPleIdeal.nD,
      m' ((c.tc : Thread Cert.SumPleReferenceIdeal.nD Cert.SumPleReferenceIdeal.τ).loc Cert.SumPleReferenceIdeal.main_arg0) = m ((c.tc : Thread Cert.SumPleIdeal.nD Cert.SumPleIdeal.τ).loc Cert.SumPleIdeal.main_arg0)) →
    ∃ (v0 : (c : Dev Cert.SumPleIdeal.nD) → Buf (Elt Ideal) ((c.tc : Thread Cert.SumPleIdeal.nD Cert.SumPleIdeal.τ).loc Cert.SumPleIdeal.main_v0)),
      θ_run (Cert.SumPleIdeal.defs (F := Ideal)) (onTc (τ := Cert.SumPleIdeal.τ) (Cert.SumPleIdeal.main (F := Ideal))) ⟨m, fun _ => 0, g⟩ (fun r => ∀ c : Dev Cert.SumPleIdeal.nD,
          r.2.mem ((c.tc : Thread Cert.SumPleIdeal.nD Cert.SumPleIdeal.τ).loc Cert.SumPleIdeal.main_v0) = v0 c
          ∧ r.2.mem ((c.tc : Thread Cert.SumPleIdeal.nD Cert.SumPleIdeal.τ).loc Cert.SumPleIdeal.main_arg0) = m ((c.tc : Thread Cert.SumPleIdeal.nD Cert.SumPleIdeal.τ).loc Cert.SumPleIdeal.main_arg0))
      ∧ θ_run (Cert.SumPleReferenceIdeal.defs (F := Ideal)) (onTc (τ := Cert.SumPleReferenceIdeal.τ) (Cert.SumPleReferenceIdeal.main (F := Ideal))) ⟨m', fun _ => 0, g'⟩ (fun r => ∀ c : Dev Cert.SumPleReferenceIdeal.nD,
          r.2.mem ((c.tc : Thread Cert.SumPleReferenceIdeal.nD Cert.SumPleReferenceIdeal.τ).loc Cert.SumPleReferenceIdeal.main_v0) = v0 c
          ∧ r.2.mem ((c.tc : Thread Cert.SumPleReferenceIdeal.nD Cert.SumPleReferenceIdeal.τ).loc Cert.SumPleReferenceIdeal.main_arg0) = m' ((c.tc : Thread Cert.SumPleReferenceIdeal.nD Cert.SumPleReferenceIdeal.τ).loc Cert.SumPleReferenceIdeal.main_arg0))

def preserves_UpdatePle_UpdatePleIdeal : Prop :=
  True

def algebraic_UpdatePleIdeal_UpdatePleReferenceIdeal [hUpdatePleIdeal : Cert.UpdatePleIdeal.Facts] [hUpdatePleReferenceIdeal : Cert.UpdatePleReferenceIdeal.Facts] : Prop :=
  ∀ (m : (ℓ : Loc Cert.UpdatePleIdeal.nD Cert.UpdatePleIdeal.τ Cert.UpdatePleIdeal.sig) → Buf (Elt Ideal) ℓ) (g : Dev Cert.UpdatePleIdeal.nD → PrngReg)
    (m' : (ℓ : Loc Cert.UpdatePleReferenceIdeal.nD Cert.UpdatePleReferenceIdeal.τ Cert.UpdatePleReferenceIdeal.sig) → Buf (Elt Ideal) ℓ) (g' : Dev Cert.UpdatePleReferenceIdeal.nD → PrngReg), Pre_UpdatePleIdeal m →
    (∀ c : Dev Cert.UpdatePleIdeal.nD,
      m' ((c.tc : Thread Cert.UpdatePleReferenceIdeal.nD Cert.UpdatePleReferenceIdeal.τ).loc Cert.UpdatePleReferenceIdeal.main_arg0) = m ((c.tc : Thread Cert.UpdatePleIdeal.nD Cert.UpdatePleIdeal.τ).loc Cert.UpdatePleIdeal.main_arg0)
      ∧ m' ((c.tc : Thread Cert.UpdatePleReferenceIdeal.nD Cert.UpdatePleReferenceIdeal.τ).loc Cert.UpdatePleReferenceIdeal.main_arg1) = m ((c.tc : Thread Cert.UpdatePleIdeal.nD Cert.UpdatePleIdeal.τ).loc Cert.UpdatePleIdeal.main_arg1)
      ∧ m' ((c.tc : Thread Cert.UpdatePleReferenceIdeal.nD Cert.UpdatePleReferenceIdeal.τ).loc Cert.UpdatePleReferenceIdeal.main_arg2) = m ((c.tc : Thread Cert.UpdatePleIdeal.nD Cert.UpdatePleIdeal.τ).loc Cert.UpdatePleIdeal.main_arg2)
      ∧ m' ((c.tc : Thread Cert.UpdatePleReferenceIdeal.nD Cert.UpdatePleReferenceIdeal.τ).loc Cert.UpdatePleReferenceIdeal.main_arg3) = m ((c.tc : Thread Cert.UpdatePleIdeal.nD Cert.UpdatePleIdeal.τ).loc Cert.UpdatePleIdeal.main_arg3)
      ∧ m' ((c.tc : Thread Cert.UpdatePleReferenceIdeal.nD Cert.UpdatePleReferenceIdeal.τ).loc Cert.UpdatePleReferenceIdeal.main_arg4) = m ((c.tc : Thread Cert.UpdatePleIdeal.nD Cert.UpdatePleIdeal.τ).loc Cert.UpdatePleIdeal.main_arg4)) →
    ∃ (v0 : (c : Dev Cert.UpdatePleIdeal.nD) → Buf (Elt Ideal) ((c.tc : Thread Cert.UpdatePleIdeal.nD Cert.UpdatePleIdeal.τ).loc Cert.UpdatePleIdeal.main_v0_0)) (v1 : (c : Dev Cert.UpdatePleIdeal.nD) → Buf (Elt Ideal) ((c.tc : Thread Cert.UpdatePleIdeal.nD Cert.UpdatePleIdeal.τ).loc Cert.UpdatePleIdeal.main_v0_1)) (v2 : (c : Dev Cert.UpdatePleIdeal.nD) → Buf (Elt Ideal) ((c.tc : Thread Cert.UpdatePleIdeal.nD Cert.UpdatePleIdeal.τ).loc Cert.UpdatePleIdeal.main_v0_2)) (v3 : (c : Dev Cert.UpdatePleIdeal.nD) → Buf (Elt Ideal) ((c.tc : Thread Cert.UpdatePleIdeal.nD Cert.UpdatePleIdeal.τ).loc Cert.UpdatePleIdeal.main_v0_3)),
      θ_run (Cert.UpdatePleIdeal.defs (F := Ideal)) (onTc (τ := Cert.UpdatePleIdeal.τ) (Cert.UpdatePleIdeal.main (F := Ideal))) ⟨m, fun _ => 0, g⟩ (fun r => ∀ c : Dev Cert.UpdatePleIdeal.nD,
          r.2.mem ((c.tc : Thread Cert.UpdatePleIdeal.nD Cert.UpdatePleIdeal.τ).loc Cert.UpdatePleIdeal.main_v0_0) = v0 c
          ∧ r.2.mem ((c.tc : Thread Cert.UpdatePleIdeal.nD Cert.UpdatePleIdeal.τ).loc Cert.UpdatePleIdeal.main_v0_1) = v1 c
          ∧ r.2.mem ((c.tc : Thread Cert.UpdatePleIdeal.nD Cert.UpdatePleIdeal.τ).loc Cert.UpdatePleIdeal.main_v0_2) = v2 c
          ∧ r.2.mem ((c.tc : Thread Cert.UpdatePleIdeal.nD Cert.UpdatePleIdeal.τ).loc Cert.UpdatePleIdeal.main_v0_3) = v3 c
          ∧ r.2.mem ((c.tc : Thread Cert.UpdatePleIdeal.nD Cert.UpdatePleIdeal.τ).loc Cert.UpdatePleIdeal.main_arg0) = m ((c.tc : Thread Cert.UpdatePleIdeal.nD Cert.UpdatePleIdeal.τ).loc Cert.UpdatePleIdeal.main_arg0)
          ∧ r.2.mem ((c.tc : Thread Cert.UpdatePleIdeal.nD Cert.UpdatePleIdeal.τ).loc Cert.UpdatePleIdeal.main_arg1) = m ((c.tc : Thread Cert.UpdatePleIdeal.nD Cert.UpdatePleIdeal.τ).loc Cert.UpdatePleIdeal.main_arg1)
          ∧ r.2.mem ((c.tc : Thread Cert.UpdatePleIdeal.nD Cert.UpdatePleIdeal.τ).loc Cert.UpdatePleIdeal.main_arg2) = m ((c.tc : Thread Cert.UpdatePleIdeal.nD Cert.UpdatePleIdeal.τ).loc Cert.UpdatePleIdeal.main_arg2)
          ∧ r.2.mem ((c.tc : Thread Cert.UpdatePleIdeal.nD Cert.UpdatePleIdeal.τ).loc Cert.UpdatePleIdeal.main_arg3) = m ((c.tc : Thread Cert.UpdatePleIdeal.nD Cert.UpdatePleIdeal.τ).loc Cert.UpdatePleIdeal.main_arg3)
          ∧ r.2.mem ((c.tc : Thread Cert.UpdatePleIdeal.nD Cert.UpdatePleIdeal.τ).loc Cert.UpdatePleIdeal.main_arg4) = m ((c.tc : Thread Cert.UpdatePleIdeal.nD Cert.UpdatePleIdeal.τ).loc Cert.UpdatePleIdeal.main_arg4))
      ∧ θ_run (Cert.UpdatePleReferenceIdeal.defs (F := Ideal)) (onTc (τ := Cert.UpdatePleReferenceIdeal.τ) (Cert.UpdatePleReferenceIdeal.main (F := Ideal))) ⟨m', fun _ => 0, g'⟩ (fun r => ∀ c : Dev Cert.UpdatePleReferenceIdeal.nD,
          r.2.mem ((c.tc : Thread Cert.UpdatePleReferenceIdeal.nD Cert.UpdatePleReferenceIdeal.τ).loc Cert.UpdatePleReferenceIdeal.main_v0) = v0 c
          ∧ r.2.mem ((c.tc : Thread Cert.UpdatePleReferenceIdeal.nD Cert.UpdatePleReferenceIdeal.τ).loc Cert.UpdatePleReferenceIdeal.main_v24) = v1 c
          ∧ r.2.mem ((c.tc : Thread Cert.UpdatePleReferenceIdeal.nD Cert.UpdatePleReferenceIdeal.τ).loc Cert.UpdatePleReferenceIdeal.main_v5) = v2 c
          ∧ r.2.mem ((c.tc : Thread Cert.UpdatePleReferenceIdeal.nD Cert.UpdatePleReferenceIdeal.τ).loc Cert.UpdatePleReferenceIdeal.main_v11) = v3 c
          ∧ r.2.mem ((c.tc : Thread Cert.UpdatePleReferenceIdeal.nD Cert.UpdatePleReferenceIdeal.τ).loc Cert.UpdatePleReferenceIdeal.main_arg0) = m' ((c.tc : Thread Cert.UpdatePleReferenceIdeal.nD Cert.UpdatePleReferenceIdeal.τ).loc Cert.UpdatePleReferenceIdeal.main_arg0)
          ∧ r.2.mem ((c.tc : Thread Cert.UpdatePleReferenceIdeal.nD Cert.UpdatePleReferenceIdeal.τ).loc Cert.UpdatePleReferenceIdeal.main_arg1) = m' ((c.tc : Thread Cert.UpdatePleReferenceIdeal.nD Cert.UpdatePleReferenceIdeal.τ).loc Cert.UpdatePleReferenceIdeal.main_arg1)
          ∧ r.2.mem ((c.tc : Thread Cert.UpdatePleReferenceIdeal.nD Cert.UpdatePleReferenceIdeal.τ).loc Cert.UpdatePleReferenceIdeal.main_arg2) = m' ((c.tc : Thread Cert.UpdatePleReferenceIdeal.nD Cert.UpdatePleReferenceIdeal.τ).loc Cert.UpdatePleReferenceIdeal.main_arg2)
          ∧ r.2.mem ((c.tc : Thread Cert.UpdatePleReferenceIdeal.nD Cert.UpdatePleReferenceIdeal.τ).loc Cert.UpdatePleReferenceIdeal.main_arg3) = m' ((c.tc : Thread Cert.UpdatePleReferenceIdeal.nD Cert.UpdatePleReferenceIdeal.τ).loc Cert.UpdatePleReferenceIdeal.main_arg3)
          ∧ r.2.mem ((c.tc : Thread Cert.UpdatePleReferenceIdeal.nD Cert.UpdatePleReferenceIdeal.τ).loc Cert.UpdatePleReferenceIdeal.main_arg4) = m' ((c.tc : Thread Cert.UpdatePleReferenceIdeal.nD Cert.UpdatePleReferenceIdeal.τ).loc Cert.UpdatePleReferenceIdeal.main_arg4))

def preserves_UpdateSmall_UpdateSmallIdeal : Prop :=
  True

def algebraic_UpdateSmallIdeal_UpdateSmallReferenceIdeal [hUpdateSmallIdeal : Cert.UpdateSmallIdeal.Facts] [hUpdateSmallReferenceIdeal : Cert.UpdateSmallReferenceIdeal.Facts] : Prop :=
  ∀ (m : (ℓ : Loc Cert.UpdateSmallIdeal.nD Cert.UpdateSmallIdeal.τ Cert.UpdateSmallIdeal.sig) → Buf (Elt Ideal) ℓ) (g : Dev Cert.UpdateSmallIdeal.nD → PrngReg)
    (m' : (ℓ : Loc Cert.UpdateSmallReferenceIdeal.nD Cert.UpdateSmallReferenceIdeal.τ Cert.UpdateSmallReferenceIdeal.sig) → Buf (Elt Ideal) ℓ) (g' : Dev Cert.UpdateSmallReferenceIdeal.nD → PrngReg), Pre_UpdateSmallIdeal m →
    (∀ c : Dev Cert.UpdateSmallIdeal.nD,
      m' ((c.tc : Thread Cert.UpdateSmallReferenceIdeal.nD Cert.UpdateSmallReferenceIdeal.τ).loc Cert.UpdateSmallReferenceIdeal.main_arg0) = m ((c.tc : Thread Cert.UpdateSmallIdeal.nD Cert.UpdateSmallIdeal.τ).loc Cert.UpdateSmallIdeal.main_arg0)
      ∧ m' ((c.tc : Thread Cert.UpdateSmallReferenceIdeal.nD Cert.UpdateSmallReferenceIdeal.τ).loc Cert.UpdateSmallReferenceIdeal.main_arg1) = m ((c.tc : Thread Cert.UpdateSmallIdeal.nD Cert.UpdateSmallIdeal.τ).loc Cert.UpdateSmallIdeal.main_arg1)
      ∧ m' ((c.tc : Thread Cert.UpdateSmallReferenceIdeal.nD Cert.UpdateSmallReferenceIdeal.τ).loc Cert.UpdateSmallReferenceIdeal.main_arg2) = m ((c.tc : Thread Cert.UpdateSmallIdeal.nD Cert.UpdateSmallIdeal.τ).loc Cert.UpdateSmallIdeal.main_arg2)
      ∧ m' ((c.tc : Thread Cert.UpdateSmallReferenceIdeal.nD Cert.UpdateSmallReferenceIdeal.τ).loc Cert.UpdateSmallReferenceIdeal.main_arg3) = m ((c.tc : Thread Cert.UpdateSmallIdeal.nD Cert.UpdateSmallIdeal.τ).loc Cert.UpdateSmallIdeal.main_arg3)) →
    ∃ (v0 : (c : Dev Cert.UpdateSmallIdeal.nD) → Buf (Elt Ideal) ((c.tc : Thread Cert.UpdateSmallIdeal.nD Cert.UpdateSmallIdeal.τ).loc Cert.UpdateSmallIdeal.main_v0_0)) (v1 : (c : Dev Cert.UpdateSmallIdeal.nD) → Buf (Elt Ideal) ((c.tc : Thread Cert.UpdateSmallIdeal.nD Cert.UpdateSmallIdeal.τ).loc Cert.UpdateSmallIdeal.main_v0_1)) (v2 : (c : Dev Cert.UpdateSmallIdeal.nD) → Buf (Elt Ideal) ((c.tc : Thread Cert.UpdateSmallIdeal.nD Cert.UpdateSmallIdeal.τ).loc Cert.UpdateSmallIdeal.main_v0_2)) (v3 : (c : Dev Cert.UpdateSmallIdeal.nD) → Buf (Elt Ideal) ((c.tc : Thread Cert.UpdateSmallIdeal.nD Cert.UpdateSmallIdeal.τ).loc Cert.UpdateSmallIdeal.main_v0_3)),
      θ_run (Cert.UpdateSmallIdeal.defs (F := Ideal)) (onTc (τ := Cert.UpdateSmallIdeal.τ) (Cert.UpdateSmallIdeal.main (F := Ideal))) ⟨m, fun _ => 0, g⟩ (fun r => ∀ c : Dev Cert.UpdateSmallIdeal.nD,
          r.2.mem ((c.tc : Thread Cert.UpdateSmallIdeal.nD Cert.UpdateSmallIdeal.τ).loc Cert.UpdateSmallIdeal.main_v0_0) = v0 c
          ∧ r.2.mem ((c.tc : Thread Cert.UpdateSmallIdeal.nD Cert.UpdateSmallIdeal.τ).loc Cert.UpdateSmallIdeal.main_v0_1) = v1 c
          ∧ r.2.mem ((c.tc : Thread Cert.UpdateSmallIdeal.nD Cert.UpdateSmallIdeal.τ).loc Cert.UpdateSmallIdeal.main_v0_2) = v2 c
          ∧ r.2.mem ((c.tc : Thread Cert.UpdateSmallIdeal.nD Cert.UpdateSmallIdeal.τ).loc Cert.UpdateSmallIdeal.main_v0_3) = v3 c
          ∧ r.2.mem ((c.tc : Thread Cert.UpdateSmallIdeal.nD Cert.UpdateSmallIdeal.τ).loc Cert.UpdateSmallIdeal.main_arg0) = m ((c.tc : Thread Cert.UpdateSmallIdeal.nD Cert.UpdateSmallIdeal.τ).loc Cert.UpdateSmallIdeal.main_arg0)
          ∧ r.2.mem ((c.tc : Thread Cert.UpdateSmallIdeal.nD Cert.UpdateSmallIdeal.τ).loc Cert.UpdateSmallIdeal.main_arg1) = m ((c.tc : Thread Cert.UpdateSmallIdeal.nD Cert.UpdateSmallIdeal.τ).loc Cert.UpdateSmallIdeal.main_arg1)
          ∧ r.2.mem ((c.tc : Thread Cert.UpdateSmallIdeal.nD Cert.UpdateSmallIdeal.τ).loc Cert.UpdateSmallIdeal.main_arg2) = m ((c.tc : Thread Cert.UpdateSmallIdeal.nD Cert.UpdateSmallIdeal.τ).loc Cert.UpdateSmallIdeal.main_arg2)
          ∧ r.2.mem ((c.tc : Thread Cert.UpdateSmallIdeal.nD Cert.UpdateSmallIdeal.τ).loc Cert.UpdateSmallIdeal.main_arg3) = m ((c.tc : Thread Cert.UpdateSmallIdeal.nD Cert.UpdateSmallIdeal.τ).loc Cert.UpdateSmallIdeal.main_arg3))
      ∧ θ_run (Cert.UpdateSmallReferenceIdeal.defs (F := Ideal)) (onTc (τ := Cert.UpdateSmallReferenceIdeal.τ) (Cert.UpdateSmallReferenceIdeal.main (F := Ideal))) ⟨m', fun _ => 0, g'⟩ (fun r => ∀ c : Dev Cert.UpdateSmallReferenceIdeal.nD,
          r.2.mem ((c.tc : Thread Cert.UpdateSmallReferenceIdeal.nD Cert.UpdateSmallReferenceIdeal.τ).loc Cert.UpdateSmallReferenceIdeal.main_v0) = v0 c
          ∧ r.2.mem ((c.tc : Thread Cert.UpdateSmallReferenceIdeal.nD Cert.UpdateSmallReferenceIdeal.τ).loc Cert.UpdateSmallReferenceIdeal.main_v24) = v1 c
          ∧ r.2.mem ((c.tc : Thread Cert.UpdateSmallReferenceIdeal.nD Cert.UpdateSmallReferenceIdeal.τ).loc Cert.UpdateSmallReferenceIdeal.main_v5) = v2 c
          ∧ r.2.mem ((c.tc : Thread Cert.UpdateSmallReferenceIdeal.nD Cert.UpdateSmallReferenceIdeal.τ).loc Cert.UpdateSmallReferenceIdeal.main_v11) = v3 c
          ∧ r.2.mem ((c.tc : Thread Cert.UpdateSmallReferenceIdeal.nD Cert.UpdateSmallReferenceIdeal.τ).loc Cert.UpdateSmallReferenceIdeal.main_arg0) = m' ((c.tc : Thread Cert.UpdateSmallReferenceIdeal.nD Cert.UpdateSmallReferenceIdeal.τ).loc Cert.UpdateSmallReferenceIdeal.main_arg0)
          ∧ r.2.mem ((c.tc : Thread Cert.UpdateSmallReferenceIdeal.nD Cert.UpdateSmallReferenceIdeal.τ).loc Cert.UpdateSmallReferenceIdeal.main_arg1) = m' ((c.tc : Thread Cert.UpdateSmallReferenceIdeal.nD Cert.UpdateSmallReferenceIdeal.τ).loc Cert.UpdateSmallReferenceIdeal.main_arg1)
          ∧ r.2.mem ((c.tc : Thread Cert.UpdateSmallReferenceIdeal.nD Cert.UpdateSmallReferenceIdeal.τ).loc Cert.UpdateSmallReferenceIdeal.main_arg2) = m' ((c.tc : Thread Cert.UpdateSmallReferenceIdeal.nD Cert.UpdateSmallReferenceIdeal.τ).loc Cert.UpdateSmallReferenceIdeal.main_arg2)
          ∧ r.2.mem ((c.tc : Thread Cert.UpdateSmallReferenceIdeal.nD Cert.UpdateSmallReferenceIdeal.τ).loc Cert.UpdateSmallReferenceIdeal.main_arg3) = m' ((c.tc : Thread Cert.UpdateSmallReferenceIdeal.nD Cert.UpdateSmallReferenceIdeal.τ).loc Cert.UpdateSmallReferenceIdeal.main_arg3))

def preserves_GradIn_GradInIdeal : Prop :=
  True

def algebraic_GradInIdeal_GradInReferenceIdeal [hGradInIdeal : Cert.GradInIdeal.Facts] [hGradInReferenceIdeal : Cert.GradInReferenceIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInReferenceIdeal.nD Cert.GradInReferenceIdeal.τ Cert.GradInReferenceIdeal.sig) → Buf (Elt Ideal) ℓ) (g' : Dev Cert.GradInReferenceIdeal.nD → PrngReg), Pre_GradInIdeal m →
    (∀ c : Dev Cert.GradInIdeal.nD,
      m' ((c.tc : Thread Cert.GradInReferenceIdeal.nD Cert.GradInReferenceIdeal.τ).loc Cert.GradInReferenceIdeal.main_arg0) = m ((c.tc : Thread Cert.GradInIdeal.nD Cert.GradInIdeal.τ).loc Cert.GradInIdeal.main_arg0)
      ∧ m' ((c.tc : Thread Cert.GradInReferenceIdeal.nD Cert.GradInReferenceIdeal.τ).loc Cert.GradInReferenceIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInReferenceIdeal.defs (F := Ideal)) (onTc (τ := Cert.GradInReferenceIdeal.τ) (Cert.GradInReferenceIdeal.main (F := Ideal))) ⟨m', fun _ => 0, g'⟩ (fun r => ∀ c : Dev Cert.GradInReferenceIdeal.nD,
          r.2.mem ((c.tc : Thread Cert.GradInReferenceIdeal.nD Cert.GradInReferenceIdeal.τ).loc Cert.GradInReferenceIdeal.main_v3) = v0 c
          ∧ r.2.mem ((c.tc : Thread Cert.GradInReferenceIdeal.nD Cert.GradInReferenceIdeal.τ).loc Cert.GradInReferenceIdeal.main_arg0) = m' ((c.tc : Thread Cert.GradInReferenceIdeal.nD Cert.GradInReferenceIdeal.τ).loc Cert.GradInReferenceIdeal.main_arg0)
          ∧ r.2.mem ((c.tc : Thread Cert.GradInReferenceIdeal.nD Cert.GradInReferenceIdeal.τ).loc Cert.GradInReferenceIdeal.main_arg1) = m' ((c.tc : Thread Cert.GradInReferenceIdeal.nD Cert.GradInReferenceIdeal.τ).loc Cert.GradInReferenceIdeal.main_arg1))

def preserves_GradOut_GradOutIdeal : Prop :=
  True

def algebraic_GradOutIdeal_GradOutReferenceIdeal [hGradOutIdeal : Cert.GradOutIdeal.Facts] [hGradOutReferenceIdeal : Cert.GradOutReferenceIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutReferenceIdeal.nD Cert.GradOutReferenceIdeal.τ Cert.GradOutReferenceIdeal.sig) → Buf (Elt Ideal) ℓ) (g' : Dev Cert.GradOutReferenceIdeal.nD → PrngReg), Pre_GradOutIdeal m →
    (∀ c : Dev Cert.GradOutIdeal.nD,
      m' ((c.tc : Thread Cert.GradOutReferenceIdeal.nD Cert.GradOutReferenceIdeal.τ).loc Cert.GradOutReferenceIdeal.main_arg0) = m ((c.tc : Thread Cert.GradOutIdeal.nD Cert.GradOutIdeal.τ).loc Cert.GradOutIdeal.main_arg0)
      ∧ m' ((c.tc : Thread Cert.GradOutReferenceIdeal.nD Cert.GradOutReferenceIdeal.τ).loc Cert.GradOutReferenceIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutReferenceIdeal.defs (F := Ideal)) (onTc (τ := Cert.GradOutReferenceIdeal.τ) (Cert.GradOutReferenceIdeal.main (F := Ideal))) ⟨m', fun _ => 0, g'⟩ (fun r => ∀ c : Dev Cert.GradOutReferenceIdeal.nD,
          r.2.mem ((c.tc : Thread Cert.GradOutReferenceIdeal.nD Cert.GradOutReferenceIdeal.τ).loc Cert.GradOutReferenceIdeal.main_v3) = v0 c
          ∧ r.2.mem ((c.tc : Thread Cert.GradOutReferenceIdeal.nD Cert.GradOutReferenceIdeal.τ).loc Cert.GradOutReferenceIdeal.main_arg0) = m' ((c.tc : Thread Cert.GradOutReferenceIdeal.nD Cert.GradOutReferenceIdeal.τ).loc Cert.GradOutReferenceIdeal.main_arg0)
          ∧ r.2.mem ((c.tc : Thread Cert.GradOutReferenceIdeal.nD Cert.GradOutReferenceIdeal.τ).loc Cert.GradOutReferenceIdeal.main_arg1) = m' ((c.tc : Thread Cert.GradOutReferenceIdeal.nD Cert.GradOutReferenceIdeal.τ).loc Cert.GradOutReferenceIdeal.main_arg1))

def preserves_GradFfn_GradFfnIdeal : Prop :=
  True

def algebraic_GradFfnIdeal_GradFfnReferenceIdeal [hGradFfnIdeal : Cert.GradFfnIdeal.Facts] [hGradFfnReferenceIdeal : Cert.GradFfnReferenceIdeal.Facts] : Prop :=
  ∀ (m : (ℓ : Loc Cert.GradFfnIdeal.nD Cert.GradFfnIdeal.τ Cert.GradFfnIdeal.sig) → Buf (Elt Ideal) ℓ) (g : Dev Cert.GradFfnIdeal.nD → PrngReg)
    (m' : (ℓ : Loc Cert.GradFfnReferenceIdeal.nD Cert.GradFfnReferenceIdeal.τ Cert.GradFfnReferenceIdeal.sig) → Buf (Elt Ideal) ℓ) (g' : Dev Cert.GradFfnReferenceIdeal.nD → PrngReg), Pre_GradFfnIdeal m →
    (∀ c : Dev Cert.GradFfnIdeal.nD,
      m' ((c.tc : Thread Cert.GradFfnReferenceIdeal.nD Cert.GradFfnReferenceIdeal.τ).loc Cert.GradFfnReferenceIdeal.main_arg0) = m ((c.tc : Thread Cert.GradFfnIdeal.nD Cert.GradFfnIdeal.τ).loc Cert.GradFfnIdeal.main_arg0)
      ∧ m' ((c.tc : Thread Cert.GradFfnReferenceIdeal.nD Cert.GradFfnReferenceIdeal.τ).loc Cert.GradFfnReferenceIdeal.main_arg1) = m ((c.tc : Thread Cert.GradFfnIdeal.nD Cert.GradFfnIdeal.τ).loc Cert.GradFfnIdeal.main_arg1)) →
    ∃ (v0 : (c : Dev Cert.GradFfnIdeal.nD) → Buf (Elt Ideal) ((c.tc : Thread Cert.GradFfnIdeal.nD Cert.GradFfnIdeal.τ).loc Cert.GradFfnIdeal.main_v0)),
      θ_run (Cert.GradFfnIdeal.defs (F := Ideal)) (onTc (τ := Cert.GradFfnIdeal.τ) (Cert.GradFfnIdeal.main (F := Ideal))) ⟨m, fun _ => 0, g⟩ (fun r => ∀ c : Dev Cert.GradFfnIdeal.nD,
          r.2.mem ((c.tc : Thread Cert.GradFfnIdeal.nD Cert.GradFfnIdeal.τ).loc Cert.GradFfnIdeal.main_v0) = v0 c
          ∧ r.2.mem ((c.tc : Thread Cert.GradFfnIdeal.nD Cert.GradFfnIdeal.τ).loc Cert.GradFfnIdeal.main_arg0) = m ((c.tc : Thread Cert.GradFfnIdeal.nD Cert.GradFfnIdeal.τ).loc Cert.GradFfnIdeal.main_arg0)
          ∧ r.2.mem ((c.tc : Thread Cert.GradFfnIdeal.nD Cert.GradFfnIdeal.τ).loc Cert.GradFfnIdeal.main_arg1) = m ((c.tc : Thread Cert.GradFfnIdeal.nD Cert.GradFfnIdeal.τ).loc Cert.GradFfnIdeal.main_arg1))
      ∧ θ_run (Cert.GradFfnReferenceIdeal.defs (F := Ideal)) (onTc (τ := Cert.GradFfnReferenceIdeal.τ) (Cert.GradFfnReferenceIdeal.main (F := Ideal))) ⟨m', fun _ => 0, g'⟩ (fun r => ∀ c : Dev Cert.GradFfnReferenceIdeal.nD,
          r.2.mem ((c.tc : Thread Cert.GradFfnReferenceIdeal.nD Cert.GradFfnReferenceIdeal.τ).loc Cert.GradFfnReferenceIdeal.main_v3) = v0 c
          ∧ r.2.mem ((c.tc : Thread Cert.GradFfnReferenceIdeal.nD Cert.GradFfnReferenceIdeal.τ).loc Cert.GradFfnReferenceIdeal.main_arg0) = m' ((c.tc : Thread Cert.GradFfnReferenceIdeal.nD Cert.GradFfnReferenceIdeal.τ).loc Cert.GradFfnReferenceIdeal.main_arg0)
          ∧ r.2.mem ((c.tc : Thread Cert.GradFfnReferenceIdeal.nD Cert.GradFfnReferenceIdeal.τ).loc Cert.GradFfnReferenceIdeal.main_arg1) = m' ((c.tc : Thread Cert.GradFfnReferenceIdeal.nD Cert.GradFfnReferenceIdeal.τ).loc Cert.GradFfnReferenceIdeal.main_arg1))

def preserves_GradDown_GradDownIdeal : Prop :=
  True

def algebraic_GradDownIdeal_GradDownReferenceIdeal [hGradDownIdeal : Cert.GradDownIdeal.Facts] [hGradDownReferenceIdeal : Cert.GradDownReferenceIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownReferenceIdeal.nD Cert.GradDownReferenceIdeal.τ Cert.GradDownReferenceIdeal.sig) → Buf (Elt Ideal) ℓ) (g' : Dev Cert.GradDownReferenceIdeal.nD → PrngReg), Pre_GradDownIdeal m →
    (∀ c : Dev Cert.GradDownIdeal.nD,
      m' ((c.tc : Thread Cert.GradDownReferenceIdeal.nD Cert.GradDownReferenceIdeal.τ).loc Cert.GradDownReferenceIdeal.main_arg0) = m ((c.tc : Thread Cert.GradDownIdeal.nD Cert.GradDownIdeal.τ).loc Cert.GradDownIdeal.main_arg0)
      ∧ m' ((c.tc : Thread Cert.GradDownReferenceIdeal.nD Cert.GradDownReferenceIdeal.τ).loc Cert.GradDownReferenceIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownReferenceIdeal.defs (F := Ideal)) (onTc (τ := Cert.GradDownReferenceIdeal.τ) (Cert.GradDownReferenceIdeal.main (F := Ideal))) ⟨m', fun _ => 0, g'⟩ (fun r => ∀ c : Dev Cert.GradDownReferenceIdeal.nD,
          r.2.mem ((c.tc : Thread Cert.GradDownReferenceIdeal.nD Cert.GradDownReferenceIdeal.τ).loc Cert.GradDownReferenceIdeal.main_v3) = v0 c
          ∧ r.2.mem ((c.tc : Thread Cert.GradDownReferenceIdeal.nD Cert.GradDownReferenceIdeal.τ).loc Cert.GradDownReferenceIdeal.main_arg0) = m' ((c.tc : Thread Cert.GradDownReferenceIdeal.nD Cert.GradDownReferenceIdeal.τ).loc Cert.GradDownReferenceIdeal.main_arg0)
          ∧ r.2.mem ((c.tc : Thread Cert.GradDownReferenceIdeal.nD Cert.GradDownReferenceIdeal.τ).loc Cert.GradDownReferenceIdeal.main_arg1) = m' ((c.tc : Thread Cert.GradDownReferenceIdeal.nD Cert.GradDownReferenceIdeal.τ).loc Cert.GradDownReferenceIdeal.main_arg1))

def preserves_GradPle_GradPleIdeal : Prop :=
  True

def algebraic_GradPleIdeal_GradPleReferenceIdeal [hGradPleIdeal : Cert.GradPleIdeal.Facts] [hGradPleReferenceIdeal : Cert.GradPleReferenceIdeal.Facts] : Prop :=
  ∀ (m : (ℓ : Loc Cert.GradPleIdeal.nD Cert.GradPleIdeal.τ Cert.GradPleIdeal.sig) → Buf (Elt Ideal) ℓ) (g : Dev Cert.GradPleIdeal.nD → PrngReg)
    (m' : (ℓ : Loc Cert.GradPleReferenceIdeal.nD Cert.GradPleReferenceIdeal.τ Cert.GradPleReferenceIdeal.sig) → Buf (Elt Ideal) ℓ) (g' : Dev Cert.GradPleReferenceIdeal.nD → PrngReg), Pre_GradPleIdeal m →
    (∀ c : Dev Cert.GradPleIdeal.nD,
      m' ((c.tc : Thread Cert.GradPleReferenceIdeal.nD Cert.GradPleReferenceIdeal.τ).loc Cert.GradPleReferenceIdeal.main_arg0) = m ((c.tc : Thread Cert.GradPleIdeal.nD Cert.GradPleIdeal.τ).loc Cert.GradPleIdeal.main_arg0)
      ∧ m' ((c.tc : Thread Cert.GradPleReferenceIdeal.nD Cert.GradPleReferenceIdeal.τ).loc Cert.GradPleReferenceIdeal.main_arg1) = m ((c.tc : Thread Cert.GradPleIdeal.nD Cert.GradPleIdeal.τ).loc Cert.GradPleIdeal.main_arg1)) →
    ∃ (v0 : (c : Dev Cert.GradPleIdeal.nD) → Buf (Elt Ideal) ((c.tc : Thread Cert.GradPleIdeal.nD Cert.GradPleIdeal.τ).loc Cert.GradPleIdeal.main_v0)),
      θ_run (Cert.GradPleIdeal.defs (F := Ideal)) (onTc (τ := Cert.GradPleIdeal.τ) (Cert.GradPleIdeal.main (F := Ideal))) ⟨m, fun _ => 0, g⟩ (fun r => ∀ c : Dev Cert.GradPleIdeal.nD,
          r.2.mem ((c.tc : Thread Cert.GradPleIdeal.nD Cert.GradPleIdeal.τ).loc Cert.GradPleIdeal.main_v0) = v0 c
          ∧ r.2.mem ((c.tc : Thread Cert.GradPleIdeal.nD Cert.GradPleIdeal.τ).loc Cert.GradPleIdeal.main_arg0) = m ((c.tc : Thread Cert.GradPleIdeal.nD Cert.GradPleIdeal.τ).loc Cert.GradPleIdeal.main_arg0)
          ∧ r.2.mem ((c.tc : Thread Cert.GradPleIdeal.nD Cert.GradPleIdeal.τ).loc Cert.GradPleIdeal.main_arg1) = m ((c.tc : Thread Cert.GradPleIdeal.nD Cert.GradPleIdeal.τ).loc Cert.GradPleIdeal.main_arg1))
      ∧ θ_run (Cert.GradPleReferenceIdeal.defs (F := Ideal)) (onTc (τ := Cert.GradPleReferenceIdeal.τ) (Cert.GradPleReferenceIdeal.main (F := Ideal))) ⟨m', fun _ => 0, g'⟩ (fun r => ∀ c : Dev Cert.GradPleReferenceIdeal.nD,
          r.2.mem ((c.tc : Thread Cert.GradPleReferenceIdeal.nD Cert.GradPleReferenceIdeal.τ).loc Cert.GradPleReferenceIdeal.main_v2) = v0 c
          ∧ r.2.mem ((c.tc : Thread Cert.GradPleReferenceIdeal.nD Cert.GradPleReferenceIdeal.τ).loc Cert.GradPleReferenceIdeal.main_arg0) = m' ((c.tc : Thread Cert.GradPleReferenceIdeal.nD Cert.GradPleReferenceIdeal.τ).loc Cert.GradPleReferenceIdeal.main_arg0)
          ∧ r.2.mem ((c.tc : Thread Cert.GradPleReferenceIdeal.nD Cert.GradPleReferenceIdeal.τ).loc Cert.GradPleReferenceIdeal.main_arg1) = m' ((c.tc : Thread Cert.GradPleReferenceIdeal.nD Cert.GradPleReferenceIdeal.τ).loc Cert.GradPleReferenceIdeal.main_arg1))

def preserves_LossHead_LossHeadIdeal : Prop :=
  True

def algebraic_LossHeadIdeal_LossHeadReferenceIdeal [hLossHeadIdeal : Cert.LossHeadIdeal.Facts] [hLossHeadReferenceIdeal : Cert.LossHeadReferenceIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadIdeal m →
    (∀ c : Dev Cert.LossHeadIdeal.nD,
      m' ((c.tc : Thread Cert.LossHeadReferenceIdeal.nD Cert.LossHeadReferenceIdeal.τ).loc Cert.LossHeadReferenceIdeal.main_arg0) = m ((c.tc : Thread Cert.LossHeadIdeal.nD Cert.LossHeadIdeal.τ).loc Cert.LossHeadIdeal.main_arg0)
      ∧ m' ((c.tc : Thread Cert.LossHeadReferenceIdeal.nD Cert.LossHeadReferenceIdeal.τ).loc Cert.LossHeadReferenceIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v3) = v0 c
          ∧ r.2.mem ((c.tc : Thread Cert.LossHeadReferenceIdeal.nD Cert.LossHeadReferenceIdeal.τ).loc Cert.LossHeadReferenceIdeal.main_v5) = v1 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1))

def preserves_NormIn_NormInIdeal : Prop :=
  True

def algebraic_NormInIdeal_NormInReferenceIdeal [hNormInIdeal : Cert.NormInIdeal.Facts] [hNormInReferenceIdeal : Cert.NormInReferenceIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInReferenceIdeal.nD Cert.NormInReferenceIdeal.τ Cert.NormInReferenceIdeal.sig) → Buf (Elt Ideal) ℓ) (g' : Dev Cert.NormInReferenceIdeal.nD → PrngReg), Pre_NormInIdeal m →
    (∀ c : Dev Cert.NormInIdeal.nD,
      m' ((c.tc : Thread Cert.NormInReferenceIdeal.nD Cert.NormInReferenceIdeal.τ).loc Cert.NormInReferenceIdeal.main_arg0) = m ((c.tc : Thread Cert.NormInIdeal.nD Cert.NormInIdeal.τ).loc Cert.NormInIdeal.main_arg0)
      ∧ m' ((c.tc : Thread Cert.NormInReferenceIdeal.nD Cert.NormInReferenceIdeal.τ).loc Cert.NormInReferenceIdeal.main_arg1) = m ((c.tc : Thread Cert.NormInIdeal.nD Cert.NormInIdeal.τ).loc Cert.NormInIdeal.main_arg1)
      ∧ m' ((c.tc : Thread Cert.NormInReferenceIdeal.nD Cert.NormInReferenceIdeal.τ).loc Cert.NormInReferenceIdeal.main_arg2) = m ((c.tc : Thread Cert.NormInIdeal.nD Cert.NormInIdeal.τ).loc Cert.NormInIdeal.main_arg2)) →
    ∃ (v0 : (c : Dev Cert.NormInIdeal.nD) → Buf (Elt Ideal) ((c.tc : Thread Cert.NormInIdeal.nD Cert.NormInIdeal.τ).loc Cert.NormInIdeal.main_v0_0)) (v1 : (c : Dev Cert.NormInIdeal.nD) → Buf (Elt Ideal) ((c.tc : Thread Cert.NormInIdeal.nD Cert.NormInIdeal.τ).loc Cert.NormInIdeal.main_v0_1)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0_0) = v0 c
          ∧ r.2.mem ((c.tc : Thread Cert.NormInIdeal.nD Cert.NormInIdeal.τ).loc Cert.NormInIdeal.main_v0_1) = v1 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2))
      ∧ θ_run (Cert.NormInReferenceIdeal.defs (F := Ideal)) (onTc (τ := Cert.NormInReferenceIdeal.τ) (Cert.NormInReferenceIdeal.main (F := Ideal))) ⟨m', fun _ => 0, g'⟩ (fun r => ∀ c : Dev Cert.NormInReferenceIdeal.nD,
          r.2.mem ((c.tc : Thread Cert.NormInReferenceIdeal.nD Cert.NormInReferenceIdeal.τ).loc Cert.NormInReferenceIdeal.main_v13) = v0 c
          ∧ r.2.mem ((c.tc : Thread Cert.NormInReferenceIdeal.nD Cert.NormInReferenceIdeal.τ).loc Cert.NormInReferenceIdeal.main_v14) = v1 c
          ∧ r.2.mem ((c.tc : Thread Cert.NormInReferenceIdeal.nD Cert.NormInReferenceIdeal.τ).loc Cert.NormInReferenceIdeal.main_arg0) = m' ((c.tc : Thread Cert.NormInReferenceIdeal.nD Cert.NormInReferenceIdeal.τ).loc Cert.NormInReferenceIdeal.main_arg0)
          ∧ r.2.mem ((c.tc : Thread Cert.NormInReferenceIdeal.nD Cert.NormInReferenceIdeal.τ).loc Cert.NormInReferenceIdeal.main_arg1) = m' ((c.tc : Thread Cert.NormInReferenceIdeal.nD Cert.NormInReferenceIdeal.τ).loc Cert.NormInReferenceIdeal.main_arg1)
          ∧ r.2.mem ((c.tc : Thread Cert.NormInReferenceIdeal.nD Cert.NormInReferenceIdeal.τ).loc Cert.NormInReferenceIdeal.main_arg2) = m' ((c.tc : Thread Cert.NormInReferenceIdeal.nD Cert.NormInReferenceIdeal.τ).loc Cert.NormInReferenceIdeal.main_arg2))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)
      ∧ m' ((c.tc : Thread Cert.MixOutReferenceIdeal.nD Cert.MixOutReferenceIdeal.τ).loc Cert.MixOutReferenceIdeal.main_arg4) = m ((c.tc : Thread Cert.MixOutIdeal.nD Cert.MixOutIdeal.τ).loc Cert.MixOutIdeal.main_arg4)
      ∧ m' ((c.tc : Thread Cert.MixOutReferenceIdeal.nD Cert.MixOutReferenceIdeal.τ).loc Cert.MixOutReferenceIdeal.main_arg5) = m ((c.tc : Thread Cert.MixOutIdeal.nD Cert.MixOutIdeal.τ).loc Cert.MixOutIdeal.main_arg5)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)) (v2 : (c : Dev Cert.MixOutIdeal.nD) → Buf (Elt Ideal) ((c.tc : Thread Cert.MixOutIdeal.nD Cert.MixOutIdeal.τ).loc Cert.MixOutIdeal.main_v0_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_v0_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v29) = v0 c
          ∧ r.2.mem ((c.tc : Thread Cert.MixOutReferenceIdeal.nD Cert.MixOutReferenceIdeal.τ).loc Cert.MixOutReferenceIdeal.main_v28) = v1 c
          ∧ r.2.mem ((c.tc : Thread Cert.MixOutReferenceIdeal.nD Cert.MixOutReferenceIdeal.τ).loc Cert.MixOutReferenceIdeal.main_v42) = v2 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3)
          ∧ r.2.mem ((c.tc : Thread Cert.MixOutReferenceIdeal.nD Cert.MixOutReferenceIdeal.τ).loc Cert.MixOutReferenceIdeal.main_arg4) = m' ((c.tc : Thread Cert.MixOutReferenceIdeal.nD Cert.MixOutReferenceIdeal.τ).loc Cert.MixOutReferenceIdeal.main_arg4)
          ∧ r.2.mem ((c.tc : Thread Cert.MixOutReferenceIdeal.nD Cert.MixOutReferenceIdeal.τ).loc Cert.MixOutReferenceIdeal.main_arg5) = m' ((c.tc : Thread Cert.MixOutReferenceIdeal.nD Cert.MixOutReferenceIdeal.τ).loc Cert.MixOutReferenceIdeal.main_arg5))

def preserves_FfnIn_FfnInIdeal : Prop :=
  True

def algebraic_FfnInIdeal_FfnInReferenceIdeal [hFfnInIdeal : Cert.FfnInIdeal.Facts] [hFfnInReferenceIdeal : Cert.FfnInReferenceIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInReferenceIdeal.nD Cert.FfnInReferenceIdeal.τ Cert.FfnInReferenceIdeal.sig) → Buf (Elt Ideal) ℓ) (g' : Dev Cert.FfnInReferenceIdeal.nD → PrngReg), Pre_FfnInIdeal m →
    (∀ c : Dev Cert.FfnInIdeal.nD,
      m' ((c.tc : Thread Cert.FfnInReferenceIdeal.nD Cert.FfnInReferenceIdeal.τ).loc Cert.FfnInReferenceIdeal.main_arg0) = m ((c.tc : Thread Cert.FfnInIdeal.nD Cert.FfnInIdeal.τ).loc Cert.FfnInIdeal.main_arg0)
      ∧ m' ((c.tc : Thread Cert.FfnInReferenceIdeal.nD Cert.FfnInReferenceIdeal.τ).loc Cert.FfnInReferenceIdeal.main_arg1) = m ((c.tc : Thread Cert.FfnInIdeal.nD Cert.FfnInIdeal.τ).loc Cert.FfnInIdeal.main_arg1)
      ∧ m' ((c.tc : Thread Cert.FfnInReferenceIdeal.nD Cert.FfnInReferenceIdeal.τ).loc Cert.FfnInReferenceIdeal.main_arg2) = m ((c.tc : Thread Cert.FfnInIdeal.nD Cert.FfnInIdeal.τ).loc Cert.FfnInIdeal.main_arg2)
      ∧ m' ((c.tc : Thread Cert.FfnInReferenceIdeal.nD Cert.FfnInReferenceIdeal.τ).loc Cert.FfnInReferenceIdeal.main_arg3) = m ((c.tc : Thread Cert.FfnInIdeal.nD Cert.FfnInIdeal.τ).loc Cert.FfnInIdeal.main_arg3)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)) (v2 : (c : Dev Cert.FfnInIdeal.nD) → Buf (Elt Ideal) ((c.tc : Thread Cert.FfnInIdeal.nD Cert.FfnInIdeal.τ).loc Cert.FfnInIdeal.main_v0_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_v0_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3))
      ∧ θ_run (Cert.FfnInReferenceIdeal.defs (F := Ideal)) (onTc (τ := Cert.FfnInReferenceIdeal.τ) (Cert.FfnInReferenceIdeal.main (F := Ideal))) ⟨m', fun _ => 0, g'⟩ (fun r => ∀ c : Dev Cert.FfnInReferenceIdeal.nD,
          r.2.mem ((c.tc : Thread Cert.FfnInReferenceIdeal.nD Cert.FfnInReferenceIdeal.τ).loc Cert.FfnInReferenceIdeal.main_v12) = v0 c
          ∧ r.2.mem ((c.tc : Thread Cert.FfnInReferenceIdeal.nD Cert.FfnInReferenceIdeal.τ).loc Cert.FfnInReferenceIdeal.main_v14) = v1 c
          ∧ r.2.mem ((c.tc : Thread Cert.FfnInReferenceIdeal.nD Cert.FfnInReferenceIdeal.τ).loc Cert.FfnInReferenceIdeal.main_v16) = v2 c
          ∧ r.2.mem ((c.tc : Thread Cert.FfnInReferenceIdeal.nD Cert.FfnInReferenceIdeal.τ).loc Cert.FfnInReferenceIdeal.main_arg0) = m' ((c.tc : Thread Cert.FfnInReferenceIdeal.nD Cert.FfnInReferenceIdeal.τ).loc Cert.FfnInReferenceIdeal.main_arg0)
          ∧ r.2.mem ((c.tc : Thread Cert.FfnInReferenceIdeal.nD Cert.FfnInReferenceIdeal.τ).loc Cert.FfnInReferenceIdeal.main_arg1) = m' ((c.tc : Thread Cert.FfnInReferenceIdeal.nD Cert.FfnInReferenceIdeal.τ).loc Cert.FfnInReferenceIdeal.main_arg1)
          ∧ r.2.mem ((c.tc : Thread Cert.FfnInReferenceIdeal.nD Cert.FfnInReferenceIdeal.τ).loc Cert.FfnInReferenceIdeal.main_arg2) = m' ((c.tc : Thread Cert.FfnInReferenceIdeal.nD Cert.FfnInReferenceIdeal.τ).loc Cert.FfnInReferenceIdeal.main_arg2)
          ∧ r.2.mem ((c.tc : Thread Cert.FfnInReferenceIdeal.nD Cert.FfnInReferenceIdeal.τ).loc Cert.FfnInReferenceIdeal.main_arg3) = m' ((c.tc : Thread Cert.FfnInReferenceIdeal.nD Cert.FfnInReferenceIdeal.τ).loc Cert.FfnInReferenceIdeal.main_arg3))

def preserves_FfnOut_FfnOutIdeal : Prop :=
  True

def algebraic_FfnOutIdeal_FfnOutReferenceIdeal [hFfnOutIdeal : Cert.FfnOutIdeal.Facts] [hFfnOutReferenceIdeal : Cert.FfnOutReferenceIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutReferenceIdeal.nD Cert.FfnOutReferenceIdeal.τ Cert.FfnOutReferenceIdeal.sig) → Buf (Elt Ideal) ℓ) (g' : Dev Cert.FfnOutReferenceIdeal.nD → PrngReg), Pre_FfnOutIdeal m →
    (∀ c : Dev Cert.FfnOutIdeal.nD,
      m' ((c.tc : Thread Cert.FfnOutReferenceIdeal.nD Cert.FfnOutReferenceIdeal.τ).loc Cert.FfnOutReferenceIdeal.main_arg0) = m ((c.tc : Thread Cert.FfnOutIdeal.nD Cert.FfnOutIdeal.τ).loc Cert.FfnOutIdeal.main_arg0)
      ∧ m' ((c.tc : Thread Cert.FfnOutReferenceIdeal.nD Cert.FfnOutReferenceIdeal.τ).loc Cert.FfnOutReferenceIdeal.main_arg1) = m ((c.tc : Thread Cert.FfnOutIdeal.nD Cert.FfnOutIdeal.τ).loc Cert.FfnOutIdeal.main_arg1)
      ∧ m' ((c.tc : Thread Cert.FfnOutReferenceIdeal.nD Cert.FfnOutReferenceIdeal.τ).loc Cert.FfnOutReferenceIdeal.main_arg2) = m ((c.tc : Thread Cert.FfnOutIdeal.nD Cert.FfnOutIdeal.τ).loc Cert.FfnOutIdeal.main_arg2)
      ∧ m' ((c.tc : Thread Cert.FfnOutReferenceIdeal.nD Cert.FfnOutReferenceIdeal.τ).loc Cert.FfnOutReferenceIdeal.main_arg3) = m ((c.tc : Thread Cert.FfnOutIdeal.nD Cert.FfnOutIdeal.τ).loc Cert.FfnOutIdeal.main_arg3)
      ∧ m' ((c.tc : Thread Cert.FfnOutReferenceIdeal.nD Cert.FfnOutReferenceIdeal.τ).loc Cert.FfnOutReferenceIdeal.main_arg4) = m ((c.tc : Thread Cert.FfnOutIdeal.nD Cert.FfnOutIdeal.τ).loc Cert.FfnOutIdeal.main_arg4)) →
    ∃ (v0 : (c : Dev Cert.FfnOutIdeal.nD) → Buf (Elt Ideal) ((c.tc : Thread Cert.FfnOutIdeal.nD Cert.FfnOutIdeal.τ).loc Cert.FfnOutIdeal.main_v0_0)) (v1 : (c : Dev Cert.FfnOutIdeal.nD) → Buf (Elt Ideal) ((c.tc : Thread Cert.FfnOutIdeal.nD Cert.FfnOutIdeal.τ).loc Cert.FfnOutIdeal.main_v0_1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0_0) = v0 c
          ∧ r.2.mem ((c.tc : Thread Cert.FfnOutIdeal.nD Cert.FfnOutIdeal.τ).loc Cert.FfnOutIdeal.main_v0_1) = v1 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
          ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ θ_run (Cert.FfnOutReferenceIdeal.defs (F := Ideal)) (onTc (τ := Cert.FfnOutReferenceIdeal.τ) (Cert.FfnOutReferenceIdeal.main (F := Ideal))) ⟨m', fun _ => 0, g'⟩ (fun r => ∀ c : Dev Cert.FfnOutReferenceIdeal.nD,
          r.2.mem ((c.tc : Thread Cert.FfnOutReferenceIdeal.nD Cert.FfnOutReferenceIdeal.τ).loc Cert.FfnOutReferenceIdeal.main_v3) = v0 c
          ∧ r.2.mem ((c.tc : Thread Cert.FfnOutReferenceIdeal.nD Cert.FfnOutReferenceIdeal.τ).loc Cert.FfnOutReferenceIdeal.main_v16) = v1 c
          ∧ r.2.mem ((c.tc : Thread Cert.FfnOutReferenceIdeal.nD Cert.FfnOutReferenceIdeal.τ).loc Cert.FfnOutReferenceIdeal.main_arg0) = m' ((c.tc : Thread Cert.FfnOutReferenceIdeal.nD Cert.FfnOutReferenceIdeal.τ).loc Cert.FfnOutReferenceIdeal.main_arg0)
          ∧ r.2.mem ((c.tc : Thread Cert.FfnOutReferenceIdeal.nD Cert.FfnOutReferenceIdeal.τ).loc Cert.FfnOutReferenceIdeal.main_arg1) = m' ((c.tc : Thread Cert.FfnOutReferenceIdeal.nD Cert.FfnOutReferenceIdeal.τ).loc Cert.FfnOutReferenceIdeal.main_arg1)
          ∧ r.2.mem ((c.tc : Thread Cert.FfnOutReferenceIdeal.nD Cert.FfnOutReferenceIdeal.τ).loc Cert.FfnOutReferenceIdeal.main_arg2) = m' ((c.tc : Thread Cert.FfnOutReferenceIdeal.nD Cert.FfnOutReferenceIdeal.τ).loc Cert.FfnOutReferenceIdeal.main_arg2)
          ∧ r.2.mem ((c.tc : Thread Cert.FfnOutReferenceIdeal.nD Cert.FfnOutReferenceIdeal.τ).loc Cert.FfnOutReferenceIdeal.main_arg3) = m' ((c.tc : Thread Cert.FfnOutReferenceIdeal.nD Cert.FfnOutReferenceIdeal.τ).loc Cert.FfnOutReferenceIdeal.main_arg3)
          ∧ r.2.mem ((c.tc : Thread Cert.FfnOutReferenceIdeal.nD Cert.FfnOutReferenceIdeal.τ).loc Cert.FfnOutReferenceIdeal.main_arg4) = m' ((c.tc : Thread Cert.FfnOutReferenceIdeal.nD Cert.FfnOutReferenceIdeal.τ).loc Cert.FfnOutReferenceIdeal.main_arg4))

def preserves_PleGate_PleGateIdeal : Prop :=
  True

def algebraic_PleGateIdeal_PleGateReferenceIdeal [hPleGateIdeal : Cert.PleGateIdeal.Facts] [hPleGateReferenceIdeal : Cert.PleGateReferenceIdeal.Facts] : Prop :=
  ∀ (m : (ℓ : Loc Cert.PleGateIdeal.nD Cert.PleGateIdeal.τ Cert.PleGateIdeal.sig) → Buf (Elt Ideal) ℓ) (g : Dev Cert.PleGateIdeal.nD → PrngReg)
    (m' : (ℓ : Loc Cert.PleGateReferenceIdeal.nD Cert.PleGateReferenceIdeal.τ Cert.PleGateReferenceIdeal.sig) → Buf (Elt Ideal) ℓ) (g' : Dev Cert.PleGateReferenceIdeal.nD → PrngReg), Pre_PleGateIdeal m →
    (∀ c : Dev Cert.PleGateIdeal.nD,
      m' ((c.tc : Thread Cert.PleGateReferenceIdeal.nD Cert.PleGateReferenceIdeal.τ).loc Cert.PleGateReferenceIdeal.main_arg0) = m ((c.tc : Thread Cert.PleGateIdeal.nD Cert.PleGateIdeal.τ).loc Cert.PleGateIdeal.main_arg0)
      ∧ m' ((c.tc : Thread Cert.PleGateReferenceIdeal.nD Cert.PleGateReferenceIdeal.τ).loc Cert.PleGateReferenceIdeal.main_arg1) = m ((c.tc : Thread Cert.PleGateIdeal.nD Cert.PleGateIdeal.τ).loc Cert.PleGateIdeal.main_arg1)
      ∧ m' ((c.tc : Thread Cert.PleGateReferenceIdeal.nD Cert.PleGateReferenceIdeal.τ).loc Cert.PleGateReferenceIdeal.main_arg2) = m ((c.tc : Thread Cert.PleGateIdeal.nD Cert.PleGateIdeal.τ).loc Cert.PleGateIdeal.main_arg2)
      ∧ m' ((c.tc : Thread Cert.PleGateReferenceIdeal.nD Cert.PleGateReferenceIdeal.τ).loc Cert.PleGateReferenceIdeal.main_arg3) = m ((c.tc : Thread Cert.PleGateIdeal.nD Cert.PleGateIdeal.τ).loc Cert.PleGateIdeal.main_arg3)
      ∧ m' ((c.tc : Thread Cert.PleGateReferenceIdeal.nD Cert.PleGateReferenceIdeal.τ).loc Cert.PleGateReferenceIdeal.main_arg4) = m ((c.tc : Thread Cert.PleGateIdeal.nD Cert.PleGateIdeal.τ).loc Cert.PleGateIdeal.main_arg4)) →
    ∃ (v0 : (c : Dev Cert.PleGateIdeal.nD) → Buf (Elt Ideal) ((c.tc : Thread Cert.PleGateIdeal.nD Cert.PleGateIdeal.τ).loc Cert.PleGateIdeal.main_v0_0)) (v1 : (c : Dev Cert.PleGateIdeal.nD) → Buf (Elt Ideal) ((c.tc : Thread Cert.PleGateIdeal.nD Cert.PleGateIdeal.τ).loc Cert.PleGateIdeal.main_v0_1)) (v2 : (c : Dev Cert.PleGateIdeal.nD) → Buf (Elt Ideal) ((c.tc : Thread Cert.PleGateIdeal.nD Cert.PleGateIdeal.τ).loc Cert.PleGateIdeal.main_v0_2)) (v3 : (c : Dev Cert.PleGateIdeal.nD) → Buf (Elt Ideal) ((c.tc : Thread Cert.PleGateIdeal.nD Cert.PleGateIdeal.τ).loc Cert.PleGateIdeal.main_v0_3)),
      θ_run (Cert.PleGateIdeal.defs (F := Ideal)) (onTc (τ := Cert.PleGateIdeal.τ) (Cert.PleGateIdeal.main (F := Ideal))) ⟨m, fun _ => 0, g⟩ (fun r => ∀ c : Dev Cert.PleGateIdeal.nD,
          r.2.mem ((c.tc : Thread Cert.PleGateIdeal.nD Cert.PleGateIdeal.τ).loc Cert.PleGateIdeal.main_v0_0) = v0 c
          ∧ r.2.mem ((c.tc : Thread Cert.PleGateIdeal.nD Cert.PleGateIdeal.τ).loc Cert.PleGateIdeal.main_v0_1) = v1 c
          ∧ r.2.mem ((c.tc : Thread Cert.PleGateIdeal.nD Cert.PleGateIdeal.τ).loc Cert.PleGateIdeal.main_v0_2) = v2 c
          ∧ r.2.mem ((c.tc : Thread Cert.PleGateIdeal.nD Cert.PleGateIdeal.τ).loc Cert.PleGateIdeal.main_v0_3) = v3 c
          ∧ r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
          ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1)
          ∧ r.2.mem ((c.tc : Thread Cert.PleGateIdeal.nD Cert.PleGateIdeal.τ).loc Cert.PleGateIdeal.main_arg2) = m ((c.tc : Thread Cert.PleGateIdeal.nD Cert.PleGateIdeal.τ).loc Cert.PleGateIdeal.main_arg2)
          ∧ r.2.mem ((c.tc : Thread Cert.PleGateIdeal.nD Cert.PleGateIdeal.τ).loc Cert.PleGateIdeal.main_arg3) = m ((c.tc : Thread Cert.PleGateIdeal.nD Cert.PleGateIdeal.τ).loc Cert.PleGateIdeal.main_arg3)
          ∧ r.2.mem ((c.tc : Thread Cert.PleGateIdeal.nD Cert.PleGateIdeal.τ).loc Cert.PleGateIdeal.main_arg4) = m ((c.tc : Thread Cert.PleGateIdeal.nD Cert.PleGateIdeal.τ).loc Cert.PleGateIdeal.main_arg4))
      ∧ θ_run (Cert.PleGateReferenceIdeal.defs (F := Ideal)) (onTc (τ := Cert.PleGateReferenceIdeal.τ) (Cert.PleGateReferenceIdeal.main (F := Ideal))) ⟨m', fun _ => 0, g'⟩ (fun r => ∀ c : Dev Cert.PleGateReferenceIdeal.nD,
          r.2.mem ((c.tc : Thread Cert.PleGateReferenceIdeal.nD Cert.PleGateReferenceIdeal.τ).loc Cert.PleGateReferenceIdeal.main_v16) = v0 c
          ∧ r.2.mem ((c.tc : Thread Cert.PleGateReferenceIdeal.nD Cert.PleGateReferenceIdeal.τ).loc Cert.PleGateReferenceIdeal.main_v13) = v1 c
          ∧ r.2.mem ((c.tc : Thread Cert.PleGateReferenceIdeal.nD Cert.PleGateReferenceIdeal.τ).loc Cert.PleGateReferenceIdeal.main_v15) = v2 c
          ∧ r.2.mem ((c.tc : Thread Cert.PleGateReferenceIdeal.nD Cert.PleGateReferenceIdeal.τ).loc Cert.PleGateReferenceIdeal.main_v24) = v3 c
          ∧ r.2.mem ((c.tc : Thread Cert.PleGateReferenceIdeal.nD Cert.PleGateReferenceIdeal.τ).loc Cert.PleGateReferenceIdeal.main_arg0) = m' ((c.tc : Thread Cert.PleGateReferenceIdeal.nD Cert.PleGateReferenceIdeal.τ).loc Cert.PleGateReferenceIdeal.main_arg0)
          ∧ r.2.mem ((c.tc : Thread Cert.PleGateReferenceIdeal.nD Cert.PleGateReferenceIdeal.τ).loc Cert.PleGateReferenceIdeal.main_arg1) = m' ((c.tc : Thread Cert.PleGateReferenceIdeal.nD Cert.PleGateReferenceIdeal.τ).loc Cert.PleGateReferenceIdeal.main_arg1)
          ∧ r.2.mem ((c.tc : Thread Cert.PleGateReferenceIdeal.nD Cert.PleGateReferenceIdeal.τ).loc Cert.PleGateReferenceIdeal.main_arg2) = m' ((c.tc : Thread Cert.PleGateReferenceIdeal.nD Cert.PleGateReferenceIdeal.τ).loc Cert.PleGateReferenceIdeal.main_arg2)
          ∧ r.2.mem ((c.tc : Thread Cert.PleGateReferenceIdeal.nD Cert.PleGateReferenceIdeal.τ).loc Cert.PleGateReferenceIdeal.main_arg3) = m' ((c.tc : Thread Cert.PleGateReferenceIdeal.nD Cert.PleGateReferenceIdeal.τ).loc Cert.PleGateReferenceIdeal.main_arg3)
          ∧ r.2.mem ((c.tc : Thread Cert.PleGateReferenceIdeal.nD Cert.PleGateReferenceIdeal.τ).loc Cert.PleGateReferenceIdeal.main_arg4) = m' ((c.tc : Thread Cert.PleGateReferenceIdeal.nD Cert.PleGateReferenceIdeal.τ).loc Cert.PleGateReferenceIdeal.main_arg4))

def preserves_PleGrad_PleGradIdeal : Prop :=
  True

def algebraic_PleGradIdeal_PleGradReferenceIdeal [hPleGradIdeal : Cert.PleGradIdeal.Facts] [hPleGradReferenceIdeal : Cert.PleGradReferenceIdeal.Facts] : Prop :=
  ∀ (m : (ℓ : Loc Cert.PleGradIdeal.nD Cert.PleGradIdeal.τ Cert.PleGradIdeal.sig) → Buf (Elt Ideal) ℓ) (g : Dev Cert.PleGradIdeal.nD → PrngReg)
    (m' : (ℓ : Loc Cert.PleGradReferenceIdeal.nD Cert.PleGradReferenceIdeal.τ Cert.PleGradReferenceIdeal.sig) → Buf (Elt Ideal) ℓ) (g' : Dev Cert.PleGradReferenceIdeal.nD → PrngReg), Pre_PleGradIdeal m →
    (∀ c : Dev Cert.PleGradIdeal.nD,
      m' ((c.tc : Thread Cert.PleGradReferenceIdeal.nD Cert.PleGradReferenceIdeal.τ).loc Cert.PleGradReferenceIdeal.main_arg0) = m ((c.tc : Thread Cert.PleGradIdeal.nD Cert.PleGradIdeal.τ).loc Cert.PleGradIdeal.main_arg0)
      ∧ m' ((c.tc : Thread Cert.PleGradReferenceIdeal.nD Cert.PleGradReferenceIdeal.τ).loc Cert.PleGradReferenceIdeal.main_arg1) = m ((c.tc : Thread Cert.PleGradIdeal.nD Cert.PleGradIdeal.τ).loc Cert.PleGradIdeal.main_arg1)
      ∧ m' ((c.tc : Thread Cert.PleGradReferenceIdeal.nD Cert.PleGradReferenceIdeal.τ).loc Cert.PleGradReferenceIdeal.main_arg2) = m ((c.tc : Thread Cert.PleGradIdeal.nD Cert.PleGradIdeal.τ).loc Cert.PleGradIdeal.main_arg2)
      ∧ m' ((c.tc : Thread Cert.PleGradReferenceIdeal.nD Cert.PleGradReferenceIdeal.τ).loc Cert.PleGradReferenceIdeal.main_arg3) = m ((c.tc : Thread Cert.PleGradIdeal.nD Cert.PleGradIdeal.τ).loc Cert.PleGradIdeal.main_arg3)
      ∧ m' ((c.tc : Thread Cert.PleGradReferenceIdeal.nD Cert.PleGradReferenceIdeal.τ).loc Cert.PleGradReferenceIdeal.main_arg4) = m ((c.tc : Thread Cert.PleGradIdeal.nD Cert.PleGradIdeal.τ).loc Cert.PleGradIdeal.main_arg4)
      ∧ m' ((c.tc : Thread Cert.PleGradReferenceIdeal.nD Cert.PleGradReferenceIdeal.τ).loc Cert.PleGradReferenceIdeal.main_arg5) = m ((c.tc : Thread Cert.PleGradIdeal.nD Cert.PleGradIdeal.τ).loc Cert.PleGradIdeal.main_arg5)) →
    ∃ (v0 : (c : Dev Cert.PleGradIdeal.nD) → Buf (Elt Ideal) ((c.tc : Thread Cert.PleGradIdeal.nD Cert.PleGradIdeal.τ).loc Cert.PleGradIdeal.main_v0_0)) (v1 : (c : Dev Cert.PleGradIdeal.nD) → Buf (Elt Ideal) ((c.tc : Thread Cert.PleGradIdeal.nD Cert.PleGradIdeal.τ).loc Cert.PleGradIdeal.main_v0_1)) (v2 : (c : Dev Cert.PleGradIdeal.nD) → Buf (Elt Ideal) ((c.tc : Thread Cert.PleGradIdeal.nD Cert.PleGradIdeal.τ).loc Cert.PleGradIdeal.main_v0_2)) (v3 : (c : Dev Cert.PleGradIdeal.nD) → Buf (Elt Ideal) ((c.tc : Thread Cert.PleGradIdeal.nD Cert.PleGradIdeal.τ).loc Cert.PleGradIdeal.main_v0_3)),
      θ_run (Cert.PleGradIdeal.defs (F := Ideal)) (onTc (τ := Cert.PleGradIdeal.τ) (Cert.PleGradIdeal.main (F := Ideal))) ⟨m, fun _ => 0, g⟩ (fun r => ∀ c : Dev Cert.PleGradIdeal.nD,
          r.2.mem ((c.tc : Thread Cert.PleGradIdeal.nD Cert.PleGradIdeal.τ).loc Cert.PleGradIdeal.main_v0_0) = v0 c
          ∧ r.2.mem ((c.tc : Thread Cert.PleGradIdeal.nD Cert.PleGradIdeal.τ).loc Cert.PleGradIdeal.main_v0_1) = v1 c
          ∧ r.2.mem ((c.tc : Thread Cert.PleGradIdeal.nD Cert.PleGradIdeal.τ).loc Cert.PleGradIdeal.main_v0_2) = v2 c
          ∧ r.2.mem ((c.tc : Thread Cert.PleGradIdeal.nD Cert.PleGradIdeal.τ).loc Cert.PleGradIdeal.main_v0_3) = v3 c
          ∧ r.2.mem ((c.tc : Thread Cert.PleGradIdeal.nD Cert.PleGradIdeal.τ).loc Cert.PleGradIdeal.main_arg0) = m ((c.tc : Thread Cert.PleGradIdeal.nD Cert.PleGradIdeal.τ).loc Cert.PleGradIdeal.main_arg0)
          ∧ r.2.mem ((c.tc : Thread Cert.PleGradIdeal.nD Cert.PleGradIdeal.τ).loc Cert.PleGradIdeal.main_arg1) = m ((c.tc : Thread Cert.PleGradIdeal.nD Cert.PleGradIdeal.τ).loc Cert.PleGradIdeal.main_arg1)
          ∧ r.2.mem ((c.tc : Thread Cert.PleGradIdeal.nD Cert.PleGradIdeal.τ).loc Cert.PleGradIdeal.main_arg2) = m ((c.tc : Thread Cert.PleGradIdeal.nD Cert.PleGradIdeal.τ).loc Cert.PleGradIdeal.main_arg2)
          ∧ r.2.mem ((c.tc : Thread Cert.PleGradIdeal.nD Cert.PleGradIdeal.τ).loc Cert.PleGradIdeal.main_arg3) = m ((c.tc : Thread Cert.PleGradIdeal.nD Cert.PleGradIdeal.τ).loc Cert.PleGradIdeal.main_arg3)
          ∧ r.2.mem ((c.tc : Thread Cert.PleGradIdeal.nD Cert.PleGradIdeal.τ).loc Cert.PleGradIdeal.main_arg4) = m ((c.tc : Thread Cert.PleGradIdeal.nD Cert.PleGradIdeal.τ).loc Cert.PleGradIdeal.main_arg4)
          ∧ r.2.mem ((c.tc : Thread Cert.PleGradIdeal.nD Cert.PleGradIdeal.τ).loc Cert.PleGradIdeal.main_arg5) = m ((c.tc : Thread Cert.PleGradIdeal.nD Cert.PleGradIdeal.τ).loc Cert.PleGradIdeal.main_arg5))
      ∧ θ_run (Cert.PleGradReferenceIdeal.defs (F := Ideal)) (onTc (τ := Cert.PleGradReferenceIdeal.τ) (Cert.PleGradReferenceIdeal.main (F := Ideal))) ⟨m', fun _ => 0, g'⟩ (fun r => ∀ c : Dev Cert.PleGradReferenceIdeal.nD,
          r.2.mem ((c.tc : Thread Cert.PleGradReferenceIdeal.nD Cert.PleGradReferenceIdeal.τ).loc Cert.PleGradReferenceIdeal.main_v50) = v0 c
          ∧ r.2.mem ((c.tc : Thread Cert.PleGradReferenceIdeal.nD Cert.PleGradReferenceIdeal.τ).loc Cert.PleGradReferenceIdeal.main_v51) = v1 c
          ∧ r.2.mem ((c.tc : Thread Cert.PleGradReferenceIdeal.nD Cert.PleGradReferenceIdeal.τ).loc Cert.PleGradReferenceIdeal.main_v52) = v2 c
          ∧ r.2.mem ((c.tc : Thread Cert.PleGradReferenceIdeal.nD Cert.PleGradReferenceIdeal.τ).loc Cert.PleGradReferenceIdeal.main_v33) = v3 c
          ∧ r.2.mem ((c.tc : Thread Cert.PleGradReferenceIdeal.nD Cert.PleGradReferenceIdeal.τ).loc Cert.PleGradReferenceIdeal.main_arg0) = m' ((c.tc : Thread Cert.PleGradReferenceIdeal.nD Cert.PleGradReferenceIdeal.τ).loc Cert.PleGradReferenceIdeal.main_arg0)
          ∧ r.2.mem ((c.tc : Thread Cert.PleGradReferenceIdeal.nD Cert.PleGradReferenceIdeal.τ).loc Cert.PleGradReferenceIdeal.main_arg1) = m' ((c.tc : Thread Cert.PleGradReferenceIdeal.nD Cert.PleGradReferenceIdeal.τ).loc Cert.PleGradReferenceIdeal.main_arg1)
          ∧ r.2.mem ((c.tc : Thread Cert.PleGradReferenceIdeal.nD Cert.PleGradReferenceIdeal.τ).loc Cert.PleGradReferenceIdeal.main_arg2) = m' ((c.tc : Thread Cert.PleGradReferenceIdeal.nD Cert.PleGradReferenceIdeal.τ).loc Cert.PleGradReferenceIdeal.main_arg2)
          ∧ r.2.mem ((c.tc : Thread Cert.PleGradReferenceIdeal.nD Cert.PleGradReferenceIdeal.τ).loc Cert.PleGradReferenceIdeal.main_arg3) = m' ((c.tc : Thread Cert.PleGradReferenceIdeal.nD Cert.PleGradReferenceIdeal.τ).loc Cert.PleGradReferenceIdeal.main_arg3)
          ∧ r.2.mem ((c.tc : Thread Cert.PleGradReferenceIdeal.nD Cert.PleGradReferenceIdeal.τ).loc Cert.PleGradReferenceIdeal.main_arg4) = m' ((c.tc : Thread Cert.PleGradReferenceIdeal.nD Cert.PleGradReferenceIdeal.τ).loc Cert.PleGradReferenceIdeal.main_arg4)
          ∧ r.2.mem ((c.tc : Thread Cert.PleGradReferenceIdeal.nD Cert.PleGradReferenceIdeal.τ).loc Cert.PleGradReferenceIdeal.main_arg5) = m' ((c.tc : Thread Cert.PleGradReferenceIdeal.nD Cert.PleGradReferenceIdeal.τ).loc Cert.PleGradReferenceIdeal.main_arg5))

def preserves_FfnInGrad_FfnInGradIdeal : Prop :=
  True

def algebraic_FfnInGradIdeal_FfnInGradReferenceIdeal [hFfnInGradIdeal : Cert.FfnInGradIdeal.Facts] [hFfnInGradReferenceIdeal : Cert.FfnInGradReferenceIdeal.Facts] : Prop :=
  ∀ (m : (ℓ : Loc Cert.FfnInGradIdeal.nD Cert.FfnInGradIdeal.τ Cert.FfnInGradIdeal.sig) → Buf (Elt Ideal) ℓ) (g : Dev Cert.FfnInGradIdeal.nD → PrngReg)
    (m' : (ℓ : Loc Cert.FfnInGradReferenceIdeal.nD Cert.FfnInGradReferenceIdeal.τ Cert.FfnInGradReferenceIdeal.sig) → Buf (Elt Ideal) ℓ) (g' : Dev Cert.FfnInGradReferenceIdeal.nD → PrngReg), Pre_FfnInGradIdeal m →
    (∀ c : Dev Cert.FfnInGradIdeal.nD,
      m' ((c.tc : Thread Cert.FfnInGradReferenceIdeal.nD Cert.FfnInGradReferenceIdeal.τ).loc Cert.FfnInGradReferenceIdeal.main_arg0) = m ((c.tc : Thread Cert.FfnInGradIdeal.nD Cert.FfnInGradIdeal.τ).loc Cert.FfnInGradIdeal.main_arg0)
      ∧ m' ((c.tc : Thread Cert.FfnInGradReferenceIdeal.nD Cert.FfnInGradReferenceIdeal.τ).loc Cert.FfnInGradReferenceIdeal.main_arg1) = m ((c.tc : Thread Cert.FfnInGradIdeal.nD Cert.FfnInGradIdeal.τ).loc Cert.FfnInGradIdeal.main_arg1)
      ∧ m' ((c.tc : Thread Cert.FfnInGradReferenceIdeal.nD Cert.FfnInGradReferenceIdeal.τ).loc Cert.FfnInGradReferenceIdeal.main_arg2) = m ((c.tc : Thread Cert.FfnInGradIdeal.nD Cert.FfnInGradIdeal.τ).loc Cert.FfnInGradIdeal.main_arg2)
      ∧ m' ((c.tc : Thread Cert.FfnInGradReferenceIdeal.nD Cert.FfnInGradReferenceIdeal.τ).loc Cert.FfnInGradReferenceIdeal.main_arg3) = m ((c.tc : Thread Cert.FfnInGradIdeal.nD Cert.FfnInGradIdeal.τ).loc Cert.FfnInGradIdeal.main_arg3)
      ∧ m' ((c.tc : Thread Cert.FfnInGradReferenceIdeal.nD Cert.FfnInGradReferenceIdeal.τ).loc Cert.FfnInGradReferenceIdeal.main_arg4) = m ((c.tc : Thread Cert.FfnInGradIdeal.nD Cert.FfnInGradIdeal.τ).loc Cert.FfnInGradIdeal.main_arg4)
      ∧ m' ((c.tc : Thread Cert.FfnInGradReferenceIdeal.nD Cert.FfnInGradReferenceIdeal.τ).loc Cert.FfnInGradReferenceIdeal.main_arg5) = m ((c.tc : Thread Cert.FfnInGradIdeal.nD Cert.FfnInGradIdeal.τ).loc Cert.FfnInGradIdeal.main_arg5)
      ∧ m' ((c.tc : Thread Cert.FfnInGradReferenceIdeal.nD Cert.FfnInGradReferenceIdeal.τ).loc Cert.FfnInGradReferenceIdeal.main_arg6) = m ((c.tc : Thread Cert.FfnInGradIdeal.nD Cert.FfnInGradIdeal.τ).loc Cert.FfnInGradIdeal.main_arg6)) →
    ∃ (v0 : (c : Dev Cert.FfnInGradIdeal.nD) → Buf (Elt Ideal) ((c.tc : Thread Cert.FfnInGradIdeal.nD Cert.FfnInGradIdeal.τ).loc Cert.FfnInGradIdeal.main_v0_0)) (v1 : (c : Dev Cert.FfnInGradIdeal.nD) → Buf (Elt Ideal) ((c.tc : Thread Cert.FfnInGradIdeal.nD Cert.FfnInGradIdeal.τ).loc Cert.FfnInGradIdeal.main_v0_1)),
      θ_run (Cert.FfnInGradIdeal.defs (F := Ideal)) (onTc (τ := Cert.FfnInGradIdeal.τ) (Cert.FfnInGradIdeal.main (F := Ideal))) ⟨m, fun _ => 0, g⟩ (fun r => ∀ c : Dev Cert.FfnInGradIdeal.nD,
          r.2.mem ((c.tc : Thread Cert.FfnInGradIdeal.nD Cert.FfnInGradIdeal.τ).loc Cert.FfnInGradIdeal.main_v0_0) = v0 c
          ∧ r.2.mem ((c.tc : Thread Cert.FfnInGradIdeal.nD Cert.FfnInGradIdeal.τ).loc Cert.FfnInGradIdeal.main_v0_1) = v1 c
          ∧ r.2.mem ((c.tc : Thread Cert.FfnInGradIdeal.nD Cert.FfnInGradIdeal.τ).loc Cert.FfnInGradIdeal.main_arg0) = m ((c.tc : Thread Cert.FfnInGradIdeal.nD Cert.FfnInGradIdeal.τ).loc Cert.FfnInGradIdeal.main_arg0)
          ∧ r.2.mem ((c.tc : Thread Cert.FfnInGradIdeal.nD Cert.FfnInGradIdeal.τ).loc Cert.FfnInGradIdeal.main_arg1) = m ((c.tc : Thread Cert.FfnInGradIdeal.nD Cert.FfnInGradIdeal.τ).loc Cert.FfnInGradIdeal.main_arg1)
          ∧ r.2.mem ((c.tc : Thread Cert.FfnInGradIdeal.nD Cert.FfnInGradIdeal.τ).loc Cert.FfnInGradIdeal.main_arg2) = m ((c.tc : Thread Cert.FfnInGradIdeal.nD Cert.FfnInGradIdeal.τ).loc Cert.FfnInGradIdeal.main_arg2)
          ∧ r.2.mem ((c.tc : Thread Cert.FfnInGradIdeal.nD Cert.FfnInGradIdeal.τ).loc Cert.FfnInGradIdeal.main_arg3) = m ((c.tc : Thread Cert.FfnInGradIdeal.nD Cert.FfnInGradIdeal.τ).loc Cert.FfnInGradIdeal.main_arg3)
          ∧ r.2.mem ((c.tc : Thread Cert.FfnInGradIdeal.nD Cert.FfnInGradIdeal.τ).loc Cert.FfnInGradIdeal.main_arg4) = m ((c.tc : Thread Cert.FfnInGradIdeal.nD Cert.FfnInGradIdeal.τ).loc Cert.FfnInGradIdeal.main_arg4)
          ∧ r.2.mem ((c.tc : Thread Cert.FfnInGradIdeal.nD Cert.FfnInGradIdeal.τ).loc Cert.FfnInGradIdeal.main_arg5) = m ((c.tc : Thread Cert.FfnInGradIdeal.nD Cert.FfnInGradIdeal.τ).loc Cert.FfnInGradIdeal.main_arg5)
          ∧ r.2.mem ((c.tc : Thread Cert.FfnInGradIdeal.nD Cert.FfnInGradIdeal.τ).loc Cert.FfnInGradIdeal.main_arg6) = m ((c.tc : Thread Cert.FfnInGradIdeal.nD Cert.FfnInGradIdeal.τ).loc Cert.FfnInGradIdeal.main_arg6))
      ∧ θ_run (Cert.FfnInGradReferenceIdeal.defs (F := Ideal)) (onTc (τ := Cert.FfnInGradReferenceIdeal.τ) (Cert.FfnInGradReferenceIdeal.main (F := Ideal))) ⟨m', fun _ => 0, g'⟩ (fun r => ∀ c : Dev Cert.FfnInGradReferenceIdeal.nD,
          r.2.mem ((c.tc : Thread Cert.FfnInGradReferenceIdeal.nD Cert.FfnInGradReferenceIdeal.τ).loc Cert.FfnInGradReferenceIdeal.main_v43) = v0 c
          ∧ r.2.mem ((c.tc : Thread Cert.FfnInGradReferenceIdeal.nD Cert.FfnInGradReferenceIdeal.τ).loc Cert.FfnInGradReferenceIdeal.main_v26) = v1 c
          ∧ r.2.mem ((c.tc : Thread Cert.FfnInGradReferenceIdeal.nD Cert.FfnInGradReferenceIdeal.τ).loc Cert.FfnInGradReferenceIdeal.main_arg0) = m' ((c.tc : Thread Cert.FfnInGradReferenceIdeal.nD Cert.FfnInGradReferenceIdeal.τ).loc Cert.FfnInGradReferenceIdeal.main_arg0)
          ∧ r.2.mem ((c.tc : Thread Cert.FfnInGradReferenceIdeal.nD Cert.FfnInGradReferenceIdeal.τ).loc Cert.FfnInGradReferenceIdeal.main_arg1) = m' ((c.tc : Thread Cert.FfnInGradReferenceIdeal.nD Cert.FfnInGradReferenceIdeal.τ).loc Cert.FfnInGradReferenceIdeal.main_arg1)
          ∧ r.2.mem ((c.tc : Thread Cert.FfnInGradReferenceIdeal.nD Cert.FfnInGradReferenceIdeal.τ).loc Cert.FfnInGradReferenceIdeal.main_arg2) = m' ((c.tc : Thread Cert.FfnInGradReferenceIdeal.nD Cert.FfnInGradReferenceIdeal.τ).loc Cert.FfnInGradReferenceIdeal.main_arg2)
          ∧ r.2.mem ((c.tc : Thread Cert.FfnInGradReferenceIdeal.nD Cert.FfnInGradReferenceIdeal.τ).loc Cert.FfnInGradReferenceIdeal.main_arg3) = m' ((c.tc : Thread Cert.FfnInGradReferenceIdeal.nD Cert.FfnInGradReferenceIdeal.τ).loc Cert.FfnInGradReferenceIdeal.main_arg3)
          ∧ r.2.mem ((c.tc : Thread Cert.FfnInGradReferenceIdeal.nD Cert.FfnInGradReferenceIdeal.τ).loc Cert.FfnInGradReferenceIdeal.main_arg4) = m' ((c.tc : Thread Cert.FfnInGradReferenceIdeal.nD Cert.FfnInGradReferenceIdeal.τ).loc Cert.FfnInGradReferenceIdeal.main_arg4)
          ∧ r.2.mem ((c.tc : Thread Cert.FfnInGradReferenceIdeal.nD Cert.FfnInGradReferenceIdeal.τ).loc Cert.FfnInGradReferenceIdeal.main_arg5) = m' ((c.tc : Thread Cert.FfnInGradReferenceIdeal.nD Cert.FfnInGradReferenceIdeal.τ).loc Cert.FfnInGradReferenceIdeal.main_arg5)
          ∧ r.2.mem ((c.tc : Thread Cert.FfnInGradReferenceIdeal.nD Cert.FfnInGradReferenceIdeal.τ).loc Cert.FfnInGradReferenceIdeal.main_arg6) = m' ((c.tc : Thread Cert.FfnInGradReferenceIdeal.nD Cert.FfnInGradReferenceIdeal.τ).loc Cert.FfnInGradReferenceIdeal.main_arg6))

def preserves_MixOutGrad_MixOutGradIdeal : Prop :=
  True

def algebraic_MixOutGradIdeal_MixOutGradReferenceIdeal [hMixOutGradIdeal : Cert.MixOutGradIdeal.Facts] [hMixOutGradReferenceIdeal : Cert.MixOutGradReferenceIdeal.Facts] : Prop :=
  ∀ (m : (ℓ : Loc Cert.MixOutGradIdeal.nD Cert.MixOutGradIdeal.τ Cert.MixOutGradIdeal.sig) → Buf (Elt Ideal) ℓ) (g : Dev Cert.MixOutGradIdeal.nD → PrngReg)
    (m' : (ℓ : Loc Cert.MixOutGradReferenceIdeal.nD Cert.MixOutGradReferenceIdeal.τ Cert.MixOutGradReferenceIdeal.sig) → Buf (Elt Ideal) ℓ) (g' : Dev Cert.MixOutGradReferenceIdeal.nD → PrngReg), Pre_MixOutGradIdeal m →
    (∀ c : Dev Cert.MixOutGradIdeal.nD,
      m' ((c.tc : Thread Cert.MixOutGradReferenceIdeal.nD Cert.MixOutGradReferenceIdeal.τ).loc Cert.MixOutGradReferenceIdeal.main_arg0) = m ((c.tc : Thread Cert.MixOutGradIdeal.nD Cert.MixOutGradIdeal.τ).loc Cert.MixOutGradIdeal.main_arg0)
      ∧ m' ((c.tc : Thread Cert.MixOutGradReferenceIdeal.nD Cert.MixOutGradReferenceIdeal.τ).loc Cert.MixOutGradReferenceIdeal.main_arg1) = m ((c.tc : Thread Cert.MixOutGradIdeal.nD Cert.MixOutGradIdeal.τ).loc Cert.MixOutGradIdeal.main_arg1)
      ∧ m' ((c.tc : Thread Cert.MixOutGradReferenceIdeal.nD Cert.MixOutGradReferenceIdeal.τ).loc Cert.MixOutGradReferenceIdeal.main_arg2) = m ((c.tc : Thread Cert.MixOutGradIdeal.nD Cert.MixOutGradIdeal.τ).loc Cert.MixOutGradIdeal.main_arg2)
      ∧ m' ((c.tc : Thread Cert.MixOutGradReferenceIdeal.nD Cert.MixOutGradReferenceIdeal.τ).loc Cert.MixOutGradReferenceIdeal.main_arg3) = m ((c.tc : Thread Cert.MixOutGradIdeal.nD Cert.MixOutGradIdeal.τ).loc Cert.MixOutGradIdeal.main_arg3)
      ∧ m' ((c.tc : Thread Cert.MixOutGradReferenceIdeal.nD Cert.MixOutGradReferenceIdeal.τ).loc Cert.MixOutGradReferenceIdeal.main_arg4) = m ((c.tc : Thread Cert.MixOutGradIdeal.nD Cert.MixOutGradIdeal.τ).loc Cert.MixOutGradIdeal.main_arg4)
      ∧ m' ((c.tc : Thread Cert.MixOutGradReferenceIdeal.nD Cert.MixOutGradReferenceIdeal.τ).loc Cert.MixOutGradReferenceIdeal.main_arg5) = m ((c.tc : Thread Cert.MixOutGradIdeal.nD Cert.MixOutGradIdeal.τ).loc Cert.MixOutGradIdeal.main_arg5)
      ∧ m' ((c.tc : Thread Cert.MixOutGradReferenceIdeal.nD Cert.MixOutGradReferenceIdeal.τ).loc Cert.MixOutGradReferenceIdeal.main_arg6) = m ((c.tc : Thread Cert.MixOutGradIdeal.nD Cert.MixOutGradIdeal.τ).loc Cert.MixOutGradIdeal.main_arg6)) →
    ∃ (v0 : (c : Dev Cert.MixOutGradIdeal.nD) → Buf (Elt Ideal) ((c.tc : Thread Cert.MixOutGradIdeal.nD Cert.MixOutGradIdeal.τ).loc Cert.MixOutGradIdeal.main_v0_0)) (v1 : (c : Dev Cert.MixOutGradIdeal.nD) → Buf (Elt Ideal) ((c.tc : Thread Cert.MixOutGradIdeal.nD Cert.MixOutGradIdeal.τ).loc Cert.MixOutGradIdeal.main_v0_1)) (v2 : (c : Dev Cert.MixOutGradIdeal.nD) → Buf (Elt Ideal) ((c.tc : Thread Cert.MixOutGradIdeal.nD Cert.MixOutGradIdeal.τ).loc Cert.MixOutGradIdeal.main_v0_2)) (v3 : (c : Dev Cert.MixOutGradIdeal.nD) → Buf (Elt Ideal) ((c.tc : Thread Cert.MixOutGradIdeal.nD Cert.MixOutGradIdeal.τ).loc Cert.MixOutGradIdeal.main_v0_3)) (v4 : (c : Dev Cert.MixOutGradIdeal.nD) → Buf (Elt Ideal) ((c.tc : Thread Cert.MixOutGradIdeal.nD Cert.MixOutGradIdeal.τ).loc Cert.MixOutGradIdeal.main_v0_4)),
      θ_run (Cert.MixOutGradIdeal.defs (F := Ideal)) (onTc (τ := Cert.MixOutGradIdeal.τ) (Cert.MixOutGradIdeal.main (F := Ideal))) ⟨m, fun _ => 0, g⟩ (fun r => ∀ c : Dev Cert.MixOutGradIdeal.nD,
          r.2.mem ((c.tc : Thread Cert.MixOutGradIdeal.nD Cert.MixOutGradIdeal.τ).loc Cert.MixOutGradIdeal.main_v0_0) = v0 c
          ∧ r.2.mem ((c.tc : Thread Cert.MixOutGradIdeal.nD Cert.MixOutGradIdeal.τ).loc Cert.MixOutGradIdeal.main_v0_1) = v1 c
          ∧ r.2.mem ((c.tc : Thread Cert.MixOutGradIdeal.nD Cert.MixOutGradIdeal.τ).loc Cert.MixOutGradIdeal.main_v0_2) = v2 c
          ∧ r.2.mem ((c.tc : Thread Cert.MixOutGradIdeal.nD Cert.MixOutGradIdeal.τ).loc Cert.MixOutGradIdeal.main_v0_3) = v3 c
          ∧ r.2.mem ((c.tc : Thread Cert.MixOutGradIdeal.nD Cert.MixOutGradIdeal.τ).loc Cert.MixOutGradIdeal.main_v0_4) = v4 c
          ∧ r.2.mem ((c.tc : Thread Cert.MixOutGradIdeal.nD Cert.MixOutGradIdeal.τ).loc Cert.MixOutGradIdeal.main_arg0) = m ((c.tc : Thread Cert.MixOutGradIdeal.nD Cert.MixOutGradIdeal.τ).loc Cert.MixOutGradIdeal.main_arg0)
          ∧ r.2.mem ((c.tc : Thread Cert.MixOutGradIdeal.nD Cert.MixOutGradIdeal.τ).loc Cert.MixOutGradIdeal.main_arg1) = m ((c.tc : Thread Cert.MixOutGradIdeal.nD Cert.MixOutGradIdeal.τ).loc Cert.MixOutGradIdeal.main_arg1)
          ∧ r.2.mem ((c.tc : Thread Cert.MixOutGradIdeal.nD Cert.MixOutGradIdeal.τ).loc Cert.MixOutGradIdeal.main_arg2) = m ((c.tc : Thread Cert.MixOutGradIdeal.nD Cert.MixOutGradIdeal.τ).loc Cert.MixOutGradIdeal.main_arg2)
          ∧ r.2.mem ((c.tc : Thread Cert.MixOutGradIdeal.nD Cert.MixOutGradIdeal.τ).loc Cert.MixOutGradIdeal.main_arg3) = m ((c.tc : Thread Cert.MixOutGradIdeal.nD Cert.MixOutGradIdeal.τ).loc Cert.MixOutGradIdeal.main_arg3)
          ∧ r.2.mem ((c.tc : Thread Cert.MixOutGradIdeal.nD Cert.MixOutGradIdeal.τ).loc Cert.MixOutGradIdeal.main_arg4) = m ((c.tc : Thread Cert.MixOutGradIdeal.nD Cert.MixOutGradIdeal.τ).loc Cert.MixOutGradIdeal.main_arg4)
          ∧ r.2.mem ((c.tc : Thread Cert.MixOutGradIdeal.nD Cert.MixOutGradIdeal.τ).loc Cert.MixOutGradIdeal.main_arg5) = m ((c.tc : Thread Cert.MixOutGradIdeal.nD Cert.MixOutGradIdeal.τ).loc Cert.MixOutGradIdeal.main_arg5)
          ∧ r.2.mem ((c.tc : Thread Cert.MixOutGradIdeal.nD Cert.MixOutGradIdeal.τ).loc Cert.MixOutGradIdeal.main_arg6) = m ((c.tc : Thread Cert.MixOutGradIdeal.nD Cert.MixOutGradIdeal.τ).loc Cert.MixOutGradIdeal.main_arg6))
      ∧ θ_run (Cert.MixOutGradReferenceIdeal.defs (F := Ideal)) (onTc (τ := Cert.MixOutGradReferenceIdeal.τ) (Cert.MixOutGradReferenceIdeal.main (F := Ideal))) ⟨m', fun _ => 0, g'⟩ (fun r => ∀ c : Dev Cert.MixOutGradReferenceIdeal.nD,
          r.2.mem ((c.tc : Thread Cert.MixOutGradReferenceIdeal.nD Cert.MixOutGradReferenceIdeal.τ).loc Cert.MixOutGradReferenceIdeal.main_v113) = v0 c
          ∧ r.2.mem ((c.tc : Thread Cert.MixOutGradReferenceIdeal.nD Cert.MixOutGradReferenceIdeal.τ).loc Cert.MixOutGradReferenceIdeal.main_v112) = v1 c
          ∧ r.2.mem ((c.tc : Thread Cert.MixOutGradReferenceIdeal.nD Cert.MixOutGradReferenceIdeal.τ).loc Cert.MixOutGradReferenceIdeal.main_v17) = v2 c
          ∧ r.2.mem ((c.tc : Thread Cert.MixOutGradReferenceIdeal.nD Cert.MixOutGradReferenceIdeal.τ).loc Cert.MixOutGradReferenceIdeal.main_v94) = v3 c
          ∧ r.2.mem ((c.tc : Thread Cert.MixOutGradReferenceIdeal.nD Cert.MixOutGradReferenceIdeal.τ).loc Cert.MixOutGradReferenceIdeal.main_v74) = v4 c
          ∧ r.2.mem ((c.tc : Thread Cert.MixOutGradReferenceIdeal.nD Cert.MixOutGradReferenceIdeal.τ).loc Cert.MixOutGradReferenceIdeal.main_arg0) = m' ((c.tc : Thread Cert.MixOutGradReferenceIdeal.nD Cert.MixOutGradReferenceIdeal.τ).loc Cert.MixOutGradReferenceIdeal.main_arg0)
          ∧ r.2.mem ((c.tc : Thread Cert.MixOutGradReferenceIdeal.nD Cert.MixOutGradReferenceIdeal.τ).loc Cert.MixOutGradReferenceIdeal.main_arg1) = m' ((c.tc : Thread Cert.MixOutGradReferenceIdeal.nD Cert.MixOutGradReferenceIdeal.τ).loc Cert.MixOutGradReferenceIdeal.main_arg1)
          ∧ r.2.mem ((c.tc : Thread Cert.MixOutGradReferenceIdeal.nD Cert.MixOutGradReferenceIdeal.τ).loc Cert.MixOutGradReferenceIdeal.main_arg2) = m' ((c.tc : Thread Cert.MixOutGradReferenceIdeal.nD Cert.MixOutGradReferenceIdeal.τ).loc Cert.MixOutGradReferenceIdeal.main_arg2)
          ∧ r.2.mem ((c.tc : Thread Cert.MixOutGradReferenceIdeal.nD Cert.MixOutGradReferenceIdeal.τ).loc Cert.MixOutGradReferenceIdeal.main_arg3) = m' ((c.tc : Thread Cert.MixOutGradReferenceIdeal.nD Cert.MixOutGradReferenceIdeal.τ).loc Cert.MixOutGradReferenceIdeal.main_arg3)
          ∧ r.2.mem ((c.tc : Thread Cert.MixOutGradReferenceIdeal.nD Cert.MixOutGradReferenceIdeal.τ).loc Cert.MixOutGradReferenceIdeal.main_arg4) = m' ((c.tc : Thread Cert.MixOutGradReferenceIdeal.nD Cert.MixOutGradReferenceIdeal.τ).loc Cert.MixOutGradReferenceIdeal.main_arg4)
          ∧ r.2.mem ((c.tc : Thread Cert.MixOutGradReferenceIdeal.nD Cert.MixOutGradReferenceIdeal.τ).loc Cert.MixOutGradReferenceIdeal.main_arg5) = m' ((c.tc : Thread Cert.MixOutGradReferenceIdeal.nD Cert.MixOutGradReferenceIdeal.τ).loc Cert.MixOutGradReferenceIdeal.main_arg5)
          ∧ r.2.mem ((c.tc : Thread Cert.MixOutGradReferenceIdeal.nD Cert.MixOutGradReferenceIdeal.τ).loc Cert.MixOutGradReferenceIdeal.main_arg6) = m' ((c.tc : Thread Cert.MixOutGradReferenceIdeal.nD Cert.MixOutGradReferenceIdeal.τ).loc Cert.MixOutGradReferenceIdeal.main_arg6))

def preserves_NormInGrad_NormInGradIdeal : Prop :=
  True

def algebraic_NormInGradIdeal_NormInGradReferenceIdeal [hNormInGradIdeal : Cert.NormInGradIdeal.Facts] [hNormInGradReferenceIdeal : Cert.NormInGradReferenceIdeal.Facts] : Prop :=
  ∀ (m : (ℓ : Loc Cert.NormInGradIdeal.nD Cert.NormInGradIdeal.τ Cert.NormInGradIdeal.sig) → Buf (Elt Ideal) ℓ) (g : Dev Cert.NormInGradIdeal.nD → PrngReg)
    (m' : (ℓ : Loc Cert.NormInGradReferenceIdeal.nD Cert.NormInGradReferenceIdeal.τ Cert.NormInGradReferenceIdeal.sig) → Buf (Elt Ideal) ℓ) (g' : Dev Cert.NormInGradReferenceIdeal.nD → PrngReg), Pre_NormInGradIdeal m →
    (∀ c : Dev Cert.NormInGradIdeal.nD,
      m' ((c.tc : Thread Cert.NormInGradReferenceIdeal.nD Cert.NormInGradReferenceIdeal.τ).loc Cert.NormInGradReferenceIdeal.main_arg0) = m ((c.tc : Thread Cert.NormInGradIdeal.nD Cert.NormInGradIdeal.τ).loc Cert.NormInGradIdeal.main_arg0)
      ∧ m' ((c.tc : Thread Cert.NormInGradReferenceIdeal.nD Cert.NormInGradReferenceIdeal.τ).loc Cert.NormInGradReferenceIdeal.main_arg1) = m ((c.tc : Thread Cert.NormInGradIdeal.nD Cert.NormInGradIdeal.τ).loc Cert.NormInGradIdeal.main_arg1)
      ∧ m' ((c.tc : Thread Cert.NormInGradReferenceIdeal.nD Cert.NormInGradReferenceIdeal.τ).loc Cert.NormInGradReferenceIdeal.main_arg2) = m ((c.tc : Thread Cert.NormInGradIdeal.nD Cert.NormInGradIdeal.τ).loc Cert.NormInGradIdeal.main_arg2)
      ∧ m' ((c.tc : Thread Cert.NormInGradReferenceIdeal.nD Cert.NormInGradReferenceIdeal.τ).loc Cert.NormInGradReferenceIdeal.main_arg3) = m ((c.tc : Thread Cert.NormInGradIdeal.nD Cert.NormInGradIdeal.τ).loc Cert.NormInGradIdeal.main_arg3)
      ∧ m' ((c.tc : Thread Cert.NormInGradReferenceIdeal.nD Cert.NormInGradReferenceIdeal.τ).loc Cert.NormInGradReferenceIdeal.main_arg4) = m ((c.tc : Thread Cert.NormInGradIdeal.nD Cert.NormInGradIdeal.τ).loc Cert.NormInGradIdeal.main_arg4)
      ∧ m' ((c.tc : Thread Cert.NormInGradReferenceIdeal.nD Cert.NormInGradReferenceIdeal.τ).loc Cert.NormInGradReferenceIdeal.main_arg5) = m ((c.tc : Thread Cert.NormInGradIdeal.nD Cert.NormInGradIdeal.τ).loc Cert.NormInGradIdeal.main_arg5)
      ∧ m' ((c.tc : Thread Cert.NormInGradReferenceIdeal.nD Cert.NormInGradReferenceIdeal.τ).loc Cert.NormInGradReferenceIdeal.main_arg6) = m ((c.tc : Thread Cert.NormInGradIdeal.nD Cert.NormInGradIdeal.τ).loc Cert.NormInGradIdeal.main_arg6)) →
    ∃ (v0 : (c : Dev Cert.NormInGradIdeal.nD) → Buf (Elt Ideal) ((c.tc : Thread Cert.NormInGradIdeal.nD Cert.NormInGradIdeal.τ).loc Cert.NormInGradIdeal.main_v0_0)) (v1 : (c : Dev Cert.NormInGradIdeal.nD) → Buf (Elt Ideal) ((c.tc : Thread Cert.NormInGradIdeal.nD Cert.NormInGradIdeal.τ).loc Cert.NormInGradIdeal.main_v0_1)) (v2 : (c : Dev Cert.NormInGradIdeal.nD) → Buf (Elt Ideal) ((c.tc : Thread Cert.NormInGradIdeal.nD Cert.NormInGradIdeal.τ).loc Cert.NormInGradIdeal.main_v0_2)),
      θ_run (Cert.NormInGradIdeal.defs (F := Ideal)) (onTc (τ := Cert.NormInGradIdeal.τ) (Cert.NormInGradIdeal.main (F := Ideal))) ⟨m, fun _ => 0, g⟩ (fun r => ∀ c : Dev Cert.NormInGradIdeal.nD,
          r.2.mem ((c.tc : Thread Cert.NormInGradIdeal.nD Cert.NormInGradIdeal.τ).loc Cert.NormInGradIdeal.main_v0_0) = v0 c
          ∧ r.2.mem ((c.tc : Thread Cert.NormInGradIdeal.nD Cert.NormInGradIdeal.τ).loc Cert.NormInGradIdeal.main_v0_1) = v1 c
          ∧ r.2.mem ((c.tc : Thread Cert.NormInGradIdeal.nD Cert.NormInGradIdeal.τ).loc Cert.NormInGradIdeal.main_v0_2) = v2 c
          ∧ r.2.mem ((c.tc : Thread Cert.NormInGradIdeal.nD Cert.NormInGradIdeal.τ).loc Cert.NormInGradIdeal.main_arg0) = m ((c.tc : Thread Cert.NormInGradIdeal.nD Cert.NormInGradIdeal.τ).loc Cert.NormInGradIdeal.main_arg0)
          ∧ r.2.mem ((c.tc : Thread Cert.NormInGradIdeal.nD Cert.NormInGradIdeal.τ).loc Cert.NormInGradIdeal.main_arg1) = m ((c.tc : Thread Cert.NormInGradIdeal.nD Cert.NormInGradIdeal.τ).loc Cert.NormInGradIdeal.main_arg1)
          ∧ r.2.mem ((c.tc : Thread Cert.NormInGradIdeal.nD Cert.NormInGradIdeal.τ).loc Cert.NormInGradIdeal.main_arg2) = m ((c.tc : Thread Cert.NormInGradIdeal.nD Cert.NormInGradIdeal.τ).loc Cert.NormInGradIdeal.main_arg2)
          ∧ r.2.mem ((c.tc : Thread Cert.NormInGradIdeal.nD Cert.NormInGradIdeal.τ).loc Cert.NormInGradIdeal.main_arg3) = m ((c.tc : Thread Cert.NormInGradIdeal.nD Cert.NormInGradIdeal.τ).loc Cert.NormInGradIdeal.main_arg3)
          ∧ r.2.mem ((c.tc : Thread Cert.NormInGradIdeal.nD Cert.NormInGradIdeal.τ).loc Cert.NormInGradIdeal.main_arg4) = m ((c.tc : Thread Cert.NormInGradIdeal.nD Cert.NormInGradIdeal.τ).loc Cert.NormInGradIdeal.main_arg4)
          ∧ r.2.mem ((c.tc : Thread Cert.NormInGradIdeal.nD Cert.NormInGradIdeal.τ).loc Cert.NormInGradIdeal.main_arg5) = m ((c.tc : Thread Cert.NormInGradIdeal.nD Cert.NormInGradIdeal.τ).loc Cert.NormInGradIdeal.main_arg5)
          ∧ r.2.mem ((c.tc : Thread Cert.NormInGradIdeal.nD Cert.NormInGradIdeal.τ).loc Cert.NormInGradIdeal.main_arg6) = m ((c.tc : Thread Cert.NormInGradIdeal.nD Cert.NormInGradIdeal.τ).loc Cert.NormInGradIdeal.main_arg6))
      ∧ θ_run (Cert.NormInGradReferenceIdeal.defs (F := Ideal)) (onTc (τ := Cert.NormInGradReferenceIdeal.τ) (Cert.NormInGradReferenceIdeal.main (F := Ideal))) ⟨m', fun _ => 0, g'⟩ (fun r => ∀ c : Dev Cert.NormInGradReferenceIdeal.nD,
          r.2.mem ((c.tc : Thread Cert.NormInGradReferenceIdeal.nD Cert.NormInGradReferenceIdeal.τ).loc Cert.NormInGradReferenceIdeal.main_v40) = v0 c
          ∧ r.2.mem ((c.tc : Thread Cert.NormInGradReferenceIdeal.nD Cert.NormInGradReferenceIdeal.τ).loc Cert.NormInGradReferenceIdeal.main_v41) = v1 c
          ∧ r.2.mem ((c.tc : Thread Cert.NormInGradReferenceIdeal.nD Cert.NormInGradReferenceIdeal.τ).loc Cert.NormInGradReferenceIdeal.main_v23) = v2 c
          ∧ r.2.mem ((c.tc : Thread Cert.NormInGradReferenceIdeal.nD Cert.NormInGradReferenceIdeal.τ).loc Cert.NormInGradReferenceIdeal.main_arg0) = m' ((c.tc : Thread Cert.NormInGradReferenceIdeal.nD Cert.NormInGradReferenceIdeal.τ).loc Cert.NormInGradReferenceIdeal.main_arg0)
          ∧ r.2.mem ((c.tc : Thread Cert.NormInGradReferenceIdeal.nD Cert.NormInGradReferenceIdeal.τ).loc Cert.NormInGradReferenceIdeal.main_arg1) = m' ((c.tc : Thread Cert.NormInGradReferenceIdeal.nD Cert.NormInGradReferenceIdeal.τ).loc Cert.NormInGradReferenceIdeal.main_arg1)
          ∧ r.2.mem ((c.tc : Thread Cert.NormInGradReferenceIdeal.nD Cert.NormInGradReferenceIdeal.τ).loc Cert.NormInGradReferenceIdeal.main_arg2) = m' ((c.tc : Thread Cert.NormInGradReferenceIdeal.nD Cert.NormInGradReferenceIdeal.τ).loc Cert.NormInGradReferenceIdeal.main_arg2)
          ∧ r.2.mem ((c.tc : Thread Cert.NormInGradReferenceIdeal.nD Cert.NormInGradReferenceIdeal.τ).loc Cert.NormInGradReferenceIdeal.main_arg3) = m' ((c.tc : Thread Cert.NormInGradReferenceIdeal.nD Cert.NormInGradReferenceIdeal.τ).loc Cert.NormInGradReferenceIdeal.main_arg3)
          ∧ r.2.mem ((c.tc : Thread Cert.NormInGradReferenceIdeal.nD Cert.NormInGradReferenceIdeal.τ).loc Cert.NormInGradReferenceIdeal.main_arg4) = m' ((c.tc : Thread Cert.NormInGradReferenceIdeal.nD Cert.NormInGradReferenceIdeal.τ).loc Cert.NormInGradReferenceIdeal.main_arg4)
          ∧ r.2.mem ((c.tc : Thread Cert.NormInGradReferenceIdeal.nD Cert.NormInGradReferenceIdeal.τ).loc Cert.NormInGradReferenceIdeal.main_arg5) = m' ((c.tc : Thread Cert.NormInGradReferenceIdeal.nD Cert.NormInGradReferenceIdeal.τ).loc Cert.NormInGradReferenceIdeal.main_arg5)
          ∧ r.2.mem ((c.tc : Thread Cert.NormInGradReferenceIdeal.nD Cert.NormInGradReferenceIdeal.τ).loc Cert.NormInGradReferenceIdeal.main_arg6) = m' ((c.tc : Thread Cert.NormInGradReferenceIdeal.nD Cert.NormInGradReferenceIdeal.τ).loc Cert.NormInGradReferenceIdeal.main_arg6))

def preserves_FfnOutGrad_FfnOutGradIdeal : Prop :=
  True

def algebraic_FfnOutGradIdeal_FfnOutGradReferenceIdeal [hFfnOutGradIdeal : Cert.FfnOutGradIdeal.Facts] [hFfnOutGradReferenceIdeal : Cert.FfnOutGradReferenceIdeal.Facts] : Prop :=
  ∀ (m : (ℓ : Loc Cert.FfnOutGradIdeal.nD Cert.FfnOutGradIdeal.τ Cert.FfnOutGradIdeal.sig) → Buf (Elt Ideal) ℓ) (g : Dev Cert.FfnOutGradIdeal.nD → PrngReg)
    (m' : (ℓ : Loc Cert.FfnOutGradReferenceIdeal.nD Cert.FfnOutGradReferenceIdeal.τ Cert.FfnOutGradReferenceIdeal.sig) → Buf (Elt Ideal) ℓ) (g' : Dev Cert.FfnOutGradReferenceIdeal.nD → PrngReg), Pre_FfnOutGradIdeal m →
    (∀ c : Dev Cert.FfnOutGradIdeal.nD,
      m' ((c.tc : Thread Cert.FfnOutGradReferenceIdeal.nD Cert.FfnOutGradReferenceIdeal.τ).loc Cert.FfnOutGradReferenceIdeal.main_arg0) = m ((c.tc : Thread Cert.FfnOutGradIdeal.nD Cert.FfnOutGradIdeal.τ).loc Cert.FfnOutGradIdeal.main_arg0)
      ∧ m' ((c.tc : Thread Cert.FfnOutGradReferenceIdeal.nD Cert.FfnOutGradReferenceIdeal.τ).loc Cert.FfnOutGradReferenceIdeal.main_arg1) = m ((c.tc : Thread Cert.FfnOutGradIdeal.nD Cert.FfnOutGradIdeal.τ).loc Cert.FfnOutGradIdeal.main_arg1)
      ∧ m' ((c.tc : Thread Cert.FfnOutGradReferenceIdeal.nD Cert.FfnOutGradReferenceIdeal.τ).loc Cert.FfnOutGradReferenceIdeal.main_arg2) = m ((c.tc : Thread Cert.FfnOutGradIdeal.nD Cert.FfnOutGradIdeal.τ).loc Cert.FfnOutGradIdeal.main_arg2)
      ∧ m' ((c.tc : Thread Cert.FfnOutGradReferenceIdeal.nD Cert.FfnOutGradReferenceIdeal.τ).loc Cert.FfnOutGradReferenceIdeal.main_arg3) = m ((c.tc : Thread Cert.FfnOutGradIdeal.nD Cert.FfnOutGradIdeal.τ).loc Cert.FfnOutGradIdeal.main_arg3)
      ∧ m' ((c.tc : Thread Cert.FfnOutGradReferenceIdeal.nD Cert.FfnOutGradReferenceIdeal.τ).loc Cert.FfnOutGradReferenceIdeal.main_arg4) = m ((c.tc : Thread Cert.FfnOutGradIdeal.nD Cert.FfnOutGradIdeal.τ).loc Cert.FfnOutGradIdeal.main_arg4)
      ∧ m' ((c.tc : Thread Cert.FfnOutGradReferenceIdeal.nD Cert.FfnOutGradReferenceIdeal.τ).loc Cert.FfnOutGradReferenceIdeal.main_arg5) = m ((c.tc : Thread Cert.FfnOutGradIdeal.nD Cert.FfnOutGradIdeal.τ).loc Cert.FfnOutGradIdeal.main_arg5)) →
    ∃ (v0 : (c : Dev Cert.FfnOutGradIdeal.nD) → Buf (Elt Ideal) ((c.tc : Thread Cert.FfnOutGradIdeal.nD Cert.FfnOutGradIdeal.τ).loc Cert.FfnOutGradIdeal.main_v0_0)) (v1 : (c : Dev Cert.FfnOutGradIdeal.nD) → Buf (Elt Ideal) ((c.tc : Thread Cert.FfnOutGradIdeal.nD Cert.FfnOutGradIdeal.τ).loc Cert.FfnOutGradIdeal.main_v0_1)) (v2 : (c : Dev Cert.FfnOutGradIdeal.nD) → Buf (Elt Ideal) ((c.tc : Thread Cert.FfnOutGradIdeal.nD Cert.FfnOutGradIdeal.τ).loc Cert.FfnOutGradIdeal.main_v0_2)) (v3 : (c : Dev Cert.FfnOutGradIdeal.nD) → Buf (Elt Ideal) ((c.tc : Thread Cert.FfnOutGradIdeal.nD Cert.FfnOutGradIdeal.τ).loc Cert.FfnOutGradIdeal.main_v0_3)) (v4 : (c : Dev Cert.FfnOutGradIdeal.nD) → Buf (Elt Ideal) ((c.tc : Thread Cert.FfnOutGradIdeal.nD Cert.FfnOutGradIdeal.τ).loc Cert.FfnOutGradIdeal.main_v0_4)),
      θ_run (Cert.FfnOutGradIdeal.defs (F := Ideal)) (onTc (τ := Cert.FfnOutGradIdeal.τ) (Cert.FfnOutGradIdeal.main (F := Ideal))) ⟨m, fun _ => 0, g⟩ (fun r => ∀ c : Dev Cert.FfnOutGradIdeal.nD,
          r.2.mem ((c.tc : Thread Cert.FfnOutGradIdeal.nD Cert.FfnOutGradIdeal.τ).loc Cert.FfnOutGradIdeal.main_v0_0) = v0 c
          ∧ r.2.mem ((c.tc : Thread Cert.FfnOutGradIdeal.nD Cert.FfnOutGradIdeal.τ).loc Cert.FfnOutGradIdeal.main_v0_1) = v1 c
          ∧ r.2.mem ((c.tc : Thread Cert.FfnOutGradIdeal.nD Cert.FfnOutGradIdeal.τ).loc Cert.FfnOutGradIdeal.main_v0_2) = v2 c
          ∧ r.2.mem ((c.tc : Thread Cert.FfnOutGradIdeal.nD Cert.FfnOutGradIdeal.τ).loc Cert.FfnOutGradIdeal.main_v0_3) = v3 c
          ∧ r.2.mem ((c.tc : Thread Cert.FfnOutGradIdeal.nD Cert.FfnOutGradIdeal.τ).loc Cert.FfnOutGradIdeal.main_v0_4) = v4 c
          ∧ r.2.mem ((c.tc : Thread Cert.FfnOutGradIdeal.nD Cert.FfnOutGradIdeal.τ).loc Cert.FfnOutGradIdeal.main_arg0) = m ((c.tc : Thread Cert.FfnOutGradIdeal.nD Cert.FfnOutGradIdeal.τ).loc Cert.FfnOutGradIdeal.main_arg0)
          ∧ r.2.mem ((c.tc : Thread Cert.FfnOutGradIdeal.nD Cert.FfnOutGradIdeal.τ).loc Cert.FfnOutGradIdeal.main_arg1) = m ((c.tc : Thread Cert.FfnOutGradIdeal.nD Cert.FfnOutGradIdeal.τ).loc Cert.FfnOutGradIdeal.main_arg1)
          ∧ r.2.mem ((c.tc : Thread Cert.FfnOutGradIdeal.nD Cert.FfnOutGradIdeal.τ).loc Cert.FfnOutGradIdeal.main_arg2) = m ((c.tc : Thread Cert.FfnOutGradIdeal.nD Cert.FfnOutGradIdeal.τ).loc Cert.FfnOutGradIdeal.main_arg2)
          ∧ r.2.mem ((c.tc : Thread Cert.FfnOutGradIdeal.nD Cert.FfnOutGradIdeal.τ).loc Cert.FfnOutGradIdeal.main_arg3) = m ((c.tc : Thread Cert.FfnOutGradIdeal.nD Cert.FfnOutGradIdeal.τ).loc Cert.FfnOutGradIdeal.main_arg3)
          ∧ r.2.mem ((c.tc : Thread Cert.FfnOutGradIdeal.nD Cert.FfnOutGradIdeal.τ).loc Cert.FfnOutGradIdeal.main_arg4) = m ((c.tc : Thread Cert.FfnOutGradIdeal.nD Cert.FfnOutGradIdeal.τ).loc Cert.FfnOutGradIdeal.main_arg4)
          ∧ r.2.mem ((c.tc : Thread Cert.FfnOutGradIdeal.nD Cert.FfnOutGradIdeal.τ).loc Cert.FfnOutGradIdeal.main_arg5) = m ((c.tc : Thread Cert.FfnOutGradIdeal.nD Cert.FfnOutGradIdeal.τ).loc Cert.FfnOutGradIdeal.main_arg5))
      ∧ θ_run (Cert.FfnOutGradReferenceIdeal.defs (F := Ideal)) (onTc (τ := Cert.FfnOutGradReferenceIdeal.τ) (Cert.FfnOutGradReferenceIdeal.main (F := Ideal))) ⟨m', fun _ => 0, g'⟩ (fun r => ∀ c : Dev Cert.FfnOutGradReferenceIdeal.nD,
          r.2.mem ((c.tc : Thread Cert.FfnOutGradReferenceIdeal.nD Cert.FfnOutGradReferenceIdeal.τ).loc Cert.FfnOutGradReferenceIdeal.main_v45) = v0 c
          ∧ r.2.mem ((c.tc : Thread Cert.FfnOutGradReferenceIdeal.nD Cert.FfnOutGradReferenceIdeal.τ).loc Cert.FfnOutGradReferenceIdeal.main_v46) = v1 c
          ∧ r.2.mem ((c.tc : Thread Cert.FfnOutGradReferenceIdeal.nD Cert.FfnOutGradReferenceIdeal.τ).loc Cert.FfnOutGradReferenceIdeal.main_v47) = v2 c
          ∧ r.2.mem ((c.tc : Thread Cert.FfnOutGradReferenceIdeal.nD Cert.FfnOutGradReferenceIdeal.τ).loc Cert.FfnOutGradReferenceIdeal.main_v48) = v3 c
          ∧ r.2.mem ((c.tc : Thread Cert.FfnOutGradReferenceIdeal.nD Cert.FfnOutGradReferenceIdeal.τ).loc Cert.FfnOutGradReferenceIdeal.main_v18) = v4 c
          ∧ r.2.mem ((c.tc : Thread Cert.FfnOutGradReferenceIdeal.nD Cert.FfnOutGradReferenceIdeal.τ).loc Cert.FfnOutGradReferenceIdeal.main_arg0) = m' ((c.tc : Thread Cert.FfnOutGradReferenceIdeal.nD Cert.FfnOutGradReferenceIdeal.τ).loc Cert.FfnOutGradReferenceIdeal.main_arg0)
          ∧ r.2.mem ((c.tc : Thread Cert.FfnOutGradReferenceIdeal.nD Cert.FfnOutGradReferenceIdeal.τ).loc Cert.FfnOutGradReferenceIdeal.main_arg1) = m' ((c.tc : Thread Cert.FfnOutGradReferenceIdeal.nD Cert.FfnOutGradReferenceIdeal.τ).loc Cert.FfnOutGradReferenceIdeal.main_arg1)
          ∧ r.2.mem ((c.tc : Thread Cert.FfnOutGradReferenceIdeal.nD Cert.FfnOutGradReferenceIdeal.τ).loc Cert.FfnOutGradReferenceIdeal.main_arg2) = m' ((c.tc : Thread Cert.FfnOutGradReferenceIdeal.nD Cert.FfnOutGradReferenceIdeal.τ).loc Cert.FfnOutGradReferenceIdeal.main_arg2)
          ∧ r.2.mem ((c.tc : Thread Cert.FfnOutGradReferenceIdeal.nD Cert.FfnOutGradReferenceIdeal.τ).loc Cert.FfnOutGradReferenceIdeal.main_arg3) = m' ((c.tc : Thread Cert.FfnOutGradReferenceIdeal.nD Cert.FfnOutGradReferenceIdeal.τ).loc Cert.FfnOutGradReferenceIdeal.main_arg3)
          ∧ r.2.mem ((c.tc : Thread Cert.FfnOutGradReferenceIdeal.nD Cert.FfnOutGradReferenceIdeal.τ).loc Cert.FfnOutGradReferenceIdeal.main_arg4) = m' ((c.tc : Thread Cert.FfnOutGradReferenceIdeal.nD Cert.FfnOutGradReferenceIdeal.τ).loc Cert.FfnOutGradReferenceIdeal.main_arg4)
          ∧ r.2.mem ((c.tc : Thread Cert.FfnOutGradReferenceIdeal.nD Cert.FfnOutGradReferenceIdeal.τ).loc Cert.FfnOutGradReferenceIdeal.main_arg5) = m' ((c.tc : Thread Cert.FfnOutGradReferenceIdeal.nD Cert.FfnOutGradReferenceIdeal.τ).loc Cert.FfnOutGradReferenceIdeal.main_arg5))

def Claim : Prop :=
  ∃ (hKernel : Cert.Kernel.Facts) (hKernelIdeal : Cert.KernelIdeal.Facts) (hReferenceIdeal : Cert.ReferenceIdeal.Facts) (hReference : Cert.Reference.Facts) (hGather : Cert.Gather.Facts) (hGatherIdeal : Cert.GatherIdeal.Facts) (hGatherReferenceIdeal : Cert.GatherReferenceIdeal.Facts) (hGatherReference : Cert.GatherReference.Facts) (hSibling : Cert.Sibling.Facts) (hSiblingIdeal : Cert.SiblingIdeal.Facts) (hSiblingReferenceIdeal : Cert.SiblingReferenceIdeal.Facts) (hSiblingReference : Cert.SiblingReference.Facts) (hSmall : Cert.Small.Facts) (hSmallIdeal : Cert.SmallIdeal.Facts) (hSmallReferenceIdeal : Cert.SmallReferenceIdeal.Facts) (hSmallReference : Cert.SmallReference.Facts) (hSumIn : Cert.SumIn.Facts) (hSumInIdeal : Cert.SumInIdeal.Facts) (hSumInReferenceIdeal : Cert.SumInReferenceIdeal.Facts) (hUpdateIn : Cert.UpdateIn.Facts) (hUpdateInIdeal : Cert.UpdateInIdeal.Facts) (hUpdateInReferenceIdeal : Cert.UpdateInReferenceIdeal.Facts) (hSumOut : Cert.SumOut.Facts) (hSumOutIdeal : Cert.SumOutIdeal.Facts) (hSumOutReferenceIdeal : Cert.SumOutReferenceIdeal.Facts) (hUpdateOut : Cert.UpdateOut.Facts) (hUpdateOutIdeal : Cert.UpdateOutIdeal.Facts) (hUpdateOutReferenceIdeal : Cert.UpdateOutReferenceIdeal.Facts) (hSumFfn : Cert.SumFfn.Facts) (hSumFfnIdeal : Cert.SumFfnIdeal.Facts) (hSumFfnReferenceIdeal : Cert.SumFfnReferenceIdeal.Facts) (hUpdateFfn : Cert.UpdateFfn.Facts) (hUpdateFfnIdeal : Cert.UpdateFfnIdeal.Facts) (hUpdateFfnReferenceIdeal : Cert.UpdateFfnReferenceIdeal.Facts) (hSumDown : Cert.SumDown.Facts) (hSumDownIdeal : Cert.SumDownIdeal.Facts) (hSumDownReferenceIdeal : Cert.SumDownReferenceIdeal.Facts) (hUpdateDown : Cert.UpdateDown.Facts) (hUpdateDownIdeal : Cert.UpdateDownIdeal.Facts) (hUpdateDownReferenceIdeal : Cert.UpdateDownReferenceIdeal.Facts) (hSumPle : Cert.SumPle.Facts) (hSumPleIdeal : Cert.SumPleIdeal.Facts) (hSumPleReferenceIdeal : Cert.SumPleReferenceIdeal.Facts) (hUpdatePle : Cert.UpdatePle.Facts) (hUpdatePleIdeal : Cert.UpdatePleIdeal.Facts) (hUpdatePleReferenceIdeal : Cert.UpdatePleReferenceIdeal.Facts) (hUpdateSmall : Cert.UpdateSmall.Facts) (hUpdateSmallIdeal : Cert.UpdateSmallIdeal.Facts) (hUpdateSmallReferenceIdeal : Cert.UpdateSmallReferenceIdeal.Facts) (hGradIn : Cert.GradIn.Facts) (hGradInIdeal : Cert.GradInIdeal.Facts) (hGradInReferenceIdeal : Cert.GradInReferenceIdeal.Facts) (hGradOut : Cert.GradOut.Facts) (hGradOutIdeal : Cert.GradOutIdeal.Facts) (hGradOutReferenceIdeal : Cert.GradOutReferenceIdeal.Facts) (hGradFfn : Cert.GradFfn.Facts) (hGradFfnIdeal : Cert.GradFfnIdeal.Facts) (hGradFfnReferenceIdeal : Cert.GradFfnReferenceIdeal.Facts) (hGradDown : Cert.GradDown.Facts) (hGradDownIdeal : Cert.GradDownIdeal.Facts) (hGradDownReferenceIdeal : Cert.GradDownReferenceIdeal.Facts) (hGradPle : Cert.GradPle.Facts) (hGradPleIdeal : Cert.GradPleIdeal.Facts) (hGradPleReferenceIdeal : Cert.GradPleReferenceIdeal.Facts) (hLossHead : Cert.LossHead.Facts) (hLossHeadIdeal : Cert.LossHeadIdeal.Facts) (hLossHeadReferenceIdeal : Cert.LossHeadReferenceIdeal.Facts) (hNormIn : Cert.NormIn.Facts) (hNormInIdeal : Cert.NormInIdeal.Facts) (hNormInReferenceIdeal : Cert.NormInReferenceIdeal.Facts) (hMixOut : Cert.MixOut.Facts) (hMixOutIdeal : Cert.MixOutIdeal.Facts) (hMixOutReferenceIdeal : Cert.MixOutReferenceIdeal.Facts) (hFfnIn : Cert.FfnIn.Facts) (hFfnInIdeal : Cert.FfnInIdeal.Facts) (hFfnInReferenceIdeal : Cert.FfnInReferenceIdeal.Facts) (hFfnOut : Cert.FfnOut.Facts) (hFfnOutIdeal : Cert.FfnOutIdeal.Facts) (hFfnOutReferenceIdeal : Cert.FfnOutReferenceIdeal.Facts) (hPleGate : Cert.PleGate.Facts) (hPleGateIdeal : Cert.PleGateIdeal.Facts) (hPleGateReferenceIdeal : Cert.PleGateReferenceIdeal.Facts) (hPleGrad : Cert.PleGrad.Facts) (hPleGradIdeal : Cert.PleGradIdeal.Facts) (hPleGradReferenceIdeal : Cert.PleGradReferenceIdeal.Facts) (hFfnInGrad : Cert.FfnInGrad.Facts) (hFfnInGradIdeal : Cert.FfnInGradIdeal.Facts) (hFfnInGradReferenceIdeal : Cert.FfnInGradReferenceIdeal.Facts) (hMixOutGrad : Cert.MixOutGrad.Facts) (hMixOutGradIdeal : Cert.MixOutGradIdeal.Facts) (hMixOutGradReferenceIdeal : Cert.MixOutGradReferenceIdeal.Facts) (hNormInGrad : Cert.NormInGrad.Facts) (hNormInGradIdeal : Cert.NormInGradIdeal.Facts) (hNormInGradReferenceIdeal : Cert.NormInGradReferenceIdeal.Facts) (hFfnOutGrad : Cert.FfnOutGrad.Facts) (hFfnOutGradIdeal : Cert.FfnOutGradIdeal.Facts) (hFfnOutGradReferenceIdeal : Cert.FfnOutGradReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Gather (hGather := hGather)
    ∧ quiescent_GatherIdeal (hGatherIdeal := hGatherIdeal)
    ∧ quiescent_GatherReferenceIdeal (hGatherReferenceIdeal := hGatherReferenceIdeal)
    ∧ quiescent_GatherReference (hGatherReference := hGatherReference)
    ∧ quiescent_Sibling (hSibling := hSibling)
    ∧ quiescent_SiblingIdeal (hSiblingIdeal := hSiblingIdeal)
    ∧ quiescent_SiblingReferenceIdeal (hSiblingReferenceIdeal := hSiblingReferenceIdeal)
    ∧ quiescent_SiblingReference (hSiblingReference := hSiblingReference)
    ∧ quiescent_Small (hSmall := hSmall)
    ∧ quiescent_SmallIdeal (hSmallIdeal := hSmallIdeal)
    ∧ quiescent_SmallReferenceIdeal (hSmallReferenceIdeal := hSmallReferenceIdeal)
    ∧ quiescent_SmallReference (hSmallReference := hSmallReference)
    ∧ quiescent_SumIn (hSumIn := hSumIn)
    ∧ quiescent_SumInIdeal (hSumInIdeal := hSumInIdeal)
    ∧ quiescent_SumInReferenceIdeal (hSumInReferenceIdeal := hSumInReferenceIdeal)
    ∧ quiescent_UpdateIn (hUpdateIn := hUpdateIn)
    ∧ quiescent_UpdateInIdeal (hUpdateInIdeal := hUpdateInIdeal)
    ∧ quiescent_UpdateInReferenceIdeal (hUpdateInReferenceIdeal := hUpdateInReferenceIdeal)
    ∧ quiescent_SumOut (hSumOut := hSumOut)
    ∧ quiescent_SumOutIdeal (hSumOutIdeal := hSumOutIdeal)
    ∧ quiescent_SumOutReferenceIdeal (hSumOutReferenceIdeal := hSumOutReferenceIdeal)
    ∧ quiescent_UpdateOut (hUpdateOut := hUpdateOut)
    ∧ quiescent_UpdateOutIdeal (hUpdateOutIdeal := hUpdateOutIdeal)
    ∧ quiescent_UpdateOutReferenceIdeal (hUpdateOutReferenceIdeal := hUpdateOutReferenceIdeal)
    ∧ quiescent_SumFfn (hSumFfn := hSumFfn)
    ∧ quiescent_SumFfnIdeal (hSumFfnIdeal := hSumFfnIdeal)
    ∧ quiescent_SumFfnReferenceIdeal (hSumFfnReferenceIdeal := hSumFfnReferenceIdeal)
    ∧ quiescent_UpdateFfn (hUpdateFfn := hUpdateFfn)
    ∧ quiescent_UpdateFfnIdeal (hUpdateFfnIdeal := hUpdateFfnIdeal)
    ∧ quiescent_UpdateFfnReferenceIdeal (hUpdateFfnReferenceIdeal := hUpdateFfnReferenceIdeal)
    ∧ quiescent_SumDown (hSumDown := hSumDown)
    ∧ quiescent_SumDownIdeal (hSumDownIdeal := hSumDownIdeal)
    ∧ quiescent_SumDownReferenceIdeal (hSumDownReferenceIdeal := hSumDownReferenceIdeal)
    ∧ quiescent_UpdateDown (hUpdateDown := hUpdateDown)
    ∧ quiescent_UpdateDownIdeal (hUpdateDownIdeal := hUpdateDownIdeal)
    ∧ quiescent_UpdateDownReferenceIdeal (hUpdateDownReferenceIdeal := hUpdateDownReferenceIdeal)
    ∧ quiescent_SumPle (hSumPle := hSumPle)
    ∧ quiescent_SumPleIdeal (hSumPleIdeal := hSumPleIdeal)
    ∧ quiescent_SumPleReferenceIdeal (hSumPleReferenceIdeal := hSumPleReferenceIdeal)
    ∧ quiescent_UpdatePle (hUpdatePle := hUpdatePle)
    ∧ quiescent_UpdatePleIdeal (hUpdatePleIdeal := hUpdatePleIdeal)
    ∧ quiescent_UpdatePleReferenceIdeal (hUpdatePleReferenceIdeal := hUpdatePleReferenceIdeal)
    ∧ quiescent_UpdateSmall (hUpdateSmall := hUpdateSmall)
    ∧ quiescent_UpdateSmallIdeal (hUpdateSmallIdeal := hUpdateSmallIdeal)
    ∧ quiescent_UpdateSmallReferenceIdeal (hUpdateSmallReferenceIdeal := hUpdateSmallReferenceIdeal)
    ∧ quiescent_GradIn (hGradIn := hGradIn)
    ∧ quiescent_GradInIdeal (hGradInIdeal := hGradInIdeal)
    ∧ quiescent_GradInReferenceIdeal (hGradInReferenceIdeal := hGradInReferenceIdeal)
    ∧ quiescent_GradOut (hGradOut := hGradOut)
    ∧ quiescent_GradOutIdeal (hGradOutIdeal := hGradOutIdeal)
    ∧ quiescent_GradOutReferenceIdeal (hGradOutReferenceIdeal := hGradOutReferenceIdeal)
    ∧ quiescent_GradFfn (hGradFfn := hGradFfn)
    ∧ quiescent_GradFfnIdeal (hGradFfnIdeal := hGradFfnIdeal)
    ∧ quiescent_GradFfnReferenceIdeal (hGradFfnReferenceIdeal := hGradFfnReferenceIdeal)
    ∧ quiescent_GradDown (hGradDown := hGradDown)
    ∧ quiescent_GradDownIdeal (hGradDownIdeal := hGradDownIdeal)
    ∧ quiescent_GradDownReferenceIdeal (hGradDownReferenceIdeal := hGradDownReferenceIdeal)
    ∧ quiescent_GradPle (hGradPle := hGradPle)
    ∧ quiescent_GradPleIdeal (hGradPleIdeal := hGradPleIdeal)
    ∧ quiescent_GradPleReferenceIdeal (hGradPleReferenceIdeal := hGradPleReferenceIdeal)
    ∧ quiescent_LossHead (hLossHead := hLossHead)
    ∧ quiescent_LossHeadIdeal (hLossHeadIdeal := hLossHeadIdeal)
    ∧ quiescent_LossHeadReferenceIdeal (hLossHeadReferenceIdeal := hLossHeadReferenceIdeal)
    ∧ quiescent_NormIn (hNormIn := hNormIn)
    ∧ quiescent_NormInIdeal (hNormInIdeal := hNormInIdeal)
    ∧ quiescent_NormInReferenceIdeal (hNormInReferenceIdeal := hNormInReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_FfnIn (hFfnIn := hFfnIn)
    ∧ quiescent_FfnInIdeal (hFfnInIdeal := hFfnInIdeal)
    ∧ quiescent_FfnInReferenceIdeal (hFfnInReferenceIdeal := hFfnInReferenceIdeal)
    ∧ quiescent_FfnOut (hFfnOut := hFfnOut)
    ∧ quiescent_FfnOutIdeal (hFfnOutIdeal := hFfnOutIdeal)
    ∧ quiescent_FfnOutReferenceIdeal (hFfnOutReferenceIdeal := hFfnOutReferenceIdeal)
    ∧ quiescent_PleGate (hPleGate := hPleGate)
    ∧ quiescent_PleGateIdeal (hPleGateIdeal := hPleGateIdeal)
    ∧ quiescent_PleGateReferenceIdeal (hPleGateReferenceIdeal := hPleGateReferenceIdeal)
    ∧ quiescent_PleGrad (hPleGrad := hPleGrad)
    ∧ quiescent_PleGradIdeal (hPleGradIdeal := hPleGradIdeal)
    ∧ quiescent_PleGradReferenceIdeal (hPleGradReferenceIdeal := hPleGradReferenceIdeal)
    ∧ quiescent_FfnInGrad (hFfnInGrad := hFfnInGrad)
    ∧ quiescent_FfnInGradIdeal (hFfnInGradIdeal := hFfnInGradIdeal)
    ∧ quiescent_FfnInGradReferenceIdeal (hFfnInGradReferenceIdeal := hFfnInGradReferenceIdeal)
    ∧ quiescent_MixOutGrad (hMixOutGrad := hMixOutGrad)
    ∧ quiescent_MixOutGradIdeal (hMixOutGradIdeal := hMixOutGradIdeal)
    ∧ quiescent_MixOutGradReferenceIdeal (hMixOutGradReferenceIdeal := hMixOutGradReferenceIdeal)
    ∧ quiescent_NormInGrad (hNormInGrad := hNormInGrad)
    ∧ quiescent_NormInGradIdeal (hNormInGradIdeal := hNormInGradIdeal)
    ∧ quiescent_NormInGradReferenceIdeal (hNormInGradReferenceIdeal := hNormInGradReferenceIdeal)
    ∧ quiescent_FfnOutGrad (hFfnOutGrad := hFfnOutGrad)
    ∧ quiescent_FfnOutGradIdeal (hFfnOutGradIdeal := hFfnOutGradIdeal)
    ∧ quiescent_FfnOutGradReferenceIdeal (hFfnOutGradReferenceIdeal := hFfnOutGradReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Gather_GatherIdeal
    ∧ algebraic_GatherIdeal_GatherReferenceIdeal (hGatherIdeal := hGatherIdeal) (hGatherReferenceIdeal := hGatherReferenceIdeal)
    ∧ bitexact_Gather_GatherReference (hGather := hGather) (hGatherReference := hGatherReference)
    ∧ preserves_Sibling_SiblingIdeal
    ∧ algebraic_SiblingIdeal_SiblingReferenceIdeal (hSiblingIdeal := hSiblingIdeal) (hSiblingReferenceIdeal := hSiblingReferenceIdeal)
    ∧ bitexact_Sibling_SiblingReference (hSibling := hSibling) (hSiblingReference := hSiblingReference)
    ∧ preserves_Small_SmallIdeal
    ∧ algebraic_SmallIdeal_SmallReferenceIdeal (hSmallIdeal := hSmallIdeal) (hSmallReferenceIdeal := hSmallReferenceIdeal)
    ∧ bitexact_Small_SmallReference (hSmall := hSmall) (hSmallReference := hSmallReference)
    ∧ preserves_SumIn_SumInIdeal
    ∧ algebraic_SumInIdeal_SumInReferenceIdeal (hSumInIdeal := hSumInIdeal) (hSumInReferenceIdeal := hSumInReferenceIdeal)
    ∧ preserves_UpdateIn_UpdateInIdeal
    ∧ algebraic_UpdateInIdeal_UpdateInReferenceIdeal (hUpdateInIdeal := hUpdateInIdeal) (hUpdateInReferenceIdeal := hUpdateInReferenceIdeal)
    ∧ preserves_SumOut_SumOutIdeal
    ∧ algebraic_SumOutIdeal_SumOutReferenceIdeal (hSumOutIdeal := hSumOutIdeal) (hSumOutReferenceIdeal := hSumOutReferenceIdeal)
    ∧ preserves_UpdateOut_UpdateOutIdeal
    ∧ algebraic_UpdateOutIdeal_UpdateOutReferenceIdeal (hUpdateOutIdeal := hUpdateOutIdeal) (hUpdateOutReferenceIdeal := hUpdateOutReferenceIdeal)
    ∧ preserves_SumFfn_SumFfnIdeal
    ∧ algebraic_SumFfnIdeal_SumFfnReferenceIdeal (hSumFfnIdeal := hSumFfnIdeal) (hSumFfnReferenceIdeal := hSumFfnReferenceIdeal)
    ∧ preserves_UpdateFfn_UpdateFfnIdeal
    ∧ algebraic_UpdateFfnIdeal_UpdateFfnReferenceIdeal (hUpdateFfnIdeal := hUpdateFfnIdeal) (hUpdateFfnReferenceIdeal := hUpdateFfnReferenceIdeal)
    ∧ preserves_SumDown_SumDownIdeal
    ∧ algebraic_SumDownIdeal_SumDownReferenceIdeal (hSumDownIdeal := hSumDownIdeal) (hSumDownReferenceIdeal := hSumDownReferenceIdeal)
    ∧ preserves_UpdateDown_UpdateDownIdeal
    ∧ algebraic_UpdateDownIdeal_UpdateDownReferenceIdeal (hUpdateDownIdeal := hUpdateDownIdeal) (hUpdateDownReferenceIdeal := hUpdateDownReferenceIdeal)
    ∧ preserves_SumPle_SumPleIdeal
    ∧ algebraic_SumPleIdeal_SumPleReferenceIdeal (hSumPleIdeal := hSumPleIdeal) (hSumPleReferenceIdeal := hSumPleReferenceIdeal)
    ∧ preserves_UpdatePle_UpdatePleIdeal
    ∧ algebraic_UpdatePleIdeal_UpdatePleReferenceIdeal (hUpdatePleIdeal := hUpdatePleIdeal) (hUpdatePleReferenceIdeal := hUpdatePleReferenceIdeal)
    ∧ preserves_UpdateSmall_UpdateSmallIdeal
    ∧ algebraic_UpdateSmallIdeal_UpdateSmallReferenceIdeal (hUpdateSmallIdeal := hUpdateSmallIdeal) (hUpdateSmallReferenceIdeal := hUpdateSmallReferenceIdeal)
    ∧ preserves_GradIn_GradInIdeal
    ∧ algebraic_GradInIdeal_GradInReferenceIdeal (hGradInIdeal := hGradInIdeal) (hGradInReferenceIdeal := hGradInReferenceIdeal)
    ∧ preserves_GradOut_GradOutIdeal
    ∧ algebraic_GradOutIdeal_GradOutReferenceIdeal (hGradOutIdeal := hGradOutIdeal) (hGradOutReferenceIdeal := hGradOutReferenceIdeal)
    ∧ preserves_GradFfn_GradFfnIdeal
    ∧ algebraic_GradFfnIdeal_GradFfnReferenceIdeal (hGradFfnIdeal := hGradFfnIdeal) (hGradFfnReferenceIdeal := hGradFfnReferenceIdeal)
    ∧ preserves_GradDown_GradDownIdeal
    ∧ algebraic_GradDownIdeal_GradDownReferenceIdeal (hGradDownIdeal := hGradDownIdeal) (hGradDownReferenceIdeal := hGradDownReferenceIdeal)
    ∧ preserves_GradPle_GradPleIdeal
    ∧ algebraic_GradPleIdeal_GradPleReferenceIdeal (hGradPleIdeal := hGradPleIdeal) (hGradPleReferenceIdeal := hGradPleReferenceIdeal)
    ∧ preserves_LossHead_LossHeadIdeal
    ∧ algebraic_LossHeadIdeal_LossHeadReferenceIdeal (hLossHeadIdeal := hLossHeadIdeal) (hLossHeadReferenceIdeal := hLossHeadReferenceIdeal)
    ∧ preserves_NormIn_NormInIdeal
    ∧ algebraic_NormInIdeal_NormInReferenceIdeal (hNormInIdeal := hNormInIdeal) (hNormInReferenceIdeal := hNormInReferenceIdeal)
    ∧ preserves_MixOut_MixOutIdeal
    ∧ algebraic_MixOutIdeal_MixOutReferenceIdeal (hMixOutIdeal := hMixOutIdeal) (hMixOutReferenceIdeal := hMixOutReferenceIdeal)
    ∧ preserves_FfnIn_FfnInIdeal
    ∧ algebraic_FfnInIdeal_FfnInReferenceIdeal (hFfnInIdeal := hFfnInIdeal) (hFfnInReferenceIdeal := hFfnInReferenceIdeal)
    ∧ preserves_FfnOut_FfnOutIdeal
    ∧ algebraic_FfnOutIdeal_FfnOutReferenceIdeal (hFfnOutIdeal := hFfnOutIdeal) (hFfnOutReferenceIdeal := hFfnOutReferenceIdeal)
    ∧ preserves_PleGate_PleGateIdeal
    ∧ algebraic_PleGateIdeal_PleGateReferenceIdeal (hPleGateIdeal := hPleGateIdeal) (hPleGateReferenceIdeal := hPleGateReferenceIdeal)
    ∧ preserves_PleGrad_PleGradIdeal
    ∧ algebraic_PleGradIdeal_PleGradReferenceIdeal (hPleGradIdeal := hPleGradIdeal) (hPleGradReferenceIdeal := hPleGradReferenceIdeal)
    ∧ preserves_FfnInGrad_FfnInGradIdeal
    ∧ algebraic_FfnInGradIdeal_FfnInGradReferenceIdeal (hFfnInGradIdeal := hFfnInGradIdeal) (hFfnInGradReferenceIdeal := hFfnInGradReferenceIdeal)
    ∧ preserves_MixOutGrad_MixOutGradIdeal
    ∧ algebraic_MixOutGradIdeal_MixOutGradReferenceIdeal (hMixOutGradIdeal := hMixOutGradIdeal) (hMixOutGradReferenceIdeal := hMixOutGradReferenceIdeal)
    ∧ preserves_NormInGrad_NormInGradIdeal
    ∧ algebraic_NormInGradIdeal_NormInGradReferenceIdeal (hNormInGradIdeal := hNormInGradIdeal) (hNormInGradReferenceIdeal := hNormInGradReferenceIdeal)
    ∧ preserves_FfnOutGrad_FfnOutGradIdeal
    ∧ algebraic_FfnOutGradIdeal_FfnOutGradReferenceIdeal (hFfnOutGradIdeal := hFfnOutGradIdeal) (hFfnOutGradReferenceIdeal := hFfnOutGradReferenceIdeal)
-- ==== Kernel.lean ====
abbrev S4x4x1024x448 : Shape := ⟨4, ![4, 4, 1024, 448]⟩
abbrev S4x4x256x1024 : Shape := ⟨4, ![4, 4, 256, 1024]⟩
abbrev S4x4x1024x704 : Shape := ⟨4, ![4, 4, 1024, 704]⟩
abbrev S4x4x704x1024 : Shape := ⟨4, ![4, 4, 704, 1024]⟩
abbrev S4x4x256x256 : Shape := ⟨4, ![4, 4, 256, 256]⟩
abbrev S21 : Shape := ⟨1, ![21]⟩
abbrev S7 : Shape := ⟨1, ![7]⟩
abbrev S1 : Shape := ⟨1, ![1]⟩
abbrev S_ : Shape := ⟨0, ![]⟩
abbrev S1x4x1024x448 : Shape := ⟨4, ![1, 4, 1024, 448]⟩
abbrev S4x1024x448 : Shape := ⟨3, ![4, 1024, 448]⟩
abbrev S1x4x256x1024 : Shape := ⟨4, ![1, 4, 256, 1024]⟩
abbrev S4x256x1024 : Shape := ⟨3, ![4, 256, 1024]⟩
abbrev S1x4x1024x704 : Shape := ⟨4, ![1, 4, 1024, 704]⟩
abbrev S4x1024x704 : Shape := ⟨3, ![4, 1024, 704]⟩
abbrev S1x4x704x1024 : Shape := ⟨4, ![1, 4, 704, 1024]⟩
abbrev S4x704x1024 : Shape := ⟨3, ![4, 704, 1024]⟩
abbrev S1x4x256x256 : Shape := ⟨4, ![1, 4, 256, 256]⟩
abbrev S4x256x256 : Shape := ⟨3, ![4, 256, 256]⟩

abbrev nBuf : Space → Nat
  | .hbm => 14
  | .vmem => 0
  | .smem => 0
  | _ => 0

abbrev bufTy : (tb : Table) → Fin (tcTables nBuf tb) → BufTy
  | .hbm, ⟨0, _⟩ => ⟨S4x4x1024x448, .f32⟩
  | .hbm, ⟨1, _⟩ => ⟨S4x4x256x1024, .f32⟩
  | .hbm, ⟨2, _⟩ => ⟨S4x4x1024x704, .f32⟩
  | .hbm, ⟨3, _⟩ => ⟨S4x4x1024x704, .f32⟩
  | .hbm, ⟨4, _⟩ => ⟨S4x4x704x1024, .f32⟩
  | .hbm, ⟨5, _⟩ => ⟨S4x4x256x256, .f32⟩
  | .hbm, ⟨6, _⟩ => ⟨S4x4x256x1024, .f32⟩
  | .hbm, ⟨7, _⟩ => ⟨S4x4x1024x448, .f32⟩
  | .hbm, ⟨8, _⟩ => ⟨S4x4x256x1024, .f32⟩
  | .hbm, ⟨9, _⟩ => ⟨S4x4x1024x704, .f32⟩
  | .hbm, ⟨10, _⟩ => ⟨S4x4x1024x704, .f32⟩
  | .hbm, ⟨11, _⟩ => ⟨S4x4x704x1024, .f32⟩
  | .hbm, ⟨12, _⟩ => ⟨S4x4x256x256, .f32⟩
  | .hbm, ⟨13, _⟩ => ⟨S4x4x256x1024, .f32⟩
  | _, _ => ⟨S4x4x1024x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩

abbrev nD : Nat := 8
abbrev τ : Topo := Topo.v7x

variable {F : FTy → Type} [FloatOps F]

abbrev grid0 : Pipeline.Grid := .none

def k0_off1 (d0 : Dev nD) : Fin 4 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_8 : BitVec 32 := 0#32
  let c0_i32_9 : BitVec 32 := 0#32
  let c0_i32_10 : BitVec 32 := 0#32
  ![v10.toNat, 0, 0, 0]
def k0_off2 (d0 : Dev nD) : Fin 4 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_15 : BitVec 32 := 0#32
  let c0_i32_16 : BitVec 32 := 0#32
  let c0_i32_17 : BitVec 32 := 0#32
  ![v10.toNat, 0, 0, 0]
def k0_off3 (d0 : Dev nD) : Fin 4 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_22 : BitVec 32 := 0#32
  let c0_i32_23 : BitVec 32 := 0#32
  let c0_i32_24 : BitVec 32 := 0#32
  ![v10.toNat, 0, 0, 0]
def k0_off4 (d0 : Dev nD) : Fin 4 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_35 : BitVec 32 := 0#32
  let c0_i32_36 : BitVec 32 := 0#32
  let c0_i32_37 : BitVec 32 := 0#32
  ![v10.toNat, 0, 0, 0]
def k0_off5 (d0 : Dev nD) : Fin 4 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_41 : BitVec 32 := 0#32
  let c0_i32_42 : BitVec 32 := 0#32
  let c0_i32_43 : BitVec 32 := 0#32
  ![v10.toNat, 0, 0, 0]
def k0_off6 (d0 : Dev nD) : Fin 4 → Nat :=
  let c2_i32_53 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v57 : BitVec 32 := Scalar.muli c2_i32_53 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v58 : BitVec 32 := Scalar.addi v57 v5
  let c0_i32_63 : BitVec 32 := 0#32
  let c0_i32_64 : BitVec 32 := 0#32
  let c0_i32_65 : BitVec 32 := 0#32
  ![v58.toNat, 0, 0, 0]
def k0_dev1 (d0 : Dev nD) : Nat :=
  let c0_i32_57 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_56 : BitVec 32 := 4#32
  let v59 : BitVec 32 := Scalar.muli v11 c4_i32_56
  let v60 : BitVec 32 := Scalar.addi c0_i32_57 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_58 : BitVec 32 := 2#32
  let v61 : BitVec 32 := Scalar.muli v5 c2_i32_58
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_59 : BitVec 32 := 1#32
  let v63 : BitVec 32 := Scalar.muli v8 c1_i32_59
  let v64 : BitVec 32 := Scalar.addi v62 v63
  v64.toNat
def k0_off7 (d0 : Dev nD) : Fin 4 → Nat :=
  let c2_i32_66 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v73 : BitVec 32 := Scalar.muli c2_i32_66 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v74 : BitVec 32 := Scalar.addi v73 v12
  let c0_i32_76 : BitVec 32 := 0#32
  let c0_i32_77 : BitVec 32 := 0#32
  let c0_i32_78 : BitVec 32 := 0#32
  ![v74.toNat, 0, 0, 0]
def k0_dev2 (d0 : Dev nD) : Nat :=
  let c0_i32_70 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_69 : BitVec 32 := 4#32
  let v75 : BitVec 32 := Scalar.muli v2 c4_i32_69
  let v76 : BitVec 32 := Scalar.addi c0_i32_70 v75
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_71 : BitVec 32 := 2#32
  let v77 : BitVec 32 := Scalar.muli v12 c2_i32_71
  let v78 : BitVec 32 := Scalar.addi v76 v77
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_72 : BitVec 32 := 1#32
  let v79 : BitVec 32 := Scalar.muli v8 c1_i32_72
  let v80 : BitVec 32 := Scalar.addi v78 v79
  v80.toNat
def k0_off8 (d0 : Dev nD) : Fin 4 → Nat :=
  let c2_i32_79 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v89 : BitVec 32 := Scalar.muli c2_i32_79 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v90 : BitVec 32 := Scalar.addi v89 v14
  let c0_i32_89 : BitVec 32 := 0#32
  let c0_i32_90 : BitVec 32 := 0#32
  let c0_i32_91 : BitVec 32 := 0#32
  ![v90.toNat, 0, 0, 0]
def k0_dev3 (d0 : Dev nD) : Nat :=
  let c0_i32_83 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_82 : BitVec 32 := 4#32
  let v91 : BitVec 32 := Scalar.muli v13 c4_i32_82
  let v92 : BitVec 32 := Scalar.addi c0_i32_83 v91
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_84 : BitVec 32 := 2#32
  let v93 : BitVec 32 := Scalar.muli v14 c2_i32_84
  let v94 : BitVec 32 := Scalar.addi v92 v93
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_85 : BitVec 32 := 1#32
  let v95 : BitVec 32 := Scalar.muli v8 c1_i32_85
  let v96 : BitVec 32 := Scalar.addi v94 v95
  v96.toNat
def k0_off9 (d0 : Dev nD) : Fin 4 → Nat :=
  let c2_i32_92 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v105 : BitVec 32 := Scalar.muli c2_i32_92 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v106 : BitVec 32 := Scalar.addi v105 v5
  let c0_i32_102 : BitVec 32 := 0#32
  let c0_i32_103 : BitVec 32 := 0#32
  let c0_i32_104 : BitVec 32 := 0#32
  ![v106.toNat, 0, 0, 0]
def k0_dev4 (d0 : Dev nD) : Nat :=
  let c0_i32_96 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_95 : BitVec 32 := 4#32
  let v107 : BitVec 32 := Scalar.muli v11 c4_i32_95
  let v108 : BitVec 32 := Scalar.addi c0_i32_96 v107
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_97 : BitVec 32 := 2#32
  let v109 : BitVec 32 := Scalar.muli v5 c2_i32_97
  let v110 : BitVec 32 := Scalar.addi v108 v109
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_98 : BitVec 32 := 1#32
  let v111 : BitVec 32 := Scalar.muli v8 c1_i32_98
  let v112 : BitVec 32 := Scalar.addi v110 v111
  v112.toNat
def k0_off10 (d0 : Dev nD) : Fin 4 → Nat :=
  let c2_i32_105 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v121 : BitVec 32 := Scalar.muli c2_i32_105 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v122 : BitVec 32 := Scalar.addi v121 v12
  let c0_i32_115 : BitVec 32 := 0#32
  let c0_i32_116 : BitVec 32 := 0#32
  let c0_i32_117 : BitVec 32 := 0#32
  ![v122.toNat, 0, 0, 0]
def k0_dev5 (d0 : Dev nD) : Nat :=
  let c0_i32_109 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_108 : BitVec 32 := 4#32
  let v123 : BitVec 32 := Scalar.muli v2 c4_i32_108
  let v124 : BitVec 32 := Scalar.addi c0_i32_109 v123
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_110 : BitVec 32 := 2#32
  let v125 : BitVec 32 := Scalar.muli v12 c2_i32_110
  let v126 : BitVec 32 := Scalar.addi v124 v125
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_111 : BitVec 32 := 1#32
  let v127 : BitVec 32 := Scalar.muli v8 c1_i32_111
  let v128 : BitVec 32 := Scalar.addi v126 v127
  v128.toNat
def k0_off11 (d0 : Dev nD) : Fin 4 → Nat :=
  let c2_i32_118 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v137 : BitVec 32 := Scalar.muli c2_i32_118 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v138 : BitVec 32 := Scalar.addi v137 v14
  let c0_i32_128 : BitVec 32 := 0#32
  let c0_i32_129 : BitVec 32 := 0#32
  let c0_i32_130 : BitVec 32 := 0#32
  ![v138.toNat, 0, 0, 0]
def k0_dev6 (d0 : Dev nD) : Nat :=
  let c0_i32_122 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_121 : BitVec 32 := 4#32
  let v139 : BitVec 32 := Scalar.muli v13 c4_i32_121
  let v140 : BitVec 32 := Scalar.addi c0_i32_122 v139
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_123 : BitVec 32 := 2#32
  let v141 : BitVec 32 := Scalar.muli v14 c2_i32_123
  let v142 : BitVec 32 := Scalar.addi v140 v141
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_124 : BitVec 32 := 1#32
  let v143 : BitVec 32 := Scalar.muli v8 c1_i32_124
  let v144 : BitVec 32 := Scalar.addi v142 v143
  v144.toNat
def k0_off12 (d0 : Dev nD) : Fin 4 → Nat :=
  let c2_i32_131 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v153 : BitVec 32 := Scalar.muli c2_i32_131 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v154 : BitVec 32 := Scalar.addi v153 v5
  let c0_i32_141 : BitVec 32 := 0#32
  let c0_i32_142 : BitVec 32 := 0#32
  let c0_i32_143 : BitVec 32 := 0#32
  ![v154.toNat, 0, 0, 0]
def k0_dev7 (d0 : Dev nD) : Nat :=
  let c0_i32_135 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_134 : BitVec 32 := 4#32
  let v155 : BitVec 32 := Scalar.muli v11 c4_i32_134
  let v156 : BitVec 32 := Scalar.addi c0_i32_135 v155
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_136 : BitVec 32 := 2#32
  let v157 : BitVec 32 := Scalar.muli v5 c2_i32_136
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_137 : BitVec 32 := 1#32
  let v159 : BitVec 32 := Scalar.muli v8 c1_i32_137
  let v160 : BitVec 32 := Scalar.addi v158 v159
  v160.toNat
def k0_off13 (d0 : Dev nD) : Fin 4 → Nat :=
  let c2_i32_144 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v169 : BitVec 32 := Scalar.muli c2_i32_144 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v170 : BitVec 32 := Scalar.addi v169 v12
  let c0_i32_153 : BitVec 32 := 0#32
  let c0_i32_154 : BitVec 32 := 0#32
  let c0_i32_155 : BitVec 32 := 0#32
  ![v170.toNat, 0, 0, 0]
def k0_dev8 (d0 : Dev nD) : Nat :=
  let c0_i32_147 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_146 : BitVec 32 := 4#32
  let v171 : BitVec 32 := Scalar.muli v2 c4_i32_146
  let v172 : BitVec 32 := Scalar.addi c0_i32_147 v171
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_148 : BitVec 32 := 2#32
  let v173 : BitVec 32 := Scalar.muli v12 c2_i32_148
  let v174 : BitVec 32 := Scalar.addi v172 v173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_149 : BitVec 32 := 1#32
  let v175 : BitVec 32 := Scalar.muli v8 c1_i32_149
  let v176 : BitVec 32 := Scalar.addi v174 v175
  v176.toNat
def k0_off14 (d0 : Dev nD) : Fin 4 → Nat :=
  let c2_i32_156 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v185 : BitVec 32 := Scalar.muli c2_i32_156 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v186 : BitVec 32 := Scalar.addi v185 v14
  let c0_i32_165 : BitVec 32 := 0#32
  let c0_i32_166 : BitVec 32 := 0#32
  let c0_i32_167 : BitVec 32 := 0#32
  ![v186.toNat, 0, 0, 0]
def k0_dev9 (d0 : Dev nD) : Nat :=
  let c0_i32_159 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_158 : BitVec 32 := 4#32
  let v187 : BitVec 32 := Scalar.muli v13 c4_i32_158
  let v188 : BitVec 32 := Scalar.addi c0_i32_159 v187
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_160 : BitVec 32 := 2#32
  let v189 : BitVec 32 := Scalar.muli v14 c2_i32_160
  let v190 : BitVec 32 := Scalar.addi v188 v189
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_161 : BitVec 32 := 1#32
  let v191 : BitVec 32 := Scalar.muli v8 c1_i32_161
  let v192 : BitVec 32 := Scalar.addi v190 v191
  v192.toNat
def k0_dev10 (d0 : Dev nD) : Nat :=
  let c0_i32_171 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_170 : BitVec 32 := 4#32
  let v203 : BitVec 32 := Scalar.muli v11 c4_i32_170
  let v204 : BitVec 32 := Scalar.addi c0_i32_171 v203
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_172 : BitVec 32 := 2#32
  let v205 : BitVec 32 := Scalar.muli v5 c2_i32_172
  let v206 : BitVec 32 := Scalar.addi v204 v205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_173 : BitVec 32 := 1#32
  let v207 : BitVec 32 := Scalar.muli v8 c1_i32_173
  let v208 : BitVec 32 := Scalar.addi v206 v207
  v208.toNat
def k0_dev11 (d0 : Dev nD) : Nat :=
  let c0_i32_183 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_182 : BitVec 32 := 4#32
  let v219 : BitVec 32 := Scalar.muli v2 c4_i32_182
  let v220 : BitVec 32 := Scalar.addi c0_i32_183 v219
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_184 : BitVec 32 := 2#32
  let v221 : BitVec 32 := Scalar.muli v12 c2_i32_184
  let v222 : BitVec 32 := Scalar.addi v220 v221
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_185 : BitVec 32 := 1#32
  let v223 : BitVec 32 := Scalar.muli v8 c1_i32_185
  let v224 : BitVec 32 := Scalar.addi v222 v223
  v224.toNat
def k0_dev12 (d0 : Dev nD) : Nat :=
  let c0_i32_195 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_194 : BitVec 32 := 4#32
  let v235 : BitVec 32 := Scalar.muli v13 c4_i32_194
  let v236 : BitVec 32 := Scalar.addi c0_i32_195 v235
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_196 : BitVec 32 := 2#32
  let v237 : BitVec 32 := Scalar.muli v14 c2_i32_196
  let v238 : BitVec 32 := Scalar.addi v236 v237
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_197 : BitVec 32 := 1#32
  let v239 : BitVec 32 := Scalar.muli v8 c1_i32_197
  let v240 : BitVec 32 := Scalar.addi v238 v239
  v240.toNat
def k0_off15 (d0 : Dev nD) : Fin 4 → Nat :=
  let c2_i32_204 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v249 : BitVec 32 := Scalar.muli c2_i32_204 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v250 : BitVec 32 := Scalar.addi v249 v5
  let c0_i32_213 : BitVec 32 := 0#32
  let c0_i32_214 : BitVec 32 := 0#32
  let c0_i32_215 : BitVec 32 := 0#32
  ![v250.toNat, 0, 0, 0]
def k0_dev13 (d0 : Dev nD) : Nat :=
  let c0_i32_207 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_206 : BitVec 32 := 4#32
  let v251 : BitVec 32 := Scalar.muli v11 c4_i32_206
  let v252 : BitVec 32 := Scalar.addi c0_i32_207 v251
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_208 : BitVec 32 := 2#32
  let v253 : BitVec 32 := Scalar.muli v5 c2_i32_208
  let v254 : BitVec 32 := Scalar.addi v252 v253
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_209 : BitVec 32 := 1#32
  let v255 : BitVec 32 := Scalar.muli v8 c1_i32_209
  let v256 : BitVec 32 := Scalar.addi v254 v255
  v256.toNat
def k0_off16 (d0 : Dev nD) : Fin 4 → Nat :=
  let c2_i32_216 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v265 : BitVec 32 := Scalar.muli c2_i32_216 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v266 : BitVec 32 := Scalar.addi v265 v12
  let c0_i32_225 : BitVec 32 := 0#32
  let c0_i32_226 : BitVec 32 := 0#32
  let c0_i32_227 : BitVec 32 := 0#32
  ![v266.toNat, 0, 0, 0]
def k0_dev14 (d0 : Dev nD) : Nat :=
  let c0_i32_219 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_218 : BitVec 32 := 4#32
  let v267 : BitVec 32 := Scalar.muli v2 c4_i32_218
  let v268 : BitVec 32 := Scalar.addi c0_i32_219 v267
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_220 : BitVec 32 := 2#32
  let v269 : BitVec 32 := Scalar.muli v12 c2_i32_220
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_221 : BitVec 32 := 1#32
  let v271 : BitVec 32 := Scalar.muli v8 c1_i32_221
  let v272 : BitVec 32 := Scalar.addi v270 v271
  v272.toNat
def k0_off17 (d0 : Dev nD) : Fin 4 → Nat :=
  let c2_i32_228 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v281 : BitVec 32 := Scalar.muli c2_i32_228 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v282 : BitVec 32 := Scalar.addi v281 v14
  let c0_i32_237 : BitVec 32 := 0#32
  let c0_i32_238 : BitVec 32 := 0#32
  let c0_i32_239 : BitVec 32 := 0#32
  ![v282.toNat, 0, 0, 0]
def k0_dev15 (d0 : Dev nD) : Nat :=
  let c0_i32_231 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_230 : BitVec 32 := 4#32
  let v283 : BitVec 32 := Scalar.muli v13 c4_i32_230
  let v284 : BitVec 32 := Scalar.addi c0_i32_231 v283
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_232 : BitVec 32 := 2#32
  let v285 : BitVec 32 := Scalar.muli v14 c2_i32_232
  let v286 : BitVec 32 := Scalar.addi v284 v285
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_233 : BitVec 32 := 1#32
  let v287 : BitVec 32 := Scalar.muli v8 c1_i32_233
  let v288 : BitVec 32 := Scalar.addi v286 v287
  v288.toNat
def k0_off18 (d0 : Dev nD) : Fin 4 → Nat :=
  let c2_i32_240 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v297 : BitVec 32 := Scalar.muli c2_i32_240 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v298 : BitVec 32 := Scalar.addi v297 v5
  let c0_i32_249 : BitVec 32 := 0#32
  let c0_i32_250 : BitVec 32 := 0#32
  let c0_i32_251 : BitVec 32 := 0#32
  ![v298.toNat, 0, 0, 0]
def k0_dev16 (d0 : Dev nD) : Nat :=
  let c0_i32_243 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_242 : BitVec 32 := 4#32
  let v299 : BitVec 32 := Scalar.muli v11 c4_i32_242
  let v300 : BitVec 32 := Scalar.addi c0_i32_243 v299
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_244 : BitVec 32 := 2#32
  let v301 : BitVec 32 := Scalar.muli v5 c2_i32_244
  let v302 : BitVec 32 := Scalar.addi v300 v301
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_245 : BitVec 32 := 1#32
  let v303 : BitVec 32 := Scalar.muli v8 c1_i32_245
  let v304 : BitVec 32 := Scalar.addi v302 v303
  v304.toNat
def k0_off19 (d0 : Dev nD) : Fin 4 → Nat :=
  let c2_i32_252 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v313 : BitVec 32 := Scalar.muli c2_i32_252 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v314 : BitVec 32 := Scalar.addi v313 v12
  let c0_i32_261 : BitVec 32 := 0#32
  let c0_i32_262 : BitVec 32 := 0#32
  let c0_i32_263 : BitVec 32 := 0#32
  ![v314.toNat, 0, 0, 0]
def k0_dev17 (d0 : Dev nD) : Nat :=
  let c0_i32_255 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_254 : BitVec 32 := 4#32
  let v315 : BitVec 32 := Scalar.muli v2 c4_i32_254
  let v316 : BitVec 32 := Scalar.addi c0_i32_255 v315
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_256 : BitVec 32 := 2#32
  let v317 : BitVec 32 := Scalar.muli v12 c2_i32_256
  let v318 : BitVec 32 := Scalar.addi v316 v317
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_257 : BitVec 32 := 1#32
  let v319 : BitVec 32 := Scalar.muli v8 c1_i32_257
  let v320 : BitVec 32 := Scalar.addi v318 v319
  v320.toNat
def k0_off20 (d0 : Dev nD) : Fin 4 → Nat :=
  let c2_i32_264 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v329 : BitVec 32 := Scalar.muli c2_i32_264 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v330 : BitVec 32 := Scalar.addi v329 v14
  let c0_i32_273 : BitVec 32 := 0#32
  let c0_i32_274 : BitVec 32 := 0#32
  let c0_i32_275 : BitVec 32 := 0#32
  ![v330.toNat, 0, 0, 0]
def k0_dev18 (d0 : Dev nD) : Nat :=
  let c0_i32_267 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_266 : BitVec 32 := 4#32
  let v331 : BitVec 32 := Scalar.muli v13 c4_i32_266
  let v332 : BitVec 32 := Scalar.addi c0_i32_267 v331
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_268 : BitVec 32 := 2#32
  let v333 : BitVec 32 := Scalar.muli v14 c2_i32_268
  let v334 : BitVec 32 := Scalar.addi v332 v333
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_269 : BitVec 32 := 1#32
  let v335 : BitVec 32 := Scalar.muli v8 c1_i32_269
  let v336 : BitVec 32 := Scalar.addi v334 v335
  v336.toNat
def k0_dev19 (d0 : Dev nD) : Nat :=
  let c0_i32_279 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_278 : BitVec 32 := 4#32
  let v347 : BitVec 32 := Scalar.muli v11 c4_i32_278
  let v348 : BitVec 32 := Scalar.addi c0_i32_279 v347
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_280 : BitVec 32 := 2#32
  let v349 : BitVec 32 := Scalar.muli v5 c2_i32_280
  let v350 : BitVec 32 := Scalar.addi v348 v349
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_281 : BitVec 32 := 1#32
  let v351 : BitVec 32 := Scalar.muli v8 c1_i32_281
  let v352 : BitVec 32 := Scalar.addi v350 v351
  v352.toNat
def k0_dev20 (d0 : Dev nD) : Nat :=
  let c0_i32_291 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_290 : BitVec 32 := 4#32
  let v363 : BitVec 32 := Scalar.muli v2 c4_i32_290
  let v364 : BitVec 32 := Scalar.addi c0_i32_291 v363
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_292 : BitVec 32 := 2#32
  let v365 : BitVec 32 := Scalar.muli v12 c2_i32_292
  let v366 : BitVec 32 := Scalar.addi v364 v365
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_293 : BitVec 32 := 1#32
  let v367 : BitVec 32 := Scalar.muli v8 c1_i32_293
  let v368 : BitVec 32 := Scalar.addi v366 v367
  v368.toNat
def k0_dev21 (d0 : Dev nD) : Nat :=
  let c0_i32_303 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_302 : BitVec 32 := 4#32
  let v379 : BitVec 32 := Scalar.muli v13 c4_i32_302
  let v380 : BitVec 32 := Scalar.addi c0_i32_303 v379
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_304 : BitVec 32 := 2#32
  let v381 : BitVec 32 := Scalar.muli v14 c2_i32_304
  let v382 : BitVec 32 := Scalar.addi v380 v381
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_305 : BitVec 32 := 1#32
  let v383 : BitVec 32 := Scalar.muli v8 c1_i32_305
  let v384 : BitVec 32 := Scalar.addi v382 v383
  v384.toNat
-- ==== Reference.lean ====
abbrev S32x4x1024x448 : Shape := ⟨4, ![32, 4, 1024, 448]⟩
abbrev S32x4x256x1024 : Shape := ⟨4, ![32, 4, 256, 1024]⟩
abbrev S32x4x1024x704 : Shape := ⟨4, ![32, 4, 1024, 704]⟩
abbrev S32x4x704x1024 : Shape := ⟨4, ![32, 4, 704, 1024]⟩
abbrev S32x4x256x256 : Shape := ⟨4, ![32, 4, 256, 256]⟩
abbrev S4x2x4x4x1024x448 : Shape := ⟨6, ![4, 2, 4, 4, 1024, 448]⟩
abbrev S4x2x4x4x256x1024 : Shape := ⟨6, ![4, 2, 4, 4, 256, 1024]⟩
abbrev S4x2x4x4x1024x704 : Shape := ⟨6, ![4, 2, 4, 4, 1024, 704]⟩
abbrev S4x2x4x4x704x1024 : Shape := ⟨6, ![4, 2, 4, 4, 704, 1024]⟩
abbrev S4x2x4x4x256x256 : Shape := ⟨6, ![4, 2, 4, 4, 256, 256]⟩

abbrev nBuf : Space → Nat
  | .hbm => 28
  | .vmem => 0
  | .smem => 0
  | _ => 0

abbrev bufTy : (tb : Table) → Fin (tcTables nBuf tb) → BufTy
  | .hbm, ⟨0, _⟩ => ⟨S32x4x1024x448, .f32⟩
  | .hbm, ⟨1, _⟩ => ⟨S32x4x256x1024, .f32⟩
  | .hbm, ⟨2, _⟩ => ⟨S32x4x1024x704, .f32⟩
  | .hbm, ⟨3, _⟩ => ⟨S32x4x1024x704, .f32⟩
  | .hbm, ⟨4, _⟩ => ⟨S32x4x704x1024, .f32⟩
  | .hbm, ⟨5, _⟩ => ⟨S32x4x256x256, .f32⟩
  | .hbm, ⟨6, _⟩ => ⟨S32x4x256x1024, .f32⟩
  | .hbm, ⟨7, _⟩ => ⟨S4x2x4x4x1024x448, .f32⟩
  | .hbm, ⟨8, _⟩ => ⟨S4x2x4x4x1024x448, .f32⟩
  | .hbm, ⟨9, _⟩ => ⟨S32x4x1024x448, .f32⟩
  | .hbm, ⟨10, _⟩ => ⟨S4x2x4x4x256x1024, .f32⟩
  | .hbm, ⟨11, _⟩ => ⟨S4x2x4x4x256x1024, .f32⟩
  | .hbm, ⟨12, _⟩ => ⟨S32x4x256x1024, .f32⟩
  | .hbm, ⟨13, _⟩ => ⟨S4x2x4x4x1024x704, .f32⟩
  | .hbm, ⟨14, _⟩ => ⟨S4x2x4x4x1024x704, .f32⟩
  | .hbm, ⟨15, _⟩ => ⟨S32x4x1024x704, .f32⟩
  | .hbm, ⟨16, _⟩ => ⟨S4x2x4x4x1024x704, .f32⟩
  | .hbm, ⟨17, _⟩ => ⟨S4x2x4x4x1024x704, .f32⟩
  | .hbm, ⟨18, _⟩ => ⟨S32x4x1024x704, .f32⟩
  | .hbm, ⟨19, _⟩ => ⟨S4x2x4x4x704x1024, .f32⟩
  | .hbm, ⟨20, _⟩ => ⟨S4x2x4x4x704x1024, .f32⟩
  | .hbm, ⟨21, _⟩ => ⟨S32x4x704x1024, .f32⟩
  | .hbm, ⟨22, _⟩ => ⟨S4x2x4x4x256x256, .f32⟩
  | .hbm, ⟨23, _⟩ => ⟨S4x2x4x4x256x256, .f32⟩
  | .hbm, ⟨24, _⟩ => ⟨S32x4x256x256, .f32⟩
  | .hbm, ⟨25, _⟩ => ⟨S4x2x4x4x256x1024, .f32⟩
  | .hbm, ⟨26, _⟩ => ⟨S4x2x4x4x256x1024, .f32⟩
  | .hbm, ⟨27, _⟩ => ⟨S32x4x256x1024, .f32⟩
  | _, _ => ⟨S32x4x1024x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Gather.lean ====
abbrev S4x1024x448 : Shape := ⟨3, ![4, 1024, 448]⟩
abbrev S4x256x1024 : Shape := ⟨3, ![4, 256, 1024]⟩
abbrev S4x1024x704 : Shape := ⟨3, ![4, 1024, 704]⟩
abbrev S4x704x1024 : Shape := ⟨3, ![4, 704, 1024]⟩
abbrev S4x256x256 : Shape := ⟨3, ![4, 256, 256]⟩
abbrev S4x4x1024x448 : Shape := ⟨4, ![4, 4, 1024, 448]⟩
abbrev S4x4x256x1024 : Shape := ⟨4, ![4, 4, 256, 1024]⟩
abbrev S4x4x1024x704 : Shape := ⟨4, ![4, 4, 1024, 704]⟩
abbrev S4x4x704x1024 : Shape := ⟨4, ![4, 4, 704, 1024]⟩
abbrev S4x4x256x256 : Shape := ⟨4, ![4, 4, 256, 256]⟩
abbrev S21 : Shape := ⟨1, ![21]⟩
abbrev S7 : Shape := ⟨1, ![7]⟩
abbrev S1 : Shape := ⟨1, ![1]⟩
abbrev S_ : Shape := ⟨0, ![]⟩
abbrev S1x4x1024x448 : Shape := ⟨4, ![1, 4, 1024, 448]⟩
abbrev S1x4x256x1024 : Shape := ⟨4, ![1, 4, 256, 1024]⟩
abbrev S1x4x1024x704 : Shape := ⟨4, ![1, 4, 1024, 704]⟩
abbrev S1x4x704x1024 : Shape := ⟨4, ![1, 4, 704, 1024]⟩
abbrev S1x4x256x256 : Shape := ⟨4, ![1, 4, 256, 256]⟩

abbrev nBuf : Space → Nat
  | .hbm => 14
  | .vmem => 0
  | .smem => 0
  | _ => 0

abbrev bufTy : (tb : Table) → Fin (tcTables nBuf tb) → BufTy
  | .hbm, ⟨0, _⟩ => ⟨S4x1024x448, .bf16⟩
  | .hbm, ⟨1, _⟩ => ⟨S4x256x1024, .bf16⟩
  | .hbm, ⟨2, _⟩ => ⟨S4x1024x704, .bf16⟩
  | .hbm, ⟨3, _⟩ => ⟨S4x1024x704, .bf16⟩
  | .hbm, ⟨4, _⟩ => ⟨S4x704x1024, .bf16⟩
  | .hbm, ⟨5, _⟩ => ⟨S4x256x256, .bf16⟩
  | .hbm, ⟨6, _⟩ => ⟨S4x256x1024, .bf16⟩
  | .hbm, ⟨7, _⟩ => ⟨S4x4x1024x448, .bf16⟩
  | .hbm, ⟨8, _⟩ => ⟨S4x4x256x1024, .bf16⟩
  | .hbm, ⟨9, _⟩ => ⟨S4x4x1024x704, .bf16⟩
  | .hbm, ⟨10, _⟩ => ⟨S4x4x1024x704, .bf16⟩
  | .hbm, ⟨11, _⟩ => ⟨S4x4x704x1024, .bf16⟩
  | .hbm, ⟨12, _⟩ => ⟨S4x4x256x256, .bf16⟩
  | .hbm, ⟨13, _⟩ => ⟨S4x4x256x1024, .bf16⟩
  | _, _ => ⟨S4x1024x448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩

abbrev nD : Nat := 8
abbrev τ : Topo := Topo.v7x

variable {F : FTy → Type} [FloatOps F]

abbrev grid0 : Pipeline.Grid := .none

def k0_off1 (d0 : Dev nD) : Fin 4 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_8 : BitVec 32 := 0#32
  let c0_i32_9 : BitVec 32 := 0#32
  let c0_i32_10 : BitVec 32 := 0#32
  ![v10.toNat, 0, 0, 0]
def k0_off2 (d0 : Dev nD) : Fin 4 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_12 : BitVec 32 := 0#32
  let c0_i32_13 : BitVec 32 := 0#32
  let c0_i32_14 : BitVec 32 := 0#32
  ![v10.toNat, 0, 0, 0]
def k0_off3 (d0 : Dev nD) : Fin 4 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_16 : BitVec 32 := 0#32
  let c0_i32_17 : BitVec 32 := 0#32
  let c0_i32_18 : BitVec 32 := 0#32
  ![v10.toNat, 0, 0, 0]
def k0_off4 (d0 : Dev nD) : Fin 4 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_23 : BitVec 32 := 0#32
  let c0_i32_24 : BitVec 32 := 0#32
  let c0_i32_25 : BitVec 32 := 0#32
  ![v10.toNat, 0, 0, 0]
def k0_off5 (d0 : Dev nD) : Fin 4 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_26 : BitVec 32 := 0#32
  let c0_i32_27 : BitVec 32 := 0#32
  let c0_i32_28 : BitVec 32 := 0#32
  ![v10.toNat, 0, 0, 0]
def k0_dev1 (d0 : Dev nD) : Nat :=
  let c0_i32_35 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_34 : BitVec 32 := 4#32
  let v43 : BitVec 32 := Scalar.muli v11 c4_i32_34
  let v44 : BitVec 32 := Scalar.addi c0_i32_35 v43
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v45 : BitVec 32 := Scalar.muli v5 c2_i32_36
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v47 : BitVec 32 := Scalar.muli v8 c1_i32_37
  let v48 : BitVec 32 := Scalar.addi v46 v47
  v48.toNat
def k0_dev2 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_43 : BitVec 32 := 4#32
  let v55 : BitVec 32 := Scalar.muli v2 c4_i32_43
  let v56 : BitVec 32 := Scalar.addi c0_i32_44 v55
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_45 : BitVec 32 := 2#32
  let v57 : BitVec 32 := Scalar.muli v12 c2_i32_45
  let v58 : BitVec 32 := Scalar.addi v56 v57
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v59 : BitVec 32 := Scalar.muli v8 c1_i32_46
  let v60 : BitVec 32 := Scalar.addi v58 v59
  v60.toNat
def k0_dev3 (d0 : Dev nD) : Nat :=
  let c0_i32_53 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_52 : BitVec 32 := 4#32
  let v67 : BitVec 32 := Scalar.muli v13 c4_i32_52
  let v68 : BitVec 32 := Scalar.addi c0_i32_53 v67
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_54 : BitVec 32 := 2#32
  let v69 : BitVec 32 := Scalar.muli v14 c2_i32_54
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_55 : BitVec 32 := 1#32
  let v71 : BitVec 32 := Scalar.muli v8 c1_i32_55
  let v72 : BitVec 32 := Scalar.addi v70 v71
  v72.toNat
def k0_dev4 (d0 : Dev nD) : Nat :=
  let c0_i32_62 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_61 : BitVec 32 := 4#32
  let v79 : BitVec 32 := Scalar.muli v11 c4_i32_61
  let v80 : BitVec 32 := Scalar.addi c0_i32_62 v79
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v81 : BitVec 32 := Scalar.muli v5 c2_i32_63
  let v82 : BitVec 32 := Scalar.addi v80 v81
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v83 : BitVec 32 := Scalar.muli v8 c1_i32_64
  let v84 : BitVec 32 := Scalar.addi v82 v83
  v84.toNat
def k0_dev5 (d0 : Dev nD) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v91 : BitVec 32 := Scalar.muli v2 c4_i32_70
  let v92 : BitVec 32 := Scalar.addi c0_i32_71 v91
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_72 : BitVec 32 := 2#32
  let v93 : BitVec 32 := Scalar.muli v12 c2_i32_72
  let v94 : BitVec 32 := Scalar.addi v92 v93
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_73 : BitVec 32 := 1#32
  let v95 : BitVec 32 := Scalar.muli v8 c1_i32_73
  let v96 : BitVec 32 := Scalar.addi v94 v95
  v96.toNat
def k0_dev6 (d0 : Dev nD) : Nat :=
  let c0_i32_80 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_79 : BitVec 32 := 4#32
  let v103 : BitVec 32 := Scalar.muli v13 c4_i32_79
  let v104 : BitVec 32 := Scalar.addi c0_i32_80 v103
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_81 : BitVec 32 := 2#32
  let v105 : BitVec 32 := Scalar.muli v14 c2_i32_81
  let v106 : BitVec 32 := Scalar.addi v104 v105
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v107 : BitVec 32 := Scalar.muli v8 c1_i32_82
  let v108 : BitVec 32 := Scalar.addi v106 v107
  v108.toNat
def k0_dev7 (d0 : Dev nD) : Nat :=
  let c0_i32_89 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_88 : BitVec 32 := 4#32
  let v115 : BitVec 32 := Scalar.muli v11 c4_i32_88
  let v116 : BitVec 32 := Scalar.addi c0_i32_89 v115
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_90 : BitVec 32 := 2#32
  let v117 : BitVec 32 := Scalar.muli v5 c2_i32_90
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_91 : BitVec 32 := 1#32
  let v119 : BitVec 32 := Scalar.muli v8 c1_i32_91
  let v120 : BitVec 32 := Scalar.addi v118 v119
  v120.toNat
def k0_dev8 (d0 : Dev nD) : Nat :=
  let c0_i32_97 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_96 : BitVec 32 := 4#32
  let v127 : BitVec 32 := Scalar.muli v2 c4_i32_96
  let v128 : BitVec 32 := Scalar.addi c0_i32_97 v127
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_98 : BitVec 32 := 2#32
  let v129 : BitVec 32 := Scalar.muli v12 c2_i32_98
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_99 : BitVec 32 := 1#32
  let v131 : BitVec 32 := Scalar.muli v8 c1_i32_99
  let v132 : BitVec 32 := Scalar.addi v130 v131
  v132.toNat
def k0_dev9 (d0 : Dev nD) : Nat :=
  let c0_i32_105 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_104 : BitVec 32 := 4#32
  let v139 : BitVec 32 := Scalar.muli v13 c4_i32_104
  let v140 : BitVec 32 := Scalar.addi c0_i32_105 v139
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_106 : BitVec 32 := 2#32
  let v141 : BitVec 32 := Scalar.muli v14 c2_i32_106
  let v142 : BitVec 32 := Scalar.addi v140 v141
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v143 : BitVec 32 := Scalar.muli v8 c1_i32_107
  let v144 : BitVec 32 := Scalar.addi v142 v143
  v144.toNat
def k0_dev10 (d0 : Dev nD) : Nat :=
  let c0_i32_113 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_112 : BitVec 32 := 4#32
  let v151 : BitVec 32 := Scalar.muli v11 c4_i32_112
  let v152 : BitVec 32 := Scalar.addi c0_i32_113 v151
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_114 : BitVec 32 := 2#32
  let v153 : BitVec 32 := Scalar.muli v5 c2_i32_114
  let v154 : BitVec 32 := Scalar.addi v152 v153
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_115 : BitVec 32 := 1#32
  let v155 : BitVec 32 := Scalar.muli v8 c1_i32_115
  let v156 : BitVec 32 := Scalar.addi v154 v155
  v156.toNat
def k0_dev11 (d0 : Dev nD) : Nat :=
  let c0_i32_121 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_120 : BitVec 32 := 4#32
  let v163 : BitVec 32 := Scalar.muli v2 c4_i32_120
  let v164 : BitVec 32 := Scalar.addi c0_i32_121 v163
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_122 : BitVec 32 := 2#32
  let v165 : BitVec 32 := Scalar.muli v12 c2_i32_122
  let v166 : BitVec 32 := Scalar.addi v164 v165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_123 : BitVec 32 := 1#32
  let v167 : BitVec 32 := Scalar.muli v8 c1_i32_123
  let v168 : BitVec 32 := Scalar.addi v166 v167
  v168.toNat
def k0_dev12 (d0 : Dev nD) : Nat :=
  let c0_i32_129 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_128 : BitVec 32 := 4#32
  let v175 : BitVec 32 := Scalar.muli v13 c4_i32_128
  let v176 : BitVec 32 := Scalar.addi c0_i32_129 v175
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_130 : BitVec 32 := 2#32
  let v177 : BitVec 32 := Scalar.muli v14 c2_i32_130
  let v178 : BitVec 32 := Scalar.addi v176 v177
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_131 : BitVec 32 := 1#32
  let v179 : BitVec 32 := Scalar.muli v8 c1_i32_131
  let v180 : BitVec 32 := Scalar.addi v178 v179
  v180.toNat
def k0_dev13 (d0 : Dev nD) : Nat :=
  let c0_i32_137 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_136 : BitVec 32 := 4#32
  let v187 : BitVec 32 := Scalar.muli v11 c4_i32_136
  let v188 : BitVec 32 := Scalar.addi c0_i32_137 v187
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_138 : BitVec 32 := 2#32
  let v189 : BitVec 32 := Scalar.muli v5 c2_i32_138
  let v190 : BitVec 32 := Scalar.addi v188 v189
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_139 : BitVec 32 := 1#32
  let v191 : BitVec 32 := Scalar.muli v8 c1_i32_139
  let v192 : BitVec 32 := Scalar.addi v190 v191
  v192.toNat
def k0_dev14 (d0 : Dev nD) : Nat :=
  let c0_i32_145 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_144 : BitVec 32 := 4#32
  let v199 : BitVec 32 := Scalar.muli v2 c4_i32_144
  let v200 : BitVec 32 := Scalar.addi c0_i32_145 v199
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_146 : BitVec 32 := 2#32
  let v201 : BitVec 32 := Scalar.muli v12 c2_i32_146
  let v202 : BitVec 32 := Scalar.addi v200 v201
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_147 : BitVec 32 := 1#32
  let v203 : BitVec 32 := Scalar.muli v8 c1_i32_147
  let v204 : BitVec 32 := Scalar.addi v202 v203
  v204.toNat
def k0_dev15 (d0 : Dev nD) : Nat :=
  let c0_i32_153 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_152 : BitVec 32 := 4#32
  let v211 : BitVec 32 := Scalar.muli v13 c4_i32_152
  let v212 : BitVec 32 := Scalar.addi c0_i32_153 v211
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_154 : BitVec 32 := 2#32
  let v213 : BitVec 32 := Scalar.muli v14 c2_i32_154
  let v214 : BitVec 32 := Scalar.addi v212 v213
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_155 : BitVec 32 := 1#32
  let v215 : BitVec 32 := Scalar.muli v8 c1_i32_155
  let v216 : BitVec 32 := Scalar.addi v214 v215
  v216.toNat
def k0_dev16 (d0 : Dev nD) : Nat :=
  let c0_i32_161 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_160 : BitVec 32 := 4#32
  let v223 : BitVec 32 := Scalar.muli v11 c4_i32_160
  let v224 : BitVec 32 := Scalar.addi c0_i32_161 v223
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_162 : BitVec 32 := 2#32
  let v225 : BitVec 32 := Scalar.muli v5 c2_i32_162
  let v226 : BitVec 32 := Scalar.addi v224 v225
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_163 : BitVec 32 := 1#32
  let v227 : BitVec 32 := Scalar.muli v8 c1_i32_163
  let v228 : BitVec 32 := Scalar.addi v226 v227
  v228.toNat
def k0_dev17 (d0 : Dev nD) : Nat :=
  let c0_i32_169 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_168 : BitVec 32 := 4#32
  let v235 : BitVec 32 := Scalar.muli v2 c4_i32_168
  let v236 : BitVec 32 := Scalar.addi c0_i32_169 v235
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_170 : BitVec 32 := 2#32
  let v237 : BitVec 32 := Scalar.muli v12 c2_i32_170
  let v238 : BitVec 32 := Scalar.addi v236 v237
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_171 : BitVec 32 := 1#32
  let v239 : BitVec 32 := Scalar.muli v8 c1_i32_171
  let v240 : BitVec 32 := Scalar.addi v238 v239
  v240.toNat
def k0_dev18 (d0 : Dev nD) : Nat :=
  let c0_i32_177 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_176 : BitVec 32 := 4#32
  let v247 : BitVec 32 := Scalar.muli v13 c4_i32_176
  let v248 : BitVec 32 := Scalar.addi c0_i32_177 v247
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_178 : BitVec 32 := 2#32
  let v249 : BitVec 32 := Scalar.muli v14 c2_i32_178
  let v250 : BitVec 32 := Scalar.addi v248 v249
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_179 : BitVec 32 := 1#32
  let v251 : BitVec 32 := Scalar.muli v8 c1_i32_179
  let v252 : BitVec 32 := Scalar.addi v250 v251
  v252.toNat
def k0_dev19 (d0 : Dev nD) : Nat :=
  let c0_i32_185 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_184 : BitVec 32 := 4#32
  let v259 : BitVec 32 := Scalar.muli v11 c4_i32_184
  let v260 : BitVec 32 := Scalar.addi c0_i32_185 v259
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_186 : BitVec 32 := 2#32
  let v261 : BitVec 32 := Scalar.muli v5 c2_i32_186
  let v262 : BitVec 32 := Scalar.addi v260 v261
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_187 : BitVec 32 := 1#32
  let v263 : BitVec 32 := Scalar.muli v8 c1_i32_187
  let v264 : BitVec 32 := Scalar.addi v262 v263
  v264.toNat
def k0_dev20 (d0 : Dev nD) : Nat :=
  let c0_i32_193 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_192 : BitVec 32 := 4#32
  let v271 : BitVec 32 := Scalar.muli v2 c4_i32_192
  let v272 : BitVec 32 := Scalar.addi c0_i32_193 v271
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_194 : BitVec 32 := 2#32
  let v273 : BitVec 32 := Scalar.muli v12 c2_i32_194
  let v274 : BitVec 32 := Scalar.addi v272 v273
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_195 : BitVec 32 := 1#32
  let v275 : BitVec 32 := Scalar.muli v8 c1_i32_195
  let v276 : BitVec 32 := Scalar.addi v274 v275
  v276.toNat
def k0_dev21 (d0 : Dev nD) : Nat :=
  let c0_i32_201 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_200 : BitVec 32 := 4#32
  let v283 : BitVec 32 := Scalar.muli v13 c4_i32_200
  let v284 : BitVec 32 := Scalar.addi c0_i32_201 v283
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_202 : BitVec 32 := 2#32
  let v285 : BitVec 32 := Scalar.muli v14 c2_i32_202
  let v286 : BitVec 32 := Scalar.addi v284 v285
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_203 : BitVec 32 := 1#32
  let v287 : BitVec 32 := Scalar.muli v8 c1_i32_203
  let v288 : BitVec 32 := Scalar.addi v286 v287
  v288.toNat
def k0_off6 (d0 : Dev nD) : Fin 4 → Nat :=
  let c2_i32_207 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v295 : BitVec 32 := Scalar.muli c2_i32_207 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v296 : BitVec 32 := Scalar.addi v295 v5
  let c0_i32_214 : BitVec 32 := 0#32
  let c0_i32_215 : BitVec 32 := 0#32
  let c0_i32_216 : BitVec 32 := 0#32
  ![v296.toNat, 0, 0, 0]
def k0_off7 (d0 : Dev nD) : Fin 4 → Nat :=
  let c2_i32_217 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v307 : BitVec 32 := Scalar.muli c2_i32_217 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v308 : BitVec 32 := Scalar.addi v307 v12
  let c0_i32_224 : BitVec 32 := 0#32
  let c0_i32_225 : BitVec 32 := 0#32
  let c0_i32_226 : BitVec 32 := 0#32
  ![v308.toNat, 0, 0, 0]
def k0_off8 (d0 : Dev nD) : Fin 4 → Nat :=
  let c2_i32_227 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v319 : BitVec 32 := Scalar.muli c2_i32_227 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v320 : BitVec 32 := Scalar.addi v319 v14
  let c0_i32_234 : BitVec 32 := 0#32
  let c0_i32_235 : BitVec 32 := 0#32
  let c0_i32_236 : BitVec 32 := 0#32
  ![v320.toNat, 0, 0, 0]
def k0_off9 (d0 : Dev nD) : Fin 4 → Nat :=
  let c2_i32_237 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v331 : BitVec 32 := Scalar.muli c2_i32_237 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v332 : BitVec 32 := Scalar.addi v331 v5
  let c0_i32_244 : BitVec 32 := 0#32
  let c0_i32_245 : BitVec 32 := 0#32
  let c0_i32_246 : BitVec 32 := 0#32
  ![v332.toNat, 0, 0, 0]
def k0_off10 (d0 : Dev nD) : Fin 4 → Nat :=
  let c2_i32_247 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v343 : BitVec 32 := Scalar.muli c2_i32_247 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v344 : BitVec 32 := Scalar.addi v343 v12
  let c0_i32_254 : BitVec 32 := 0#32
  let c0_i32_255 : BitVec 32 := 0#32
  let c0_i32_256 : BitVec 32 := 0#32
  ![v344.toNat, 0, 0, 0]
def k0_off11 (d0 : Dev nD) : Fin 4 → Nat :=
  let c2_i32_257 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v355 : BitVec 32 := Scalar.muli c2_i32_257 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v356 : BitVec 32 := Scalar.addi v355 v14
  let c0_i32_264 : BitVec 32 := 0#32
  let c0_i32_265 : BitVec 32 := 0#32
  let c0_i32_266 : BitVec 32 := 0#32
  ![v356.toNat, 0, 0, 0]
def k0_off12 (d0 : Dev nD) : Fin 4 → Nat :=
  let c2_i32_267 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v367 : BitVec 32 := Scalar.muli c2_i32_267 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v368 : BitVec 32 := Scalar.addi v367 v5
  let c0_i32_274 : BitVec 32 := 0#32
  let c0_i32_275 : BitVec 32 := 0#32
  let c0_i32_276 : BitVec 32 := 0#32
  ![v368.toNat, 0, 0, 0]
def k0_off13 (d0 : Dev nD) : Fin 4 → Nat :=
  let c2_i32_277 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v379 : BitVec 32 := Scalar.muli c2_i32_277 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v380 : BitVec 32 := Scalar.addi v379 v12
  let c0_i32_284 : BitVec 32 := 0#32
  let c0_i32_285 : BitVec 32 := 0#32
  let c0_i32_286 : BitVec 32 := 0#32
  ![v380.toNat, 0, 0, 0]
def k0_off14 (d0 : Dev nD) : Fin 4 → Nat :=
  let c2_i32_287 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v391 : BitVec 32 := Scalar.muli c2_i32_287 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v392 : BitVec 32 := Scalar.addi v391 v14
  let c0_i32_294 : BitVec 32 := 0#32
  let c0_i32_295 : BitVec 32 := 0#32
  let c0_i32_296 : BitVec 32 := 0#32
  ![v392.toNat, 0, 0, 0]
def k0_off15 (d0 : Dev nD) : Fin 4 → Nat :=
  let c2_i32_327 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v439 : BitVec 32 := Scalar.muli c2_i32_327 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v440 : BitVec 32 := Scalar.addi v439 v5
  let c0_i32_334 : BitVec 32 := 0#32
  let c0_i32_335 : BitVec 32 := 0#32
  let c0_i32_336 : BitVec 32 := 0#32
  ![v440.toNat, 0, 0, 0]
def k0_off16 (d0 : Dev nD) : Fin 4 → Nat :=
  let c2_i32_337 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v451 : BitVec 32 := Scalar.muli c2_i32_337 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v452 : BitVec 32 := Scalar.addi v451 v12
  let c0_i32_344 : BitVec 32 := 0#32
  let c0_i32_345 : BitVec 32 := 0#32
  let c0_i32_346 : BitVec 32 := 0#32
  ![v452.toNat, 0, 0, 0]
def k0_off17 (d0 : Dev nD) : Fin 4 → Nat :=
  let c2_i32_347 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v463 : BitVec 32 := Scalar.muli c2_i32_347 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v464 : BitVec 32 := Scalar.addi v463 v14
  let c0_i32_354 : BitVec 32 := 0#32
  let c0_i32_355 : BitVec 32 := 0#32
  let c0_i32_356 : BitVec 32 := 0#32
  ![v464.toNat, 0, 0, 0]
def k0_off18 (d0 : Dev nD) : Fin 4 → Nat :=
  let c2_i32_357 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v475 : BitVec 32 := Scalar.muli c2_i32_357 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v476 : BitVec 32 := Scalar.addi v475 v5
  let c0_i32_364 : BitVec 32 := 0#32
  let c0_i32_365 : BitVec 32 := 0#32
  let c0_i32_366 : BitVec 32 := 0#32
  ![v476.toNat, 0, 0, 0]
def k0_off19 (d0 : Dev nD) : Fin 4 → Nat :=
  let c2_i32_367 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v487 : BitVec 32 := Scalar.muli c2_i32_367 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v488 : BitVec 32 := Scalar.addi v487 v12
  let c0_i32_374 : BitVec 32 := 0#32
  let c0_i32_375 : BitVec 32 := 0#32
  let c0_i32_376 : BitVec 32 := 0#32
  ![v488.toNat, 0, 0, 0]
def k0_off20 (d0 : Dev nD) : Fin 4 → Nat :=
  let c2_i32_377 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v499 : BitVec 32 := Scalar.muli c2_i32_377 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v500 : BitVec 32 := Scalar.addi v499 v14
  let c0_i32_384 : BitVec 32 := 0#32
  let c0_i32_385 : BitVec 32 := 0#32
  let c0_i32_386 : BitVec 32 := 0#32
  ![v500.toNat, 0, 0, 0]
-- ==== GatherReference.lean ====
abbrev S4x1024x1792 : Shape := ⟨3, ![4, 1024, 1792]⟩
abbrev S4x1024x1024 : Shape := ⟨3, ![4, 1024, 1024]⟩
abbrev S4x1024x2816 : Shape := ⟨3, ![4, 1024, 2816]⟩
abbrev S4x2816x1024 : Shape := ⟨3, ![4, 2816, 1024]⟩
abbrev S4x256x1024 : Shape := ⟨3, ![4, 256, 1024]⟩
abbrev S4x1024x4x448 : Shape := ⟨4, ![4, 1024, 4, 448]⟩
abbrev S4x4x1024x448 : Shape := ⟨4, ![4, 4, 1024, 448]⟩
abbrev S4x4x256x1024 : Shape := ⟨4, ![4, 4, 256, 1024]⟩
abbrev S4x1024x4x704 : Shape := ⟨4, ![4, 1024, 4, 704]⟩
abbrev S4x4x1024x704 : Shape := ⟨4, ![4, 4, 1024, 704]⟩
abbrev S4x4x704x1024 : Shape := ⟨4, ![4, 4, 704, 1024]⟩
abbrev S4x256x4x256 : Shape := ⟨4, ![4, 256, 4, 256]⟩
abbrev S4x4x256x256 : Shape := ⟨4, ![4, 4, 256, 256]⟩

abbrev nBuf : Space → Nat
  | .hbm => 21
  | .vmem => 0
  | .smem => 0
  | _ => 0

abbrev bufTy : (tb : Table) → Fin (tcTables nBuf tb) → BufTy
  | .hbm, ⟨0, _⟩ => ⟨S4x1024x1792, .bf16⟩
  | .hbm, ⟨1, _⟩ => ⟨S4x1024x1024, .bf16⟩
  | .hbm, ⟨2, _⟩ => ⟨S4x1024x2816, .bf16⟩
  | .hbm, ⟨3, _⟩ => ⟨S4x1024x2816, .bf16⟩
  | .hbm, ⟨4, _⟩ => ⟨S4x2816x1024, .bf16⟩
  | .hbm, ⟨5, _⟩ => ⟨S4x256x1024, .bf16⟩
  | .hbm, ⟨6, _⟩ => ⟨S4x1024x1024, .bf16⟩
  | .hbm, ⟨7, _⟩ => ⟨S4x1024x4x448, .bf16⟩
  | .hbm, ⟨8, _⟩ => ⟨S4x4x1024x448, .bf16⟩
  | .hbm, ⟨9, _⟩ => ⟨S4x4x256x1024, .bf16⟩
  | .hbm, ⟨10, _⟩ => ⟨S4x4x256x1024, .bf16⟩
  | .hbm, ⟨11, _⟩ => ⟨S4x1024x4x704, .bf16⟩
  | .hbm, ⟨12, _⟩ => ⟨S4x4x1024x704, .bf16⟩
  | .hbm, ⟨13, _⟩ => ⟨S4x1024x4x704, .bf16⟩
  | .hbm, ⟨14, _⟩ => ⟨S4x4x1024x704, .bf16⟩
  | .hbm, ⟨15, _⟩ => ⟨S4x4x704x1024, .bf16⟩
  | .hbm, ⟨16, _⟩ => ⟨S4x4x704x1024, .bf16⟩
  | .hbm, ⟨17, _⟩ => ⟨S4x256x4x256, .bf16⟩
  | .hbm, ⟨18, _⟩ => ⟨S4x4x256x256, .bf16⟩
  | .hbm, ⟨19, _⟩ => ⟨S4x4x256x1024, .bf16⟩
  | .hbm, ⟨20, _⟩ => ⟨S4x4x256x1024, .bf16⟩
  | _, _ => ⟨S4x1024x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Sibling.lean ====
abbrev S4096x448 : Shape := ⟨2, ![4096, 448]⟩
abbrev S1024x1024 : Shape := ⟨2, ![1024, 1024]⟩
abbrev S4096x704 : Shape := ⟨2, ![4096, 704]⟩
abbrev S2816x1024 : Shape := ⟨2, ![2816, 1024]⟩
abbrev S1024x256 : Shape := ⟨2, ![1024, 256]⟩
abbrev S7 : Shape := ⟨1, ![7]⟩
abbrev S1 : Shape := ⟨1, ![1]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x448, .f32⟩
  | .hbm, ⟨1, _⟩ => ⟨S1024x1024, .f32⟩
  | .hbm, ⟨2, _⟩ => ⟨S4096x704, .f32⟩
  | .hbm, ⟨3, _⟩ => ⟨S4096x704, .f32⟩
  | .hbm, ⟨4, _⟩ => ⟨S2816x1024, .f32⟩
  | .hbm, ⟨5, _⟩ => ⟨S1024x256, .f32⟩
  | .hbm, ⟨6, _⟩ => ⟨S1024x1024, .f32⟩
  | .hbm, ⟨7, _⟩ => ⟨S4096x448, .f32⟩
  | .hbm, ⟨8, _⟩ => ⟨S1024x1024, .f32⟩
  | .hbm, ⟨9, _⟩ => ⟨S4096x704, .f32⟩
  | .hbm, ⟨10, _⟩ => ⟨S4096x704, .f32⟩
  | .hbm, ⟨11, _⟩ => ⟨S2816x1024, .f32⟩
  | .hbm, ⟨12, _⟩ => ⟨S1024x256, .f32⟩
  | .hbm, ⟨13, _⟩ => ⟨S1024x1024, .f32⟩
  | _, _ => ⟨S4096x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩

abbrev nD : Nat := 8
abbrev τ : Topo := Topo.v7x

variable {F : FTy → Type} [FloatOps F]

abbrev grid0 : Pipeline.Grid := .none

def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v10 : BitVec 32 := Scalar.muli v2 c4_i32_5
  let v11 : BitVec 32 := Scalar.addi c0_i32_6 v10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v12 : BitVec 32 := Scalar.muli v5 c2_i32_7
  let v13 : BitVec 32 := Scalar.addi v11 v12
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_8 : BitVec 32 := 1#32
  let v14 : BitVec 32 := Scalar.muli v9 c1_i32_8
  let v15 : BitVec 32 := Scalar.addi v13 v14
  v15.toNat
def k0_dev2 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v21 : BitVec 32 := Scalar.muli v2 c4_i32_12
  let v22 : BitVec 32 := Scalar.addi c0_i32_13 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v23 : BitVec 32 := Scalar.muli v5 c2_i32_14
  let v24 : BitVec 32 := Scalar.addi v22 v23
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_9 v8
  let c1_i32_15 : BitVec 32 := 1#32
  let v25 : BitVec 32 := Scalar.muli v20 c1_i32_15
  let v26 : BitVec 32 := Scalar.addi v24 v25
  v26.toNat
def k0_dev3 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v32 : BitVec 32 := Scalar.muli v2 c4_i32_19
  let v33 : BitVec 32 := Scalar.addi c0_i32_20 v32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v34 : BitVec 32 := Scalar.muli v5 c2_i32_21
  let v35 : BitVec 32 := Scalar.addi v33 v34
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v31 : BitVec 32 := Scalar.subi c1_i32_16 v8
  let c1_i32_22 : BitVec 32 := 1#32
  let v36 : BitVec 32 := Scalar.muli v31 c1_i32_22
  let v37 : BitVec 32 := Scalar.addi v35 v36
  v37.toNat
def k0_dev4 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_25 : BitVec 32 := 4#32
  let v43 : BitVec 32 := Scalar.muli v2 c4_i32_25
  let v44 : BitVec 32 := Scalar.addi c0_i32_26 v43
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_27 : BitVec 32 := 2#32
  let v45 : BitVec 32 := Scalar.muli v5 c2_i32_27
  let v46 : BitVec 32 := Scalar.addi v44 v45
  let c1_i32_23 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v42 : BitVec 32 := Scalar.subi c1_i32_23 v8
  let c1_i32_28 : BitVec 32 := 1#32
  let v47 : BitVec 32 := Scalar.muli v42 c1_i32_28
  let v48 : BitVec 32 := Scalar.addi v46 v47
  v48.toNat
def k0_dev5 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v54 : BitVec 32 := Scalar.muli v2 c4_i32_32
  let v55 : BitVec 32 := Scalar.addi c0_i32_33 v54
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v56 : BitVec 32 := Scalar.muli v5 c2_i32_34
  let v57 : BitVec 32 := Scalar.addi v55 v56
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v53 : BitVec 32 := Scalar.subi c1_i32_29 v8
  let c1_i32_35 : BitVec 32 := 1#32
  let v58 : BitVec 32 := Scalar.muli v53 c1_i32_35
  let v59 : BitVec 32 := Scalar.addi v57 v58
  v59.toNat
def k0_dev6 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v65 : BitVec 32 := Scalar.muli v2 c4_i32_38
  let v66 : BitVec 32 := Scalar.addi c0_i32_39 v65
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v67 : BitVec 32 := Scalar.muli v5 c2_i32_40
  let v68 : BitVec 32 := Scalar.addi v66 v67
  let c1_i32_36 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v64 : BitVec 32 := Scalar.subi c1_i32_36 v8
  let c1_i32_41 : BitVec 32 := 1#32
  let v69 : BitVec 32 := Scalar.muli v64 c1_i32_41
  let v70 : BitVec 32 := Scalar.addi v68 v69
  v70.toNat
def k0_dev7 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v76 : BitVec 32 := Scalar.muli v2 c4_i32_44
  let v77 : BitVec 32 := Scalar.addi c0_i32_45 v76
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_46 : BitVec 32 := 2#32
  let v78 : BitVec 32 := Scalar.muli v5 c2_i32_46
  let v79 : BitVec 32 := Scalar.addi v77 v78
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v75 : BitVec 32 := Scalar.subi c1_i32_42 v8
  let c1_i32_47 : BitVec 32 := 1#32
  let v80 : BitVec 32 := Scalar.muli v75 c1_i32_47
  let v81 : BitVec 32 := Scalar.addi v79 v80
  v81.toNat
-- ==== SiblingReference.lean ====
abbrev S32768x448 : Shape := ⟨2, ![32768, 448]⟩
abbrev S8192x1024 : Shape := ⟨2, ![8192, 1024]⟩
abbrev S32768x704 : Shape := ⟨2, ![32768, 704]⟩
abbrev S22528x1024 : Shape := ⟨2, ![22528, 1024]⟩
abbrev S8192x256 : Shape := ⟨2, ![8192, 256]⟩
abbrev S4x2x4096x448 : Shape := ⟨4, ![4, 2, 4096, 448]⟩
abbrev S4x2x1024x1024 : Shape := ⟨4, ![4, 2, 1024, 1024]⟩
abbrev S4x2x4096x704 : Shape := ⟨4, ![4, 2, 4096, 704]⟩
abbrev S4x2x2816x1024 : Shape := ⟨4, ![4, 2, 2816, 1024]⟩
abbrev S4x2x1024x256 : Shape := ⟨4, ![4, 2, 1024, 256]⟩

abbrev nBuf : Space → Nat
  | .hbm => 28
  | .vmem => 0
  | .smem => 0
  | _ => 0

abbrev bufTy : (tb : Table) → Fin (tcTables nBuf tb) → BufTy
  | .hbm, ⟨0, _⟩ => ⟨S32768x448, .f32⟩
  | .hbm, ⟨1, _⟩ => ⟨S8192x1024, .f32⟩
  | .hbm, ⟨2, _⟩ => ⟨S32768x704, .f32⟩
  | .hbm, ⟨3, _⟩ => ⟨S32768x704, .f32⟩
  | .hbm, ⟨4, _⟩ => ⟨S22528x1024, .f32⟩
  | .hbm, ⟨5, _⟩ => ⟨S8192x256, .f32⟩
  | .hbm, ⟨6, _⟩ => ⟨S8192x1024, .f32⟩
  | .hbm, ⟨7, _⟩ => ⟨S4x2x4096x448, .f32⟩
  | .hbm, ⟨8, _⟩ => ⟨S4x2x4096x448, .f32⟩
  | .hbm, ⟨9, _⟩ => ⟨S32768x448, .f32⟩
  | .hbm, ⟨10, _⟩ => ⟨S4x2x1024x1024, .f32⟩
  | .hbm, ⟨11, _⟩ => ⟨S4x2x1024x1024, .f32⟩
  | .hbm, ⟨12, _⟩ => ⟨S8192x1024, .f32⟩
  | .hbm, ⟨13, _⟩ => ⟨S4x2x4096x704, .f32⟩
  | .hbm, ⟨14, _⟩ => ⟨S4x2x4096x704, .f32⟩
  | .hbm, ⟨15, _⟩ => ⟨S32768x704, .f32⟩
  | .hbm, ⟨16, _⟩ => ⟨S4x2x4096x704, .f32⟩
  | .hbm, ⟨17, _⟩ => ⟨S4x2x4096x704, .f32⟩
  | .hbm, ⟨18, _⟩ => ⟨S32768x704, .f32⟩
  | .hbm, ⟨19, _⟩ => ⟨S4x2x2816x1024, .f32⟩
  | .hbm, ⟨20, _⟩ => ⟨S4x2x2816x1024, .f32⟩
  | .hbm, ⟨21, _⟩ => ⟨S22528x1024, .f32⟩
  | .hbm, ⟨22, _⟩ => ⟨S4x2x1024x256, .f32⟩
  | .hbm, ⟨23, _⟩ => ⟨S4x2x1024x256, .f32⟩
  | .hbm, ⟨24, _⟩ => ⟨S8192x256, .f32⟩
  | .hbm, ⟨25, _⟩ => ⟨S4x2x1024x1024, .f32⟩
  | .hbm, ⟨26, _⟩ => ⟨S4x2x1024x1024, .f32⟩
  | .hbm, ⟨27, _⟩ => ⟨S8192x1024, .f32⟩
  | _, _ => ⟨S32768x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Small.lean ====
abbrev S4608x128 : Shape := ⟨2, ![4608, 128]⟩
abbrev S8x4608x128 : Shape := ⟨3, ![8, 4608, 128]⟩
abbrev S7 : Shape := ⟨1, ![7]⟩
abbrev S_ : Shape := ⟨0, ![]⟩
abbrev S1x4608x128 : Shape := ⟨3, ![1, 4608, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S4608x128, .f32⟩
  | .hbm, ⟨1, _⟩ => ⟨S8x4608x128, .f32⟩
  | _, _ => ⟨S4608x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_dev1 (d0 : Dev nD) : Nat :=
  let c0_i32_13 : BitVec 32 := 0#32
  let v_false : BitVec 1 := 0#1
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_6 v2
  let v16 : BitVec 32 := Scalar.select v_false v15 v2
  let c4_i32_12 : BitVec 32 := 4#32
  let v21 : BitVec 32 := Scalar.muli v16 c4_i32_12
  let v22 : BitVec 32 := Scalar.addi c0_i32_13 v21
  let false_8 : BitVec 1 := 0#1
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_7 v5
  let v18 : BitVec 32 := Scalar.select false_8 v17 v5
  let c2_i32_14 : BitVec 32 := 2#32
  let v23 : BitVec 32 := Scalar.muli v18 c2_i32_14
  let v24 : BitVec 32 := Scalar.addi v22 v23
  let v_true : BitVec 1 := 1#1
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_9 v8
  let v20 : BitVec 32 := Scalar.select v_true v19 v8
  let c1_i32_15 : BitVec 32 := 1#32
  let v25 : BitVec 32 := Scalar.muli v20 c1_i32_15
  let v26 : BitVec 32 := Scalar.addi v24 v25
  v26.toNat
def k0_dev2 (d0 : Dev nD) : Nat :=
  let c0_i32_27 : BitVec 32 := 0#32
  let false_19 : BitVec 1 := 0#1
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_18 v2
  let v34 : BitVec 32 := Scalar.select false_19 v33 v2
  let c4_i32_26 : BitVec 32 := 4#32
  let v39 : BitVec 32 := Scalar.muli v34 c4_i32_26
  let v40 : BitVec 32 := Scalar.addi c0_i32_27 v39
  let true_21 : BitVec 1 := 1#1
  let c1_i32_20 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.subi c1_i32_20 v5
  let v36 : BitVec 32 := Scalar.select true_21 v35 v5
  let c2_i32_28 : BitVec 32 := 2#32
  let v41 : BitVec 32 := Scalar.muli v36 c2_i32_28
  let v42 : BitVec 32 := Scalar.addi v40 v41
  let false_23 : BitVec 1 := 0#1
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_22 v8
  let v38 : BitVec 32 := Scalar.select false_23 v37 v8
  let c1_i32_29 : BitVec 32 := 1#32
  let v43 : BitVec 32 := Scalar.muli v38 c1_i32_29
  let v44 : BitVec 32 := Scalar.addi v42 v43
  v44.toNat
def k0_dev3 (d0 : Dev nD) : Nat :=
  let c0_i32_41 : BitVec 32 := 0#32
  let false_33 : BitVec 1 := 0#1
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v51 : BitVec 32 := Scalar.subi c1_i32_32 v2
  let v52 : BitVec 32 := Scalar.select false_33 v51 v2
  let c4_i32_40 : BitVec 32 := 4#32
  let v57 : BitVec 32 := Scalar.muli v52 c4_i32_40
  let v58 : BitVec 32 := Scalar.addi c0_i32_41 v57
  let true_35 : BitVec 1 := 1#1
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_34 v5
  let v54 : BitVec 32 := Scalar.select true_35 v53 v5
  let c2_i32_42 : BitVec 32 := 2#32
  let v59 : BitVec 32 := Scalar.muli v54 c2_i32_42
  let v60 : BitVec 32 := Scalar.addi v58 v59
  let true_37 : BitVec 1 := 1#1
  let c1_i32_36 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v55 : BitVec 32 := Scalar.subi c1_i32_36 v8
  let v56 : BitVec 32 := Scalar.select true_37 v55 v8
  let c1_i32_43 : BitVec 32 := 1#32
  let v61 : BitVec 32 := Scalar.muli v56 c1_i32_43
  let v62 : BitVec 32 := Scalar.addi v60 v61
  v62.toNat
def k0_dev4 (d0 : Dev nD) : Nat :=
  let c0_i32_54 : BitVec 32 := 0#32
  let true_47 : BitVec 1 := 1#1
  let c1_i32_46 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v69 : BitVec 32 := Scalar.subi c1_i32_46 v2
  let v70 : BitVec 32 := Scalar.select true_47 v69 v2
  let c4_i32_53 : BitVec 32 := 4#32
  let v75 : BitVec 32 := Scalar.muli v70 c4_i32_53
  let v76 : BitVec 32 := Scalar.addi c0_i32_54 v75
  let false_49 : BitVec 1 := 0#1
  let c1_i32_48 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_48 v5
  let v72 : BitVec 32 := Scalar.select false_49 v71 v5
  let c2_i32_55 : BitVec 32 := 2#32
  let v77 : BitVec 32 := Scalar.muli v72 c2_i32_55
  let v78 : BitVec 32 := Scalar.addi v76 v77
  let false_51 : BitVec 1 := 0#1
  let c1_i32_50 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v73 : BitVec 32 := Scalar.subi c1_i32_50 v8
  let v74 : BitVec 32 := Scalar.select false_51 v73 v8
  let c1_i32_56 : BitVec 32 := 1#32
  let v79 : BitVec 32 := Scalar.muli v74 c1_i32_56
  let v80 : BitVec 32 := Scalar.addi v78 v79
  v80.toNat
def k0_dev5 (d0 : Dev nD) : Nat :=
  let c0_i32_68 : BitVec 32 := 0#32
  let true_60 : BitVec 1 := 1#1
  let c1_i32_59 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v87 : BitVec 32 := Scalar.subi c1_i32_59 v2
  let v88 : BitVec 32 := Scalar.select true_60 v87 v2
  let c4_i32_67 : BitVec 32 := 4#32
  let v93 : BitVec 32 := Scalar.muli v88 c4_i32_67
  let v94 : BitVec 32 := Scalar.addi c0_i32_68 v93
  let false_62 : BitVec 1 := 0#1
  let c1_i32_61 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v89 : BitVec 32 := Scalar.subi c1_i32_61 v5
  let v90 : BitVec 32 := Scalar.select false_62 v89 v5
  let c2_i32_69 : BitVec 32 := 2#32
  let v95 : BitVec 32 := Scalar.muli v90 c2_i32_69
  let v96 : BitVec 32 := Scalar.addi v94 v95
  let true_64 : BitVec 1 := 1#1
  let c1_i32_63 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v91 : BitVec 32 := Scalar.subi c1_i32_63 v8
  let v92 : BitVec 32 := Scalar.select true_64 v91 v8
  let c1_i32_70 : BitVec 32 := 1#32
  let v97 : BitVec 32 := Scalar.muli v92 c1_i32_70
  let v98 : BitVec 32 := Scalar.addi v96 v97
  v98.toNat
def k0_dev6 (d0 : Dev nD) : Nat :=
  let c0_i32_81 : BitVec 32 := 0#32
  let true_74 : BitVec 1 := 1#1
  let c1_i32_73 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v105 : BitVec 32 := Scalar.subi c1_i32_73 v2
  let v106 : BitVec 32 := Scalar.select true_74 v105 v2
  let c4_i32_80 : BitVec 32 := 4#32
  let v111 : BitVec 32 := Scalar.muli v106 c4_i32_80
  let v112 : BitVec 32 := Scalar.addi c0_i32_81 v111
  let true_76 : BitVec 1 := 1#1
  let c1_i32_75 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v107 : BitVec 32 := Scalar.subi c1_i32_75 v5
  let v108 : BitVec 32 := Scalar.select true_76 v107 v5
  let c2_i32_82 : BitVec 32 := 2#32
  let v113 : BitVec 32 := Scalar.muli v108 c2_i32_82
  let v114 : BitVec 32 := Scalar.addi v112 v113
  let false_78 : BitVec 1 := 0#1
  let c1_i32_77 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v109 : BitVec 32 := Scalar.subi c1_i32_77 v8
  let v110 : BitVec 32 := Scalar.select false_78 v109 v8
  let c1_i32_83 : BitVec 32 := 1#32
  let v115 : BitVec 32 := Scalar.muli v110 c1_i32_83
  let v116 : BitVec 32 := Scalar.addi v114 v115
  v116.toNat
def k0_dev7 (d0 : Dev nD) : Nat :=
  let c0_i32_94 : BitVec 32 := 0#32
  let true_87 : BitVec 1 := 1#1
  let c1_i32_86 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v123 : BitVec 32 := Scalar.subi c1_i32_86 v2
  let v124 : BitVec 32 := Scalar.select true_87 v123 v2
  let c4_i32_93 : BitVec 32 := 4#32
  let v129 : BitVec 32 := Scalar.muli v124 c4_i32_93
  let v130 : BitVec 32 := Scalar.addi c0_i32_94 v129
  let true_89 : BitVec 1 := 1#1
  let c1_i32_88 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v125 : BitVec 32 := Scalar.subi c1_i32_88 v5
  let v126 : BitVec 32 := Scalar.select true_89 v125 v5
  let c2_i32_95 : BitVec 32 := 2#32
  let v131 : BitVec 32 := Scalar.muli v126 c2_i32_95
  let v132 : BitVec 32 := Scalar.addi v130 v131
  let true_91 : BitVec 1 := 1#1
  let c1_i32_90 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v127 : BitVec 32 := Scalar.subi c1_i32_90 v8
  let v128 : BitVec 32 := Scalar.select true_91 v127 v8
  let c1_i32_96 : BitVec 32 := 1#32
  let v133 : BitVec 32 := Scalar.muli v128 c1_i32_96
  let v134 : BitVec 32 := Scalar.addi v132 v133
  v134.toNat
def k0_off2 (d0 : Dev nD) (v_false : BitVec 1) (false_8 : BitVec 1) (v_true : BitVec 1) : Fin 3 → Nat :=
  let c4_i32_99 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_6 v2
  let v16 : BitVec 32 := Scalar.select v_false v15 v2
  let v141 : BitVec 32 := Scalar.muli c4_i32_99 v16
  let c2_i32_100 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_7 v5
  let v18 : BitVec 32 := Scalar.select false_8 v17 v5
  let v142 : BitVec 32 := Scalar.muli c2_i32_100 v18
  let v143 : BitVec 32 := Scalar.addi v141 v142
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_9 v8
  let v20 : BitVec 32 := Scalar.select v_true v19 v8
  let v144 : BitVec 32 := Scalar.addi v143 v20
  let c0_i32_107 : BitVec 32 := 0#32
  let c0_i32_108 : BitVec 32 := 0#32
  ![v144.toNat, 0, 0]
def k0_off2_at (r : Fin 7) : BitVec 1 × BitVec 1 × BitVec 1 :=
  if r.val < 3 then
    if r.val < 1 then
      (0#1, 0#1, 1#1)
    else
      if r.val < 2 then
        (0#1, 1#1, 0#1)
      else
        (0#1, 1#1, 1#1)
  else
    if r.val < 5 then
      if r.val < 4 then
        (1#1, 0#1, 0#1)
      else
        (1#1, 0#1, 1#1)
    else
      if r.val < 6 then
        (1#1, 1#1, 0#1)
      else
        (1#1, 1#1, 1#1)
-- ==== SmallReference.lean ====
abbrev S36864x128 : Shape := ⟨2, ![36864, 128]⟩
abbrev S8x4608x128 : Shape := ⟨3, ![8, 4608, 128]⟩

abbrev nBuf : Space → Nat
  | .hbm => 2
  | .vmem => 0
  | .smem => 0
  | _ => 0

abbrev bufTy : (tb : Table) → Fin (tcTables nBuf tb) → BufTy
  | .hbm, ⟨0, _⟩ => ⟨S36864x128, .f32⟩
  | .hbm, ⟨1, _⟩ => ⟨S8x4608x128, .f32⟩
  | _, _ => ⟨S36864x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== SumIn.lean ====
abbrev S4x4096x448 : Shape := ⟨3, ![4, 4096, 448]⟩
abbrev S4096x448 : Shape := ⟨2, ![4096, 448]⟩
abbrev S4x512x448 : Shape := ⟨3, ![4, 512, 448]⟩
abbrev S512x448 : Shape := ⟨2, ![512, 448]⟩
abbrev S1x512x448 : Shape := ⟨3, ![1, 512, 448]⟩

abbrev nBuf : Space → Nat
  | .hbm => 2
  | .vmem => 4
  | .smem => 0
  | _ => 0

abbrev bufTy : (tb : Table) → Fin (tcTables nBuf tb) → BufTy
  | .hbm, ⟨0, _⟩ => ⟨S4x4096x448, .f32⟩
  | .hbm, ⟨1, _⟩ => ⟨S4096x448, .f32⟩
  | .local _ .vmem, ⟨0, _⟩ => ⟨S4x512x448, .f32⟩
  | .local _ .vmem, ⟨1, _⟩ => ⟨S4x512x448, .f32⟩
  | .local _ .vmem, ⟨2, _⟩ => ⟨S512x448, .f32⟩
  | .local _ .vmem, ⟨3, _⟩ => ⟨S512x448, .f32⟩
  | _, _ => ⟨S4x4096x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumInIdeal.lean ====
abbrev S4x4096x448 : Shape := ⟨3, ![4, 4096, 448]⟩
abbrev S4096x448 : Shape := ⟨2, ![4096, 448]⟩
abbrev S4x512x448 : Shape := ⟨3, ![4, 512, 448]⟩
abbrev S512x448 : Shape := ⟨2, ![512, 448]⟩
abbrev S1x512x448 : Shape := ⟨3, ![1, 512, 448]⟩

abbrev nBuf : Space → Nat
  | .hbm => 2
  | .vmem => 4
  | .smem => 0
  | _ => 0

abbrev bufTy : (tb : Table) → Fin (tcTables nBuf tb) → BufTy
  | .hbm, ⟨0, _⟩ => ⟨S4x4096x448, .f32⟩
  | .hbm, ⟨1, _⟩ => ⟨S4096x448, .f32⟩
  | .local _ .vmem, ⟨0, _⟩ => ⟨S4x512x448, .f32⟩
  | .local _ .vmem, ⟨1, _⟩ => ⟨S4x512x448, .f32⟩
  | .local _ .vmem, ⟨2, _⟩ => ⟨S512x448, .f32⟩
  | .local _ .vmem, ⟨3, _⟩ => ⟨S512x448, .f32⟩
  | _, _ => ⟨S4x4096x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumInReferenceIdeal.lean ====
abbrev S4x4096x448 : Shape := ⟨3, ![4, 4096, 448]⟩
abbrev S_ : Shape := ⟨0, ![]⟩
abbrev S4096x448 : Shape := ⟨2, ![4096, 448]⟩

abbrev nBuf : Space → Nat
  | .hbm => 3
  | .vmem => 0
  | .smem => 0
  | _ => 0

abbrev bufTy : (tb : Table) → Fin (tcTables nBuf tb) → BufTy
  | .hbm, ⟨0, _⟩ => ⟨S4x4096x448, .f32⟩
  | .hbm, ⟨1, _⟩ => ⟨S_, .f32⟩
  | .hbm, ⟨2, _⟩ => ⟨S4096x448, .f32⟩
  | _, _ => ⟨S4x4096x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpdateIn.lean ====
abbrev S4096x448 : Shape := ⟨2, ![4096, 448]⟩
abbrev S256x448 : Shape := ⟨2, ![256, 448]⟩

abbrev nBuf : Space → Nat
  | .hbm => 9
  | .vmem => 18
  | .smem => 0
  | _ => 0

abbrev bufTy : (tb : Table) → Fin (tcTables nBuf tb) → BufTy
  | .hbm, ⟨0, _⟩ => ⟨S4096x448, .f32⟩
  | .hbm, ⟨1, _⟩ => ⟨S4096x448, .f32⟩
  | .hbm, ⟨2, _⟩ => ⟨S4096x448, .f32⟩
  | .hbm, ⟨3, _⟩ => ⟨S4096x448, .f32⟩
  | .hbm, ⟨4, _⟩ => ⟨S4096x448, .f32⟩
  | .hbm, ⟨5, _⟩ => ⟨S4096x448, .f32⟩
  | .hbm, ⟨6, _⟩ => ⟨S4096x448, .f32⟩
  | .hbm, ⟨7, _⟩ => ⟨S4096x448, .f32⟩
  | .hbm, ⟨8, _⟩ => ⟨S4096x448, .f32⟩
  | .local _ .vmem, ⟨0, _⟩ => ⟨S256x448, .f32⟩
  | .local _ .vmem, ⟨1, _⟩ => ⟨S256x448, .f32⟩
  | .local _ .vmem, ⟨2, _⟩ => ⟨S256x448, .f32⟩
  | .local _ .vmem, ⟨3, _⟩ => ⟨S256x448, .f32⟩
  | .local _ .vmem, ⟨4, _⟩ => ⟨S256x448, .f32⟩
  | .local _ .vmem, ⟨5, _⟩ => ⟨S256x448, .f32⟩
  | .local _ .vmem, ⟨6, _⟩ => ⟨S256x448, .f32⟩
  | .local _ .vmem, ⟨7, _⟩ => ⟨S256x448, .f32⟩
  | .local _ .vmem, ⟨8, _⟩ => ⟨S256x448, .f32⟩
  | .local _ .vmem, ⟨9, _⟩ => ⟨S256x448, .f32⟩
  | .local _ .vmem, ⟨10, _⟩ => ⟨S256x448, .f32⟩
  | .local _ .vmem, ⟨11, _⟩ => ⟨S256x448, .f32⟩
  | .local _ .vmem, ⟨12, _⟩ => ⟨S256x448, .f32⟩
  | .local _ .vmem, ⟨13, _⟩ => ⟨S256x448, .f32⟩
  | .local _ .vmem, ⟨14, _⟩ => ⟨S256x448, .f32⟩
  | .local _ .vmem, ⟨15, _⟩ => ⟨S256x448, .f32⟩
  | .local _ .vmem, ⟨16, _⟩ => ⟨S256x448, .f32⟩
  | .local _ .vmem, ⟨17, _⟩ => ⟨S256x448, .f32⟩
  | _, _ => ⟨S4096x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x448 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x448 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x448 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x448 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x448 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpdateInIdeal.lean ====
abbrev S4096x448 : Shape := ⟨2, ![4096, 448]⟩
abbrev S256x448 : Shape := ⟨2, ![256, 448]⟩

abbrev nBuf : Space → Nat
  | .hbm => 9
  | .vmem => 18
  | .smem => 0
  | _ => 0

abbrev bufTy : (tb : Table) → Fin (tcTables nBuf tb) → BufTy
  | .hbm, ⟨0, _⟩ => ⟨S4096x448, .f32⟩
  | .hbm, ⟨1, _⟩ => ⟨S4096x448, .f32⟩
  | .hbm, ⟨2, _⟩ => ⟨S4096x448, .f32⟩
  | .hbm, ⟨3, _⟩ => ⟨S4096x448, .f32⟩
  | .hbm, ⟨4, _⟩ => ⟨S4096x448, .f32⟩
  | .hbm, ⟨5, _⟩ => ⟨S4096x448, .f32⟩
  | .hbm, ⟨6, _⟩ => ⟨S4096x448, .f32⟩
  | .hbm, ⟨7, _⟩ => ⟨S4096x448, .f32⟩
  | .hbm, ⟨8, _⟩ => ⟨S4096x448, .f32⟩
  | .local _ .vmem, ⟨0, _⟩ => ⟨S256x448, .f32⟩
  | .local _ .vmem, ⟨1, _⟩ => ⟨S256x448, .f32⟩
  | .local _ .vmem, ⟨2, _⟩ => ⟨S256x448, .f32⟩
  | .local _ .vmem, ⟨3, _⟩ => ⟨S256x448, .f32⟩
  | .local _ .vmem, ⟨4, _⟩ => ⟨S256x448, .f32⟩
  | .local _ .vmem, ⟨5, _⟩ => ⟨S256x448, .f32⟩
  | .local _ .vmem, ⟨6, _⟩ => ⟨S256x448, .f32⟩
  | .local _ .vmem, ⟨7, _⟩ => ⟨S256x448, .f32⟩
  | .local _ .vmem, ⟨8, _⟩ => ⟨S256x448, .f32⟩
  | .local _ .vmem, ⟨9, _⟩ => ⟨S256x448, .f32⟩
  | .local _ .vmem, ⟨10, _⟩ => ⟨S256x448, .f32⟩
  | .local _ .vmem, ⟨11, _⟩ => ⟨S256x448, .f32⟩
  | .local _ .vmem, ⟨12, _⟩ => ⟨S256x448, .f32⟩
  | .local _ .vmem, ⟨13, _⟩ => ⟨S256x448, .f32⟩
  | .local _ .vmem, ⟨14, _⟩ => ⟨S256x448, .f32⟩
  | .local _ .vmem, ⟨15, _⟩ => ⟨S256x448, .f32⟩
  | .local _ .vmem, ⟨16, _⟩ => ⟨S256x448, .f32⟩
  | .local _ .vmem, ⟨17, _⟩ => ⟨S256x448, .f32⟩
  | _, _ => ⟨S4096x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x448 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x448 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x448 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x448 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x448 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpdateInReferenceIdeal.lean ====
abbrev S4096x448 : Shape := ⟨2, ![4096, 448]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x448, .f32⟩
  | .hbm, ⟨1, _⟩ => ⟨S4096x448, .f32⟩
  | .hbm, ⟨2, _⟩ => ⟨S4096x448, .f32⟩
  | .hbm, ⟨3, _⟩ => ⟨S4096x448, .f32⟩
  | .hbm, ⟨4, _⟩ => ⟨S4096x448, .f32⟩
  | .hbm, ⟨5, _⟩ => ⟨S4096x448, .f32⟩
  | .hbm, ⟨6, _⟩ => ⟨S_, .f32⟩
  | .hbm, ⟨7, _⟩ => ⟨S4096x448, .f32⟩
  | .hbm, ⟨8, _⟩ => ⟨S4096x448, .f32⟩
  | .hbm, ⟨9, _⟩ => ⟨S_, .f32⟩
  | .hbm, ⟨10, _⟩ => ⟨S4096x448, .f32⟩
  | .hbm, ⟨11, _⟩ => ⟨S4096x448, .f32⟩
  | .hbm, ⟨12, _⟩ => ⟨S4096x448, .f32⟩
  | .hbm, ⟨13, _⟩ => ⟨S_, .f32⟩
  | .hbm, ⟨14, _⟩ => ⟨S4096x448, .f32⟩
  | .hbm, ⟨15, _⟩ => ⟨S4096x448, .f32⟩
  | .hbm, ⟨16, _⟩ => ⟨S4096x448, .f32⟩
  | .hbm, ⟨17, _⟩ => ⟨S_, .f32⟩
  | .hbm, ⟨18, _⟩ => ⟨S4096x448, .f32⟩
  | .hbm, ⟨19, _⟩ => ⟨S4096x448, .f32⟩
  | .hbm, ⟨20, _⟩ => ⟨S4096x448, .f32⟩
  | .hbm, ⟨21, _⟩ => ⟨S_, .f32⟩
  | .hbm, ⟨22, _⟩ => ⟨S4096x448, .f32⟩
  | .hbm, ⟨23, _⟩ => ⟨S4096x448, .f32⟩
  | .hbm, ⟨24, _⟩ => ⟨S_, .f32⟩
  | .hbm, ⟨25, _⟩ => ⟨S4096x448, .f32⟩
  | .hbm, ⟨26, _⟩ => ⟨S4096x448, .f32⟩
  | .hbm, ⟨27, _⟩ => ⟨S4096x448, .f32⟩
  | .hbm, ⟨28, _⟩ => ⟨S_, .f32⟩
  | .hbm, ⟨29, _⟩ => ⟨S4096x448, .f32⟩
  | .hbm, ⟨30, _⟩ => ⟨S4096x448, .f32⟩
  | .hbm, ⟨31, _⟩ => ⟨S4096x448, .f32⟩
  | .hbm, ⟨32, _⟩ => ⟨S_, .f32⟩
  | .hbm, ⟨33, _⟩ => ⟨S4096x448, .f32⟩
  | .hbm, ⟨34, _⟩ => ⟨S4096x448, .f32⟩
  | .hbm, ⟨35, _⟩ => ⟨S4096x448, .f32⟩
  | .hbm, ⟨36, _⟩ => ⟨S_, .f32⟩
  | .hbm, ⟨37, _⟩ => ⟨S4096x448, .f32⟩
  | .hbm, ⟨38, _⟩ => ⟨S4096x448, .f32⟩
  | _, _ => ⟨S4096x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== SumOut.lean ====
abbrev S4x1024x1024 : Shape := ⟨3, ![4, 1024, 1024]⟩
abbrev S1024x1024 : Shape := ⟨2, ![1024, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x1024, .f32⟩
  | .hbm, ⟨1, _⟩ => ⟨S1024x1024, .f32⟩
  | .local _ .vmem, ⟨0, _⟩ => ⟨S4x256x1024, .f32⟩
  | .local _ .vmem, ⟨1, _⟩ => ⟨S4x256x1024, .f32⟩
  | .local _ .vmem, ⟨2, _⟩ => ⟨S256x1024, .f32⟩
  | .local _ .vmem, ⟨3, _⟩ => ⟨S256x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumOutIdeal.lean ====
abbrev S4x1024x1024 : Shape := ⟨3, ![4, 1024, 1024]⟩
abbrev S1024x1024 : Shape := ⟨2, ![1024, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x1024, .f32⟩
  | .hbm, ⟨1, _⟩ => ⟨S1024x1024, .f32⟩
  | .local _ .vmem, ⟨0, _⟩ => ⟨S4x256x1024, .f32⟩
  | .local _ .vmem, ⟨1, _⟩ => ⟨S4x256x1024, .f32⟩
  | .local _ .vmem, ⟨2, _⟩ => ⟨S256x1024, .f32⟩
  | .local _ .vmem, ⟨3, _⟩ => ⟨S256x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumOutReferenceIdeal.lean ====
abbrev S4x1024x1024 : Shape := ⟨3, ![4, 1024, 1024]⟩
abbrev S_ : Shape := ⟨0, ![]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S_, .f32⟩
  | .hbm, ⟨2, _⟩ => ⟨S1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpdateOut.lean ====
abbrev S1024x1024 : Shape := ⟨2, ![1024, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpdateOutIdeal.lean ====
abbrev S1024x1024 : Shape := ⟨2, ![1024, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpdateOutReferenceIdeal.lean ====
abbrev S1024x1024 : Shape := ⟨2, ![1024, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== SumFfn.lean ====
abbrev S4x4096x704 : Shape := ⟨3, ![4, 4096, 704]⟩
abbrev S4096x704 : Shape := ⟨2, ![4096, 704]⟩
abbrev S4x256x704 : Shape := ⟨3, ![4, 256, 704]⟩
abbrev S256x704 : Shape := ⟨2, ![256, 704]⟩
abbrev S1x256x704 : Shape := ⟨3, ![1, 256, 704]⟩

abbrev nBuf : Space → Nat
  | .hbm => 2
  | .vmem => 4
  | .smem => 0
  | _ => 0

abbrev bufTy : (tb : Table) → Fin (tcTables nBuf tb) → BufTy
  | .hbm, ⟨0, _⟩ => ⟨S4x4096x704, .f32⟩
  | .hbm, ⟨1, _⟩ => ⟨S4096x704, .f32⟩
  | .local _ .vmem, ⟨0, _⟩ => ⟨S4x256x704, .f32⟩
  | .local _ .vmem, ⟨1, _⟩ => ⟨S4x256x704, .f32⟩
  | .local _ .vmem, ⟨2, _⟩ => ⟨S256x704, .f32⟩
  | .local _ .vmem, ⟨3, _⟩ => ⟨S256x704, .f32⟩
  | _, _ => ⟨S4x4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumFfnIdeal.lean ====
abbrev S4x4096x704 : Shape := ⟨3, ![4, 4096, 704]⟩
abbrev S4096x704 : Shape := ⟨2, ![4096, 704]⟩
abbrev S4x256x704 : Shape := ⟨3, ![4, 256, 704]⟩
abbrev S256x704 : Shape := ⟨2, ![256, 704]⟩
abbrev S1x256x704 : Shape := ⟨3, ![1, 256, 704]⟩

abbrev nBuf : Space → Nat
  | .hbm => 2
  | .vmem => 4
  | .smem => 0
  | _ => 0

abbrev bufTy : (tb : Table) → Fin (tcTables nBuf tb) → BufTy
  | .hbm, ⟨0, _⟩ => ⟨S4x4096x704, .f32⟩
  | .hbm, ⟨1, _⟩ => ⟨S4096x704, .f32⟩
  | .local _ .vmem, ⟨0, _⟩ => ⟨S4x256x704, .f32⟩
  | .local _ .vmem, ⟨1, _⟩ => ⟨S4x256x704, .f32⟩
  | .local _ .vmem, ⟨2, _⟩ => ⟨S256x704, .f32⟩
  | .local _ .vmem, ⟨3, _⟩ => ⟨S256x704, .f32⟩
  | _, _ => ⟨S4x4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumFfnReferenceIdeal.lean ====
abbrev S4x4096x704 : Shape := ⟨3, ![4, 4096, 704]⟩
abbrev S_ : Shape := ⟨0, ![]⟩
abbrev S4096x704 : Shape := ⟨2, ![4096, 704]⟩

abbrev nBuf : Space → Nat
  | .hbm => 3
  | .vmem => 0
  | .smem => 0
  | _ => 0

abbrev bufTy : (tb : Table) → Fin (tcTables nBuf tb) → BufTy
  | .hbm, ⟨0, _⟩ => ⟨S4x4096x704, .f32⟩
  | .hbm, ⟨1, _⟩ => ⟨S_, .f32⟩
  | .hbm, ⟨2, _⟩ => ⟨S4096x704, .f32⟩
  | _, _ => ⟨S4x4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpdateFfn.lean ====
abbrev S4096x704 : Shape := ⟨2, ![4096, 704]⟩
abbrev S256x704 : Shape := ⟨2, ![256, 704]⟩

abbrev nBuf : Space → Nat
  | .hbm => 9
  | .vmem => 18
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | .local _ .vmem, ⟨16, _⟩ => ⟨S256x704, .f32⟩
  | .local _ .vmem, ⟨17, _⟩ => ⟨S256x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpdateFfnIdeal.lean ====
abbrev S4096x704 : Shape := ⟨2, ![4096, 704]⟩
abbrev S256x704 : Shape := ⟨2, ![256, 704]⟩

abbrev nBuf : Space → Nat
  | .hbm => 9
  | .vmem => 18
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | .local _ .vmem, ⟨16, _⟩ => ⟨S256x704, .f32⟩
  | .local _ .vmem, ⟨17, _⟩ => ⟨S256x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpdateFfnReferenceIdeal.lean ====
abbrev S4096x704 : Shape := ⟨2, ![4096, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S_, .f32⟩
  | .hbm, ⟨7, _⟩ => ⟨S4096x704, .f32⟩
  | .hbm, ⟨8, _⟩ => ⟨S4096x704, .f32⟩
  | .hbm, ⟨9, _⟩ => ⟨S_, .f32⟩
  | .hbm, ⟨10, _⟩ => ⟨S4096x704, .f32⟩
  | .hbm, ⟨11, _⟩ => ⟨S4096x704, .f32⟩
  | .hbm, ⟨12, _⟩ => ⟨S4096x704, .f32⟩
  | .hbm, ⟨13, _⟩ => ⟨S_, .f32⟩
  | .hbm, ⟨14, _⟩ => ⟨S4096x704, .f32⟩
  | .hbm, ⟨15, _⟩ => ⟨S4096x704, .f32⟩
  | .hbm, ⟨16, _⟩ => ⟨S4096x704, .f32⟩
  | .hbm, ⟨17, _⟩ => ⟨S_, .f32⟩
  | .hbm, ⟨18, _⟩ => ⟨S4096x704, .f32⟩
  | .hbm, ⟨19, _⟩ => ⟨S4096x704, .f32⟩
  | .hbm, ⟨20, _⟩ => ⟨S4096x704, .f32⟩
  | .hbm, ⟨21, _⟩ => ⟨S_, .f32⟩
  | .hbm, ⟨22, _⟩ => ⟨S4096x704, .f32⟩
  | .hbm, ⟨23, _⟩ => ⟨S4096x704, .f32⟩
  | .hbm, ⟨24, _⟩ => ⟨S_, .f32⟩
  | .hbm, ⟨25, _⟩ => ⟨S4096x704, .f32⟩
  | .hbm, ⟨26, _⟩ => ⟨S4096x704, .f32⟩
  | .hbm, ⟨27, _⟩ => ⟨S4096x704, .f32⟩
  | .hbm, ⟨28, _⟩ => ⟨S_, .f32⟩
  | .hbm, ⟨29, _⟩ => ⟨S4096x704, .f32⟩
  | .hbm, ⟨30, _⟩ => ⟨S4096x704, .f32⟩
  | .hbm, ⟨31, _⟩ => ⟨S4096x704, .f32⟩
  | .hbm, ⟨32, _⟩ => ⟨S_, .f32⟩
  | .hbm, ⟨33, _⟩ => ⟨S4096x704, .f32⟩
  | .hbm, ⟨34, _⟩ => ⟨S4096x704, .f32⟩
  | .hbm, ⟨35, _⟩ => ⟨S4096x704, .f32⟩
  | .hbm, ⟨36, _⟩ => ⟨S_, .f32⟩
  | .hbm, ⟨37, _⟩ => ⟨S4096x704, .f32⟩
  | .hbm, ⟨38, _⟩ => ⟨S4096x704, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== SumDown.lean ====
abbrev S4x2816x1024 : Shape := ⟨3, ![4, 2816, 1024]⟩
abbrev S2816x1024 : Shape := ⟨2, ![2816, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x2816x1024, .f32⟩
  | .hbm, ⟨1, _⟩ => ⟨S2816x1024, .f32⟩
  | .local _ .vmem, ⟨0, _⟩ => ⟨S4x256x1024, .f32⟩
  | .local _ .vmem, ⟨1, _⟩ => ⟨S4x256x1024, .f32⟩
  | .local _ .vmem, ⟨2, _⟩ => ⟨S256x1024, .f32⟩
  | .local _ .vmem, ⟨3, _⟩ => ⟨S256x1024, .f32⟩
  | _, _ => ⟨S4x2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumDownIdeal.lean ====
abbrev S4x2816x1024 : Shape := ⟨3, ![4, 2816, 1024]⟩
abbrev S2816x1024 : Shape := ⟨2, ![2816, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x2816x1024, .f32⟩
  | .hbm, ⟨1, _⟩ => ⟨S2816x1024, .f32⟩
  | .local _ .vmem, ⟨0, _⟩ => ⟨S4x256x1024, .f32⟩
  | .local _ .vmem, ⟨1, _⟩ => ⟨S4x256x1024, .f32⟩
  | .local _ .vmem, ⟨2, _⟩ => ⟨S256x1024, .f32⟩
  | .local _ .vmem, ⟨3, _⟩ => ⟨S256x1024, .f32⟩
  | _, _ => ⟨S4x2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumDownReferenceIdeal.lean ====
abbrev S4x2816x1024 : Shape := ⟨3, ![4, 2816, 1024]⟩
abbrev S_ : Shape := ⟨0, ![]⟩
abbrev S2816x1024 : Shape := ⟨2, ![2816, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x2816x1024, .f32⟩
  | .hbm, ⟨1, _⟩ => ⟨S_, .f32⟩
  | .hbm, ⟨2, _⟩ => ⟨S2816x1024, .f32⟩
  | _, _ => ⟨S4x2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpdateDown.lean ====
abbrev S2816x1024 : Shape := ⟨2, ![2816, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpdateDownIdeal.lean ====
abbrev S2816x1024 : Shape := ⟨2, ![2816, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpdateDownReferenceIdeal.lean ====
abbrev S2816x1024 : Shape := ⟨2, ![2816, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S_, .f32⟩
  | .hbm, ⟨7, _⟩ => ⟨S2816x1024, .f32⟩
  | .hbm, ⟨8, _⟩ => ⟨S2816x1024, .f32⟩
  | .hbm, ⟨9, _⟩ => ⟨S_, .f32⟩
  | .hbm, ⟨10, _⟩ => ⟨S2816x1024, .f32⟩
  | .hbm, ⟨11, _⟩ => ⟨S2816x1024, .f32⟩
  | .hbm, ⟨12, _⟩ => ⟨S2816x1024, .f32⟩
  | .hbm, ⟨13, _⟩ => ⟨S_, .f32⟩
  | .hbm, ⟨14, _⟩ => ⟨S2816x1024, .f32⟩
  | .hbm, ⟨15, _⟩ => ⟨S2816x1024, .f32⟩
  | .hbm, ⟨16, _⟩ => ⟨S2816x1024, .f32⟩
  | .hbm, ⟨17, _⟩ => ⟨S_, .f32⟩
  | .hbm, ⟨18, _⟩ => ⟨S2816x1024, .f32⟩
  | .hbm, ⟨19, _⟩ => ⟨S2816x1024, .f32⟩
  | .hbm, ⟨20, _⟩ => ⟨S2816x1024, .f32⟩
  | .hbm, ⟨21, _⟩ => ⟨S_, .f32⟩
  | .hbm, ⟨22, _⟩ => ⟨S2816x1024, .f32⟩
  | .hbm, ⟨23, _⟩ => ⟨S2816x1024, .f32⟩
  | .hbm, ⟨24, _⟩ => ⟨S_, .f32⟩
  | .hbm, ⟨25, _⟩ => ⟨S2816x1024, .f32⟩
  | .hbm, ⟨26, _⟩ => ⟨S2816x1024, .f32⟩
  | .hbm, ⟨27, _⟩ => ⟨S2816x1024, .f32⟩
  | .hbm, ⟨28, _⟩ => ⟨S_, .f32⟩
  | .hbm, ⟨29, _⟩ => ⟨S2816x1024, .f32⟩
  | .hbm, ⟨30, _⟩ => ⟨S2816x1024, .f32⟩
  | .hbm, ⟨31, _⟩ => ⟨S2816x1024, .f32⟩
  | .hbm, ⟨32, _⟩ => ⟨S_, .f32⟩
  | .hbm, ⟨33, _⟩ => ⟨S2816x1024, .f32⟩
  | .hbm, ⟨34, _⟩ => ⟨S2816x1024, .f32⟩
  | .hbm, ⟨35, _⟩ => ⟨S2816x1024, .f32⟩
  | .hbm, ⟨36, _⟩ => ⟨S_, .f32⟩
  | .hbm, ⟨37, _⟩ => ⟨S2816x1024, .f32⟩
  | .hbm, ⟨38, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== SumPle.lean ====
abbrev S4x1024x256 : Shape := ⟨3, ![4, 1024, 256]⟩
abbrev S1024x256 : Shape := ⟨2, ![1024, 256]⟩
abbrev S1x1024x256 : Shape := ⟨3, ![1, 1024, 256]⟩

abbrev nBuf : Space → Nat
  | .hbm => 2
  | .vmem => 2
  | .smem => 0
  | _ => 0

abbrev bufTy : (tb : Table) → Fin (tcTables nBuf tb) → BufTy
  | .hbm, ⟨0, _⟩ => ⟨S4x1024x256, .f32⟩
  | .hbm, ⟨1, _⟩ => ⟨S1024x256, .f32⟩
  | .local _ .vmem, ⟨0, _⟩ => ⟨S4x1024x256, .f32⟩
  | .local _ .vmem, ⟨1, _⟩ => ⟨S1024x256, .f32⟩
  | _, _ => ⟨S4x1024x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumPleReferenceIdeal.lean ====
abbrev S4x1024x256 : Shape := ⟨3, ![4, 1024, 256]⟩
abbrev S_ : Shape := ⟨0, ![]⟩
abbrev S1024x256 : Shape := ⟨2, ![1024, 256]⟩

abbrev nBuf : Space → Nat
  | .hbm => 3
  | .vmem => 0
  | .smem => 0
  | _ => 0

abbrev bufTy : (tb : Table) → Fin (tcTables nBuf tb) → BufTy
  | .hbm, ⟨0, _⟩ => ⟨S4x1024x256, .f32⟩
  | .hbm, ⟨1, _⟩ => ⟨S_, .f32⟩
  | .hbm, ⟨2, _⟩ => ⟨S1024x256, .f32⟩
  | _, _ => ⟨S4x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpdatePle.lean ====
abbrev S1024x256 : Shape := ⟨2, ![1024, 256]⟩
abbrev S512x256 : Shape := ⟨2, ![512, 256]⟩

abbrev nBuf : Space → Nat
  | .hbm => 9
  | .vmem => 18
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpdatePleReferenceIdeal.lean ====
abbrev S1024x256 : Shape := ⟨2, ![1024, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S_, .f32⟩
  | .hbm, ⟨7, _⟩ => ⟨S1024x256, .f32⟩
  | .hbm, ⟨8, _⟩ => ⟨S1024x256, .f32⟩
  | .hbm, ⟨9, _⟩ => ⟨S_, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S_, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S_, .f32⟩
  | .hbm, ⟨18, _⟩ => ⟨S1024x256, .f32⟩
  | .hbm, ⟨19, _⟩ => ⟨S1024x256, .f32⟩
  | .hbm, ⟨20, _⟩ => ⟨S1024x256, .f32⟩
  | .hbm, ⟨21, _⟩ => ⟨S_, .f32⟩
  | .hbm, ⟨22, _⟩ => ⟨S1024x256, .f32⟩
  | .hbm, ⟨23, _⟩ => ⟨S1024x256, .f32⟩
  | .hbm, ⟨24, _⟩ => ⟨S_, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S1024x256, .f32⟩
  | .hbm, ⟨30, _⟩ => ⟨S1024x256, .f32⟩
  | .hbm, ⟨31, _⟩ => ⟨S1024x256, .f32⟩
  | .hbm, ⟨32, _⟩ => ⟨S_, .f32⟩
  | .hbm, ⟨33, _⟩ => ⟨S1024x256, .f32⟩
  | .hbm, ⟨34, _⟩ => ⟨S1024x256, .f32⟩
  | .hbm, ⟨35, _⟩ => ⟨S1024x256, .f32⟩
  | .hbm, ⟨36, _⟩ => ⟨S_, .f32⟩
  | .hbm, ⟨37, _⟩ => ⟨S1024x256, .f32⟩
  | .hbm, ⟨38, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== UpdateSmall.lean ====
abbrev S8x4608x128 : Shape := ⟨3, ![8, 4608, 128]⟩
abbrev S4608x128 : Shape := ⟨2, ![4608, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x4608x128, .f32⟩
  | .hbm, ⟨1, _⟩ => ⟨S4608x128, .f32⟩
  | .hbm, ⟨2, _⟩ => ⟨S4608x128, .f32⟩
  | .hbm, ⟨3, _⟩ => ⟨S4608x128, .f32⟩
  | .hbm, ⟨4, _⟩ => ⟨S4608x128, .f32⟩
  | .hbm, ⟨5, _⟩ => ⟨S4608x128, .f32⟩
  | .hbm, ⟨6, _⟩ => ⟨S4608x128, .f32⟩
  | .hbm, ⟨7, _⟩ => ⟨S4608x128, .f32⟩
  | .local _ .vmem, ⟨0, _⟩ => ⟨S8x512x128, .f32⟩
  | .local _ .vmem, ⟨1, _⟩ => ⟨S8x512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S8x4608x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateSmallReferenceIdeal.lean ====
abbrev S8x4608x128 : Shape := ⟨3, ![8, 4608, 128]⟩
abbrev S4608x128 : Shape := ⟨2, ![4608, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4608x128, .f32⟩
  | .hbm, ⟨1, _⟩ => ⟨S4608x128, .f32⟩
  | .hbm, ⟨2, _⟩ => ⟨S4608x128, .f32⟩
  | .hbm, ⟨3, _⟩ => ⟨S4608x128, .f32⟩
  | .hbm, ⟨4, _⟩ => ⟨S_, .f32⟩
  | .hbm, ⟨5, _⟩ => ⟨S4608x128, .f32⟩
  | .hbm, ⟨6, _⟩ => ⟨S_, .f32⟩
  | .hbm, ⟨7, _⟩ => ⟨S4608x128, .f32⟩
  | .hbm, ⟨8, _⟩ => ⟨S4608x128, .f32⟩
  | .hbm, ⟨9, _⟩ => ⟨S_, .f32⟩
  | .hbm, ⟨10, _⟩ => ⟨S4608x128, .f32⟩
  | .hbm, ⟨11, _⟩ => ⟨S4608x128, .f32⟩
  | .hbm, ⟨12, _⟩ => ⟨S4608x128, .f32⟩
  | .hbm, ⟨13, _⟩ => ⟨S_, .f32⟩
  | .hbm, ⟨14, _⟩ => ⟨S4608x128, .f32⟩
  | .hbm, ⟨15, _⟩ => ⟨S4608x128, .f32⟩
  | .hbm, ⟨16, _⟩ => ⟨S4608x128, .f32⟩
  | .hbm, ⟨17, _⟩ => ⟨S_, .f32⟩
  | .hbm, ⟨18, _⟩ => ⟨S4608x128, .f32⟩
  | .hbm, ⟨19, _⟩ => ⟨S4608x128, .f32⟩
  | .hbm, ⟨20, _⟩ => ⟨S4608x128, .f32⟩
  | .hbm, ⟨21, _⟩ => ⟨S_, .f32⟩
  | .hbm, ⟨22, _⟩ => ⟨S4608x128, .f32⟩
  | .hbm, ⟨23, _⟩ => ⟨S4608x128, .f32⟩
  | .hbm, ⟨24, _⟩ => ⟨S_, .f32⟩
  | .hbm, ⟨25, _⟩ => ⟨S4608x128, .f32⟩
  | .hbm, ⟨26, _⟩ => ⟨S4608x128, .f32⟩
  | .hbm, ⟨27, _⟩ => ⟨S4608x128, .f32⟩
  | .hbm, ⟨28, _⟩ => ⟨S_, .f32⟩
  | .hbm, ⟨29, _⟩ => ⟨S4608x128, .f32⟩
  | .hbm, ⟨30, _⟩ => ⟨S4608x128, .f32⟩
  | .hbm, ⟨31, _⟩ => ⟨S4608x128, .f32⟩
  | .hbm, ⟨32, _⟩ => ⟨S_, .f32⟩
  | .hbm, ⟨33, _⟩ => ⟨S4608x128, .f32⟩
  | .hbm, ⟨34, _⟩ => ⟨S4608x128, .f32⟩
  | .hbm, ⟨35, _⟩ => ⟨S4608x128, .f32⟩
  | .hbm, ⟨36, _⟩ => ⟨S_, .f32⟩
  | .hbm, ⟨37, _⟩ => ⟨S4608x128, .f32⟩
  | .hbm, ⟨38, _⟩ => ⟨S4608x128, .f32⟩
  | _, _ => ⟨S8x4608x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== GradIn.lean ====
abbrev S8192x1024 : Shape := ⟨2, ![8192, 1024]⟩
abbrev S8192x1792 : Shape := ⟨2, ![8192, 1792]⟩
abbrev S1024x1792 : Shape := ⟨2, ![1024, 1792]⟩
abbrev S512x1024 : Shape := ⟨2, ![512, 1024]⟩
abbrev S512x1792 : Shape := ⟨2, ![512, 1792]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1792, .bf16⟩
  | .hbm, ⟨2, _⟩ => ⟨S1024x1792, .f32⟩
  | .local _ .vmem, ⟨0, _⟩ => ⟨S512x1024, .bf16⟩
  | .local _ .vmem, ⟨1, _⟩ => ⟨S512x1024, .bf16⟩
  | .local _ .vmem, ⟨2, _⟩ => ⟨S512x1792, .bf16⟩
  | .local _ .vmem, ⟨3, _⟩ => ⟨S512x1792, .bf16⟩
  | .local _ .vmem, ⟨4, _⟩ => ⟨S1024x1792, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradInIdeal.lean ====
abbrev S8192x1024 : Shape := ⟨2, ![8192, 1024]⟩
abbrev S8192x1792 : Shape := ⟨2, ![8192, 1792]⟩
abbrev S1024x1792 : Shape := ⟨2, ![1024, 1792]⟩
abbrev S512x1024 : Shape := ⟨2, ![512, 1024]⟩
abbrev S512x1792 : Shape := ⟨2, ![512, 1792]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1792, .bf16⟩
  | .hbm, ⟨2, _⟩ => ⟨S1024x1792, .f32⟩
  | .local _ .vmem, ⟨0, _⟩ => ⟨S512x1024, .bf16⟩
  | .local _ .vmem, ⟨1, _⟩ => ⟨S512x1024, .bf16⟩
  | .local _ .vmem, ⟨2, _⟩ => ⟨S512x1792, .bf16⟩
  | .local _ .vmem, ⟨3, _⟩ => ⟨S512x1792, .bf16⟩
  | .local _ .vmem, ⟨4, _⟩ => ⟨S1024x1792, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradInReferenceIdeal.lean ====
abbrev S8192x1024 : Shape := ⟨2, ![8192, 1024]⟩
abbrev S8192x1792 : Shape := ⟨2, ![8192, 1792]⟩
abbrev S1024x8192 : Shape := ⟨2, ![1024, 8192]⟩
abbrev S1024x1792 : Shape := ⟨2, ![1024, 1792]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1792, .bf16⟩
  | .hbm, ⟨2, _⟩ => ⟨S8192x1024, .f32⟩
  | .hbm, ⟨3, _⟩ => ⟨S1024x8192, .f32⟩
  | .hbm, ⟨4, _⟩ => ⟨S8192x1792, .f32⟩
  | .hbm, ⟨5, _⟩ => ⟨S1024x1792, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradOut.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradOutIdeal.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradOutReferenceIdeal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S1024x8192, .f32⟩
  | .hbm, ⟨4, _⟩ => ⟨S8192x1024, .f32⟩
  | .hbm, ⟨5, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradFfn.lean ====
abbrev S8192x1024 : Shape := ⟨2, ![8192, 1024]⟩
abbrev S8192x2816 : Shape := ⟨2, ![8192, 2816]⟩
abbrev S1024x2816 : Shape := ⟨2, ![1024, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S1024x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradFfnIdeal.lean ====
abbrev S8192x1024 : Shape := ⟨2, ![8192, 1024]⟩
abbrev S8192x2816 : Shape := ⟨2, ![8192, 2816]⟩
abbrev S1024x2816 : Shape := ⟨2, ![1024, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S1024x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradFfnReferenceIdeal.lean ====
abbrev S8192x1024 : Shape := ⟨2, ![8192, 1024]⟩
abbrev S8192x2816 : Shape := ⟨2, ![8192, 2816]⟩
abbrev S1024x8192 : Shape := ⟨2, ![1024, 8192]⟩
abbrev S1024x2816 : Shape := ⟨2, ![1024, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x1024, .f32⟩
  | .hbm, ⟨3, _⟩ => ⟨S1024x8192, .f32⟩
  | .hbm, ⟨4, _⟩ => ⟨S8192x2816, .f32⟩
  | .hbm, ⟨5, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradDown.lean ====
abbrev S8192x2816 : Shape := ⟨2, ![8192, 2816]⟩
abbrev S8192x1024 : Shape := ⟨2, ![8192, 1024]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S512x2816, .bf16⟩
  | .local _ .vmem, ⟨1, _⟩ => ⟨S512x2816, .bf16⟩
  | .local _ .vmem, ⟨2, _⟩ => ⟨S512x1024, .bf16⟩
  | .local _ .vmem, ⟨3, _⟩ => ⟨S512x1024, .bf16⟩
  | .local _ .vmem, ⟨4, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradDownIdeal.lean ====
abbrev S8192x2816 : Shape := ⟨2, ![8192, 2816]⟩
abbrev S8192x1024 : Shape := ⟨2, ![8192, 1024]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S512x2816, .bf16⟩
  | .local _ .vmem, ⟨1, _⟩ => ⟨S512x2816, .bf16⟩
  | .local _ .vmem, ⟨2, _⟩ => ⟨S512x1024, .bf16⟩
  | .local _ .vmem, ⟨3, _⟩ => ⟨S512x1024, .bf16⟩
  | .local _ .vmem, ⟨4, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradDownReferenceIdeal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S2816x8192, .f32⟩
  | .hbm, ⟨4, _⟩ => ⟨S8192x1024, .f32⟩
  | .hbm, ⟨5, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradPle.lean ====
abbrev S8192x256 : Shape := ⟨2, ![8192, 256]⟩
abbrev S8192x1024 : Shape := ⟨2, ![8192, 1024]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x1024, .f32⟩
  | .local _ .vmem, ⟨0, _⟩ => ⟨S512x256, .f32⟩
  | .local _ .vmem, ⟨1, _⟩ => ⟨S512x256, .f32⟩
  | .local _ .vmem, ⟨2, _⟩ => ⟨S512x1024, .bf16⟩
  | .local _ .vmem, ⟨3, _⟩ => ⟨S512x1024, .bf16⟩
  | .local _ .vmem, ⟨4, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradPleReferenceIdeal.lean ====
abbrev S8192x256 : Shape := ⟨2, ![8192, 256]⟩
abbrev S8192x1024 : Shape := ⟨2, ![8192, 1024]⟩
abbrev S256x8192 : Shape := ⟨2, ![256, 8192]⟩
abbrev S256x1024 : Shape := ⟨2, ![256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x8192, .f32⟩
  | .hbm, ⟨3, _⟩ => ⟨S8192x1024, .f32⟩
  | .hbm, ⟨4, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== LossHead.lean ====
abbrev S8192x1024 : Shape := ⟨2, ![8192, 1024]⟩
abbrev S1x128 : Shape := ⟨2, ![1, 128]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x128, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossHeadReferenceIdeal.lean ====
abbrev S8192x1024 : Shape := ⟨2, ![8192, 1024]⟩
abbrev S_ : Shape := ⟨0, ![]⟩
abbrev S1x128 : Shape := ⟨2, ![1, 128]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S_, .f32⟩
  | .hbm, ⟨6, _⟩ => ⟨S1x128, .f32⟩
  | .hbm, ⟨7, _⟩ => ⟨S_, .f32⟩
  | .hbm, ⟨8, _⟩ => ⟨S8192x1024, .f32⟩
  | .hbm, ⟨9, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== NormIn.lean ====
abbrev S8192x1024 : Shape := ⟨2, ![8192, 1024]⟩
abbrev S1x1024 : Shape := ⟨2, ![1, 1024]⟩
abbrev S1024x1792 : Shape := ⟨2, ![1024, 1792]⟩
abbrev S8192x1792 : Shape := ⟨2, ![8192, 1792]⟩
abbrev S512x1024 : Shape := ⟨2, ![512, 1024]⟩
abbrev S512x1792 : Shape := ⟨2, ![512, 1792]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1792, .bf16⟩
  | .hbm, ⟨3, _⟩ => ⟨S8192x1792, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1792, .bf16⟩
  | .local _ .vmem, ⟨4, _⟩ => ⟨S512x1792, .f32⟩
  | .local _ .vmem, ⟨5, _⟩ => ⟨S512x1792, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormInReferenceIdeal.lean ====
abbrev S8192x1024 : Shape := ⟨2, ![8192, 1024]⟩
abbrev S1x1024 : Shape := ⟨2, ![1, 1024]⟩
abbrev S1024x1792 : Shape := ⟨2, ![1024, 1792]⟩
abbrev S_ : Shape := ⟨0, ![]⟩
abbrev S8192 : Shape := ⟨1, ![8192]⟩
abbrev S8192x1 : Shape := ⟨2, ![8192, 1]⟩
abbrev S8192x1792 : Shape := ⟨2, ![8192, 1792]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1792, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x1792, .f32⟩
  | .hbm, ⟨19, _⟩ => ⟨S8192x1792, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== MixOut.lean ====
abbrev S8192x1024 : Shape := ⟨2, ![8192, 1024]⟩
abbrev S1x512 : Shape := ⟨2, ![1, 512]⟩
abbrev S1024x1024 : Shape := ⟨2, ![1024, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x512, .f32⟩
  | .hbm, ⟨3, _⟩ => ⟨S1x512, .f32⟩
  | .hbm, ⟨4, _⟩ => ⟨S1024x1024, .bf16⟩
  | .hbm, ⟨5, _⟩ => ⟨S1x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixOutReferenceIdeal.lean ====
abbrev S8192x1024 : Shape := ⟨2, ![8192, 1024]⟩
abbrev S1x512 : Shape := ⟨2, ![1, 512]⟩
abbrev S1024x1024 : Shape := ⟨2, ![1024, 1024]⟩
abbrev S1x1024 : Shape := ⟨2, ![1, 1024]⟩
abbrev S8192x512 : Shape := ⟨2, ![8192, 512]⟩
abbrev S_ : Shape := ⟨0, ![]⟩
abbrev S8192 : Shape := ⟨1, ![8192]⟩
abbrev S8192x1 : Shape := ⟨2, ![8192, 1]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x512, .f32⟩
  | .hbm, ⟨3, _⟩ => ⟨S1x512, .f32⟩
  | .hbm, ⟨4, _⟩ => ⟨S1024x1024, .bf16⟩
  | .hbm, ⟨5, _⟩ => ⟨S1x1024, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x1024, .f32⟩
  | .hbm, ⟨39, _⟩ => ⟨S1024x1024, .f32⟩
  | .hbm, ⟨40, _⟩ => ⟨S8192x1024, .f32⟩
  | .hbm, ⟨41, _⟩ => ⟨S8192x1024, .bf16⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== FfnIn.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S8192x1024, .bf16⟩
  | .hbm, ⟨5, _⟩ => ⟨S8192x2816, .f32⟩
  | .hbm, ⟨6, _⟩ => ⟨S8192x2816, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S256x1024, .bf16⟩
  | .local _ .vmem, ⟨6, _⟩ => ⟨S256x1024, .bf16⟩
  | .local _ .vmem, ⟨7, _⟩ => ⟨S256x2816, .f32⟩
  | .local _ .vmem, ⟨8, _⟩ => ⟨S256x2816, .f32⟩
  | .local _ .vmem, ⟨9, _⟩ => ⟨S256x2816, .f32⟩
  | .local _ .vmem, ⟨10, _⟩ => ⟨S256x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnInReferenceIdeal.lean ====
abbrev S8192x1024 : Shape := ⟨2, ![8192, 1024]⟩
abbrev S1x1024 : Shape := ⟨2, ![1, 1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x2816, .f32⟩
  | .hbm, ⟨21, _⟩ => ⟨S8192x2816, .f32⟩
  | .hbm, ⟨22, _⟩ => ⟨S1024x2816, .f32⟩
  | .hbm, ⟨23, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== FfnOut.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S2816x1024, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnOutReferenceIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .bf16⟩
  | .hbm, ⟨3, _⟩ => ⟨S8192x1024, .f32⟩
  | .hbm, ⟨4, _⟩ => ⟨S1x1024, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S2816x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩

abbrev nD : Nat := 1
abbrev τ : Topo := Topo.v7x

variable {F : FTy → Type} [FloatOps F]
-- ==== PleGate.lean ====
abbrev S8192x1024 : Shape := ⟨2, ![8192, 1024]⟩
abbrev S1x1024 : Shape := ⟨2, ![1, 1024]⟩
abbrev S1024x1024 : Shape := ⟨2, ![1024, 1024]⟩
abbrev S8192x256 : Shape := ⟨2, ![8192, 256]⟩
abbrev S256x1024 : Shape := ⟨2, ![256, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .bf16⟩
  | .hbm, ⟨3, _⟩ => ⟨S8192x256, .f32⟩
  | .hbm, ⟨4, _⟩ => ⟨S256x1024, .bf16⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x256, .f32⟩
  | .local _ .vmem, ⟨5, _⟩ => ⟨S512x256, .f32⟩
  | .local _ .vmem, ⟨6, _⟩ => ⟨S256x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PleGateReferenceIdeal.lean ====
abbrev S8192x1024 : Shape := ⟨2, ![8192, 1024]⟩
abbrev S1x1024 : Shape := ⟨2, ![1, 1024]⟩
abbrev S1024x1024 : Shape := ⟨2, ![1024, 1024]⟩
abbrev S8192x256 : Shape := ⟨2, ![8192, 256]⟩
abbrev S256x1024 : Shape := ⟨2, ![256, 1024]⟩
abbrev S_ : Shape := ⟨0, ![]⟩
abbrev S8192 : Shape := ⟨1, ![8192]⟩
abbrev S8192x1 : Shape := ⟨2, ![8192, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .bf16⟩
  | .hbm, ⟨3, _⟩ => ⟨S8192x256, .f32⟩
  | .hbm, ⟨4, _⟩ => ⟨S256x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S1024x1024, .f32⟩
  | .hbm, ⟨21, _⟩ => ⟨S8192x1024, .f32⟩
  | .hbm, ⟨22, _⟩ => ⟨S256x1024, .f32⟩
  | .hbm, ⟨23, _⟩ => ⟨S8192x1024, .f32⟩
  | .hbm, ⟨24, _⟩ => ⟨S8192x1024, .bf16⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== PleGrad.lean ====
abbrev S8192x1024 : Shape := ⟨2, ![8192, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024x1024, .bf16⟩
  | .hbm, ⟨6, _⟩ => ⟨S8192x1024, .bf16⟩
  | .hbm, ⟨7, _⟩ => ⟨S8192x1024, .bf16⟩
  | .hbm, ⟨8, _⟩ => ⟨S8192x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PleGradReferenceIdeal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024x1024, .bf16⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S1024x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .bf16⟩
  | .hbm, ⟨68, _⟩ => ⟨S8192x1024, .bf16⟩
  | .hbm, ⟨69, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== FfnInGrad.lean ====
abbrev S8192x2816 : Shape := ⟨2, ![8192, 2816]⟩
abbrev S1024x2816 : Shape := ⟨2, ![1024, 2816]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x2816, .bf16⟩
  | .hbm, ⟨3, _⟩ => ⟨S1024x2816, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x2816, .bf16⟩
  | .local _ .vmem, ⟨5, _⟩ => ⟨S1024x2816, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnInGradReferenceIdeal.lean ====
abbrev S8192x2816 : Shape := ⟨2, ![8192, 2816]⟩
abbrev S1024x2816 : Shape := ⟨2, ![1024, 2816]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x2816, .bf16⟩
  | .hbm, ⟨3, _⟩ => ⟨S1024x2816, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1024x2816, .f32⟩
  | .hbm, ⟨27, _⟩ => ⟨S8192x2816, .f32⟩
  | .hbm, ⟨28, _⟩ => ⟨S1024x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== MixOutGrad.lean ====
abbrev S8192x1024 : Shape := ⟨2, ![8192, 1024]⟩
abbrev S1x1024 : Shape := ⟨2, ![1, 1024]⟩
abbrev S1024x1024 : Shape := ⟨2, ![1024, 1024]⟩
abbrev S1x512 : Shape := ⟨2, ![1, 512]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S512x512 : Shape := ⟨2, ![512, 512]⟩

abbrev nBuf : Space → Nat
  | .hbm => 12
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x1024, .bf16⟩
  | .hbm, ⟨4, _⟩ => ⟨S8192x1024, .f32⟩
  | .hbm, ⟨5, _⟩ => ⟨S1x512, .f32⟩
  | .hbm, ⟨6, _⟩ => ⟨S1x512, .f32⟩
  | .hbm, ⟨7, _⟩ => ⟨S8192x1024, .bf16⟩
  | .hbm, ⟨8, _⟩ => ⟨S8192x1024, .f32⟩
  | .hbm, ⟨9, _⟩ => ⟨S1x1024, .f32⟩
  | .hbm, ⟨10, _⟩ => ⟨S1x512, .f32⟩
  | .hbm, ⟨11, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S1x512, .f32⟩
  | .local _ .vmem, ⟨9, _⟩ => ⟨S1x512, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x512, .f32⟩
  | .local _ .vmem, ⟨16, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MixOutGradReferenceIdeal.lean ====
abbrev S8192x1024 : Shape := ⟨2, ![8192, 1024]⟩
abbrev S1x1024 : Shape := ⟨2, ![1, 1024]⟩
abbrev S1024x1024 : Shape := ⟨2, ![1024, 1024]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8192x512 : Shape := ⟨2, ![8192, 512]⟩
abbrev S512 : Shape := ⟨1, ![512]⟩

abbrev nBuf : Space → Nat
  | .hbm => 147
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1024x1024, .bf16⟩
  | 4 => ⟨S8192x1024, .f32⟩
  | 5 => ⟨S1x512, .f32⟩
  | 6 => ⟨S1x512, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S_, .f32⟩
  | 28 => ⟨S1024, .f32⟩
  | 29 => ⟨S1x1024, .f32⟩
  | 30 => ⟨S8192x1024, .f32⟩
  | 31 => ⟨S8192x1024, .f32⟩
  | 32 => ⟨S8192x1024, .f32⟩
  | 33 => ⟨S_, .f32⟩
  | 34 => ⟨S8192, .f32⟩
  | 35 => ⟨S8192x1, .f32⟩
  | 36 => ⟨S8192x1024, .f32⟩
  | 37 => ⟨S8192x1024, .f32⟩
  | 38 => ⟨S8192x1, .f32⟩
  | 39 => ⟨S_, .f32⟩
  | 40 => ⟨S8192x1, .f32⟩
  | 41 => ⟨S8192x1, .f32⟩
  | 42 => ⟨S_, .f32⟩
  | 43 => ⟨S8192, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S8192x512, .f32⟩
  | 50 => ⟨S8192x512, .f32⟩
  | 51 => ⟨S_, .f32⟩
  | 52 => ⟨S8192, .f32⟩
  | 53 => ⟨S8192x1, .f32⟩
  | 54 => ⟨S_, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x1, .f32⟩
  | 61 => ⟨S8192x1, .f32⟩
  | 62 => ⟨S_, .f32⟩
  | 63 => ⟨S8192x1, .f32⟩
  | 64 => ⟨S8192x1, .f32⟩
  | 65 => ⟨S8192x512, .f32⟩
  | 66 => ⟨S8192x512, .f32⟩
  | 67 => ⟨S8192x512, .f32⟩
  | 68 => ⟨S8192x512, .f32⟩
  | 69 => ⟨S8192x512, .f32⟩
  | 70 => ⟨S8192x512, .f32⟩
  | 71 => ⟨S_, .f32⟩
  | 72 => ⟨S8192, .f32⟩
  | 73 => ⟨S8192x1, .f32⟩
  | 74 => ⟨S_, .f32⟩
  | 75 => ⟨S8192x1, .f32⟩
  | 76 => ⟨S8192x1, .f32⟩
  | 77 => ⟨S_, .f32⟩
  | 78 => ⟨S8192x1, .f32⟩
  | 79 => ⟨S8192x1, .f32⟩
  | 80 => ⟨S8192x1, .f32⟩
  | 81 => ⟨S8192x1, .f32⟩
  | 82 => ⟨S_, .f32⟩
  | 83 => ⟨S8192x1, .f32⟩
  | 84 => ⟨S8192x1, .f32⟩
  | 85 => ⟨S8192x512, .f32⟩
  | 86 => ⟨S8192x512, .f32⟩
  | 87 => ⟨S8192x512, .f32⟩
  | 88 => ⟨S8192x512, .f32⟩
  | 89 => ⟨S8192x1024, .f32⟩
  | 90 => ⟨S1024x1024, .f32⟩
  | 91 => ⟨S8192x1024, .f32⟩
  | 92 => ⟨S8192x1024, .f32⟩
  | 93 => ⟨S8192x512, .f32⟩
  | 94 => ⟨S8192x512, .f32⟩
  | 95 => ⟨S8192x512, .f32⟩
  | 96 => ⟨S_, .f32⟩
  | 97 => ⟨S512, .f32⟩
  | 98 => ⟨S1x512, .f32⟩
  | 99 => ⟨S8192x512, .f32⟩
  | 100 => ⟨S8192x512, .f32⟩
  | 101 => ⟨S8192x512, .f32⟩
  | 102 => ⟨S_, .f32⟩
  | 103 => ⟨S8192, .f32⟩
  | 104 => ⟨S8192x1, .f32⟩
  | 105 => ⟨S8192x512, .f32⟩
  | 106 => ⟨S8192x512, .f32⟩
  | 107 => ⟨S8192x1, .f32⟩
  | 108 => ⟨S_, .f32⟩
  | 109 => ⟨S8192x1, .f32⟩
  | 110 => ⟨S8192x1, .f32⟩
  | 111 => ⟨S_, .f32⟩
  | 112 => ⟨S8192, .f32⟩
  | 113 => ⟨S8192x512, .f32⟩
  | 114 => ⟨S8192x512, .f32⟩
  | 115 => ⟨S8192x512, .f32⟩
  | 116 => ⟨S8192x512, .f32⟩
  | 117 => ⟨S8192x512, .f32⟩
  | 118 => ⟨S_, .f32⟩
  | 119 => ⟨S8192x1024, .f32⟩
  | 120 => ⟨S8192x512, .f32⟩
  | 121 => ⟨S_, .f32⟩
  | 122 => ⟨S512, .f32⟩
  | 123 => ⟨S1x512, .f32⟩
  | 124 => ⟨S8192x512, .f32⟩
  | 125 => ⟨S8192x512, .f32⟩
  | 126 => ⟨S8192x512, .f32⟩
  | 127 => ⟨S_, .f32⟩
  | _ => ⟨S8192x1024, .f32⟩

abbrev hbmTy0_1 (i : Nat) : BufTy := match i % 128 with
  | 0 => ⟨S8192, .f32⟩
  | 1 => ⟨S8192x1, .f32⟩
  | 2 => ⟨S8192x512, .f32⟩
  | 3 => ⟨S8192x512, .f32⟩
  | 4 => ⟨S8192x1, .f32⟩
  | 5 => ⟨S_, .f32⟩
  | 6 => ⟨S8192x1, .f32⟩
  | 7 => ⟨S8192x1, .f32⟩
  | 8 => ⟨S_, .f32⟩
  | 9 => ⟨S8192, .f32⟩
  | 10 => ⟨S8192x512, .f32⟩
  | 11 => ⟨S8192x512, .f32⟩
  | 12 => ⟨S8192x512, .f32⟩
  | 13 => ⟨S8192x512, .f32⟩
  | 14 => ⟨S8192x512, .f32⟩
  | 15 => ⟨S_, .f32⟩
  | 16 => ⟨S8192x1024, .f32⟩
  | 17 => ⟨S8192x1024, .f32⟩
  | 18 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_14 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_15 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_16 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_17 : Ref sig .tc := ⟨.hbm, 108, rfl⟩
abbrev main_v83 : Ref sig .tc := ⟨.hbm, 109, rfl⟩
abbrev main_v84 : Ref sig .tc := ⟨.hbm, 110, rfl⟩
abbrev main_cst_18 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_19 : Ref sig .tc := ⟨.hbm, 118, rfl⟩
abbrev main_v91 : Ref sig .tc := ⟨.hbm, 119, rfl⟩
abbrev main_v92 : Ref sig .tc := ⟨.hbm, 120, rfl⟩
abbrev main_cst_20 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_21 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_22 : Ref sig .tc := ⟨.hbm, 133, rfl⟩
abbrev main_v103 : Ref sig .tc := ⟨.hbm, 134, rfl⟩
abbrev main_v104 : Ref sig .tc := ⟨.hbm, 135, rfl⟩
abbrev main_cst_23 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_24 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩

abbrev nD : Nat := 1
abbrev τ : Topo := Topo.v7x

variable {F : FTy → Type} [FloatOps F]
-- ==== NormInGrad.lean ====
abbrev S8192x512 : Shape := ⟨2, ![8192, 512]⟩
abbrev S8192x256 : Shape := ⟨2, ![8192, 256]⟩
abbrev S8192x1024 : Shape := ⟨2, ![8192, 1024]⟩
abbrev S1024x1792 : Shape := ⟨2, ![1024, 1792]⟩
abbrev S1x1024 : Shape := ⟨2, ![1, 1024]⟩
abbrev S8192x1792 : Shape := ⟨2, ![8192, 1792]⟩
abbrev S512x512 : Shape := ⟨2, ![512, 512]⟩
abbrev S512x256 : Shape := ⟨2, ![512, 256]⟩
abbrev S512x1024 : Shape := ⟨2, ![512, 1024]⟩
abbrev S512x1792 : Shape := ⟨2, ![512, 1792]⟩
abbrev S512 : Shape := ⟨1, ![512]⟩
abbrev S512x1 : Shape := ⟨2, ![512, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S8192x512, .bf16⟩
  | .hbm, ⟨1, _⟩ => ⟨S8192x256, .f32⟩
  | .hbm, ⟨2, _⟩ => ⟨S8192x1024, .bf16⟩
  | .hbm, ⟨3, _⟩ => ⟨S1024x1792, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1792, .bf16⟩
  | .hbm, ⟨8, _⟩ => ⟨S8192x1024, .f32⟩
  | .hbm, ⟨9, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x256, .f32⟩
  | .local _ .vmem, ⟨3, _⟩ => ⟨S512x256, .f32⟩
  | .local _ .vmem, ⟨4, _⟩ => ⟨S512x1024, .bf16⟩
  | .local _ .vmem, ⟨5, _⟩ => ⟨S512x1024, .bf16⟩
  | .local _ .vmem, ⟨6, _⟩ => ⟨S1024x1792, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1792, .bf16⟩
  | .local _ .vmem, ⟨13, _⟩ => ⟨S512x1792, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1792 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormInGradReferenceIdeal.lean ====
abbrev S8192x512 : Shape := ⟨2, ![8192, 512]⟩
abbrev S8192x256 : Shape := ⟨2, ![8192, 256]⟩
abbrev S8192x1024 : Shape := ⟨2, ![8192, 1024]⟩
abbrev S1024x1792 : Shape := ⟨2, ![1024, 1792]⟩
abbrev S1x1024 : Shape := ⟨2, ![1, 1024]⟩
abbrev S8192x1792 : Shape := ⟨2, ![8192, 1792]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x256, .f32⟩
  | .hbm, ⟨2, _⟩ => ⟨S8192x1024, .bf16⟩
  | .hbm, ⟨3, _⟩ => ⟨S1024x1792, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x512, .f32⟩
  | .hbm, ⟨8, _⟩ => ⟨S8192x1024, .f32⟩
  | .hbm, ⟨9, _⟩ => ⟨S8192x1792, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1024x1792, .f32⟩
  | .hbm, ⟨30, _⟩ => ⟨S8192x1792, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1792, .bf16⟩
  | .hbm, ⟨56, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== FfnOutGrad.lean ====
abbrev S8192x1024 : Shape := ⟨2, ![8192, 1024]⟩
abbrev S1x1024 : Shape := ⟨2, ![1, 1024]⟩
abbrev S2816x1024 : Shape := ⟨2, ![2816, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2816x1024, .bf16⟩
  | .hbm, ⟨4, _⟩ => ⟨S8192x2816, .f32⟩
  | .hbm, ⟨5, _⟩ => ⟨S8192x2816, .f32⟩
  | .hbm, ⟨6, _⟩ => ⟨S8192x1024, .bf16⟩
  | .hbm, ⟨7, _⟩ => ⟨S8192x2816, .bf16⟩
  | .hbm, ⟨8, _⟩ => ⟨S8192x2816, .bf16⟩
  | .hbm, ⟨9, _⟩ => ⟨S8192x2816, .bf16⟩
  | .hbm, ⟨10, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S2816x1024, .bf16⟩
  | .local _ .vmem, ⟨6, _⟩ => ⟨S256x2816, .f32⟩
  | .local _ .vmem, ⟨7, _⟩ => ⟨S256x2816, .f32⟩
  | .local _ .vmem, ⟨8, _⟩ => ⟨S256x2816, .f32⟩
  | .local _ .vmem, ⟨9, _⟩ => ⟨S256x2816, .f32⟩
  | .local _ .vmem, ⟨10, _⟩ => ⟨S256x1024, .bf16⟩
  | .local _ .vmem, ⟨11, _⟩ => ⟨S256x1024, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnOutGradReferenceIdeal.lean ====
abbrev S8192x1024 : Shape := ⟨2, ![8192, 1024]⟩
abbrev S1x1024 : Shape := ⟨2, ![1, 1024]⟩
abbrev S2816x1024 : Shape := ⟨2, ![2816, 1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2816x1024, .bf16⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x2816, .f32⟩
  | .hbm, ⟨62, _⟩ => ⟨S2816x1024, .f32⟩
  | .hbm, ⟨63, _⟩ => ⟨S8192x1024, .f32⟩
  | .hbm, ⟨64, _⟩ => ⟨S8192x2816, .f32⟩
  | .hbm, ⟨65, _⟩ => ⟨S_, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S8192x2816, .f32⟩
  | .hbm, ⟨72, _⟩ => ⟨S8192x2816, .f32⟩
  | .hbm, ⟨73, _⟩ => ⟨S8192x2816, .f32⟩
  | .hbm, ⟨74, _⟩ => ⟨S8192x2816, .f32⟩
  | .hbm, ⟨75, _⟩ => ⟨S8192x1024, .bf16⟩
  | .hbm, ⟨76, _⟩ => ⟨S8192x2816, .bf16⟩
  | .hbm, ⟨77, _⟩ => ⟨S8192x2816, .bf16⟩
  | .hbm, ⟨78, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v0_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v0_1 : Ref sig .tc := ⟨.hbm, 17, rfl⟩
abbrev main_v0_0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_cst_1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_cst_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩

abbrev nD : Nat := 1
abbrev τ : Topo := Topo.v7x

variable {F : FTy → Type} [FloatOps F]
-- ==== Proof.SwapValue.lean ====
/-
# The all-to-all as a reshape and a transpose

Thirty-two members, numbered by (chip, core, slot): exchanging chip and slot is what the reference's reshape, transpose and
reshape back do, and, block by block, what the exchange does.
-/
module

public import Idealize.ShloMosaic.Lib.Layout
public import Idealize.ShloMosaic.Lib.Pipeline.StackWindow

@[expose] public section

noncomputable section

namespace Cert.Exchange

open Idealize.ShloMosaic
open Idealize.ShloMosaic.StackWindow Idealize.ShloMosaic.StackMember

/-- The stack of thirty-two members `d`, its leading axis split into (chip, core, slot). -/
abbrev splitShape (d : Fin 3 → ℕ) : Shape := ⟨6, Matrix.vecCons 4 (Matrix.vecCons 2 (Matrix.vecCons 4 d))⟩

variable {α : Type} {d : Fin 3 → ℕ}

/-- A split index. -/
abbrev splitIdx (q : Fin 4) (e : Fin 2) (s : Fin 4) (j : (⟨3, d⟩ : Shape).Idx) : (splitShape d).Idx :=
  Fin.cons (α := fun i => Fin ((splitShape d).size i)) q
    (Fin.cons (α := fun i => Fin (Matrix.vecCons 2 (Matrix.vecCons 4 d) i)) e (Fin.cons (α := fun i => Fin (Matrix.vecCons 4 d i)) s j))

/-- The member's number, and an index of the stack. -/
abbrev flat (q : Fin 4) (e : Fin 2) (s : Fin 4) : Fin 32 := ⟨8 * q.val + 4 * e.val + s.val, by omega⟩

theorem rowMajor_split (q : Fin 4) (e : Fin 2) (s : Fin 4) (j : (⟨3, d⟩ : Shape).Idx) :
    ((splitShape d).rowMajor (splitIdx q e s j)).val
      = ((stackShape 32 d).rowMajor (Fin.cons (flat q e s) j)).val := by
  show (Shape.rowMajorPi (Matrix.vecCons 4 (Matrix.vecCons 2 (Matrix.vecCons 4 d))) (splitIdx q e s j)).val
    = (Shape.rowMajorPi (Matrix.vecCons 32 d) (Fin.cons (flat q e s) j)).val
  rw [Shape.rowMajorPi_succ_val, Shape.rowMajorPi_succ_val, Shape.rowMajorPi_succ_val,
    Shape.rowMajorPi_succ_val (Matrix.vecCons 32 d)]
  have e1 : (∏ a : Fin 5, Matrix.vecCons 4 (Matrix.vecCons 2 (Matrix.vecCons 4 d)) a.succ) = 8 * ∏ a, d a := by
    rw [Fin.prod_univ_succ, Fin.prod_univ_succ]; show 2 * (4 * _) = _; rw [← mul_assoc]; rfl
  have e2 : (∏ a : Fin 4, Matrix.vecCons 4 (Matrix.vecCons 2 (Matrix.vecCons 4 d)) a.succ.succ) = 4 * ∏ a, d a := by
    rw [Fin.prod_univ_succ]; rfl
  rw [e1]
  show q.val * (8 * ∏ a, d a) + (e.val * (∏ a : Fin 4, Matrix.vecCons 4 (Matrix.vecCons 2 (Matrix.vecCons 4 d)) a.succ.succ)
    + (s.val * (∏ a, d a) + (Shape.rowMajorPi d j).val)) = (8 * q.val + 4 * e.val + s.val) * (∏ a, d a) + (Shape.rowMajorPi d j).val
  rw [e2]
  ring

/-- The reference's three operations exchange chip and slot. -/
theorem swap_apply (X : (stackShape 32 d).Idx → α) (h1 : (stackShape 32 d).ShapeCasts (splitShape d))
    (h2 : (splitShape d).Transposes [2, 1, 0, 3, 4, 5] (splitShape d)) (h3 : (splitShape d).ShapeCasts (stackShape 32 d))
    (q : Fin 4) (e : Fin 2) (s : Fin 4) :
    memberAt (shapeCast (stackShape 32 d) (transpose (splitShape d) [2, 1, 0, 3, 4, 5] (shapeCast (splitShape d) X h1) h2) h3) (flat q e s)
      = memberAt X (flat s e q) := by
  funext j
  refine (shapeCast_apply _ h3 _ (splitIdx q e s j) (rowMajor_split q e s j)).trans ?_
  refine (transpose_apply _ _ h2 _ (splitIdx s e q j) (fun b => ?_)).trans ?_
  · fin_cases b <;> rfl
  · exact shapeCast_apply _ h1 _ _ (rowMajor_split s e q j).symm

/-- A member of device `c`'s block is a member of the whole. -/
theorem block_member (c : Fin 8) (v : (stackShape 32 d).Idx → α) (h : Layout.Tiles (stackShape 4 d) (stackShape 32 d) 0 8) (p : Fin 4) :
    memberAt (Layout.block (stackShape 4 d) (stackShape 32 d) 0 8 c v h) p = memberAt v ⟨4 * c.val + p.val, by omega⟩ := by
  funext j
  show v (h.idx c (Fin.cons p j)) = v (Fin.cons _ j)
  congr 1
  funext b
  apply Fin.ext
  refine (Layout.Tiles.idx_val h c _ b).trans ?_
  induction b using Fin.cases with
  | zero => exact (if_pos rfl).trans (show c.val * 4 + p.val = 4 * c.val + p.val by omega)
  | succ b => exact (if_neg (Nat.succ_ne_zero _)).trans rfl

/-- The exchanged blocks: member `p` of block `c` is the member of `c`'s chip of the block of chip `p`, core of `c`. -/
theorem swap_block (X : (stackShape 32 d).Idx → α) (h1 : (stackShape 32 d).ShapeCasts (splitShape d))
    (h2 : (splitShape d).Transposes [2, 1, 0, 3, 4, 5] (splitShape d)) (h3 : (splitShape d).ShapeCasts (stackShape 32 d))
    (h : Layout.Tiles (stackShape 4 d) (stackShape 32 d) 0 8) (c c' : Fin 8) (p q : Fin 4) (hc : c'.val = 2 * p.val + c.val % 2) (hq : q.val = c.val / 2) :
    memberAt (Layout.block (stackShape 4 d) (stackShape 32 d) 0 8 c
        (shapeCast (stackShape 32 d) (transpose (splitShape d) [2, 1, 0, 3, 4, 5] (shapeCast (splitShape d) X h1) h2) h3) h) p
      = memberAt (Layout.block (stackShape 4 d) (stackShape 32 d) 0 8 c' X h) q := by
  rw [block_member, block_member]
  have e1 : (⟨4 * c.val + p.val, by omega⟩ : Fin 32) = flat q ⟨c.val % 2, by omega⟩ p := by apply Fin.ext; show 4 * c.val + p.val = 8 * q.val + 4 * (c.val % 2) + p.val; omega
  have e2 : (⟨4 * c'.val + q.val, by omega⟩ : Fin 32) = flat p ⟨c.val % 2, by omega⟩ q := by apply Fin.ext; show 4 * c'.val + q.val = 8 * p.val + 4 * (c.val % 2) + q.val; omega
  rw [e1, e2]
  exact swap_apply X h1 h2 h3 q _ p

end Cert.Exchange

end
-- ==== Proof.Windowless.lean ====
/-
# The launch of a kernel that has no window

A kernel whose operands stay where they are (no block of any array is staged) and whose devices write into one
another's result arrays before any of them has waited. The launch has to deal the arrays themselves across the
devices: device `c` starts with the slots of its peers' result arrays that it will write. So one update takes every
device's unscoped buffers, its own semaphores at zero, its launch credit and its ghost resources at once, and makes
of them what each device starts from.
-/
module

public import Idealize.ShloMosaic.Lib.Pipeline.Launch
public import Idealize.ShloMosaic.Lib.Pipeline.Kit
public import Idealize.ShloMosaic.Lib.Tactic

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {U : Type} [URA U]

local notation "𝕄" => MT nD τ sig Unit Val ℕ U ℕ

variable {Λ₀ : Idealize.SL.Sem.Labels} {P : Type} [Fintype P]
variable (pcs : P → PCfg sig Λ₀ Val) (a : (p : P) → (pcs p).Adm)

/-- The proof data of calls without windows: `S` before the only point, owing `O`; `T` after it, owing nothing. -/
def wdat (hW : ∀ p, IsEmpty (Fin (pcs p).W)) (S T : Dev nD → sProp 𝕄) (O : Dev nD → CellTallies nD τ sig Unit)
    (p : P) (c : Dev nD) : Dat τ Val Unit ℕ U ℕ (pin pcs a p) c where
  A w := ((hW p).false w).elim
  after w := ((hW p).false w).elim
  Φ t := if t.val = 0 then S c else T c
  q w := ((hW p).false w).elim
  owed t := if t.val = 0 then O c else 0

theorem wdat_before (hW : ∀ p, IsEmpty (Fin (pcs p).W)) (S T : Dev nD → sProp 𝕄) (O : Dev nD → CellTallies nD τ sig Unit) (p : P) (c : Dev nD)
    (t : Fin ((pin pcs a p).N + 1)) (h : t.val = 0) : (wdat pcs a hW S T O p c).Φ t = S c ∧ (wdat pcs a hW S T O p c).owed t = O c :=
  ⟨if_pos h, if_pos h⟩

theorem wdat_after (hW : ∀ p, IsEmpty (Fin (pcs p).W)) (S T : Dev nD → sProp 𝕄) (O : Dev nD → CellTallies nD τ sig Unit) (p : P) (c : Dev nD)
    (t : Fin ((pin pcs a p).N + 1)) (h : t.val ≠ 0) : (wdat pcs a hW S T O p c).Φ t = T c ∧ (wdat pcs a hW S T O p c).owed t = 0 :=
  ⟨if_neg h, if_neg h⟩

/-- Over no index at all, `∗` is `emp`. -/
theorem bigSep_none {I : Type} [Fintype I] (h : IsEmpty I) (Φ : I → sProp 𝕄) : bigSep Finset.univ Φ = (iprop(emp) : sProp 𝕄) := by
  rw [Finset.univ_eq_empty, BI.bigSep_empty]; rfl

/-- Three families side by side, index by index, and a fourth, as the four of them index by index. -/
theorem gather4 {I : Type} [Fintype I] (A B C E : I → sProp 𝕄) :
    iprop((bigSep Finset.univ fun i => iprop(A i ∗ B i ∗ C i)) ∗ bigSep Finset.univ E)
      ⊢ bigSep Finset.univ fun i => iprop(A i ∗ B i ∗ C i ∗ E i) := by
  simp only [bigSep_sep']
  iintro ⟨⟨A, B, C⟩, E⟩
  isplitl [A]; · iexact A
  isplitl [B]; · iexact B
  isplitl [C] <;> iassumption

variable (phinj : Function.Injective (cellOf (nD := nD) (τ := τ) (pin pcs a)))
variable (p : P) {K : Type} [Fintype K] {osem : K → SemLoc sig} (hw : WinFacts₀ (pcs p).spec) (ho : OwnSemFacts (pcs p).spec osem)
variable (EP : Emb (UR sig nD τ) (MT nD τ sig Unit Val ℕ U ℕ))
  (defs₀ : Defs nD τ sig Val Λ₀) (𝒱₀ : Variants)

local notation "𝔻" => Pipeline.defs pcs defs₀
local notation "𝕍" => Variants.lift 𝒱₀

include phinj hw ho in
/-- The launch of a kernel without windows on one point. `S c` is what device `c`'s body starts from beside what it
    owes, `T c` what it leaves beside its own semaphores at zero; `hglob` makes every `S c` at once. -/
theorem run_windowless [DecidableEq P] [∀ e, Nonempty (Val e)] [EP.LandsIn (upEmb : UEmb _ 𝕄)]
    (hW : ∀ p, IsEmpty (Fin (pcs p).W)) (hK : IsEmpty (Fin (pcs p).pre.K))
    (hN : (pin pcs a p).N = 1)
    (m : (ℓ : Loc nD τ sig) → Buf Val ℓ) (g : Dev nD → PrngReg)
    (main : Dev nD → Prog (TpuEff nD τ sig Val (Sig Λ₀ P fun p => (pcs p).Adm) .tc) PUnit)
    (hmain : ∀ c, main c = .op (.customCall (entry p) ()) fun _ => .ret ⟨⟩)
    (O₀ : Dev nD → CellTallies nD τ sig Unit)
    (G S T : Dev nD → sProp 𝕄) (u₀ : U)
    (hu₀ : (ownU u₀ : sProp 𝕄) ⊢ |={Set.univ}=> bigSep Finset.univ G)
    (hglob : (bigSep Finset.univ fun c : Dev nD => iprop(unscopedBufs c (fun b => m ((c.tc : Thread nD τ).loc b)) ∗ ownSems0 osem c
        ∗ launchCred O₀ c ∗ G c) : sProp 𝕄) ⊢ |={Set.univ}=> bigSep Finset.univ S)
    (hbody : ∀ (c : Dev nD) (t : Fin (pin pcs a p).N) (Kt : sProp 𝕄),
      iprop((S c ∗ ∃ W, owes (c.tc : Thread nD τ) (O₀ c) W)
          ∗ ((T c ∗ ownSems0 osem c ∗ ∃ W, owes (c.tc : Thread nD τ) (0 : CellTallies nD τ sig Unit) W) -∗ Kt))
        ⊢ wp frame (wpE defs₀ 𝒱₀ (c.tc : Thread nD τ) none) Set.univ
            (defs₀ .tc (pin pcs a p).body ((pin pcs a p).bodyArgs t ((pin pcs a p).slots t))) fun _ => Kt)
    (QY : Dev nD → MemSt nD τ sig Val → Prop)
    (hY : ∀ c (s' : Phys nD τ sig Val), iprop(T c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  have hWp := hW p
  let D := wdat pcs a hW (fun c => iprop(S c ∗ scopedRest (pin pcs a p).spec c))
    (fun c => iprop((T c ∗ ownSems0 osem c) ∗ scopedRest (pin pcs a p).spec c)) O₀
  have hss := fun c : Dev nD => scopedSems0_split (pin pcs a) phinj p hw ho (Ix := Unit) (Val := Val) (Name := ℕ) (U := U) (Lvl := ℕ) c
  have hsb := fun c : Dev nD => scopedBufs_split (pin pcs a) p hw.stage_scoped hw.stage_inj (fun w => (hWp.false w).elim) c
    (nD := nD) (τ := τ) (Ix := Unit) (Val := Val) (Name := ℕ) (U := U) (Lvl := ℕ)
  have hcs0 (c : Dev nD) : (cellsSems0 (pin pcs a) p c : sProp 𝕄) = iprop(emp) := bigSep_none hWp _
  have hb (c : Dev nD) : BodyObligation (D p c) defs₀ 𝒱₀ () Set.univ := fun t => by
    have ht : t.val = 0 := by have := t.isLt; omega
    have h0 : (D p c).Φ t.castSucc = iprop(S c ∗ scopedRest (pin pcs a p).spec c) := (wdat_before pcs a hW _ _ O₀ p c _ ht).1
    have h1 : (D p c).Φ t.succ = iprop((T c ∗ ownSems0 osem c) ∗ scopedRest (pin pcs a p).spec c) :=
      (wdat_after pcs a hW _ _ O₀ p c _ (Nat.succ_ne_zero t.val)).1
    have h2 : (D p c).owed t.castSucc = O₀ c := (wdat_before pcs a hW _ _ O₀ p c _ ht).2
    have h3 : (D p c).owed t.succ = 0 := (wdat_after pcs a hW _ _ O₀ p c _ (Nat.succ_ne_zero t.val)).2
    rw [bigSep_none hWp, bigSep_none hWp, h0, h1]
    unfold Dat.owesAt owesWithin
    rw [h2, h3]
    iintro ⟨⟨HS, Hr⟩, ⟨%W, -, HO⟩, -⟩
    iapply (hbody c t _)
    isplitl [HS HO]
    · isplitl [HS]; · iexact HS
      iexists W; iexact HO
    iintro ⟨HT, Hs, ⟨%W', HO⟩⟩
    isplitl [HT Hs Hr]
    · isplitl [HT Hs]; · isplitl [HT] <;> iassumption
      iexact Hr
    isplitl [HO]
    · iexists W'
      isplitr; · ipureintro; exact fun _ _ => Or.inl trivial
      iexact HO
    iempintro
  let pre : Dev nD → sProp 𝕄 := fun c => iprop(scopedBufs (c.tc : Thread nD τ) ∗ idleSems0 (pin pcs a) phinj p ho c
    ∗ owes (c.tc : Thread nD τ) (O₀ c) ∅ ∗ S c)
  let fin : Dev nD → sProp 𝕄 := fun c => iprop(T c ∗ scopedSems0 (c.tc : Thread nD τ))
  refine (θ_run 𝔻 _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · -- the launch: each device's holdings sorted, then the one update over all of them
    have hcore (c : Dev nD) :
        coreInit (Ix := Unit) (Name := ℕ) (U := U) (Lvl := ℕ) (owing O₀) 0 (⟨m, fun _ => 0, g⟩ : MemSt nD τ sig Val) (c.tc : Thread nD τ)
          ⊢ iprop(iprop(scopedBufs (c.tc : Thread nD τ) ∗ idleSems0 (pin pcs a) phinj p ho c ∗ owes (c.tc : Thread nD τ) (O₀ c) ∅)
              ∗ iprop(unscopedBufs c (fun b => m ((c.tc : Thread nD τ).loc b)) ∗ ownSems0 osem c ∗ launchCred O₀ c)) :=
      (coreInit_boundary_owing O₀ m g c).trans (by
        unfold boundary
        rw [hss c]
        iintro ⟨⟨Hsc, ⟨⟨-, Hos⟩, Hidle⟩, -⟩, Hub, -, HL, -, -, Hcr⟩
        isplitl [Hsc Hidle HL]
        · isplitl [Hsc]; · iexact Hsc
          isplitl [Hidle] <;> iassumption
        isplitl [Hub]; · iexact Hub
        isplitl [Hos] <;> iassumption)
    have hcores : (bigSep Finset.univ fun c : Dev nD => coreInit (Ix := Unit) (Name := ℕ) (U := U) (Lvl := ℕ) (owing O₀) 0 (⟨m, fun _ => 0, g⟩ : MemSt nD τ sig Val) (c.tc : Thread nD τ) : sProp 𝕄)
        ⊢ iprop((bigSep Finset.univ fun c : Dev nD => iprop(scopedBufs (c.tc : Thread nD τ) ∗ idleSems0 (pin pcs a) phinj p ho c ∗ owes (c.tc : Thread nD τ) (O₀ c) ∅))
          ∗ bigSep Finset.univ fun c : Dev nD => iprop(unscopedBufs c (fun b => m ((c.tc : Thread nD τ).loc b)) ∗ ownSems0 osem c ∗ launchCred O₀ c)) :=
      (bigSep_mono fun c _ => hcore c).trans (Entails.of_eq (bigSep_sep' _ _ _))
    iintro ⟨Hcores, Hu⟩
    ihave Hc := hcores $$ Hcores
    icases Hc with ⟨H1, H2⟩
    imod hu₀ $$ Hu with HG
    imod hglob $$ [H2 HG] with HS
    · iapply (gather4 (fun c : Dev nD => unscopedBufs c (fun b => m ((c.tc : Thread nD τ).loc b))) (fun c => ownSems0 osem c) (fun c => launchCred O₀ c) G)
      isplitl [H2] <;> iassumption
    imodintro
    iexists ()
    isplitl
    · simp only [pre, bigSep_sep']
      icases H1 with ⟨Hsc, Hidle, HL⟩
      isplitl [Hsc]; · iexact Hsc
      isplitl [Hidle]; · iexact Hidle
      isplitl [HL]; · iexact HL
      iexact HS
    · iempintro
  · -- each device's run: the region alone
    have h0 : (D p c).Φ 0 = iprop(S c ∗ scopedRest (pin pcs a p).spec c) := rfl
    have h1 : (D p c).Φ (Fin.last (pin pcs a p).N) = iprop((T c ∗ ownSems0 osem c) ∗ scopedRest (pin pcs a p).spec c) :=
      (wdat_after pcs a hW _ _ O₀ p c _ (by show ¬ (pin pcs a p).N = 0; omega)).1
    have h2 : (D p c).owed 0 = O₀ c := rfl
    have h3 : (D p c).owed (Fin.last (pin pcs a p).N) = 0 := (wdat_after pcs a hW _ _ O₀ p c _ (by show ¬ (pin pcs a p).N = 0; omega)).2
    have hin : iprop(S c ∗ prefHeld (pcs p).pre c (fun _ => fullShare) (a p).1 ∗ scopedRest (pin pcs a p).spec c) ⊢ (D p c).Φ 0 := by
      rw [h0]
      iintro ⟨HS, -, Hr⟩
      isplitl [HS] <;> iassumption
    have hout : iprop((D p c).Φ (Fin.last (pin pcs a p).N) ∗ cellsSems0 (pin pcs a) p c ∗ Dat.staging (pin pcs a p) c ∗ idleSems0 (pin pcs a) phinj p ho c)
        ⊢ iprop(T c ∗ scopedSems0 (c.tc : Thread nD τ) ∗ scopedBufs (c.tc : Thread nD τ)) := by
      rw [hss c, hsb c, h1]
      iintro ⟨⟨⟨HT, Hos⟩, Hrest⟩, Hcells, Hst, Hidle⟩
      isplitl [HT]; · iexact HT
      isplitl [Hcells Hos Hidle]
      · isplitl [Hcells Hos]; · isplitl [Hcells] <;> iassumption
        iexact Hidle
      isplitl [Hst] <;> iassumption
    simp only [pre]
    rw [hmain c]
    iintro ⟨Hsc, Hidle, HL, HS⟩
    iapply (wp_customCall_entry_frame pcs a D () EP (fun _ => 0) phinj p defs₀ 𝒱₀ (fun _ => fullShare) c Set.univ (fun _ _ => Set.mem_univ _)
        (hb c).loose (fun w => (hWp.false w).elim) none (fun u h => nomatch h) (X := S c) (Y := T c)
        (R := scopedRest (pin pcs a p).spec c) (I := idleSems0 (pin pcs a) phinj p ho c)
        (Entails.of_eq (hsb c)) hin hout
        (k := fun _ => .ret ⟨⟩) (Q := fun _ => post (liftTc fin BI.emp) (c.tc : Thread nD τ))) $$ [HL HS Hidle Hsc]
    · isplitl [HL]
      · unfold EntryPre PerCore.EntryPre Dat.owesAt owesWithin
        rw [h2]
        isplitr; · unfold Dat.arrays; rw [bigSep_none hWp]; iempintro
        isplitl [HL]
        · iexists ∅; isplitr; · ipureintro; rw [Finset.coe_empty]; exact Set.empty_subset _
          iexact HL
        isplitr; · unfold PerCore.cellsWaits PerCore.RDat.cellsWaits; rw [bigSep_none hWp]; iempintro
        isplitr; · unfold PerCore.cellsInit PerCore.RDat.cellsInit; rw [bigSep_none hWp]; iempintro
        unfold PerCore.toksInit; rw [bigSep_none hWp]; iempintro
      isplitr; · unfold prefHeld; rw [bigSep_none hK]; iempintro
      isplitl [HS]; · iexact HS
      isplitl [Hidle]; · iexact Hidle
      iexact Hsc
    iintro ⟨Hpost, HT, Hss2, -⟩
    rw [wp_ret]; imodintro
    unfold post; simp only [liftTc_tc, fin]
    unfold EntryPost PerCore.EntryPost Dat.owesAt owesWithin
    rw [h3]
    icases Hpost with ⟨-, ⟨%W, -, HW⟩⟩
    isplitr [HW]
    · isplitl [HT] <;> iassumption
    · iexists W; iexact HW
  · -- what the devices left, read against a final state
    have hread (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HT, Hss⟩, HSI⟩
      ihave %hz := (tcScoped_read_pers c s') $$ [Hss HSI]
      · isplitl [Hss] <;> iassumption
      imod (hY c s') $$ [HT HSI] with ⟨%hy, HSI⟩
      · isplitl [HT] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end Cert.Exchange

end
-- ==== Proof.Exchange.lean ====
/-
# A one-shot exchange

Every device starts some local copies and some copies to other devices, all at once, then waits for what it is sent,
for its own sends, and for its local copies. No device waits before all its copies are started, so no device owes
anything when it waits. `Plan` names the copies; `wp_exchange` runs one device's part; `run_exchange` launches it on
every device.

Per device `c` the cells are, for a transfer `k`, the send cell and the receive cell, and for a local copy `i` one
cell. Each cell has one round with one duty, and hands its owner:

* send cell of `k`: the share of the source that `c` sends from;
* receive cell of `k`: the landing place on `c`, holding what the device `(dest k)⁻¹ c` sent;
* local cell of `i`: the destination holding the source's contents, and the source's share.
-/
module

public import proofs.«01_k».proof.Proof.Windowless
public import Idealize.ShloMosaic.Lib.Rounds.Family

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

/-- The two ends of a copy, named on the device that issues it. -/
structure Xfer (sig : RefSig) where
  s : Shape
  e : EltTy
  src : Memref sig .tc .hbm s e
  dst : Memref sig .tc .hbm s e
  hsrc : src.view.WordExact
  hdst : dst.view.WordExact
  /-- A remote copy may write there. -/
  hsc : dst.view.ref.isScScratch = false

/-- The copies of an exchange: transfers `k : K`, each sending from every device `c` to `dest k c`, and local copies
    `i : M`. -/
structure Plan (nD : ℕ) (sig : RefSig) (K M : Type) where
  dest : K → Equiv.Perm (Dev nD)
  x : Dev nD → K → Xfer sig
  l : Dev nD → M → Xfer sig
  sem : K ⊕ K ⊕ M → DmaSem sig
  inj : Function.Injective sem
  amt : K → ℕ
  lamt : M → ℕ
  amt_eq : ∀ c k, (x c k).dst.view.dmaCredit = amt k
  lamt_eq : ∀ c i, (l c i).dst.view.dmaCredit = lamt i
  amt_pos : ∀ k, 0 < amt k
  lamt_pos : ∀ i, 0 < lamt i
  /-- The share of the source that transfer `k` reads. -/
  q : K → PosShare TreeShare
  /-- The share of the source that local copy `i` reads. -/
  lq : M → PosShare TreeShare

abbrev UU (nD : ℕ) (τ : Topo) (sig : RefSig) : Type := UR sig nD τ × UR sig nD τ

variable {nD : ℕ} {τ : Topo} {sig : RefSig} {Val : EltTy → Type}

local notation "𝕄" => MT nD τ sig Unit Val ℕ (UU nD τ sig) ℕ

abbrev EP (nD : ℕ) (τ : Topo) (sig : RefSig) (Val : EltTy → Type) : Emb (UR sig nD τ) (MT nD τ sig Unit Val ℕ (UU nD τ sig) ℕ) := embL

abbrev ER (nD : ℕ) (τ : Topo) (sig : RefSig) (Val : EltTy → Type) : Emb (UR sig nD τ) (MT nD τ sig Unit Val ℕ (UU nD τ sig) ℕ) := embR

/-! ## Lists of separate resources and of effects -/

/-- The resources `Φ k` for the members of a list, side by side. -/
def lsep {I : Type} (l : List I) (Φ : I → sProp 𝕄) : sProp 𝕄 := l.foldr (fun k R => iprop(Φ k ∗ R)) iprop(emp)

theorem lsep_nil {I : Type} (Φ : I → sProp 𝕄) : lsep [] Φ = iprop(emp) := rfl
theorem lsep_cons {I : Type} (k : I) (l : List I) (Φ : I → sProp 𝕄) : lsep (k :: l) Φ = iprop(Φ k ∗ lsep l Φ) := rfl

theorem lsep_toFinset {I : Type} [DecidableEq I] (Φ : I → sProp 𝕄) : ∀ l : List I, l.Nodup → bigSep l.toFinset Φ = lsep l Φ
  | [], _ => by rw [lsep_nil, List.toFinset_nil, BI.bigSep_empty]; rfl
  | k :: l, h => by
    rw [lsep_cons, List.toFinset_cons, BI.bigSep_insert (fun hk => (List.nodup_cons.mp h).1 (List.mem_toFinset.mp hk)),
      lsep_toFinset Φ l (List.nodup_cons.mp h).2]
    rfl

theorem lsep_univ {I : Type} [Fintype I] [DecidableEq I] (Φ : I → sProp 𝕄) {l : List I} (hl : l.Nodup) (hm : ∀ i, i ∈ l) :
    bigSep Finset.univ Φ = lsep l Φ := by
  rw [← lsep_toFinset Φ l hl]
  congr 1
  exact (Finset.eq_univ_iff_forall.mpr fun i => List.mem_toFinset.mpr (hm i)).symm

/-- Over two indices, `∗` may be taken in either order. -/
theorem bigSep_swap {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod (fun p : I × J => Φ p.1 p.2), ← bigSep_univ_prod (fun p : J × I => Φ p.2 p.1),
    bigSep_univ_equiv (Equiv.prodComm J I)]
  rfl

/-- The effects of a list, one after the other, then `k`. -/
def ops {ε : Type → Type} {α : Type} (l : List (ε PUnit)) (k : Prog ε α) : Prog ε α := l.foldr (fun e k => .op e fun _ => k) k

theorem ops_nil {ε : Type → Type} {α : Type} (k : Prog ε α) : ops [] k = k := rfl
theorem ops_cons {ε : Type → Type} {α : Type} (e : ε PUnit) (l : List (ε PUnit)) (k : Prog ε α) :
    ops (e :: l) k = .op e fun _ => ops l k := rfl
theorem ops_append {ε : Type → Type} {α : Type} (l l' : List (ε PUnit)) (k : Prog ε α) :
    ops (l ++ l') k = ops l (ops l' k) := List.foldr_append

namespace Plan

variable {K M : Type} (P : Plan nD sig K M)
variable (m : (ℓ : Loc nD τ sig) → Buf Val ℓ)

/-! ## Cells, resources, schedule -/

/-- The cell `j` of device `c`. -/
abbrev cell (p : Dev nD × (K ⊕ K ⊕ M)) : GSem nD τ sig := ((p.1.tc : Thread nD τ), .dma (P.sem p.2))

theorem cell_inj : Function.Injective (P.cell (τ := τ)) := by
  rintro ⟨c, j⟩ ⟨c', j'⟩ h
  have h1 : c = c' := congrArg (fun g : GSem nD τ sig => g.1.1) h
  have h2 : P.sem j = P.sem j' := SemLoc.dma.inj (congrArg Prod.snd h)
  rw [h1, P.inj h2]

/-- What one copy signals on cell `j`. -/
def jamt : K ⊕ K ⊕ M → ℕ
  | .inl k => P.amt k
  | .inr (.inl k) => P.amt k
  | .inr (.inr i) => P.lamt i

theorem jamt_pos (j : K ⊕ K ⊕ M) : 0 < P.jamt j := by
  rcases j with k | k | i
  · exact P.amt_pos k
  · exact P.amt_pos k
  · exact P.lamt_pos i

/-- The share of `c`'s source that transfer `k` reads. -/
def srcP (c : Dev nD) (k : K) : sProp 𝕄 :=
  (P.x c k).src.view.loc (c.tc : Thread nD τ) ↦[(P.x c k).src.view.set]{P.q k} m _

/-- The landing place, on the device it is sent to, of what `c` sends in transfer `k`, at the launch's contents. -/
def dstP (c : Dev nD) (k : K) : sProp 𝕄 :=
  (P.x c k).dst.view.loc ((P.dest k c).tc : Thread nD τ) ↦[(P.x c k).dst.view.set]{fullShare} m _

/-- That landing place holding what `c` sends. -/
def sentP (c : Dev nD) (k : K) : sProp 𝕄 :=
  (P.x c k).dst.view.loc ((P.dest k c).tc : Thread nD τ) ↦[(P.x c k).dst.view.set]{fullShare}
    ((P.x c k).dst.view.write Val (m ((P.x c k).dst.view.loc ((P.dest k c).tc : Thread nD τ))) ((P.x c k).src.view.read Val (m ((P.x c k).src.view.loc (c.tc : Thread nD τ)))) Finset.univ)

/-- The share of the source of local copy `i`. -/
def lsrcP (c : Dev nD) (i : M) : sProp 𝕄 :=
  (P.l c i).src.view.loc (c.tc : Thread nD τ) ↦[(P.l c i).src.view.set]{P.lq i} m _

/-- The destination of local copy `i`, at the launch's contents. -/
def ldstP (c : Dev nD) (i : M) : sProp 𝕄 :=
  (P.l c i).dst.view.loc (c.tc : Thread nD τ) ↦[(P.l c i).dst.view.set]{fullShare} m _

/-- The destination of local copy `i`, written. -/
def ldoneP (c : Dev nD) (i : M) : sProp 𝕄 :=
  (P.l c i).dst.view.loc (c.tc : Thread nD τ) ↦[(P.l c i).dst.view.set]{fullShare}
    ((P.l c i).dst.view.write Val (m ((P.l c i).dst.view.loc (c.tc : Thread nD τ))) ((P.l c i).src.view.read Val (m ((P.l c i).src.view.loc (c.tc : Thread nD τ)))) Finset.univ)

instance srcP_storable (c : Dev nD) (k : K) : BI.Storable (upEmb : UEmb _ 𝕄) (P.srcP m c k) := by unfold srcP; infer_instance
instance sentP_storable (c : Dev nD) (k : K) : BI.Storable (upEmb : UEmb _ 𝕄) (P.sentP m c k) := by unfold sentP; infer_instance
instance lsrcP_storable (c : Dev nD) (i : M) : BI.Storable (upEmb : UEmb _ 𝕄) (P.lsrcP m c i) := by unfold lsrcP; infer_instance
instance ldoneP_storable (c : Dev nD) (i : M) : BI.Storable (upEmb : UEmb _ 𝕄) (P.ldoneP m c i) := by unfold ldoneP; infer_instance

/-- What cell `j` of device `c` hands over. -/
def pay (p : Dev nD × (K ⊕ K ⊕ M)) : sProp 𝕄 :=
  match p.2 with
  | .inl k => P.srcP m p.1 k
  | .inr (.inl k) => P.sentP m ((P.dest k).symm p.1) k
  | .inr (.inr i) => iprop(P.ldoneP m p.1 i ∗ P.lsrcP m p.1 i)

instance pay_storable (p : Dev nD × (K ⊕ K ⊕ M)) : BI.Storable (upEmb : UEmb _ 𝕄) (P.pay m p) := by
  obtain ⟨c, k | k | i⟩ := p
  · show BI.Storable upEmb (P.srcP m c k); infer_instance
  · show BI.Storable upEmb (P.sentP m ((P.dest k).symm c) k); infer_instance
  · show BI.Storable upEmb iprop(P.ldoneP m c i ∗ P.lsrcP m c i); infer_instance

open Classical in
/-- One round, one duty, on every cell of the exchange. -/
def rd : Rounds.Schedule (GSem nD τ sig) Unit 𝕄 where
  duties g r := if r = 0 ∧ ∃ p, g = P.cell p then {()} else ∅
  unitless _ := False
  amount g _ _ := if h : ∃ p, g = P.cell p then P.jamt h.choose.2 else 1
  payload g _ _ := if h : ∃ p, g = P.cell p then P.pay m h.choose else iprop(emp)
  amount_pos g _ _ _ := by
    by_cases h : ∃ p, g = P.cell p
    · rw [dif_pos h]; exact P.jamt_pos _
    · rw [dif_neg h]; exact Nat.one_pos

instance rd_payload_storable (g : GSem nD τ sig) (r : ℕ) (d : Unit) : BI.Storable (upEmb : UEmb _ 𝕄) ((P.rd m).payload g r d) := by
  dsimp only [rd]
  split <;> infer_instance

theorem ex_cell (p : Dev nD × (K ⊕ K ⊕ M)) : ∃ p', P.cell (τ := τ) p = P.cell p' := ⟨p, rfl⟩
theorem choose_cell (p : Dev nD × (K ⊕ K ⊕ M)) : (P.ex_cell (τ := τ) p).choose = p := (P.cell_inj (P.ex_cell p).choose_spec).symm

theorem duties_cell (p : Dev nD × (K ⊕ K ⊕ M)) : (P.rd m).duties (P.cell p) 0 = {()} := if_pos ⟨rfl, P.ex_cell p⟩
theorem mem_duties (p : Dev nD × (K ⊕ K ⊕ M)) : () ∈ (P.rd m).duties (P.cell p) 0 := by rw [duties_cell]; exact Finset.mem_singleton_self _
theorem duties_later (g : GSem nD τ sig) (r : ℕ) (hr : 1 ≤ r) : (P.rd m).duties g r = ∅ := if_neg fun h => by omega
theorem amount_cell (p : Dev nD × (K ⊕ K ⊕ M)) : (P.rd m).amount (P.cell p) 0 () = P.jamt p.2 := by
  dsimp only [rd]; rw [dif_pos (P.ex_cell p), choose_cell]
theorem payload_cell (p : Dev nD × (K ⊕ K ⊕ M)) : (P.rd m).payload (P.cell p) 0 () = P.pay m p := by
  dsimp only [rd]; rw [dif_pos (P.ex_cell p), choose_cell]
theorem expect_cell (p : Dev nD × (K ⊕ K ⊕ M)) : (P.rd m).expect (P.cell p) 0 = P.jamt p.2 := by
  unfold Schedule.expect Schedule.amountOf; rw [duties_cell, Finset.sum_singleton, amount_cell]
theorem rest_cell (p : Dev nD × (K ⊕ K ⊕ M)) :
    bigSep ((P.rd m).duties (P.cell p) 0 \ ∅) (fun u => (P.rd m).payload (P.cell p) 0 u) = P.pay m p := by
  rw [Finset.sdiff_empty, duties_cell, bigSep_singleton]; exact P.payload_cell m p

/-! ## The records every device shares -/

variable [Fintype K] [Fintype M] [DecidableEq K] [DecidableEq M]

/-- Every cell's invariant, and that its only round is reached. -/
def records (κ : Dev nD × (K ⊕ K ⊕ M) → ℕ) : sProp 𝕄 :=
  iprop((bigSep Finset.univ fun p => cellInv (ER nD τ sig Val) (P.rd m) (κ p) (P.cell p))
    ∗ bigSep Finset.univ fun p => reached (ER nD τ sig Val) (P.cell p) 0)
instance records_persistent (κ : Dev nD × (K ⊕ K ⊕ M) → ℕ) : BI.Persistent (P.records m κ) := by unfold records; infer_instance

theorem records_at (κ : Dev nD × (K ⊕ K ⊕ M) → ℕ) (p : Dev nD × (K ⊕ K ⊕ M)) :
    P.records m κ ⊢ iprop(cellInv (ER nD τ sig Val) (P.rd m) (κ p) (P.cell p) ∗ reached (ER nD τ sig Val) (P.cell p) 0) := by
  unfold records
  exact BI.sep_mono (bigSep_elim (Finset.mem_univ p)) (bigSep_elim (Finset.mem_univ p))

theorem inv_at (κ : Dev nD × (K ⊕ K ⊕ M) → ℕ) (p : Dev nD × (K ⊕ K ⊕ M)) :
    P.records m κ ⊢ cellInv (ER nD τ sig Val) (P.rd m) (κ p) (P.cell p) := by
  iintro H
  ihave H := (P.records_at m κ p) $$ H
  icases H with ⟨H, -⟩
  iexact H

/-! ## The steps -/

/-- Local copy `i`, started on device `c`. -/
def startE {Λ : Idealize.SL.Sem.Labels} (c : Dev nD) (i : M) : TpuEff nD τ sig Val Λ .tc PUnit :=
  .enqueueDma (P.l c i).src (.here (P.l c i).dst) (.dma (P.sem (.inr (.inr i)))) (P.l c i).hsrc (P.l c i).hdst ⟨Or.inl rfl, trivial⟩

/-- Transfer `k`, started on device `c`, to the device named `n`. -/
def sendE {Λ : Idealize.SL.Sem.Labels} (c n : Dev nD) (k : K) : TpuEff nD τ sig Val Λ .tc PUnit :=
  .enqueueDma (P.x c k).src (.remote (n.tc : Thread nD τ) (P.x c k).dst (.dma (P.sem (.inl k))) (P.x c k).hsc)
    (.dma (P.sem (.inr (.inl k)))) (P.x c k).hsrc (P.x c k).hdst ⟨⟨rfl, Or.inl rfl⟩, trivial⟩

variable {Λ : Idealize.SL.Sem.Labels} (defs : Defs nD τ sig Val Λ) (𝒱 : Variants)
variable (κ : Dev nD × (K ⊕ K ⊕ M) → ℕ)
variable {α : Type}

theorem wp_start {Ψ : α → sProp 𝕄} (c : Dev nD) (i : M) (k : PUnit → Prog (TpuEff nD τ sig Val Λ .tc) α) :
    iprop(P.records m κ ∗ P.lsrcP m c i ∗ P.ldstP m c i ∗ dutyTok (ER nD τ sig Val) (P.cell (c, .inr (.inr i))) 0 ())
      ⊢ iprop((cred (tallyAt (P.cell (c, .inr (.inr i))) () (P.lamt i)) -∗ wp frame (wpE defs 𝒱 (c.tc : Thread nD τ) none) Set.univ (k ⟨⟩) Ψ)
          -∗ wp frame (wpE defs 𝒱 (c.tc : Thread nD τ) none) Set.univ (.op (P.startE c i) k) Ψ) := by
  unfold lsrcP ldstP startE
  iintro ⟨#HR, Hs, Hd, Ht⟩ Hk
  ihave HR' := (P.records_at m κ (c, .inr (.inr i))) $$ HR
  icases HR' with ⟨#HI, #Hr⟩
  iapply (Rounds.wp_copy_pointsTo 𝒱 (ER nD τ sig Val) (P.rd m) (c.tc : Thread nD τ) none (κ := κ (c, .inr (.inr i)))
    (src := (P.l c i).src) (dst := (P.l c i).dst) (q := P.lq i) (fs := m _) (fd := m _) (r := 0) (d := ())
    (P.mem_duties m (c, .inr (.inr i))) () (P.lamt i) (P.lamt_eq c i) (P.amount_cell m (c, .inr (.inr i)))
    (Entails.of_eq (P.payload_cell m (c, .inr (.inr i))).symm)) $$ [Hs Hd Ht]
  · isplitr; · iexact HI
    isplitl [Hs]; · iexact Hs
    isplitl [Hd]; · iexact Hd
    isplitl [Ht]; · iexact Ht
    iexact Hr
  iexact Hk

theorem wp_send {Ψ : α → sProp 𝕄} (c n : Dev nD) (k : K) (hn : n = P.dest k c) (kk : PUnit → Prog (TpuEff nD τ sig Val Λ .tc) α)
    (O : CellTallies nD τ sig Unit) (W : Waits sig Unit) :
    iprop(P.records m κ ∗ P.srcP m c k ∗ P.dstP m c k
        ∗ owes (c.tc : Thread nD τ) (O + tallyAt (P.cell (P.dest k c, .inr (.inl k))) () (P.amt k)) W
        ∗ dutyTok (ER nD τ sig Val) (P.cell (c, .inl k)) 0 () ∗ dutyTok (ER nD τ sig Val) (P.cell (P.dest k c, .inr (.inl k))) 0 ())
      ⊢ iprop(((cred (tallyAt (P.cell (c, .inl k)) () (P.amt k)) ∗ owes (c.tc : Thread nD τ) O W)
            -∗ wp frame (wpE defs 𝒱 (c.tc : Thread nD τ) none) Set.univ (kk ⟨⟩) Ψ)
          -∗ wp frame (wpE defs 𝒱 (c.tc : Thread nD τ) none) Set.univ (.op (P.sendE c n k) kk) Ψ) := by
  subst hn
  have hp : P.sentP m c k ⊢ (P.rd m).payload (P.cell (P.dest k c, .inr (.inl k))) 0 () := by
    refine Entails.of_eq ((P.payload_cell m (P.dest k c, .inr (.inl k))).trans ?_).symm
    show P.sentP m ((P.dest k).symm (P.dest k c)) k = _
    rw [Equiv.symm_apply_apply]
  unfold srcP dstP sendE
  unfold sentP at hp
  iintro ⟨#HR, Hs, Hd, HO, Ht1, Ht2⟩ Hk
  ihave HR1 := (P.records_at m κ (c, .inl k)) $$ HR
  ihave HR2 := (P.records_at m κ (P.dest k c, .inr (.inl k))) $$ HR
  icases HR1 with ⟨#HI1, #Hr1⟩
  icases HR2 with ⟨#HI2, #Hr2⟩
  iapply (Rounds.wp_send_pointsTo 𝒱 (ER nD τ sig Val) (P.rd m) (c.tc : Thread nD τ) none
    (κ₁ := κ (c, .inl k)) (κ₂ := κ (P.dest k c, .inr (.inl k))) (src := (P.x c k).src) (c' := ((P.dest k c).tc : Thread nD τ)) (dst := (P.x c k).dst)
    (q := P.q k) (fs := m _) (fd := m _) (r₁ := 0) (r₂ := 0) (d₁ := ()) (d₂ := ())
    (P.mem_duties m (c, .inl k)) (P.mem_duties m (P.dest k c, .inr (.inl k))) () () (P.amt k) (P.amt_eq c k)
    (P.amount_cell m (c, .inl k)) (P.amount_cell m (P.dest k c, .inr (.inl k))) O rfl (W := W)
    (Entails.of_eq (P.payload_cell m (c, .inl k)).symm) hp) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

theorem wp_wait {Ψ : α → sProp 𝕄} (c : Dev nD) (j : K ⊕ K ⊕ M) (w : TpuEff nD τ sig Val Λ .tc PUnit)
    (hw : ∀ Kt : PUnit → sProp 𝕄, wpE defs 𝒱 (c.tc : Thread nD τ) none Set.univ w Kt
      = waitSpec (c.tc : Thread nD τ) Set.univ (.dma (P.sem j)) (P.jamt j) Kt)
    (k : PUnit → Prog (TpuEff nD τ sig Val Λ .tc) α) :
    iprop(P.records m κ ∗ cred (tallyAt (P.cell (c, j)) () (P.jamt j)) ∗ (∃ W, owes (c.tc : Thread nD τ) 0 W)
        ∗ atPos (ER nD τ sig Val) (P.cell (c, j)) 0 ∅ 0)
      ⊢ iprop((((∃ W, owes (c.tc : Thread nD τ) 0 W) ∗ atPos (ER nD τ sig Val) (P.cell (c, j)) 1 ∅ 0 ∗ P.pay m (c, j))
            -∗ wp frame (wpE defs 𝒱 (c.tc : Thread nD τ) none) Set.univ (k ⟨⟩) Ψ)
          -∗ wp frame (wpE defs 𝒱 (c.tc : Thread nD τ) none) Set.univ (.op w k) Ψ) := by
  iintro ⟨#HR, Hc, ⟨%W, HO⟩, Ha⟩ Hk
  ihave HR' := (P.records_at m κ (c, j)) $$ HR
  icases HR' with ⟨#HI, -⟩
  iapply (Rounds.wp_wait_rest_token 𝒱 (ER nD τ sig Val) (P.rd m) (c.tc : Thread nD τ) none (κ := κ (c, j)) hw (Set.mem_univ _) ()
      (O := 0) (W := W) (R := 0) (m := 0) (T := ∅) (by rw [Nat.zero_add]; exact (P.expect_cell m (c, j)).symm)) $$ [Hc HO Ha]
  · isplitr; · iexact HI
    isplitl [Hc]; · iexact Hc
    isplitl [HO]; · iexact HO
    isplitr; · rw [MayWait_zero]; iempintro
    iexact Ha
  iintro ⟨HO, Ha, -, Hp⟩
  ihave Hp' := (Entails.of_eq (P.rest_cell m (c, j))) $$ Hp
  iapply Hk
  isplitl [HO]; · iexists _; iexact HO
  isplitl [Ha]; · iexact Ha
  iexact Hp'

/-! ## Lists of steps -/

theorem wp_starts {Ψ : α → sProp 𝕄} (c : Dev nD) (k : Prog (TpuEff nD τ sig Val Λ .tc) α) : ∀ l : List M,
    iprop(P.records m κ ∗ lsep l (fun i => iprop(P.lsrcP m c i ∗ P.ldstP m c i ∗ dutyTok (ER nD τ sig Val) (P.cell (c, .inr (.inr i))) 0 ())))
      ⊢ iprop((lsep l (fun i => cred (tallyAt (P.cell (c, .inr (.inr i))) () (P.lamt i)))
            -∗ wp frame (wpE defs 𝒱 (c.tc : Thread nD τ) none) Set.univ k Ψ)
          -∗ wp frame (wpE defs 𝒱 (c.tc : Thread nD τ) none) Set.univ (ops (l.map (P.startE c)) k) Ψ)
  | [] => by
    rw [List.map_nil, ops_nil, lsep_nil, lsep_nil]
    iintro - Hk
    iapply Hk; iempintro
  | i :: l => by
    rw [List.map_cons, ops_cons, lsep_cons, lsep_cons]
    iintro ⟨#HR, ⟨Hs, Hd, Ht⟩, Hl⟩ Hk
    iapply (P.wp_start m defs 𝒱 κ c i) $$ [Hs Hd Ht]
    · isplitr; · iexact HR
      isplitl [Hs]; · iexact Hs
      isplitl [Hd] <;> iassumption
    iintro Hc
    iapply (wp_starts c k l) $$ [Hl]
    · isplitr; · iexact HR
      iexact Hl
    iintro Hl
    iapply Hk
    isplitl [Hc] <;> iassumption

/-- What device `c` owes for the transfers of a list. -/
def lowes (c : Dev nD) (l : List K) : CellTallies nD τ sig Unit :=
  l.foldr (fun k O => O + tallyAt (P.cell (P.dest k c, .inr (.inl k))) () (P.amt k)) 0

theorem wp_sends {Ψ : α → sProp 𝕄} (c : Dev nD) (nm : K → Dev nD) (hnm : ∀ k, nm k = P.dest k c) (W : Waits sig Unit)
    (kk : Prog (TpuEff nD τ sig Val Λ .tc) α) : ∀ l : List K,
    iprop(P.records m κ ∗ lsep l (fun k => iprop(P.srcP m c k ∗ P.dstP m c k ∗ dutyTok (ER nD τ sig Val) (P.cell (c, .inl k)) 0 ()
          ∗ dutyTok (ER nD τ sig Val) (P.cell (P.dest k c, .inr (.inl k))) 0 ()))
        ∗ owes (c.tc : Thread nD τ) (P.lowes c l) W)
      ⊢ iprop(((lsep l (fun k => cred (tallyAt (P.cell (c, .inl k)) () (P.amt k))) ∗ owes (c.tc : Thread nD τ) 0 W)
            -∗ wp frame (wpE defs 𝒱 (c.tc : Thread nD τ) none) Set.univ kk Ψ)
          -∗ wp frame (wpE defs 𝒱 (c.tc : Thread nD τ) none) Set.univ (ops (l.map fun k => P.sendE c (nm k) k) kk) Ψ)
  | [] => by
    rw [List.map_nil, ops_nil, lsep_nil, lsep_nil]
    iintro ⟨-, -, HO⟩ Hk
    iapply Hk
    isplitr; · iempintro
    iexact HO
  | k :: l => by
    rw [List.map_cons, ops_cons, lsep_cons, lsep_cons]
    iintro ⟨#HR, ⟨⟨Hs, Hd, Ht1, Ht2⟩, Hl⟩, HO⟩ Hk
    iapply (P.wp_send m defs 𝒱 κ c (nm k) k (hnm k) _ (P.lowes c l) W) $$ [Hs Hd Ht1 Ht2 HO]
    · isplitr; · iexact HR
      isplitl [Hs]; · iexact Hs
      isplitl [Hd]; · iexact Hd
      isplitl [HO]; · iexact HO
      isplitl [Ht1] <;> iassumption
    iintro ⟨Hc, HO⟩
    iapply (wp_sends c nm hnm W kk l) $$ [Hl HO]
    · isplitr; · iexact HR
      isplitl [Hl] <;> iassumption
    iintro ⟨Hl, HO⟩
    iapply Hk
    isplitr [HO]
    · isplitl [Hc] <;> iassumption
    iexact HO

theorem wp_waits {Ψ : α → sProp 𝕄} (c : Dev nD) {I : Type} (j : I → K ⊕ K ⊕ M) (w : I → TpuEff nD τ sig Val Λ .tc PUnit)
    (hw : ∀ (i : I) (Kt : PUnit → sProp 𝕄), wpE defs 𝒱 (c.tc : Thread nD τ) none Set.univ (w i) Kt
      = waitSpec (c.tc : Thread nD τ) Set.univ (.dma (P.sem (j i))) (P.jamt (j i)) Kt)
    (kk : Prog (TpuEff nD τ sig Val Λ .tc) α) : ∀ l : List I,
    iprop(P.records m κ ∗ lsep l (fun i => cred (tallyAt (P.cell (c, j i)) () (P.jamt (j i))))
        ∗ lsep l (fun i => atPos (ER nD τ sig Val) (P.cell (c, j i)) 0 ∅ 0) ∗ ∃ W, owes (c.tc : Thread nD τ) 0 W)
      ⊢ iprop(((lsep l (fun i => atPos (ER nD τ sig Val) (P.cell (c, j i)) 1 ∅ 0) ∗ lsep l (fun i => P.pay m (c, j i))
              ∗ ∃ W, owes (c.tc : Thread nD τ) 0 W)
            -∗ wp frame (wpE defs 𝒱 (c.tc : Thread nD τ) none) Set.univ kk Ψ)
          -∗ wp frame (wpE defs 𝒱 (c.tc : Thread nD τ) none) Set.univ (ops (l.map w) kk) Ψ)
  | [] => by
    simp only [List.map_nil, ops_nil, lsep_nil]
    iintro ⟨-, -, -, HO⟩ Hk
    iapply Hk
    isplitr; · iempintro
    isplitr; · iempintro
    iexact HO
  | i :: l => by
    simp only [List.map_cons, ops_cons, lsep_cons]
    iintro ⟨#HR, ⟨Hc, Hcs⟩, ⟨Ha, Has⟩, HO⟩ Hk
    iapply (P.wp_wait m defs 𝒱 κ c (j i) (w i) (hw i)) $$ [Hc Ha HO]
    · isplitr; · iexact HR
      isplitl [Hc]; · iexact Hc
      isplitl [HO] <;> iassumption
    iintro ⟨HO, Ha, Hp⟩
    iapply (wp_waits c j w hw kk l) $$ [Hcs Has HO]
    · isplitr; · iexact HR
      isplitl [Hcs]; · iexact Hcs
      isplitl [Has] <;> iassumption
    iintro ⟨Has, Hps, HO⟩
    iapply Hk
    isplitl [Ha Has]
    · isplitl [Ha] <;> iassumption
    isplitr [HO]
    · isplitl [Hp] <;> iassumption
    iexact HO

/-! ## One device's part -/

/-- What device `c` starts from, beside the shared records: its positions and tokens, its launch credit, its sources,
    the places on other devices it will write, and what the exchange does not touch. -/
def linear (Rest : Dev nD → sProp 𝕄) (c : Dev nD) : sProp 𝕄 :=
  iprop((bigSep Finset.univ fun j => atPos (ER nD τ sig Val) (P.cell (c, j)) 0 ∅ 0)
    ∗ (bigSep Finset.univ fun i => dutyTok (ER nD τ sig Val) (P.cell (c, .inr (.inr i))) 0 ())
    ∗ (bigSep Finset.univ fun k => dutyTok (ER nD τ sig Val) (P.cell (c, .inl k)) 0 ())
    ∗ (bigSep Finset.univ fun k => dutyTok (ER nD τ sig Val) (P.cell (P.dest k c, .inr (.inl k))) 0 ())
    ∗ (bigSep Finset.univ fun k => cred (tallyAt (P.cell (c, .inr (.inl k))) () (P.amt k)))
    ∗ (bigSep Finset.univ fun k => P.srcP m c k) ∗ (bigSep Finset.univ fun k => P.dstP m c k)
    ∗ (bigSep Finset.univ fun i => P.lsrcP m c i) ∗ (bigSep Finset.univ fun i => P.ldstP m c i) ∗ Rest c)

/-- What device `c`'s body starts from. -/
def start (Rest : Dev nD → sProp 𝕄) (c : Dev nD) : sProp 𝕄 := iprop(∃ κ, P.records m κ ∗ P.linear m Rest c)

/-- What device `c`'s body leaves: what its cells handed over, and what the exchange does not touch. -/
def fin (Rest : Dev nD → sProp 𝕄) (c : Dev nD) : sProp 𝕄 := iprop((bigSep Finset.univ fun j => P.pay m (c, j)) ∗ Rest c)

/-- What device `c` owes at launch. -/
def owed (c : Dev nD) : CellTallies nD τ sig Unit := ∑ k, tallyAt (P.cell (P.dest k c, .inr (.inl k))) () (P.amt k)

theorem lowes_toFinset (c : Dev nD) : ∀ l : List K, l.Nodup →
    P.lowes (τ := τ) c l = ∑ k ∈ l.toFinset, tallyAt (P.cell (P.dest k c, .inr (.inl k))) () (P.amt k)
  | [], _ => rfl
  | k :: l, h => by
    rw [List.toFinset_cons, Finset.sum_insert (fun hk => (List.nodup_cons.mp h).1 (List.mem_toFinset.mp hk)),
      ← lowes_toFinset c l (List.nodup_cons.mp h).2, add_comm]
    rfl

theorem lowes_eq (c : Dev nD) {l : List K} (hl : l.Nodup) (hm : ∀ k, k ∈ l) : P.lowes (τ := τ) c l = P.owed c := by
  rw [lowes_toFinset P c l hl, Finset.eq_univ_iff_forall.mpr fun k => List.mem_toFinset.mpr (hm k)]
  rfl

/-- One device's program: every copy started, then every wait, in the order of the lists. -/
def prog {Λ : Idealize.SL.Sem.Labels} (ls : List M) (ks : List K) (nm : Dev nD → K → Dev nD) (ws : List (K ⊕ K ⊕ M))
    (w : Dev nD → K ⊕ K ⊕ M → TpuEff nD τ sig Val Λ .tc PUnit) : Prog (TpuEff nD τ sig Val Λ .tc) PUnit :=
  .op .deviceId fun c => ops (ls.map (P.startE c)) (ops (ks.map fun k => P.sendE c (nm c k) k) (ops (ws.map (w c)) (.ret ⟨⟩)))

section Body

variable {ls : List M} (hls : ls.Nodup) (hlm : ∀ i, i ∈ ls) {ks : List K} (hks : ks.Nodup) (hkm : ∀ k, k ∈ ks)
variable {ws : List (K ⊕ K ⊕ M)} (hws : ws.Nodup) (hwm : ∀ j, j ∈ ws)
variable {nm : Dev nD → K → Dev nD} (hnm : ∀ c k, nm c k = P.dest k c)
variable {w : Dev nD → K ⊕ K ⊕ M → TpuEff nD τ sig Val Λ .tc PUnit}

omit [DecidableEq K] [DecidableEq M] in
theorem bigSep_cells (Φ : K ⊕ K ⊕ M → sProp 𝕄) :
    bigSep Finset.univ Φ = iprop((bigSep Finset.univ fun k => Φ (.inl k)) ∗ (bigSep Finset.univ fun k => Φ (.inr (.inl k)))
      ∗ bigSep Finset.univ fun i => Φ (.inr (.inr i))) :=
  (BI.bigSep_univ_sum Φ).trans (congrArg (fun R => iprop((bigSep Finset.univ fun k => Φ (.inl k)) ∗ R)) (BI.bigSep_univ_sum (fun j => Φ (.inr j))))

/-- The credit of the local copies, of the sends and of the launch is the credit of every cell. -/
theorem creds_all (c : Dev nD) :
    iprop((bigSep Finset.univ fun i : M => cred (tallyAt (P.cell (c, .inr (.inr i))) () (P.lamt i)))
        ∗ (bigSep Finset.univ fun k : K => cred (tallyAt (P.cell (c, .inl k)) () (P.amt k)))
        ∗ (bigSep Finset.univ fun k : K => cred (tallyAt (P.cell (c, .inr (.inl k))) () (P.amt k))))
      ⊢ (bigSep Finset.univ fun j => cred (tallyAt (P.cell (c, j)) () (P.jamt j)) : sProp 𝕄) := by
  rw [bigSep_cells (fun j => (cred (tallyAt (P.cell (c, j)) () (P.jamt j)) : sProp 𝕄))]
  iintro ⟨H1, H2, H3⟩
  isplitl [H2]; · iexact H2
  isplitl [H3]; · iexact H3
  iexact H1

include hls hlm hks hkm hws hwm hnm in
/-- One device's part of the exchange. -/
theorem wp_exchange (Rest : Dev nD → sProp 𝕄) (c : Dev nD)
    (hw : ∀ (j : K ⊕ K ⊕ M) (Kt : PUnit → sProp 𝕄), wpE defs 𝒱 (c.tc : Thread nD τ) none Set.univ (w c j) Kt
      = waitSpec (c.tc : Thread nD τ) Set.univ (.dma (P.sem j)) (P.jamt j) Kt) (Kt : PUnit → sProp 𝕄) :
    iprop((P.start m Rest c ∗ ∃ W, owes (c.tc : Thread nD τ) (P.owed c) W)
        ∗ ((P.fin m Rest c ∗ ownSems0 (fun j => .dma (P.sem j)) c ∗ ∃ W, owes (c.tc : Thread nD τ) (0 : CellTallies nD τ sig Unit) W) -∗ Kt ⟨⟩))
      ⊢ wp frame (wpE defs 𝒱 (c.tc : Thread nD τ) none) Set.univ (P.prog ls ks nm ws w) Kt := by
  unfold start linear prog
  rw [wp_deviceId]
  have e1 := lsep_univ (fun i => (cred (tallyAt (P.cell (c, .inr (.inr i))) () (P.lamt i)) : sProp 𝕄)) hls hlm
  have e2 := lsep_univ (fun k => (cred (tallyAt (P.cell (c, .inl k)) () (P.amt k)) : sProp 𝕄)) hks hkm
  have e3 := lsep_univ (fun j => (atPos (ER nD τ sig Val) (P.cell (c, j)) 1 ∅ 0 : sProp 𝕄)) hws hwm
  have e4 := lsep_univ (fun j => P.pay m (c, j)) hws hwm
  iintro ⟨⟨⟨%κ, #HR, Hat, HtL, HtS, HtR, Hcr, Hsrc, Hdst, Hls, Hld, Hrest⟩, ⟨%W, HO⟩⟩, Hk⟩
  iapply (P.wp_starts m defs 𝒱 κ c _ ls) $$ [HtL Hls Hld]
  · isplitr; · iexact HR
    rw [← lsep_univ (fun i => iprop(P.lsrcP m c i ∗ P.ldstP m c i ∗ dutyTok (ER nD τ sig Val) (P.cell (c, .inr (.inr i))) 0 ())) hls hlm,
      bigSep_sep', bigSep_sep']
    isplitl [Hls]; · iexact Hls
    isplitl [Hld] <;> iassumption
  iintro HcL
  ihave HcL := (Entails.of_eq e1.symm) $$ HcL
  iapply (P.wp_sends m defs 𝒱 κ c (nm c) (hnm c) W _ ks) $$ [HtS HtR Hsrc Hdst HO]
  · isplitr; · iexact HR
    rw [← lsep_univ (fun k => iprop(P.srcP m c k ∗ P.dstP m c k ∗ dutyTok (ER nD τ sig Val) (P.cell (c, .inl k)) 0 ()
          ∗ dutyTok (ER nD τ sig Val) (P.cell (P.dest k c, .inr (.inl k))) 0 ())) hks hkm,
      bigSep_sep', bigSep_sep', bigSep_sep', P.lowes_eq c hks hkm]
    isplitr [HO]
    · isplitl [Hsrc]; · iexact Hsrc
      isplitl [Hdst]; · iexact Hdst
      isplitl [HtS] <;> iassumption
    · iexact HO
  iintro ⟨HcS, HO⟩
  ihave HcS := (Entails.of_eq e2.symm) $$ HcS
  iapply (P.wp_waits m defs 𝒱 κ c (fun j => j) (w c) hw _ ws) $$ [Hat HcL HcS Hcr HO]
  · isplitr; · iexact HR
    rw [← lsep_univ (fun j => (cred (tallyAt (P.cell (c, j)) () (P.jamt j)) : sProp 𝕄)) hws hwm,
      ← lsep_univ (fun j => (atPos (ER nD τ sig Val) (P.cell (c, j)) 0 ∅ 0 : sProp 𝕄)) hws hwm]
    isplitl [HcL HcS Hcr]
    · iapply (P.creds_all (Val := Val) c)
      isplitl [HcL]; · iexact HcL
      isplitl [HcS] <;> iassumption
    isplitl [Hat]; · iexact Hat
    iexists W; iexact HO
  iintro ⟨Hat, Hpay, HO⟩
  ihave Hat := (Entails.of_eq e3.symm) $$ Hat
  ihave Hpay := (Entails.of_eq e4.symm) $$ Hpay
  imod (show iprop(P.records m κ ∗ bigSep Finset.univ fun j => atPos (ER nD τ sig Val) (P.cell (c, j)) 1 ∅ 0)
      ⊢ (|={Set.univ}=> bigSep Finset.univ fun j => semVal (P.cell (c, j)) 0 : sProp 𝕄) from by
    refine BI.Entails.trans ?_ (Rounds.cells_close (ER nD τ sig Val) (P.rd m) Finset.univ (fun j => P.cell (c, j)) (fun j => κ (c, j))
      (Es := Set.univ) (fun _ _ => Set.mem_univ _) (fun _ _ h => h) (fun _ => 1) (fun j _ => P.duties_later m (P.cell (c, j))))
    rw [bigSep_sep']
    refine BI.sep_mono ?_ (BI.Entails.refl _)
    refine (BI.bigSep_of_persistent Finset.univ (P.records m κ)).trans (bigSep_mono fun j _ => P.inv_at m κ (c, j))) $$ [Hat] with Hz
  · isplitr; · iexact HR
    iexact Hat
  rw [wp_ret]; imodintro
  iapply Hk
  unfold fin
  isplitl [Hpay Hrest]
  · isplitl [Hpay] <;> iassumption
  isplitl [Hz]; · unfold ownSems0; iexact Hz
  iexact HO

end Body

/-! ## The launch -/

theorem launch_cred (c : Dev nD) :
    (launchCred P.owed c : sProp 𝕄) ⊢ bigSep Finset.univ fun k => cred (tallyAt (P.cell (c, .inr (.inl k))) () (P.amt k)) := by
  have h : (launchCred P.owed c : sProp 𝕄)
      = bigSep Finset.univ fun k => launchCred (fun d => tallyAt (P.cell (P.dest k d, .inr (.inl k))) () (P.amt k)) c :=
    launchCred_sum Finset.univ (fun k d => tallyAt (P.cell (P.dest k d, .inr (.inl k))) () (P.amt k)) c
  rw [h]
  refine bigSep_mono fun k _ => (launchCred_elim _ c (.dma (P.sem (.inr (.inl k))))).trans (Entails.of_eq ?_)
  refine congrArg cred ?_
  unfold tallyAt
  refine congrArg _ (Finsupp.ext fun u => ?_)
  cases u
  rw [launchCredit_owing, Finsupp.single_eq_same, Finset.sum_eq_single ((P.dest k).symm c)]
  · show tallyAt (P.cell (P.dest k ((P.dest k).symm c), .inr (.inl k))) () (P.amt k) (P.cell (c, .inr (.inl k))) () = _
    rw [Equiv.apply_symm_apply, tallyAt_apply, if_pos ⟨rfl, rfl⟩]
  · intro d _ hd
    show tallyAt (P.cell (P.dest k d, .inr (.inl k))) () (P.amt k) (P.cell (c, .inr (.inl k))) () = 0
    rw [tallyAt_apply, if_neg]
    rintro ⟨h, -⟩
    have h' := congrArg Prod.fst (P.cell_inj h)
    exact hd (by rw [show c = P.dest k d from h', Equiv.symm_apply_apply])
  · intro h; exact absurd (Finset.mem_univ _) h

/-- The cells of the exchange, and the tokens of their duties. -/
def cellSet : Finset (GSem nD τ sig) := Finset.univ.map ⟨P.cell, P.cell_inj⟩
def tokSet : Finset (GSem nD τ sig × ℕ × Unit) :=
  Finset.univ.map ⟨fun p => (P.cell p, 0, ()), fun _ _ h => P.cell_inj (congrArg Prod.fst h)⟩

def ghost (c : Dev nD) : sProp 𝕄 :=
  iprop((bigSep Finset.univ fun j => roundState (ER nD τ sig Val) (P.rd m) (P.cell (c, j)) 0)
    ∗ (bigSep Finset.univ fun j => reached (ER nD τ sig Val) (P.cell (c, j)) 0)
    ∗ (bigSep Finset.univ fun j => atPos (ER nD τ sig Val) (P.cell (c, j)) 0 ∅ 0)
    ∗ (bigSep Finset.univ fun j => dutyTok (ER nD τ sig Val) (P.cell (c, j)) 0 ()))

theorem fund_ghost : BI.own ((ER nD τ sig Val) (initOf P.cellSet P.tokSet)) ⊢ (|==> bigSep Finset.univ (P.ghost m) : sProp 𝕄) := by
  have hX (Φ : GSem nD τ sig → sProp 𝕄) : bigSep P.cellSet Φ = bigSep Finset.univ fun c => bigSep Finset.univ fun j => Φ (P.cell (c, j)) := by
    unfold cellSet; rw [bigSep_map, bigSep_univ_prod]; rfl
  have hT : bigSep P.tokSet (fun x => (dutyTok (ER nD τ sig Val) x.1 x.2.1 x.2.2 : sProp 𝕄))
      = bigSep Finset.univ fun c => bigSep Finset.univ fun j => dutyTok (ER nD τ sig Val) (P.cell (c, j)) 0 () := by
    unfold tokSet; rw [bigSep_map, bigSep_univ_prod]; rfl
  iintro HX
  imod (Rounds.fund (ER nD τ sig Val) (P.rd m) P.cellSet P.tokSet) $$ HX with ⟨Hst, Hr, Hat, Htok⟩
  imodintro
  unfold ghost
  simp only [bigSep_sep']
  rw [← hX (fun g => roundState (ER nD τ sig Val) (P.rd m) g 0), ← hX (fun g => reached (ER nD τ sig Val) g 0),
    ← hX (fun g => atPos (ER nD τ sig Val) g 0 ∅ 0), ← hT]
  isplitl [Hst]; · iexact Hst
  isplitl [Hr]; · iexact Hr
  isplitl [Hat]; · iexact Hat
  iexact Htok

/-- Every device's cells get their invariants. -/
theorem ghost_alloc (c : Dev nD) :
    iprop(ownSems0 (fun j => .dma (P.sem j)) c ∗ P.ghost m c)
      ⊢ |={Set.univ}=> iprop((bigSep Finset.univ fun j => iprop(∃ κ : ℕ, cellInv (ER nD τ sig Val) (P.rd m) κ (P.cell (c, j))))
        ∗ (bigSep Finset.univ fun j => reached (ER nD τ sig Val) (P.cell (c, j)) 0)
        ∗ (bigSep Finset.univ fun j => atPos (ER nD τ sig Val) (P.cell (c, j)) 0 ∅ 0)
        ∗ (bigSep Finset.univ fun j => dutyTok (ER nD τ sig Val) (P.cell (c, j)) 0 ())) := by
  unfold ghost
  iintro ⟨Hv, Hst, Hrest⟩
  imod (show iprop((bigSep Finset.univ fun j => semVal (P.cell (c, j)) 0) ∗ bigSep Finset.univ fun j => roundState (ER nD τ sig Val) (P.rd m) (P.cell (c, j)) 0)
      ⊢ (|={Set.univ}=> bigSep Finset.univ fun j => iprop(∃ κ : ℕ, cellInv (ER nD τ sig Val) (P.rd m) κ (P.cell (c, j))) : sProp 𝕄) from by
        rw [← bigSep_sep']
        exact (bigSep_mono fun j _ => (Rounds.body_intro (ER nD τ sig Val) (P.rd m) (P.cell (c, j))).trans inv_alloc).trans (bigSep_fupd _ _)) $$ [Hv Hst] with Hinv
  · isplitl [Hv]; · unfold ownSems0; iexact Hv
    iexact Hst
  imodintro
  isplitl [Hinv]; · iexact Hinv
  iexact Hrest

/-- The part of device `c`'s buffers that transfer `k` writes. -/
def landP (c : Dev nD) (k : K) : sProp 𝕄 := P.dstP m ((P.dest k).symm c) k

/-- Dealt to the devices that write them. -/
theorem deal_land :
    (bigSep Finset.univ fun c => bigSep Finset.univ fun k => P.landP m c k) = (bigSep Finset.univ fun c => bigSep Finset.univ fun k => P.dstP m c k : sProp 𝕄) := by
  rw [bigSep_swap, bigSep_swap (fun c k => P.dstP m c k)]
  exact bigSep_congr fun k _ => (bigSep_univ_equiv (P.dest k).symm (fun c => P.dstP m c k)).symm

theorem deal_toks :
    (bigSep Finset.univ fun c => bigSep Finset.univ fun k => (dutyTok (ER nD τ sig Val) (P.cell (c, .inr (.inl k))) 0 () : sProp 𝕄))
      = bigSep Finset.univ fun c => bigSep Finset.univ fun k => dutyTok (ER nD τ sig Val) (P.cell (P.dest k c, .inr (.inl k))) 0 () := by
  rw [bigSep_swap, bigSep_swap (fun c k => (dutyTok (ER nD τ sig Val) (P.cell (P.dest k c, .inr (.inl k))) 0 () : sProp 𝕄))]
  exact bigSep_congr fun k _ => bigSep_univ_equiv (P.dest k) (fun c => (dutyTok (ER nD τ sig Val) (P.cell (c, .inr (.inl k))) 0 () : sProp 𝕄))

/-- A device's holdings between the two halves of the launch's update. -/
def mid (Rest : Dev nD → sProp 𝕄) (c : Dev nD) : sProp 𝕄 :=
  iprop(((bigSep Finset.univ fun j => iprop(∃ κ : ℕ, cellInv (ER nD τ sig Val) (P.rd m) κ (P.cell (c, j))))
        ∗ (bigSep Finset.univ fun j => reached (ER nD τ sig Val) (P.cell (c, j)) 0)
        ∗ (bigSep Finset.univ fun j => atPos (ER nD τ sig Val) (P.cell (c, j)) 0 ∅ 0)
        ∗ (bigSep Finset.univ fun j => dutyTok (ER nD τ sig Val) (P.cell (c, j)) 0 ()))
        ∗ (bigSep Finset.univ fun k => cred (tallyAt (P.cell (c, .inr (.inl k))) () (P.amt k)))
        ∗ ((bigSep Finset.univ fun k => P.srcP m c k) ∗ (bigSep Finset.univ fun k => P.landP m c k)
        ∗ (bigSep Finset.univ fun i => P.lsrcP m c i) ∗ (bigSep Finset.univ fun i => P.ldstP m c i) ∗ Rest c))

theorem start_intro (Rest : Dev nD → sProp 𝕄) (κ : Dev nD × (K ⊕ K ⊕ M) → ℕ) (c : Dev nD) :
    iprop(P.records m κ ∗ P.linear m Rest c) ⊢ P.start m Rest c := by
  unfold start
  iintro H
  iexists κ; iexact H

/-- The invariants' names chosen, the tokens and the landing places dealt out. -/
theorem regroup (Rest : Dev nD → sProp 𝕄) : (bigSep Finset.univ (P.mid m Rest) : sProp 𝕄) ⊢ bigSep Finset.univ (P.start m Rest) := by
  unfold mid
  simp only [bigSep_sep']
  rw [P.deal_land m]
  have htok : (bigSep Finset.univ fun c => bigSep Finset.univ fun j => (dutyTok (ER nD τ sig Val) (P.cell (c, j)) 0 () : sProp 𝕄))
      = iprop((bigSep Finset.univ fun c => bigSep Finset.univ fun k => dutyTok (ER nD τ sig Val) (P.cell (c, .inl k)) 0 ())
        ∗ (bigSep Finset.univ fun c => bigSep Finset.univ fun k => dutyTok (ER nD τ sig Val) (P.cell (P.dest k c, .inr (.inl k))) 0 ())
        ∗ bigSep Finset.univ fun c => bigSep Finset.univ fun i => dutyTok (ER nD τ sig Val) (P.cell (c, .inr (.inr i))) 0 ()) := by
    rw [← P.deal_toks, ← bigSep_sep', ← bigSep_sep']
    exact bigSep_congr fun c _ => bigSep_cells _
  rw [htok, ← bigSep_univ_prod (fun p => iprop(∃ κ : ℕ, cellInv (ER nD τ sig Val) (P.rd m) κ (P.cell p))),
    ← bigSep_univ_prod (fun p => (reached (ER nD τ sig Val) (P.cell p) 0 : sProp 𝕄))]
  iintro ⟨⟨HI, #HR, Hat, ⟨HtS, HtR, HtL⟩⟩, Hc, Hsrc, Hdst, Hls, Hld, Hrest⟩
  ihave HK := (BI.bigSep_exists_pi Finset.univ (fun p (κ : ℕ) => (cellInv (ER nD τ sig Val) (P.rd m) κ (P.cell p) : sProp 𝕄))) $$ HI
  icases HK with ⟨%κ, #HI⟩
  have hfin : iprop(P.records m κ ∗ bigSep Finset.univ (P.linear m Rest)) ⊢ bigSep Finset.univ (P.start m Rest) := by
    refine (sep_mono_left (BI.bigSep_of_persistent (Finset.univ : Finset (Dev nD)) (P.records m κ))).trans ?_
    rw [← bigSep_sep']
    refine bigSep_mono fun c _ => P.start_intro m Rest κ c
  iapply hfin
  isplitr
  · unfold records
    isplitl; · iexact HI
    iexact HR
  unfold linear
  simp only [bigSep_sep']
  isplitl [Hat]; · iexact Hat
  isplitl [HtL]; · iexact HtL
  isplitl [HtS]; · iexact HtS
  isplitl [HtR]; · iexact HtR
  isplitl [Hc]; · iexact Hc
  isplitl [Hsrc]; · iexact Hsrc
  isplitl [Hdst]; · iexact Hdst
  isplitl [Hls]; · iexact Hls
  isplitl [Hld]; · iexact Hld
  iexact Hrest

/-- The one update of the launch. -/
theorem glob (Rest : Dev nD → sProp 𝕄)
    (hsplit : ∀ c, (unscopedBufs c (fun b => m ((c.tc : Thread nD τ).loc b)) : sProp 𝕄)
      ⊢ iprop((bigSep Finset.univ fun k => P.srcP m c k) ∗ (bigSep Finset.univ fun k => P.landP m c k)
        ∗ (bigSep Finset.univ fun i => P.lsrcP m c i) ∗ (bigSep Finset.univ fun i => P.ldstP m c i) ∗ Rest c)) :
    (bigSep Finset.univ fun c : Dev nD => iprop(unscopedBufs c (fun b => m ((c.tc : Thread nD τ).loc b))
        ∗ ownSems0 (fun j => .dma (P.sem j)) c ∗ launchCred P.owed c ∗ P.ghost m c) : sProp 𝕄)
      ⊢ |={Set.univ}=> bigSep Finset.univ (P.start m Rest) := by
  have h1 (c : Dev nD) : iprop(unscopedBufs c (fun b => m ((c.tc : Thread nD τ).loc b))
        ∗ ownSems0 (fun j => .dma (P.sem j)) c ∗ launchCred P.owed c ∗ P.ghost m c)
      ⊢ |={Set.univ}=> P.mid m Rest c := by
    unfold mid
    iintro ⟨Hb, Hs, Hc, Hg⟩
    imod (P.ghost_alloc m c) $$ [Hs Hg] with H
    · isplitl [Hs] <;> iassumption
    imodintro
    isplitl [H]; · iexact H
    isplitl [Hc]; · iapply (P.launch_cred c); iexact Hc
    iapply (hsplit c); iexact Hb
  have h2 : (bigSep Finset.univ fun c : Dev nD => iprop(unscopedBufs c (fun b => m ((c.tc : Thread nD τ).loc b))
        ∗ ownSems0 (fun j => .dma (P.sem j)) c ∗ launchCred P.owed c ∗ P.ghost m c) : sProp 𝕄)
      ⊢ |={Set.univ}=> bigSep Finset.univ (P.mid m Rest) := (bigSep_mono fun c _ => h1 c).trans (bigSep_fupd _ _)
  refine h2.trans (BI.fupd_mono (P.regroup m Rest))

end Plan

end Cert.Exchange

end
-- ==== Proof.Run.lean ====
/-
# Launching a one-shot exchange

`run_exchange`: a program whose only call is a one-shot exchange terminates, and afterwards every landing place reads
what was sent there, every source what it read at the launch (`Done`).
-/
module

public import proofs.«01_k».proof.Proof.Exchange

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type}

local notation "𝕄" => MT nD τ sig Unit Val ℕ (UU nD τ sig) ℕ

/-- A pure fact of every member of a family, read beside what is kept. -/
theorem read_all {I : Type} [Fintype I] [DecidableEq I] (Φ : I → sProp 𝕄) (S : sProp 𝕄) (φ : I → Prop) (h : ∀ i, iprop(Φ i ∗ S) ⊢ iprop(⌜φ i⌝)) :
    iprop(bigSep Finset.univ Φ ∗ S) ⊢ iprop(⌜∀ i, φ i⌝) :=
  (Laws.forall_intro fun i => (BI.sep_mono (bigSep_elim (Finset.mem_univ i)) (BI.Entails.refl _)).trans (h i)).trans pure_forall.2

/-- A view of a buffer held reads in the memory what the buffer's contents say. -/
theorem read_view {sp : Space} {s : Shape} {e : EltTy} (v : View sig .tc sp s e) (c : Dev nD) (q : PosShare TreeShare)
    (f : Buf Val (v.loc (c.tc : Thread nD τ))) (s' : Phys nD τ sig Val) :
    iprop((v.loc (c.tc : Thread nD τ) ↦[v.set]{q} f : sProp 𝕄) ∗ SI s')
      ⊢ iprop(⌜v.read Val (s'.mem.mem (v.loc (c.tc : Thread nD τ))) = v.read Val f⌝) := by
  iintro ⟨H, HS⟩
  ihave %h := (SI_pointsTo_agree (st := s')) $$ [H HS]
  · isplitl [HS] <;> iassumption
  ipureintro
  funext x
  rw [View.read_apply, View.read_apply, h _ (View.emb_mem_set _ x)]

namespace Plan

variable {K M : Type} (P : Plan nD sig K M)
variable (m : (ℓ : Loc nD τ sig) → Buf Val ℓ)

theorem landP_eq (c : Dev nD) (k : K) (c' : Dev nD) (h : P.dest k c' = c) :
    P.landP m c k = ((P.x c' k).dst.view.loc (c.tc : Thread nD τ) ↦[(P.x c' k).dst.view.set]{fullShare} m _ : sProp 𝕄) := by
  subst h
  unfold landP dstP
  rw [Equiv.symm_apply_apply]

theorem sentP_eq (c : Dev nD) (k : K) (c' : Dev nD) (h : P.dest k c' = c) :
    P.sentP m c' k = ((P.x c' k).dst.view.loc (c.tc : Thread nD τ) ↦[(P.x c' k).dst.view.set]{fullShare}
      ((P.x c' k).dst.view.write Val (m ((P.x c' k).dst.view.loc (c.tc : Thread nD τ)))
        ((P.x c' k).src.view.read Val (m ((P.x c' k).src.view.loc (c'.tc : Thread nD τ)))) Finset.univ) : sProp 𝕄) := by
  subst h
  rfl

/-- What one device's memory holds after the exchange, at `s`. -/
structure Done (c : Dev nD) (s : (ℓ : Loc nD τ sig) → Buf Val ℓ) : Prop where
  src : ∀ k, (P.x c k).src.view.read Val (s ((P.x c k).src.view.loc (c.tc : Thread nD τ)))
    = (P.x c k).src.view.read Val (m ((P.x c k).src.view.loc (c.tc : Thread nD τ)))
  dst : ∀ k c', P.dest k c' = c → (P.x c' k).dst.view.read Val (s ((P.x c' k).dst.view.loc (c.tc : Thread nD τ)))
    = (P.x c' k).src.view.read Val (m ((P.x c' k).src.view.loc (c'.tc : Thread nD τ)))
  lsrc : ∀ i, (P.l c i).src.view.read Val (s ((P.l c i).src.view.loc (c.tc : Thread nD τ)))
    = (P.l c i).src.view.read Val (m ((P.l c i).src.view.loc (c.tc : Thread nD τ)))
  ldst : ∀ i, (P.l c i).dst.view.read Val (s ((P.l c i).dst.view.loc (c.tc : Thread nD τ)))
    = (P.l c i).src.view.read Val (m ((P.l c i).src.view.loc (c.tc : Thread nD τ)))

variable [Fintype K] [Fintype M] [DecidableEq K] [DecidableEq M]

theorem fin_read (Rest : Dev nD → sProp 𝕄) (c : Dev nD) (s' : Phys nD τ sig Val) :
    iprop(P.fin m Rest c ∗ SI s') ⊢ |={Set.univ}=> iprop(⌜P.Done m c s'.mem.mem⌝ ∗ SI s') := by
  unfold fin
  have h : iprop(bigSep Finset.univ (fun j => P.pay m (c, j)) ∗ SI s') ⊢ iprop(⌜P.Done m c s'.mem.mem⌝) := by
    refine (read_all (fun j => P.pay m (c, j)) (SI s') (fun j => match j with
      | .inl k => (P.x c k).src.view.read Val (s'.mem.mem ((P.x c k).src.view.loc (c.tc : Thread nD τ)))
          = (P.x c k).src.view.read Val (m ((P.x c k).src.view.loc (c.tc : Thread nD τ)))
      | .inr (.inl k) => ∀ c', P.dest k c' = c → (P.x c' k).dst.view.read Val (s'.mem.mem ((P.x c' k).dst.view.loc (c.tc : Thread nD τ)))
          = (P.x c' k).src.view.read Val (m ((P.x c' k).src.view.loc (c'.tc : Thread nD τ)))
      | .inr (.inr i) => ((P.l c i).dst.view.read Val (s'.mem.mem ((P.l c i).dst.view.loc (c.tc : Thread nD τ)))
          = (P.l c i).src.view.read Val (m ((P.l c i).src.view.loc (c.tc : Thread nD τ))))
        ∧ (P.l c i).src.view.read Val (s'.mem.mem ((P.l c i).src.view.loc (c.tc : Thread nD τ)))
          = (P.l c i).src.view.read Val (m ((P.l c i).src.view.loc (c.tc : Thread nD τ)))) fun j => ?_).trans
      (BI.pure_mono fun hj => ⟨fun k => hj (.inl k), fun k => hj (.inr (.inl k)), fun i => (hj (.inr (.inr i))).2, fun i => (hj (.inr (.inr i))).1⟩)
    match j with
    | .inl k => exact read_view _ c _ _ s'
    | .inr (.inl k) =>
      show iprop(P.sentP m ((P.dest k).symm c) k ∗ SI s') ⊢ _
      rw [P.sentP_eq m c k _ (Equiv.apply_symm_apply _ _)]
      refine (read_view _ c _ _ s').trans (BI.pure_mono fun h c' hc => ?_)
      obtain rfl : (P.dest k).symm c = c' := by rw [← hc, Equiv.symm_apply_apply]
      rw [h, View.read_write_univ]
    | .inr (.inr i) =>
      show iprop((P.ldoneP m c i ∗ P.lsrcP m c i) ∗ SI s') ⊢ _
      unfold ldoneP lsrcP
      iintro ⟨⟨H1, H2⟩, HS⟩
      ihave %h1 := (SI_pointsTo_agree (st := s')) $$ [H1 HS]
      · isplitl [HS] <;> iassumption
      ihave %h2 := (SI_pointsTo_agree (st := s')) $$ [H2 HS]
      · isplitl [HS] <;> iassumption
      ipureintro
      constructor
      · rw [← View.read_write_univ (v := (P.l c i).dst.view) (m ((P.l c i).dst.view.loc (c.tc : Thread nD τ)))
          ((P.l c i).src.view.read Val (m ((P.l c i).src.view.loc (c.tc : Thread nD τ))))]
        funext x
        rw [View.read_apply, View.read_apply, h1 _ (View.emb_mem_set _ x)]
      · funext x
        rw [View.read_apply, View.read_apply, h2 _ (View.emb_mem_set _ x)]
  iintro ⟨⟨H, -⟩, HS⟩
  ihave %hd := h $$ [H HS]
  · isplitl [H] <;> iassumption
  imodintro
  isplitr; · ipureintro; exact hd
  iexact HS

section Launch

variable {Λ₀ : Idealize.SL.Sem.Labels} {Q : Type} [Fintype Q]
variable (pcs : Q → PCfg sig Λ₀ Val) (a : (p : Q) → (pcs p).Adm)
variable (phinj : Function.Injective (cellOf (nD := nD) (τ := τ) (pin pcs a)))
variable (p : Q) (hw : WinFacts₀ (pcs p).spec) (ho : OwnSemFacts (pcs p).spec (fun j => SemLoc.dma (P.sem j)))
variable (defs₀ : Defs nD τ sig Val Λ₀)
variable {ls : List M} (hls : ls.Nodup) (hlm : ∀ i, i ∈ ls) {ks : List K} (hks : ks.Nodup) (hkm : ∀ k, k ∈ ks)
variable {ws : List (K ⊕ K ⊕ M)} (hws : ws.Nodup) (hwm : ∀ j, j ∈ ws)
variable {nm : Dev nD → K → Dev nD} (hnm : ∀ c k, nm c k = P.dest k c)
variable {w : Dev nD → K ⊕ K ⊕ M → TpuEff nD τ sig Val Λ₀ .tc PUnit}

include phinj hw ho hls hlm hks hkm hws hwm hnm in
/-- The program whose only call is the exchange: it terminates, with every counter the call owns at zero and every
    device's memory as `Done` says. -/
theorem run_exchange [DecidableEq Q] [∀ e, Nonempty (Val e)]
    (hW : ∀ p, IsEmpty (Fin (pcs p).W)) (hK : IsEmpty (Fin (pcs p).pre.K)) (hN : (pin pcs a p).N = 1)
    (g : Dev nD → PrngReg)
    (main : Dev nD → Prog (TpuEff nD τ sig Val (Sig Λ₀ Q fun p => (pcs p).Adm) .tc) PUnit)
    (hmain : ∀ c, main c = .op (.customCall (entry p) ()) fun _ => .ret ⟨⟩)
    (hbody : ∀ (c : Dev nD) (t : Fin (pin pcs a p).N) (Kt : sProp 𝕄),
      wp frame (wpE defs₀ Variants.none (c.tc : Thread nD τ) none) Set.univ
          (defs₀ .tc (pin pcs a p).body ((pin pcs a p).bodyArgs t ((pin pcs a p).slots t))) (fun _ => Kt)
        = wp frame (wpE defs₀ Variants.none (c.tc : Thread nD τ) none) Set.univ (P.prog ls ks nm ws w) fun _ => Kt)
    (hwait : ∀ (c : Dev nD) (j : K ⊕ K ⊕ M) (Kt : PUnit → sProp 𝕄), wpE defs₀ Variants.none (c.tc : Thread nD τ) none Set.univ (w c j) Kt
      = waitSpec (c.tc : Thread nD τ) Set.univ (.dma (P.sem j)) (P.jamt j) Kt)
    (hsplit : ∀ c, (unscopedBufs c (fun b => m ((c.tc : Thread nD τ).loc b)) : sProp 𝕄)
      ⊢ iprop((bigSep Finset.univ fun k => P.srcP m c k) ∗ (bigSep Finset.univ fun k => P.landP m c k)
        ∗ (bigSep Finset.univ fun i => P.lsrcP m c i) ∗ (bigSep Finset.univ fun i => P.ldstP m c i) ∗ emp))
    {R : PUnit × MemSt nD τ sig Val → Prop}
    (hR : ∀ s : MemSt nD τ sig Val, (∀ c : Dev nD, P.Done m c s.mem) →
      (∀ g' : GSem nD τ sig, (g'.1.2 ≠ .tc ∨ g'.2.isScoped .tc = true) → s.sem g' = 0) → R (⟨⟩, s)) :
    θ_run (Pipeline.defs pcs defs₀) (onTc main) ⟨m, fun _ => 0, g⟩ R :=
  run_windowless pcs a phinj p hw ho (EP nD τ sig Val) defs₀ Variants.none hW hK hN m g main hmain
    P.owed (P.ghost m) (P.start m fun _ => iprop(emp)) (P.fin m fun _ => iprop(emp))
    (1, initOf P.cellSet P.tokSet)
    (by
      iintro Hu
      ihave H := (ownU_pair _ _) $$ Hu
      icases H with ⟨-, HX⟩
      imod (P.fund_ghost m) $$ HX with HG
      imodintro
      iexact HG)
    (P.glob m (fun _ => iprop(emp)) hsplit)
    (fun c t Kt => by
      rw [hbody c t Kt]
      exact P.wp_exchange m defs₀ Variants.none hls hlm hks hkm hws hwm hnm (fun _ => iprop(emp)) c (hwait c) fun _ => Kt)
    (fun c s => P.Done m c s.mem)
    (fun c s' => P.fin_read m (fun _ => iprop(emp)) c s')
    hR

end Launch

end Plan

end Cert.Exchange

end
-- ==== Proof.Slots.lean ====
/-
# One member of a stack of arrays, as a place to copy from or to

A copy that moves member `g` of a stack `[G, …]` names a slice of one member with its leading unit axis squeezed away:
`slot`. A slot at offsets `(g, 0, …)` reads member `g` of what the whole stack reads, and the slots of all the members
are the whole stack, in separate pieces.
-/
module

public import proofs.«01_k».proof.Proof.Run
public import Idealize.ShloMosaic.Lib.Pipeline.StackWindow

@[expose] public section

noncomputable section

namespace Cert.Exchange

open Idealize.ShloMosaic
open Idealize.ShloMosaic.TcCoe
open Idealize.ShloMosaic.StackWindow Idealize.ShloMosaic.StackMember
open Idealize.SL Idealize.SL.RA Idealize.SL.BI
open scoped Idealize.SL.BI
open Idealize.SL.BI.BIBase Idealize.SL.BI.Laws Idealize.SL.ProofMode Idealize.SL.Sem
open Idealize.ShloMosaic.Pipeline

variable {sig : RefSig} {e : EltTy} {G r : ℕ} {d : Fin r → ℕ}

/-- The offsets of member `g`. -/
structure AtMember (off : Fin (r + 1) → ℕ) (g : Fin G) : Prop where
  leading : off 0 = g.val
  rest : ∀ b : Fin r, off b.succ = 0

/-- The slice at the offsets `off` of one member's sizes, its leading axis squeezed away. -/
abbrev slot (M : Memref sig .tc .hbm (stackShape G d) e) (off : Fin (r + 1) → ℕ)
    (inb : ∀ a, off a + (blockShape d).size a ≤ (stackShape G d).size a) (hq : (blockShape d).Squeezes ⟨r, d⟩) :
    Memref sig .tc .hbm ⟨r, d⟩ e :=
  (M.slice (Rect.unit (s := stackShape G d) off (blockShape d).size inb) (fun _ => rfl)).squeeze ⟨r, d⟩ hq

variable (M : Memref sig .tc .hbm (stackShape G d) e) (off : Fin (r + 1) → ℕ)
  (inb : ∀ a, off a + (blockShape d).size a ≤ (stackShape G d).size a) (hq : (blockShape d).Squeezes ⟨r, d⟩)

theorem AtMember.isMemberRect {off : Fin (r + 1) → ℕ} {g : Fin G} (h : AtMember off g) : IsMemberRect off (blockShape d).size d g :=
  ⟨h.leading, h.rest, rfl, fun _ => rfl⟩

theorem AtMember.embeds {off : Fin (r + 1) → ℕ} {g : Fin G} (h : AtMember off g)
    (inb : ∀ a, off a + (blockShape d).size a ≤ (stackShape G d).size a) :
    EmbedsMember (d := d) (Rect.unit (s := stackShape G d) off (blockShape d).size inb).emb g where
  leading y := by
    have h0 : (y 0).val = 0 := by
      have := (y 0).isLt
      change (y 0).val < 1 at this
      omega
    rw [Rect.emb_apply]; show off 0 + 1 * (y 0).val = _
    rw [h.leading, h0]; omega
  rest y b := by
    rw [Rect.emb_apply]; show off b.succ + 1 * (y b.succ).val = _
    rw [h.rest]; omega

/-- A slot reads its member of what the stack reads. -/
theorem slot_read {Val : EltTy → Type} {g : Fin G} (h : AtMember off g) (f : (slot M off inb hq).view.ty.Contents Val) :
    (slot M off inb hq).view.read Val f = memberAt (M.view.read Val f) g := by
  have e := (h.embeds inb).shapeCast_eq_memberAt (M.view.read Val f) (Shape.Squeezes.numel_eq hq)
  rw [← e]
  rfl

/-- The elements of a slot, in the stack's buffer. -/
def slotSet : Finset M.view.ty.Idx := (Rect.unit (s := stackShape G d) off (blockShape d).size inb).set.map M.view.emb

theorem slot_set : (slot M off inb hq).view.set = slotSet M off inb :=
  (View.set_reshape (v := M.view.slice (Rect.unit (s := stackShape G d) off (blockShape d).size inb)) hq.numel_eq).trans (View.set_slice _ _)

variable {nD : ℕ} {τ : Topo} {Val : EltTy → Type}

local notation "𝕄" => MT nD τ sig Unit Val ℕ (UU nD τ sig) ℕ

/-- A stack held whole is its members held separately. -/
theorem slots_split {T : Type} [Fintype T] [DecidableEq T] (hM : M.IsWhole) (offs : T → Fin (r + 1) → ℕ)
    (inbs : ∀ t a, offs t a + (blockShape d).size a ≤ (stackShape G d).size a) (g : T → Fin G)
    (hoff : ∀ t, AtMember (offs t) (g t)) (hg : Function.Bijective g) (c : Dev nD) (q : PosShare TreeShare)
    (V : Buf Val (M.view.loc (c.tc : Thread nD τ))) :
    (M.view.loc (c.tc : Thread nD τ) ↦{q} V : sProp 𝕄)
      = bigSep Finset.univ fun t => ((slot M (offs t) (inbs t) hq).view.loc (c.tc : Thread nD τ)
          ↦[(slot M (offs t) (inbs t) hq).view.set]{q} V : sProp 𝕄) := by
  have hmem := fun t => (hoff t).isMemberRect.mem_set_iff (inb := inbs t)
  have hu : (Finset.univ : Finset T).biUnion (fun t => slotSet M (offs t) (inbs t)) = Finset.univ := by
    rw [← hM.set_eq_univ]
    ext i
    rw [Finset.mem_biUnion]
    constructor
    · rintro ⟨t, -, ht⟩
      obtain ⟨x, -, rfl⟩ := Finset.mem_map.mp ht
      exact View.emb_mem_set _ x
    · intro hi
      obtain ⟨x, rfl⟩ := View.exists_emb_of_mem_set _ hi
      obtain ⟨t, ht⟩ := hg.2 (x 0)
      exact ⟨t, Finset.mem_univ _, Finset.mem_map_of_mem _ ((hmem t x).mpr (congrArg Fin.val ht.symm))⟩
  have hd : ∀ t ∈ (Finset.univ : Finset T), ∀ t' ∈ (Finset.univ : Finset T), t ≠ t' →
      Disjoint (slotSet M (offs t) (inbs t)) (slotSet M (offs t') (inbs t')) := by
    intro t _ t' _ hne
    unfold slotSet
    rw [Finset.disjoint_map, Finset.disjoint_left]
    intro x hx hx'
    exact hne (hg.1 (Fin.ext (((hmem t x).mp hx).symm.trans ((hmem t' x).mp hx'))))
  have hs : (fun t => ((slot M (offs t) (inbs t) hq).view.loc (c.tc : Thread nD τ) ↦[(slot M (offs t) (inbs t) hq).view.set]{q} V : sProp 𝕄))
      = fun t => (M.view.loc (c.tc : Thread nD τ) ↦[slotSet M (offs t) (inbs t)]{q} V : sProp 𝕄) :=
    funext fun t => congrArg (fun K => (M.view.loc (c.tc : Thread nD τ) ↦[K]{q} V : sProp 𝕄)) (slot_set M (offs t) (inbs t) hq)
  rw [hs, ← pointsTo_biUnion (ℓ := M.view.loc (c.tc : Thread nD τ)) (q := q) (f := V) Finset.univ
    (fun t => slotSet M (offs t) (inbs t)) hd, hu]

/-- A stack reads the same in two memories when each of its members does. -/
theorem slots_read {T : Type} (offs : T → Fin (r + 1) → ℕ)
    (inbs : ∀ t a, offs t a + (blockShape d).size a ≤ (stackShape G d).size a) (g : T → Fin G)
    (hoff : ∀ t, AtMember (offs t) (g t)) (hg : Function.Surjective g) (f f' : M.view.ty.Contents Val)
    (h : ∀ t, (slot M (offs t) (inbs t) hq).view.read Val f = (slot M (offs t) (inbs t) hq).view.read Val f') :
    M.view.read Val f = M.view.read Val f' := by
  refine ext_memberAt fun x => ?_
  obtain ⟨t, rfl⟩ := hg x
  rw [← slot_read M (offs t) (inbs t) hq (hoff t), ← slot_read M (offs t) (inbs t) hq (hoff t)]
  exact h t

/-- An array held whole, dealt to `n` transfers and a local copy that read it. -/
theorem whole_deal {s : Shape} (W : Memref sig .tc .hbm s e) (hW : W.IsWhole) (n : ℕ) (c : Dev nD) (V : Buf Val (W.view.loc (c.tc : Thread nD τ))) :
    (W.view.loc (c.tc : Thread nD τ) ↦{fullShare} V : sProp 𝕄)
      ⊢ iprop((bigSep Finset.univ fun j : Fin n => W.view.loc (c.tc : Thread nD τ) ↦[W.view.set]{Transfers.shareTok fullShare n j} V)
        ∗ (W.view.loc (c.tc : Thread nD τ) ↦[W.view.set]{Transfers.shareDrop fullShare n} V)) := by
  rw [hW.set_eq_univ]
  iintro H
  ihave H' := (Transfers.pointsTo_toks_split fullShare n) $$ H
  icases H' with ⟨Ha, Hb⟩
  isplitl [Hb] <;> iassumption

/-- The unscoped buffers are two families of them, held separately. -/
theorem bufs_two {A B : Type} [Fintype A] [Fintype B] (f : A ⊕ B → Ref sig .tc) (hf : Function.Injective f)
    (hu : (Finset.univ.filter fun b : Ref sig .tc => ¬ b.isScoped) = Finset.univ.map ⟨f, hf⟩) (c : Dev nD)
    (V : (b : Ref sig .tc) → Buf Val ((c.tc : Thread nD τ).loc b)) :
    (unscopedBufs c V : sProp 𝕄)
      = iprop((bigSep Finset.univ fun a => (c.tc : Thread nD τ).loc (f (.inl a)) ↦{fullShare} V (f (.inl a)))
        ∗ bigSep Finset.univ fun b => (c.tc : Thread nD τ).loc (f (.inr b)) ↦{fullShare} V (f (.inr b))) := by
  unfold unscopedBufs
  rw [hu, bigSep_map, bigSep_univ_sum]
  rfl

/-- Families of sources and of destinations, each split into what its transfers and its local copy take. -/
theorem Plan.split_families {A J : Type} [Fintype A] [Fintype J] [DecidableEq A] [DecidableEq J] (P : Plan nD sig (A × J) A)
    (m : (ℓ : Loc nD τ sig) → Buf Val ℓ) (c : Dev nD) (I O : A → sProp 𝕄)
    (hI : ∀ a, I a ⊢ iprop((bigSep Finset.univ fun j => P.srcP m c (a, j)) ∗ P.lsrcP m c a))
    (hO : ∀ a, O a ⊢ iprop((bigSep Finset.univ fun j => P.landP m c (a, j)) ∗ P.ldstP m c a)) :
    iprop(bigSep Finset.univ I ∗ bigSep Finset.univ O)
      ⊢ iprop((bigSep Finset.univ fun k => P.srcP m c k) ∗ (bigSep Finset.univ fun k => P.landP m c k)
        ∗ (bigSep Finset.univ fun i => P.lsrcP m c i) ∗ (bigSep Finset.univ fun i => P.ldstP m c i) ∗ emp) := by
  have h1 : bigSep Finset.univ I ⊢ iprop((bigSep Finset.univ fun k => P.srcP m c k) ∗ bigSep Finset.univ fun i => P.lsrcP m c i) := by
    rw [bigSep_univ_prod]
    exact (BI.bigSep_mono fun a _ => hI a).trans (Entails.of_eq (BI.bigSep_sep _ _ _))
  have h2 : bigSep Finset.univ O ⊢ iprop((bigSep Finset.univ fun k => P.landP m c k) ∗ bigSep Finset.univ fun i => P.ldstP m c i) := by
    rw [bigSep_univ_prod]
    exact (BI.bigSep_mono fun a _ => hO a).trans (Entails.of_eq (BI.bigSep_sep _ _ _))
  iintro ⟨HI, HO⟩
  ihave H1 := h1 $$ HI
  ihave H2 := h2 $$ HO
  icases H1 with ⟨Ha, Hb⟩
  icases H2 with ⟨Hc, Hd⟩
  isplitl [Ha]; · iexact Ha
  isplitl [Hc]; · iexact Hc
  isplitl [Hb]; · iexact Hb
  isplitl [Hd]; · iexact Hd
  iempintro

end Cert.Exchange

end
-- ==== Proof.ScatterPlan.lean ====
/-
# The gradients' all-to-all: the copies

Array `a` of seven, each a stack of four members, one for each chip. A device sends member `p` of its array to the
device of chip `p` with its own core number, which takes it as the member named by the sender's chip; its own member it copies.
-/
module

public import proofs.«01_k».proof.Proof.Slots
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

noncomputable section

namespace Cert.KernelIdeal.Scatter

open Idealize.ShloMosaic
open Idealize.ShloMosaic.TcCoe
open Idealize.ShloMosaic.StackWindow Idealize.ShloMosaic.StackMember
open Idealize.SL Idealize.SL.RA Idealize.SL.BI
open scoped Idealize.SL.BI
open Idealize.SL.BI.BIBase Idealize.SL.BI.Laws Idealize.SL.Sem
open Cert.Exchange Cert.KernelIdeal.Gen

/-- The shape of a member of array `a`. -/
abbrev dims : Fin 7 → Fin 3 → ℕ
  | 0 => ![4, 1024, 448]
  | 1 => ![4, 256, 1024]
  | 2 => ![4, 1024, 704]
  | 3 => ![4, 1024, 704]
  | 4 => ![4, 704, 1024]
  | 5 => ![4, 256, 256]
  | 6 => ![4, 256, 1024]

/-- Array `a` as it is given, -/
abbrev ins : (a : Fin 7) → Memref sig .tc .hbm (stackShape 4 (dims a)) .f32
  | 0 => Memref.whole main_arg0
  | 1 => Memref.whole main_arg1
  | 2 => Memref.whole main_arg2
  | 3 => Memref.whole main_arg3
  | 4 => Memref.whole main_arg4
  | 5 => Memref.whole main_arg5
  | 6 => Memref.whole main_arg6

/-- and as it is returned. -/
abbrev outs : (a : Fin 7) → Memref sig .tc .hbm (stackShape 4 (dims a)) .f32
  | 0 => Memref.whole main_v1_0
  | 1 => Memref.whole main_v1_1
  | 2 => Memref.whole main_v1_2
  | 3 => Memref.whole main_v1_3
  | 4 => Memref.whole main_v1_4
  | 5 => Memref.whole main_v1_5
  | 6 => Memref.whole main_v1_6

theorem ins_whole : ∀ a, (ins a).IsWhole
  | 0 => Memref.isWhole_whole _
  | 1 => Memref.isWhole_whole _
  | 2 => Memref.isWhole_whole _
  | 3 => Memref.isWhole_whole _
  | 4 => Memref.isWhole_whole _
  | 5 => Memref.isWhole_whole _
  | 6 => Memref.isWhole_whole _

theorem outs_whole : ∀ a, (outs a).IsWhole
  | 0 => Memref.isWhole_whole _
  | 1 => Memref.isWhole_whole _
  | 2 => Memref.isWhole_whole _
  | 3 => Memref.isWhole_whole _
  | 4 => Memref.isWhole_whole _
  | 5 => Memref.isWhole_whole _
  | 6 => Memref.isWhole_whole _

theorem sq : ∀ a, (blockShape (dims a)).Squeezes ⟨3, dims a⟩
  | 0 => squeezes_S1x4x1024x448_S4x1024x448
  | 1 => squeezes_S1x4x256x1024_S4x256x1024
  | 2 => squeezes_S1x4x1024x704_S4x1024x704
  | 3 => squeezes_S1x4x1024x704_S4x1024x704
  | 4 => squeezes_S1x4x704x1024_S4x704x1024
  | 5 => squeezes_S1x4x256x256_S4x256x256
  | 6 => squeezes_S1x4x256x1024_S4x256x1024

/-- The offsets of the device's own member of array `a`, -/
abbrev offMe (c : Dev nD) : Fin 7 → Fin 4 → ℕ
  | 0 => k0_off1 c
  | 1 => k0_off2 c
  | 2 => k0_off3 c
  | 3 => k0_off3 c
  | 4 => k0_off4 c
  | 5 => k0_off5 c
  | 6 => k0_off2 c

/-- and of the member of its `j`-th peer. -/
abbrev offPeer (c : Dev nD) : Fin 7 → Fin 3 → Fin 4 → ℕ
  | 0, 0 => k0_off6 c
  | 0, 1 => k0_off7 c
  | 0, 2 => k0_off8 c
  | 1, 0 => k0_off9 c
  | 1, 1 => k0_off10 c
  | 1, 2 => k0_off11 c
  | 2, 0 => k0_off12 c
  | 2, 1 => k0_off13 c
  | 2, 2 => k0_off14 c
  | 3, 0 => k0_off12 c
  | 3, 1 => k0_off13 c
  | 3, 2 => k0_off14 c
  | 4, 0 => k0_off15 c
  | 4, 1 => k0_off16 c
  | 4, 2 => k0_off17 c
  | 5, 0 => k0_off18 c
  | 5, 1 => k0_off19 c
  | 5, 2 => k0_off20 c
  | 6, 0 => k0_off9 c
  | 6, 1 => k0_off10 c
  | 6, 2 => k0_off11 c

theorem inbMe (c : Dev nD) : ∀ a x, offMe c a x + (blockShape (dims a)).size x ≤ (stackShape 4 (dims a)).size x
  | 0 => k0_off1_inb c
  | 1 => k0_off2_inb c
  | 2 => k0_off3_inb c
  | 3 => k0_off3_inb c
  | 4 => k0_off4_inb c
  | 5 => k0_off5_inb c
  | 6 => k0_off2_inb c

theorem inbPeer (c : Dev nD) : ∀ a j x, offPeer c a j x + (blockShape (dims a)).size x ≤ (stackShape 4 (dims a)).size x
  | 0, 0 => k0_off6_inb c
  | 0, 1 => k0_off7_inb c
  | 0, 2 => k0_off8_inb c
  | 1, 0 => k0_off9_inb c
  | 1, 1 => k0_off10_inb c
  | 1, 2 => k0_off11_inb c
  | 2, 0 => k0_off12_inb c
  | 2, 1 => k0_off13_inb c
  | 2, 2 => k0_off14_inb c
  | 3, 0 => k0_off12_inb c
  | 3, 1 => k0_off13_inb c
  | 3, 2 => k0_off14_inb c
  | 4, 0 => k0_off15_inb c
  | 4, 1 => k0_off16_inb c
  | 4, 2 => k0_off17_inb c
  | 5, 0 => k0_off18_inb c
  | 5, 1 => k0_off19_inb c
  | 5, 2 => k0_off20_inb c
  | 6, 0 => k0_off9_inb c
  | 6, 1 => k0_off10_inb c
  | 6, 2 => k0_off11_inb c

/-- The device that transfer `(a, j)` of device `c` names. -/
abbrev nm (c : Dev nD) : Fin 7 × Fin 3 → Dev nD
  | (0, 0) => ⟨k0_dev1 c, k0_dev1_lt c⟩
  | (0, 1) => ⟨k0_dev2 c, k0_dev2_lt c⟩
  | (0, 2) => ⟨k0_dev3 c, k0_dev3_lt c⟩
  | (1, 0) => ⟨k0_dev4 c, k0_dev4_lt c⟩
  | (1, 1) => ⟨k0_dev5 c, k0_dev5_lt c⟩
  | (1, 2) => ⟨k0_dev6 c, k0_dev6_lt c⟩
  | (2, 0) => ⟨k0_dev7 c, k0_dev7_lt c⟩
  | (2, 1) => ⟨k0_dev8 c, k0_dev8_lt c⟩
  | (2, 2) => ⟨k0_dev9 c, k0_dev9_lt c⟩
  | (3, 0) => ⟨k0_dev10 c, k0_dev10_lt c⟩
  | (3, 1) => ⟨k0_dev11 c, k0_dev11_lt c⟩
  | (3, 2) => ⟨k0_dev12 c, k0_dev12_lt c⟩
  | (4, 0) => ⟨k0_dev13 c, k0_dev13_lt c⟩
  | (4, 1) => ⟨k0_dev14 c, k0_dev14_lt c⟩
  | (4, 2) => ⟨k0_dev15 c, k0_dev15_lt c⟩
  | (5, 0) => ⟨k0_dev16 c, k0_dev16_lt c⟩
  | (5, 1) => ⟨k0_dev17 c, k0_dev17_lt c⟩
  | (5, 2) => ⟨k0_dev18 c, k0_dev18_lt c⟩
  | (6, 0) => ⟨k0_dev19 c, k0_dev19_lt c⟩
  | (6, 1) => ⟨k0_dev20 c, k0_dev20_lt c⟩
  | (6, 2) => ⟨k0_dev21 c, k0_dev21_lt c⟩

/-- The `j`-th peer of a device: the device with its core number on another chip. -/
def peer : Fin 3 → Equiv.Perm (Dev nD)
  | 0 => ⟨![4, 5, 6, 7, 0, 1, 2, 3], ![4, 5, 6, 7, 0, 1, 2, 3], by decide, by decide⟩
  | 1 => ⟨![2, 3, 0, 1, 6, 7, 4, 5], ![2, 3, 0, 1, 6, 7, 4, 5], by decide, by decide⟩
  | 2 => ⟨![6, 7, 4, 5, 2, 3, 0, 1], ![6, 7, 4, 5, 2, 3, 0, 1], by decide, by decide⟩

theorem nm_eq : ∀ (c : Dev nD) (k : Fin 7 × Fin 3), nm c k = peer k.2 c := by decide +kernel

/-- The cells: each transfer's send cell, its receive cell, each local copy's. -/
def sem : (Fin 7 × Fin 3) ⊕ (Fin 7 × Fin 3) ⊕ Fin 7 → DmaSem sig
  | .inl (0, 0) => ((cc0_scratch0.slice (Rect.unit (s := S21) ![0] S1.size inb_S21_S1_0)).squeeze S_ squeezes_S1_S_).sem
  | .inl (0, 1) => ((cc0_scratch0.slice (Rect.unit (s := S21) ![1] S1.size inb_S21_S1_1)).squeeze S_ squeezes_S1_S_).sem
  | .inl (0, 2) => ((cc0_scratch0.slice (Rect.unit (s := S21) ![2] S1.size inb_S21_S1_2)).squeeze S_ squeezes_S1_S_).sem
  | .inl (1, 0) => ((cc0_scratch0.slice (Rect.unit (s := S21) ![3] S1.size inb_S21_S1_3)).squeeze S_ squeezes_S1_S_).sem
  | .inl (1, 1) => ((cc0_scratch0.slice (Rect.unit (s := S21) ![4] S1.size inb_S21_S1_4)).squeeze S_ squeezes_S1_S_).sem
  | .inl (1, 2) => ((cc0_scratch0.slice (Rect.unit (s := S21) ![5] S1.size inb_S21_S1_5)).squeeze S_ squeezes_S1_S_).sem
  | .inl (2, 0) => ((cc0_scratch0.slice (Rect.unit (s := S21) ![6] S1.size inb_S21_S1_6)).squeeze S_ squeezes_S1_S_).sem
  | .inl (2, 1) => ((cc0_scratch0.slice (Rect.unit (s := S21) ![7] S1.size inb_S21_S1_7)).squeeze S_ squeezes_S1_S_).sem
  | .inl (2, 2) => ((cc0_scratch0.slice (Rect.unit (s := S21) ![8] S1.size inb_S21_S1_8)).squeeze S_ squeezes_S1_S_).sem
  | .inl (3, 0) => ((cc0_scratch0.slice (Rect.unit (s := S21) ![9] S1.size inb_S21_S1_9)).squeeze S_ squeezes_S1_S_).sem
  | .inl (3, 1) => ((cc0_scratch0.slice (Rect.unit (s := S21) ![10] S1.size inb_S21_S1_10)).squeeze S_ squeezes_S1_S_).sem
  | .inl (3, 2) => ((cc0_scratch0.slice (Rect.unit (s := S21) ![11] S1.size inb_S21_S1_11)).squeeze S_ squeezes_S1_S_).sem
  | .inl (4, 0) => ((cc0_scratch0.slice (Rect.unit (s := S21) ![12] S1.size inb_S21_S1_12)).squeeze S_ squeezes_S1_S_).sem
  | .inl (4, 1) => ((cc0_scratch0.slice (Rect.unit (s := S21) ![13] S1.size inb_S21_S1_13)).squeeze S_ squeezes_S1_S_).sem
  | .inl (4, 2) => ((cc0_scratch0.slice (Rect.unit (s := S21) ![14] S1.size inb_S21_S1_14)).squeeze S_ squeezes_S1_S_).sem
  | .inl (5, 0) => ((cc0_scratch0.slice (Rect.unit (s := S21) ![15] S1.size inb_S21_S1_15)).squeeze S_ squeezes_S1_S_).sem
  | .inl (5, 1) => ((cc0_scratch0.slice (Rect.unit (s := S21) ![16] S1.size inb_S21_S1_16)).squeeze S_ squeezes_S1_S_).sem
  | .inl (5, 2) => ((cc0_scratch0.slice (Rect.unit (s := S21) ![17] S1.size inb_S21_S1_17)).squeeze S_ squeezes_S1_S_).sem
  | .inl (6, 0) => ((cc0_scratch0.slice (Rect.unit (s := S21) ![18] S1.size inb_S21_S1_18)).squeeze S_ squeezes_S1_S_).sem
  | .inl (6, 1) => ((cc0_scratch0.slice (Rect.unit (s := S21) ![19] S1.size inb_S21_S1_19)).squeeze S_ squeezes_S1_S_).sem
  | .inl (6, 2) => ((cc0_scratch0.slice (Rect.unit (s := S21) ![20] S1.size inb_S21_S1_20)).squeeze S_ squeezes_S1_S_).sem
  | .inr (.inl (0, 0)) => ((cc0_scratch1.slice (Rect.unit (s := S21) ![0] S1.size inb_S21_S1_0)).squeeze S_ squeezes_S1_S_).sem
  | .inr (.inl (0, 1)) => ((cc0_scratch1.slice (Rect.unit (s := S21) ![1] S1.size inb_S21_S1_1)).squeeze S_ squeezes_S1_S_).sem
  | .inr (.inl (0, 2)) => ((cc0_scratch1.slice (Rect.unit (s := S21) ![2] S1.size inb_S21_S1_2)).squeeze S_ squeezes_S1_S_).sem
  | .inr (.inl (1, 0)) => ((cc0_scratch1.slice (Rect.unit (s := S21) ![3] S1.size inb_S21_S1_3)).squeeze S_ squeezes_S1_S_).sem
  | .inr (.inl (1, 1)) => ((cc0_scratch1.slice (Rect.unit (s := S21) ![4] S1.size inb_S21_S1_4)).squeeze S_ squeezes_S1_S_).sem
  | .inr (.inl (1, 2)) => ((cc0_scratch1.slice (Rect.unit (s := S21) ![5] S1.size inb_S21_S1_5)).squeeze S_ squeezes_S1_S_).sem
  | .inr (.inl (2, 0)) => ((cc0_scratch1.slice (Rect.unit (s := S21) ![6] S1.size inb_S21_S1_6)).squeeze S_ squeezes_S1_S_).sem
  | .inr (.inl (2, 1)) => ((cc0_scratch1.slice (Rect.unit (s := S21) ![7] S1.size inb_S21_S1_7)).squeeze S_ squeezes_S1_S_).sem
  | .inr (.inl (2, 2)) => ((cc0_scratch1.slice (Rect.unit (s := S21) ![8] S1.size inb_S21_S1_8)).squeeze S_ squeezes_S1_S_).sem
  | .inr (.inl (3, 0)) => ((cc0_scratch1.slice (Rect.unit (s := S21) ![9] S1.size inb_S21_S1_9)).squeeze S_ squeezes_S1_S_).sem
  | .inr (.inl (3, 1)) => ((cc0_scratch1.slice (Rect.unit (s := S21) ![10] S1.size inb_S21_S1_10)).squeeze S_ squeezes_S1_S_).sem
  | .inr (.inl (3, 2)) => ((cc0_scratch1.slice (Rect.unit (s := S21) ![11] S1.size inb_S21_S1_11)).squeeze S_ squeezes_S1_S_).sem
  | .inr (.inl (4, 0)) => ((cc0_scratch1.slice (Rect.unit (s := S21) ![12] S1.size inb_S21_S1_12)).squeeze S_ squeezes_S1_S_).sem
  | .inr (.inl (4, 1)) => ((cc0_scratch1.slice (Rect.unit (s := S21) ![13] S1.size inb_S21_S1_13)).squeeze S_ squeezes_S1_S_).sem
  | .inr (.inl (4, 2)) => ((cc0_scratch1.slice (Rect.unit (s := S21) ![14] S1.size inb_S21_S1_14)).squeeze S_ squeezes_S1_S_).sem
  | .inr (.inl (5, 0)) => ((cc0_scratch1.slice (Rect.unit (s := S21) ![15] S1.size inb_S21_S1_15)).squeeze S_ squeezes_S1_S_).sem
  | .inr (.inl (5, 1)) => ((cc0_scratch1.slice (Rect.unit (s := S21) ![16] S1.size inb_S21_S1_16)).squeeze S_ squeezes_S1_S_).sem
  | .inr (.inl (5, 2)) => ((cc0_scratch1.slice (Rect.unit (s := S21) ![17] S1.size inb_S21_S1_17)).squeeze S_ squeezes_S1_S_).sem
  | .inr (.inl (6, 0)) => ((cc0_scratch1.slice (Rect.unit (s := S21) ![18] S1.size inb_S21_S1_18)).squeeze S_ squeezes_S1_S_).sem
  | .inr (.inl (6, 1)) => ((cc0_scratch1.slice (Rect.unit (s := S21) ![19] S1.size inb_S21_S1_19)).squeeze S_ squeezes_S1_S_).sem
  | .inr (.inl (6, 2)) => ((cc0_scratch1.slice (Rect.unit (s := S21) ![20] S1.size inb_S21_S1_20)).squeeze S_ squeezes_S1_S_).sem
  | .inr (.inr 0) => ((cc0_scratch2.slice (Rect.unit (s := S7) ![0] S1.size inb_S7_S1_0)).squeeze S_ squeezes_S1_S_).sem
  | .inr (.inr 1) => ((cc0_scratch2.slice (Rect.unit (s := S7) ![1] S1.size inb_S7_S1_1)).squeeze S_ squeezes_S1_S_).sem
  | .inr (.inr 2) => ((cc0_scratch2.slice (Rect.unit (s := S7) ![2] S1.size inb_S7_S1_2)).squeeze S_ squeezes_S1_S_).sem
  | .inr (.inr 3) => ((cc0_scratch2.slice (Rect.unit (s := S7) ![3] S1.size inb_S7_S1_3)).squeeze S_ squeezes_S1_S_).sem
  | .inr (.inr 4) => ((cc0_scratch2.slice (Rect.unit (s := S7) ![4] S1.size inb_S7_S1_4)).squeeze S_ squeezes_S1_S_).sem
  | .inr (.inr 5) => ((cc0_scratch2.slice (Rect.unit (s := S7) ![5] S1.size inb_S7_S1_5)).squeeze S_ squeezes_S1_S_).sem
  | .inr (.inr 6) => ((cc0_scratch2.slice (Rect.unit (s := S7) ![6] S1.size inb_S7_S1_6)).squeeze S_ squeezes_S1_S_).sem

theorem sem_inj : Function.Injective sem := by decide +kernel

theorem numel_pos : ∀ a, 0 < (⟨3, dims a⟩ : Shape).numel := by decide +kernel

theorem not_scratch (a : Fin 7) (off : Fin 4 → ℕ) (inb : ∀ x, off x + (blockShape (dims a)).size x ≤ (stackShape 4 (dims a)).size x) :
    (slot (outs a) off inb (sq a)).view.ref.isScScratch = false := by
  revert inb
  fin_cases a <;> exact fun _ => rfl

/-- The copies. -/
def plan : Plan nD sig (Fin 7 × Fin 3) (Fin 7) where
  dest k := peer k.2
  x c k := ⟨⟨3, dims k.1⟩, .f32, slot (ins k.1) (offPeer c k.1 k.2) (inbPeer c k.1 k.2) (sq k.1),
    slot (outs k.1) (offMe c k.1) (inbMe c k.1) (sq k.1),
    (View.wordExact_bits rfl).reshape _ _, (View.wordExact_bits rfl).reshape _ _, not_scratch k.1 _ _⟩
  l c a := ⟨⟨3, dims a⟩, .f32, slot (ins a) (offMe c a) (inbMe c a) (sq a), slot (outs a) (offMe c a) (inbMe c a) (sq a),
    (View.wordExact_bits rfl).reshape _ _, (View.wordExact_bits rfl).reshape _ _, not_scratch a _ _⟩
  sem := sem
  inj := sem_inj
  amt k := (slot (outs k.1) (offMe 0 k.1) (inbMe 0 k.1) (sq k.1)).view.dmaCredit
  lamt a := (slot (outs a) (offMe 0 a) (inbMe 0 a) (sq a)).view.dmaCredit
  amt_eq c k := rfl
  lamt_eq c a := rfl
  amt_pos k := View.dmaCredit_pos _ (numel_pos k.1)
  lamt_pos a := View.dmaCredit_pos _ (numel_pos a)
  q _ := fullShare
  lq _ := fullShare

variable {F : FTy → Type} [FloatOps F]

/-- The waits, in the order of the program's cells. -/
def wait (c : Dev nD) : (Fin 7 × Fin 3) ⊕ (Fin 7 × Fin 3) ⊕ Fin 7 → TpuEff nD τ sig (Elt F) Λ₀ .tc PUnit
  | .inl k => .waitDma2 (sem (.inl k)) (slot (outs k.1) (offMe c k.1) (inbMe c k.1) (sq k.1)) (slot (ins k.1) (offPeer c k.1 k.2) (inbPeer c k.1 k.2) (sq k.1))
      ((View.wordExact_bits rfl).reshape _ _) ((View.wordExact_bits rfl).reshape _ _)
  | .inr (.inl k) => .waitDma2 (sem (.inr (.inl k))) (slot (ins k.1) (offMe c k.1) (inbMe c k.1) (sq k.1)) (slot (outs k.1) (offPeer c k.1 k.2) (inbPeer c k.1 k.2) (sq k.1))
      ((View.wordExact_bits rfl).reshape _ _) ((View.wordExact_bits rfl).reshape _ _)
  | .inr (.inr a) => .waitDma2 (sem (.inr (.inr a))) (slot (ins a) (offMe c a) (inbMe c a) (sq a)) (slot (outs a) (offMe c a) (inbMe c a) (sq a))
      ((View.wordExact_bits rfl).reshape _ _) ((View.wordExact_bits rfl).reshape _ _)

def ls : List (Fin 7) := [0, 1, 2, 3, 4, 5, 6]
def ks : List (Fin 7 × Fin 3) :=
  [(0, 0), (0, 1), (0, 2), (1, 0), (1, 1), (1, 2), (2, 0), (2, 1), (2, 2), (3, 0), (3, 1), (3, 2), (4, 0), (4, 1), (4, 2), (5, 0), (5, 1), (5, 2), (6, 0), (6, 1), (6, 2)]
def ws : List ((Fin 7 × Fin 3) ⊕ (Fin 7 × Fin 3) ⊕ Fin 7) := ks.map (fun k => .inr (.inl k)) ++ ks.map .inl ++ ls.map (fun a => .inr (.inr a))

set_option maxRecDepth 100000 in
theorem body_eq (t : Fin cfg0.N) : bodyAt0 (F := F) t = plan.prog ls ks nm ws wait := rfl

end Cert.KernelIdeal.Scatter

end
-- ==== Proof.ScatterRun.lean ====
/-
# The gradients' all-to-all: its run

`run`: the program terminates, with its arguments unchanged, every counter at zero, and member `p` of each result on
device `c` the member of `c`'s chip of the argument on the device of chip `p` with `c`'s core number.
-/
module

public import proofs.«01_k».proof.Proof.ScatterPlan

@[expose] public section

noncomputable section

namespace Cert.KernelIdeal.Scatter

open Idealize.ShloMosaic
open Idealize.ShloMosaic.TcCoe
open Idealize.ShloMosaic.StackWindow Idealize.ShloMosaic.StackMember
open Idealize.SL Idealize.SL.RA Idealize.SL.BI
open scoped Idealize.SL.BI
open Idealize.SL.BI.BIBase Idealize.SL.BI.Laws Idealize.SL.ProofMode Idealize.SL.Sem
open Cert.Exchange Cert.KernelIdeal.Gen

/-- A device's chip, -/
def chip (c : Dev nD) : Fin 4 := ⟨c.val / 2, by have := c.isLt; change c.val < 8 at this; omega⟩

/-- and the device of chip `p` with the core number of `c`. -/
def onChip (p : Fin 4) (c : Dev nD) : Dev nD := ⟨2 * p.val + c.val % 2, by show _ < 8; omega⟩

theorem at_me (c : Dev nD) (a : Fin 7) : AtMember (offMe c a) (chip c) :=
  have h : ∀ (c : Dev nD) (a : Fin 7), offMe c a 0 = (chip c).val ∧ ∀ b : Fin 3, offMe c a b.succ = 0 := by decide +kernel
  ⟨(h c a).1, (h c a).2⟩

theorem at_peer (c : Dev nD) (a : Fin 7) (j : Fin 3) : AtMember (offPeer c a j) (chip (peer j c)) :=
  have h : ∀ (c : Dev nD) (a : Fin 7) (j : Fin 3), offPeer c a j 0 = (chip (peer j c)).val ∧ ∀ b : Fin 3, offPeer c a j b.succ = 0 := by decide +kernel
  ⟨(h c a j).1, (h c a j).2⟩

/-- The peers' chips, and the device's own. -/
def chipOf (c : Dev nD) : Fin 3 ⊕ Unit → Fin 4
  | .inl j => chip (peer j c)
  | .inr _ => chip c

theorem chipOf_bij : ∀ c : Dev nD, Function.Bijective (chipOf c) := by decide +kernel
theorem peer_peer : ∀ (j : Fin 3) (c : Dev nD), peer j (peer j c) = c := by decide +kernel
theorem onChip_peer : ∀ (j : Fin 3) (c : Dev nD), onChip (chip (peer j c)) c = peer j c := by decide +kernel
theorem onChip_self : ∀ c : Dev nD, onChip (chip c) c = c := by decide +kernel

/-- The members a device sends, and its own, -/
def offSrc (c : Dev nD) (a : Fin 7) : Fin 3 ⊕ Unit → Fin 4 → ℕ
  | .inl j => offPeer c a j
  | .inr _ => offMe c a
theorem inbSrc (c : Dev nD) (a : Fin 7) : ∀ t x, offSrc c a t x + (blockShape (dims a)).size x ≤ (stackShape 4 (dims a)).size x
  | .inl j => inbPeer c a j
  | .inr _ => inbMe c a
theorem at_src (c : Dev nD) (a : Fin 7) : ∀ t, AtMember (offSrc c a t) (chipOf c t)
  | .inl j => at_peer c a j
  | .inr _ => at_me c a

/-- and the members it is sent, and its own. -/
def offDst (c : Dev nD) (a : Fin 7) : Fin 3 ⊕ Unit → Fin 4 → ℕ
  | .inl j => offMe (peer j c) a
  | .inr _ => offMe c a
theorem inbDst (c : Dev nD) (a : Fin 7) : ∀ t x, offDst c a t x + (blockShape (dims a)).size x ≤ (stackShape 4 (dims a)).size x
  | .inl j => inbMe (peer j c) a
  | .inr _ => inbMe c a
theorem at_dst (c : Dev nD) (a : Fin 7) : ∀ t, AtMember (offDst c a t) (chipOf c t)
  | .inl j => at_me (peer j c) a
  | .inr _ => at_me c a

variable {F : FTy → Type} [FloatOps F]

local notation "𝕄" => MT nD τ sig Unit (Elt F) ℕ (UU nD τ sig) ℕ

/-- The program's arrays. -/
def arr : Fin 7 ⊕ Fin 7 → Ref sig .tc
  | .inl a => (ins a).view.ref
  | .inr a => (outs a).view.ref

theorem arr_inj : Function.Injective arr := by decide +kernel
theorem arr_all : (Finset.univ.filter fun b : Ref sig .tc => ¬ b.isScoped) = Finset.univ.map ⟨arr, arr_inj⟩ := by decide +kernel

theorem split_src (m : (ℓ : Loc nD τ sig) → Buf (Elt F) ℓ) (c : Dev nD) (a : Fin 7) :
    ((c.tc : Thread nD τ).loc (arr (.inl a)) ↦{fullShare} m _ : sProp 𝕄)
      ⊢ iprop((bigSep Finset.univ fun j => plan.srcP m c (a, j)) ∗ plan.lsrcP m c a) := by
  refine Entails.of_eq ((slots_split (ins a) (sq a) (ins_whole a) (offSrc c a) (inbSrc c a) (chipOf c) (at_src c a) (chipOf_bij c) c fullShare _).trans ?_)
  rw [bigSep_univ_sum, Finset.univ_unique (α := Unit), bigSep_singleton]
  rfl

theorem split_dst (m : (ℓ : Loc nD τ sig) → Buf (Elt F) ℓ) (c : Dev nD) (a : Fin 7) :
    ((c.tc : Thread nD τ).loc (arr (.inr a)) ↦{fullShare} m _ : sProp 𝕄)
      ⊢ iprop((bigSep Finset.univ fun j => plan.landP m c (a, j)) ∗ plan.ldstP m c a) := by
  refine Entails.of_eq ((slots_split (outs a) (sq a) (outs_whole a) (offDst c a) (inbDst c a) (chipOf c) (at_dst c a) (chipOf_bij c) c fullShare _).trans ?_)
  rw [bigSep_univ_sum, Finset.univ_unique (α := Unit), bigSep_singleton]
  refine congrArg₂ _ (bigSep_congr fun j _ => ?_) rfl
  exact (plan.landP_eq m c (a, j) (peer j c) (peer_peer j c)).symm

theorem wait_eq (c : Dev nD) (j : (Fin 7 × Fin 3) ⊕ (Fin 7 × Fin 3) ⊕ Fin 7) (Kt : PUnit → sProp 𝕄) :
    wpE defs₀ Variants.none (c.tc : Thread nD τ) none Set.univ (wait (F := F) c j) Kt
      = waitSpec (c.tc : Thread nD τ) Set.univ (.dma (plan.sem j)) (plan.jamt j) Kt := by
  rcases j with k | k | a <;> rfl

/-- What a memory holds after the exchange from `m`. -/
structure Exchanged (m m' : (ℓ : Loc nD τ sig) → Buf (Elt F) ℓ) : Prop where
  args (c : Dev nD) (a : Fin 7) : (ins a).view.read (Elt F) (m' ((c.tc : Thread nD τ).loc (arr (.inl a))))
    = (ins a).view.read (Elt F) (m ((c.tc : Thread nD τ).loc (arr (.inl a))))
  results (c : Dev nD) (a : Fin 7) (p : Fin 4) : memberAt ((outs a).view.read (Elt F) (m' ((c.tc : Thread nD τ).loc (arr (.inr a))))) p
    = memberAt ((ins a).view.read (Elt F) (m (((onChip p c).tc : Thread nD τ).loc (arr (.inl a))))) (chip c)

theorem exchanged (m m' : (ℓ : Loc nD τ sig) → Buf (Elt F) ℓ) (h : ∀ c, plan.Done m c m') : Exchanged m m' where
  args c a := slots_read (ins a) (sq a) (offSrc c a) (inbSrc c a) (chipOf c) (at_src c a) (chipOf_bij c).2 _ _ fun
    | .inl j => (h c).src (a, j)
    | .inr _ => (h c).lsrc a
  results c a p := by
    obtain ⟨t, rfl⟩ := (chipOf_bij c).2 p
    match t with
    | .inl j =>
      have e := (h c).dst (a, j) (peer j c) (peer_peer j c)
      have e1 := slot_read (outs a) (offMe (peer j c) a) (inbMe (peer j c) a) (sq a) (at_me (peer j c) a) (m' ((c.tc : Thread nD τ).loc (arr (.inr a))))
      have e2 := slot_read (ins a) (offPeer (peer j c) a j) (inbPeer (peer j c) a j) (sq a) (at_peer (peer j c) a j) (m (((peer j c).tc : Thread nD τ).loc (arr (.inl a))))
      rw [peer_peer] at e2
      show memberAt _ (chip (peer j c)) = memberAt ((ins a).view.read (Elt F) (m (((onChip (chip (peer j c)) c).tc : Thread nD τ).loc (arr (.inl a))))) (chip c)
      rw [onChip_peer]
      exact e1.symm.trans (e.trans e2)
    | .inr _ =>
      have e := (h c).ldst a
      have e1 := slot_read (outs a) (offMe c a) (inbMe c a) (sq a) (at_me c a) (m' ((c.tc : Thread nD τ).loc (arr (.inr a))))
      have e2 := slot_read (ins a) (offMe c a) (inbMe c a) (sq a) (at_me c a) (m ((c.tc : Thread nD τ).loc (arr (.inl a))))
      show memberAt _ (chip c) = memberAt ((ins a).view.read (Elt F) (m (((onChip (chip c) c).tc : Thread nD τ).loc (arr (.inl a))))) (chip c)
      rw [onChip_self]
      exact e1.symm.trans (e.trans e2)

theorem own_sems : Pipeline.OwnSemFacts (pcfgs (F := F) 0).spec (fun j => SemLoc.dma (plan.sem j)) :=
  ⟨by decide +kernel, fun i j h => sem_inj (SemLoc.dma.inj h), fun _ w => w.elim0⟩

theorem ls_nodup : ls.Nodup := by decide +kernel
theorem mem_ls : ∀ k, k ∈ ls := by decide +kernel
theorem ks_nodup : ks.Nodup := by decide +kernel
theorem mem_ks : ∀ k, k ∈ ks := by decide +kernel
theorem ws_nodup : ws.Nodup := by decide +kernel
theorem mem_ws : ∀ k, k ∈ ws
  | .inl k => List.mem_append_left _ (List.mem_append_right _ (List.mem_map_of_mem (mem_ks k)))
  | .inr (.inl k) => List.mem_append_left _ (List.mem_append_left _ (List.mem_map_of_mem (mem_ks k)))
  | .inr (.inr a) => List.mem_append_right _ (List.mem_map_of_mem (mem_ls a))
theorem no_windows (p : Fin 1) : IsEmpty (Fin (pcfgs (F := F) p).W) := by fin_cases p; exact inferInstanceAs (IsEmpty (Fin 0))

theorem sems_scoped : ∀ s : SemLoc sig, s.isScoped .tc = true := by decide +kernel

abbrev pinned := Pipeline.pin (pcfgs (F := F)) (fun p => (cfgs p).toPCfg_adm)

theorem main_eq (c : Dev nD) : main (F := F) c = .op (.customCall (Pipeline.entry 0) ()) fun _ => .ret ⟨⟩ := rfl

theorem call_eq (t : Fin (pinned (F := F) 0).N) :
    defs₀ (F := F) .tc (pinned (F := F) 0).body ((pinned (F := F) 0).bodyArgs t ((pinned (F := F) 0).slots t)) = bodyAt0 (F := F) t := rfl

theorem split (m : (ℓ : Loc nD τ sig) → Buf (Elt F) ℓ) (c : Dev nD) :
    (unscopedBufs c (fun b => m ((c.tc : Thread nD τ).loc b)) : sProp 𝕄)
      ⊢ iprop((bigSep Finset.univ fun k => plan.srcP m c k) ∗ (bigSep Finset.univ fun k => plan.landP m c k)
        ∗ (bigSep Finset.univ fun i => plan.lsrcP m c i) ∗ (bigSep Finset.univ fun i => plan.ldstP m c i) ∗ emp) := by
  rw [bufs_two arr arr_inj arr_all]
  exact plan.split_families m c _ _ (split_src m c) (split_dst m c)

set_option maxRecDepth 100000 in
theorem run (m : (ℓ : Loc nD τ sig) → Buf (Elt F) ℓ) (g : Dev nD → PrngReg) :
    θ_run (defs (F := F)) (onTc (τ := τ) (main (F := F))) ⟨m, fun _ => 0, g⟩
      (fun r => Exchanged m r.2.mem ∧ r.2.sem = fun _ => 0) := by
  refine plan.run_exchange m (pcfgs (F := F)) (fun p => (cfgs p).toPCfg_adm) cellOf_inj 0 winFacts0.to₀ own_sems defs₀
    ls_nodup mem_ls ks_nodup mem_ks ws_nodup mem_ws nm_eq (w := wait) no_windows (inferInstanceAs (IsEmpty (Fin 0))) N_0 g main main_eq
    ?_ ?_ ?_ ?_
  · intro c t Kt
    rw [← body_eq t]
    rfl
  · exact wait_eq
  · exact split m
  · exact fun s hd hs => ⟨exchanged m s.mem hd, sem_eq_zero_of_scoped sems_scoped hs⟩

end Cert.KernelIdeal.Scatter

end
-- ==== Proof.ScatterValue.lean ====
/-
# The gradients' all-to-all: its value

Device `c`'s blocks of the reference's results are what the exchange leaves; `same` is the claim, for any float values.
-/
module

public import proofs.«01_k».proof.Proof.SwapValue
public import proofs.«01_k».proof.Proof.ScatterRun
public import proofs.«01_k».proof.Proof.Gen.ReferenceIdeal.Run

@[expose] public section

noncomputable section

namespace Cert.KernelIdeal.Scatter

open Idealize.ShloMosaic
open Idealize.ShloMosaic.TcCoe
open Idealize.ShloMosaic.StackWindow Idealize.ShloMosaic.StackMember
open Idealize.SL Idealize.SL.Sem
open Cert.Exchange Cert.KernelIdeal.Gen

variable {F : FTy → Type} [FloatOps F]

theorem value {m m' : (ℓ : Loc nD τ sig) → Buf (Elt F) ℓ} (h : Exchanged m m') (a : Fin 7) (X : (stackShape 32 (dims a)).Idx → Elt F .f32)
    (ht : Layout.Tiles (stackShape 4 (dims a)) (stackShape 32 (dims a)) 0 8)
    (hX : ∀ c : Dev nD, (ins a).view.read (Elt F) (m ((c.tc : Thread nD τ).loc (arr (.inl a)))) = Layout.block (stackShape 4 (dims a)) (stackShape 32 (dims a)) 0 8 c X ht)
    (h1 : (stackShape 32 (dims a)).ShapeCasts (splitShape (dims a))) (h2 : (splitShape (dims a)).Transposes [2, 1, 0, 3, 4, 5] (splitShape (dims a)))
    (h3 : (splitShape (dims a)).ShapeCasts (stackShape 32 (dims a))) (c : Dev nD) :
    (outs a).view.read (Elt F) (m' ((c.tc : Thread nD τ).loc (arr (.inr a))))
      = Layout.block (stackShape 4 (dims a)) (stackShape 32 (dims a)) 0 8 c
          (shapeCast (stackShape 32 (dims a)) (transpose (splitShape (dims a)) [2, 1, 0, 3, 4, 5] (shapeCast (splitShape (dims a)) X h1) h2) h3) ht :=
  ext_memberAt fun p => by
    rw [h.results c a p, hX]
    exact (swap_block X h1 h2 h3 ht c (onChip p c) p (chip c) rfl rfl).symm

/-- The arguments end unchanged and every counter is zero. -/
theorem quiet (m : (ℓ : Loc nD τ sig) → Buf (Elt F) ℓ) (g : Dev nD → PrngReg) :
    θ_run (defs (F := F)) (onTc (τ := τ) (main (F := F))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run defs _ _).mono (fun _ h => ⟨fun c => ⟨h.1.args c 0, h.1.args c 1, h.1.args c 2, h.1.args c 3, h.1.args c 4, h.1.args c 5, h.1.args c 6⟩, h.2⟩) (run m g)

/-- Kernel and reference, from memories that hold the same arrays. -/
theorem same (m : (ℓ : Loc nD τ sig) → Buf (Elt F) ℓ) (g : Dev nD → PrngReg)
    (m' : (ℓ : Loc Cert.ReferenceIdeal.nD Cert.ReferenceIdeal.τ Cert.ReferenceIdeal.sig) → Buf (Elt F) ℓ) (g' : Dev Cert.ReferenceIdeal.nD → PrngReg)
    (hm : ∀ c : Dev nD,
      m ((c.tc : Thread nD τ).loc main_arg0) = Layout.block ⟨4, ![4, 4, 1024, 448]⟩ ⟨4, ![32, 4, 1024, 448]⟩ 0 8 c (m' (((0 : Dev Cert.ReferenceIdeal.nD).tc : Thread Cert.ReferenceIdeal.nD Cert.ReferenceIdeal.τ).loc Cert.ReferenceIdeal.main_arg0))
      ∧ m ((c.tc : Thread nD τ).loc main_arg1) = Layout.block ⟨4, ![4, 4, 256, 1024]⟩ ⟨4, ![32, 4, 256, 1024]⟩ 0 8 c (m' (((0 : Dev Cert.ReferenceIdeal.nD).tc : Thread Cert.ReferenceIdeal.nD Cert.ReferenceIdeal.τ).loc Cert.ReferenceIdeal.main_arg1))
      ∧ m ((c.tc : Thread nD τ).loc main_arg2) = Layout.block ⟨4, ![4, 4, 1024, 704]⟩ ⟨4, ![32, 4, 1024, 704]⟩ 0 8 c (m' (((0 : Dev Cert.ReferenceIdeal.nD).tc : Thread Cert.ReferenceIdeal.nD Cert.ReferenceIdeal.τ).loc Cert.ReferenceIdeal.main_arg2))
      ∧ m ((c.tc : Thread nD τ).loc main_arg3) = Layout.block ⟨4, ![4, 4, 1024, 704]⟩ ⟨4, ![32, 4, 1024, 704]⟩ 0 8 c (m' (((0 : Dev Cert.ReferenceIdeal.nD).tc : Thread Cert.ReferenceIdeal.nD Cert.ReferenceIdeal.τ).loc Cert.ReferenceIdeal.main_arg3))
      ∧ m ((c.tc : Thread nD τ).loc main_arg4) = Layout.block ⟨4, ![4, 4, 704, 1024]⟩ ⟨4, ![32, 4, 704, 1024]⟩ 0 8 c (m' (((0 : Dev Cert.ReferenceIdeal.nD).tc : Thread Cert.ReferenceIdeal.nD Cert.ReferenceIdeal.τ).loc Cert.ReferenceIdeal.main_arg4))
      ∧ m ((c.tc : Thread nD τ).loc main_arg5) = Layout.block ⟨4, ![4, 4, 256, 256]⟩ ⟨4, ![32, 4, 256, 256]⟩ 0 8 c (m' (((0 : Dev Cert.ReferenceIdeal.nD).tc : Thread Cert.ReferenceIdeal.nD Cert.ReferenceIdeal.τ).loc Cert.ReferenceIdeal.main_arg5))
      ∧ m ((c.tc : Thread nD τ).loc main_arg6) = Layout.block ⟨4, ![4, 4, 256, 1024]⟩ ⟨4, ![32, 4, 256, 1024]⟩ 0 8 c (m' (((0 : Dev Cert.ReferenceIdeal.nD).tc : Thread Cert.ReferenceIdeal.nD Cert.ReferenceIdeal.τ).loc Cert.ReferenceIdeal.main_arg6))) :
    ∃ (v0 : Buf (Elt F) (((0 : Dev Cert.ReferenceIdeal.nD).tc : Thread Cert.ReferenceIdeal.nD Cert.ReferenceIdeal.τ).loc Cert.ReferenceIdeal.main_v2)) (v1 : Buf (Elt F) (((0 : Dev Cert.ReferenceIdeal.nD).tc : Thread Cert.ReferenceIdeal.nD Cert.ReferenceIdeal.τ).loc Cert.ReferenceIdeal.main_v5)) (v2 : Buf (Elt F) (((0 : Dev Cert.ReferenceIdeal.nD).tc : Thread Cert.ReferenceIdeal.nD Cert.ReferenceIdeal.τ).loc Cert.ReferenceIdeal.main_v8)) (v3 : Buf (Elt F) (((0 : Dev Cert.ReferenceIdeal.nD).tc : Thread Cert.ReferenceIdeal.nD Cert.ReferenceIdeal.τ).loc Cert.ReferenceIdeal.main_v11)) (v4 : Buf (Elt F) (((0 : Dev Cert.ReferenceIdeal.nD).tc : Thread Cert.ReferenceIdeal.nD Cert.ReferenceIdeal.τ).loc Cert.ReferenceIdeal.main_v14)) (v5 : Buf (Elt F) (((0 : Dev Cert.ReferenceIdeal.nD).tc : Thread Cert.ReferenceIdeal.nD Cert.ReferenceIdeal.τ).loc Cert.ReferenceIdeal.main_v17)) (v6 : Buf (Elt F) (((0 : Dev Cert.ReferenceIdeal.nD).tc : Thread Cert.ReferenceIdeal.nD Cert.ReferenceIdeal.τ).loc Cert.ReferenceIdeal.main_v20)),
      θ_run (defs (F := F)) (onTc (τ := τ) (main (F := F))) ⟨m, fun _ => 0, g⟩ (fun r => ∀ c : Dev nD,
          r.2.mem ((c.tc : Thread nD τ).loc main_v1_0) = Layout.block ⟨4, ![4, 4, 1024, 448]⟩ ⟨4, ![32, 4, 1024, 448]⟩ 0 8 c v0
          ∧ r.2.mem ((c.tc : Thread nD τ).loc main_v1_1) = Layout.block ⟨4, ![4, 4, 256, 1024]⟩ ⟨4, ![32, 4, 256, 1024]⟩ 0 8 c v1
          ∧ r.2.mem ((c.tc : Thread nD τ).loc main_v1_2) = Layout.block ⟨4, ![4, 4, 1024, 704]⟩ ⟨4, ![32, 4, 1024, 704]⟩ 0 8 c v2
          ∧ r.2.mem ((c.tc : Thread nD τ).loc main_v1_3) = Layout.block ⟨4, ![4, 4, 1024, 704]⟩ ⟨4, ![32, 4, 1024, 704]⟩ 0 8 c v3
          ∧ r.2.mem ((c.tc : Thread nD τ).loc main_v1_4) = Layout.block ⟨4, ![4, 4, 704, 1024]⟩ ⟨4, ![32, 4, 704, 1024]⟩ 0 8 c v4
          ∧ r.2.mem ((c.tc : Thread nD τ).loc main_v1_5) = Layout.block ⟨4, ![4, 4, 256, 256]⟩ ⟨4, ![32, 4, 256, 256]⟩ 0 8 c v5
          ∧ r.2.mem ((c.tc : Thread nD τ).loc main_v1_6) = Layout.block ⟨4, ![4, 4, 256, 1024]⟩ ⟨4, ![32, 4, 256, 1024]⟩ 0 8 c v6
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6))
      ∧ θ_run (Cert.ReferenceIdeal.defs (F := F)) (onTc (τ := Cert.ReferenceIdeal.τ) (Cert.ReferenceIdeal.main (F := F))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_v5) = v1
          ∧ r.2.mem (((0 : Dev Cert.ReferenceIdeal.nD).tc : Thread Cert.ReferenceIdeal.nD Cert.ReferenceIdeal.τ).loc Cert.ReferenceIdeal.main_v8) = v2
          ∧ r.2.mem (((0 : Dev Cert.ReferenceIdeal.nD).tc : Thread Cert.ReferenceIdeal.nD Cert.ReferenceIdeal.τ).loc Cert.ReferenceIdeal.main_v11) = v3
          ∧ r.2.mem (((0 : Dev Cert.ReferenceIdeal.nD).tc : Thread Cert.ReferenceIdeal.nD Cert.ReferenceIdeal.τ).loc Cert.ReferenceIdeal.main_v14) = v4
          ∧ r.2.mem (((0 : Dev Cert.ReferenceIdeal.nD).tc : Thread Cert.ReferenceIdeal.nD Cert.ReferenceIdeal.τ).loc Cert.ReferenceIdeal.main_v17) = v5
          ∧ r.2.mem (((0 : Dev Cert.ReferenceIdeal.nD).tc : Thread Cert.ReferenceIdeal.nD Cert.ReferenceIdeal.τ).loc Cert.ReferenceIdeal.main_v20) = v6
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)) := by
  refine ⟨_, _, _, _, _, _, _, ?_, (θ_run Cert.ReferenceIdeal.defs _ _).mono (fun _ h => h 0) (Cert.ReferenceIdeal.Value.run m' g')⟩
  refine (θ_run defs _ _).mono (fun r h c => ?_) (run m g)
  exact ⟨value h.1 0 _ (by decide) (fun c => (hm c).1) _ _ _ c,
    value h.1 1 _ (by decide) (fun c => (hm c).2.1) _ _ _ c,
    value h.1 2 _ (by decide) (fun c => (hm c).2.2.1) _ _ _ c,
    value h.1 3 _ (by decide) (fun c => (hm c).2.2.2.1) _ _ _ c,
    value h.1 4 _ (by decide) (fun c => (hm c).2.2.2.2.1) _ _ _ c,
    value h.1 5 _ (by decide) (fun c => (hm c).2.2.2.2.2.1) _ _ _ c,
    value h.1 6 _ (by decide) (fun c => (hm c).2.2.2.2.2.2) _ _ _ c,
    h.1.args c 0,
    h.1.args c 1,
    h.1.args c 2,
    h.1.args c 3,
    h.1.args c 4,
    h.1.args c 5,
    h.1.args c 6⟩

end Cert.KernelIdeal.Scatter

end
-- ==== Proof.Blocks.lean ====
/-
# Whole arrays cut into blocks, and the references' reshapes, transposes and reversals

A weight cut along its second or third axis into four: the reference's reshape and transpose stack the four blocks. A stack
of eight blocks cut along its first axis is a reshape of the whole; reversing the second axis of (chip, core, row) takes each
block to the block of the sibling device.
-/
module

public import Idealize.ShloMosaic.Lib.Layout
public import Idealize.ShloMosaic.Lib.Pipeline.StackWindow
public import Idealize.ShloMosaic.Lib.Pointwise.ShapeOpsCore

@[expose] public section

noncomputable section

namespace Cert.Exchange

open Idealize.ShloMosaic
open Idealize.ShloMosaic.StackWindow Idealize.ShloMosaic.StackMember

variable {α : Type}

theorem rowMajor2 {a b : ℕ} (i : (⟨2, ![a, b]⟩ : Shape).Idx) : ((⟨2, ![a, b]⟩ : Shape).rowMajor i).val = (i 0).val * b + (i 1).val := by
  show (Shape.rowMajorPi ![a, b] i).val = _
  rw [Shape.rowMajorPi_succ_val, Shape.rowMajorPi_succ_val, Shape.rowMajorPi_zero]
  show (i 0).val * (∏ x : Fin 1, ![a, b] x.succ) + ((i 1).val * (∏ x : Fin 0, ![a, b] x.succ.succ) + 0) = _
  have e : (∏ x : Fin 1, ![a, b] x.succ) = b := Fin.prod_univ_one _
  have e' : (∏ x : Fin 0, ![a, b] x.succ.succ) = 1 := Fin.prod_univ_zero _
  rw [e, e']
  ring

theorem rowMajor3 {a b c : ℕ} (i : (⟨3, ![a, b, c]⟩ : Shape).Idx) :
    ((⟨3, ![a, b, c]⟩ : Shape).rowMajor i).val = ((i 0).val * b + (i 1).val) * c + (i 2).val := by
  show (Shape.rowMajorPi ![a, b, c] i).val = _
  rw [Shape.rowMajorPi_succ_val]
  have h := rowMajor2 (a := b) (b := c) (fun x => i x.succ)
  have e : (∏ x : Fin 2, ![a, b, c] x.succ) = b * c := by rw [Fin.prod_univ_two]; rfl
  refine (congrArg₂ (fun x y => (i 0).val * x + y) e h).trans ?_
  show (i 0).val * (b * c) + ((i 1).val * c + (i 2).val) = _
  ring

theorem rowMajor4 {a b c d : ℕ} (i : (⟨4, ![a, b, c, d]⟩ : Shape).Idx) :
    ((⟨4, ![a, b, c, d]⟩ : Shape).rowMajor i).val = (((i 0).val * b + (i 1).val) * c + (i 2).val) * d + (i 3).val := by
  show (Shape.rowMajorPi ![a, b, c, d] i).val = _
  rw [Shape.rowMajorPi_succ_val]
  have h := rowMajor3 (a := b) (b := c) (c := d) (fun x => i x.succ)
  have e : (∏ x : Fin 3, ![a, b, c, d] x.succ) = b * c * d := by rw [Fin.prod_univ_three]; rfl
  refine (congrArg₂ (fun x y => (i 0).val * x + y) e h).trans ?_
  show (i 0).val * (b * c * d) + (((i 1).val * c + (i 2).val) * d + (i 3).val) = _
  ring

/-- Block `p` along the last axis: member `p` of the array reshaped and transposed. -/
theorem columns_member {g k n N : ℕ} {kN : Fin 3 → ℕ} (X : (⟨3, ![g, k, N]⟩ : Shape).Idx → α)
    (h1 : (⟨3, ![g, k, N]⟩ : Shape).ShapeCasts ⟨4, ![g, k, 4, n]⟩)
    (h2 : (⟨4, ![g, k, 4, n]⟩ : Shape).Transposes [2, 0, 1, 3] ⟨4, ![4, g, k, n]⟩)
    (ht : Layout.TilesN ⟨3, ![g, k, n]⟩ ⟨3, ![g, k, N]⟩ kN) (hN : N = 4 * n) (b : (x : Fin 3) → Fin (kN x)) (p : Fin 4)
    (hb0 : (b 0).val = 0) (hb1 : (b 1).val = 0) (hb2 : (b 2).val = p.val) :
    memberAt (d := ![g, k, n]) (transpose ⟨4, ![4, g, k, n]⟩ [2, 0, 1, 3] (shapeCast ⟨4, ![g, k, 4, n]⟩ X h1) h2) p
      = Layout.blockN ⟨3, ![g, k, n]⟩ ⟨3, ![g, k, N]⟩ b X ht := by
  subst hN
  funext j
  have j0 : (j 0).val < g := (j 0).isLt
  have j1 : (j 1).val < k := (j 1).isLt
  have j2 : (j 2).val < n := (j 2).isLt
  let i : (⟨4, ![g, k, 4, n]⟩ : Shape).Idx := Fin.cons (⟨(j 0).val, j0⟩ : Fin g) (Fin.cons (⟨(j 1).val, j1⟩ : Fin k) (Fin.cons p (Fin.cons (⟨(j 2).val, j2⟩ : Fin n) finZeroElim)))
  refine (transpose_apply _ _ h2 _ i (fun x => by fin_cases x <;> rfl)).trans ?_
  refine shapeCast_apply _ h1 _ (ht.idx b j) ?_
  rw [rowMajor3, rowMajor4]
  have e0 : (ht.idx b j 0).val = (j 0).val := by
    refine (Layout.TilesN.idx_val ht b j 0).trans ?_
    show (b 0).val * g + (j 0).val = _
    rw [hb0]; omega
  have e1 : (ht.idx b j 1).val = (j 1).val := by
    refine (Layout.TilesN.idx_val ht b j 1).trans ?_
    show (b 1).val * k + (j 1).val = _
    rw [hb1]; omega
  have e2 : (ht.idx b j 2).val = p.val * n + (j 2).val := by
    refine (Layout.TilesN.idx_val ht b j 2).trans ?_
    show (b 2).val * n + (j 2).val = _
    rw [hb2]
  rw [e0, e1, e2]
  show ((j 0).val * k + (j 1).val) * (4 * n) + (p.val * n + (j 2).val) = (((j 0).val * k + (j 1).val) * 4 + p.val) * n + (j 2).val
  ring

/-- Block `p` along the middle axis: member `p` of the array reshaped and transposed. -/
theorem rows_member {g k n K : ℕ} {kN : Fin 3 → ℕ} (X : (⟨3, ![g, K, n]⟩ : Shape).Idx → α)
    (h1 : (⟨3, ![g, K, n]⟩ : Shape).ShapeCasts ⟨4, ![g, 4, k, n]⟩)
    (h2 : (⟨4, ![g, 4, k, n]⟩ : Shape).Transposes [1, 0, 2, 3] ⟨4, ![4, g, k, n]⟩)
    (ht : Layout.TilesN ⟨3, ![g, k, n]⟩ ⟨3, ![g, K, n]⟩ kN) (hK : K = 4 * k) (b : (x : Fin 3) → Fin (kN x)) (p : Fin 4)
    (hb0 : (b 0).val = 0) (hb1 : (b 1).val = p.val) (hb2 : (b 2).val = 0) :
    memberAt (d := ![g, k, n]) (transpose ⟨4, ![4, g, k, n]⟩ [1, 0, 2, 3] (shapeCast ⟨4, ![g, 4, k, n]⟩ X h1) h2) p
      = Layout.blockN ⟨3, ![g, k, n]⟩ ⟨3, ![g, K, n]⟩ b X ht := by
  subst hK
  funext j
  have j0 : (j 0).val < g := (j 0).isLt
  have j1 : (j 1).val < k := (j 1).isLt
  have j2 : (j 2).val < n := (j 2).isLt
  let i : (⟨4, ![g, 4, k, n]⟩ : Shape).Idx := Fin.cons (⟨(j 0).val, j0⟩ : Fin g) (Fin.cons p (Fin.cons (⟨(j 1).val, j1⟩ : Fin k) (Fin.cons (⟨(j 2).val, j2⟩ : Fin n) finZeroElim)))
  refine (transpose_apply _ _ h2 _ i (fun x => by fin_cases x <;> rfl)).trans ?_
  refine shapeCast_apply _ h1 _ (ht.idx b j) ?_
  rw [rowMajor3, rowMajor4]
  have e0 : (ht.idx b j 0).val = (j 0).val := by
    refine (Layout.TilesN.idx_val ht b j 0).trans ?_
    show (b 0).val * g + (j 0).val = _
    rw [hb0]; omega
  have e1 : (ht.idx b j 1).val = p.val * k + (j 1).val := by
    refine (Layout.TilesN.idx_val ht b j 1).trans ?_
    show (b 1).val * k + (j 1).val = _
    rw [hb1]
  have e2 : (ht.idx b j 2).val = (j 2).val := by
    refine (Layout.TilesN.idx_val ht b j 2).trans ?_
    show (b 2).val * n + (j 2).val = _
    rw [hb2]; omega
  rw [e0, e1, e2]
  show ((j 0).val * (4 * k) + (p.val * k + (j 1).val)) * n + (j 2).val = ((((j 0).val * 4 + p.val) * k + (j 1).val)) * n + (j 2).val
  ring

/-- Where element `j` of block `c` of eight along the first axis of two is. -/
theorem block_idx {k n K : ℕ} (ht : Layout.Tiles ⟨2, ![k, n]⟩ ⟨2, ![K, n]⟩ 0 8) (c : Fin 8) (j : (⟨2, ![k, n]⟩ : Shape).Idx) :
    (ht.idx c j 0).val = c.val * k + (j 0).val ∧ (ht.idx c j 1).val = (j 1).val :=
  ⟨(Layout.Tiles.idx_val ht c j 0).trans (if_pos rfl), (Layout.Tiles.idx_val ht c j 1).trans (if_neg Nat.one_ne_zero)⟩

/-- Block `p` of eight: member `p` of the array reshaped. -/
theorem stack_member {k n K : ℕ} (X : (⟨2, ![K, n]⟩ : Shape).Idx → α) (h1 : (⟨2, ![K, n]⟩ : Shape).ShapeCasts ⟨3, ![8, k, n]⟩)
    (ht : Layout.Tiles ⟨2, ![k, n]⟩ ⟨2, ![K, n]⟩ 0 8) (p : Fin 8) :
    memberAt (d := ![k, n]) (shapeCast ⟨3, ![8, k, n]⟩ X h1) p = Layout.block ⟨2, ![k, n]⟩ ⟨2, ![K, n]⟩ 0 8 p X ht := by
  funext j
  refine shapeCast_apply _ h1 _ (ht.idx p j) ?_
  rw [rowMajor2, rowMajor3, (block_idx ht p j).1, (block_idx ht p j).2]
  rfl

/-- Block `c` of the reversed array is the block of `c`'s sibling. -/
theorem flip_block {k n K : ℕ} (X : (⟨2, ![K, n]⟩ : Shape).Idx → α) (h1 : (⟨2, ![K, n]⟩ : Shape).ShapeCasts ⟨4, ![4, 2, k, n]⟩)
    (h2 : (⟨4, ![4, 2, k, n]⟩ : Shape).ShapeCasts ⟨2, ![K, n]⟩) (ht : Layout.Tiles ⟨2, ![k, n]⟩ ⟨2, ![K, n]⟩ 0 8) (c c' : Fin 8)
    (hc : c'.val = 2 * (c.val / 2) + (1 - c.val % 2)) :
    Layout.block ⟨2, ![k, n]⟩ ⟨2, ![K, n]⟩ 0 8 c
        (shapeCast ⟨2, ![K, n]⟩ (Host.reverse [1] (shapeCast ⟨4, ![4, 2, k, n]⟩ X h1)) h2) ht
      = Layout.block ⟨2, ![k, n]⟩ ⟨2, ![K, n]⟩ 0 8 c' X ht := by
  funext j
  have j0 : (j 0).val < k := (j 0).isLt
  have j1 : (j 1).val < n := (j 1).isLt
  have hc8 := c.isLt
  let q : Fin 4 := ⟨c.val / 2, by omega⟩
  let e : Fin 2 := ⟨c.val % 2, by omega⟩
  let i : (⟨4, ![4, 2, k, n]⟩ : Shape).Idx := Fin.cons q (Fin.cons e (Fin.cons (⟨(j 0).val, j0⟩ : Fin k) (Fin.cons (⟨(j 1).val, j1⟩ : Fin n) finZeroElim)))
  refine (shapeCast_apply _ h2 _ i ?_).trans ?_
  · rw [rowMajor2, rowMajor4, (block_idx ht c j).1, (block_idx ht c j).2]
    show ((c.val / 2 * 2 + c.val % 2) * k + (j 0).val) * n + (j 1).val = (c.val * k + (j 0).val) * n + (j 1).val
    rw [show c.val / 2 * 2 + c.val % 2 = c.val by omega]
  · rw [Host.reverse_apply]
    refine shapeCast_apply _ h1 _ (ht.idx c' j) ?_
    rw [rowMajor2, rowMajor4, (block_idx ht c' j).1, (block_idx ht c' j).2]
    show (c'.val * k + (j 0).val) * n + (j 1).val = ((c.val / 2 * 2 + (2 - (c.val % 2 + 1))) * k + (j 0).val) * n + (j 1).val
    rw [show c'.val = c.val / 2 * 2 + (2 - (c.val % 2 + 1)) by omega]

end Cert.Exchange

end
-- ==== Proof.SmallPlan.lean ====
/-
# The small gradients' all-gather: the copies

A device sends its array whole to the seven others, which take it as the member named by the sender; the same member of its
own result it copies.
-/
module

public import proofs.«01_k».proof.Proof.Slots
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Frame

@[expose] public section

noncomputable section

namespace Cert.SmallIdeal.Small

open Idealize.ShloMosaic
open Idealize.ShloMosaic.TcCoe
open Idealize.ShloMosaic.StackWindow Idealize.ShloMosaic.StackMember
open Idealize.SL Idealize.SL.RA Idealize.SL.BI
open scoped Idealize.SL.BI
open Idealize.SL.BI.BIBase Idealize.SL.BI.Laws Idealize.SL.Sem
open Cert.Exchange Cert.SmallIdeal.Gen

/-- The shape of array `a`. -/
abbrev dims : Fin 1 → Fin 2 → ℕ
  | 0 => ![4608, 128]

/-- Array `a` as it is given, -/
abbrev ins : (a : Fin 1) → Memref sig .tc .hbm ⟨2, dims a⟩ .f32
  | 0 => Memref.whole main_arg0

/-- and its copies, as they are returned. -/
abbrev outs : (a : Fin 1) → Memref sig .tc .hbm (stackShape 8 (dims a)) .f32
  | 0 => Memref.whole main_v1

theorem ins_whole : ∀ a, (ins a).IsWhole
  | 0 => Memref.isWhole_whole _

theorem outs_whole : ∀ a, (outs a).IsWhole
  | 0 => Memref.isWhole_whole _

theorem sq : ∀ a, (blockShape (dims a)).Squeezes ⟨2, dims a⟩
  | 0 => squeezes_S1x4608x128_S4608x128

/-- The offsets of the device's own member of result `a`, -/
abbrev offMe (c : Dev nD) : Fin 1 → Fin 3 → ℕ
  | 0 => k0_off1 c

/-- and of the member of its `j`-th peer. -/
abbrev offPeer (c : Dev nD) : Fin 1 → Fin 7 → Fin 3 → ℕ
  | 0, 0 => k0_off2 c (k0_off2_at 0).1 (k0_off2_at 0).2.1 (k0_off2_at 0).2.2
  | 0, 1 => k0_off2 c (k0_off2_at 1).1 (k0_off2_at 1).2.1 (k0_off2_at 1).2.2
  | 0, 2 => k0_off2 c (k0_off2_at 2).1 (k0_off2_at 2).2.1 (k0_off2_at 2).2.2
  | 0, 3 => k0_off2 c (k0_off2_at 3).1 (k0_off2_at 3).2.1 (k0_off2_at 3).2.2
  | 0, 4 => k0_off2 c (k0_off2_at 4).1 (k0_off2_at 4).2.1 (k0_off2_at 4).2.2
  | 0, 5 => k0_off2 c (k0_off2_at 5).1 (k0_off2_at 5).2.1 (k0_off2_at 5).2.2
  | 0, 6 => k0_off2 c (k0_off2_at 6).1 (k0_off2_at 6).2.1 (k0_off2_at 6).2.2

theorem inbMe (c : Dev nD) : ∀ a x, offMe c a x + (blockShape (dims a)).size x ≤ (stackShape 8 (dims a)).size x
  | 0 => k0_off1_inb c

theorem inbPeer (c : Dev nD) : ∀ a j x, offPeer c a j x + (blockShape (dims a)).size x ≤ (stackShape 8 (dims a)).size x
  | 0, 0 => k0_off2_inb c 0
  | 0, 1 => k0_off2_inb c 1
  | 0, 2 => k0_off2_inb c 2
  | 0, 3 => k0_off2_inb c 3
  | 0, 4 => k0_off2_inb c 4
  | 0, 5 => k0_off2_inb c 5
  | 0, 6 => k0_off2_inb c 6

theorem wordIn : ∀ a, (ins a).view.WordExact := fun a => (ins_whole a).wordExact

theorem wordMe (c : Dev nD) : ∀ a, (slot (outs a) (offMe c a) (inbMe c a) (sq a)).view.WordExact
  | 0 => (View.wordExact_bits rfl).reshape _ _

theorem wordPeer (c : Dev nD) : ∀ a j, (slot (outs a) (offPeer c a j) (inbPeer c a j) (sq a)).view.WordExact
  | 0, 0 => (View.wordExact_bits rfl).reshape _ _
  | 0, 1 => (View.wordExact_bits rfl).reshape _ _
  | 0, 2 => (View.wordExact_bits rfl).reshape _ _
  | 0, 3 => (View.wordExact_bits rfl).reshape _ _
  | 0, 4 => (View.wordExact_bits rfl).reshape _ _
  | 0, 5 => (View.wordExact_bits rfl).reshape _ _
  | 0, 6 => (View.wordExact_bits rfl).reshape _ _

/-- The device that transfer `(a, j)` of device `c` names. -/
abbrev nm (c : Dev nD) : Fin 1 × Fin 7 → Dev nD
  | (0, 0) => ⟨k0_dev1 c, k0_dev1_lt c⟩
  | (0, 1) => ⟨k0_dev2 c, k0_dev2_lt c⟩
  | (0, 2) => ⟨k0_dev3 c, k0_dev3_lt c⟩
  | (0, 3) => ⟨k0_dev4 c, k0_dev4_lt c⟩
  | (0, 4) => ⟨k0_dev5 c, k0_dev5_lt c⟩
  | (0, 5) => ⟨k0_dev6 c, k0_dev6_lt c⟩
  | (0, 6) => ⟨k0_dev7 c, k0_dev7_lt c⟩

/-- The `j`-th peer of a device: the bits of `j + 1` say which of its three coordinates differ. -/
def peer : Fin 7 → Equiv.Perm (Dev nD)
  | 0 => ⟨![1, 0, 3, 2, 5, 4, 7, 6], ![1, 0, 3, 2, 5, 4, 7, 6], by decide, by decide⟩
  | 1 => ⟨![2, 3, 0, 1, 6, 7, 4, 5], ![2, 3, 0, 1, 6, 7, 4, 5], by decide, by decide⟩
  | 2 => ⟨![3, 2, 1, 0, 7, 6, 5, 4], ![3, 2, 1, 0, 7, 6, 5, 4], by decide, by decide⟩
  | 3 => ⟨![4, 5, 6, 7, 0, 1, 2, 3], ![4, 5, 6, 7, 0, 1, 2, 3], by decide, by decide⟩
  | 4 => ⟨![5, 4, 7, 6, 1, 0, 3, 2], ![5, 4, 7, 6, 1, 0, 3, 2], by decide, by decide⟩
  | 5 => ⟨![6, 7, 4, 5, 2, 3, 0, 1], ![6, 7, 4, 5, 2, 3, 0, 1], by decide, by decide⟩
  | 6 => ⟨![7, 6, 5, 4, 3, 2, 1, 0], ![7, 6, 5, 4, 3, 2, 1, 0], by decide, by decide⟩

theorem nm_eq : ∀ (c : Dev nD) (k : Fin 1 × Fin 7), nm c k = peer k.2 c := by decide +kernel

/-- The cells: each transfer's send cell, its receive cell, each local copy's. -/
def sem : (Fin 1 × Fin 7) ⊕ (Fin 1 × Fin 7) ⊕ Fin 1 → DmaSem sig
  | .inl (0, 0) => ((cc0_scratch0.slice (Rect.unit (s := S7) ![0] S1.size inb_S7_S1_0)).squeeze S_ squeezes_S1_S_).sem
  | .inl (0, 1) => ((cc0_scratch0.slice (Rect.unit (s := S7) ![1] S1.size inb_S7_S1_1)).squeeze S_ squeezes_S1_S_).sem
  | .inl (0, 2) => ((cc0_scratch0.slice (Rect.unit (s := S7) ![2] S1.size inb_S7_S1_2)).squeeze S_ squeezes_S1_S_).sem
  | .inl (0, 3) => ((cc0_scratch0.slice (Rect.unit (s := S7) ![3] S1.size inb_S7_S1_3)).squeeze S_ squeezes_S1_S_).sem
  | .inl (0, 4) => ((cc0_scratch0.slice (Rect.unit (s := S7) ![4] S1.size inb_S7_S1_4)).squeeze S_ squeezes_S1_S_).sem
  | .inl (0, 5) => ((cc0_scratch0.slice (Rect.unit (s := S7) ![5] S1.size inb_S7_S1_5)).squeeze S_ squeezes_S1_S_).sem
  | .inl (0, 6) => ((cc0_scratch0.slice (Rect.unit (s := S7) ![6] S1.size inb_S7_S1_6)).squeeze S_ squeezes_S1_S_).sem
  | .inr (.inl (0, 0)) => ((cc0_scratch1.slice (Rect.unit (s := S7) ![0] S1.size inb_S7_S1_0)).squeeze S_ squeezes_S1_S_).sem
  | .inr (.inl (0, 1)) => ((cc0_scratch1.slice (Rect.unit (s := S7) ![1] S1.size inb_S7_S1_1)).squeeze S_ squeezes_S1_S_).sem
  | .inr (.inl (0, 2)) => ((cc0_scratch1.slice (Rect.unit (s := S7) ![2] S1.size inb_S7_S1_2)).squeeze S_ squeezes_S1_S_).sem
  | .inr (.inl (0, 3)) => ((cc0_scratch1.slice (Rect.unit (s := S7) ![3] S1.size inb_S7_S1_3)).squeeze S_ squeezes_S1_S_).sem
  | .inr (.inl (0, 4)) => ((cc0_scratch1.slice (Rect.unit (s := S7) ![4] S1.size inb_S7_S1_4)).squeeze S_ squeezes_S1_S_).sem
  | .inr (.inl (0, 5)) => ((cc0_scratch1.slice (Rect.unit (s := S7) ![5] S1.size inb_S7_S1_5)).squeeze S_ squeezes_S1_S_).sem
  | .inr (.inl (0, 6)) => ((cc0_scratch1.slice (Rect.unit (s := S7) ![6] S1.size inb_S7_S1_6)).squeeze S_ squeezes_S1_S_).sem
  | .inr (.inr 0) => cc0_scratch2.sem

theorem sem_inj : Function.Injective sem := by decide +kernel

theorem numel_pos : ∀ a, 0 < (⟨2, dims a⟩ : Shape).numel := by decide +kernel

theorem not_scratch (a : Fin 1) (off : Fin 3 → ℕ) (inb : ∀ x, off x + (blockShape (dims a)).size x ≤ (stackShape 8 (dims a)).size x) :
    (slot (outs a) off inb (sq a)).view.ref.isScScratch = false := by
  revert inb
  fin_cases a <;> exact fun _ => rfl

/-- The copies: array `a`, whole, to every peer's member `a` of this device, and to its own. -/
def plan : Plan nD sig (Fin 1 × Fin 7) (Fin 1) where
  dest k := peer k.2
  x c k := ⟨⟨2, dims k.1⟩, .f32, ins k.1, slot (outs k.1) (offMe c k.1) (inbMe c k.1) (sq k.1),
    wordIn k.1, wordMe c k.1, not_scratch k.1 _ _⟩
  l c a := ⟨⟨2, dims a⟩, .f32, ins a, slot (outs a) (offMe c a) (inbMe c a) (sq a), wordIn a, wordMe c a, not_scratch a _ _⟩
  sem := sem
  inj := sem_inj
  amt k := (slot (outs k.1) (offMe 0 k.1) (inbMe 0 k.1) (sq k.1)).view.dmaCredit
  lamt a := (slot (outs a) (offMe 0 a) (inbMe 0 a) (sq a)).view.dmaCredit
  amt_eq c k := rfl
  lamt_eq c a := rfl
  amt_pos k := View.dmaCredit_pos _ (numel_pos k.1)
  lamt_pos a := View.dmaCredit_pos _ (numel_pos a)
  q k := Transfers.shareTok fullShare 7 k.2
  lq _ := Transfers.shareDrop fullShare 7

variable {F : FTy → Type} [FloatOps F]

/-- The waits, in the order of the program's cells. -/
def wait (c : Dev nD) : (Fin 1 × Fin 7) ⊕ (Fin 1 × Fin 7) ⊕ Fin 1 → TpuEff nD τ sig (Elt F) Λ₀ .tc PUnit
  | .inl k => .waitDma2 (sem (.inl k)) (slot (outs k.1) (offMe c k.1) (inbMe c k.1) (sq k.1)) (ins k.1) (wordMe c k.1) (wordIn k.1)
  | .inr (.inl k) => .waitDma2 (sem (.inr (.inl k))) (ins k.1) (slot (outs k.1) (offPeer c k.1 k.2) (inbPeer c k.1 k.2) (sq k.1)) (wordIn k.1) (wordPeer c k.1 k.2)
  | .inr (.inr a) => .waitDma2 (sem (.inr (.inr a))) (ins a) (slot (outs a) (offMe c a) (inbMe c a) (sq a)) (wordIn a) (wordMe c a)

def ls : List (Fin 1) := [0]
def ks : List (Fin 1 × Fin 7) :=
  [(0, 0), (0, 1), (0, 2), (0, 3), (0, 4), (0, 5), (0, 6)]
def ws : List ((Fin 1 × Fin 7) ⊕ (Fin 1 × Fin 7) ⊕ Fin 1) := ks.map (fun k => .inr (.inl k)) ++ ks.map .inl ++ ls.map (fun a => .inr (.inr a))

set_option maxRecDepth 100000 in
theorem body_eq (t : Fin cfg0.N) : bodyAt0 (F := F) t = plan.prog ls ks nm ws wait := rfl

end Cert.SmallIdeal.Small

end
-- ==== Proof.SmallRun.lean ====
/-
# The small gradients' all-gather: its run

`run`: the program terminates, with its argument unchanged, every counter at zero, and member `p` of the result on every
device the argument on device `p`.
-/
module

public import proofs.«01_k».proof.Proof.SmallPlan

@[expose] public section

noncomputable section

namespace Cert.SmallIdeal.Small

open Idealize.ShloMosaic
open Idealize.ShloMosaic.TcCoe
open Idealize.ShloMosaic.StackWindow Idealize.ShloMosaic.StackMember
open Idealize.SL Idealize.SL.RA Idealize.SL.BI
open scoped Idealize.SL.BI
open Idealize.SL.BI.BIBase Idealize.SL.BI.Laws Idealize.SL.ProofMode Idealize.SL.Sem
open Cert.Exchange Cert.SmallIdeal.Gen

/-- A device's place in the result, -/
def place (c : Dev nD) : Fin 8 := c

/-- and the device at place `p`. -/
def holder (p : Fin 8) (_ : Dev nD) : Dev nD := p

theorem at_me (c : Dev nD) (a : Fin 1) : AtMember (offMe c a) (place c) :=
  have h : ∀ (c : Dev nD) (a : Fin 1), offMe c a 0 = (place c).val ∧ ∀ b : Fin 2, offMe c a b.succ = 0 := by decide +kernel
  ⟨(h c a).1, (h c a).2⟩

/-- The peers' places, and the device's own. -/
def placeOf (c : Dev nD) : Fin 7 ⊕ Unit → Fin 8
  | .inl j => place (peer j c)
  | .inr _ => place c

theorem placeOf_bij (c : Dev nD) : Function.Bijective (placeOf c) :=
  (Fintype.bijective_iff_injective_and_card _).2 ⟨by revert c; decide +kernel, by decide⟩
theorem peer_peer : ∀ (j : Fin 7) (c : Dev nD), peer j (peer j c) = c := by decide +kernel
theorem holder_peer : ∀ (j : Fin 7) (c : Dev nD), holder (place (peer j c)) c = peer j c := by decide +kernel
theorem holder_self : ∀ c : Dev nD, holder (place c) c = c := by decide +kernel

/-- The members a device is sent, and its own. -/
def offDst (c : Dev nD) (a : Fin 1) : Fin 7 ⊕ Unit → Fin 3 → ℕ
  | .inl j => offMe (peer j c) a
  | .inr _ => offMe c a
theorem inbDst (c : Dev nD) (a : Fin 1) : ∀ t x, offDst c a t x + (blockShape (dims a)).size x ≤ (stackShape 8 (dims a)).size x
  | .inl j => inbMe (peer j c) a
  | .inr _ => inbMe c a
theorem at_dst (c : Dev nD) (a : Fin 1) : ∀ t, AtMember (offDst c a t) (placeOf c t)
  | .inl j => at_me (peer j c) a
  | .inr _ => at_me c a

variable {F : FTy → Type} [FloatOps F]

local notation "𝕄" => MT nD τ sig Unit (Elt F) ℕ (UU nD τ sig) ℕ

/-- The program's arrays. -/
def arr : Fin 1 ⊕ Fin 1 → Ref sig .tc
  | .inl a => (ins a).view.ref
  | .inr a => (outs a).view.ref

theorem arr_inj : Function.Injective arr := by decide +kernel
theorem arr_all : (Finset.univ.filter fun b : Ref sig .tc => ¬ b.isScoped) = Finset.univ.map ⟨arr, arr_inj⟩ := by decide +kernel

theorem split_src (m : (ℓ : Loc nD τ sig) → Buf (Elt F) ℓ) (c : Dev nD) (a : Fin 1) :
    ((c.tc : Thread nD τ).loc (arr (.inl a)) ↦{fullShare} m _ : sProp 𝕄)
      ⊢ iprop((bigSep Finset.univ fun j => plan.srcP m c (a, j)) ∗ plan.lsrcP m c a) :=
  whole_deal (ins a) (ins_whole a) 7 c (m _)

theorem split_dst (m : (ℓ : Loc nD τ sig) → Buf (Elt F) ℓ) (c : Dev nD) (a : Fin 1) :
    ((c.tc : Thread nD τ).loc (arr (.inr a)) ↦{fullShare} m _ : sProp 𝕄)
      ⊢ iprop((bigSep Finset.univ fun j => plan.landP m c (a, j)) ∗ plan.ldstP m c a) := by
  refine Entails.of_eq ((slots_split (outs a) (sq a) (outs_whole a) (offDst c a) (inbDst c a) (placeOf c) (at_dst c a) (placeOf_bij c) c fullShare _).trans ?_)
  rw [bigSep_univ_sum, Finset.univ_unique (α := Unit), bigSep_singleton]
  refine congrArg₂ _ (bigSep_congr fun j _ => ?_) rfl
  exact (plan.landP_eq m c (a, j) (peer j c) (peer_peer j c)).symm

theorem wait_eq (c : Dev nD) (j : (Fin 1 × Fin 7) ⊕ (Fin 1 × Fin 7) ⊕ Fin 1) (Kt : PUnit → sProp 𝕄) :
    wpE defs₀ Variants.none (c.tc : Thread nD τ) none Set.univ (wait (F := F) c j) Kt
      = waitSpec (c.tc : Thread nD τ) Set.univ (.dma (plan.sem j)) (plan.jamt j) Kt := by
  rcases j with k | k | a <;> rfl

/-- What a memory holds after the exchange from `m`. -/
structure Exchanged (m m' : (ℓ : Loc nD τ sig) → Buf (Elt F) ℓ) : Prop where
  args (c : Dev nD) (a : Fin 1) : (ins a).view.read (Elt F) (m' ((c.tc : Thread nD τ).loc (arr (.inl a))))
    = (ins a).view.read (Elt F) (m ((c.tc : Thread nD τ).loc (arr (.inl a))))
  results (c : Dev nD) (a : Fin 1) (p : Fin 8) : memberAt ((outs a).view.read (Elt F) (m' ((c.tc : Thread nD τ).loc (arr (.inr a))))) p
    = (ins a).view.read (Elt F) (m (((holder p c).tc : Thread nD τ).loc (arr (.inl a))))

theorem exchanged (m m' : (ℓ : Loc nD τ sig) → Buf (Elt F) ℓ) (h : ∀ c, plan.Done m c m') : Exchanged m m' where
  args c a := (h c).lsrc a
  results c a p := by
    obtain ⟨t, rfl⟩ := (placeOf_bij c).2 p
    match t with
    | .inl j =>
      have e := (h c).dst (a, j) (peer j c) (peer_peer j c)
      have e1 := slot_read (outs a) (offMe (peer j c) a) (inbMe (peer j c) a) (sq a) (at_me (peer j c) a) (m' ((c.tc : Thread nD τ).loc (arr (.inr a))))
      show memberAt _ (place (peer j c)) = (ins a).view.read (Elt F) (m (((holder (place (peer j c)) c).tc : Thread nD τ).loc (arr (.inl a))))
      rw [holder_peer]
      exact e1.symm.trans e
    | .inr _ =>
      have e := (h c).ldst a
      have e1 := slot_read (outs a) (offMe c a) (inbMe c a) (sq a) (at_me c a) (m' ((c.tc : Thread nD τ).loc (arr (.inr a))))
      show memberAt _ (place c) = (ins a).view.read (Elt F) (m (((holder (place c) c).tc : Thread nD τ).loc (arr (.inl a))))
      rw [holder_self]
      exact e1.symm.trans e

theorem own_sems : Pipeline.OwnSemFacts (pcfgs (F := F) 0).spec (fun j => SemLoc.dma (plan.sem j)) :=
  ⟨by decide +kernel, fun i j h => sem_inj (SemLoc.dma.inj h), fun _ w => w.elim0⟩

theorem ls_nodup : ls.Nodup := by decide +kernel
theorem mem_ls : ∀ k, k ∈ ls := by decide +kernel
theorem ks_nodup : ks.Nodup := by decide +kernel
theorem mem_ks : ∀ k, k ∈ ks := by decide +kernel
theorem ws_nodup : ws.Nodup := by decide +kernel
theorem mem_ws : ∀ k, k ∈ ws
  | .inl k => List.mem_append_left _ (List.mem_append_right _ (List.mem_map_of_mem (mem_ks k)))
  | .inr (.inl k) => List.mem_append_left _ (List.mem_append_left _ (List.mem_map_of_mem (mem_ks k)))
  | .inr (.inr a) => List.mem_append_right _ (List.mem_map_of_mem (mem_ls a))
theorem no_windows (p : Fin 1) : IsEmpty (Fin (pcfgs (F := F) p).W) := by fin_cases p; exact inferInstanceAs (IsEmpty (Fin 0))

theorem sems_scoped : ∀ s : SemLoc sig, s.isScoped .tc = true := by decide +kernel

theorem main_eq (c : Dev nD) : main (F := F) c = .op (.customCall (Pipeline.entry 0) ()) fun _ => .ret ⟨⟩ := rfl

theorem split (m : (ℓ : Loc nD τ sig) → Buf (Elt F) ℓ) (c : Dev nD) :
    (unscopedBufs c (fun b => m ((c.tc : Thread nD τ).loc b)) : sProp 𝕄)
      ⊢ iprop((bigSep Finset.univ fun k => plan.srcP m c k) ∗ (bigSep Finset.univ fun k => plan.landP m c k)
        ∗ (bigSep Finset.univ fun i => plan.lsrcP m c i) ∗ (bigSep Finset.univ fun i => plan.ldstP m c i) ∗ emp) := by
  rw [bufs_two arr arr_inj arr_all]
  exact plan.split_families m c _ _ (split_src m c) (split_dst m c)

set_option maxRecDepth 100000 in
theorem run (m : (ℓ : Loc nD τ sig) → Buf (Elt F) ℓ) (g : Dev nD → PrngReg) :
    θ_run (defs (F := F)) (onTc (τ := τ) (main (F := F))) ⟨m, fun _ => 0, g⟩
      (fun r => Exchanged m r.2.mem ∧ r.2.sem = fun _ => 0) := by
  refine plan.run_exchange m (pcfgs (F := F)) (fun p => (cfgs p).toPCfg_adm) cellOf_inj 0 winFacts0.to₀ own_sems defs₀
    ls_nodup mem_ls ks_nodup mem_ks ws_nodup mem_ws nm_eq (w := wait) no_windows (inferInstanceAs (IsEmpty (Fin 0))) N_0 g main main_eq
    ?_ ?_ ?_ ?_
  · intro c t Kt
    rw [← body_eq t]
    rfl
  · exact wait_eq
  · exact split m
  · exact fun s hd hs => ⟨exchanged m s.mem hd, sem_eq_zero_of_scoped sems_scoped hs⟩

end Cert.SmallIdeal.Small

end
-- ==== Proof.SmallValue.lean ====
/-
# The small gradients' all-gather: its value

Member `p` of the result is block `p` of the whole array, which is member `p` of its reshape; `same` is the claim, for any
float values.
-/
module

public import proofs.«01_k».proof.Proof.Blocks
public import proofs.«01_k».proof.Proof.SmallRun
public import proofs.«01_k».proof.Proof.Gen.SmallReferenceIdeal.Run

@[expose] public section

noncomputable section

namespace Cert.SmallIdeal.Small

open Idealize.ShloMosaic
open Idealize.ShloMosaic.TcCoe
open Idealize.ShloMosaic.StackWindow Idealize.ShloMosaic.StackMember
open Idealize.SL Idealize.SL.Sem
open Cert.Exchange Cert.SmallIdeal.Gen

variable {F : FTy → Type} [FloatOps F]

/-- The arguments end unchanged and every counter is zero. -/
theorem quiet (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => h.1.args c 0, h.2⟩) (run m g)

/-- Kernel and reference, from memories that hold the same arrays. -/
theorem same (m : (ℓ : Loc nD τ sig) → Buf (Elt F) ℓ) (g : Dev nD → PrngReg)
    (m' : (ℓ : Loc Cert.SmallReferenceIdeal.nD Cert.SmallReferenceIdeal.τ Cert.SmallReferenceIdeal.sig) → Buf (Elt F) ℓ) (g' : Dev Cert.SmallReferenceIdeal.nD → PrngReg)
    (hm : ∀ c : Dev nD,
      m ((c.tc : Thread nD τ).loc main_arg0) = Layout.block ⟨2, ![4608, 128]⟩ ⟨2, ![36864, 128]⟩ 0 8 c (m' (((0 : Dev Cert.SmallReferenceIdeal.nD).tc : Thread Cert.SmallReferenceIdeal.nD Cert.SmallReferenceIdeal.τ).loc Cert.SmallReferenceIdeal.main_arg0))) :
    ∃ (v0 : Buf (Elt F) (((0 : Dev Cert.SmallReferenceIdeal.nD).tc : Thread Cert.SmallReferenceIdeal.nD Cert.SmallReferenceIdeal.τ).loc Cert.SmallReferenceIdeal.main_v0)),
      θ_run (defs (F := F)) (onTc (τ := τ) (main (F := F))) ⟨m, fun _ => 0, g⟩ (fun r => ∀ c : Dev nD,
          r.2.mem ((c.tc : Thread nD τ).loc main_v1) = v0
          ∧ r.2.mem ((c.tc : Thread nD τ).loc main_arg0) = m ((c.tc : Thread nD τ).loc main_arg0))
      ∧ θ_run (Cert.SmallReferenceIdeal.defs (F := F)) (onTc (τ := Cert.SmallReferenceIdeal.τ) (Cert.SmallReferenceIdeal.main (F := F))) ⟨m', fun _ => 0, g'⟩ (fun r =>
          r.2.mem (((0 : Dev Cert.SmallReferenceIdeal.nD).tc : Thread Cert.SmallReferenceIdeal.nD Cert.SmallReferenceIdeal.τ).loc Cert.SmallReferenceIdeal.main_v0) = v0
          ∧ r.2.mem (((0 : Dev Cert.SmallReferenceIdeal.nD).tc : Thread Cert.SmallReferenceIdeal.nD Cert.SmallReferenceIdeal.τ).loc Cert.SmallReferenceIdeal.main_arg0) = m' (((0 : Dev Cert.SmallReferenceIdeal.nD).tc : Thread Cert.SmallReferenceIdeal.nD Cert.SmallReferenceIdeal.τ).loc Cert.SmallReferenceIdeal.main_arg0)) := by
  refine ⟨_, ?_, (θ_run Cert.SmallReferenceIdeal.defs _ _).mono (fun _ h => h 0) (Cert.SmallReferenceIdeal.Value.run m' g')⟩
  refine (θ_run defs _ _).mono (fun r h c => ?_) (run m g)
  exact ⟨ext_memberAt (d := ![4608, 128]) fun p => (h.1.results c 0 p).trans ((hm p).trans (stack_member _ _ (by decide) p).symm),
    h.1.args c 0⟩

end Cert.SmallIdeal.Small

end
-- ==== Proof.SiblingPlan.lean ====
/-
# The gradients' exchange between the two cores of a chip: the copies

Each device sends each of its seven arrays whole to the device of its chip with the other core number.
-/
module

public import proofs.«01_k».proof.Proof.Slots
public import proofs.«01_k».proof.Proof.Gen.SiblingIdeal.Skeleton
public import proofs.«01_k».proof.Proof.Gen.SiblingIdeal.Launch
public import proofs.«01_k».proof.Proof.Gen.SiblingIdeal.Points
public import proofs.«01_k».proof.Proof.Gen.SiblingIdeal.Frame

@[expose] public section

noncomputable section

namespace Cert.SiblingIdeal.Sibling

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.SiblingIdeal.Gen

/-- The shape of array `a`. -/
abbrev dims : Fin 7 → Fin 2 → ℕ
  | 0 => ![4096, 448]
  | 1 => ![1024, 1024]
  | 2 => ![4096, 704]
  | 3 => ![4096, 704]
  | 4 => ![2816, 1024]
  | 5 => ![1024, 256]
  | 6 => ![1024, 1024]

/-- Array `a` as it is given, -/
abbrev ins : (a : Fin 7) → Memref sig .tc .hbm ⟨2, dims a⟩ .f32
  | 0 => Memref.whole main_arg0
  | 1 => Memref.whole main_arg1
  | 2 => Memref.whole main_arg2
  | 3 => Memref.whole main_arg3
  | 4 => Memref.whole main_arg4
  | 5 => Memref.whole main_arg5
  | 6 => Memref.whole main_arg6

/-- and as it is returned. -/
abbrev outs : (a : Fin 7) → Memref sig .tc .hbm ⟨2, dims a⟩ .f32
  | 0 => Memref.whole main_v1_0
  | 1 => Memref.whole main_v1_1
  | 2 => Memref.whole main_v1_2
  | 3 => Memref.whole main_v1_3
  | 4 => Memref.whole main_v1_4
  | 5 => Memref.whole main_v1_5
  | 6 => Memref.whole main_v1_6

theorem ins_whole : ∀ a, (ins a).IsWhole
  | 0 => Memref.isWhole_whole _
  | 1 => Memref.isWhole_whole _
  | 2 => Memref.isWhole_whole _
  | 3 => Memref.isWhole_whole _
  | 4 => Memref.isWhole_whole _
  | 5 => Memref.isWhole_whole _
  | 6 => Memref.isWhole_whole _

theorem outs_whole : ∀ a, (outs a).IsWhole
  | 0 => Memref.isWhole_whole _
  | 1 => Memref.isWhole_whole _
  | 2 => Memref.isWhole_whole _
  | 3 => Memref.isWhole_whole _
  | 4 => Memref.isWhole_whole _
  | 5 => Memref.isWhole_whole _
  | 6 => Memref.isWhole_whole _

/-- The device that transfer `a` of device `c` names. -/
abbrev nm (c : Dev nD) : Fin 7 → Dev nD
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩
  | 4 => ⟨k0_dev5 c, k0_dev5_lt c⟩
  | 5 => ⟨k0_dev6 c, k0_dev6_lt c⟩
  | 6 => ⟨k0_dev7 c, k0_dev7_lt c⟩

/-- The device of the same chip with the other core number. -/
def sibling : Equiv.Perm (Dev nD) := ⟨![1, 0, 3, 2, 5, 4, 7, 6], ![1, 0, 3, 2, 5, 4, 7, 6], by decide, by decide⟩

theorem nm_eq : ∀ (c : Dev nD) (a : Fin 7), nm c a = sibling c := by decide +kernel

/-- The cells: each transfer's send cell and its receive cell. -/
def sem : Fin 7 ⊕ Fin 7 ⊕ Fin 0 → DmaSem sig
  | .inl 0 => ((cc0_scratch0.slice (Rect.unit (s := S7) ![0] S1.size inb_S7_S1_0)).squeeze S_ squeezes_S1_S_).sem
  | .inl 1 => ((cc0_scratch0.slice (Rect.unit (s := S7) ![1] S1.size inb_S7_S1_1)).squeeze S_ squeezes_S1_S_).sem
  | .inl 2 => ((cc0_scratch0.slice (Rect.unit (s := S7) ![2] S1.size inb_S7_S1_2)).squeeze S_ squeezes_S1_S_).sem
  | .inl 3 => ((cc0_scratch0.slice (Rect.unit (s := S7) ![3] S1.size inb_S7_S1_3)).squeeze S_ squeezes_S1_S_).sem
  | .inl 4 => ((cc0_scratch0.slice (Rect.unit (s := S7) ![4] S1.size inb_S7_S1_4)).squeeze S_ squeezes_S1_S_).sem
  | .inl 5 => ((cc0_scratch0.slice (Rect.unit (s := S7) ![5] S1.size inb_S7_S1_5)).squeeze S_ squeezes_S1_S_).sem
  | .inl 6 => ((cc0_scratch0.slice (Rect.unit (s := S7) ![6] S1.size inb_S7_S1_6)).squeeze S_ squeezes_S1_S_).sem
  | .inr (.inl 0) => ((cc0_scratch1.slice (Rect.unit (s := S7) ![0] S1.size inb_S7_S1_0)).squeeze S_ squeezes_S1_S_).sem
  | .inr (.inl 1) => ((cc0_scratch1.slice (Rect.unit (s := S7) ![1] S1.size inb_S7_S1_1)).squeeze S_ squeezes_S1_S_).sem
  | .inr (.inl 2) => ((cc0_scratch1.slice (Rect.unit (s := S7) ![2] S1.size inb_S7_S1_2)).squeeze S_ squeezes_S1_S_).sem
  | .inr (.inl 3) => ((cc0_scratch1.slice (Rect.unit (s := S7) ![3] S1.size inb_S7_S1_3)).squeeze S_ squeezes_S1_S_).sem
  | .inr (.inl 4) => ((cc0_scratch1.slice (Rect.unit (s := S7) ![4] S1.size inb_S7_S1_4)).squeeze S_ squeezes_S1_S_).sem
  | .inr (.inl 5) => ((cc0_scratch1.slice (Rect.unit (s := S7) ![5] S1.size inb_S7_S1_5)).squeeze S_ squeezes_S1_S_).sem
  | .inr (.inl 6) => ((cc0_scratch1.slice (Rect.unit (s := S7) ![6] S1.size inb_S7_S1_6)).squeeze S_ squeezes_S1_S_).sem

theorem sem_inj : Function.Injective sem := by decide +kernel

theorem numel_pos : ∀ a, 0 < (⟨2, dims a⟩ : Shape).numel := by decide +kernel

theorem not_scratch : ∀ a, (outs a).view.ref.isScScratch = false := by decide +kernel

/-- The copies: array `a`, whole, to the sibling's result `a`. -/
def plan : Plan nD sig (Fin 7) (Fin 0) where
  dest _ := sibling
  x c a := ⟨⟨2, dims a⟩, .f32, ins a, outs a, (ins_whole a).wordExact, (outs_whole a).wordExact, not_scratch a⟩
  l c a := a.elim0
  sem := sem
  inj := sem_inj
  amt a := (outs a).view.dmaCredit
  lamt a := a.elim0
  amt_eq c a := rfl
  lamt_eq c a := a.elim0
  amt_pos a := View.dmaCredit_pos _ (numel_pos a)
  lamt_pos a := a.elim0
  q _ := fullShare
  lq a := a.elim0

variable {F : FTy → Type} [FloatOps F]

/-- The waits, in the order of the program's cells. -/
def wait (c : Dev nD) : Fin 7 ⊕ Fin 7 ⊕ Fin 0 → TpuEff nD τ sig (Elt F) Λ₀ .tc PUnit
  | .inl a => .waitDma2 (sem (.inl a)) (outs a) (ins a) (outs_whole a).wordExact (ins_whole a).wordExact
  | .inr (.inl a) => .waitDma2 (sem (.inr (.inl a))) (ins a) (outs a) (ins_whole a).wordExact (outs_whole a).wordExact

def ks : List (Fin 7) := [0, 1, 2, 3, 4, 5, 6]
def ws : List (Fin 7 ⊕ Fin 7 ⊕ Fin 0) := ks.flatMap fun a => [.inl a, .inr (.inl a)]

set_option maxRecDepth 100000 in
theorem body_eq (t : Fin cfg0.N) : bodyAt0 (F := F) t = plan.prog [] ks nm ws wait := rfl

end Cert.SiblingIdeal.Sibling

end
-- ==== Proof.SiblingRun.lean ====
/-
# The gradients' exchange between the two cores of a chip: its run

`run`: the program terminates, with its arguments unchanged, every counter at zero, and each result on device `c` the
argument on its sibling.
-/
module

public import proofs.«01_k».proof.Proof.SiblingPlan

@[expose] public section

noncomputable section

namespace Cert.SiblingIdeal.Sibling

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.SiblingIdeal.Gen

variable {F : FTy → Type} [FloatOps F]

local notation "𝕄" => MT nD τ sig Unit (Elt F) ℕ (UU nD τ sig) ℕ

theorem sibling_sibling : ∀ c : Dev nD, sibling (sibling c) = c := by decide +kernel

/-- The program's arrays. -/
def arr : Fin 7 ⊕ Fin 7 → Ref sig .tc
  | .inl a => (ins a).view.ref
  | .inr a => (outs a).view.ref

theorem arr_inj : Function.Injective arr := by decide +kernel
theorem arr_all : (Finset.univ.filter fun b : Ref sig .tc => ¬ b.isScoped) = Finset.univ.map ⟨arr, arr_inj⟩ := by decide +kernel

theorem src_eq (m : (ℓ : Loc nD τ sig) → Buf (Elt F) ℓ) (c : Dev nD) (a : Fin 7) :
    ((c.tc : Thread nD τ).loc (arr (.inl a)) ↦{fullShare} m _ : sProp 𝕄) = plan.srcP m c a :=
  congrArg (fun K => ((c.tc : Thread nD τ).loc (arr (.inl a)) ↦[K]{fullShare} m _ : sProp 𝕄)) (ins_whole a).set_eq_univ.symm

theorem dst_eq (m : (ℓ : Loc nD τ sig) → Buf (Elt F) ℓ) (c : Dev nD) (a : Fin 7) :
    ((c.tc : Thread nD τ).loc (arr (.inr a)) ↦{fullShare} m _ : sProp 𝕄) = plan.landP m c a := by
  refine Eq.trans ?_ (plan.landP_eq m c a (sibling c) (sibling_sibling c)).symm
  exact congrArg (fun K => ((c.tc : Thread nD τ).loc (arr (.inr a)) ↦[K]{fullShare} m _ : sProp 𝕄)) (outs_whole a).set_eq_univ.symm

theorem wait_eq (c : Dev nD) (j : Fin 7 ⊕ Fin 7 ⊕ Fin 0) (Kt : PUnit → sProp 𝕄) :
    wpE defs₀ Variants.none (c.tc : Thread nD τ) none Set.univ (wait (F := F) c j) Kt
      = waitSpec (c.tc : Thread nD τ) Set.univ (.dma (plan.sem j)) (plan.jamt j) Kt := by
  rcases j with k | k | a
  · rfl
  · rfl
  · exact a.elim0

/-- What a memory holds after the exchange from `m`. -/
structure Exchanged (m m' : (ℓ : Loc nD τ sig) → Buf (Elt F) ℓ) : Prop where
  args (c : Dev nD) (a : Fin 7) : (ins a).view.read (Elt F) (m' ((c.tc : Thread nD τ).loc (arr (.inl a))))
    = (ins a).view.read (Elt F) (m ((c.tc : Thread nD τ).loc (arr (.inl a))))
  results (c : Dev nD) (a : Fin 7) : (outs a).view.read (Elt F) (m' ((c.tc : Thread nD τ).loc (arr (.inr a))))
    = (ins a).view.read (Elt F) (m (((sibling c).tc : Thread nD τ).loc (arr (.inl a))))

theorem exchanged (m m' : (ℓ : Loc nD τ sig) → Buf (Elt F) ℓ) (h : ∀ c, plan.Done m c m') : Exchanged m m' where
  args c a := (h c).src a
  results c a := (h c).dst a (sibling c) (sibling_sibling c)

theorem own_sems : Pipeline.OwnSemFacts (pcfgs (F := F) 0).spec (fun j => SemLoc.dma (plan.sem j)) :=
  ⟨by decide +kernel, fun i j h => sem_inj (SemLoc.dma.inj h), fun _ w => w.elim0⟩

theorem ks_nodup : ks.Nodup := by decide +kernel
theorem mem_ks : ∀ k, k ∈ ks := by decide +kernel
theorem ws_nodup : ws.Nodup := by decide +kernel
theorem mem_ws : ∀ k, k ∈ ws
  | .inl a => List.mem_flatMap.2 ⟨a, mem_ks a, List.mem_cons_self⟩
  | .inr (.inl a) => List.mem_flatMap.2 ⟨a, mem_ks a, List.mem_cons_of_mem _ List.mem_cons_self⟩
theorem no_windows (p : Fin 1) : IsEmpty (Fin (pcfgs (F := F) p).W) := by fin_cases p; exact inferInstanceAs (IsEmpty (Fin 0))

theorem sems_scoped : ∀ s : SemLoc sig, s.isScoped .tc = true := by decide +kernel

theorem main_eq (c : Dev nD) : main (F := F) c = .op (.customCall (Pipeline.entry 0) ()) fun _ => .ret ⟨⟩ := rfl

theorem split (m : (ℓ : Loc nD τ sig) → Buf (Elt F) ℓ) (c : Dev nD) :
    (unscopedBufs c (fun b => m ((c.tc : Thread nD τ).loc b)) : sProp 𝕄)
      ⊢ iprop((bigSep Finset.univ fun k => plan.srcP m c k) ∗ (bigSep Finset.univ fun k => plan.landP m c k)
        ∗ (bigSep Finset.univ fun i => plan.lsrcP m c i) ∗ (bigSep Finset.univ fun i => plan.ldstP m c i) ∗ emp) := by
  rw [bufs_two arr arr_inj arr_all, bigSep_congr (fun a _ => src_eq m c a), bigSep_congr (fun a _ => dst_eq m c a)]
  have e1 : (bigSep Finset.univ fun i : Fin 0 => plan.lsrcP m c i) = (BI.emp : sProp 𝕄) := bigSep_empty
  have e2 : (bigSep Finset.univ fun i : Fin 0 => plan.ldstP m c i) = (BI.emp : sProp 𝕄) := bigSep_empty
  rw [e1, e2]
  iintro ⟨Ha, Hb⟩
  isplitl [Ha]; · iexact Ha
  isplitl [Hb]; · iexact Hb
  isplitl []; · iempintro
  isplitl [] <;> iempintro

set_option maxRecDepth 100000 in
theorem run (m : (ℓ : Loc nD τ sig) → Buf (Elt F) ℓ) (g : Dev nD → PrngReg) :
    θ_run (defs (F := F)) (onTc (τ := τ) (main (F := F))) ⟨m, fun _ => 0, g⟩
      (fun r => Exchanged m r.2.mem ∧ r.2.sem = fun _ => 0) := by
  refine plan.run_exchange m (pcfgs (F := F)) (fun p => (cfgs p).toPCfg_adm) cellOf_inj 0 winFacts0.to₀ own_sems defs₀
    List.nodup_nil (fun i => i.elim0) ks_nodup mem_ks ws_nodup mem_ws nm_eq (w := wait) no_windows (inferInstanceAs (IsEmpty (Fin 0))) N_0 g main main_eq
    ?_ ?_ ?_ ?_
  · intro c t Kt
    rw [← body_eq t]
    rfl
  · exact wait_eq
  · exact split m
  · exact fun s hd hs => ⟨exchanged m s.mem hd, sem_eq_zero_of_scoped sems_scoped hs⟩

end Cert.SiblingIdeal.Sibling

end
-- ==== Proof.SiblingValue.lean ====
/-
# The gradients' exchange between the two cores of a chip: its value

Device `c`'s block of the reversed array is its sibling's block; `same` is the claim, for any float values.
-/
module

public import proofs.«01_k».proof.Proof.Blocks
public import proofs.«01_k».proof.Proof.SiblingRun
public import proofs.«01_k».proof.Proof.Gen.SiblingReferenceIdeal.Run

@[expose] public section

noncomputable section

namespace Cert.SiblingIdeal.Sibling

open Idealize.ShloMosaic
open Idealize.ShloMosaic.TcCoe
open Idealize.ShloMosaic.StackWindow Idealize.ShloMosaic.StackMember
open Idealize.SL Idealize.SL.Sem
open Cert.Exchange Cert.SiblingIdeal.Gen

variable {F : FTy → Type} [FloatOps F]

theorem sibling_val : ∀ c : Dev nD, (sibling c).val = 2 * (c.val / 2) + (1 - c.val % 2) := by decide +kernel

/-- The arguments end unchanged and every counter is zero. -/
theorem quiet (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨h.1.args c 0, h.1.args c 1, h.1.args c 2, h.1.args c 3, h.1.args c 4, h.1.args c 5, h.1.args c 6⟩, h.2⟩) (run m g)

/-- Kernel and reference, from memories that hold the same arrays. -/
theorem same (m : (ℓ : Loc nD τ sig) → Buf (Elt F) ℓ) (g : Dev nD → PrngReg)
    (m' : (ℓ : Loc Cert.SiblingReferenceIdeal.nD Cert.SiblingReferenceIdeal.τ Cert.SiblingReferenceIdeal.sig) → Buf (Elt F) ℓ) (g' : Dev Cert.SiblingReferenceIdeal.nD → PrngReg)
    (hm : ∀ c : Dev nD,
      m ((c.tc : Thread nD τ).loc main_arg0) = Layout.block ⟨2, ![4096, 448]⟩ ⟨2, ![32768, 448]⟩ 0 8 c (m' (((0 : Dev Cert.SiblingReferenceIdeal.nD).tc : Thread Cert.SiblingReferenceIdeal.nD Cert.SiblingReferenceIdeal.τ).loc Cert.SiblingReferenceIdeal.main_arg0))
      ∧ m ((c.tc : Thread nD τ).loc main_arg1) = Layout.block ⟨2, ![1024, 1024]⟩ ⟨2, ![8192, 1024]⟩ 0 8 c (m' (((0 : Dev Cert.SiblingReferenceIdeal.nD).tc : Thread Cert.SiblingReferenceIdeal.nD Cert.SiblingReferenceIdeal.τ).loc Cert.SiblingReferenceIdeal.main_arg1))
      ∧ m ((c.tc : Thread nD τ).loc main_arg2) = Layout.block ⟨2, ![4096, 704]⟩ ⟨2, ![32768, 704]⟩ 0 8 c (m' (((0 : Dev Cert.SiblingReferenceIdeal.nD).tc : Thread Cert.SiblingReferenceIdeal.nD Cert.SiblingReferenceIdeal.τ).loc Cert.SiblingReferenceIdeal.main_arg2))
      ∧ m ((c.tc : Thread nD τ).loc main_arg3) = Layout.block ⟨2, ![4096, 704]⟩ ⟨2, ![32768, 704]⟩ 0 8 c (m' (((0 : Dev Cert.SiblingReferenceIdeal.nD).tc : Thread Cert.SiblingReferenceIdeal.nD Cert.SiblingReferenceIdeal.τ).loc Cert.SiblingReferenceIdeal.main_arg3))
      ∧ m ((c.tc : Thread nD τ).loc main_arg4) = Layout.block ⟨2, ![2816, 1024]⟩ ⟨2, ![22528, 1024]⟩ 0 8 c (m' (((0 : Dev Cert.SiblingReferenceIdeal.nD).tc : Thread Cert.SiblingReferenceIdeal.nD Cert.SiblingReferenceIdeal.τ).loc Cert.SiblingReferenceIdeal.main_arg4))
      ∧ m ((c.tc : Thread nD τ).loc main_arg5) = Layout.block ⟨2, ![1024, 256]⟩ ⟨2, ![8192, 256]⟩ 0 8 c (m' (((0 : Dev Cert.SiblingReferenceIdeal.nD).tc : Thread Cert.SiblingReferenceIdeal.nD Cert.SiblingReferenceIdeal.τ).loc Cert.SiblingReferenceIdeal.main_arg5))
      ∧ m ((c.tc : Thread nD τ).loc main_arg6) = Layout.block ⟨2, ![1024, 1024]⟩ ⟨2, ![8192, 1024]⟩ 0 8 c (m' (((0 : Dev Cert.SiblingReferenceIdeal.nD).tc : Thread Cert.SiblingReferenceIdeal.nD Cert.SiblingReferenceIdeal.τ).loc Cert.SiblingReferenceIdeal.main_arg6))) :
    ∃ (v0 : Buf (Elt F) (((0 : Dev Cert.SiblingReferenceIdeal.nD).tc : Thread Cert.SiblingReferenceIdeal.nD Cert.SiblingReferenceIdeal.τ).loc Cert.SiblingReferenceIdeal.main_v2)) (v1 : Buf (Elt F) (((0 : Dev Cert.SiblingReferenceIdeal.nD).tc : Thread Cert.SiblingReferenceIdeal.nD Cert.SiblingReferenceIdeal.τ).loc Cert.SiblingReferenceIdeal.main_v5)) (v2 : Buf (Elt F) (((0 : Dev Cert.SiblingReferenceIdeal.nD).tc : Thread Cert.SiblingReferenceIdeal.nD Cert.SiblingReferenceIdeal.τ).loc Cert.SiblingReferenceIdeal.main_v8)) (v3 : Buf (Elt F) (((0 : Dev Cert.SiblingReferenceIdeal.nD).tc : Thread Cert.SiblingReferenceIdeal.nD Cert.SiblingReferenceIdeal.τ).loc Cert.SiblingReferenceIdeal.main_v11)) (v4 : Buf (Elt F) (((0 : Dev Cert.SiblingReferenceIdeal.nD).tc : Thread Cert.SiblingReferenceIdeal.nD Cert.SiblingReferenceIdeal.τ).loc Cert.SiblingReferenceIdeal.main_v14)) (v5 : Buf (Elt F) (((0 : Dev Cert.SiblingReferenceIdeal.nD).tc : Thread Cert.SiblingReferenceIdeal.nD Cert.SiblingReferenceIdeal.τ).loc Cert.SiblingReferenceIdeal.main_v17)) (v6 : Buf (Elt F) (((0 : Dev Cert.SiblingReferenceIdeal.nD).tc : Thread Cert.SiblingReferenceIdeal.nD Cert.SiblingReferenceIdeal.τ).loc Cert.SiblingReferenceIdeal.main_v20)),
      θ_run (defs (F := F)) (onTc (τ := τ) (main (F := F))) ⟨m, fun _ => 0, g⟩ (fun r => ∀ c : Dev nD,
          r.2.mem ((c.tc : Thread nD τ).loc main_v1_0) = Layout.block ⟨2, ![4096, 448]⟩ ⟨2, ![32768, 448]⟩ 0 8 c v0
          ∧ r.2.mem ((c.tc : Thread nD τ).loc main_v1_1) = Layout.block ⟨2, ![1024, 1024]⟩ ⟨2, ![8192, 1024]⟩ 0 8 c v1
          ∧ r.2.mem ((c.tc : Thread nD τ).loc main_v1_2) = Layout.block ⟨2, ![4096, 704]⟩ ⟨2, ![32768, 704]⟩ 0 8 c v2
          ∧ r.2.mem ((c.tc : Thread nD τ).loc main_v1_3) = Layout.block ⟨2, ![4096, 704]⟩ ⟨2, ![32768, 704]⟩ 0 8 c v3
          ∧ r.2.mem ((c.tc : Thread nD τ).loc main_v1_4) = Layout.block ⟨2, ![2816, 1024]⟩ ⟨2, ![22528, 1024]⟩ 0 8 c v4
          ∧ r.2.mem ((c.tc : Thread nD τ).loc main_v1_5) = Layout.block ⟨2, ![1024, 256]⟩ ⟨2, ![8192, 256]⟩ 0 8 c v5
          ∧ r.2.mem ((c.tc : Thread nD τ).loc main_v1_6) = Layout.block ⟨2, ![1024, 1024]⟩ ⟨2, ![8192, 1024]⟩ 0 8 c v6
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6))
      ∧ θ_run (Cert.SiblingReferenceIdeal.defs (F := F)) (onTc (τ := Cert.SiblingReferenceIdeal.τ) (Cert.SiblingReferenceIdeal.main (F := F))) ⟨m', fun _ => 0, g'⟩ (fun r =>
          r.2.mem (((0 : Dev Cert.SiblingReferenceIdeal.nD).tc : Thread Cert.SiblingReferenceIdeal.nD Cert.SiblingReferenceIdeal.τ).loc Cert.SiblingReferenceIdeal.main_v2) = v0
          ∧ r.2.mem (((0 : Dev Cert.SiblingReferenceIdeal.nD).tc : Thread Cert.SiblingReferenceIdeal.nD Cert.SiblingReferenceIdeal.τ).loc Cert.SiblingReferenceIdeal.main_v5) = v1
          ∧ r.2.mem (((0 : Dev Cert.SiblingReferenceIdeal.nD).tc : Thread Cert.SiblingReferenceIdeal.nD Cert.SiblingReferenceIdeal.τ).loc Cert.SiblingReferenceIdeal.main_v8) = v2
          ∧ r.2.mem (((0 : Dev Cert.SiblingReferenceIdeal.nD).tc : Thread Cert.SiblingReferenceIdeal.nD Cert.SiblingReferenceIdeal.τ).loc Cert.SiblingReferenceIdeal.main_v11) = v3
          ∧ r.2.mem (((0 : Dev Cert.SiblingReferenceIdeal.nD).tc : Thread Cert.SiblingReferenceIdeal.nD Cert.SiblingReferenceIdeal.τ).loc Cert.SiblingReferenceIdeal.main_v14) = v4
          ∧ r.2.mem (((0 : Dev Cert.SiblingReferenceIdeal.nD).tc : Thread Cert.SiblingReferenceIdeal.nD Cert.SiblingReferenceIdeal.τ).loc Cert.SiblingReferenceIdeal.main_v17) = v5
          ∧ r.2.mem (((0 : Dev Cert.SiblingReferenceIdeal.nD).tc : Thread Cert.SiblingReferenceIdeal.nD Cert.SiblingReferenceIdeal.τ).loc Cert.SiblingReferenceIdeal.main_v20) = v6
          ∧ r.2.mem (((0 : Dev Cert.SiblingReferenceIdeal.nD).tc : Thread Cert.SiblingReferenceIdeal.nD Cert.SiblingReferenceIdeal.τ).loc Cert.SiblingReferenceIdeal.main_arg0) = m' (((0 : Dev Cert.SiblingReferenceIdeal.nD).tc : Thread Cert.SiblingReferenceIdeal.nD Cert.SiblingReferenceIdeal.τ).loc Cert.SiblingReferenceIdeal.main_arg0)
          ∧ r.2.mem (((0 : Dev Cert.SiblingReferenceIdeal.nD).tc : Thread Cert.SiblingReferenceIdeal.nD Cert.SiblingReferenceIdeal.τ).loc Cert.SiblingReferenceIdeal.main_arg1) = m' (((0 : Dev Cert.SiblingReferenceIdeal.nD).tc : Thread Cert.SiblingReferenceIdeal.nD Cert.SiblingReferenceIdeal.τ).loc Cert.SiblingReferenceIdeal.main_arg1)
          ∧ r.2.mem (((0 : Dev Cert.SiblingReferenceIdeal.nD).tc : Thread Cert.SiblingReferenceIdeal.nD Cert.SiblingReferenceIdeal.τ).loc Cert.SiblingReferenceIdeal.main_arg2) = m' (((0 : Dev Cert.SiblingReferenceIdeal.nD).tc : Thread Cert.SiblingReferenceIdeal.nD Cert.SiblingReferenceIdeal.τ).loc Cert.SiblingReferenceIdeal.main_arg2)
          ∧ r.2.mem (((0 : Dev Cert.SiblingReferenceIdeal.nD).tc : Thread Cert.SiblingReferenceIdeal.nD Cert.SiblingReferenceIdeal.τ).loc Cert.SiblingReferenceIdeal.main_arg3) = m' (((0 : Dev Cert.SiblingReferenceIdeal.nD).tc : Thread Cert.SiblingReferenceIdeal.nD Cert.SiblingReferenceIdeal.τ).loc Cert.SiblingReferenceIdeal.main_arg3)
          ∧ r.2.mem (((0 : Dev Cert.SiblingReferenceIdeal.nD).tc : Thread Cert.SiblingReferenceIdeal.nD Cert.SiblingReferenceIdeal.τ).loc Cert.SiblingReferenceIdeal.main_arg4) = m' (((0 : Dev Cert.SiblingReferenceIdeal.nD).tc : Thread Cert.SiblingReferenceIdeal.nD Cert.SiblingReferenceIdeal.τ).loc Cert.SiblingReferenceIdeal.main_arg4)
          ∧ r.2.mem (((0 : Dev Cert.SiblingReferenceIdeal.nD).tc : Thread Cert.SiblingReferenceIdeal.nD Cert.SiblingReferenceIdeal.τ).loc Cert.SiblingReferenceIdeal.main_arg5) = m' (((0 : Dev Cert.SiblingReferenceIdeal.nD).tc : Thread Cert.SiblingReferenceIdeal.nD Cert.SiblingReferenceIdeal.τ).loc Cert.SiblingReferenceIdeal.main_arg5)
          ∧ r.2.mem (((0 : Dev Cert.SiblingReferenceIdeal.nD).tc : Thread Cert.SiblingReferenceIdeal.nD Cert.SiblingReferenceIdeal.τ).loc Cert.SiblingReferenceIdeal.main_arg6) = m' (((0 : Dev Cert.SiblingReferenceIdeal.nD).tc : Thread Cert.SiblingReferenceIdeal.nD Cert.SiblingReferenceIdeal.τ).loc Cert.SiblingReferenceIdeal.main_arg6)) := by
  refine ⟨_, _, _, _, _, _, _, ?_, (θ_run Cert.SiblingReferenceIdeal.defs _ _).mono (fun _ h => h 0) (Cert.SiblingReferenceIdeal.Value.run m' g')⟩
  refine (θ_run defs _ _).mono (fun r h c => ?_) (run m g)
  exact ⟨(h.1.results c 0).trans (((hm (sibling c)).1).trans (flip_block _ _ _ (by decide) c (sibling c) (sibling_val c)).symm),
    (h.1.results c 1).trans (((hm (sibling c)).2.1).trans (flip_block _ _ _ (by decide) c (sibling c) (sibling_val c)).symm),
    (h.1.results c 2).trans (((hm (sibling c)).2.2.1).trans (flip_block _ _ _ (by decide) c (sibling c) (sibling_val c)).symm),
    (h.1.results c 3).trans (((hm (sibling c)).2.2.2.1).trans (flip_block _ _ _ (by decide) c (sibling c) (sibling_val c)).symm),
    (h.1.results c 4).trans (((hm (sibling c)).2.2.2.2.1).trans (flip_block _ _ _ (by decide) c (sibling c) (sibling_val c)).symm),
    (h.1.results c 5).trans (((hm (sibling c)).2.2.2.2.2.1).trans (flip_block _ _ _ (by decide) c (sibling c) (sibling_val c)).symm),
    (h.1.results c 6).trans (((hm (sibling c)).2.2.2.2.2.2).trans (flip_block _ _ _ (by decide) c (sibling c) (sibling_val c)).symm),
    h.1.args c 0,
    h.1.args c 1,
    h.1.args c 2,
    h.1.args c 3,
    h.1.args c 4,
    h.1.args c 5,
    h.1.args c 6⟩

end Cert.SiblingIdeal.Sibling

end
-- ==== Proof.GatherPlan.lean ====
/-
# The weights' all-gather: the copies

Array `a` of seven, a chip's shard of a weight. A device sends it whole to the devices of the other chips with its own core
number, which take it as the member named by the sender's chip; the same member of its own result it copies.
-/
module

public import proofs.«01_k».proof.Proof.Slots
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame

@[expose] public section

noncomputable section

namespace Cert.GatherIdeal.Gather

open Idealize.ShloMosaic
open Idealize.ShloMosaic.TcCoe
open Idealize.ShloMosaic.StackWindow Idealize.ShloMosaic.StackMember
open Idealize.SL Idealize.SL.RA Idealize.SL.BI
open scoped Idealize.SL.BI
open Idealize.SL.BI.BIBase Idealize.SL.BI.Laws Idealize.SL.Sem
open Cert.Exchange Cert.GatherIdeal.Gen

/-- The shape of array `a`. -/
abbrev dims : Fin 7 → Fin 3 → ℕ
  | 0 => ![4, 1024, 448]
  | 1 => ![4, 256, 1024]
  | 2 => ![4, 1024, 704]
  | 3 => ![4, 1024, 704]
  | 4 => ![4, 704, 1024]
  | 5 => ![4, 256, 256]
  | 6 => ![4, 256, 1024]

/-- Array `a` as it is given, -/
abbrev ins : (a : Fin 7) → Memref sig .tc .hbm ⟨3, dims a⟩ .bf16
  | 0 => Memref.whole main_arg0
  | 1 => Memref.whole main_arg1
  | 2 => Memref.whole main_arg2
  | 3 => Memref.whole main_arg3
  | 4 => Memref.whole main_arg4
  | 5 => Memref.whole main_arg5
  | 6 => Memref.whole main_arg6

/-- and its copies, as they are returned. -/
abbrev outs : (a : Fin 7) → Memref sig .tc .hbm (stackShape 4 (dims a)) .bf16
  | 0 => Memref.whole main_v1_0
  | 1 => Memref.whole main_v1_1
  | 2 => Memref.whole main_v1_2
  | 3 => Memref.whole main_v1_3
  | 4 => Memref.whole main_v1_4
  | 5 => Memref.whole main_v1_5
  | 6 => Memref.whole main_v1_6

theorem ins_whole : ∀ a, (ins a).IsWhole
  | 0 => Memref.isWhole_whole _
  | 1 => Memref.isWhole_whole _
  | 2 => Memref.isWhole_whole _
  | 3 => Memref.isWhole_whole _
  | 4 => Memref.isWhole_whole _
  | 5 => Memref.isWhole_whole _
  | 6 => Memref.isWhole_whole _

theorem outs_whole : ∀ a, (outs a).IsWhole
  | 0 => Memref.isWhole_whole _
  | 1 => Memref.isWhole_whole _
  | 2 => Memref.isWhole_whole _
  | 3 => Memref.isWhole_whole _
  | 4 => Memref.isWhole_whole _
  | 5 => Memref.isWhole_whole _
  | 6 => Memref.isWhole_whole _

theorem sq : ∀ a, (blockShape (dims a)).Squeezes ⟨3, dims a⟩
  | 0 => squeezes_S1x4x1024x448_S4x1024x448
  | 1 => squeezes_S1x4x256x1024_S4x256x1024
  | 2 => squeezes_S1x4x1024x704_S4x1024x704
  | 3 => squeezes_S1x4x1024x704_S4x1024x704
  | 4 => squeezes_S1x4x704x1024_S4x704x1024
  | 5 => squeezes_S1x4x256x256_S4x256x256
  | 6 => squeezes_S1x4x256x1024_S4x256x1024

/-- The offsets of the device's own member of result `a`, -/
abbrev offMe (c : Dev nD) : Fin 7 → Fin 4 → ℕ
  | 0 => k0_off1 c
  | 1 => k0_off2 c
  | 2 => k0_off3 c
  | 3 => k0_off3 c
  | 4 => k0_off4 c
  | 5 => k0_off5 c
  | 6 => k0_off2 c

/-- and of the member of its `j`-th peer. -/
abbrev offPeer (c : Dev nD) : Fin 7 → Fin 3 → Fin 4 → ℕ
  | 0, 0 => k0_off6 c
  | 0, 1 => k0_off7 c
  | 0, 2 => k0_off8 c
  | 1, 0 => k0_off9 c
  | 1, 1 => k0_off10 c
  | 1, 2 => k0_off11 c
  | 2, 0 => k0_off12 c
  | 2, 1 => k0_off13 c
  | 2, 2 => k0_off14 c
  | 3, 0 => k0_off12 c
  | 3, 1 => k0_off13 c
  | 3, 2 => k0_off14 c
  | 4, 0 => k0_off15 c
  | 4, 1 => k0_off16 c
  | 4, 2 => k0_off17 c
  | 5, 0 => k0_off18 c
  | 5, 1 => k0_off19 c
  | 5, 2 => k0_off20 c
  | 6, 0 => k0_off9 c
  | 6, 1 => k0_off10 c
  | 6, 2 => k0_off11 c

theorem inbMe (c : Dev nD) : ∀ a x, offMe c a x + (blockShape (dims a)).size x ≤ (stackShape 4 (dims a)).size x
  | 0 => k0_off1_inb c
  | 1 => k0_off2_inb c
  | 2 => k0_off3_inb c
  | 3 => k0_off3_inb c
  | 4 => k0_off4_inb c
  | 5 => k0_off5_inb c
  | 6 => k0_off2_inb c

theorem inbPeer (c : Dev nD) : ∀ a j x, offPeer c a j x + (blockShape (dims a)).size x ≤ (stackShape 4 (dims a)).size x
  | 0, 0 => k0_off6_inb c
  | 0, 1 => k0_off7_inb c
  | 0, 2 => k0_off8_inb c
  | 1, 0 => k0_off9_inb c
  | 1, 1 => k0_off10_inb c
  | 1, 2 => k0_off11_inb c
  | 2, 0 => k0_off12_inb c
  | 2, 1 => k0_off13_inb c
  | 2, 2 => k0_off14_inb c
  | 3, 0 => k0_off12_inb c
  | 3, 1 => k0_off13_inb c
  | 3, 2 => k0_off14_inb c
  | 4, 0 => k0_off15_inb c
  | 4, 1 => k0_off16_inb c
  | 4, 2 => k0_off17_inb c
  | 5, 0 => k0_off18_inb c
  | 5, 1 => k0_off19_inb c
  | 5, 2 => k0_off20_inb c
  | 6, 0 => k0_off9_inb c
  | 6, 1 => k0_off10_inb c
  | 6, 2 => k0_off11_inb c

theorem wordIn : ∀ a, (ins a).view.WordExact := fun a => (ins_whole a).wordExact

theorem wordMe (c : Dev nD) : ∀ a, (slot (outs a) (offMe c a) (inbMe c a) (sq a)).view.WordExact
  | 0 => ((Memref.isWhole_whole _).wordExact_slice rfl _ (k0_off1_wordsbf16 c)).reshape _ _
  | 1 => ((Memref.isWhole_whole _).wordExact_slice rfl _ (k0_off2_wordsbf16 c)).reshape _ _
  | 2 => ((Memref.isWhole_whole _).wordExact_slice rfl _ (k0_off3_wordsbf16 c)).reshape _ _
  | 3 => ((Memref.isWhole_whole _).wordExact_slice rfl _ (k0_off3_wordsbf16 c)).reshape _ _
  | 4 => ((Memref.isWhole_whole _).wordExact_slice rfl _ (k0_off4_wordsbf16 c)).reshape _ _
  | 5 => ((Memref.isWhole_whole _).wordExact_slice rfl _ (k0_off5_wordsbf16 c)).reshape _ _
  | 6 => ((Memref.isWhole_whole _).wordExact_slice rfl _ (k0_off2_wordsbf16 c)).reshape _ _

theorem wordPeer (c : Dev nD) : ∀ a j, (slot (outs a) (offPeer c a j) (inbPeer c a j) (sq a)).view.WordExact
  | 0, 0 => ((Memref.isWhole_whole _).wordExact_slice rfl _ (k0_off6_wordsbf16 c)).reshape _ _
  | 0, 1 => ((Memref.isWhole_whole _).wordExact_slice rfl _ (k0_off7_wordsbf16 c)).reshape _ _
  | 0, 2 => ((Memref.isWhole_whole _).wordExact_slice rfl _ (k0_off8_wordsbf16 c)).reshape _ _
  | 1, 0 => ((Memref.isWhole_whole _).wordExact_slice rfl _ (k0_off9_wordsbf16 c)).reshape _ _
  | 1, 1 => ((Memref.isWhole_whole _).wordExact_slice rfl _ (k0_off10_wordsbf16 c)).reshape _ _
  | 1, 2 => ((Memref.isWhole_whole _).wordExact_slice rfl _ (k0_off11_wordsbf16 c)).reshape _ _
  | 2, 0 => ((Memref.isWhole_whole _).wordExact_slice rfl _ (k0_off12_wordsbf16 c)).reshape _ _
  | 2, 1 => ((Memref.isWhole_whole _).wordExact_slice rfl _ (k0_off13_wordsbf16 c)).reshape _ _
  | 2, 2 => ((Memref.isWhole_whole _).wordExact_slice rfl _ (k0_off14_wordsbf16 c)).reshape _ _
  | 3, 0 => ((Memref.isWhole_whole _).wordExact_slice rfl _ (k0_off12_wordsbf16 c)).reshape _ _
  | 3, 1 => ((Memref.isWhole_whole _).wordExact_slice rfl _ (k0_off13_wordsbf16 c)).reshape _ _
  | 3, 2 => ((Memref.isWhole_whole _).wordExact_slice rfl _ (k0_off14_wordsbf16 c)).reshape _ _
  | 4, 0 => ((Memref.isWhole_whole _).wordExact_slice rfl _ (k0_off15_wordsbf16 c)).reshape _ _
  | 4, 1 => ((Memref.isWhole_whole _).wordExact_slice rfl _ (k0_off16_wordsbf16 c)).reshape _ _
  | 4, 2 => ((Memref.isWhole_whole _).wordExact_slice rfl _ (k0_off17_wordsbf16 c)).reshape _ _
  | 5, 0 => ((Memref.isWhole_whole _).wordExact_slice rfl _ (k0_off18_wordsbf16 c)).reshape _ _
  | 5, 1 => ((Memref.isWhole_whole _).wordExact_slice rfl _ (k0_off19_wordsbf16 c)).reshape _ _
  | 5, 2 => ((Memref.isWhole_whole _).wordExact_slice rfl _ (k0_off20_wordsbf16 c)).reshape _ _
  | 6, 0 => ((Memref.isWhole_whole _).wordExact_slice rfl _ (k0_off9_wordsbf16 c)).reshape _ _
  | 6, 1 => ((Memref.isWhole_whole _).wordExact_slice rfl _ (k0_off10_wordsbf16 c)).reshape _ _
  | 6, 2 => ((Memref.isWhole_whole _).wordExact_slice rfl _ (k0_off11_wordsbf16 c)).reshape _ _

/-- The device that transfer `(a, j)` of device `c` names. -/
abbrev nm (c : Dev nD) : Fin 7 × Fin 3 → Dev nD
  | (0, 0) => ⟨k0_dev1 c, k0_dev1_lt c⟩
  | (0, 1) => ⟨k0_dev2 c, k0_dev2_lt c⟩
  | (0, 2) => ⟨k0_dev3 c, k0_dev3_lt c⟩
  | (1, 0) => ⟨k0_dev4 c, k0_dev4_lt c⟩
  | (1, 1) => ⟨k0_dev5 c, k0_dev5_lt c⟩
  | (1, 2) => ⟨k0_dev6 c, k0_dev6_lt c⟩
  | (2, 0) => ⟨k0_dev7 c, k0_dev7_lt c⟩
  | (2, 1) => ⟨k0_dev8 c, k0_dev8_lt c⟩
  | (2, 2) => ⟨k0_dev9 c, k0_dev9_lt c⟩
  | (3, 0) => ⟨k0_dev10 c, k0_dev10_lt c⟩
  | (3, 1) => ⟨k0_dev11 c, k0_dev11_lt c⟩
  | (3, 2) => ⟨k0_dev12 c, k0_dev12_lt c⟩
  | (4, 0) => ⟨k0_dev13 c, k0_dev13_lt c⟩
  | (4, 1) => ⟨k0_dev14 c, k0_dev14_lt c⟩
  | (4, 2) => ⟨k0_dev15 c, k0_dev15_lt c⟩
  | (5, 0) => ⟨k0_dev16 c, k0_dev16_lt c⟩
  | (5, 1) => ⟨k0_dev17 c, k0_dev17_lt c⟩
  | (5, 2) => ⟨k0_dev18 c, k0_dev18_lt c⟩
  | (6, 0) => ⟨k0_dev19 c, k0_dev19_lt c⟩
  | (6, 1) => ⟨k0_dev20 c, k0_dev20_lt c⟩
  | (6, 2) => ⟨k0_dev21 c, k0_dev21_lt c⟩

/-- The `j`-th peer of a device: the device with its core number on another chip. -/
def peer : Fin 3 → Equiv.Perm (Dev nD)
  | 0 => ⟨![4, 5, 6, 7, 0, 1, 2, 3], ![4, 5, 6, 7, 0, 1, 2, 3], by decide, by decide⟩
  | 1 => ⟨![2, 3, 0, 1, 6, 7, 4, 5], ![2, 3, 0, 1, 6, 7, 4, 5], by decide, by decide⟩
  | 2 => ⟨![6, 7, 4, 5, 2, 3, 0, 1], ![6, 7, 4, 5, 2, 3, 0, 1], by decide, by decide⟩

theorem nm_eq : ∀ (c : Dev nD) (k : Fin 7 × Fin 3), nm c k = peer k.2 c := by decide +kernel

/-- The cells: each transfer's send cell, its receive cell, each local copy's. -/
def sem : (Fin 7 × Fin 3) ⊕ (Fin 7 × Fin 3) ⊕ Fin 7 → DmaSem sig
  | .inl (0, 0) => ((cc0_scratch0.slice (Rect.unit (s := S21) ![0] S1.size inb_S21_S1_0)).squeeze S_ squeezes_S1_S_).sem
  | .inl (0, 1) => ((cc0_scratch0.slice (Rect.unit (s := S21) ![1] S1.size inb_S21_S1_1)).squeeze S_ squeezes_S1_S_).sem
  | .inl (0, 2) => ((cc0_scratch0.slice (Rect.unit (s := S21) ![2] S1.size inb_S21_S1_2)).squeeze S_ squeezes_S1_S_).sem
  | .inl (1, 0) => ((cc0_scratch0.slice (Rect.unit (s := S21) ![3] S1.size inb_S21_S1_3)).squeeze S_ squeezes_S1_S_).sem
  | .inl (1, 1) => ((cc0_scratch0.slice (Rect.unit (s := S21) ![4] S1.size inb_S21_S1_4)).squeeze S_ squeezes_S1_S_).sem
  | .inl (1, 2) => ((cc0_scratch0.slice (Rect.unit (s := S21) ![5] S1.size inb_S21_S1_5)).squeeze S_ squeezes_S1_S_).sem
  | .inl (2, 0) => ((cc0_scratch0.slice (Rect.unit (s := S21) ![6] S1.size inb_S21_S1_6)).squeeze S_ squeezes_S1_S_).sem
  | .inl (2, 1) => ((cc0_scratch0.slice (Rect.unit (s := S21) ![7] S1.size inb_S21_S1_7)).squeeze S_ squeezes_S1_S_).sem
  | .inl (2, 2) => ((cc0_scratch0.slice (Rect.unit (s := S21) ![8] S1.size inb_S21_S1_8)).squeeze S_ squeezes_S1_S_).sem
  | .inl (3, 0) => ((cc0_scratch0.slice (Rect.unit (s := S21) ![9] S1.size inb_S21_S1_9)).squeeze S_ squeezes_S1_S_).sem
  | .inl (3, 1) => ((cc0_scratch0.slice (Rect.unit (s := S21) ![10] S1.size inb_S21_S1_10)).squeeze S_ squeezes_S1_S_).sem
  | .inl (3, 2) => ((cc0_scratch0.slice (Rect.unit (s := S21) ![11] S1.size inb_S21_S1_11)).squeeze S_ squeezes_S1_S_).sem
  | .inl (4, 0) => ((cc0_scratch0.slice (Rect.unit (s := S21) ![12] S1.size inb_S21_S1_12)).squeeze S_ squeezes_S1_S_).sem
  | .inl (4, 1) => ((cc0_scratch0.slice (Rect.unit (s := S21) ![13] S1.size inb_S21_S1_13)).squeeze S_ squeezes_S1_S_).sem
  | .inl (4, 2) => ((cc0_scratch0.slice (Rect.unit (s := S21) ![14] S1.size inb_S21_S1_14)).squeeze S_ squeezes_S1_S_).sem
  | .inl (5, 0) => ((cc0_scratch0.slice (Rect.unit (s := S21) ![15] S1.size inb_S21_S1_15)).squeeze S_ squeezes_S1_S_).sem
  | .inl (5, 1) => ((cc0_scratch0.slice (Rect.unit (s := S21) ![16] S1.size inb_S21_S1_16)).squeeze S_ squeezes_S1_S_).sem
  | .inl (5, 2) => ((cc0_scratch0.slice (Rect.unit (s := S21) ![17] S1.size inb_S21_S1_17)).squeeze S_ squeezes_S1_S_).sem
  | .inl (6, 0) => ((cc0_scratch0.slice (Rect.unit (s := S21) ![18] S1.size inb_S21_S1_18)).squeeze S_ squeezes_S1_S_).sem
  | .inl (6, 1) => ((cc0_scratch0.slice (Rect.unit (s := S21) ![19] S1.size inb_S21_S1_19)).squeeze S_ squeezes_S1_S_).sem
  | .inl (6, 2) => ((cc0_scratch0.slice (Rect.unit (s := S21) ![20] S1.size inb_S21_S1_20)).squeeze S_ squeezes_S1_S_).sem
  | .inr (.inl (0, 0)) => ((cc0_scratch1.slice (Rect.unit (s := S21) ![0] S1.size inb_S21_S1_0)).squeeze S_ squeezes_S1_S_).sem
  | .inr (.inl (0, 1)) => ((cc0_scratch1.slice (Rect.unit (s := S21) ![1] S1.size inb_S21_S1_1)).squeeze S_ squeezes_S1_S_).sem
  | .inr (.inl (0, 2)) => ((cc0_scratch1.slice (Rect.unit (s := S21) ![2] S1.size inb_S21_S1_2)).squeeze S_ squeezes_S1_S_).sem
  | .inr (.inl (1, 0)) => ((cc0_scratch1.slice (Rect.unit (s := S21) ![3] S1.size inb_S21_S1_3)).squeeze S_ squeezes_S1_S_).sem
  | .inr (.inl (1, 1)) => ((cc0_scratch1.slice (Rect.unit (s := S21) ![4] S1.size inb_S21_S1_4)).squeeze S_ squeezes_S1_S_).sem
  | .inr (.inl (1, 2)) => ((cc0_scratch1.slice (Rect.unit (s := S21) ![5] S1.size inb_S21_S1_5)).squeeze S_ squeezes_S1_S_).sem
  | .inr (.inl (2, 0)) => ((cc0_scratch1.slice (Rect.unit (s := S21) ![6] S1.size inb_S21_S1_6)).squeeze S_ squeezes_S1_S_).sem
  | .inr (.inl (2, 1)) => ((cc0_scratch1.slice (Rect.unit (s := S21) ![7] S1.size inb_S21_S1_7)).squeeze S_ squeezes_S1_S_).sem
  | .inr (.inl (2, 2)) => ((cc0_scratch1.slice (Rect.unit (s := S21) ![8] S1.size inb_S21_S1_8)).squeeze S_ squeezes_S1_S_).sem
  | .inr (.inl (3, 0)) => ((cc0_scratch1.slice (Rect.unit (s := S21) ![9] S1.size inb_S21_S1_9)).squeeze S_ squeezes_S1_S_).sem
  | .inr (.inl (3, 1)) => ((cc0_scratch1.slice (Rect.unit (s := S21) ![10] S1.size inb_S21_S1_10)).squeeze S_ squeezes_S1_S_).sem
  | .inr (.inl (3, 2)) => ((cc0_scratch1.slice (Rect.unit (s := S21) ![11] S1.size inb_S21_S1_11)).squeeze S_ squeezes_S1_S_).sem
  | .inr (.inl (4, 0)) => ((cc0_scratch1.slice (Rect.unit (s := S21) ![12] S1.size inb_S21_S1_12)).squeeze S_ squeezes_S1_S_).sem
  | .inr (.inl (4, 1)) => ((cc0_scratch1.slice (Rect.unit (s := S21) ![13] S1.size inb_S21_S1_13)).squeeze S_ squeezes_S1_S_).sem
  | .inr (.inl (4, 2)) => ((cc0_scratch1.slice (Rect.unit (s := S21) ![14] S1.size inb_S21_S1_14)).squeeze S_ squeezes_S1_S_).sem
  | .inr (.inl (5, 0)) => ((cc0_scratch1.slice (Rect.unit (s := S21) ![15] S1.size inb_S21_S1_15)).squeeze S_ squeezes_S1_S_).sem
  | .inr (.inl (5, 1)) => ((cc0_scratch1.slice (Rect.unit (s := S21) ![16] S1.size inb_S21_S1_16)).squeeze S_ squeezes_S1_S_).sem
  | .inr (.inl (5, 2)) => ((cc0_scratch1.slice (Rect.unit (s := S21) ![17] S1.size inb_S21_S1_17)).squeeze S_ squeezes_S1_S_).sem
  | .inr (.inl (6, 0)) => ((cc0_scratch1.slice (Rect.unit (s := S21) ![18] S1.size inb_S21_S1_18)).squeeze S_ squeezes_S1_S_).sem
  | .inr (.inl (6, 1)) => ((cc0_scratch1.slice (Rect.unit (s := S21) ![19] S1.size inb_S21_S1_19)).squeeze S_ squeezes_S1_S_).sem
  | .inr (.inl (6, 2)) => ((cc0_scratch1.slice (Rect.unit (s := S21) ![20] S1.size inb_S21_S1_20)).squeeze S_ squeezes_S1_S_).sem
  | .inr (.inr 0) => ((cc0_scratch2.slice (Rect.unit (s := S7) ![0] S1.size inb_S7_S1_0)).squeeze S_ squeezes_S1_S_).sem
  | .inr (.inr 1) => ((cc0_scratch2.slice (Rect.unit (s := S7) ![1] S1.size inb_S7_S1_1)).squeeze S_ squeezes_S1_S_).sem
  | .inr (.inr 2) => ((cc0_scratch2.slice (Rect.unit (s := S7) ![2] S1.size inb_S7_S1_2)).squeeze S_ squeezes_S1_S_).sem
  | .inr (.inr 3) => ((cc0_scratch2.slice (Rect.unit (s := S7) ![3] S1.size inb_S7_S1_3)).squeeze S_ squeezes_S1_S_).sem
  | .inr (.inr 4) => ((cc0_scratch2.slice (Rect.unit (s := S7) ![4] S1.size inb_S7_S1_4)).squeeze S_ squeezes_S1_S_).sem
  | .inr (.inr 5) => ((cc0_scratch2.slice (Rect.unit (s := S7) ![5] S1.size inb_S7_S1_5)).squeeze S_ squeezes_S1_S_).sem
  | .inr (.inr 6) => ((cc0_scratch2.slice (Rect.unit (s := S7) ![6] S1.size inb_S7_S1_6)).squeeze S_ squeezes_S1_S_).sem

theorem sem_inj : Function.Injective sem := by decide +kernel

theorem numel_pos : ∀ a, 0 < (⟨3, dims a⟩ : Shape).numel := by decide +kernel

theorem not_scratch (a : Fin 7) (off : Fin 4 → ℕ) (inb : ∀ x, off x + (blockShape (dims a)).size x ≤ (stackShape 4 (dims a)).size x) :
    (slot (outs a) off inb (sq a)).view.ref.isScScratch = false := by
  revert inb
  fin_cases a <;> exact fun _ => rfl

/-- The copies: array `a`, whole, to every peer's member `a` of this device, and to its own. -/
def plan : Plan nD sig (Fin 7 × Fin 3) (Fin 7) where
  dest k := peer k.2
  x c k := ⟨⟨3, dims k.1⟩, .bf16, ins k.1, slot (outs k.1) (offMe c k.1) (inbMe c k.1) (sq k.1),
    wordIn k.1, wordMe c k.1, not_scratch k.1 _ _⟩
  l c a := ⟨⟨3, dims a⟩, .bf16, ins a, slot (outs a) (offMe c a) (inbMe c a) (sq a), wordIn a, wordMe c a, not_scratch a _ _⟩
  sem := sem
  inj := sem_inj
  amt k := (slot (outs k.1) (offMe 0 k.1) (inbMe 0 k.1) (sq k.1)).view.dmaCredit
  lamt a := (slot (outs a) (offMe 0 a) (inbMe 0 a) (sq a)).view.dmaCredit
  amt_eq c k := rfl
  lamt_eq c a := rfl
  amt_pos k := View.dmaCredit_pos _ (numel_pos k.1)
  lamt_pos a := View.dmaCredit_pos _ (numel_pos a)
  q k := Transfers.shareTok fullShare 3 k.2
  lq _ := Transfers.shareDrop fullShare 3

variable {F : FTy → Type} [FloatOps F]

/-- The waits, in the order of the program's cells. -/
def wait (c : Dev nD) : (Fin 7 × Fin 3) ⊕ (Fin 7 × Fin 3) ⊕ Fin 7 → TpuEff nD τ sig (Elt F) Λ₀ .tc PUnit
  | .inl k => .waitDma2 (sem (.inl k)) (slot (outs k.1) (offMe c k.1) (inbMe c k.1) (sq k.1)) (ins k.1) (wordMe c k.1) (wordIn k.1)
  | .inr (.inl k) => .waitDma2 (sem (.inr (.inl k))) (ins k.1) (slot (outs k.1) (offPeer c k.1 k.2) (inbPeer c k.1 k.2) (sq k.1)) (wordIn k.1) (wordPeer c k.1 k.2)
  | .inr (.inr a) => .waitDma2 (sem (.inr (.inr a))) (ins a) (slot (outs a) (offMe c a) (inbMe c a) (sq a)) (wordIn a) (wordMe c a)

def ls : List (Fin 7) := [0, 1, 2, 3, 4, 5, 6]
def ks : List (Fin 7 × Fin 3) :=
  [(0, 0), (0, 1), (0, 2), (1, 0), (1, 1), (1, 2), (2, 0), (2, 1), (2, 2), (3, 0), (3, 1), (3, 2), (4, 0), (4, 1), (4, 2), (5, 0), (5, 1), (5, 2), (6, 0), (6, 1), (6, 2)]
def ws : List ((Fin 7 × Fin 3) ⊕ (Fin 7 × Fin 3) ⊕ Fin 7) := ks.map (fun k => .inr (.inl k)) ++ ks.map .inl ++ ls.map (fun a => .inr (.inr a))

set_option maxRecDepth 100000 in
theorem body_eq (t : Fin cfg0.N) : bodyAt0 (F := F) t = plan.prog ls ks nm ws wait := rfl

end Cert.GatherIdeal.Gather

end
-- ==== Proof.GatherRun.lean ====
/-
# The weights' all-gather: its run

`run`: the program terminates, with its arguments unchanged, every counter at zero, and member `p` of each result on
device `c` the argument on the device of chip `p` with `c`'s core number.
-/
module

public import proofs.«01_k».proof.Proof.GatherPlan

@[expose] public section

noncomputable section

namespace Cert.GatherIdeal.Gather

open Idealize.ShloMosaic
open Idealize.ShloMosaic.TcCoe
open Idealize.ShloMosaic.StackWindow Idealize.ShloMosaic.StackMember
open Idealize.SL Idealize.SL.RA Idealize.SL.BI
open scoped Idealize.SL.BI
open Idealize.SL.BI.BIBase Idealize.SL.BI.Laws Idealize.SL.ProofMode Idealize.SL.Sem
open Cert.Exchange Cert.GatherIdeal.Gen

/-- A device's chip, -/
def place (c : Dev nD) : Fin 4 := ⟨c.val / 2, by have := c.isLt; change c.val < 8 at this; omega⟩

/-- and the device of chip `p` with the core number of `c`. -/
def holder (p : Fin 4) (c : Dev nD) : Dev nD := ⟨2 * p.val + c.val % 2, by show _ < 8; omega⟩

theorem at_me (c : Dev nD) (a : Fin 7) : AtMember (offMe c a) (place c) :=
  have h : ∀ (c : Dev nD) (a : Fin 7), offMe c a 0 = (place c).val ∧ ∀ b : Fin 3, offMe c a b.succ = 0 := by decide +kernel
  ⟨(h c a).1, (h c a).2⟩

/-- The peers' places, and the device's own. -/
def placeOf (c : Dev nD) : Fin 3 ⊕ Unit → Fin 4
  | .inl j => place (peer j c)
  | .inr _ => place c

theorem placeOf_bij (c : Dev nD) : Function.Bijective (placeOf c) :=
  (Fintype.bijective_iff_injective_and_card _).2 ⟨by revert c; decide +kernel, by decide⟩
theorem peer_peer : ∀ (j : Fin 3) (c : Dev nD), peer j (peer j c) = c := by decide +kernel
theorem holder_peer : ∀ (j : Fin 3) (c : Dev nD), holder (place (peer j c)) c = peer j c := by decide +kernel
theorem holder_self : ∀ c : Dev nD, holder (place c) c = c := by decide +kernel

/-- The members a device is sent, and its own. -/
def offDst (c : Dev nD) (a : Fin 7) : Fin 3 ⊕ Unit → Fin 4 → ℕ
  | .inl j => offMe (peer j c) a
  | .inr _ => offMe c a
theorem inbDst (c : Dev nD) (a : Fin 7) : ∀ t x, offDst c a t x + (blockShape (dims a)).size x ≤ (stackShape 4 (dims a)).size x
  | .inl j => inbMe (peer j c) a
  | .inr _ => inbMe c a
theorem at_dst (c : Dev nD) (a : Fin 7) : ∀ t, AtMember (offDst c a t) (placeOf c t)
  | .inl j => at_me (peer j c) a
  | .inr _ => at_me c a

variable {F : FTy → Type} [FloatOps F]

local notation "𝕄" => MT nD τ sig Unit (Elt F) ℕ (UU nD τ sig) ℕ

/-- The program's arrays. -/
def arr : Fin 7 ⊕ Fin 7 → Ref sig .tc
  | .inl a => (ins a).view.ref
  | .inr a => (outs a).view.ref

theorem arr_inj : Function.Injective arr := by decide +kernel
theorem arr_all : (Finset.univ.filter fun b : Ref sig .tc => ¬ b.isScoped) = Finset.univ.map ⟨arr, arr_inj⟩ := by decide +kernel

theorem split_src (m : (ℓ : Loc nD τ sig) → Buf (Elt F) ℓ) (c : Dev nD) (a : Fin 7) :
    ((c.tc : Thread nD τ).loc (arr (.inl a)) ↦{fullShare} m _ : sProp 𝕄)
      ⊢ iprop((bigSep Finset.univ fun j => plan.srcP m c (a, j)) ∗ plan.lsrcP m c a) :=
  whole_deal (ins a) (ins_whole a) 3 c (m _)

theorem split_dst (m : (ℓ : Loc nD τ sig) → Buf (Elt F) ℓ) (c : Dev nD) (a : Fin 7) :
    ((c.tc : Thread nD τ).loc (arr (.inr a)) ↦{fullShare} m _ : sProp 𝕄)
      ⊢ iprop((bigSep Finset.univ fun j => plan.landP m c (a, j)) ∗ plan.ldstP m c a) := by
  refine Entails.of_eq ((slots_split (outs a) (sq a) (outs_whole a) (offDst c a) (inbDst c a) (placeOf c) (at_dst c a) (placeOf_bij c) c fullShare _).trans ?_)
  rw [bigSep_univ_sum, Finset.univ_unique (α := Unit), bigSep_singleton]
  refine congrArg₂ _ (bigSep_congr fun j _ => ?_) rfl
  exact (plan.landP_eq m c (a, j) (peer j c) (peer_peer j c)).symm

theorem wait_eq (c : Dev nD) (j : (Fin 7 × Fin 3) ⊕ (Fin 7 × Fin 3) ⊕ Fin 7) (Kt : PUnit → sProp 𝕄) :
    wpE defs₀ Variants.none (c.tc : Thread nD τ) none Set.univ (wait (F := F) c j) Kt
      = waitSpec (c.tc : Thread nD τ) Set.univ (.dma (plan.sem j)) (plan.jamt j) Kt := by
  rcases j with k | k | a <;> rfl

/-- What a memory holds after the exchange from `m`. -/
structure Exchanged (m m' : (ℓ : Loc nD τ sig) → Buf (Elt F) ℓ) : Prop where
  args (c : Dev nD) (a : Fin 7) : (ins a).view.read (Elt F) (m' ((c.tc : Thread nD τ).loc (arr (.inl a))))
    = (ins a).view.read (Elt F) (m ((c.tc : Thread nD τ).loc (arr (.inl a))))
  results (c : Dev nD) (a : Fin 7) (p : Fin 4) : memberAt ((outs a).view.read (Elt F) (m' ((c.tc : Thread nD τ).loc (arr (.inr a))))) p
    = (ins a).view.read (Elt F) (m (((holder p c).tc : Thread nD τ).loc (arr (.inl a))))

theorem exchanged (m m' : (ℓ : Loc nD τ sig) → Buf (Elt F) ℓ) (h : ∀ c, plan.Done m c m') : Exchanged m m' where
  args c a := (h c).lsrc a
  results c a p := by
    obtain ⟨t, rfl⟩ := (placeOf_bij c).2 p
    match t with
    | .inl j =>
      have e := (h c).dst (a, j) (peer j c) (peer_peer j c)
      have e1 := slot_read (outs a) (offMe (peer j c) a) (inbMe (peer j c) a) (sq a) (at_me (peer j c) a) (m' ((c.tc : Thread nD τ).loc (arr (.inr a))))
      show memberAt _ (place (peer j c)) = (ins a).view.read (Elt F) (m (((holder (place (peer j c)) c).tc : Thread nD τ).loc (arr (.inl a))))
      rw [holder_peer]
      exact e1.symm.trans e
    | .inr _ =>
      have e := (h c).ldst a
      have e1 := slot_read (outs a) (offMe c a) (inbMe c a) (sq a) (at_me c a) (m' ((c.tc : Thread nD τ).loc (arr (.inr a))))
      show memberAt _ (place c) = (ins a).view.read (Elt F) (m (((holder (place c) c).tc : Thread nD τ).loc (arr (.inl a))))
      rw [holder_self]
      exact e1.symm.trans e

theorem own_sems : Pipeline.OwnSemFacts (pcfgs (F := F) 0).spec (fun j => SemLoc.dma (plan.sem j)) :=
  ⟨by decide +kernel, fun i j h => sem_inj (SemLoc.dma.inj h), fun _ w => w.elim0⟩

theorem ls_nodup : ls.Nodup := by decide +kernel
theorem mem_ls : ∀ k, k ∈ ls := by decide +kernel
theorem ks_nodup : ks.Nodup := by decide +kernel
theorem mem_ks : ∀ k, k ∈ ks := by decide +kernel
theorem ws_nodup : ws.Nodup := by decide +kernel
theorem mem_ws : ∀ k, k ∈ ws
  | .inl k => List.mem_append_left _ (List.mem_append_right _ (List.mem_map_of_mem (mem_ks k)))
  | .inr (.inl k) => List.mem_append_left _ (List.mem_append_left _ (List.mem_map_of_mem (mem_ks k)))
  | .inr (.inr a) => List.mem_append_right _ (List.mem_map_of_mem (mem_ls a))
theorem no_windows (p : Fin 1) : IsEmpty (Fin (pcfgs (F := F) p).W) := by fin_cases p; exact inferInstanceAs (IsEmpty (Fin 0))

theorem sems_scoped : ∀ s : SemLoc sig, s.isScoped .tc = true := by decide +kernel

theorem main_eq (c : Dev nD) : main (F := F) c = .op (.customCall (Pipeline.entry 0) ()) fun _ => .ret ⟨⟩ := rfl

theorem split (m : (ℓ : Loc nD τ sig) → Buf (Elt F) ℓ) (c : Dev nD) :
    (unscopedBufs c (fun b => m ((c.tc : Thread nD τ).loc b)) : sProp 𝕄)
      ⊢ iprop((bigSep Finset.univ fun k => plan.srcP m c k) ∗ (bigSep Finset.univ fun k => plan.landP m c k)
        ∗ (bigSep Finset.univ fun i => plan.lsrcP m c i) ∗ (bigSep Finset.univ fun i => plan.ldstP m c i) ∗ emp) := by
  rw [bufs_two arr arr_inj arr_all]
  exact plan.split_families m c _ _ (split_src m c) (split_dst m c)

set_option maxRecDepth 100000 in
theorem run (m : (ℓ : Loc nD τ sig) → Buf (Elt F) ℓ) (g : Dev nD → PrngReg) :
    θ_run (defs (F := F)) (onTc (τ := τ) (main (F := F))) ⟨m, fun _ => 0, g⟩
      (fun r => Exchanged m r.2.mem ∧ r.2.sem = fun _ => 0) := by
  refine plan.run_exchange m (pcfgs (F := F)) (fun p => (cfgs p).toPCfg_adm) cellOf_inj 0 winFacts0.to₀ own_sems defs₀
    ls_nodup mem_ls ks_nodup mem_ks ws_nodup mem_ws nm_eq (w := wait) no_windows (inferInstanceAs (IsEmpty (Fin 0))) N_0 g main main_eq
    ?_ ?_ ?_ ?_
  · intro c t Kt
    rw [← body_eq t]
    rfl
  · exact wait_eq
  · exact split m
  · exact fun s hd hs => ⟨exchanged m s.mem hd, sem_eq_zero_of_scoped sems_scoped hs⟩

end Cert.GatherIdeal.Gather

end
-- ==== Proof.GatherValue.lean ====
/-
# The weights' all-gather: its value

Member `p` of each result is the block of the weight that chip `p` holds, which is the member the reference stacks; `same` is
the claim, for any float values.
-/
module

public import proofs.«01_k».proof.Proof.Blocks
public import proofs.«01_k».proof.Proof.GatherRun
public import proofs.«01_k».proof.Proof.Gen.GatherReferenceIdeal.Run

@[expose] public section

noncomputable section

namespace Cert.GatherIdeal.Gather

open Idealize.ShloMosaic
open Idealize.ShloMosaic.TcCoe
open Idealize.ShloMosaic.StackWindow Idealize.ShloMosaic.StackMember
open Idealize.SL Idealize.SL.Sem
open Cert.Exchange Cert.GatherIdeal.Gen

variable {F : FTy → Type} [FloatOps F]

theorem holder_mesh : ∀ (p : Fin 4) (c : Dev nD), Layout.meshLin [2, 2, 2] (holder p c).val [0, 1] = p.val := by decide +kernel

variable {α : Type}

/-- A weight cut along its last axis. -/
theorem columns {k n N : ℕ} (V : (stackShape 4 ![4, k, n]).Idx → α) (B : Fin 8 → (⟨3, ![4, k, n]⟩ : Shape).Idx → α) (c : Dev nD)
    (hV : ∀ p, memberAt V p = B (holder p c)) (X : (⟨3, ![4, k, N]⟩ : Shape).Idx → α)
    (ht : Layout.TilesN ⟨3, ![4, k, n]⟩ ⟨3, ![4, k, N]⟩ fun b => Layout.cutSize [2, 2, 2] ((![[], [], [0, 1]] : Fin 3 → List ℕ) b))
    (hB : ∀ c : Fin 8, B c = Layout.blockN ⟨3, ![4, k, n]⟩ ⟨3, ![4, k, N]⟩ (Layout.meshBlock [2, 2, 2] ![[], [], [0, 1]] c) X ht)
    (h1 : (⟨3, ![4, k, N]⟩ : Shape).ShapeCasts ⟨4, ![4, k, 4, n]⟩) (h2 : (⟨4, ![4, k, 4, n]⟩ : Shape).Transposes [2, 0, 1, 3] ⟨4, ![4, 4, k, n]⟩)
    (hN : N = 4 * n) : V = transpose ⟨4, ![4, 4, k, n]⟩ [2, 0, 1, 3] (shapeCast ⟨4, ![4, k, 4, n]⟩ X h1) h2 :=
  ext_memberAt fun p => by
    rw [hV, hB]
    exact (columns_member X h1 h2 ht hN _ p rfl rfl (holder_mesh p c)).symm

/-- A weight cut along its middle axis. -/
theorem rows {k n N : ℕ} (V : (stackShape 4 ![4, k, n]).Idx → α) (B : Fin 8 → (⟨3, ![4, k, n]⟩ : Shape).Idx → α) (c : Dev nD)
    (hV : ∀ p, memberAt V p = B (holder p c)) (X : (⟨3, ![4, N, n]⟩ : Shape).Idx → α)
    (ht : Layout.TilesN ⟨3, ![4, k, n]⟩ ⟨3, ![4, N, n]⟩ fun b => Layout.cutSize [2, 2, 2] ((![[], [0, 1], []] : Fin 3 → List ℕ) b))
    (hB : ∀ c : Fin 8, B c = Layout.blockN ⟨3, ![4, k, n]⟩ ⟨3, ![4, N, n]⟩ (Layout.meshBlock [2, 2, 2] ![[], [0, 1], []] c) X ht)
    (h1 : (⟨3, ![4, N, n]⟩ : Shape).ShapeCasts ⟨4, ![4, 4, k, n]⟩) (h2 : (⟨4, ![4, 4, k, n]⟩ : Shape).Transposes [1, 0, 2, 3] ⟨4, ![4, 4, k, n]⟩)
    (hN : N = 4 * k) : V = transpose ⟨4, ![4, 4, k, n]⟩ [1, 0, 2, 3] (shapeCast ⟨4, ![4, 4, k, n]⟩ X h1) h2 :=
  ext_memberAt fun p => by
    rw [hV, hB]
    exact (rows_member X h1 h2 ht hN _ p rfl (holder_mesh p c) rfl).symm

/-- The arguments end unchanged and every counter is zero. -/
theorem quiet (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨h.1.args c 0, h.1.args c 1, h.1.args c 2, h.1.args c 3, h.1.args c 4, h.1.args c 5, h.1.args c 6⟩, h.2⟩) (run m g)

/-- Kernel and reference, from memories that hold the same arrays. -/
theorem same (m : (ℓ : Loc nD τ sig) → Buf (Elt F) ℓ) (g : Dev nD → PrngReg)
    (m' : (ℓ : Loc Cert.GatherReferenceIdeal.nD Cert.GatherReferenceIdeal.τ Cert.GatherReferenceIdeal.sig) → Buf (Elt F) ℓ) (g' : Dev Cert.GatherReferenceIdeal.nD → PrngReg)
    (hm : ∀ c : Dev nD,
      m ((c.tc : Thread nD τ).loc main_arg0) = Layout.blockN ⟨3, ![4, 1024, 448]⟩ ⟨3, ![4, 1024, 1792]⟩ (Layout.meshBlock [2, 2, 2] ![[], [], [0, 1]] c) (m' (((0 : Dev Cert.GatherReferenceIdeal.nD).tc : Thread Cert.GatherReferenceIdeal.nD Cert.GatherReferenceIdeal.τ).loc Cert.GatherReferenceIdeal.main_arg0))
      ∧ m ((c.tc : Thread nD τ).loc main_arg1) = Layout.blockN ⟨3, ![4, 256, 1024]⟩ ⟨3, ![4, 1024, 1024]⟩ (Layout.meshBlock [2, 2, 2] ![[], [0, 1], []] c) (m' (((0 : Dev Cert.GatherReferenceIdeal.nD).tc : Thread Cert.GatherReferenceIdeal.nD Cert.GatherReferenceIdeal.τ).loc Cert.GatherReferenceIdeal.main_arg1))
      ∧ m ((c.tc : Thread nD τ).loc main_arg2) = Layout.blockN ⟨3, ![4, 1024, 704]⟩ ⟨3, ![4, 1024, 2816]⟩ (Layout.meshBlock [2, 2, 2] ![[], [], [0, 1]] c) (m' (((0 : Dev Cert.GatherReferenceIdeal.nD).tc : Thread Cert.GatherReferenceIdeal.nD Cert.GatherReferenceIdeal.τ).loc Cert.GatherReferenceIdeal.main_arg2))
      ∧ m ((c.tc : Thread nD τ).loc main_arg3) = Layout.blockN ⟨3, ![4, 1024, 704]⟩ ⟨3, ![4, 1024, 2816]⟩ (Layout.meshBlock [2, 2, 2] ![[], [], [0, 1]] c) (m' (((0 : Dev Cert.GatherReferenceIdeal.nD).tc : Thread Cert.GatherReferenceIdeal.nD Cert.GatherReferenceIdeal.τ).loc Cert.GatherReferenceIdeal.main_arg3))
      ∧ m ((c.tc : Thread nD τ).loc main_arg4) = Layout.blockN ⟨3, ![4, 704, 1024]⟩ ⟨3, ![4, 2816, 1024]⟩ (Layout.meshBlock [2, 2, 2] ![[], [0, 1], []] c) (m' (((0 : Dev Cert.GatherReferenceIdeal.nD).tc : Thread Cert.GatherReferenceIdeal.nD Cert.GatherReferenceIdeal.τ).loc Cert.GatherReferenceIdeal.main_arg4))
      ∧ m ((c.tc : Thread nD τ).loc main_arg5) = Layout.blockN ⟨3, ![4, 256, 256]⟩ ⟨3, ![4, 256, 1024]⟩ (Layout.meshBlock [2, 2, 2] ![[], [], [0, 1]] c) (m' (((0 : Dev Cert.GatherReferenceIdeal.nD).tc : Thread Cert.GatherReferenceIdeal.nD Cert.GatherReferenceIdeal.τ).loc Cert.GatherReferenceIdeal.main_arg5))
      ∧ m ((c.tc : Thread nD τ).loc main_arg6) = Layout.blockN ⟨3, ![4, 256, 1024]⟩ ⟨3, ![4, 1024, 1024]⟩ (Layout.meshBlock [2, 2, 2] ![[], [0, 1], []] c) (m' (((0 : Dev Cert.GatherReferenceIdeal.nD).tc : Thread Cert.GatherReferenceIdeal.nD Cert.GatherReferenceIdeal.τ).loc Cert.GatherReferenceIdeal.main_arg6))) :
    ∃ (v0 : Buf (Elt F) (((0 : Dev Cert.GatherReferenceIdeal.nD).tc : Thread Cert.GatherReferenceIdeal.nD Cert.GatherReferenceIdeal.τ).loc Cert.GatherReferenceIdeal.main_v1)) (v1 : Buf (Elt F) (((0 : Dev Cert.GatherReferenceIdeal.nD).tc : Thread Cert.GatherReferenceIdeal.nD Cert.GatherReferenceIdeal.τ).loc Cert.GatherReferenceIdeal.main_v3)) (v2 : Buf (Elt F) (((0 : Dev Cert.GatherReferenceIdeal.nD).tc : Thread Cert.GatherReferenceIdeal.nD Cert.GatherReferenceIdeal.τ).loc Cert.GatherReferenceIdeal.main_v5)) (v3 : Buf (Elt F) (((0 : Dev Cert.GatherReferenceIdeal.nD).tc : Thread Cert.GatherReferenceIdeal.nD Cert.GatherReferenceIdeal.τ).loc Cert.GatherReferenceIdeal.main_v7)) (v4 : Buf (Elt F) (((0 : Dev Cert.GatherReferenceIdeal.nD).tc : Thread Cert.GatherReferenceIdeal.nD Cert.GatherReferenceIdeal.τ).loc Cert.GatherReferenceIdeal.main_v9)) (v5 : Buf (Elt F) (((0 : Dev Cert.GatherReferenceIdeal.nD).tc : Thread Cert.GatherReferenceIdeal.nD Cert.GatherReferenceIdeal.τ).loc Cert.GatherReferenceIdeal.main_v11)) (v6 : Buf (Elt F) (((0 : Dev Cert.GatherReferenceIdeal.nD).tc : Thread Cert.GatherReferenceIdeal.nD Cert.GatherReferenceIdeal.τ).loc Cert.GatherReferenceIdeal.main_v13)),
      θ_run (defs (F := F)) (onTc (τ := τ) (main (F := F))) ⟨m, fun _ => 0, g⟩ (fun r => ∀ c : Dev nD,
          r.2.mem ((c.tc : Thread nD τ).loc main_v1_0) = v0
          ∧ r.2.mem ((c.tc : Thread nD τ).loc main_v1_1) = v1
          ∧ r.2.mem ((c.tc : Thread nD τ).loc main_v1_2) = v2
          ∧ r.2.mem ((c.tc : Thread nD τ).loc main_v1_3) = v3
          ∧ r.2.mem ((c.tc : Thread nD τ).loc main_v1_4) = v4
          ∧ r.2.mem ((c.tc : Thread nD τ).loc main_v1_5) = v5
          ∧ r.2.mem ((c.tc : Thread nD τ).loc main_v1_6) = v6
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6))
      ∧ θ_run (Cert.GatherReferenceIdeal.defs (F := F)) (onTc (τ := Cert.GatherReferenceIdeal.τ) (Cert.GatherReferenceIdeal.main (F := F))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v1) = v0
          ∧ r.2.mem (((0 : Dev Cert.GatherReferenceIdeal.nD).tc : Thread Cert.GatherReferenceIdeal.nD Cert.GatherReferenceIdeal.τ).loc Cert.GatherReferenceIdeal.main_v3) = v1
          ∧ r.2.mem (((0 : Dev Cert.GatherReferenceIdeal.nD).tc : Thread Cert.GatherReferenceIdeal.nD Cert.GatherReferenceIdeal.τ).loc Cert.GatherReferenceIdeal.main_v5) = v2
          ∧ r.2.mem (((0 : Dev Cert.GatherReferenceIdeal.nD).tc : Thread Cert.GatherReferenceIdeal.nD Cert.GatherReferenceIdeal.τ).loc Cert.GatherReferenceIdeal.main_v7) = v3
          ∧ r.2.mem (((0 : Dev Cert.GatherReferenceIdeal.nD).tc : Thread Cert.GatherReferenceIdeal.nD Cert.GatherReferenceIdeal.τ).loc Cert.GatherReferenceIdeal.main_v9) = v4
          ∧ r.2.mem (((0 : Dev Cert.GatherReferenceIdeal.nD).tc : Thread Cert.GatherReferenceIdeal.nD Cert.GatherReferenceIdeal.τ).loc Cert.GatherReferenceIdeal.main_v11) = v5
          ∧ r.2.mem (((0 : Dev Cert.GatherReferenceIdeal.nD).tc : Thread Cert.GatherReferenceIdeal.nD Cert.GatherReferenceIdeal.τ).loc Cert.GatherReferenceIdeal.main_v13) = v6
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0)
          ∧ r.2.mem (((0 : Dev Cert.GatherReferenceIdeal.nD).tc : Thread Cert.GatherReferenceIdeal.nD Cert.GatherReferenceIdeal.τ).loc Cert.GatherReferenceIdeal.main_arg1) = m' (((0 : Dev Cert.GatherReferenceIdeal.nD).tc : Thread Cert.GatherReferenceIdeal.nD Cert.GatherReferenceIdeal.τ).loc Cert.GatherReferenceIdeal.main_arg1)
          ∧ r.2.mem (((0 : Dev Cert.GatherReferenceIdeal.nD).tc : Thread Cert.GatherReferenceIdeal.nD Cert.GatherReferenceIdeal.τ).loc Cert.GatherReferenceIdeal.main_arg2) = m' (((0 : Dev Cert.GatherReferenceIdeal.nD).tc : Thread Cert.GatherReferenceIdeal.nD Cert.GatherReferenceIdeal.τ).loc Cert.GatherReferenceIdeal.main_arg2)
          ∧ r.2.mem (((0 : Dev Cert.GatherReferenceIdeal.nD).tc : Thread Cert.GatherReferenceIdeal.nD Cert.GatherReferenceIdeal.τ).loc Cert.GatherReferenceIdeal.main_arg3) = m' (((0 : Dev Cert.GatherReferenceIdeal.nD).tc : Thread Cert.GatherReferenceIdeal.nD Cert.GatherReferenceIdeal.τ).loc Cert.GatherReferenceIdeal.main_arg3)
          ∧ r.2.mem (((0 : Dev Cert.GatherReferenceIdeal.nD).tc : Thread Cert.GatherReferenceIdeal.nD Cert.GatherReferenceIdeal.τ).loc Cert.GatherReferenceIdeal.main_arg4) = m' (((0 : Dev Cert.GatherReferenceIdeal.nD).tc : Thread Cert.GatherReferenceIdeal.nD Cert.GatherReferenceIdeal.τ).loc Cert.GatherReferenceIdeal.main_arg4)
          ∧ r.2.mem (((0 : Dev Cert.GatherReferenceIdeal.nD).tc : Thread Cert.GatherReferenceIdeal.nD Cert.GatherReferenceIdeal.τ).loc Cert.GatherReferenceIdeal.main_arg5) = m' (((0 : Dev Cert.GatherReferenceIdeal.nD).tc : Thread Cert.GatherReferenceIdeal.nD Cert.GatherReferenceIdeal.τ).loc Cert.GatherReferenceIdeal.main_arg5)
          ∧ r.2.mem (((0 : Dev Cert.GatherReferenceIdeal.nD).tc : Thread Cert.GatherReferenceIdeal.nD Cert.GatherReferenceIdeal.τ).loc Cert.GatherReferenceIdeal.main_arg6) = m' (((0 : Dev Cert.GatherReferenceIdeal.nD).tc : Thread Cert.GatherReferenceIdeal.nD Cert.GatherReferenceIdeal.τ).loc Cert.GatherReferenceIdeal.main_arg6)) := by
  refine ⟨_, _, _, _, _, _, _, ?_, (θ_run Cert.GatherReferenceIdeal.defs _ _).mono (fun _ h => h 0) (Cert.GatherReferenceIdeal.Value.run m' g')⟩
  refine (θ_run defs _ _).mono (fun r h c => ?_) (run m g)
  exact ⟨columns _ (fun c : Dev nD => m ((c.tc : Thread nD τ).loc main_arg0)) c (h.1.results c 0) _ (by decide) (fun c => (hm c).1) _ _ rfl,
    rows _ (fun c : Dev nD => m ((c.tc : Thread nD τ).loc main_arg1)) c (h.1.results c 1) _ (by decide) (fun c => (hm c).2.1) _ _ rfl,
    columns _ (fun c : Dev nD => m ((c.tc : Thread nD τ).loc main_arg2)) c (h.1.results c 2) _ (by decide) (fun c => (hm c).2.2.1) _ _ rfl,
    columns _ (fun c : Dev nD => m ((c.tc : Thread nD τ).loc main_arg3)) c (h.1.results c 3) _ (by decide) (fun c => (hm c).2.2.2.1) _ _ rfl,
    rows _ (fun c : Dev nD => m ((c.tc : Thread nD τ).loc main_arg4)) c (h.1.results c 4) _ (by decide) (fun c => (hm c).2.2.2.2.1) _ _ rfl,
    columns _ (fun c : Dev nD => m ((c.tc : Thread nD τ).loc main_arg5)) c (h.1.results c 5) _ (by decide) (fun c => (hm c).2.2.2.2.2.1) _ _ rfl,
    rows _ (fun c : Dev nD => m ((c.tc : Thread nD τ).loc main_arg6)) c (h.1.results c 6) _ (by decide) (fun c => (hm c).2.2.2.2.2.2) _ _ rfl,
    h.1.args c 0,
    h.1.args c 1,
    h.1.args c 2,
    h.1.args c 3,
    h.1.args c 4,
    h.1.args c 5,
    h.1.args c 6⟩

end Cert.GatherIdeal.Gather

end
-- ==== Proof.SumInValue.lean ====
/-
# The sum over the chips of w_in's gradient

Each point of the grid adds the four members of its block of rows; the blocks fill the array.
-/
module

public import proofs.«01_k».proof.Proof.Gen.SumInIdeal.Frame
public import Idealize.ShloMosaic.Lib.Pipeline.ValueKit
public import proofs.«01_k».proof.Proof.Gen.SumInReferenceIdeal.Run

@[expose] public section

set_option maxRecDepth 16384

noncomputable section

namespace Cert.SumInIdeal.Local

open Idealize.ShloMosaic Idealize.ShloMosaic.TcCoe Idealize.SL.Sem
open Cert.SumInIdeal Cert.SumInIdeal.Gen

/-- The block that a point of the grid reads, and the one that it writes. -/
theorem blocks : ∀ t : Fin cfg0.N, win0_0.index t = ![0, t.val, 0] ∧ win0_1.index t = ![t.val, 0] :=
  (by decide +kernel : ∀ t : Fin grid0.N, _)

/-- The result is the array's sum along its leading axis. -/
theorem final (m : (ℓ : Loc nD τ sig) → Buf (Elt Ideal) ℓ) (c : Dev nD) : (dats m 0 c).arrAt 1 cfg0.N
    = Host.reduceAdd (m ((c : Thread nD τ).loc main_arg0)) (constant (F := Ideal) Cert.SumInReferenceIdeal.S_ .f32 0x00000000#32)
        Cert.SumInReferenceIdeal.Gen.reducesTo_S4x4096x448_S4096x448_d0 Cert.SumInReferenceIdeal.Gen.h_S_ := by
  refine (dats m 0 c).arrAt_eq_of_covers 1 _ (by decide +kernel) fun t _ y => ?_
  blk_simp
  rw [after0_1]
  frame_out
  pointwise [k0_pay1]
  rw [Fin.sum_univ_four]
  blk_point [iblk, V, blocks t]

/-- Kernel and reference, from memories that hold the same arrays. -/
theorem same (m : (ℓ : Loc nD τ sig) → Buf (Elt Ideal) ℓ) (g : Dev nD → PrngReg)
    (m' : (ℓ : Loc Cert.SumInReferenceIdeal.nD Cert.SumInReferenceIdeal.τ Cert.SumInReferenceIdeal.sig) → Buf (Elt Ideal) ℓ) (g' : Dev Cert.SumInReferenceIdeal.nD → PrngReg)
    (hm : ∀ c : Dev nD,
      m' ((c.tc : Thread Cert.SumInReferenceIdeal.nD Cert.SumInReferenceIdeal.τ).loc Cert.SumInReferenceIdeal.main_arg0) = m ((c.tc : Thread nD τ).loc main_arg0)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0))
      ∧ θ_run (Cert.SumInReferenceIdeal.defs (F := Ideal)) (onTc (τ := Cert.SumInReferenceIdeal.τ) (Cert.SumInReferenceIdeal.main (F := Ideal))) ⟨m', fun _ => 0, g'⟩ (fun r => ∀ c : Dev Cert.SumInReferenceIdeal.nD,
          r.2.mem ((c.tc : Thread Cert.SumInReferenceIdeal.nD Cert.SumInReferenceIdeal.τ).loc Cert.SumInReferenceIdeal.main_v0) = v0 c
          ∧ r.2.mem ((c.tc : Thread Cert.SumInReferenceIdeal.nD Cert.SumInReferenceIdeal.τ).loc Cert.SumInReferenceIdeal.main_arg0) = m' ((c.tc : Thread Cert.SumInReferenceIdeal.nD Cert.SumInReferenceIdeal.τ).loc Cert.SumInReferenceIdeal.main_arg0)) := by
  refine ⟨fun c => (dats m 0 c).arrAt 1 cfg0.N, ?_, (θ_run _ _ _).mono (fun r h c => ⟨(h c).1.trans ?_, (h c).2⟩) (Cert.SumInReferenceIdeal.Value.run m' g')⟩
  · exact (θ_run defs _ _).mono (fun r h c => ⟨(h c).1 1, ((h c).1 0).trans ((dats m 0 c).arrAt_in 0 rfl _)⟩) (run_main m g)
  · rw [hm c]
    exact (final m c).symm

end Cert.SumInIdeal.Local

end
-- ==== Proof.UpdateInValue.lean ====
/-
# The optimizer's step for w_in

The call works element by element on blocks that fill the arrays, and so does the reference: at every index the two apply
the same real operations to the same words.
-/
module

public import proofs.«01_k».proof.Proof.Gen.UpdateInIdeal.Value
public import Idealize.ShloMosaic.Lib.Pipeline.ValueKit
public import proofs.«01_k».proof.Proof.Gen.UpdateInReferenceIdeal.Run

@[expose] public section

set_option maxRecDepth 16384

noncomputable section

namespace Cert.UpdateInIdeal.Local

open Idealize.ShloMosaic Idealize.ShloMosaic.TcCoe Idealize.SL.Sem
open Cert.UpdateInIdeal Cert.UpdateInIdeal.Gen

/-- Kernel and reference, from memories that hold the same arrays. -/
theorem same (m : (ℓ : Loc nD τ sig) → Buf (Elt Ideal) ℓ) (g : Dev nD → PrngReg)
    (m' : (ℓ : Loc Cert.UpdateInReferenceIdeal.nD Cert.UpdateInReferenceIdeal.τ Cert.UpdateInReferenceIdeal.sig) → Buf (Elt Ideal) ℓ) (g' : Dev Cert.UpdateInReferenceIdeal.nD → PrngReg)
    (hm : ∀ c : Dev nD,
      m' ((c.tc : Thread Cert.UpdateInReferenceIdeal.nD Cert.UpdateInReferenceIdeal.τ).loc Cert.UpdateInReferenceIdeal.main_arg0) = m ((c.tc : Thread nD τ).loc main_arg0)
      ∧ m' ((c.tc : Thread Cert.UpdateInReferenceIdeal.nD Cert.UpdateInReferenceIdeal.τ).loc Cert.UpdateInReferenceIdeal.main_arg1) = m ((c.tc : Thread nD τ).loc main_arg1)
      ∧ m' ((c.tc : Thread Cert.UpdateInReferenceIdeal.nD Cert.UpdateInReferenceIdeal.τ).loc Cert.UpdateInReferenceIdeal.main_arg2) = m ((c.tc : Thread nD τ).loc main_arg2)
      ∧ m' ((c.tc : Thread Cert.UpdateInReferenceIdeal.nD Cert.UpdateInReferenceIdeal.τ).loc Cert.UpdateInReferenceIdeal.main_arg3) = m ((c.tc : Thread nD τ).loc main_arg3)
      ∧ m' ((c.tc : Thread Cert.UpdateInReferenceIdeal.nD Cert.UpdateInReferenceIdeal.τ).loc Cert.UpdateInReferenceIdeal.main_arg4) = m ((c.tc : Thread nD τ).loc main_arg4)) :
    ∃ (v0 : (c : Dev nD) → Buf (Elt Ideal) ((c.tc : Thread nD τ).loc main_v0_0)) (v1 : (c : Dev nD) → Buf (Elt Ideal) ((c.tc : Thread nD τ).loc main_v0_1)) (v2 : (c : Dev nD) → Buf (Elt Ideal) ((c.tc : Thread nD τ).loc main_v0_2)) (v3 : (c : Dev nD) → Buf (Elt Ideal) ((c.tc : Thread nD τ).loc main_v0_3)),
      θ_run (defs (F := Ideal)) (onTc (τ := τ) (main (F := Ideal))) ⟨m, fun _ => 0, g⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_v0_2) = v2 c
          ∧ r.2.mem ((c.tc : Thread nD τ).loc main_v0_3) = v3 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4))
      ∧ θ_run (Cert.UpdateInReferenceIdeal.defs (F := Ideal)) (onTc (τ := Cert.UpdateInReferenceIdeal.τ) (Cert.UpdateInReferenceIdeal.main (F := Ideal))) ⟨m', fun _ => 0, g'⟩ (fun r => ∀ c : Dev Cert.UpdateInReferenceIdeal.nD,
          r.2.mem ((c.tc : Thread Cert.UpdateInReferenceIdeal.nD Cert.UpdateInReferenceIdeal.τ).loc Cert.UpdateInReferenceIdeal.main_v0) = v0 c
          ∧ r.2.mem ((c.tc : Thread Cert.UpdateInReferenceIdeal.nD Cert.UpdateInReferenceIdeal.τ).loc Cert.UpdateInReferenceIdeal.main_v24) = v1 c
          ∧ r.2.mem ((c.tc : Thread Cert.UpdateInReferenceIdeal.nD Cert.UpdateInReferenceIdeal.τ).loc Cert.UpdateInReferenceIdeal.main_v5) = v2 c
          ∧ r.2.mem ((c.tc : Thread Cert.UpdateInReferenceIdeal.nD Cert.UpdateInReferenceIdeal.τ).loc Cert.UpdateInReferenceIdeal.main_v11) = v3 c
          ∧ r.2.mem ((c.tc : Thread Cert.UpdateInReferenceIdeal.nD Cert.UpdateInReferenceIdeal.τ).loc Cert.UpdateInReferenceIdeal.main_arg0) = m' ((c.tc : Thread Cert.UpdateInReferenceIdeal.nD Cert.UpdateInReferenceIdeal.τ).loc Cert.UpdateInReferenceIdeal.main_arg0)
          ∧ r.2.mem ((c.tc : Thread Cert.UpdateInReferenceIdeal.nD Cert.UpdateInReferenceIdeal.τ).loc Cert.UpdateInReferenceIdeal.main_arg1) = m' ((c.tc : Thread Cert.UpdateInReferenceIdeal.nD Cert.UpdateInReferenceIdeal.τ).loc Cert.UpdateInReferenceIdeal.main_arg1)
          ∧ r.2.mem ((c.tc : Thread Cert.UpdateInReferenceIdeal.nD Cert.UpdateInReferenceIdeal.τ).loc Cert.UpdateInReferenceIdeal.main_arg2) = m' ((c.tc : Thread Cert.UpdateInReferenceIdeal.nD Cert.UpdateInReferenceIdeal.τ).loc Cert.UpdateInReferenceIdeal.main_arg2)
          ∧ r.2.mem ((c.tc : Thread Cert.UpdateInReferenceIdeal.nD Cert.UpdateInReferenceIdeal.τ).loc Cert.UpdateInReferenceIdeal.main_arg3) = m' ((c.tc : Thread Cert.UpdateInReferenceIdeal.nD Cert.UpdateInReferenceIdeal.τ).loc Cert.UpdateInReferenceIdeal.main_arg3)
          ∧ r.2.mem ((c.tc : Thread Cert.UpdateInReferenceIdeal.nD Cert.UpdateInReferenceIdeal.τ).loc Cert.UpdateInReferenceIdeal.main_arg4) = m' ((c.tc : Thread Cert.UpdateInReferenceIdeal.nD Cert.UpdateInReferenceIdeal.τ).loc Cert.UpdateInReferenceIdeal.main_arg4)) := by
  refine ⟨_, _, _, _, Value.run m g, (θ_run _ _ _).mono (fun r h c => ?_) (Cert.UpdateInReferenceIdeal.Value.run m' g')⟩
  obtain ⟨h0, h1, h2, h3, hk⟩ := h c
  obtain ⟨e0, e1, e2, e3, e4⟩ := hm c
  rw [e0, e1] at h0
  rw [e0, e1, e2, e3, e4] at h1
  rw [e0, e1, e3] at h2
  rw [e0, e1, e4] at h3
  exact ⟨h0, h1, h2, h3, hk⟩

end Cert.UpdateInIdeal.Local

end
-- ==== Proof.SumOutValue.lean ====
/-
# The sum over the chips of w_out's gradient

Each point of the grid adds the four members of its block of rows; the blocks fill the array.
-/
module

public import proofs.«01_k».proof.Proof.Gen.SumOutIdeal.Frame
public import Idealize.ShloMosaic.Lib.Pipeline.ValueKit
public import proofs.«01_k».proof.Proof.Gen.SumOutReferenceIdeal.Run

@[expose] public section

set_option maxRecDepth 16384

noncomputable section

namespace Cert.SumOutIdeal.Local

open Idealize.ShloMosaic Idealize.ShloMosaic.TcCoe Idealize.SL.Sem
open Cert.SumOutIdeal Cert.SumOutIdeal.Gen

/-- The block that a point of the grid reads, and the one that it writes. -/
theorem blocks : ∀ t : Fin cfg0.N, win0_0.index t = ![0, t.val, 0] ∧ win0_1.index t = ![t.val, 0] :=
  (by decide +kernel : ∀ t : Fin grid0.N, _)

/-- The result is the array's sum along its leading axis. -/
theorem final (m : (ℓ : Loc nD τ sig) → Buf (Elt Ideal) ℓ) (c : Dev nD) : (dats m 0 c).arrAt 1 cfg0.N
    = Host.reduceAdd (m ((c : Thread nD τ).loc main_arg0)) (constant (F := Ideal) Cert.SumOutReferenceIdeal.S_ .f32 0x00000000#32)
        Cert.SumOutReferenceIdeal.Gen.reducesTo_S4x1024x1024_S1024x1024_d0 Cert.SumOutReferenceIdeal.Gen.h_S_ := by
  refine (dats m 0 c).arrAt_eq_of_covers 1 _ (by decide +kernel) fun t _ y => ?_
  blk_simp
  rw [after0_1]
  frame_out
  pointwise [k0_pay1]
  rw [Fin.sum_univ_four]
  blk_point [iblk, V, blocks t]

/-- Kernel and reference, from memories that hold the same arrays. -/
theorem same (m : (ℓ : Loc nD τ sig) → Buf (Elt Ideal) ℓ) (g : Dev nD → PrngReg)
    (m' : (ℓ : Loc Cert.SumOutReferenceIdeal.nD Cert.SumOutReferenceIdeal.τ Cert.SumOutReferenceIdeal.sig) → Buf (Elt Ideal) ℓ) (g' : Dev Cert.SumOutReferenceIdeal.nD → PrngReg)
    (hm : ∀ c : Dev nD,
      m' ((c.tc : Thread Cert.SumOutReferenceIdeal.nD Cert.SumOutReferenceIdeal.τ).loc Cert.SumOutReferenceIdeal.main_arg0) = m ((c.tc : Thread nD τ).loc main_arg0)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0))
      ∧ θ_run (Cert.SumOutReferenceIdeal.defs (F := Ideal)) (onTc (τ := Cert.SumOutReferenceIdeal.τ) (Cert.SumOutReferenceIdeal.main (F := Ideal))) ⟨m', fun _ => 0, g'⟩ (fun r => ∀ c : Dev Cert.SumOutReferenceIdeal.nD,
          r.2.mem ((c.tc : Thread Cert.SumOutReferenceIdeal.nD Cert.SumOutReferenceIdeal.τ).loc Cert.SumOutReferenceIdeal.main_v0) = v0 c
          ∧ r.2.mem ((c.tc : Thread Cert.SumOutReferenceIdeal.nD Cert.SumOutReferenceIdeal.τ).loc Cert.SumOutReferenceIdeal.main_arg0) = m' ((c.tc : Thread Cert.SumOutReferenceIdeal.nD Cert.SumOutReferenceIdeal.τ).loc Cert.SumOutReferenceIdeal.main_arg0)) := by
  refine ⟨fun c => (dats m 0 c).arrAt 1 cfg0.N, ?_, (θ_run _ _ _).mono (fun r h c => ⟨(h c).1.trans ?_, (h c).2⟩) (Cert.SumOutReferenceIdeal.Value.run m' g')⟩
  · exact (θ_run defs _ _).mono (fun r h c => ⟨(h c).1 1, ((h c).1 0).trans ((dats m 0 c).arrAt_in 0 rfl _)⟩) (run_main m g)
  · rw [hm c]
    exact (final m c).symm

end Cert.SumOutIdeal.Local

end
-- ==== Proof.UpdateOutValue.lean ====
/-
# The optimizer's step for w_out

The call works element by element on blocks that fill the arrays, and so does the reference: at every index the two apply
the same real operations to the same words.
-/
module

public import proofs.«01_k».proof.Proof.Gen.UpdateOutIdeal.Value
public import Idealize.ShloMosaic.Lib.Pipeline.ValueKit
public import proofs.«01_k».proof.Proof.Gen.UpdateOutReferenceIdeal.Run

@[expose] public section

set_option maxRecDepth 16384

noncomputable section

namespace Cert.UpdateOutIdeal.Local

open Idealize.ShloMosaic Idealize.ShloMosaic.TcCoe Idealize.SL.Sem
open Cert.UpdateOutIdeal Cert.UpdateOutIdeal.Gen

/-- Kernel and reference, from memories that hold the same arrays. -/
theorem same (m : (ℓ : Loc nD τ sig) → Buf (Elt Ideal) ℓ) (g : Dev nD → PrngReg)
    (m' : (ℓ : Loc Cert.UpdateOutReferenceIdeal.nD Cert.UpdateOutReferenceIdeal.τ Cert.UpdateOutReferenceIdeal.sig) → Buf (Elt Ideal) ℓ) (g' : Dev Cert.UpdateOutReferenceIdeal.nD → PrngReg)
    (hm : ∀ c : Dev nD,
      m' ((c.tc : Thread Cert.UpdateOutReferenceIdeal.nD Cert.UpdateOutReferenceIdeal.τ).loc Cert.UpdateOutReferenceIdeal.main_arg0) = m ((c.tc : Thread nD τ).loc main_arg0)
      ∧ m' ((c.tc : Thread Cert.UpdateOutReferenceIdeal.nD Cert.UpdateOutReferenceIdeal.τ).loc Cert.UpdateOutReferenceIdeal.main_arg1) = m ((c.tc : Thread nD τ).loc main_arg1)
      ∧ m' ((c.tc : Thread Cert.UpdateOutReferenceIdeal.nD Cert.UpdateOutReferenceIdeal.τ).loc Cert.UpdateOutReferenceIdeal.main_arg2) = m ((c.tc : Thread nD τ).loc main_arg2)
      ∧ m' ((c.tc : Thread Cert.UpdateOutReferenceIdeal.nD Cert.UpdateOutReferenceIdeal.τ).loc Cert.UpdateOutReferenceIdeal.main_arg3) = m ((c.tc : Thread nD τ).loc main_arg3)
      ∧ m' ((c.tc : Thread Cert.UpdateOutReferenceIdeal.nD Cert.UpdateOutReferenceIdeal.τ).loc Cert.UpdateOutReferenceIdeal.main_arg4) = m ((c.tc : Thread nD τ).loc main_arg4)) :
    ∃ (v0 : (c : Dev nD) → Buf (Elt Ideal) ((c.tc : Thread nD τ).loc main_v0_0)) (v1 : (c : Dev nD) → Buf (Elt Ideal) ((c.tc : Thread nD τ).loc main_v0_1)) (v2 : (c : Dev nD) → Buf (Elt Ideal) ((c.tc : Thread nD τ).loc main_v0_2)) (v3 : (c : Dev nD) → Buf (Elt Ideal) ((c.tc : Thread nD τ).loc main_v0_3)),
      θ_run (defs (F := Ideal)) (onTc (τ := τ) (main (F := Ideal))) ⟨m, fun _ => 0, g⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_v0_2) = v2 c
          ∧ r.2.mem ((c.tc : Thread nD τ).loc main_v0_3) = v3 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4))
      ∧ θ_run (Cert.UpdateOutReferenceIdeal.defs (F := Ideal)) (onTc (τ := Cert.UpdateOutReferenceIdeal.τ) (Cert.UpdateOutReferenceIdeal.main (F := Ideal))) ⟨m', fun _ => 0, g'⟩ (fun r => ∀ c : Dev Cert.UpdateOutReferenceIdeal.nD,
          r.2.mem ((c.tc : Thread Cert.UpdateOutReferenceIdeal.nD Cert.UpdateOutReferenceIdeal.τ).loc Cert.UpdateOutReferenceIdeal.main_v0) = v0 c
          ∧ r.2.mem ((c.tc : Thread Cert.UpdateOutReferenceIdeal.nD Cert.UpdateOutReferenceIdeal.τ).loc Cert.UpdateOutReferenceIdeal.main_v24) = v1 c
          ∧ r.2.mem ((c.tc : Thread Cert.UpdateOutReferenceIdeal.nD Cert.UpdateOutReferenceIdeal.τ).loc Cert.UpdateOutReferenceIdeal.main_v5) = v2 c
          ∧ r.2.mem ((c.tc : Thread Cert.UpdateOutReferenceIdeal.nD Cert.UpdateOutReferenceIdeal.τ).loc Cert.UpdateOutReferenceIdeal.main_v11) = v3 c
          ∧ r.2.mem ((c.tc : Thread Cert.UpdateOutReferenceIdeal.nD Cert.UpdateOutReferenceIdeal.τ).loc Cert.UpdateOutReferenceIdeal.main_arg0) = m' ((c.tc : Thread Cert.UpdateOutReferenceIdeal.nD Cert.UpdateOutReferenceIdeal.τ).loc Cert.UpdateOutReferenceIdeal.main_arg0)
          ∧ r.2.mem ((c.tc : Thread Cert.UpdateOutReferenceIdeal.nD Cert.UpdateOutReferenceIdeal.τ).loc Cert.UpdateOutReferenceIdeal.main_arg1) = m' ((c.tc : Thread Cert.UpdateOutReferenceIdeal.nD Cert.UpdateOutReferenceIdeal.τ).loc Cert.UpdateOutReferenceIdeal.main_arg1)
          ∧ r.2.mem ((c.tc : Thread Cert.UpdateOutReferenceIdeal.nD Cert.UpdateOutReferenceIdeal.τ).loc Cert.UpdateOutReferenceIdeal.main_arg2) = m' ((c.tc : Thread Cert.UpdateOutReferenceIdeal.nD Cert.UpdateOutReferenceIdeal.τ).loc Cert.UpdateOutReferenceIdeal.main_arg2)
          ∧ r.2.mem ((c.tc : Thread Cert.UpdateOutReferenceIdeal.nD Cert.UpdateOutReferenceIdeal.τ).loc Cert.UpdateOutReferenceIdeal.main_arg3) = m' ((c.tc : Thread Cert.UpdateOutReferenceIdeal.nD Cert.UpdateOutReferenceIdeal.τ).loc Cert.UpdateOutReferenceIdeal.main_arg3)
          ∧ r.2.mem ((c.tc : Thread Cert.UpdateOutReferenceIdeal.nD Cert.UpdateOutReferenceIdeal.τ).loc Cert.UpdateOutReferenceIdeal.main_arg4) = m' ((c.tc : Thread Cert.UpdateOutReferenceIdeal.nD Cert.UpdateOutReferenceIdeal.τ).loc Cert.UpdateOutReferenceIdeal.main_arg4)) := by
  refine ⟨_, _, _, _, Value.run m g, (θ_run _ _ _).mono (fun r h c => ?_) (Cert.UpdateOutReferenceIdeal.Value.run m' g')⟩
  obtain ⟨h0, h1, h2, h3, hk⟩ := h c
  obtain ⟨e0, e1, e2, e3, e4⟩ := hm c
  rw [e0, e1] at h0
  rw [e0, e1, e2, e3, e4] at h1
  rw [e0, e1, e3] at h2
  rw [e0, e1, e4] at h3
  exact ⟨h0, h1, h2, h3, hk⟩

end Cert.UpdateOutIdeal.Local

end
-- ==== Proof.SumFfnValue.lean ====
/-
# The sum over the chips of w_ffn_gate's gradient

Each point of the grid adds the four members of its block of rows; the blocks fill the array.
-/
module

public import proofs.«01_k».proof.Proof.Gen.SumFfnIdeal.Frame
public import Idealize.ShloMosaic.Lib.Pipeline.ValueKit
public import proofs.«01_k».proof.Proof.Gen.SumFfnReferenceIdeal.Run

@[expose] public section

set_option maxRecDepth 16384

noncomputable section

namespace Cert.SumFfnIdeal.Local

open Idealize.ShloMosaic Idealize.ShloMosaic.TcCoe Idealize.SL.Sem
open Cert.SumFfnIdeal Cert.SumFfnIdeal.Gen

/-- The block that a point of the grid reads, and the one that it writes. -/
theorem blocks : ∀ t : Fin cfg0.N, win0_0.index t = ![0, t.val, 0] ∧ win0_1.index t = ![t.val, 0] :=
  (by decide +kernel : ∀ t : Fin grid0.N, _)

/-- The result is the array's sum along its leading axis. -/
theorem final (m : (ℓ : Loc nD τ sig) → Buf (Elt Ideal) ℓ) (c : Dev nD) : (dats m 0 c).arrAt 1 cfg0.N
    = Host.reduceAdd (m ((c : Thread nD τ).loc main_arg0)) (constant (F := Ideal) Cert.SumFfnReferenceIdeal.S_ .f32 0x00000000#32)
        Cert.SumFfnReferenceIdeal.Gen.reducesTo_S4x4096x704_S4096x704_d0 Cert.SumFfnReferenceIdeal.Gen.h_S_ := by
  refine (dats m 0 c).arrAt_eq_of_covers 1 _ (by decide +kernel) fun t _ y => ?_
  blk_simp
  rw [after0_1]
  frame_out
  pointwise [k0_pay1]
  rw [Fin.sum_univ_four]
  blk_point [iblk, V, blocks t]

/-- Kernel and reference, from memories that hold the same arrays. -/
theorem same (m : (ℓ : Loc nD τ sig) → Buf (Elt Ideal) ℓ) (g : Dev nD → PrngReg)
    (m' : (ℓ : Loc Cert.SumFfnReferenceIdeal.nD Cert.SumFfnReferenceIdeal.τ Cert.SumFfnReferenceIdeal.sig) → Buf (Elt Ideal) ℓ) (g' : Dev Cert.SumFfnReferenceIdeal.nD → PrngReg)
    (hm : ∀ c : Dev nD,
      m' ((c.tc : Thread Cert.SumFfnReferenceIdeal.nD Cert.SumFfnReferenceIdeal.τ).loc Cert.SumFfnReferenceIdeal.main_arg0) = m ((c.tc : Thread nD τ).loc main_arg0)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0))
      ∧ θ_run (Cert.SumFfnReferenceIdeal.defs (F := Ideal)) (onTc (τ := Cert.SumFfnReferenceIdeal.τ) (Cert.SumFfnReferenceIdeal.main (F := Ideal))) ⟨m', fun _ => 0, g'⟩ (fun r => ∀ c : Dev Cert.SumFfnReferenceIdeal.nD,
          r.2.mem ((c.tc : Thread Cert.SumFfnReferenceIdeal.nD Cert.SumFfnReferenceIdeal.τ).loc Cert.SumFfnReferenceIdeal.main_v0) = v0 c
          ∧ r.2.mem ((c.tc : Thread Cert.SumFfnReferenceIdeal.nD Cert.SumFfnReferenceIdeal.τ).loc Cert.SumFfnReferenceIdeal.main_arg0) = m' ((c.tc : Thread Cert.SumFfnReferenceIdeal.nD Cert.SumFfnReferenceIdeal.τ).loc Cert.SumFfnReferenceIdeal.main_arg0)) := by
  refine ⟨fun c => (dats m 0 c).arrAt 1 cfg0.N, ?_, (θ_run _ _ _).mono (fun r h c => ⟨(h c).1.trans ?_, (h c).2⟩) (Cert.SumFfnReferenceIdeal.Value.run m' g')⟩
  · exact (θ_run defs _ _).mono (fun r h c => ⟨(h c).1 1, ((h c).1 0).trans ((dats m 0 c).arrAt_in 0 rfl _)⟩) (run_main m g)
  · rw [hm c]
    exact (final m c).symm

end Cert.SumFfnIdeal.Local

end
-- ==== Proof.UpdateFfnValue.lean ====
/-
# The optimizer's step for w_ffn_gate

The call works element by element on blocks that fill the arrays, and so does the reference: at every index the two apply
the same real operations to the same words.
-/
module

public import proofs.«01_k».proof.Proof.Gen.UpdateFfnIdeal.Value
public import Idealize.ShloMosaic.Lib.Pipeline.ValueKit
public import proofs.«01_k».proof.Proof.Gen.UpdateFfnReferenceIdeal.Run

@[expose] public section

set_option maxRecDepth 16384

noncomputable section

namespace Cert.UpdateFfnIdeal.Local

open Idealize.ShloMosaic Idealize.ShloMosaic.TcCoe Idealize.SL.Sem
open Cert.UpdateFfnIdeal Cert.UpdateFfnIdeal.Gen

/-- Kernel and reference, from memories that hold the same arrays. -/
theorem same (m : (ℓ : Loc nD τ sig) → Buf (Elt Ideal) ℓ) (g : Dev nD → PrngReg)
    (m' : (ℓ : Loc Cert.UpdateFfnReferenceIdeal.nD Cert.UpdateFfnReferenceIdeal.τ Cert.UpdateFfnReferenceIdeal.sig) → Buf (Elt Ideal) ℓ) (g' : Dev Cert.UpdateFfnReferenceIdeal.nD → PrngReg)
    (hm : ∀ c : Dev nD,
      m' ((c.tc : Thread Cert.UpdateFfnReferenceIdeal.nD Cert.UpdateFfnReferenceIdeal.τ).loc Cert.UpdateFfnReferenceIdeal.main_arg0) = m ((c.tc : Thread nD τ).loc main_arg0)
      ∧ m' ((c.tc : Thread Cert.UpdateFfnReferenceIdeal.nD Cert.UpdateFfnReferenceIdeal.τ).loc Cert.UpdateFfnReferenceIdeal.main_arg1) = m ((c.tc : Thread nD τ).loc main_arg1)
      ∧ m' ((c.tc : Thread Cert.UpdateFfnReferenceIdeal.nD Cert.UpdateFfnReferenceIdeal.τ).loc Cert.UpdateFfnReferenceIdeal.main_arg2) = m ((c.tc : Thread nD τ).loc main_arg2)
      ∧ m' ((c.tc : Thread Cert.UpdateFfnReferenceIdeal.nD Cert.UpdateFfnReferenceIdeal.τ).loc Cert.UpdateFfnReferenceIdeal.main_arg3) = m ((c.tc : Thread nD τ).loc main_arg3)
      ∧ m' ((c.tc : Thread Cert.UpdateFfnReferenceIdeal.nD Cert.UpdateFfnReferenceIdeal.τ).loc Cert.UpdateFfnReferenceIdeal.main_arg4) = m ((c.tc : Thread nD τ).loc main_arg4)) :
    ∃ (v0 : (c : Dev nD) → Buf (Elt Ideal) ((c.tc : Thread nD τ).loc main_v0_0)) (v1 : (c : Dev nD) → Buf (Elt Ideal) ((c.tc : Thread nD τ).loc main_v0_1)) (v2 : (c : Dev nD) → Buf (Elt Ideal) ((c.tc : Thread nD τ).loc main_v0_2)) (v3 : (c : Dev nD) → Buf (Elt Ideal) ((c.tc : Thread nD τ).loc main_v0_3)),
      θ_run (defs (F := Ideal)) (onTc (τ := τ) (main (F := Ideal))) ⟨m, fun _ => 0, g⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_v0_2) = v2 c
          ∧ r.2.mem ((c.tc : Thread nD τ).loc main_v0_3) = v3 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4))
      ∧ θ_run (Cert.UpdateFfnReferenceIdeal.defs (F := Ideal)) (onTc (τ := Cert.UpdateFfnReferenceIdeal.τ) (Cert.UpdateFfnReferenceIdeal.main (F := Ideal))) ⟨m', fun _ => 0, g'⟩ (fun r => ∀ c : Dev Cert.UpdateFfnReferenceIdeal.nD,
          r.2.mem ((c.tc : Thread Cert.UpdateFfnReferenceIdeal.nD Cert.UpdateFfnReferenceIdeal.τ).loc Cert.UpdateFfnReferenceIdeal.main_v0) = v0 c
          ∧ r.2.mem ((c.tc : Thread Cert.UpdateFfnReferenceIdeal.nD Cert.UpdateFfnReferenceIdeal.τ).loc Cert.UpdateFfnReferenceIdeal.main_v24) = v1 c
          ∧ r.2.mem ((c.tc : Thread Cert.UpdateFfnReferenceIdeal.nD Cert.UpdateFfnReferenceIdeal.τ).loc Cert.UpdateFfnReferenceIdeal.main_v5) = v2 c
          ∧ r.2.mem ((c.tc : Thread Cert.UpdateFfnReferenceIdeal.nD Cert.UpdateFfnReferenceIdeal.τ).loc Cert.UpdateFfnReferenceIdeal.main_v11) = v3 c
          ∧ r.2.mem ((c.tc : Thread Cert.UpdateFfnReferenceIdeal.nD Cert.UpdateFfnReferenceIdeal.τ).loc Cert.UpdateFfnReferenceIdeal.main_arg0) = m' ((c.tc : Thread Cert.UpdateFfnReferenceIdeal.nD Cert.UpdateFfnReferenceIdeal.τ).loc Cert.UpdateFfnReferenceIdeal.main_arg0)
          ∧ r.2.mem ((c.tc : Thread Cert.UpdateFfnReferenceIdeal.nD Cert.UpdateFfnReferenceIdeal.τ).loc Cert.UpdateFfnReferenceIdeal.main_arg1) = m' ((c.tc : Thread Cert.UpdateFfnReferenceIdeal.nD Cert.UpdateFfnReferenceIdeal.τ).loc Cert.UpdateFfnReferenceIdeal.main_arg1)
          ∧ r.2.mem ((c.tc : Thread Cert.UpdateFfnReferenceIdeal.nD Cert.UpdateFfnReferenceIdeal.τ).loc Cert.UpdateFfnReferenceIdeal.main_arg2) = m' ((c.tc : Thread Cert.UpdateFfnReferenceIdeal.nD Cert.UpdateFfnReferenceIdeal.τ).loc Cert.UpdateFfnReferenceIdeal.main_arg2)
          ∧ r.2.mem ((c.tc : Thread Cert.UpdateFfnReferenceIdeal.nD Cert.UpdateFfnReferenceIdeal.τ).loc Cert.UpdateFfnReferenceIdeal.main_arg3) = m' ((c.tc : Thread Cert.UpdateFfnReferenceIdeal.nD Cert.UpdateFfnReferenceIdeal.τ).loc Cert.UpdateFfnReferenceIdeal.main_arg3)
          ∧ r.2.mem ((c.tc : Thread Cert.UpdateFfnReferenceIdeal.nD Cert.UpdateFfnReferenceIdeal.τ).loc Cert.UpdateFfnReferenceIdeal.main_arg4) = m' ((c.tc : Thread Cert.UpdateFfnReferenceIdeal.nD Cert.UpdateFfnReferenceIdeal.τ).loc Cert.UpdateFfnReferenceIdeal.main_arg4)) := by
  refine ⟨_, _, _, _, Value.run m g, (θ_run _ _ _).mono (fun r h c => ?_) (Cert.UpdateFfnReferenceIdeal.Value.run m' g')⟩
  obtain ⟨h0, h1, h2, h3, hk⟩ := h c
  obtain ⟨e0, e1, e2, e3, e4⟩ := hm c
  rw [e0, e1] at h0
  rw [e0, e1, e2, e3, e4] at h1
  rw [e0, e1, e3] at h2
  rw [e0, e1, e4] at h3
  exact ⟨h0, h1, h2, h3, hk⟩

end Cert.UpdateFfnIdeal.Local

end
-- ==== Proof.SumDownValue.lean ====
/-
# The sum over the chips of w_ffn_down's gradient

Each point of the grid adds the four members of its block of rows; the blocks fill the array.
-/
module

public import proofs.«01_k».proof.Proof.Gen.SumDownIdeal.Frame
public import Idealize.ShloMosaic.Lib.Pipeline.ValueKit
public import proofs.«01_k».proof.Proof.Gen.SumDownReferenceIdeal.Run

@[expose] public section

set_option maxRecDepth 16384

noncomputable section

namespace Cert.SumDownIdeal.Local

open Idealize.ShloMosaic Idealize.ShloMosaic.TcCoe Idealize.SL.Sem
open Cert.SumDownIdeal Cert.SumDownIdeal.Gen

/-- The block that a point of the grid reads, and the one that it writes. -/
theorem blocks : ∀ t : Fin cfg0.N, win0_0.index t = ![0, t.val, 0] ∧ win0_1.index t = ![t.val, 0] :=
  (by decide +kernel : ∀ t : Fin grid0.N, _)

/-- The result is the array's sum along its leading axis. -/
theorem final (m : (ℓ : Loc nD τ sig) → Buf (Elt Ideal) ℓ) (c : Dev nD) : (dats m 0 c).arrAt 1 cfg0.N
    = Host.reduceAdd (m ((c : Thread nD τ).loc main_arg0)) (constant (F := Ideal) Cert.SumDownReferenceIdeal.S_ .f32 0x00000000#32)
        Cert.SumDownReferenceIdeal.Gen.reducesTo_S4x2816x1024_S2816x1024_d0 Cert.SumDownReferenceIdeal.Gen.h_S_ := by
  refine (dats m 0 c).arrAt_eq_of_covers 1 _ (by decide +kernel) fun t _ y => ?_
  blk_simp
  rw [after0_1]
  frame_out
  pointwise [k0_pay1]
  rw [Fin.sum_univ_four]
  blk_point [iblk, V, blocks t]

/-- Kernel and reference, from memories that hold the same arrays. -/
theorem same (m : (ℓ : Loc nD τ sig) → Buf (Elt Ideal) ℓ) (g : Dev nD → PrngReg)
    (m' : (ℓ : Loc Cert.SumDownReferenceIdeal.nD Cert.SumDownReferenceIdeal.τ Cert.SumDownReferenceIdeal.sig) → Buf (Elt Ideal) ℓ) (g' : Dev Cert.SumDownReferenceIdeal.nD → PrngReg)
    (hm : ∀ c : Dev nD,
      m' ((c.tc : Thread Cert.SumDownReferenceIdeal.nD Cert.SumDownReferenceIdeal.τ).loc Cert.SumDownReferenceIdeal.main_arg0) = m ((c.tc : Thread nD τ).loc main_arg0)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0))
      ∧ θ_run (Cert.SumDownReferenceIdeal.defs (F := Ideal)) (onTc (τ := Cert.SumDownReferenceIdeal.τ) (Cert.SumDownReferenceIdeal.main (F := Ideal))) ⟨m', fun _ => 0, g'⟩ (fun r => ∀ c : Dev Cert.SumDownReferenceIdeal.nD,
          r.2.mem ((c.tc : Thread Cert.SumDownReferenceIdeal.nD Cert.SumDownReferenceIdeal.τ).loc Cert.SumDownReferenceIdeal.main_v0) = v0 c
          ∧ r.2.mem ((c.tc : Thread Cert.SumDownReferenceIdeal.nD Cert.SumDownReferenceIdeal.τ).loc Cert.SumDownReferenceIdeal.main_arg0) = m' ((c.tc : Thread Cert.SumDownReferenceIdeal.nD Cert.SumDownReferenceIdeal.τ).loc Cert.SumDownReferenceIdeal.main_arg0)) := by
  refine ⟨fun c => (dats m 0 c).arrAt 1 cfg0.N, ?_, (θ_run _ _ _).mono (fun r h c => ⟨(h c).1.trans ?_, (h c).2⟩) (Cert.SumDownReferenceIdeal.Value.run m' g')⟩
  · exact (θ_run defs _ _).mono (fun r h c => ⟨(h c).1 1, ((h c).1 0).trans ((dats m 0 c).arrAt_in 0 rfl _)⟩) (run_main m g)
  · rw [hm c]
    exact (final m c).symm

end Cert.SumDownIdeal.Local

end
-- ==== Proof.UpdateDownValue.lean ====
/-
# The optimizer's step for w_ffn_down

The call works element by element on blocks that fill the arrays, and so does the reference: at every index the two apply
the same real operations to the same words.
-/
module

public import proofs.«01_k».proof.Proof.Gen.UpdateDownIdeal.Value
public import Idealize.ShloMosaic.Lib.Pipeline.ValueKit
public import proofs.«01_k».proof.Proof.Gen.UpdateDownReferenceIdeal.Run

@[expose] public section

set_option maxRecDepth 16384

noncomputable section

namespace Cert.UpdateDownIdeal.Local

open Idealize.ShloMosaic Idealize.ShloMosaic.TcCoe Idealize.SL.Sem
open Cert.UpdateDownIdeal Cert.UpdateDownIdeal.Gen

/-- Kernel and reference, from memories that hold the same arrays. -/
theorem same (m : (ℓ : Loc nD τ sig) → Buf (Elt Ideal) ℓ) (g : Dev nD → PrngReg)
    (m' : (ℓ : Loc Cert.UpdateDownReferenceIdeal.nD Cert.UpdateDownReferenceIdeal.τ Cert.UpdateDownReferenceIdeal.sig) → Buf (Elt Ideal) ℓ) (g' : Dev Cert.UpdateDownReferenceIdeal.nD → PrngReg)
    (hm : ∀ c : Dev nD,
      m' ((c.tc : Thread Cert.UpdateDownReferenceIdeal.nD Cert.UpdateDownReferenceIdeal.τ).loc Cert.UpdateDownReferenceIdeal.main_arg0) = m ((c.tc : Thread nD τ).loc main_arg0)
      ∧ m' ((c.tc : Thread Cert.UpdateDownReferenceIdeal.nD Cert.UpdateDownReferenceIdeal.τ).loc Cert.UpdateDownReferenceIdeal.main_arg1) = m ((c.tc : Thread nD τ).loc main_arg1)
      ∧ m' ((c.tc : Thread Cert.UpdateDownReferenceIdeal.nD Cert.UpdateDownReferenceIdeal.τ).loc Cert.UpdateDownReferenceIdeal.main_arg2) = m ((c.tc : Thread nD τ).loc main_arg2)
      ∧ m' ((c.tc : Thread Cert.UpdateDownReferenceIdeal.nD Cert.UpdateDownReferenceIdeal.τ).loc Cert.UpdateDownReferenceIdeal.main_arg3) = m ((c.tc : Thread nD τ).loc main_arg3)
      ∧ m' ((c.tc : Thread Cert.UpdateDownReferenceIdeal.nD Cert.UpdateDownReferenceIdeal.τ).loc Cert.UpdateDownReferenceIdeal.main_arg4) = m ((c.tc : Thread nD τ).loc main_arg4)) :
    ∃ (v0 : (c : Dev nD) → Buf (Elt Ideal) ((c.tc : Thread nD τ).loc main_v0_0)) (v1 : (c : Dev nD) → Buf (Elt Ideal) ((c.tc : Thread nD τ).loc main_v0_1)) (v2 : (c : Dev nD) → Buf (Elt Ideal) ((c.tc : Thread nD τ).loc main_v0_2)) (v3 : (c : Dev nD) → Buf (Elt Ideal) ((c.tc : Thread nD τ).loc main_v0_3)),
      θ_run (defs (F := Ideal)) (onTc (τ := τ) (main (F := Ideal))) ⟨m, fun _ => 0, g⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_v0_2) = v2 c
          ∧ r.2.mem ((c.tc : Thread nD τ).loc main_v0_3) = v3 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4))
      ∧ θ_run (Cert.UpdateDownReferenceIdeal.defs (F := Ideal)) (onTc (τ := Cert.UpdateDownReferenceIdeal.τ) (Cert.UpdateDownReferenceIdeal.main (F := Ideal))) ⟨m', fun _ => 0, g'⟩ (fun r => ∀ c : Dev Cert.UpdateDownReferenceIdeal.nD,
          r.2.mem ((c.tc : Thread Cert.UpdateDownReferenceIdeal.nD Cert.UpdateDownReferenceIdeal.τ).loc Cert.UpdateDownReferenceIdeal.main_v0) = v0 c
          ∧ r.2.mem ((c.tc : Thread Cert.UpdateDownReferenceIdeal.nD Cert.UpdateDownReferenceIdeal.τ).loc Cert.UpdateDownReferenceIdeal.main_v24) = v1 c
          ∧ r.2.mem ((c.tc : Thread Cert.UpdateDownReferenceIdeal.nD Cert.UpdateDownReferenceIdeal.τ).loc Cert.UpdateDownReferenceIdeal.main_v5) = v2 c
          ∧ r.2.mem ((c.tc : Thread Cert.UpdateDownReferenceIdeal.nD Cert.UpdateDownReferenceIdeal.τ).loc Cert.UpdateDownReferenceIdeal.main_v11) = v3 c
          ∧ r.2.mem ((c.tc : Thread Cert.UpdateDownReferenceIdeal.nD Cert.UpdateDownReferenceIdeal.τ).loc Cert.UpdateDownReferenceIdeal.main_arg0) = m' ((c.tc : Thread Cert.UpdateDownReferenceIdeal.nD Cert.UpdateDownReferenceIdeal.τ).loc Cert.UpdateDownReferenceIdeal.main_arg0)
          ∧ r.2.mem ((c.tc : Thread Cert.UpdateDownReferenceIdeal.nD Cert.UpdateDownReferenceIdeal.τ).loc Cert.UpdateDownReferenceIdeal.main_arg1) = m' ((c.tc : Thread Cert.UpdateDownReferenceIdeal.nD Cert.UpdateDownReferenceIdeal.τ).loc Cert.UpdateDownReferenceIdeal.main_arg1)
          ∧ r.2.mem ((c.tc : Thread Cert.UpdateDownReferenceIdeal.nD Cert.UpdateDownReferenceIdeal.τ).loc Cert.UpdateDownReferenceIdeal.main_arg2) = m' ((c.tc : Thread Cert.UpdateDownReferenceIdeal.nD Cert.UpdateDownReferenceIdeal.τ).loc Cert.UpdateDownReferenceIdeal.main_arg2)
          ∧ r.2.mem ((c.tc : Thread Cert.UpdateDownReferenceIdeal.nD Cert.UpdateDownReferenceIdeal.τ).loc Cert.UpdateDownReferenceIdeal.main_arg3) = m' ((c.tc : Thread Cert.UpdateDownReferenceIdeal.nD Cert.UpdateDownReferenceIdeal.τ).loc Cert.UpdateDownReferenceIdeal.main_arg3)
          ∧ r.2.mem ((c.tc : Thread Cert.UpdateDownReferenceIdeal.nD Cert.UpdateDownReferenceIdeal.τ).loc Cert.UpdateDownReferenceIdeal.main_arg4) = m' ((c.tc : Thread Cert.UpdateDownReferenceIdeal.nD Cert.UpdateDownReferenceIdeal.τ).loc Cert.UpdateDownReferenceIdeal.main_arg4)) := by
  refine ⟨_, _, _, _, Value.run m g, (θ_run _ _ _).mono (fun r h c => ?_) (Cert.UpdateDownReferenceIdeal.Value.run m' g')⟩
  obtain ⟨h0, h1, h2, h3, hk⟩ := h c
  obtain ⟨e0, e1, e2, e3, e4⟩ := hm c
  rw [e0, e1] at h0
  rw [e0, e1, e2, e3, e4] at h1
  rw [e0, e1, e3] at h2
  rw [e0, e1, e4] at h3
  exact ⟨h0, h1, h2, h3, hk⟩

end Cert.UpdateDownIdeal.Local

end
-- ==== Proof.SumPleValue.lean ====
/-
# The sum over the chips of w_ple's gradient

Each point of the grid adds the four members of its block of rows; the blocks fill the array.
-/
module

public import proofs.«01_k».proof.Proof.Gen.SumPleIdeal.Frame
public import Idealize.ShloMosaic.Lib.Pipeline.ValueKit
public import proofs.«01_k».proof.Proof.Gen.SumPleReferenceIdeal.Run

@[expose] public section

set_option maxRecDepth 16384

noncomputable section

namespace Cert.SumPleIdeal.Local

open Idealize.ShloMosaic Idealize.ShloMosaic.TcCoe Idealize.SL.Sem
open Cert.SumPleIdeal Cert.SumPleIdeal.Gen

/-- The block that a point of the grid reads, and the one that it writes. -/
theorem blocks : ∀ t : Fin cfg0.N, win0_0.index t = ![0, t.val, 0] ∧ win0_1.index t = ![t.val, 0] :=
  (by decide +kernel : ∀ t : Fin grid0.N, _)

/-- The result is the array's sum along its leading axis. -/
theorem final (m : (ℓ : Loc nD τ sig) → Buf (Elt Ideal) ℓ) (c : Dev nD) : (dats m 0 c).arrAt 1 cfg0.N
    = Host.reduceAdd (m ((c : Thread nD τ).loc main_arg0)) (constant (F := Ideal) Cert.SumPleReferenceIdeal.S_ .f32 0x00000000#32)
        Cert.SumPleReferenceIdeal.Gen.reducesTo_S4x1024x256_S1024x256_d0 Cert.SumPleReferenceIdeal.Gen.h_S_ := by
  refine (dats m 0 c).arrAt_eq_of_covers 1 _ (by decide +kernel) fun t _ y => ?_
  blk_simp
  rw [after0_1]
  frame_out
  pointwise [k0_pay1]
  rw [Fin.sum_univ_four]
  blk_point [iblk, V, blocks t]

/-- Kernel and reference, from memories that hold the same arrays. -/
theorem same (m : (ℓ : Loc nD τ sig) → Buf (Elt Ideal) ℓ) (g : Dev nD → PrngReg)
    (m' : (ℓ : Loc Cert.SumPleReferenceIdeal.nD Cert.SumPleReferenceIdeal.τ Cert.SumPleReferenceIdeal.sig) → Buf (Elt Ideal) ℓ) (g' : Dev Cert.SumPleReferenceIdeal.nD → PrngReg)
    (hm : ∀ c : Dev nD,
      m' ((c.tc : Thread Cert.SumPleReferenceIdeal.nD Cert.SumPleReferenceIdeal.τ).loc Cert.SumPleReferenceIdeal.main_arg0) = m ((c.tc : Thread nD τ).loc main_arg0)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0))
      ∧ θ_run (Cert.SumPleReferenceIdeal.defs (F := Ideal)) (onTc (τ := Cert.SumPleReferenceIdeal.τ) (Cert.SumPleReferenceIdeal.main (F := Ideal))) ⟨m', fun _ => 0, g'⟩ (fun r => ∀ c : Dev Cert.SumPleReferenceIdeal.nD,
          r.2.mem ((c.tc : Thread Cert.SumPleReferenceIdeal.nD Cert.SumPleReferenceIdeal.τ).loc Cert.SumPleReferenceIdeal.main_v0) = v0 c
          ∧ r.2.mem ((c.tc : Thread Cert.SumPleReferenceIdeal.nD Cert.SumPleReferenceIdeal.τ).loc Cert.SumPleReferenceIdeal.main_arg0) = m' ((c.tc : Thread Cert.SumPleReferenceIdeal.nD Cert.SumPleReferenceIdeal.τ).loc Cert.SumPleReferenceIdeal.main_arg0)) := by
  refine ⟨fun c => (dats m 0 c).arrAt 1 cfg0.N, ?_, (θ_run _ _ _).mono (fun r h c => ⟨(h c).1.trans ?_, (h c).2⟩) (Cert.SumPleReferenceIdeal.Value.run m' g')⟩
  · exact (θ_run defs _ _).mono (fun r h c => ⟨(h c).1 1, ((h c).1 0).trans ((dats m 0 c).arrAt_in 0 rfl _)⟩) (run_main m g)
  · rw [hm c]
    exact (final m c).symm

end Cert.SumPleIdeal.Local

end
-- ==== Proof.UpdatePleValue.lean ====
/-
# The optimizer's step for w_ple

The call works element by element on blocks that fill the arrays, and so does the reference: at every index the two apply
the same real operations to the same words.
-/
module

public import proofs.«01_k».proof.Proof.Gen.UpdatePleIdeal.Value
public import Idealize.ShloMosaic.Lib.Pipeline.ValueKit
public import proofs.«01_k».proof.Proof.Gen.UpdatePleReferenceIdeal.Run

@[expose] public section

set_option maxRecDepth 16384

noncomputable section

namespace Cert.UpdatePleIdeal.Local

open Idealize.ShloMosaic Idealize.ShloMosaic.TcCoe Idealize.SL.Sem
open Cert.UpdatePleIdeal Cert.UpdatePleIdeal.Gen

/-- Kernel and reference, from memories that hold the same arrays. -/
theorem same (m : (ℓ : Loc nD τ sig) → Buf (Elt Ideal) ℓ) (g : Dev nD → PrngReg)
    (m' : (ℓ : Loc Cert.UpdatePleReferenceIdeal.nD Cert.UpdatePleReferenceIdeal.τ Cert.UpdatePleReferenceIdeal.sig) → Buf (Elt Ideal) ℓ) (g' : Dev Cert.UpdatePleReferenceIdeal.nD → PrngReg)
    (hm : ∀ c : Dev nD,
      m' ((c.tc : Thread Cert.UpdatePleReferenceIdeal.nD Cert.UpdatePleReferenceIdeal.τ).loc Cert.UpdatePleReferenceIdeal.main_arg0) = m ((c.tc : Thread nD τ).loc main_arg0)
      ∧ m' ((c.tc : Thread Cert.UpdatePleReferenceIdeal.nD Cert.UpdatePleReferenceIdeal.τ).loc Cert.UpdatePleReferenceIdeal.main_arg1) = m ((c.tc : Thread nD τ).loc main_arg1)
      ∧ m' ((c.tc : Thread Cert.UpdatePleReferenceIdeal.nD Cert.UpdatePleReferenceIdeal.τ).loc Cert.UpdatePleReferenceIdeal.main_arg2) = m ((c.tc : Thread nD τ).loc main_arg2)
      ∧ m' ((c.tc : Thread Cert.UpdatePleReferenceIdeal.nD Cert.UpdatePleReferenceIdeal.τ).loc Cert.UpdatePleReferenceIdeal.main_arg3) = m ((c.tc : Thread nD τ).loc main_arg3)
      ∧ m' ((c.tc : Thread Cert.UpdatePleReferenceIdeal.nD Cert.UpdatePleReferenceIdeal.τ).loc Cert.UpdatePleReferenceIdeal.main_arg4) = m ((c.tc : Thread nD τ).loc main_arg4)) :
    ∃ (v0 : (c : Dev nD) → Buf (Elt Ideal) ((c.tc : Thread nD τ).loc main_v0_0)) (v1 : (c : Dev nD) → Buf (Elt Ideal) ((c.tc : Thread nD τ).loc main_v0_1)) (v2 : (c : Dev nD) → Buf (Elt Ideal) ((c.tc : Thread nD τ).loc main_v0_2)) (v3 : (c : Dev nD) → Buf (Elt Ideal) ((c.tc : Thread nD τ).loc main_v0_3)),
      θ_run (defs (F := Ideal)) (onTc (τ := τ) (main (F := Ideal))) ⟨m, fun _ => 0, g⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_v0_2) = v2 c
          ∧ r.2.mem ((c.tc : Thread nD τ).loc main_v0_3) = v3 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4))
      ∧ θ_run (Cert.UpdatePleReferenceIdeal.defs (F := Ideal)) (onTc (τ := Cert.UpdatePleReferenceIdeal.τ) (Cert.UpdatePleReferenceIdeal.main (F := Ideal))) ⟨m', fun _ => 0, g'⟩ (fun r => ∀ c : Dev Cert.UpdatePleReferenceIdeal.nD,
          r.2.mem ((c.tc : Thread Cert.UpdatePleReferenceIdeal.nD Cert.UpdatePleReferenceIdeal.τ).loc Cert.UpdatePleReferenceIdeal.main_v0) = v0 c
          ∧ r.2.mem ((c.tc : Thread Cert.UpdatePleReferenceIdeal.nD Cert.UpdatePleReferenceIdeal.τ).loc Cert.UpdatePleReferenceIdeal.main_v24) = v1 c
          ∧ r.2.mem ((c.tc : Thread Cert.UpdatePleReferenceIdeal.nD Cert.UpdatePleReferenceIdeal.τ).loc Cert.UpdatePleReferenceIdeal.main_v5) = v2 c
          ∧ r.2.mem ((c.tc : Thread Cert.UpdatePleReferenceIdeal.nD Cert.UpdatePleReferenceIdeal.τ).loc Cert.UpdatePleReferenceIdeal.main_v11) = v3 c
          ∧ r.2.mem ((c.tc : Thread Cert.UpdatePleReferenceIdeal.nD Cert.UpdatePleReferenceIdeal.τ).loc Cert.UpdatePleReferenceIdeal.main_arg0) = m' ((c.tc : Thread Cert.UpdatePleReferenceIdeal.nD Cert.UpdatePleReferenceIdeal.τ).loc Cert.UpdatePleReferenceIdeal.main_arg0)
          ∧ r.2.mem ((c.tc : Thread Cert.UpdatePleReferenceIdeal.nD Cert.UpdatePleReferenceIdeal.τ).loc Cert.UpdatePleReferenceIdeal.main_arg1) = m' ((c.tc : Thread Cert.UpdatePleReferenceIdeal.nD Cert.UpdatePleReferenceIdeal.τ).loc Cert.UpdatePleReferenceIdeal.main_arg1)
          ∧ r.2.mem ((c.tc : Thread Cert.UpdatePleReferenceIdeal.nD Cert.UpdatePleReferenceIdeal.τ).loc Cert.UpdatePleReferenceIdeal.main_arg2) = m' ((c.tc : Thread Cert.UpdatePleReferenceIdeal.nD Cert.UpdatePleReferenceIdeal.τ).loc Cert.UpdatePleReferenceIdeal.main_arg2)
          ∧ r.2.mem ((c.tc : Thread Cert.UpdatePleReferenceIdeal.nD Cert.UpdatePleReferenceIdeal.τ).loc Cert.UpdatePleReferenceIdeal.main_arg3) = m' ((c.tc : Thread Cert.UpdatePleReferenceIdeal.nD Cert.UpdatePleReferenceIdeal.τ).loc Cert.UpdatePleReferenceIdeal.main_arg3)
          ∧ r.2.mem ((c.tc : Thread Cert.UpdatePleReferenceIdeal.nD Cert.UpdatePleReferenceIdeal.τ).loc Cert.UpdatePleReferenceIdeal.main_arg4) = m' ((c.tc : Thread Cert.UpdatePleReferenceIdeal.nD Cert.UpdatePleReferenceIdeal.τ).loc Cert.UpdatePleReferenceIdeal.main_arg4)) := by
  refine ⟨_, _, _, _, Value.run m g, (θ_run _ _ _).mono (fun r h c => ?_) (Cert.UpdatePleReferenceIdeal.Value.run m' g')⟩
  obtain ⟨h0, h1, h2, h3, hk⟩ := h c
  obtain ⟨e0, e1, e2, e3, e4⟩ := hm c
  rw [e0, e1] at h0
  rw [e0, e1, e2, e3, e4] at h1
  rw [e0, e1, e3] at h2
  rw [e0, e1, e4] at h3
  exact ⟨h0, h1, h2, h3, hk⟩

end Cert.UpdatePleIdeal.Local

end
-- ==== Proof.GradInValue.lean ====
/-
# The gradient of w_in

Each point of the grid adds the product of its 512 rows of the two factors to the result, which starts at zero: together the
contraction over all 8192 rows.
-/
module

public import proofs.«01_k».proof.Proof.Gen.GradInIdeal.Frame
public import proofs.«01_k».proof.Proof.Gen.GradInReferenceIdeal.Run
public import Idealize.ShloMosaic.Lib.Pipeline.ValueKit

@[expose] public section

set_option maxRecDepth 16384

noncomputable section

open Idealize.ShloMosaic Idealize.ShloMosaic.TcCoe Idealize.SL.Sem

namespace Cert.GradInReferenceIdeal.Local

open Cert.GradInReferenceIdeal Cert.GradInReferenceIdeal.Gen

/-- The reference's product. -/
abbrev product (x0 : FVec Ideal S8192x1024 .bf16) (x1 : FVec Ideal S8192x1792 .bf16) : FVec Ideal S1024x1792 .f32 :=
  Host.dotGeneral dot_S1024x8192_S8192x1792_S1024x1792_1_0_0_1_n_n none (transpose S1024x8192 [1, 0] (extf .f32 x0 bitsLt_bf16_f32) transposes_S8192x1024_S1024x8192_1_0) (extf .f32 x1 bitsLt_bf16_f32)

theorem product_at (x0 : FVec Ideal S8192x1024 .bf16) (x1 : FVec Ideal S8192x1792 .bf16) (j : S1024x1792.Idx) :
    product x0 x1 j = ∑ l : Fin 8192, x0 (ix2 l (j 0)) * x1 (ix2 l (j 1)) := by
  pointwise [product]

end Cert.GradInReferenceIdeal.Local

namespace Cert.GradInIdeal.Local

open Cert.GradInIdeal Cert.GradInIdeal.Gen

/-- The blocks that a point of the grid reads. -/
theorem blocks : ∀ t : Fin cfg0.N, win0_0.index t = ![t.val, 0] ∧ win0_1.index t = ![t.val, 0] ∧ win0_2.index t = ![0, 0] :=
  (by decide +kernel : ∀ t : Fin grid0.N, _)

theorem start (j : S1024x1792.Idx) : k0_pay1 (F := Ideal) j = 0 := by
  pointwise [k0_pay1]

theorem step (x0 : FVec Ideal S512x1024 .bf16) (x1 : FVec Ideal S512x1792 .bf16) (acc : FVec Ideal S1024x1792 .f32) (j : S1024x1792.Idx) :
    k0_pay2 x0 x1 acc j = acc j + ∑ k : Fin 512, x0 (ix2 k (j 0)) * x1 (ix2 k (j 1)) := by
  pointwise [k0_pay2]

/-- The result is the reference's product. -/
theorem final (m : (ℓ : Loc nD τ sig) → Buf (Elt Ideal) ℓ) (c : Dev nD) : (dats m 0 c).arrAt 2 cfg0.N
    = Cert.GradInReferenceIdeal.Local.product (m ((c : Thread nD τ).loc main_arg0)) (m ((c : Thread nD τ).loc main_arg1)) := by
  refine (dats m 0 c).arrAt_eq_of_after_last 2 t0_15 (by decide +kernel) _ fun j => ?_
  blk_simp
  rw [after0_2, Pipeline.eq_sum_fin_of_reset_step_apply_last (fun n h => outsAt0 m c n h) 16 (fun _ => 0) _
    (fun t h j => by rw [outsAt0_A m c t h]; frame_out; rw [step, start])
    (fun t h j => by rw [outsAt0_B m c t h]; frame_out; rw [step])
    (le_of_eq N_0) t0_15 rfl j, zero_add, Cert.GradInReferenceIdeal.Local.product_at]
  refine Fin.sum_mul_add_congr fun s k hl => ?_
  blk_point [iblk, V, blocks s]

/-- Kernel and reference, from memories that hold the same arrays. -/
theorem same (m : (ℓ : Loc nD τ sig) → Buf (Elt Ideal) ℓ) (g : Dev nD → PrngReg)
    (m' : (ℓ : Loc Cert.GradInReferenceIdeal.nD Cert.GradInReferenceIdeal.τ Cert.GradInReferenceIdeal.sig) → Buf (Elt Ideal) ℓ) (g' : Dev Cert.GradInReferenceIdeal.nD → PrngReg)
    (hm : ∀ c : Dev nD,
      m' ((c.tc : Thread Cert.GradInReferenceIdeal.nD Cert.GradInReferenceIdeal.τ).loc Cert.GradInReferenceIdeal.main_arg0) = m ((c.tc : Thread nD τ).loc main_arg0)
      ∧ m' ((c.tc : Thread Cert.GradInReferenceIdeal.nD Cert.GradInReferenceIdeal.τ).loc Cert.GradInReferenceIdeal.main_arg1) = m ((c.tc : Thread nD τ).loc main_arg1)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.GradInReferenceIdeal.defs (F := Ideal)) (onTc (τ := Cert.GradInReferenceIdeal.τ) (Cert.GradInReferenceIdeal.main (F := Ideal))) ⟨m', fun _ => 0, g'⟩ (fun r => ∀ c : Dev Cert.GradInReferenceIdeal.nD,
          r.2.mem ((c.tc : Thread Cert.GradInReferenceIdeal.nD Cert.GradInReferenceIdeal.τ).loc Cert.GradInReferenceIdeal.main_v3) = v0 c
          ∧ r.2.mem ((c.tc : Thread Cert.GradInReferenceIdeal.nD Cert.GradInReferenceIdeal.τ).loc Cert.GradInReferenceIdeal.main_arg0) = m' ((c.tc : Thread Cert.GradInReferenceIdeal.nD Cert.GradInReferenceIdeal.τ).loc Cert.GradInReferenceIdeal.main_arg0)
          ∧ r.2.mem ((c.tc : Thread Cert.GradInReferenceIdeal.nD Cert.GradInReferenceIdeal.τ).loc Cert.GradInReferenceIdeal.main_arg1) = m' ((c.tc : Thread Cert.GradInReferenceIdeal.nD Cert.GradInReferenceIdeal.τ).loc Cert.GradInReferenceIdeal.main_arg1)) := by
  refine ⟨fun c => (dats m 0 c).arrAt 2 cfg0.N, ?_, (θ_run _ _ _).mono (fun r h c => ⟨(h c).1.trans ?_, (h c).2⟩) (Cert.GradInReferenceIdeal.Value.run m' g')⟩
  · exact (θ_run defs _ _).mono (fun r h c => ⟨(h c).1 2, ((h c).1 0).trans ((dats m 0 c).arrAt_in 0 rfl _),
      ((h c).1 1).trans ((dats m 0 c).arrAt_in 1 rfl _)⟩) (run_main m g)
  · rw [(hm c).1, (hm c).2]
    exact (final m c).symm

end Cert.GradInIdeal.Local

end
-- ==== Proof.GradOutValue.lean ====
/-
# The gradient of w_out

Each point of the grid adds the product of its 512 rows of the two factors to the result, which starts at zero: together the
contraction over all 8192 rows.
-/
module

public import proofs.«01_k».proof.Proof.Gen.GradOutIdeal.Frame
public import proofs.«01_k».proof.Proof.Gen.GradOutReferenceIdeal.Run
public import Idealize.ShloMosaic.Lib.Pipeline.ValueKit

@[expose] public section

set_option maxRecDepth 16384

noncomputable section

open Idealize.ShloMosaic Idealize.ShloMosaic.TcCoe Idealize.SL.Sem

namespace Cert.GradOutReferenceIdeal.Local

open Cert.GradOutReferenceIdeal Cert.GradOutReferenceIdeal.Gen

/-- The reference's product. -/
abbrev product (x0 : FVec Ideal S8192x1024 .bf16) (x1 : FVec Ideal S8192x1024 .bf16) : FVec Ideal S1024x1024 .f32 :=
  Host.dotGeneral dot_S1024x8192_S8192x1024_S1024x1024_1_0_0_1_n_n none (transpose S1024x8192 [1, 0] (extf .f32 x0 bitsLt_bf16_f32) transposes_S8192x1024_S1024x8192_1_0) (extf .f32 x1 bitsLt_bf16_f32)

theorem product_at (x0 : FVec Ideal S8192x1024 .bf16) (x1 : FVec Ideal S8192x1024 .bf16) (j : S1024x1024.Idx) :
    product x0 x1 j = ∑ l : Fin 8192, x0 (ix2 l (j 0)) * x1 (ix2 l (j 1)) := by
  pointwise [product]

end Cert.GradOutReferenceIdeal.Local

namespace Cert.GradOutIdeal.Local

open Cert.GradOutIdeal Cert.GradOutIdeal.Gen

/-- The blocks that a point of the grid reads. -/
theorem blocks : ∀ t : Fin cfg0.N, win0_0.index t = ![t.val, 0] ∧ win0_1.index t = ![t.val, 0] ∧ win0_2.index t = ![0, 0] :=
  (by decide +kernel : ∀ t : Fin grid0.N, _)

theorem start (j : S1024x1024.Idx) : k0_pay1 (F := Ideal) j = 0 := by
  pointwise [k0_pay1]

theorem step (x0 : FVec Ideal S512x1024 .bf16) (x1 : FVec Ideal S512x1024 .bf16) (acc : FVec Ideal S1024x1024 .f32) (j : S1024x1024.Idx) :
    k0_pay2 x0 x1 acc j = acc j + ∑ k : Fin 512, x0 (ix2 k (j 0)) * x1 (ix2 k (j 1)) := by
  pointwise [k0_pay2]

/-- The result is the reference's product. -/
theorem final (m : (ℓ : Loc nD τ sig) → Buf (Elt Ideal) ℓ) (c : Dev nD) : (dats m 0 c).arrAt 2 cfg0.N
    = Cert.GradOutReferenceIdeal.Local.product (m ((c : Thread nD τ).loc main_arg0)) (m ((c : Thread nD τ).loc main_arg1)) := by
  refine (dats m 0 c).arrAt_eq_of_after_last 2 t0_15 (by decide +kernel) _ fun j => ?_
  blk_simp
  rw [after0_2, Pipeline.eq_sum_fin_of_reset_step_apply_last (fun n h => outsAt0 m c n h) 16 (fun _ => 0) _
    (fun t h j => by rw [outsAt0_A m c t h]; frame_out; rw [step, start])
    (fun t h j => by rw [outsAt0_B m c t h]; frame_out; rw [step])
    (le_of_eq N_0) t0_15 rfl j, zero_add, Cert.GradOutReferenceIdeal.Local.product_at]
  refine Fin.sum_mul_add_congr fun s k hl => ?_
  blk_point [iblk, V, blocks s]

/-- Kernel and reference, from memories that hold the same arrays. -/
theorem same (m : (ℓ : Loc nD τ sig) → Buf (Elt Ideal) ℓ) (g : Dev nD → PrngReg)
    (m' : (ℓ : Loc Cert.GradOutReferenceIdeal.nD Cert.GradOutReferenceIdeal.τ Cert.GradOutReferenceIdeal.sig) → Buf (Elt Ideal) ℓ) (g' : Dev Cert.GradOutReferenceIdeal.nD → PrngReg)
    (hm : ∀ c : Dev nD,
      m' ((c.tc : Thread Cert.GradOutReferenceIdeal.nD Cert.GradOutReferenceIdeal.τ).loc Cert.GradOutReferenceIdeal.main_arg0) = m ((c.tc : Thread nD τ).loc main_arg0)
      ∧ m' ((c.tc : Thread Cert.GradOutReferenceIdeal.nD Cert.GradOutReferenceIdeal.τ).loc Cert.GradOutReferenceIdeal.main_arg1) = m ((c.tc : Thread nD τ).loc main_arg1)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.GradOutReferenceIdeal.defs (F := Ideal)) (onTc (τ := Cert.GradOutReferenceIdeal.τ) (Cert.GradOutReferenceIdeal.main (F := Ideal))) ⟨m', fun _ => 0, g'⟩ (fun r => ∀ c : Dev Cert.GradOutReferenceIdeal.nD,
          r.2.mem ((c.tc : Thread Cert.GradOutReferenceIdeal.nD Cert.GradOutReferenceIdeal.τ).loc Cert.GradOutReferenceIdeal.main_v3) = v0 c
          ∧ r.2.mem ((c.tc : Thread Cert.GradOutReferenceIdeal.nD Cert.GradOutReferenceIdeal.τ).loc Cert.GradOutReferenceIdeal.main_arg0) = m' ((c.tc : Thread Cert.GradOutReferenceIdeal.nD Cert.GradOutReferenceIdeal.τ).loc Cert.GradOutReferenceIdeal.main_arg0)
          ∧ r.2.mem ((c.tc : Thread Cert.GradOutReferenceIdeal.nD Cert.GradOutReferenceIdeal.τ).loc Cert.GradOutReferenceIdeal.main_arg1) = m' ((c.tc : Thread Cert.GradOutReferenceIdeal.nD Cert.GradOutReferenceIdeal.τ).loc Cert.GradOutReferenceIdeal.main_arg1)) := by
  refine ⟨fun c => (dats m 0 c).arrAt 2 cfg0.N, ?_, (θ_run _ _ _).mono (fun r h c => ⟨(h c).1.trans ?_, (h c).2⟩) (Cert.GradOutReferenceIdeal.Value.run m' g')⟩
  · exact (θ_run defs _ _).mono (fun r h c => ⟨(h c).1 2, ((h c).1 0).trans ((dats m 0 c).arrAt_in 0 rfl _),
      ((h c).1 1).trans ((dats m 0 c).arrAt_in 1 rfl _)⟩) (run_main m g)
  · rw [(hm c).1, (hm c).2]
    exact (final m c).symm

end Cert.GradOutIdeal.Local

end
-- ==== Proof.GradFfnValue.lean ====
/-
# The gradient of w_ffn_gate

Each point of the grid adds the product of its 512 rows of the two factors to the result, which starts at zero: together the
contraction over all 8192 rows.
-/
module

public import proofs.«01_k».proof.Proof.Gen.GradFfnIdeal.Frame
public import proofs.«01_k».proof.Proof.Gen.GradFfnReferenceIdeal.Run
public import Idealize.ShloMosaic.Lib.Pipeline.ValueKit

@[expose] public section

set_option maxRecDepth 16384

noncomputable section

open Idealize.ShloMosaic Idealize.ShloMosaic.TcCoe Idealize.SL.Sem

namespace Cert.GradFfnReferenceIdeal.Local

open Cert.GradFfnReferenceIdeal Cert.GradFfnReferenceIdeal.Gen

/-- The reference's product. -/
abbrev product (x0 : FVec Ideal S8192x1024 .bf16) (x1 : FVec Ideal S8192x2816 .bf16) : FVec Ideal S1024x2816 .f32 :=
  Host.dotGeneral dot_S1024x8192_S8192x2816_S1024x2816_1_0_0_1_n_n none (transpose S1024x8192 [1, 0] (extf .f32 x0 bitsLt_bf16_f32) transposes_S8192x1024_S1024x8192_1_0) (extf .f32 x1 bitsLt_bf16_f32)

theorem product_at (x0 : FVec Ideal S8192x1024 .bf16) (x1 : FVec Ideal S8192x2816 .bf16) (j : S1024x2816.Idx) :
    product x0 x1 j = ∑ l : Fin 8192, x0 (ix2 l (j 0)) * x1 (ix2 l (j 1)) := by
  pointwise [product]

end Cert.GradFfnReferenceIdeal.Local

namespace Cert.GradFfnIdeal.Local

open Cert.GradFfnIdeal Cert.GradFfnIdeal.Gen

/-- The blocks that a point of the grid reads. -/
theorem blocks : ∀ t : Fin cfg0.N, win0_0.index t = ![t.val, 0] ∧ win0_1.index t = ![t.val, 0] ∧ win0_2.index t = ![0, 0] :=
  (by decide +kernel : ∀ t : Fin grid0.N, _)

theorem start (j : S1024x2816.Idx) : k0_pay1 (F := Ideal) j = 0 := by
  pointwise [k0_pay1]

theorem step (x0 : FVec Ideal S512x1024 .bf16) (x1 : FVec Ideal S512x2816 .bf16) (acc : FVec Ideal S1024x2816 .f32) (j : S1024x2816.Idx) :
    k0_pay2 x0 x1 acc j = acc j + ∑ k : Fin 512, x0 (ix2 k (j 0)) * x1 (ix2 k (j 1)) := by
  pointwise [k0_pay2]

/-- The result is the reference's product. -/
theorem final (m : (ℓ : Loc nD τ sig) → Buf (Elt Ideal) ℓ) (c : Dev nD) : (dats m 0 c).arrAt 2 cfg0.N
    = Cert.GradFfnReferenceIdeal.Local.product (m ((c : Thread nD τ).loc main_arg0)) (m ((c : Thread nD τ).loc main_arg1)) := by
  refine (dats m 0 c).arrAt_eq_of_after_last 2 t0_15 (by decide +kernel) _ fun j => ?_
  blk_simp
  rw [after0_2, Pipeline.eq_sum_fin_of_reset_step_apply_last (fun n h => outsAt0 m c n h) 16 (fun _ => 0) _
    (fun t h j => by rw [outsAt0_A m c t h]; frame_out; rw [step, start])
    (fun t h j => by rw [outsAt0_B m c t h]; frame_out; rw [step])
    (le_of_eq N_0) t0_15 rfl j, zero_add, Cert.GradFfnReferenceIdeal.Local.product_at]
  refine Fin.sum_mul_add_congr fun s k hl => ?_
  blk_point [iblk, V, blocks s]

/-- Kernel and reference, from memories that hold the same arrays. -/
theorem same (m : (ℓ : Loc nD τ sig) → Buf (Elt Ideal) ℓ) (g : Dev nD → PrngReg)
    (m' : (ℓ : Loc Cert.GradFfnReferenceIdeal.nD Cert.GradFfnReferenceIdeal.τ Cert.GradFfnReferenceIdeal.sig) → Buf (Elt Ideal) ℓ) (g' : Dev Cert.GradFfnReferenceIdeal.nD → PrngReg)
    (hm : ∀ c : Dev nD,
      m' ((c.tc : Thread Cert.GradFfnReferenceIdeal.nD Cert.GradFfnReferenceIdeal.τ).loc Cert.GradFfnReferenceIdeal.main_arg0) = m ((c.tc : Thread nD τ).loc main_arg0)
      ∧ m' ((c.tc : Thread Cert.GradFfnReferenceIdeal.nD Cert.GradFfnReferenceIdeal.τ).loc Cert.GradFfnReferenceIdeal.main_arg1) = m ((c.tc : Thread nD τ).loc main_arg1)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.GradFfnReferenceIdeal.defs (F := Ideal)) (onTc (τ := Cert.GradFfnReferenceIdeal.τ) (Cert.GradFfnReferenceIdeal.main (F := Ideal))) ⟨m', fun _ => 0, g'⟩ (fun r => ∀ c : Dev Cert.GradFfnReferenceIdeal.nD,
          r.2.mem ((c.tc : Thread Cert.GradFfnReferenceIdeal.nD Cert.GradFfnReferenceIdeal.τ).loc Cert.GradFfnReferenceIdeal.main_v3) = v0 c
          ∧ r.2.mem ((c.tc : Thread Cert.GradFfnReferenceIdeal.nD Cert.GradFfnReferenceIdeal.τ).loc Cert.GradFfnReferenceIdeal.main_arg0) = m' ((c.tc : Thread Cert.GradFfnReferenceIdeal.nD Cert.GradFfnReferenceIdeal.τ).loc Cert.GradFfnReferenceIdeal.main_arg0)
          ∧ r.2.mem ((c.tc : Thread Cert.GradFfnReferenceIdeal.nD Cert.GradFfnReferenceIdeal.τ).loc Cert.GradFfnReferenceIdeal.main_arg1) = m' ((c.tc : Thread Cert.GradFfnReferenceIdeal.nD Cert.GradFfnReferenceIdeal.τ).loc Cert.GradFfnReferenceIdeal.main_arg1)) := by
  refine ⟨fun c => (dats m 0 c).arrAt 2 cfg0.N, ?_, (θ_run _ _ _).mono (fun r h c => ⟨(h c).1.trans ?_, (h c).2⟩) (Cert.GradFfnReferenceIdeal.Value.run m' g')⟩
  · exact (θ_run defs _ _).mono (fun r h c => ⟨(h c).1 2, ((h c).1 0).trans ((dats m 0 c).arrAt_in 0 rfl _),
      ((h c).1 1).trans ((dats m 0 c).arrAt_in 1 rfl _)⟩) (run_main m g)
  · rw [(hm c).1, (hm c).2]
    exact (final m c).symm

end Cert.GradFfnIdeal.Local

end
-- ==== Proof.GradDownValue.lean ====
/-
# The gradient of w_ffn_down

Each point of the grid adds the product of its 512 rows of the two factors to the result, which starts at zero: together the
contraction over all 8192 rows.
-/
module

public import proofs.«01_k».proof.Proof.Gen.GradDownIdeal.Frame
public import proofs.«01_k».proof.Proof.Gen.GradDownReferenceIdeal.Run
public import Idealize.ShloMosaic.Lib.Pipeline.ValueKit

@[expose] public section

set_option maxRecDepth 16384

noncomputable section

open Idealize.ShloMosaic Idealize.ShloMosaic.TcCoe Idealize.SL.Sem

namespace Cert.GradDownReferenceIdeal.Local

open Cert.GradDownReferenceIdeal Cert.GradDownReferenceIdeal.Gen

/-- The reference's product. -/
abbrev product (x0 : FVec Ideal S8192x2816 .bf16) (x1 : FVec Ideal S8192x1024 .bf16) : FVec Ideal S2816x1024 .f32 :=
  Host.dotGeneral dot_S2816x8192_S8192x1024_S2816x1024_1_0_0_1_n_n none (transpose S2816x8192 [1, 0] (extf .f32 x0 bitsLt_bf16_f32) transposes_S8192x2816_S2816x8192_1_0) (extf .f32 x1 bitsLt_bf16_f32)

theorem product_at (x0 : FVec Ideal S8192x2816 .bf16) (x1 : FVec Ideal S8192x1024 .bf16) (j : S2816x1024.Idx) :
    product x0 x1 j = ∑ l : Fin 8192, x0 (ix2 l (j 0)) * x1 (ix2 l (j 1)) := by
  pointwise [product]

end Cert.GradDownReferenceIdeal.Local

namespace Cert.GradDownIdeal.Local

open Cert.GradDownIdeal Cert.GradDownIdeal.Gen

/-- The blocks that a point of the grid reads. -/
theorem blocks : ∀ t : Fin cfg0.N, win0_0.index t = ![t.val, 0] ∧ win0_1.index t = ![t.val, 0] ∧ win0_2.index t = ![0, 0] :=
  (by decide +kernel : ∀ t : Fin grid0.N, _)

theorem start (j : S2816x1024.Idx) : k0_pay1 (F := Ideal) j = 0 := by
  pointwise [k0_pay1]

theorem step (x0 : FVec Ideal S512x2816 .bf16) (x1 : FVec Ideal S512x1024 .bf16) (acc : FVec Ideal S2816x1024 .f32) (j : S2816x1024.Idx) :
    k0_pay2 x0 x1 acc j = acc j + ∑ k : Fin 512, x0 (ix2 k (j 0)) * x1 (ix2 k (j 1)) := by
  pointwise [k0_pay2]

/-- The result is the reference's product. -/
theorem final (m : (ℓ : Loc nD τ sig) → Buf (Elt Ideal) ℓ) (c : Dev nD) : (dats m 0 c).arrAt 2 cfg0.N
    = Cert.GradDownReferenceIdeal.Local.product (m ((c : Thread nD τ).loc main_arg0)) (m ((c : Thread nD τ).loc main_arg1)) := by
  refine (dats m 0 c).arrAt_eq_of_after_last 2 t0_15 (by decide +kernel) _ fun j => ?_
  blk_simp
  rw [after0_2, Pipeline.eq_sum_fin_of_reset_step_apply_last (fun n h => outsAt0 m c n h) 16 (fun _ => 0) _
    (fun t h j => by rw [outsAt0_A m c t h]; frame_out; rw [step, start])
    (fun t h j => by rw [outsAt0_B m c t h]; frame_out; rw [step])
    (le_of_eq N_0) t0_15 rfl j, zero_add, Cert.GradDownReferenceIdeal.Local.product_at]
  refine Fin.sum_mul_add_congr fun s k hl => ?_
  blk_point [iblk, V, blocks s]

/-- Kernel and reference, from memories that hold the same arrays. -/
theorem same (m : (ℓ : Loc nD τ sig) → Buf (Elt Ideal) ℓ) (g : Dev nD → PrngReg)
    (m' : (ℓ : Loc Cert.GradDownReferenceIdeal.nD Cert.GradDownReferenceIdeal.τ Cert.GradDownReferenceIdeal.sig) → Buf (Elt Ideal) ℓ) (g' : Dev Cert.GradDownReferenceIdeal.nD → PrngReg)
    (hm : ∀ c : Dev nD,
      m' ((c.tc : Thread Cert.GradDownReferenceIdeal.nD Cert.GradDownReferenceIdeal.τ).loc Cert.GradDownReferenceIdeal.main_arg0) = m ((c.tc : Thread nD τ).loc main_arg0)
      ∧ m' ((c.tc : Thread Cert.GradDownReferenceIdeal.nD Cert.GradDownReferenceIdeal.τ).loc Cert.GradDownReferenceIdeal.main_arg1) = m ((c.tc : Thread nD τ).loc main_arg1)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.GradDownReferenceIdeal.defs (F := Ideal)) (onTc (τ := Cert.GradDownReferenceIdeal.τ) (Cert.GradDownReferenceIdeal.main (F := Ideal))) ⟨m', fun _ => 0, g'⟩ (fun r => ∀ c : Dev Cert.GradDownReferenceIdeal.nD,
          r.2.mem ((c.tc : Thread Cert.GradDownReferenceIdeal.nD Cert.GradDownReferenceIdeal.τ).loc Cert.GradDownReferenceIdeal.main_v3) = v0 c
          ∧ r.2.mem ((c.tc : Thread Cert.GradDownReferenceIdeal.nD Cert.GradDownReferenceIdeal.τ).loc Cert.GradDownReferenceIdeal.main_arg0) = m' ((c.tc : Thread Cert.GradDownReferenceIdeal.nD Cert.GradDownReferenceIdeal.τ).loc Cert.GradDownReferenceIdeal.main_arg0)
          ∧ r.2.mem ((c.tc : Thread Cert.GradDownReferenceIdeal.nD Cert.GradDownReferenceIdeal.τ).loc Cert.GradDownReferenceIdeal.main_arg1) = m' ((c.tc : Thread Cert.GradDownReferenceIdeal.nD Cert.GradDownReferenceIdeal.τ).loc Cert.GradDownReferenceIdeal.main_arg1)) := by
  refine ⟨fun c => (dats m 0 c).arrAt 2 cfg0.N, ?_, (θ_run _ _ _).mono (fun r h c => ⟨(h c).1.trans ?_, (h c).2⟩) (Cert.GradDownReferenceIdeal.Value.run m' g')⟩
  · exact (θ_run defs _ _).mono (fun r h c => ⟨(h c).1 2, ((h c).1 0).trans ((dats m 0 c).arrAt_in 0 rfl _),
      ((h c).1 1).trans ((dats m 0 c).arrAt_in 1 rfl _)⟩) (run_main m g)
  · rw [(hm c).1, (hm c).2]
    exact (final m c).symm

end Cert.GradDownIdeal.Local

end
-- ==== Proof.GradPleValue.lean ====
/-
# The gradient of w_ple

Each point of the grid adds the product of its 512 rows of the two factors to the result, which starts at zero: together the
contraction over all 8192 rows.
-/
module

public import proofs.«01_k».proof.Proof.Gen.GradPleIdeal.Frame
public import proofs.«01_k».proof.Proof.Gen.GradPleReferenceIdeal.Run
public import Idealize.ShloMosaic.Lib.Pipeline.ValueKit

@[expose] public section

set_option maxRecDepth 16384

noncomputable section

open Idealize.ShloMosaic Idealize.ShloMosaic.TcCoe Idealize.SL.Sem

namespace Cert.GradPleReferenceIdeal.Local

open Cert.GradPleReferenceIdeal Cert.GradPleReferenceIdeal.Gen

/-- The reference's product. -/
abbrev product (x0 : FVec Ideal S8192x256 .f32) (x1 : FVec Ideal S8192x1024 .bf16) : FVec Ideal S256x1024 .f32 :=
  Host.dotGeneral dot_S256x8192_S8192x1024_S256x1024_1_0_0_1_n_n none (transpose S256x8192 [1, 0] x0 transposes_S8192x256_S256x8192_1_0) (extf .f32 x1 bitsLt_bf16_f32)

theorem product_at (x0 : FVec Ideal S8192x256 .f32) (x1 : FVec Ideal S8192x1024 .bf16) (j : S256x1024.Idx) :
    product x0 x1 j = ∑ l : Fin 8192, x0 (ix2 l (j 0)) * x1 (ix2 l (j 1)) := by
  pointwise [product]

end Cert.GradPleReferenceIdeal.Local

namespace Cert.GradPleIdeal.Local

open Cert.GradPleIdeal Cert.GradPleIdeal.Gen

/-- The blocks that a point of the grid reads. -/
theorem blocks : ∀ t : Fin cfg0.N, win0_0.index t = ![t.val, 0] ∧ win0_1.index t = ![t.val, 0] ∧ win0_2.index t = ![0, 0] :=
  (by decide +kernel : ∀ t : Fin grid0.N, _)

theorem start (j : S256x1024.Idx) : k0_pay1 (F := Ideal) j = 0 := by
  pointwise [k0_pay1]

theorem step (x0 : FVec Ideal S512x256 .f32) (x1 : FVec Ideal S512x1024 .bf16) (acc : FVec Ideal S256x1024 .f32) (j : S256x1024.Idx) :
    k0_pay2 x0 x1 acc j = acc j + ∑ k : Fin 512, x0 (ix2 k (j 0)) * x1 (ix2 k (j 1)) := by
  pointwise [k0_pay2]

/-- The result is the reference's product. -/
theorem final (m : (ℓ : Loc nD τ sig) → Buf (Elt Ideal) ℓ) (c : Dev nD) : (dats m 0 c).arrAt 2 cfg0.N
    = Cert.GradPleReferenceIdeal.Local.product (m ((c : Thread nD τ).loc main_arg0)) (m ((c : Thread nD τ).loc main_arg1)) := by
  refine (dats m 0 c).arrAt_eq_of_after_last 2 t0_15 (by decide +kernel) _ fun j => ?_
  blk_simp
  rw [after0_2, Pipeline.eq_sum_fin_of_reset_step_apply_last (fun n h => outsAt0 m c n h) 16 (fun _ => 0) _
    (fun t h j => by rw [outsAt0_A m c t h]; frame_out; rw [step, start])
    (fun t h j => by rw [outsAt0_B m c t h]; frame_out; rw [step])
    (le_of_eq N_0) t0_15 rfl j, zero_add, Cert.GradPleReferenceIdeal.Local.product_at]
  refine Fin.sum_mul_add_congr fun s k hl => ?_
  blk_point [iblk, V, blocks s]

/-- Kernel and reference, from memories that hold the same arrays. -/
theorem same (m : (ℓ : Loc nD τ sig) → Buf (Elt Ideal) ℓ) (g : Dev nD → PrngReg)
    (m' : (ℓ : Loc Cert.GradPleReferenceIdeal.nD Cert.GradPleReferenceIdeal.τ Cert.GradPleReferenceIdeal.sig) → Buf (Elt Ideal) ℓ) (g' : Dev Cert.GradPleReferenceIdeal.nD → PrngReg)
    (hm : ∀ c : Dev nD,
      m' ((c.tc : Thread Cert.GradPleReferenceIdeal.nD Cert.GradPleReferenceIdeal.τ).loc Cert.GradPleReferenceIdeal.main_arg0) = m ((c.tc : Thread nD τ).loc main_arg0)
      ∧ m' ((c.tc : Thread Cert.GradPleReferenceIdeal.nD Cert.GradPleReferenceIdeal.τ).loc Cert.GradPleReferenceIdeal.main_arg1) = m ((c.tc : Thread nD τ).loc main_arg1)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.GradPleReferenceIdeal.defs (F := Ideal)) (onTc (τ := Cert.GradPleReferenceIdeal.τ) (Cert.GradPleReferenceIdeal.main (F := Ideal))) ⟨m', fun _ => 0, g'⟩ (fun r => ∀ c : Dev Cert.GradPleReferenceIdeal.nD,
          r.2.mem ((c.tc : Thread Cert.GradPleReferenceIdeal.nD Cert.GradPleReferenceIdeal.τ).loc Cert.GradPleReferenceIdeal.main_v2) = v0 c
          ∧ r.2.mem ((c.tc : Thread Cert.GradPleReferenceIdeal.nD Cert.GradPleReferenceIdeal.τ).loc Cert.GradPleReferenceIdeal.main_arg0) = m' ((c.tc : Thread Cert.GradPleReferenceIdeal.nD Cert.GradPleReferenceIdeal.τ).loc Cert.GradPleReferenceIdeal.main_arg0)
          ∧ r.2.mem ((c.tc : Thread Cert.GradPleReferenceIdeal.nD Cert.GradPleReferenceIdeal.τ).loc Cert.GradPleReferenceIdeal.main_arg1) = m' ((c.tc : Thread Cert.GradPleReferenceIdeal.nD Cert.GradPleReferenceIdeal.τ).loc Cert.GradPleReferenceIdeal.main_arg1)) := by
  refine ⟨fun c => (dats m 0 c).arrAt 2 cfg0.N, ?_, (θ_run _ _ _).mono (fun r h c => ⟨(h c).1.trans ?_, (h c).2⟩) (Cert.GradPleReferenceIdeal.Value.run m' g')⟩
  · exact (θ_run defs _ _).mono (fun r h c => ⟨(h c).1 2, ((h c).1 0).trans ((dats m 0 c).arrAt_in 0 rfl _),
      ((h c).1 1).trans ((dats m 0 c).arrAt_in 1 rfl _)⟩) (run_main m g)
  · rw [(hm c).1, (hm c).2]
    exact (final m c).symm

end Cert.GradPleIdeal.Local

end
-- ==== Proof.Words.lean ====
/-
# The words that the programs write for their constants
-/
module

public import Idealize.ShloMosaic.Lib.Pipeline.ValueKit

@[expose] public section

noncomputable section

namespace Cert.Words

open Idealize.ShloMosaic

theorem w1024 : Ideal.ofBits .f32 0x44800000#32 = ((1024 : ℝ) : EReal) := by
  simp [Ideal.ofBits, Ideal.ieee, -EReal.coe_mul]; norm_num

theorem w512 : Ideal.ofBits .f32 0x44000000#32 = ((512 : ℝ) : EReal) := by
  simp [Ideal.ofBits, Ideal.ieee, -EReal.coe_mul]; norm_num

theorem inv1024 : Ideal.ofBits .f32 0x3A800000#32 = ((1 / 1024 : ℝ) : EReal) := by
  simp [Ideal.ofBits, Ideal.ieee, -EReal.coe_mul]; norm_num

theorem minus_half : Ideal.ofBits .f32 0xBF000000#32 = ((-1 / 2 : ℝ) : EReal) := by
  simp [Ideal.ofBits, Ideal.ieee, -EReal.coe_mul]; norm_num

theorem eps_pos : ∃ e : ℝ, 0 < e ∧ Ideal.ofBits .f32 0x358637BD#32 = (e : EReal) := by
  refine ⟨_, ?_, by simp [Ideal.ofBits, Ideal.ieee, -EReal.coe_mul]; rfl⟩
  norm_num

theorem one : Ideal.ofBits .f32 0x3F800000#32 = ((1 : ℝ) : EReal) := by
  simp [Ideal.ofBits, Ideal.ieee, -EReal.coe_mul, -EReal.coe_one]; norm_num

/-- A product with 1/1024 is a quotient by 1024. -/
theorem mul_inv1024 (x : EReal) : x * Ideal.ofBits .f32 0x3A800000#32 = Ideal.div x (Ideal.ofBits .f32 0x44800000#32) := by
  rw [w1024, inv1024, Ideal.div_coe (by norm_num)]

end Cert.Words

end
-- ==== Proof.LossHeadValue.lean ====
/-
# The loss and its gradient in the last hidden state

Each point of the grid scales the error of its rows, and adds the sum of the squares of the error over its rows to a row that starts at
zero: together the sum over all rows. The kernel multiplies by 1/1024 where the reference divides by 1024.
-/
module

public import proofs.«01_k».proof.Proof.Gen.LossHeadIdeal.Frame
public import proofs.«01_k».proof.Proof.Gen.LossHeadReferenceIdeal.Run
public import proofs.«01_k».proof.Proof.Words
public import Idealize.ShloMosaic.Lib.Pipeline.ValueKit

@[expose] public section

set_option maxRecDepth 16384

noncomputable section

open Idealize.ShloMosaic Idealize.ShloMosaic.TcCoe Idealize.SL.Sem

namespace Cert.LossHeadReferenceIdeal.Local

open Cert.LossHeadReferenceIdeal Cert.LossHeadReferenceIdeal.Gen

/-- The sum of the squares of the error, repeated along a row. -/
abbrev squares (x0 x1 : FVec Ideal S8192x1024 .f32) : FVec Ideal S1x128 .f32 :=
  broadcastInDim S1x128 ![] bcast_S_S1x128 (Host.reduceAdd (mulf (subf x0 x1) (subf x0 x1)) (constant (F := Ideal) S_ .f32 0x00000000#32) reducesTo_S8192x1024_S_d0_1 h_S_)

/-- The scaled error. -/
abbrev scaled (x0 x1 : FVec Ideal S8192x1024 .f32) : FVec Ideal S8192x1024 .f32 :=
  Host.divf (subf x0 x1) (broadcastInDim S8192x1024 ![] bcast_S_S8192x1024 (constant (F := Ideal) S_ .f32 0x44800000#32))

theorem squares_at (x0 x1 : FVec Ideal S8192x1024 .f32) (j : S1x128.Idx) :
    squares x0 x1 j = ∑ l : Fin 8192, ∑ q : Fin 1024, (x0 (ix2 l q) - x1 (ix2 l q)) * (x0 (ix2 l q) - x1 (ix2 l q)) := by
  pointwise [squares]

end Cert.LossHeadReferenceIdeal.Local

namespace Cert.LossHeadIdeal.Local

open Cert.LossHeadIdeal Cert.LossHeadIdeal.Gen

/-- The blocks of the windows at a point of the grid. -/
theorem blocks : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

theorem start (j : S1x128.Idx) : k0_pay3 (F := Ideal) j = 0 := by
  pointwise [k0_pay3]

theorem step (x0 x1 : FVec Ideal S512x1024 .f32) (acc : FVec Ideal S1x128 .f32) (j : S1x128.Idx) :
    k0_pay4 x0 x1 acc j = acc j + ∑ k : Fin 512, ∑ q : Fin 1024, (x0 (ix2 k q) - x1 (ix2 k q)) * (x0 (ix2 k q) - x1 (ix2 k q)) := by
  pointwise [k0_pay4, k0_pay1]

theorem final_squares (m : (ℓ : Loc nD τ sig) → Buf (Elt Ideal) ℓ) (c : Dev nD) : (dats m 0 c).arrAt 2 cfg0.N
    = Cert.LossHeadReferenceIdeal.Local.squares (m ((c : Thread nD τ).loc main_arg0)) (m ((c : Thread nD τ).loc main_arg1)) := by
  refine (dats m 0 c).arrAt_eq_of_after_last 2 t0_15 (by decide +kernel) _ fun j => ?_
  blk_simp
  rw [after0_2, Pipeline.eq_sum_fin_of_reset_step_apply_last (fun n h => (outsAt0 m c n h).1) 16 (fun _ => 0) _
    (fun t h j => by rw [outsAt0_A m c t h]; dsimp only; frame_out; rw [step, start])
    (fun t h j => by rw [outsAt0_B m c t h]; dsimp only; frame_out; rw [step])
    (le_of_eq N_0) t0_15 rfl j, zero_add, Cert.LossHeadReferenceIdeal.Local.squares_at]
  refine Fin.sum_mul_add_congr fun s k hl => ?_
  blk_point [iblk, V, blocks s]

theorem final_scaled (m : (ℓ : Loc nD τ sig) → Buf (Elt Ideal) ℓ) (c : Dev nD) : (dats m 0 c).arrAt 3 cfg0.N
    = Cert.LossHeadReferenceIdeal.Local.scaled (m ((c : Thread nD τ).loc main_arg0)) (m ((c : Thread nD τ).loc main_arg1)) := by
  refine (dats m 0 c).arrAt_eq_of_covers 3 _ (by decide +kernel) fun t hf y => ?_
  blk_simp
  rw [after0_3]
  by_cases h : t.val % 16 = 0
  · rw [outsAt0_A m c t h]
    dsimp only
    frame_out
    pointwise [k0_pay2, k0_pay1, Cert.LossHeadReferenceIdeal.Local.scaled]
    rw [Cert.Words.mul_inv1024]
    blk_point [iblk, V, blocks t]
  · rw [outsAt0_B m c t h]
    dsimp only
    frame_out
    pointwise [k0_pay2, k0_pay1, Cert.LossHeadReferenceIdeal.Local.scaled]
    rw [Cert.Words.mul_inv1024]
    blk_point [iblk, V, blocks t]

/-- Kernel and reference, from memories that hold the same arrays. -/
theorem same (m : (ℓ : Loc nD τ sig) → Buf (Elt Ideal) ℓ) (g : Dev nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg)
    (hm : ∀ c : Dev nD,
      m' ((c.tc : Thread Cert.LossHeadReferenceIdeal.nD Cert.LossHeadReferenceIdeal.τ).loc Cert.LossHeadReferenceIdeal.main_arg0) = m ((c.tc : Thread nD τ).loc main_arg0)
      ∧ m' ((c.tc : Thread Cert.LossHeadReferenceIdeal.nD Cert.LossHeadReferenceIdeal.τ).loc Cert.LossHeadReferenceIdeal.main_arg1) = m ((c.tc : Thread nD τ).loc main_arg1)) :
    ∃ (v0 : (c : Dev nD) → Buf (Elt Ideal) ((c.tc : Thread nD τ).loc main_v0_0)) (v1 : (c : Dev nD) → Buf (Elt Ideal) ((c.tc : Thread nD τ).loc main_v0_1)),
      θ_run (defs (F := Ideal)) (onTc (τ := τ) (main (F := Ideal))) ⟨m, fun _ => 0, g⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v3) = v0 c
          ∧ r.2.mem ((c.tc : Thread Cert.LossHeadReferenceIdeal.nD Cert.LossHeadReferenceIdeal.τ).loc Cert.LossHeadReferenceIdeal.main_v5) = v1 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1)) := by
  refine ⟨fun c => (dats m 0 c).arrAt 2 cfg0.N, fun c => (dats m 0 c).arrAt 3 cfg0.N, ?_,
    (θ_run _ _ _).mono (fun r h c => ?_) (Cert.LossHeadReferenceIdeal.Value.run m' g')⟩
  · exact (θ_run defs _ _).mono (fun r h c => ⟨(h c).1 2, (h c).1 3, ((h c).1 0).trans ((dats m 0 c).arrAt_in 0 rfl _),
      ((h c).1 1).trans ((dats m 0 c).arrAt_in 1 rfl _)⟩) (run_main m g)
  obtain ⟨h0, h1, hk⟩ := h c
  obtain ⟨e0, e1⟩ := hm c
  rw [e0, e1] at h0
  rw [e0, e1] at h1
  exact ⟨h0.trans (final_squares m c).symm, h1.trans (final_scaled m c).symm, hk⟩

end Cert.LossHeadIdeal.Local

end
-- ==== Proof.NormInValue.lean ====
/-
# The input projection

Each point of the grid norms its rows and multiplies them by the whole weight.
-/
module

public import proofs.«01_k».proof.Proof.Gen.NormInIdeal.Frame
public import proofs.«01_k».proof.Proof.Gen.NormInReferenceIdeal.Run
public import Idealize.ShloMosaic.Lib.Pipeline.ValueKit

@[expose] public section

set_option maxRecDepth 16384

noncomputable section

open Idealize.ShloMosaic Idealize.ShloMosaic.TcCoe Idealize.SL.Sem

namespace Cert.NormInReferenceIdeal.Local

open Cert.NormInReferenceIdeal Cert.NormInReferenceIdeal.Gen

/-- The root mean square norm of the rows. -/
abbrev norm (x : FVec Ideal S8192x1024 .f32) (g : FVec Ideal S1x1024 .f32) : FVec Ideal S8192x1024 .f32 :=
  mulf (mulf x (broadcastInDim S8192x1024 ![0, 1] bcast_S8192x1_S8192x1024_0_1 (Host.rsqrt (addf (Host.divf
    (broadcastInDim S8192x1 ![0] bcast_S8192_S8192x1_0 (Host.reduceAdd (mulf x x) (constant (F := Ideal) S_ .f32 0x00000000#32)
      reducesTo_S8192x1024_S8192_d1 h_S_)) (broadcastInDim S8192x1 ![] bcast_S_S8192x1 (constant (F := Ideal) S_ .f32 0x44800000#32)))
    (broadcastInDim S8192x1 ![] bcast_S_S8192x1 (constant (F := Ideal) S_ .f32 0x358637BD#32))))))
    (broadcastInDim S8192x1024 ![0, 1] bcast_S1x1024_S8192x1024_0_1 g)

/-- The projection. -/
abbrev z (x0 : FVec Ideal S8192x1024 .f32) (x1 : FVec Ideal S1x1024 .f32) (x2 : FVec Ideal S1024x1792 .bf16) :
    FVec Ideal S8192x1792 .f32 :=
  Host.dotGeneral dot_S8192x1024_S1024x1792_S8192x1792_1_0_0_1_n_n none (norm x0 x1) (extf .f32 x2 bitsLt_bf16_f32)

/-- The normed rows. -/
abbrev a (x0 : FVec Ideal S8192x1024 .f32) (x1 : FVec Ideal S1x1024 .f32) :
    FVec Ideal S8192x1024 .bf16 :=
  truncf .bf16 (norm x0 x1) bitsLt_bf16_f32

end Cert.NormInReferenceIdeal.Local

namespace Cert.NormInIdeal.Local

open Cert.NormInIdeal Cert.NormInIdeal.Gen

/-- The blocks of the windows at a point of the grid. -/
theorem blocks : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

theorem final_z (m : (ℓ : Loc nD τ sig) → Buf (Elt Ideal) ℓ) (c : Dev nD) : (dats m 0 c).arrAt 3 cfg0.N
    = Cert.NormInReferenceIdeal.Local.z (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay2, k0_pay1, Cert.NormInReferenceIdeal.Local.z, Cert.NormInReferenceIdeal.Local.norm]
  blk_point [iblk, V, blocks t]

theorem final_a (m : (ℓ : Loc nD τ sig) → Buf (Elt Ideal) ℓ) (c : Dev nD) : (dats m 0 c).arrAt 4 cfg0.N
    = Cert.NormInReferenceIdeal.Local.a (m ((c : Thread nD τ).loc main_arg0)) (m ((c : Thread nD τ).loc main_arg1)) := by
  refine (dats m 0 c).arrAt_eq_of_covers 4 _ (by decide +kernel) fun t hf y => ?_
  blk_simp
  rw [after0_4]
  frame_out
  pointwise [k0_pay1, Cert.NormInReferenceIdeal.Local.a, Cert.NormInReferenceIdeal.Local.norm]
  blk_point [iblk, V, blocks t]

/-- Kernel and reference, from memories that hold the same arrays. -/
theorem same (m : (ℓ : Loc nD τ sig) → Buf (Elt Ideal) ℓ) (g : Dev nD → PrngReg)
    (m' : (ℓ : Loc Cert.NormInReferenceIdeal.nD Cert.NormInReferenceIdeal.τ Cert.NormInReferenceIdeal.sig) → Buf (Elt Ideal) ℓ) (g' : Dev Cert.NormInReferenceIdeal.nD → PrngReg)
    (hm : ∀ c : Dev nD,
      m' ((c.tc : Thread Cert.NormInReferenceIdeal.nD Cert.NormInReferenceIdeal.τ).loc Cert.NormInReferenceIdeal.main_arg0) = m ((c.tc : Thread nD τ).loc main_arg0)
      ∧ m' ((c.tc : Thread Cert.NormInReferenceIdeal.nD Cert.NormInReferenceIdeal.τ).loc Cert.NormInReferenceIdeal.main_arg1) = m ((c.tc : Thread nD τ).loc main_arg1)
      ∧ m' ((c.tc : Thread Cert.NormInReferenceIdeal.nD Cert.NormInReferenceIdeal.τ).loc Cert.NormInReferenceIdeal.main_arg2) = m ((c.tc : Thread nD τ).loc main_arg2)) :
    ∃ (v0 : (c : Dev nD) → Buf (Elt Ideal) ((c.tc : Thread nD τ).loc main_v0_0)) (v1 : (c : Dev nD) → Buf (Elt Ideal) ((c.tc : Thread nD τ).loc main_v0_1)),
      θ_run (defs (F := Ideal)) (onTc (τ := τ) (main (F := Ideal))) ⟨m, fun _ => 0, g⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
      ∧ θ_run (Cert.NormInReferenceIdeal.defs (F := Ideal)) (onTc (τ := Cert.NormInReferenceIdeal.τ) (Cert.NormInReferenceIdeal.main (F := Ideal))) ⟨m', fun _ => 0, g'⟩ (fun r => ∀ c : Dev Cert.NormInReferenceIdeal.nD,
          r.2.mem ((c.tc : Thread Cert.NormInReferenceIdeal.nD Cert.NormInReferenceIdeal.τ).loc Cert.NormInReferenceIdeal.main_v13) = v0 c
          ∧ r.2.mem ((c.tc : Thread Cert.NormInReferenceIdeal.nD Cert.NormInReferenceIdeal.τ).loc Cert.NormInReferenceIdeal.main_v14) = v1 c
          ∧ r.2.mem ((c.tc : Thread Cert.NormInReferenceIdeal.nD Cert.NormInReferenceIdeal.τ).loc Cert.NormInReferenceIdeal.main_arg0) = m' ((c.tc : Thread Cert.NormInReferenceIdeal.nD Cert.NormInReferenceIdeal.τ).loc Cert.NormInReferenceIdeal.main_arg0)
          ∧ r.2.mem ((c.tc : Thread Cert.NormInReferenceIdeal.nD Cert.NormInReferenceIdeal.τ).loc Cert.NormInReferenceIdeal.main_arg1) = m' ((c.tc : Thread Cert.NormInReferenceIdeal.nD Cert.NormInReferenceIdeal.τ).loc Cert.NormInReferenceIdeal.main_arg1)
          ∧ r.2.mem ((c.tc : Thread Cert.NormInReferenceIdeal.nD Cert.NormInReferenceIdeal.τ).loc Cert.NormInReferenceIdeal.main_arg2) = m' ((c.tc : Thread Cert.NormInReferenceIdeal.nD Cert.NormInReferenceIdeal.τ).loc Cert.NormInReferenceIdeal.main_arg2)) := by
  refine ⟨fun c => (dats m 0 c).arrAt 3 cfg0.N, fun c => (dats m 0 c).arrAt 4 cfg0.N, ?_,
    (θ_run _ _ _).mono (fun r h c => ?_) (Cert.NormInReferenceIdeal.Value.run m' g')⟩
  · exact (θ_run defs _ _).mono (fun r h c => ⟨(h c).1 3, (h c).1 4, ((h c).1 0).trans ((dats m 0 c).arrAt_in 0 rfl _), ((h c).1 1).trans ((dats m 0 c).arrAt_in 1 rfl _), ((h c).1 2).trans ((dats m 0 c).arrAt_in 2 rfl _)⟩) (run_main m g)
  obtain ⟨h0, h1, hk⟩ := h c
  obtain ⟨e0, e1, e2⟩ := hm c
  rw [e0, e1, e2] at h0
  rw [e0, e1] at h1
  exact ⟨h0.trans (final_z m c).symm, h1.trans (final_a m c).symm, hk⟩

end Cert.NormInIdeal.Local

end
-- ==== Proof.MixOutValue.lean ====
/-
# The projection out of the mixers

Each point of the grid norms the two halves of its rows, multiplies them by the whole weight, norms the product and adds it to the residual rows.
-/
module

public import proofs.«01_k».proof.Proof.Gen.MixOutIdeal.Frame
public import proofs.«01_k».proof.Proof.Gen.MixOutReferenceIdeal.Run
public import Idealize.ShloMosaic.Lib.Pipeline.ValueKit

@[expose] public section

set_option maxRecDepth 16384

noncomputable section

open Idealize.ShloMosaic Idealize.ShloMosaic.TcCoe Idealize.SL.Sem

namespace Cert.MixOutReferenceIdeal.Local

open Cert.MixOutReferenceIdeal Cert.MixOutReferenceIdeal.Gen

/-- The root mean square norm of the rows. -/
abbrev norm (x : FVec Ideal S8192x1024 .f32) (g : FVec Ideal S1x1024 .f32) : FVec Ideal S8192x1024 .f32 :=
  mulf (mulf x (broadcastInDim S8192x1024 ![0, 1] bcast_S8192x1_S8192x1024_0_1 (Host.rsqrt (addf (Host.divf
    (broadcastInDim S8192x1 ![0] bcast_S8192_S8192x1_0 (Host.reduceAdd (mulf x x) (constant (F := Ideal) S_ .f32 0x00000000#32)
      reducesTo_S8192x1024_S8192_d1 h_S_)) (broadcastInDim S8192x1 ![] bcast_S_S8192x1 (constant (F := Ideal) S_ .f32 0x44800000#32)))
    (broadcastInDim S8192x1 ![] bcast_S_S8192x1 (constant (F := Ideal) S_ .f32 0x358637BD#32))))))
    (broadcastInDim S8192x1024 ![0, 1] bcast_S1x1024_S8192x1024_0_1 g)

/-- The root mean square norm of the rows. -/
abbrev half (x : FVec Ideal S8192x512 .f32) (g : FVec Ideal S1x512 .f32) : FVec Ideal S8192x512 .f32 :=
  mulf (mulf x (broadcastInDim S8192x512 ![0, 1] bcast_S8192x1_S8192x512_0_1 (Host.rsqrt (addf (Host.divf
    (broadcastInDim S8192x1 ![0] bcast_S8192_S8192x1_0 (Host.reduceAdd (mulf x x) (constant (F := Ideal) S_ .f32 0x00000000#32)
      reducesTo_S8192x512_S8192_d1 h_S_)) (broadcastInDim S8192x1 ![] bcast_S_S8192x1 (constant (F := Ideal) S_ .f32 0x44000000#32)))
    (broadcastInDim S8192x1 ![] bcast_S_S8192x1 (constant (F := Ideal) S_ .f32 0x358637BD#32))))))
    (broadcastInDim S8192x512 ![0, 1] bcast_S1x512_S8192x512_0_1 g)

/-- The two normed halves side by side. -/
abbrev both (x0 : FVec Ideal S8192x1024 .f32) (x2 : FVec Ideal S1x512 .f32) (x3 : FVec Ideal S1x512 .f32) : FVec Ideal S8192x1024 .f32 :=
  concatenate S8192x1024 1 [⟨S8192x512, half (extractStridedSlice S8192x512 ![0, 0] x0 slices_S8192x1024_S8192x512_0_0) x2⟩,
    ⟨S8192x512, half (extractStridedSlice S8192x512 ![0, 512] x0 slices_S8192x1024_S8192x512_0_512) x3⟩]
    concatenates_S8192x512_S8192x512_S8192x1024_d1

/-- The normed halves. -/
abbrev heads (x0 : FVec Ideal S8192x1024 .f32) (x2 : FVec Ideal S1x512 .f32) (x3 : FVec Ideal S1x512 .f32) :
    FVec Ideal S8192x1024 .bf16 :=
  truncf .bf16 (both x0 x2 x3) bitsLt_bf16_f32

/-- The projection. -/
abbrev mix (x0 : FVec Ideal S8192x1024 .f32) (x2 : FVec Ideal S1x512 .f32) (x3 : FVec Ideal S1x512 .f32) (x4 : FVec Ideal S1024x1024 .bf16) :
    FVec Ideal S8192x1024 .f32 :=
  Host.dotGeneral dot_S8192x1024_S1024x1024_S8192x1024_1_0_0_1_n_n none (both x0 x2 x3) (extf .f32 x4 bitsLt_bf16_f32)

/-- The residual stream after it. -/
abbrev h1 (x0 : FVec Ideal S8192x1024 .f32) (x1 : FVec Ideal S8192x1024 .f32) (x2 : FVec Ideal S1x512 .f32) (x3 : FVec Ideal S1x512 .f32) (x4 : FVec Ideal S1024x1024 .bf16) (x5 : FVec Ideal S1x1024 .f32) :
    FVec Ideal S8192x1024 .f32 :=
  addf x1 (norm (mix x0 x2 x3 x4) x5)

end Cert.MixOutReferenceIdeal.Local

namespace Cert.MixOutIdeal.Local

open Cert.MixOutIdeal Cert.MixOutIdeal.Gen

/-- The blocks of the windows at a point of the grid. -/
theorem blocks : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![t.val, 0] ∧ win0_7.index t = ![t.val, 0] ∧ win0_8.index t = ![t.val, 0] :=
  (by decide +kernel : ∀ t : Fin grid0.N, _)

theorem final_heads (m : (ℓ : Loc nD τ sig) → Buf (Elt Ideal) ℓ) (c : Dev nD) : (dats m 0 c).arrAt 6 cfg0.N
    = Cert.MixOutReferenceIdeal.Local.heads (m ((c : Thread nD τ).loc main_arg0)) (m ((c : Thread nD τ).loc main_arg2)) (m ((c : Thread nD τ).loc main_arg3)) := by
  refine (dats m 0 c).arrAt_eq_of_covers 6 _ (by decide +kernel) fun t hf y => ?_
  blk_simp
  rw [after0_6]
  frame_out
  pointwise [k0_pay2, Cert.MixOutReferenceIdeal.Local.heads, Cert.MixOutReferenceIdeal.Local.both, Cert.MixOutReferenceIdeal.Local.half]
  have hy : (((View.whole main_v0_0).slice (win0_6.rect t)).emb y 1 : ℕ) = (y 1 : ℕ) := by
    change ((((cfg0.win 6).blk t).view.emb y 1 : Fin _) : ℕ) = _
    blk_simp [blocks t]
  blk_point [iblk, V, blocks t]
  all_goals (exfalso; omega)

theorem final_mix (m : (ℓ : Loc nD τ sig) → Buf (Elt Ideal) ℓ) (c : Dev nD) : (dats m 0 c).arrAt 7 cfg0.N
    = Cert.MixOutReferenceIdeal.Local.mix (m ((c : Thread nD τ).loc main_arg0)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  frame_out
  pointwise [k0_pay3, k0_pay2, Cert.MixOutReferenceIdeal.Local.mix, Cert.MixOutReferenceIdeal.Local.both, Cert.MixOutReferenceIdeal.Local.half]
  blk_point [iblk, V, blocks t]

theorem final_h1 (m : (ℓ : Loc nD τ sig) → Buf (Elt Ideal) ℓ) (c : Dev nD) : (dats m 0 c).arrAt 8 cfg0.N
    = Cert.MixOutReferenceIdeal.Local.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  frame_out
  pointwise [k0_pay1, k0_pay3, k0_pay2, Cert.MixOutReferenceIdeal.Local.h1, Cert.MixOutReferenceIdeal.Local.norm, Cert.MixOutReferenceIdeal.Local.mix, Cert.MixOutReferenceIdeal.Local.both, Cert.MixOutReferenceIdeal.Local.half]
  blk_point [iblk, V, blocks t]

/-- Kernel and reference, from memories that hold the same arrays. -/
theorem same (m : (ℓ : Loc nD τ sig) → Buf (Elt Ideal) ℓ) (g : Dev nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg)
    (hm : ∀ c : Dev nD,
      m' ((c.tc : Thread Cert.MixOutReferenceIdeal.nD Cert.MixOutReferenceIdeal.τ).loc Cert.MixOutReferenceIdeal.main_arg0) = m ((c.tc : Thread nD τ).loc main_arg0)
      ∧ m' ((c.tc : Thread Cert.MixOutReferenceIdeal.nD Cert.MixOutReferenceIdeal.τ).loc Cert.MixOutReferenceIdeal.main_arg1) = m ((c.tc : Thread nD τ).loc main_arg1)
      ∧ m' ((c.tc : Thread Cert.MixOutReferenceIdeal.nD Cert.MixOutReferenceIdeal.τ).loc Cert.MixOutReferenceIdeal.main_arg2) = m ((c.tc : Thread nD τ).loc main_arg2)
      ∧ m' ((c.tc : Thread Cert.MixOutReferenceIdeal.nD Cert.MixOutReferenceIdeal.τ).loc Cert.MixOutReferenceIdeal.main_arg3) = m ((c.tc : Thread nD τ).loc main_arg3)
      ∧ m' ((c.tc : Thread Cert.MixOutReferenceIdeal.nD Cert.MixOutReferenceIdeal.τ).loc Cert.MixOutReferenceIdeal.main_arg4) = m ((c.tc : Thread nD τ).loc main_arg4)
      ∧ m' ((c.tc : Thread Cert.MixOutReferenceIdeal.nD Cert.MixOutReferenceIdeal.τ).loc Cert.MixOutReferenceIdeal.main_arg5) = m ((c.tc : Thread nD τ).loc main_arg5)) :
    ∃ (v0 : (c : Dev nD) → Buf (Elt Ideal) ((c.tc : Thread nD τ).loc main_v0_0)) (v1 : (c : Dev nD) → Buf (Elt Ideal) ((c.tc : Thread nD τ).loc main_v0_1)) (v2 : (c : Dev nD) → Buf (Elt Ideal) ((c.tc : Thread nD τ).loc main_v0_2)),
      θ_run (defs (F := Ideal)) (onTc (τ := τ) (main (F := Ideal))) ⟨m, fun _ => 0, g⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_v0_2) = v2 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v29) = v0 c
          ∧ r.2.mem ((c.tc : Thread Cert.MixOutReferenceIdeal.nD Cert.MixOutReferenceIdeal.τ).loc Cert.MixOutReferenceIdeal.main_v28) = v1 c
          ∧ r.2.mem ((c.tc : Thread Cert.MixOutReferenceIdeal.nD Cert.MixOutReferenceIdeal.τ).loc Cert.MixOutReferenceIdeal.main_v42) = v2 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3)
          ∧ r.2.mem ((c.tc : Thread Cert.MixOutReferenceIdeal.nD Cert.MixOutReferenceIdeal.τ).loc Cert.MixOutReferenceIdeal.main_arg4) = m' ((c.tc : Thread Cert.MixOutReferenceIdeal.nD Cert.MixOutReferenceIdeal.τ).loc Cert.MixOutReferenceIdeal.main_arg4)
          ∧ r.2.mem ((c.tc : Thread Cert.MixOutReferenceIdeal.nD Cert.MixOutReferenceIdeal.τ).loc Cert.MixOutReferenceIdeal.main_arg5) = m' ((c.tc : Thread Cert.MixOutReferenceIdeal.nD Cert.MixOutReferenceIdeal.τ).loc Cert.MixOutReferenceIdeal.main_arg5)) := by
  refine ⟨fun c => (dats m 0 c).arrAt 6 cfg0.N, fun c => (dats m 0 c).arrAt 7 cfg0.N, fun c => (dats m 0 c).arrAt 8 cfg0.N, ?_,
    (θ_run _ _ _).mono (fun r h c => ?_) (Cert.MixOutReferenceIdeal.Value.run m' g')⟩
  · exact (θ_run defs _ _).mono (fun r h c => ⟨(h c).1 6, (h c).1 7, (h c).1 8, ((h c).1 0).trans ((dats m 0 c).arrAt_in 0 rfl _), ((h c).1 1).trans ((dats m 0 c).arrAt_in 1 rfl _), ((h c).1 2).trans ((dats m 0 c).arrAt_in 2 rfl _), ((h c).1 3).trans ((dats m 0 c).arrAt_in 3 rfl _), ((h c).1 4).trans ((dats m 0 c).arrAt_in 4 rfl _), ((h c).1 5).trans ((dats m 0 c).arrAt_in 5 rfl _)⟩) (run_main m g)
  obtain ⟨h0, h1, h2, hk⟩ := h c
  obtain ⟨e0, e1, e2, e3, e4, e5⟩ := hm c
  unfold Cert.MixOutReferenceIdeal.Value.res_main_v42 at h2
  rw [e0, e2, e3] at h0
  rw [e0, e2, e3, e4] at h1
  rw [e0, e1, e2, e3, e4, e5] at h2
  exact ⟨h0.trans (final_heads m c).symm, h1.trans (final_mix m c).symm, h2.trans (final_h1 m c).symm, hk⟩

end Cert.MixOutIdeal.Local

end
-- ==== Proof.FfnInValue.lean ====
/-
# The two projections into the feed-forward block

Each point of the grid norms its rows and multiplies them by the two whole weights.
-/
module

public import proofs.«01_k».proof.Proof.Gen.FfnInIdeal.Frame
public import proofs.«01_k».proof.Proof.Gen.FfnInReferenceIdeal.Run
public import Idealize.ShloMosaic.Lib.Pipeline.ValueKit

@[expose] public section

set_option maxRecDepth 16384

noncomputable section

open Idealize.ShloMosaic Idealize.ShloMosaic.TcCoe Idealize.SL.Sem

namespace Cert.FfnInReferenceIdeal.Local

open Cert.FfnInReferenceIdeal Cert.FfnInReferenceIdeal.Gen

/-- The root mean square norm of the rows. -/
abbrev norm (x : FVec Ideal S8192x1024 .f32) (g : FVec Ideal S1x1024 .f32) : FVec Ideal S8192x1024 .f32 :=
  mulf (mulf x (broadcastInDim S8192x1024 ![0, 1] bcast_S8192x1_S8192x1024_0_1 (Host.rsqrt (addf (Host.divf
    (broadcastInDim S8192x1 ![0] bcast_S8192_S8192x1_0 (Host.reduceAdd (mulf x x) (constant (F := Ideal) S_ .f32 0x00000000#32)
      reducesTo_S8192x1024_S8192_d1 h_S_)) (broadcastInDim S8192x1 ![] bcast_S_S8192x1 (constant (F := Ideal) S_ .f32 0x44800000#32)))
    (broadcastInDim S8192x1 ![] bcast_S_S8192x1 (constant (F := Ideal) S_ .f32 0x358637BD#32))))))
    (broadcastInDim S8192x1024 ![0, 1] bcast_S1x1024_S8192x1024_0_1 g)

/-- The normed rows. -/
abbrev f (x0 : FVec Ideal S8192x1024 .f32) (x1 : FVec Ideal S1x1024 .f32) :
    FVec Ideal S8192x1024 .bf16 :=
  truncf .bf16 (norm x0 x1) bitsLt_bf16_f32

/-- The gate. -/
abbrev gt (x0 : FVec Ideal S8192x1024 .f32) (x1 : FVec Ideal S1x1024 .f32) (x2 : FVec Ideal S1024x2816 .bf16) :
    FVec Ideal S8192x2816 .f32 :=
  Host.dotGeneral dot_S8192x1024_S1024x2816_S8192x2816_1_0_0_1_n_n none (norm x0 x1) (extf .f32 x2 bitsLt_bf16_f32)

/-- The second factor. -/
abbrev up (x0 : FVec Ideal S8192x1024 .f32) (x1 : FVec Ideal S1x1024 .f32) (x3 : FVec Ideal S1024x2816 .bf16) :
    FVec Ideal S8192x2816 .f32 :=
  Host.dotGeneral dot_S8192x1024_S1024x2816_S8192x2816_1_0_0_1_n_n none (norm x0 x1) (extf .f32 x3 bitsLt_bf16_f32)

end Cert.FfnInReferenceIdeal.Local

namespace Cert.FfnInIdeal.Local

open Cert.FfnInIdeal Cert.FfnInIdeal.Gen

/-- The blocks of the windows at a point of the grid. -/
theorem blocks : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![t.val, 0] :=
  (by decide +kernel : ∀ t : Fin grid0.N, _)

theorem final_f (m : (ℓ : Loc nD τ sig) → Buf (Elt Ideal) ℓ) (c : Dev nD) : (dats m 0 c).arrAt 4 cfg0.N
    = Cert.FfnInReferenceIdeal.Local.f (m ((c : Thread nD τ).loc main_arg0)) (m ((c : Thread nD τ).loc main_arg1)) := by
  refine (dats m 0 c).arrAt_eq_of_covers 4 _ (by decide +kernel) fun t hf y => ?_
  blk_simp
  rw [after0_4]
  frame_out
  pointwise [k0_pay1, Cert.FfnInReferenceIdeal.Local.f, Cert.FfnInReferenceIdeal.Local.norm]
  blk_point [iblk, V, blocks t]

theorem final_gt (m : (ℓ : Loc nD τ sig) → Buf (Elt Ideal) ℓ) (c : Dev nD) : (dats m 0 c).arrAt 5 cfg0.N
    = Cert.FfnInReferenceIdeal.Local.gt (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay2, k0_pay1, Cert.FfnInReferenceIdeal.Local.gt, Cert.FfnInReferenceIdeal.Local.norm]
  blk_point [iblk, V, blocks t]

theorem final_up (m : (ℓ : Loc nD τ sig) → Buf (Elt Ideal) ℓ) (c : Dev nD) : (dats m 0 c).arrAt 6 cfg0.N
    = Cert.FfnInReferenceIdeal.Local.up (m ((c : Thread nD τ).loc main_arg0)) (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay3, k0_pay1, Cert.FfnInReferenceIdeal.Local.up, Cert.FfnInReferenceIdeal.Local.norm]
  blk_point [iblk, V, blocks t]

/-- Kernel and reference, from memories that hold the same arrays. -/
theorem same (m : (ℓ : Loc nD τ sig) → Buf (Elt Ideal) ℓ) (g : Dev nD → PrngReg)
    (m' : (ℓ : Loc Cert.FfnInReferenceIdeal.nD Cert.FfnInReferenceIdeal.τ Cert.FfnInReferenceIdeal.sig) → Buf (Elt Ideal) ℓ) (g' : Dev Cert.FfnInReferenceIdeal.nD → PrngReg)
    (hm : ∀ c : Dev nD,
      m' ((c.tc : Thread Cert.FfnInReferenceIdeal.nD Cert.FfnInReferenceIdeal.τ).loc Cert.FfnInReferenceIdeal.main_arg0) = m ((c.tc : Thread nD τ).loc main_arg0)
      ∧ m' ((c.tc : Thread Cert.FfnInReferenceIdeal.nD Cert.FfnInReferenceIdeal.τ).loc Cert.FfnInReferenceIdeal.main_arg1) = m ((c.tc : Thread nD τ).loc main_arg1)
      ∧ m' ((c.tc : Thread Cert.FfnInReferenceIdeal.nD Cert.FfnInReferenceIdeal.τ).loc Cert.FfnInReferenceIdeal.main_arg2) = m ((c.tc : Thread nD τ).loc main_arg2)
      ∧ m' ((c.tc : Thread Cert.FfnInReferenceIdeal.nD Cert.FfnInReferenceIdeal.τ).loc Cert.FfnInReferenceIdeal.main_arg3) = m ((c.tc : Thread nD τ).loc main_arg3)) :
    ∃ (v0 : (c : Dev nD) → Buf (Elt Ideal) ((c.tc : Thread nD τ).loc main_v0_0)) (v1 : (c : Dev nD) → Buf (Elt Ideal) ((c.tc : Thread nD τ).loc main_v0_1)) (v2 : (c : Dev nD) → Buf (Elt Ideal) ((c.tc : Thread nD τ).loc main_v0_2)),
      θ_run (defs (F := Ideal)) (onTc (τ := τ) (main (F := Ideal))) ⟨m, fun _ => 0, g⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_v0_2) = v2 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3))
      ∧ θ_run (Cert.FfnInReferenceIdeal.defs (F := Ideal)) (onTc (τ := Cert.FfnInReferenceIdeal.τ) (Cert.FfnInReferenceIdeal.main (F := Ideal))) ⟨m', fun _ => 0, g'⟩ (fun r => ∀ c : Dev Cert.FfnInReferenceIdeal.nD,
          r.2.mem ((c.tc : Thread Cert.FfnInReferenceIdeal.nD Cert.FfnInReferenceIdeal.τ).loc Cert.FfnInReferenceIdeal.main_v12) = v0 c
          ∧ r.2.mem ((c.tc : Thread Cert.FfnInReferenceIdeal.nD Cert.FfnInReferenceIdeal.τ).loc Cert.FfnInReferenceIdeal.main_v14) = v1 c
          ∧ r.2.mem ((c.tc : Thread Cert.FfnInReferenceIdeal.nD Cert.FfnInReferenceIdeal.τ).loc Cert.FfnInReferenceIdeal.main_v16) = v2 c
          ∧ r.2.mem ((c.tc : Thread Cert.FfnInReferenceIdeal.nD Cert.FfnInReferenceIdeal.τ).loc Cert.FfnInReferenceIdeal.main_arg0) = m' ((c.tc : Thread Cert.FfnInReferenceIdeal.nD Cert.FfnInReferenceIdeal.τ).loc Cert.FfnInReferenceIdeal.main_arg0)
          ∧ r.2.mem ((c.tc : Thread Cert.FfnInReferenceIdeal.nD Cert.FfnInReferenceIdeal.τ).loc Cert.FfnInReferenceIdeal.main_arg1) = m' ((c.tc : Thread Cert.FfnInReferenceIdeal.nD Cert.FfnInReferenceIdeal.τ).loc Cert.FfnInReferenceIdeal.main_arg1)
          ∧ r.2.mem ((c.tc : Thread Cert.FfnInReferenceIdeal.nD Cert.FfnInReferenceIdeal.τ).loc Cert.FfnInReferenceIdeal.main_arg2) = m' ((c.tc : Thread Cert.FfnInReferenceIdeal.nD Cert.FfnInReferenceIdeal.τ).loc Cert.FfnInReferenceIdeal.main_arg2)
          ∧ r.2.mem ((c.tc : Thread Cert.FfnInReferenceIdeal.nD Cert.FfnInReferenceIdeal.τ).loc Cert.FfnInReferenceIdeal.main_arg3) = m' ((c.tc : Thread Cert.FfnInReferenceIdeal.nD Cert.FfnInReferenceIdeal.τ).loc Cert.FfnInReferenceIdeal.main_arg3)) := by
  refine ⟨fun c => (dats m 0 c).arrAt 4 cfg0.N, fun c => (dats m 0 c).arrAt 5 cfg0.N, fun c => (dats m 0 c).arrAt 6 cfg0.N, ?_,
    (θ_run _ _ _).mono (fun r h c => ?_) (Cert.FfnInReferenceIdeal.Value.run m' g')⟩
  · exact (θ_run defs _ _).mono (fun r h c => ⟨(h c).1 4, (h c).1 5, (h c).1 6, ((h c).1 0).trans ((dats m 0 c).arrAt_in 0 rfl _), ((h c).1 1).trans ((dats m 0 c).arrAt_in 1 rfl _), ((h c).1 2).trans ((dats m 0 c).arrAt_in 2 rfl _), ((h c).1 3).trans ((dats m 0 c).arrAt_in 3 rfl _)⟩) (run_main m g)
  obtain ⟨h0, h1, h2, hk⟩ := h c
  obtain ⟨e0, e1, e2, e3⟩ := hm c
  rw [e0, e1] at h0
  rw [e0, e1, e2] at h1
  rw [e0, e1, e3] at h2
  exact ⟨h0.trans (final_f m c).symm, h1.trans (final_gt m c).symm, h2.trans (final_up m c).symm, hk⟩

end Cert.FfnInIdeal.Local

end
-- ==== Proof.FfnOutValue.lean ====
/-
# The projection out of the feed-forward block

Each point of the grid forms the product of the sigmoid linear unit and the second factor, multiplies it by the whole weight, norms it and adds it to
its rows.
-/
module

public import proofs.«01_k».proof.Proof.Gen.FfnOutIdeal.Frame
public import proofs.«01_k».proof.Proof.Gen.FfnOutReferenceIdeal.Run
public import Idealize.ShloMosaic.Lib.Pipeline.ValueKit

@[expose] public section

set_option maxRecDepth 16384

noncomputable section

open Idealize.ShloMosaic Idealize.ShloMosaic.TcCoe Idealize.SL.Sem

namespace Cert.FfnOutReferenceIdeal.Local

open Cert.FfnOutReferenceIdeal Cert.FfnOutReferenceIdeal.Gen

/-- The root mean square norm of the rows. -/
abbrev norm (x : FVec Ideal S8192x1024 .f32) (g : FVec Ideal S1x1024 .f32) : FVec Ideal S8192x1024 .f32 :=
  mulf (mulf x (broadcastInDim S8192x1024 ![0, 1] bcast_S8192x1_S8192x1024_0_1 (Host.rsqrt (addf (Host.divf
    (broadcastInDim S8192x1 ![0] bcast_S8192_S8192x1_0 (Host.reduceAdd (mulf x x) (constant (F := Ideal) S_ .f32 0x00000000#32)
      reducesTo_S8192x1024_S8192_d1 h_S_)) (broadcastInDim S8192x1 ![] bcast_S_S8192x1 (constant (F := Ideal) S_ .f32 0x44800000#32)))
    (broadcastInDim S8192x1 ![] bcast_S_S8192x1 (constant (F := Ideal) S_ .f32 0x358637BD#32))))))
    (broadcastInDim S8192x1024 ![0, 1] bcast_S1x1024_S8192x1024_0_1 g)

/-- The projection. -/
abbrev dn (x0 : FVec Ideal S8192x2816 .f32) (x1 : FVec Ideal S8192x2816 .f32) (x2 : FVec Ideal S2816x1024 .bf16) :
    FVec Ideal S8192x1024 .f32 :=
  Host.dotGeneral dot_S8192x2816_S2816x1024_S8192x1024_1_0_0_1_n_n none (mulf (mulf x0 (Host.divf (broadcastInDim S8192x2816 ![] bcast_S_S8192x2816 (constant (F := Ideal) S_ .f32 0x3F800000#32)) (addf (broadcastInDim S8192x2816 ![] bcast_S_S8192x2816 (constant (F := Ideal) S_ .f32 0x3F800000#32)) (Host.exp (Host.negf x0))))) x1) (extf .f32 x2 bitsLt_bf16_f32)

/-- The residual stream after it. -/
abbrev h2 (x0 : FVec Ideal S8192x2816 .f32) (x1 : FVec Ideal S8192x2816 .f32) (x2 : FVec Ideal S2816x1024 .bf16) (x3 : FVec Ideal S8192x1024 .f32) (x4 : FVec Ideal S1x1024 .f32) :
    FVec Ideal S8192x1024 .f32 :=
  addf x3 (norm (dn x0 x1 x2) x4)

end Cert.FfnOutReferenceIdeal.Local

namespace Cert.FfnOutIdeal.Local

open Cert.FfnOutIdeal Cert.FfnOutIdeal.Gen

/-- The blocks of the windows at a point of the grid. -/
theorem blocks : ∀ t : Fin cfg0.N, win0_0.index t = ![t.val, 0] ∧ win0_1.index t = ![t.val, 0] ∧ win0_2.index t = ![0, 0] ∧ win0_3.index t = ![t.val, 0] ∧ win0_4.index t = ![0, 0] ∧ win0_5.index t = ![t.val, 0] ∧ win0_6.index t = ![t.val, 0] :=
  (by decide +kernel : ∀ t : Fin grid0.N, _)

theorem final_dn (m : (ℓ : Loc nD τ sig) → Buf (Elt Ideal) ℓ) (c : Dev nD) : (dats m 0 c).arrAt 5 cfg0.N
    = Cert.FfnOutReferenceIdeal.Local.dn (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, Cert.FfnOutReferenceIdeal.Local.dn]
  simp only [zero_sub]
  blk_point [iblk, V, blocks t]

theorem final_h2 (m : (ℓ : Loc nD τ sig) → Buf (Elt Ideal) ℓ) (c : Dev nD) : (dats m 0 c).arrAt 6 cfg0.N
    = Cert.FfnOutReferenceIdeal.Local.h2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  pointwise [k0_pay2, k0_pay1, Cert.FfnOutReferenceIdeal.Local.h2, Cert.FfnOutReferenceIdeal.Local.norm, Cert.FfnOutReferenceIdeal.Local.dn]
  simp only [zero_sub]
  blk_point [iblk, V, blocks t]

/-- Kernel and reference, from memories that hold the same arrays. -/
theorem same (m : (ℓ : Loc nD τ sig) → Buf (Elt Ideal) ℓ) (g : Dev nD → PrngReg)
    (m' : (ℓ : Loc Cert.FfnOutReferenceIdeal.nD Cert.FfnOutReferenceIdeal.τ Cert.FfnOutReferenceIdeal.sig) → Buf (Elt Ideal) ℓ) (g' : Dev Cert.FfnOutReferenceIdeal.nD → PrngReg)
    (hm : ∀ c : Dev nD,
      m' ((c.tc : Thread Cert.FfnOutReferenceIdeal.nD Cert.FfnOutReferenceIdeal.τ).loc Cert.FfnOutReferenceIdeal.main_arg0) = m ((c.tc : Thread nD τ).loc main_arg0)
      ∧ m' ((c.tc : Thread Cert.FfnOutReferenceIdeal.nD Cert.FfnOutReferenceIdeal.τ).loc Cert.FfnOutReferenceIdeal.main_arg1) = m ((c.tc : Thread nD τ).loc main_arg1)
      ∧ m' ((c.tc : Thread Cert.FfnOutReferenceIdeal.nD Cert.FfnOutReferenceIdeal.τ).loc Cert.FfnOutReferenceIdeal.main_arg2) = m ((c.tc : Thread nD τ).loc main_arg2)
      ∧ m' ((c.tc : Thread Cert.FfnOutReferenceIdeal.nD Cert.FfnOutReferenceIdeal.τ).loc Cert.FfnOutReferenceIdeal.main_arg3) = m ((c.tc : Thread nD τ).loc main_arg3)
      ∧ m' ((c.tc : Thread Cert.FfnOutReferenceIdeal.nD Cert.FfnOutReferenceIdeal.τ).loc Cert.FfnOutReferenceIdeal.main_arg4) = m ((c.tc : Thread nD τ).loc main_arg4)) :
    ∃ (v0 : (c : Dev nD) → Buf (Elt Ideal) ((c.tc : Thread nD τ).loc main_v0_0)) (v1 : (c : Dev nD) → Buf (Elt Ideal) ((c.tc : Thread nD τ).loc main_v0_1)),
      θ_run (defs (F := Ideal)) (onTc (τ := τ) (main (F := Ideal))) ⟨m, fun _ => 0, g⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4))
      ∧ θ_run (Cert.FfnOutReferenceIdeal.defs (F := Ideal)) (onTc (τ := Cert.FfnOutReferenceIdeal.τ) (Cert.FfnOutReferenceIdeal.main (F := Ideal))) ⟨m', fun _ => 0, g'⟩ (fun r => ∀ c : Dev Cert.FfnOutReferenceIdeal.nD,
          r.2.mem ((c.tc : Thread Cert.FfnOutReferenceIdeal.nD Cert.FfnOutReferenceIdeal.τ).loc Cert.FfnOutReferenceIdeal.main_v3) = v0 c
          ∧ r.2.mem ((c.tc : Thread Cert.FfnOutReferenceIdeal.nD Cert.FfnOutReferenceIdeal.τ).loc Cert.FfnOutReferenceIdeal.main_v16) = v1 c
          ∧ r.2.mem ((c.tc : Thread Cert.FfnOutReferenceIdeal.nD Cert.FfnOutReferenceIdeal.τ).loc Cert.FfnOutReferenceIdeal.main_arg0) = m' ((c.tc : Thread Cert.FfnOutReferenceIdeal.nD Cert.FfnOutReferenceIdeal.τ).loc Cert.FfnOutReferenceIdeal.main_arg0)
          ∧ r.2.mem ((c.tc : Thread Cert.FfnOutReferenceIdeal.nD Cert.FfnOutReferenceIdeal.τ).loc Cert.FfnOutReferenceIdeal.main_arg1) = m' ((c.tc : Thread Cert.FfnOutReferenceIdeal.nD Cert.FfnOutReferenceIdeal.τ).loc Cert.FfnOutReferenceIdeal.main_arg1)
          ∧ r.2.mem ((c.tc : Thread Cert.FfnOutReferenceIdeal.nD Cert.FfnOutReferenceIdeal.τ).loc Cert.FfnOutReferenceIdeal.main_arg2) = m' ((c.tc : Thread Cert.FfnOutReferenceIdeal.nD Cert.FfnOutReferenceIdeal.τ).loc Cert.FfnOutReferenceIdeal.main_arg2)
          ∧ r.2.mem ((c.tc : Thread Cert.FfnOutReferenceIdeal.nD Cert.FfnOutReferenceIdeal.τ).loc Cert.FfnOutReferenceIdeal.main_arg3) = m' ((c.tc : Thread Cert.FfnOutReferenceIdeal.nD Cert.FfnOutReferenceIdeal.τ).loc Cert.FfnOutReferenceIdeal.main_arg3)
          ∧ r.2.mem ((c.tc : Thread Cert.FfnOutReferenceIdeal.nD Cert.FfnOutReferenceIdeal.τ).loc Cert.FfnOutReferenceIdeal.main_arg4) = m' ((c.tc : Thread Cert.FfnOutReferenceIdeal.nD Cert.FfnOutReferenceIdeal.τ).loc Cert.FfnOutReferenceIdeal.main_arg4)) := by
  refine ⟨fun c => (dats m 0 c).arrAt 5 cfg0.N, fun c => (dats m 0 c).arrAt 6 cfg0.N, ?_,
    (θ_run _ _ _).mono (fun r h c => ?_) (Cert.FfnOutReferenceIdeal.Value.run m' g')⟩
  · exact (θ_run defs _ _).mono (fun r h c => ⟨(h c).1 5, (h c).1 6, ((h c).1 0).trans ((dats m 0 c).arrAt_in 0 rfl _), ((h c).1 1).trans ((dats m 0 c).arrAt_in 1 rfl _), ((h c).1 2).trans ((dats m 0 c).arrAt_in 2 rfl _), ((h c).1 3).trans ((dats m 0 c).arrAt_in 3 rfl _), ((h c).1 4).trans ((dats m 0 c).arrAt_in 4 rfl _)⟩) (run_main m g)
  obtain ⟨h0, h1, hk⟩ := h c
  obtain ⟨e0, e1, e2, e3, e4⟩ := hm c
  rw [e0, e1, e2] at h0
  rw [e0, e1, e2, e3, e4] at h1
  exact ⟨h0.trans (final_dn m c).symm, h1.trans (final_h2 m c).symm, hk⟩

end Cert.FfnOutIdeal.Local

end
-- ==== Proof.PleGateValue.lean ====
/-
# The gated embedding of each layer

Each point of the grid norms its rows, multiplies them by the gate's weight, projects its rows of p and adds the gated projection.
-/
module

public import proofs.«01_k».proof.Proof.Gen.PleGateIdeal.Frame
public import proofs.«01_k».proof.Proof.Gen.PleGateReferenceIdeal.Run
public import Idealize.ShloMosaic.Lib.Pipeline.ValueKit

@[expose] public section

set_option maxRecDepth 16384

noncomputable section

open Idealize.ShloMosaic Idealize.ShloMosaic.TcCoe Idealize.SL.Sem

namespace Cert.PleGateReferenceIdeal.Local

open Cert.PleGateReferenceIdeal Cert.PleGateReferenceIdeal.Gen

/-- The root mean square norm of the rows. -/
abbrev norm (x : FVec Ideal S8192x1024 .f32) (g : FVec Ideal S1x1024 .f32) : FVec Ideal S8192x1024 .f32 :=
  mulf (mulf x (broadcastInDim S8192x1024 ![0, 1] bcast_S8192x1_S8192x1024_0_1 (Host.rsqrt (addf (Host.divf
    (broadcastInDim S8192x1 ![0] bcast_S8192_S8192x1_0 (Host.reduceAdd (mulf x x) (constant (F := Ideal) S_ .f32 0x00000000#32)
      reducesTo_S8192x1024_S8192_d1 h_S_)) (broadcastInDim S8192x1 ![] bcast_S_S8192x1 (constant (F := Ideal) S_ .f32 0x44800000#32)))
    (broadcastInDim S8192x1 ![] bcast_S_S8192x1 (constant (F := Ideal) S_ .f32 0x358637BD#32))))))
    (broadcastInDim S8192x1024 ![0, 1] bcast_S1x1024_S8192x1024_0_1 g)

/-- The normed rows. -/
abbrev r (x0 : FVec Ideal S8192x1024 .f32) (x1 : FVec Ideal S1x1024 .f32) :
    FVec Ideal S8192x1024 .bf16 :=
  truncf .bf16 (norm x0 x1) bitsLt_bf16_f32

/-- The gate. -/
abbrev pg (x0 : FVec Ideal S8192x1024 .f32) (x1 : FVec Ideal S1x1024 .f32) (x2 : FVec Ideal S1024x1024 .bf16) :
    FVec Ideal S8192x1024 .f32 :=
  Host.dotGeneral dot_S8192x1024_S1024x1024_S8192x1024_1_0_0_1_n_n none (norm x0 x1) (extf .f32 x2 bitsLt_bf16_f32)

/-- The projection. -/
abbrev pe (x3 : FVec Ideal S8192x256 .f32) (x4 : FVec Ideal S256x1024 .bf16) :
    FVec Ideal S8192x1024 .f32 :=
  Host.dotGeneral dot_S8192x256_S256x1024_S8192x1024_1_0_0_1_n_n none x3 (extf .f32 x4 bitsLt_bf16_f32)

/-- The residual stream after it. -/
abbrev h3 (x0 : FVec Ideal S8192x1024 .f32) (x1 : FVec Ideal S1x1024 .f32) (x2 : FVec Ideal S1024x1024 .bf16) (x3 : FVec Ideal S8192x256 .f32) (x4 : FVec Ideal S256x1024 .bf16) :
    FVec Ideal S8192x1024 .f32 :=
  addf x0 (mulf (pe x3 x4) (Host.divf (broadcastInDim S8192x1024 ![] bcast_S_S8192x1024 (constant (F := Ideal) S_ .f32 0x3F800000#32)) (addf (broadcastInDim S8192x1024 ![] bcast_S_S8192x1024 (constant (F := Ideal) S_ .f32 0x3F800000#32)) (Host.exp (Host.negf (pg x0 x1 x2))))))

end Cert.PleGateReferenceIdeal.Local

namespace Cert.PleGateIdeal.Local

open Cert.PleGateIdeal Cert.PleGateIdeal.Gen

/-- The blocks of the windows at a point of the grid. -/
theorem blocks : ∀ t : Fin cfg0.N, win0_0.index t = ![t.val, 0] ∧ win0_1.index t = ![0, 0] ∧ win0_2.index t = ![0, 0] ∧ win0_3.index t = ![t.val, 0] ∧ win0_4.index t = ![0, 0] ∧ win0_5.index t = ![t.val, 0] ∧ win0_6.index t = ![t.val, 0] ∧ win0_7.index t = ![t.val, 0] ∧ win0_8.index t = ![t.val, 0] :=
  (by decide +kernel : ∀ t : Fin grid0.N, _)

theorem final_r (m : (ℓ : Loc nD τ sig) → Buf (Elt Ideal) ℓ) (c : Dev nD) : (dats m 0 c).arrAt 5 cfg0.N
    = Cert.PleGateReferenceIdeal.Local.r (m ((c : Thread nD τ).loc main_arg0)) (m ((c : Thread nD τ).loc main_arg1)) := by
  refine (dats m 0 c).arrAt_eq_of_covers 5 _ (by decide +kernel) fun t hf y => ?_
  blk_simp
  rw [after0_5]
  frame_out
  pointwise [k0_pay2, Cert.PleGateReferenceIdeal.Local.r, Cert.PleGateReferenceIdeal.Local.norm]
  blk_point [iblk, V, blocks t]

theorem final_pg (m : (ℓ : Loc nD τ sig) → Buf (Elt Ideal) ℓ) (c : Dev nD) : (dats m 0 c).arrAt 6 cfg0.N
    = Cert.PleGateReferenceIdeal.Local.pg (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  frame_out
  pointwise [k0_pay3, k0_pay2, Cert.PleGateReferenceIdeal.Local.pg, Cert.PleGateReferenceIdeal.Local.norm]
  blk_point [iblk, V, blocks t]

theorem final_pe (m : (ℓ : Loc nD τ sig) → Buf (Elt Ideal) ℓ) (c : Dev nD) : (dats m 0 c).arrAt 7 cfg0.N
    = Cert.PleGateReferenceIdeal.Local.pe (m ((c : Thread nD τ).loc main_arg3)) (m ((c : Thread nD τ).loc main_arg4)) := by
  refine (dats m 0 c).arrAt_eq_of_covers 7 _ (by decide +kernel) fun t hf y => ?_
  blk_simp
  rw [after0_7]
  frame_out
  pointwise [k0_pay4, Cert.PleGateReferenceIdeal.Local.pe]
  blk_point [iblk, V, blocks t]

theorem final_h3 (m : (ℓ : Loc nD τ sig) → Buf (Elt Ideal) ℓ) (c : Dev nD) : (dats m 0 c).arrAt 8 cfg0.N
    = Cert.PleGateReferenceIdeal.Local.h3 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  frame_out
  pointwise [k0_pay1, k0_pay5, k0_pay4, k0_pay3, k0_pay2, Cert.PleGateReferenceIdeal.Local.h3, Cert.PleGateReferenceIdeal.Local.norm, Cert.PleGateReferenceIdeal.Local.pe, Cert.PleGateReferenceIdeal.Local.pg]
  simp only [zero_sub]
  blk_point [iblk, V, blocks t]

/-- Kernel and reference, from memories that hold the same arrays. -/
theorem same (m : (ℓ : Loc nD τ sig) → Buf (Elt Ideal) ℓ) (g : Dev nD → PrngReg)
    (m' : (ℓ : Loc Cert.PleGateReferenceIdeal.nD Cert.PleGateReferenceIdeal.τ Cert.PleGateReferenceIdeal.sig) → Buf (Elt Ideal) ℓ) (g' : Dev Cert.PleGateReferenceIdeal.nD → PrngReg)
    (hm : ∀ c : Dev nD,
      m' ((c.tc : Thread Cert.PleGateReferenceIdeal.nD Cert.PleGateReferenceIdeal.τ).loc Cert.PleGateReferenceIdeal.main_arg0) = m ((c.tc : Thread nD τ).loc main_arg0)
      ∧ m' ((c.tc : Thread Cert.PleGateReferenceIdeal.nD Cert.PleGateReferenceIdeal.τ).loc Cert.PleGateReferenceIdeal.main_arg1) = m ((c.tc : Thread nD τ).loc main_arg1)
      ∧ m' ((c.tc : Thread Cert.PleGateReferenceIdeal.nD Cert.PleGateReferenceIdeal.τ).loc Cert.PleGateReferenceIdeal.main_arg2) = m ((c.tc : Thread nD τ).loc main_arg2)
      ∧ m' ((c.tc : Thread Cert.PleGateReferenceIdeal.nD Cert.PleGateReferenceIdeal.τ).loc Cert.PleGateReferenceIdeal.main_arg3) = m ((c.tc : Thread nD τ).loc main_arg3)
      ∧ m' ((c.tc : Thread Cert.PleGateReferenceIdeal.nD Cert.PleGateReferenceIdeal.τ).loc Cert.PleGateReferenceIdeal.main_arg4) = m ((c.tc : Thread nD τ).loc main_arg4)) :
    ∃ (v0 : (c : Dev nD) → Buf (Elt Ideal) ((c.tc : Thread nD τ).loc main_v0_0)) (v1 : (c : Dev nD) → Buf (Elt Ideal) ((c.tc : Thread nD τ).loc main_v0_1)) (v2 : (c : Dev nD) → Buf (Elt Ideal) ((c.tc : Thread nD τ).loc main_v0_2)) (v3 : (c : Dev nD) → Buf (Elt Ideal) ((c.tc : Thread nD τ).loc main_v0_3)),
      θ_run (defs (F := Ideal)) (onTc (τ := τ) (main (F := Ideal))) ⟨m, fun _ => 0, g⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_v0_2) = v2 c
          ∧ r.2.mem ((c.tc : Thread nD τ).loc main_v0_3) = v3 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4))
      ∧ θ_run (Cert.PleGateReferenceIdeal.defs (F := Ideal)) (onTc (τ := Cert.PleGateReferenceIdeal.τ) (Cert.PleGateReferenceIdeal.main (F := Ideal))) ⟨m', fun _ => 0, g'⟩ (fun r => ∀ c : Dev Cert.PleGateReferenceIdeal.nD,
          r.2.mem ((c.tc : Thread Cert.PleGateReferenceIdeal.nD Cert.PleGateReferenceIdeal.τ).loc Cert.PleGateReferenceIdeal.main_v16) = v0 c
          ∧ r.2.mem ((c.tc : Thread Cert.PleGateReferenceIdeal.nD Cert.PleGateReferenceIdeal.τ).loc Cert.PleGateReferenceIdeal.main_v13) = v1 c
          ∧ r.2.mem ((c.tc : Thread Cert.PleGateReferenceIdeal.nD Cert.PleGateReferenceIdeal.τ).loc Cert.PleGateReferenceIdeal.main_v15) = v2 c
          ∧ r.2.mem ((c.tc : Thread Cert.PleGateReferenceIdeal.nD Cert.PleGateReferenceIdeal.τ).loc Cert.PleGateReferenceIdeal.main_v24) = v3 c
          ∧ r.2.mem ((c.tc : Thread Cert.PleGateReferenceIdeal.nD Cert.PleGateReferenceIdeal.τ).loc Cert.PleGateReferenceIdeal.main_arg0) = m' ((c.tc : Thread Cert.PleGateReferenceIdeal.nD Cert.PleGateReferenceIdeal.τ).loc Cert.PleGateReferenceIdeal.main_arg0)
          ∧ r.2.mem ((c.tc : Thread Cert.PleGateReferenceIdeal.nD Cert.PleGateReferenceIdeal.τ).loc Cert.PleGateReferenceIdeal.main_arg1) = m' ((c.tc : Thread Cert.PleGateReferenceIdeal.nD Cert.PleGateReferenceIdeal.τ).loc Cert.PleGateReferenceIdeal.main_arg1)
          ∧ r.2.mem ((c.tc : Thread Cert.PleGateReferenceIdeal.nD Cert.PleGateReferenceIdeal.τ).loc Cert.PleGateReferenceIdeal.main_arg2) = m' ((c.tc : Thread Cert.PleGateReferenceIdeal.nD Cert.PleGateReferenceIdeal.τ).loc Cert.PleGateReferenceIdeal.main_arg2)
          ∧ r.2.mem ((c.tc : Thread Cert.PleGateReferenceIdeal.nD Cert.PleGateReferenceIdeal.τ).loc Cert.PleGateReferenceIdeal.main_arg3) = m' ((c.tc : Thread Cert.PleGateReferenceIdeal.nD Cert.PleGateReferenceIdeal.τ).loc Cert.PleGateReferenceIdeal.main_arg3)
          ∧ r.2.mem ((c.tc : Thread Cert.PleGateReferenceIdeal.nD Cert.PleGateReferenceIdeal.τ).loc Cert.PleGateReferenceIdeal.main_arg4) = m' ((c.tc : Thread Cert.PleGateReferenceIdeal.nD Cert.PleGateReferenceIdeal.τ).loc Cert.PleGateReferenceIdeal.main_arg4)) := by
  refine ⟨fun c => (dats m 0 c).arrAt 5 cfg0.N, fun c => (dats m 0 c).arrAt 6 cfg0.N, fun c => (dats m 0 c).arrAt 7 cfg0.N, fun c => (dats m 0 c).arrAt 8 cfg0.N, ?_,
    (θ_run _ _ _).mono (fun r h c => ?_) (Cert.PleGateReferenceIdeal.Value.run m' g')⟩
  · exact (θ_run defs _ _).mono (fun r h c => ⟨(h c).1 5, (h c).1 6, (h c).1 7, (h c).1 8, ((h c).1 0).trans ((dats m 0 c).arrAt_in 0 rfl _), ((h c).1 1).trans ((dats m 0 c).arrAt_in 1 rfl _), ((h c).1 2).trans ((dats m 0 c).arrAt_in 2 rfl _), ((h c).1 3).trans ((dats m 0 c).arrAt_in 3 rfl _), ((h c).1 4).trans ((dats m 0 c).arrAt_in 4 rfl _)⟩) (run_main m g)
  obtain ⟨h0, h1, h2, h3, hk⟩ := h c
  obtain ⟨e0, e1, e2, e3, e4⟩ := hm c
  rw [e0, e1] at h0
  rw [e0, e1, e2] at h1
  rw [e3, e4] at h2
  rw [e0, e1, e2, e3, e4] at h3
  exact ⟨h0.trans (final_r m c).symm, h1.trans (final_pg m c).symm, h2.trans (final_pe m c).symm, h3.trans (final_h3 m c).symm, hk⟩

end Cert.PleGateIdeal.Local

end
-- ==== Proof.NormBack.lean ====
/-
# The gradient of the root mean square norm of one row

`x` is the row, `d` the cotangent after the product with the gain. The kernel writes the gradient as
r (d − x r · mean (d x r)), the derivative of the reference's lines as d r + x t + t x, with t the gradient of the mean of
the squares. Both are the same over the extended reals, without a condition on the row: where the mean of the squares is not
finite, r is zero and so are both sides; elsewhere r is a positive real, and a product with it distributes.
-/
module

public import proofs.«01_k».proof.Proof.Words

@[expose] public section

noncomputable section

namespace Cert.NormBack

open Idealize.ShloMosaic

variable {n : ℕ}

/-- The mean of the squares and the small constant. -/
def mean (w : EReal) (x : Fin n → EReal) : EReal :=
  Ideal.div (∑ k, x k * x k) w + Ideal.ofBits .f32 0x358637BD#32

/-- The kernel's form. -/
def short (w : EReal) (x d : Fin n → EReal) (j : Fin n) : EReal :=
  Ideal.rsqrt (mean w x) * (d j - x j * Ideal.rsqrt (mean w x) * Ideal.div (∑ k, d k * (x k * Ideal.rsqrt (mean w x))) w)

/-- The gradient of the mean of the squares, as the derivative of the reference's lines has it. -/
def inner (w : EReal) (x d : Fin n → EReal) : EReal :=
  Ideal.div ((∑ k, x k * d k) * (Ideal.ofBits .f32 0xBF000000#32 * Ideal.div (Ideal.rsqrt (mean w x)) (mean w x))) w

/-- The reference's form. -/
def long (w : EReal) (x d : Fin n → EReal) (j : Fin n) : EReal :=
  d j * Ideal.rsqrt (mean w x) + x j * inner w x d + inner w x d * x j

theorem mul_sum (r : ℝ) (hr : 0 ≤ r) (f : Fin n → EReal) : (∑ k, f k) * (r : EReal) = ∑ k, f k * (r : EReal) := by
  classical
  refine Finset.induction_on (Finset.univ : Finset (Fin n)) (by simp) fun a s ha ih => ?_
  rw [Finset.sum_insert ha, Finset.sum_insert ha, ← ih]
  exact EReal.right_distrib_of_nonneg_of_ne_top (by exact_mod_cast hr) (EReal.coe_ne_top r) _ _

theorem sum_nonneg (x : Fin n → EReal) : 0 ≤ ∑ k, x k * x k :=
  Finset.sum_nonneg fun k _ => by
    rcases le_total 0 (x k) with h | h
    · exact EReal.mul_nonneg h h
    · rw [← neg_mul_neg]
      exact EReal.mul_nonneg (EReal.neg_nonneg.2 h) (EReal.neg_nonneg.2 h)

theorem mean_cases (N : ℝ) (hN : 0 < N) (x : Fin n → EReal) :
    mean (N : EReal) x = ⊤ ∨ ∃ u : ℝ, 0 < u ∧ mean (N : EReal) x = (u : EReal) := by
  obtain ⟨e, he, hw⟩ := Cert.Words.eps_pos
  unfold mean
  rw [hw, Ideal.div_coe hN.ne']
  have hs := sum_nonneg x
  generalize (∑ k, x k * x k) = s at hs
  induction s using EReal.rec with
  | bot => simp at hs
  | top =>
    left
    rw [EReal.top_mul_coe_of_pos (by positivity)]
    rfl
  | coe v =>
    right
    have hv : 0 ≤ v := by exact_mod_cast hs
    exact ⟨v * (1 / N) + e, by positivity, by norm_cast⟩

theorem short_eq_long (w : EReal) (N : ℝ) (hN : 0 < N) (hw : w = (N : EReal)) (x d : Fin n → EReal) (j : Fin n) :
    short w x d j = long w x d j := by
  subst hw
  unfold short long inner
  rw [Cert.Words.minus_half]
  rcases mean_cases N hN x with h | ⟨u, hu, h⟩
  · have h0 : Ideal.div (0 : EReal) ⊤ = 0 := by simp [Ideal.div]
    have h1 : Ideal.div (0 : EReal) (N : EReal) = 0 := by rw [Ideal.div_coe hN.ne', zero_mul]
    simp [h, h0, h1]
  · have hr : Ideal.rsqrt (mean (N : EReal) x) = (((Real.sqrt u)⁻¹ : ℝ) : EReal) := by
      rw [h, Ideal.rsqrt_coe, if_neg (not_lt.2 hu.le), if_neg hu.ne']
    rw [hr, h]
    have hp : 0 < (Real.sqrt u)⁻¹ := by positivity
    have hq : 1 / u = (Real.sqrt u)⁻¹ * (Real.sqrt u)⁻¹ := by
      rw [← mul_inv, Real.mul_self_sqrt hu.le, one_div]
    rw [Ideal.div_coe hu.ne', Ideal.div_coe hN.ne', Ideal.div_coe hN.ne', hq]
    generalize (Real.sqrt u)⁻¹ = r at hp
    have hS : (∑ k, d k * (x k * (r : EReal))) = (∑ k, x k * d k) * (r : EReal) := by
      rw [mul_sum r hp.le]
      exact Finset.sum_congr rfl fun k _ => by rw [← mul_assoc, mul_comm (d k)]
    rw [hS]
    generalize (∑ k, x k * d k) = S
    have hc : S * (((-1 / 2 : ℝ) : EReal) * ((r : EReal) * ((r * r : ℝ) : EReal))) * ((1 / N : ℝ) : EReal)
        = S * ((-(1 / 2 * (r * r * r / N)) : ℝ) : EReal) := by
      rw [mul_assoc, ← EReal.coe_mul, ← EReal.coe_mul, ← EReal.coe_mul]
      congr 2
      ring
    have hb : (0 : ℝ) ≤ 1 / 2 * (r * r * r / N) := by positivity
    have hd : (r : EReal) * (d j - x j * (r : EReal) * (S * (r : EReal) * ((1 / N : ℝ) : EReal)))
        = d j * (r : EReal) + -(x j * S * ((r * r * r / N : ℝ) : EReal)) := by
      rw [sub_eq_add_neg, EReal.left_distrib_of_nonneg_of_ne_top (by exact_mod_cast hp.le) (EReal.coe_ne_top r), mul_comm (r : EReal) (d j),
        mul_neg]
      congr 2
      have : ((r * r * r / N : ℝ) : EReal) = (r : EReal) * (r : EReal) * (r : EReal) * ((1 / N : ℝ) : EReal) := by
        rw [← EReal.coe_mul, ← EReal.coe_mul, ← EReal.coe_mul]
        congr 1
        ring
      rw [this]
      ac_rfl
    rw [hd, hc, add_assoc]
    congr 1
    rw [mul_comm _ (x j), ← mul_assoc]
    generalize x j * S = p
    have hh : ((r * r * r / N : ℝ) : EReal) = ((1 / 2 * (r * r * r / N) : ℝ) : EReal) + ((1 / 2 * (r * r * r / N) : ℝ) : EReal) := by
      rw [← EReal.coe_add]
      congr 1
      ring
    rw [EReal.coe_neg, mul_neg, ← neg_mul, ← neg_mul, hh]
    exact EReal.left_distrib_of_nonneg (by exact_mod_cast hb) (by exact_mod_cast hb)

end Cert.NormBack

end
-- ==== Proof.PleGradValue.lean ====
/-
# The gradient of the gated embedding of each layer

Each point of the grid forms the gradients of the projection and of the gate for its rows, multiplies the second by the transpose of the
gate's weight and takes the product back through the norm. The kernel's form of the norm's gradient is not the reference's: NormBack has
why they are the same.
-/
module

public import proofs.«01_k».proof.Proof.Gen.PleGradIdeal.Frame
public import proofs.«01_k».proof.Proof.Gen.PleGradReferenceIdeal.Run
public import proofs.«01_k».proof.Proof.NormBack
public import Idealize.ShloMosaic.Lib.Pipeline.ValueKit

@[expose] public section

set_option maxRecDepth 16384

noncomputable section

open Idealize.ShloMosaic Idealize.ShloMosaic.TcCoe Idealize.SL.Sem

namespace Cert.PleGradReferenceIdeal.Local

open Cert.PleGradReferenceIdeal Cert.PleGradReferenceIdeal.Gen

/-- The gradient of the norm of the rows `x`, from the cotangent `d` after the gain. -/
abbrev back (x d : FVec Ideal S8192x1024 .f32) : FVec Ideal S8192x1024 .f32 :=
  addf (addf (mulf d (broadcastInDim S8192x1024 ![0, 1] bcast_S8192x1_S8192x1024_0_1 (Host.rsqrt (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (mulf x (broadcastInDim S8192x1024 ![0] bcast_S8192_S8192x1024_0 (Host.reduceAdd (Host.divf (mulf (shapeCast _ (Host.reduceAdd (mulf x d) (constant (F := Ideal) S_ .f32 0x00000000#32) reducesTo_S8192x1024_S8192_d1 h_S_) shapeCasts_S8192_S8192x1) (mulf (broadcastInDim S8192x1 ![] bcast_S_S8192x1 (constant (F := Ideal) S_ .f32 0xBF000000#32)) (Host.divf (Host.rsqrt (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))) (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1 ![] bcast_S_S8192x1 (constant (F := Ideal) S_ .f32 0x44800000#32))) (constant (F := Ideal) S_ .f32 0x00000000#32) reducesTo_S8192x1_S8192_d1 h_S_)))) (mulf (broadcastInDim S8192x1024 ![0] bcast_S8192_S8192x1024_0 (Host.reduceAdd (Host.divf (mulf (shapeCast _ (Host.reduceAdd (mulf x d) (constant (F := Ideal) S_ .f32 0x00000000#32) reducesTo_S8192x1024_S8192_d1 h_S_) shapeCasts_S8192_S8192x1) (mulf (broadcastInDim S8192x1 ![] bcast_S_S8192x1 (constant (F := Ideal) S_ .f32 0xBF000000#32)) (Host.divf (Host.rsqrt (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))) (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1 ![] bcast_S_S8192x1 (constant (F := Ideal) S_ .f32 0x44800000#32))) (constant (F := Ideal) S_ .f32 0x00000000#32) reducesTo_S8192x1_S8192_d1 h_S_)) x)

theorem back_at (x d : FVec Ideal S8192x1024 .f32) (i : Fin 8192) (j : Fin 1024) :
    back x d (ix2 i j) = Cert.NormBack.long (Ideal.ofBits .f32 0x44800000#32) (fun k => x (ix2 i k)) (fun k => d (ix2 i k)) j := by
  pointwise [back, Cert.NormBack.long, Cert.NormBack.inner, Cert.NormBack.mean]
  simp only [Fin.sum_univ_one]

/-- The gradient of the gain, from the rows `x` and the cotangent `d` of the norm. -/
abbrev gain (x d : FVec Ideal S8192x1024 .f32) : FVec Ideal S1x1024 .f32 :=
  shapeCast _ (Host.reduceAdd (mulf (mulf x (broadcastInDim S8192x1024 ![0, 1] bcast_S8192x1_S8192x1024_0_1 (Host.rsqrt (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) d) (constant (F := Ideal) S_ .f32 0x00000000#32) reducesTo_S8192x1024_S1024_d0 h_S_) shapeCasts_S1024_S1x1024

theorem gain_at (x d : FVec Ideal S8192x1024 .f32) (j : S1x1024.Idx) :
    gain x d j = ∑ l : Fin 8192, d (ix2 l (j 1)) * (x (ix2 l (j 1)) * Ideal.rsqrt (Cert.NormBack.mean (Ideal.ofBits .f32 0x44800000#32) fun k => x (ix2 l k))) := by
  pointwise [gain, Cert.NormBack.mean]
  exact Finset.sum_congr rfl fun l _ => mul_comm _ _

/-- The gradient of the projection. -/
abbrev dpe (x0 x2 : FVec Ideal S8192x1024 .f32) : FVec Ideal S8192x1024 .bf16 :=
  truncf .bf16 (mulf x0 (Host.divf (broadcastInDim S8192x1024 ![] bcast_S_S8192x1024 (constant (F := Ideal) S_ .f32 0x3F800000#32)) (addf (broadcastInDim S8192x1024 ![] bcast_S_S8192x1024 (constant (F := Ideal) S_ .f32 0x3F800000#32)) (Host.exp (Host.negf x2))))) bitsLt_bf16_f32

/-- The gradient of the gate, not rounded. -/
def act (x0 x2 x3 : FVec Ideal S8192x1024 .f32) : FVec Ideal S8192x1024 .f32 :=
  mulf (mulf x3 x0) (mulf (Host.divf (broadcastInDim S8192x1024 ![] bcast_S_S8192x1024 (constant (F := Ideal) S_ .f32 0x3F800000#32)) (addf (broadcastInDim S8192x1024 ![] bcast_S_S8192x1024 (constant (F := Ideal) S_ .f32 0x3F800000#32)) (Host.exp (Host.negf x2)))) (subf (broadcastInDim S8192x1024 ![] bcast_S_S8192x1024 (constant (F := Ideal) S_ .f32 0x3F800000#32)) (Host.divf (broadcastInDim S8192x1024 ![] bcast_S_S8192x1024 (constant (F := Ideal) S_ .f32 0x3F800000#32)) (addf (broadcastInDim S8192x1024 ![] bcast_S_S8192x1024 (constant (F := Ideal) S_ .f32 0x3F800000#32)) (Host.exp (Host.negf x2))))))

theorem act_at (x0 x2 x3 : FVec Ideal S8192x1024 .f32) (i : S8192x1024.Idx) :
    act x0 x2 x3 i = x3 i * x0 i * (Ideal.div (Ideal.ofBits .f32 0x3F800000#32) (Ideal.ofBits .f32 0x3F800000#32 + Ideal.exp (-x2 i)) * (Ideal.ofBits .f32 0x3F800000#32 - Ideal.div (Ideal.ofBits .f32 0x3F800000#32) (Ideal.ofBits .f32 0x3F800000#32 + Ideal.exp (-x2 i)))) := by
  pointwise [act]

/-- The gradient of the gate. -/
abbrev dpg (x0 x2 x3 : FVec Ideal S8192x1024 .f32) : FVec Ideal S8192x1024 .bf16 :=
  truncf .bf16 (act x0 x2 x3) bitsLt_bf16_f32

/-- The cotangent of the norm. -/
def ct (x0 x2 x3 : FVec Ideal S8192x1024 .f32) (x5 : FVec Ideal S1024x1024 .bf16) : FVec Ideal S8192x1024 .f32 :=
  Host.dotGeneral dot_S8192x1024_S1024x1024_S8192x1024_1_1_0_0_n_n none (act x0 x2 x3) (extf .f32 x5 bitsLt_bf16_f32)

/-- The gradient of the rows. -/
abbrev dx (x0 x1 x2 x3 : FVec Ideal S8192x1024 .f32) (x4 : FVec Ideal S1x1024 .f32) (x5 : FVec Ideal S1024x1024 .bf16) : FVec Ideal S8192x1024 .f32 :=
  addf x0 (back x1 (mulf (ct x0 x2 x3 x5) (broadcastInDim S8192x1024 ![0, 1] bcast_S1x1024_S8192x1024_0_1 x4)))

/-- The gradient of the gain. -/
abbrev dg (x0 x1 x2 x3 : FVec Ideal S8192x1024 .f32) (x5 : FVec Ideal S1024x1024 .bf16) : FVec Ideal S1x1024 .f32 :=
  gain x1 (ct x0 x2 x3 x5)

end Cert.PleGradReferenceIdeal.Local

namespace Cert.PleGradIdeal.Local

open Cert.PleGradIdeal Cert.PleGradIdeal.Gen

/-- The blocks of the windows at a point of the grid. -/
theorem blocks : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![t.val, 0] ∧ win0_7.index t = ![t.val, 0] ∧ win0_8.index t = ![t.val, 0] ∧ win0_9.index t = ![0, 0] :=
  (by decide +kernel : ∀ t : Fin grid0.N, _)

theorem act_at (v0 v1 v12 : FVec Ideal S512x1024 .f32) (i : S512x1024.Idx) :
    k0_pay7 (F := Ideal) v0 v1 v12 i = v12 i * v0 i * (Ideal.div (Ideal.ofBits .f32 0x3F800000#32) (Ideal.ofBits .f32 0x3F800000#32 + Ideal.exp (-v1 i)) * (Ideal.ofBits .f32 0x3F800000#32 - Ideal.div (Ideal.ofBits .f32 0x3F800000#32) (Ideal.ofBits .f32 0x3F800000#32 + Ideal.exp (-v1 i)))) := by
  pointwise [k0_pay7, k0_pay5]
  simp only [zero_sub]
  rw [mul_assoc, mul_comm (v0 i)]

theorem grad_at (v0 v21 v22 : FVec Ideal S512x1024 .f32) (v23 : FVec Ideal S1x1024 .f32) (i : Fin 512) (j : Fin 1024) :
    k0_pay2 (F := Ideal) v0 v21 v22 v23 (k0_pay9 v22) (k0_pay10 v22) (ix2 i j)
      = v0 (ix2 i j) + Cert.NormBack.long (Ideal.ofBits .f32 0x44800000#32) (fun k => v22 (ix2 i k)) (fun k => v21 (ix2 i k) * v23 (ix2 0 k)) j := by
  rw [← Cert.NormBack.short_eq_long _ 1024 (by norm_num) Cert.Words.w1024]
  pointwise [k0_pay2, k0_pay1, k0_pay10, k0_pay9, Cert.NormBack.short, Cert.NormBack.mean]

theorem start (j : S1x1024.Idx) : k0_pay3 (F := Ideal) j = 0 := by
  pointwise [k0_pay3]

theorem step (v21 v22 : FVec Ideal S512x1024 .f32) (acc : FVec Ideal S1x1024 .f32) (j : S1x1024.Idx) :
    k0_pay4 (F := Ideal) v21 v22 (k0_pay10 v22) acc j
      = acc j + ∑ l : Fin 512, v21 (ix2 l (j 1)) * (v22 (ix2 l (j 1)) * Ideal.rsqrt (Cert.NormBack.mean (Ideal.ofBits .f32 0x44800000#32) fun k => v22 (ix2 l k))) := by
  pointwise [k0_pay4, k0_pay1, k0_pay10, k0_pay9, Cert.NormBack.mean]

/-- The kernel's product at a row of a block is the reference's at that row of the arrays. -/
theorem ct_at (m : (ℓ : Loc nD τ sig) → Buf (Elt Ideal) ℓ) (c : Dev nD) (t : Fin cfg0.N) (i : Fin 512) (l : Fin 8192) (hl : l.val = t.val * 512 + i.val) (k : Fin 1024) :
    k0_pay8 (iblk m c 0 t) (iblk m c 2 t) (iblk m c 3 t) (iblk m c 5 t) (ix2 i k)
      = Cert.PleGradReferenceIdeal.Local.ct (m ((c : Thread nD τ).loc main_arg0)) (m ((c : Thread nD τ).loc main_arg2)) (m ((c : Thread nD τ).loc main_arg3)) (m ((c : Thread nD τ).loc main_arg5)) (ix2 l k) := by
  pointwise [k0_pay8, Cert.PleGradReferenceIdeal.Local.ct]
  refine Finset.sum_congr rfl fun q _ => ?_
  rw [act_at, Cert.PleGradReferenceIdeal.Local.act_at]
  blk_point [iblk, V, blocks t]

theorem final_dpe (m : (ℓ : Loc nD τ sig) → Buf (Elt Ideal) ℓ) (c : Dev nD) : (dats m 0 c).arrAt 6 cfg0.N
    = Cert.PleGradReferenceIdeal.Local.dpe (m ((c : Thread nD τ).loc main_arg0)) (m ((c : Thread nD τ).loc main_arg2)) := by
  refine (dats m 0 c).arrAt_eq_of_covers 6 _ (by decide +kernel) fun t hf y => ?_
  blk_simp
  rw [after0_6]
  by_cases h : t.val % 16 = 0
  · rw [outsAt0_A m c t h]
    dsimp only
    frame_out
    pointwise [k0_pay6, k0_pay5, Cert.PleGradReferenceIdeal.Local.dpe]
    simp only [zero_sub]
    blk_point [iblk, V, blocks t]
  · rw [outsAt0_B m c t h]
    dsimp only
    frame_out
    pointwise [k0_pay6, k0_pay5, Cert.PleGradReferenceIdeal.Local.dpe]
    simp only [zero_sub]
    blk_point [iblk, V, blocks t]

theorem final_dpg (m : (ℓ : Loc nD τ sig) → Buf (Elt Ideal) ℓ) (c : Dev nD) : (dats m 0 c).arrAt 7 cfg0.N
    = Cert.PleGradReferenceIdeal.Local.dpg (m ((c : Thread nD τ).loc main_arg0)) (m ((c : Thread nD τ).loc main_arg2)) (m ((c : Thread nD τ).loc main_arg3)) := by
  refine (dats m 0 c).arrAt_eq_of_covers 7 _ (by decide +kernel) fun t hf y => ?_
  blk_simp
  rw [after0_7]
  by_cases h : t.val % 16 = 0
  · rw [outsAt0_A m c t h]
    dsimp only
    frame_out
    refine (act_at _ _ _ y).trans (Eq.trans ?_ (Cert.PleGradReferenceIdeal.Local.act_at _ _ _ _).symm)
    blk_point [iblk, V, blocks t]
  · rw [outsAt0_B m c t h]
    dsimp only
    frame_out
    refine (act_at _ _ _ y).trans (Eq.trans ?_ (Cert.PleGradReferenceIdeal.Local.act_at _ _ _ _).symm)
    blk_point [iblk, V, blocks t]

/-- The gradient of the rows, at a row of a block. -/
theorem dx_block (m : (ℓ : Loc nD τ sig) → Buf (Elt Ideal) ℓ) (c : Dev nD) (t : Fin cfg0.N) (y : S512x1024.Idx) (z : S8192x1024.Idx)
    (h0 : (z 0).val = t.val * 512 + (y 0).val) (h1 : (z 1).val = (y 1).val) :
    k0_pay2 (F := Ideal) (iblk m c 0 t) (k0_pay8 (iblk m c 0 t) (iblk m c 2 t) (iblk m c 3 t) (iblk m c 5 t)) (iblk m c 1 t) (iblk m c 4 t) (k0_pay9 (iblk m c 1 t)) (k0_pay10 (iblk m c 1 t)) y
      = Cert.PleGradReferenceIdeal.Local.dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) z := by
  obtain ⟨i, j, rfl⟩ : ∃ (i : Fin 512) (j : Fin 1024), y = ix2 i j := ⟨y 0, y 1, eq_ix2 y⟩
  obtain ⟨l, k, rfl⟩ : ∃ (l : Fin 8192) (k : Fin 1024), z = ix2 l k := ⟨z 0, z 1, eq_ix2 z⟩
  have hl : l.val = t.val * 512 + i.val := h0
  obtain rfl : k = j := Fin.ext h1
  have ex : ∀ k : Fin 1024, iblk m c 1 t (ix2 i k) = m ((c : Thread nD τ).loc main_arg1) (ix2 l k) := fun k => by
    blk_point [iblk, V, blocks t]
  have eg : ∀ k : Fin 1024, iblk m c 4 t (ix2 0 k) = m ((c : Thread nD τ).loc main_arg4) (ix2 0 k) := fun k => by
    blk_point [iblk, V, blocks t]
  have er : iblk m c 0 t (ix2 i k) = m ((c : Thread nD τ).loc main_arg0) (ix2 l k) := by
    blk_point [iblk, V, blocks t]
  refine (grad_at _ _ _ _ i k).trans ?_
  refine Eq.trans ?_ (congrArg₂ (fun a b : EReal => a + b) rfl (Cert.PleGradReferenceIdeal.Local.back_at _ _ l k).symm)
  refine congrArg₂ (fun a b : EReal => a + b) er (congrArg₂ (fun f g => Cert.NormBack.long (Ideal.ofBits .f32 0x44800000#32) f g k) (funext ex) (funext fun q => ?_))
  refine (congrArg₂ (fun a b : EReal => a * b) (ct_at m c t i l hl q) (eg q)).trans ?_
  pointwise []

theorem final_dx (m : (ℓ : Loc nD τ sig) → Buf (Elt Ideal) ℓ) (c : Dev nD) : (dats m 0 c).arrAt 8 cfg0.N
    = Cert.PleGradReferenceIdeal.Local.dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  have h0 : (((View.whole main_v0_2).slice (win0_8.rect t)).emb y 0 : ℕ) = t.val * 512 + (y 0 : ℕ) := by
    change ((((cfg0.win 8).blk t).view.emb y 0 : Fin _) : ℕ) = _
    blk_simp [blocks t]
  have h1 : (((View.whole main_v0_2).slice (win0_8.rect t)).emb y 1 : ℕ) = (y 1 : ℕ) := by
    change ((((cfg0.win 8).blk t).view.emb y 1 : Fin _) : ℕ) = _
    blk_simp [blocks t]
  by_cases h : t.val % 16 = 0
  · rw [outsAt0_A m c t h]
    dsimp only
    frame_out
    exact dx_block m c t y _ h0 h1
  · rw [outsAt0_B m c t h]
    dsimp only
    frame_out
    exact dx_block m c t y _ h0 h1

theorem final_dg (m : (ℓ : Loc nD τ sig) → Buf (Elt Ideal) ℓ) (c : Dev nD) : (dats m 0 c).arrAt 9 cfg0.N
    = Cert.PleGradReferenceIdeal.Local.dg (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_after_last 9 t0_15 (by decide +kernel) _ fun j => ?_
  blk_simp
  rw [after0_9, Pipeline.eq_sum_fin_of_reset_step_apply_last (fun n h => (outsAt0 m c n h).2.2.2) 16 (fun _ => 0) _
    (fun t h j => by rw [outsAt0_A m c t h]; dsimp only; frame_out; rw [step, start])
    (fun t h j => by rw [outsAt0_B m c t h]; dsimp only; frame_out; rw [step])
    (le_of_eq N_0) t0_15 rfl j, zero_add]
  refine Eq.trans ?_ (Cert.PleGradReferenceIdeal.Local.gain_at _ _ j).symm
  refine Fin.sum_mul_add_congr fun s k hl => ?_
  refine congrArg₂ (fun a b : EReal => a * b) (ct_at m c s k ⟨_, hl⟩ rfl _) (congrArg₂ (fun a b : EReal => a * b) ?_ (congrArg (fun f => Ideal.rsqrt (Cert.NormBack.mean (Ideal.ofBits .f32 0x44800000#32) f)) (funext fun q => ?_)))
  · blk_point [iblk, V, blocks s]
  · blk_point [iblk, V, blocks s]

/-- Kernel and reference, from memories that hold the same arrays. -/
theorem same (m : (ℓ : Loc nD τ sig) → Buf (Elt Ideal) ℓ) (g : Dev nD → PrngReg)
    (m' : (ℓ : Loc Cert.PleGradReferenceIdeal.nD Cert.PleGradReferenceIdeal.τ Cert.PleGradReferenceIdeal.sig) → Buf (Elt Ideal) ℓ) (g' : Dev Cert.PleGradReferenceIdeal.nD → PrngReg)
    (hm : ∀ c : Dev nD,
      m' ((c.tc : Thread Cert.PleGradReferenceIdeal.nD Cert.PleGradReferenceIdeal.τ).loc Cert.PleGradReferenceIdeal.main_arg0) = m ((c.tc : Thread nD τ).loc main_arg0)
      ∧ m' ((c.tc : Thread Cert.PleGradReferenceIdeal.nD Cert.PleGradReferenceIdeal.τ).loc Cert.PleGradReferenceIdeal.main_arg1) = m ((c.tc : Thread nD τ).loc main_arg1)
      ∧ m' ((c.tc : Thread Cert.PleGradReferenceIdeal.nD Cert.PleGradReferenceIdeal.τ).loc Cert.PleGradReferenceIdeal.main_arg2) = m ((c.tc : Thread nD τ).loc main_arg2)
      ∧ m' ((c.tc : Thread Cert.PleGradReferenceIdeal.nD Cert.PleGradReferenceIdeal.τ).loc Cert.PleGradReferenceIdeal.main_arg3) = m ((c.tc : Thread nD τ).loc main_arg3)
      ∧ m' ((c.tc : Thread Cert.PleGradReferenceIdeal.nD Cert.PleGradReferenceIdeal.τ).loc Cert.PleGradReferenceIdeal.main_arg4) = m ((c.tc : Thread nD τ).loc main_arg4)
      ∧ m' ((c.tc : Thread Cert.PleGradReferenceIdeal.nD Cert.PleGradReferenceIdeal.τ).loc Cert.PleGradReferenceIdeal.main_arg5) = m ((c.tc : Thread nD τ).loc main_arg5)) :
    ∃ (v0 : (c : Dev nD) → Buf (Elt Ideal) ((c.tc : Thread nD τ).loc main_v0_0)) (v1 : (c : Dev nD) → Buf (Elt Ideal) ((c.tc : Thread nD τ).loc main_v0_1)) (v2 : (c : Dev nD) → Buf (Elt Ideal) ((c.tc : Thread nD τ).loc main_v0_2)) (v3 : (c : Dev nD) → Buf (Elt Ideal) ((c.tc : Thread nD τ).loc main_v0_3)),
      θ_run (defs (F := Ideal)) (onTc (τ := τ) (main (F := Ideal))) ⟨m, fun _ => 0, g⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_v0_2) = v2 c
          ∧ r.2.mem ((c.tc : Thread nD τ).loc main_v0_3) = v3 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5))
      ∧ θ_run (Cert.PleGradReferenceIdeal.defs (F := Ideal)) (onTc (τ := Cert.PleGradReferenceIdeal.τ) (Cert.PleGradReferenceIdeal.main (F := Ideal))) ⟨m', fun _ => 0, g'⟩ (fun r => ∀ c : Dev Cert.PleGradReferenceIdeal.nD,
          r.2.mem ((c.tc : Thread Cert.PleGradReferenceIdeal.nD Cert.PleGradReferenceIdeal.τ).loc Cert.PleGradReferenceIdeal.main_v50) = v0 c
          ∧ r.2.mem ((c.tc : Thread Cert.PleGradReferenceIdeal.nD Cert.PleGradReferenceIdeal.τ).loc Cert.PleGradReferenceIdeal.main_v51) = v1 c
          ∧ r.2.mem ((c.tc : Thread Cert.PleGradReferenceIdeal.nD Cert.PleGradReferenceIdeal.τ).loc Cert.PleGradReferenceIdeal.main_v52) = v2 c
          ∧ r.2.mem ((c.tc : Thread Cert.PleGradReferenceIdeal.nD Cert.PleGradReferenceIdeal.τ).loc Cert.PleGradReferenceIdeal.main_v33) = v3 c
          ∧ r.2.mem ((c.tc : Thread Cert.PleGradReferenceIdeal.nD Cert.PleGradReferenceIdeal.τ).loc Cert.PleGradReferenceIdeal.main_arg0) = m' ((c.tc : Thread Cert.PleGradReferenceIdeal.nD Cert.PleGradReferenceIdeal.τ).loc Cert.PleGradReferenceIdeal.main_arg0)
          ∧ r.2.mem ((c.tc : Thread Cert.PleGradReferenceIdeal.nD Cert.PleGradReferenceIdeal.τ).loc Cert.PleGradReferenceIdeal.main_arg1) = m' ((c.tc : Thread Cert.PleGradReferenceIdeal.nD Cert.PleGradReferenceIdeal.τ).loc Cert.PleGradReferenceIdeal.main_arg1)
          ∧ r.2.mem ((c.tc : Thread Cert.PleGradReferenceIdeal.nD Cert.PleGradReferenceIdeal.τ).loc Cert.PleGradReferenceIdeal.main_arg2) = m' ((c.tc : Thread Cert.PleGradReferenceIdeal.nD Cert.PleGradReferenceIdeal.τ).loc Cert.PleGradReferenceIdeal.main_arg2)
          ∧ r.2.mem ((c.tc : Thread Cert.PleGradReferenceIdeal.nD Cert.PleGradReferenceIdeal.τ).loc Cert.PleGradReferenceIdeal.main_arg3) = m' ((c.tc : Thread Cert.PleGradReferenceIdeal.nD Cert.PleGradReferenceIdeal.τ).loc Cert.PleGradReferenceIdeal.main_arg3)
          ∧ r.2.mem ((c.tc : Thread Cert.PleGradReferenceIdeal.nD Cert.PleGradReferenceIdeal.τ).loc Cert.PleGradReferenceIdeal.main_arg4) = m' ((c.tc : Thread Cert.PleGradReferenceIdeal.nD Cert.PleGradReferenceIdeal.τ).loc Cert.PleGradReferenceIdeal.main_arg4)
          ∧ r.2.mem ((c.tc : Thread Cert.PleGradReferenceIdeal.nD Cert.PleGradReferenceIdeal.τ).loc Cert.PleGradReferenceIdeal.main_arg5) = m' ((c.tc : Thread Cert.PleGradReferenceIdeal.nD Cert.PleGradReferenceIdeal.τ).loc Cert.PleGradReferenceIdeal.main_arg5)) := by
  refine ⟨fun c => (dats m 0 c).arrAt 6 cfg0.N, fun c => (dats m 0 c).arrAt 7 cfg0.N, fun c => (dats m 0 c).arrAt 8 cfg0.N, fun c => (dats m 0 c).arrAt 9 cfg0.N, ?_,
    (θ_run _ _ _).mono (fun r h c => ?_) (Cert.PleGradReferenceIdeal.Value.run m' g')⟩
  · exact (θ_run defs _ _).mono (fun r h c => ⟨(h c).1 6, (h c).1 7, (h c).1 8, (h c).1 9, ((h c).1 0).trans ((dats m 0 c).arrAt_in 0 rfl _), ((h c).1 1).trans ((dats m 0 c).arrAt_in 1 rfl _), ((h c).1 2).trans ((dats m 0 c).arrAt_in 2 rfl _), ((h c).1 3).trans ((dats m 0 c).arrAt_in 3 rfl _), ((h c).1 4).trans ((dats m 0 c).arrAt_in 4 rfl _), ((h c).1 5).trans ((dats m 0 c).arrAt_in 5 rfl _)⟩) (run_main m g)
  obtain ⟨h0, h1, h2, h3, hk⟩ := h c
  obtain ⟨e0, e1, e2, e3, e4, e5⟩ := hm c
  unfold Cert.PleGradReferenceIdeal.Value.res_main_v52 at h2
  rw [e0, e2] at h0
  rw [e0, e2, e3] at h1
  rw [e0, e1, e2, e3, e4, e5] at h2
  rw [e0, e1, e2, e3, e5] at h3
  exact ⟨h0.trans (final_dpe m c).symm, h1.trans (final_dpg m c).symm, h2.trans (final_dx m c).symm, h3.trans (final_dg m c).symm, hk⟩

end Cert.PleGradIdeal.Local

end
-- ==== Proof.FfnInGradValue.lean ====
/-
# The gradient of the norm before the feed-forward block

Each point of the grid multiplies its rows of the two cotangents by the transposes of the two weights, adds the products and takes the sum
back through the norm. The kernel's form of the norm's gradient is not the reference's: NormBack has why they are the same.
-/
module

public import proofs.«01_k».proof.Proof.Gen.FfnInGradIdeal.Frame
public import proofs.«01_k».proof.Proof.Gen.FfnInGradReferenceIdeal.Run
public import proofs.«01_k».proof.Proof.NormBack
public import Idealize.ShloMosaic.Lib.Pipeline.ValueKit

@[expose] public section

set_option maxRecDepth 16384

noncomputable section

open Idealize.ShloMosaic Idealize.ShloMosaic.TcCoe Idealize.SL.Sem

namespace Cert.FfnInGradReferenceIdeal.Local

open Cert.FfnInGradReferenceIdeal Cert.FfnInGradReferenceIdeal.Gen

/-- The gradient of the norm of the rows `x`, from the cotangent `d` after the gain. -/
abbrev back (x d : FVec Ideal S8192x1024 .f32) : FVec Ideal S8192x1024 .f32 :=
  addf (addf (mulf d (broadcastInDim S8192x1024 ![0, 1] bcast_S8192x1_S8192x1024_0_1 (Host.rsqrt (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (mulf x (broadcastInDim S8192x1024 ![0] bcast_S8192_S8192x1024_0 (Host.reduceAdd (Host.divf (mulf (shapeCast _ (Host.reduceAdd (mulf x d) (constant (F := Ideal) S_ .f32 0x00000000#32) reducesTo_S8192x1024_S8192_d1 h_S_) shapeCasts_S8192_S8192x1) (mulf (broadcastInDim S8192x1 ![] bcast_S_S8192x1 (constant (F := Ideal) S_ .f32 0xBF000000#32)) (Host.divf (Host.rsqrt (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))) (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1 ![] bcast_S_S8192x1 (constant (F := Ideal) S_ .f32 0x44800000#32))) (constant (F := Ideal) S_ .f32 0x00000000#32) reducesTo_S8192x1_S8192_d1 h_S_)))) (mulf (broadcastInDim S8192x1024 ![0] bcast_S8192_S8192x1024_0 (Host.reduceAdd (Host.divf (mulf (shapeCast _ (Host.reduceAdd (mulf x d) (constant (F := Ideal) S_ .f32 0x00000000#32) reducesTo_S8192x1024_S8192_d1 h_S_) shapeCasts_S8192_S8192x1) (mulf (broadcastInDim S8192x1 ![] bcast_S_S8192x1 (constant (F := Ideal) S_ .f32 0xBF000000#32)) (Host.divf (Host.rsqrt (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))) (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1 ![] bcast_S_S8192x1 (constant (F := Ideal) S_ .f32 0x44800000#32))) (constant (F := Ideal) S_ .f32 0x00000000#32) reducesTo_S8192x1_S8192_d1 h_S_)) x)

theorem back_at (x d : FVec Ideal S8192x1024 .f32) (i : Fin 8192) (j : Fin 1024) :
    back x d (ix2 i j) = Cert.NormBack.long (Ideal.ofBits .f32 0x44800000#32) (fun k => x (ix2 i k)) (fun k => d (ix2 i k)) j := by
  pointwise [back, Cert.NormBack.long, Cert.NormBack.inner, Cert.NormBack.mean]
  simp only [Fin.sum_univ_one]

/-- The gradient of the gain, from the rows `x` and the cotangent `d` of the norm. -/
abbrev gain (x d : FVec Ideal S8192x1024 .f32) : FVec Ideal S1x1024 .f32 :=
  shapeCast _ (Host.reduceAdd (mulf (mulf x (broadcastInDim S8192x1024 ![0, 1] bcast_S8192x1_S8192x1024_0_1 (Host.rsqrt (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) d) (constant (F := Ideal) S_ .f32 0x00000000#32) reducesTo_S8192x1024_S1024_d0 h_S_) shapeCasts_S1024_S1x1024

theorem gain_at (x d : FVec Ideal S8192x1024 .f32) (j : S1x1024.Idx) :
    gain x d j = ∑ l : Fin 8192, d (ix2 l (j 1)) * (x (ix2 l (j 1)) * Ideal.rsqrt (Cert.NormBack.mean (Ideal.ofBits .f32 0x44800000#32) fun k => x (ix2 l k))) := by
  pointwise [gain, Cert.NormBack.mean]
  exact Finset.sum_congr rfl fun l _ => mul_comm _ _

/-- The cotangent of the norm. -/
def ct (x0 x1 : FVec Ideal S8192x2816 .bf16) (x2 x3 : FVec Ideal S1024x2816 .bf16) : FVec Ideal S8192x1024 .f32 :=
  addf (Host.dotGeneral dot_S8192x2816_S1024x2816_S8192x1024_1_1_0_0_n_n none (extf .f32 x1 bitsLt_bf16_f32) (extf .f32 x3 bitsLt_bf16_f32)) (Host.dotGeneral dot_S8192x2816_S1024x2816_S8192x1024_1_1_0_0_n_n none (extf .f32 x0 bitsLt_bf16_f32) (extf .f32 x2 bitsLt_bf16_f32))

/-- The gradient of the rows. -/
abbrev dx (x0 x1 : FVec Ideal S8192x2816 .bf16) (x2 x3 : FVec Ideal S1024x2816 .bf16) (x4 : FVec Ideal S8192x1024 .f32) (x5 : FVec Ideal S1x1024 .f32) (x6 : FVec Ideal S8192x1024 .f32) : FVec Ideal S8192x1024 .f32 :=
  addf x6 (back x4 (mulf (ct x0 x1 x2 x3) (broadcastInDim S8192x1024 ![0, 1] bcast_S1x1024_S8192x1024_0_1 x5)))

/-- The gradient of the gain. -/
abbrev dg (x0 x1 : FVec Ideal S8192x2816 .bf16) (x2 x3 : FVec Ideal S1024x2816 .bf16) (x4 : FVec Ideal S8192x1024 .f32) : FVec Ideal S1x1024 .f32 :=
  gain x4 (ct x0 x1 x2 x3)

end Cert.FfnInGradReferenceIdeal.Local

namespace Cert.FfnInGradIdeal.Local

open Cert.FfnInGradIdeal Cert.FfnInGradIdeal.Gen

/-- The blocks of the windows at a point of the grid. -/
theorem blocks : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![0, 0] ∧ win0_6.index t = ![t.val, 0] ∧ win0_7.index t = ![t.val, 0] ∧ win0_8.index t = ![0, 0] :=
  (by decide +kernel : ∀ t : Fin grid0.N, _)

theorem grad_at (v0 : FVec Ideal S512x2816 .bf16) (v1 : FVec Ideal S1024x2816 .bf16) (v3 : FVec Ideal S512x2816 .bf16) (v4 : FVec Ideal S1024x2816 .bf16) (v7 : FVec Ideal S512x1024 .f32) (v8 : FVec Ideal S1x1024 .f32) (v34 : FVec Ideal S512x1024 .f32) (i : Fin 512) (j : Fin 1024) :
    k0_pay7 (F := Ideal) v0 v1 v3 v4 v7 v8 v34 (ix2 i j)
      = v34 (ix2 i j) + Cert.NormBack.long (Ideal.ofBits .f32 0x44800000#32) (fun k => v7 (ix2 i k)) (fun k => k0_pay3 (F := Ideal) v0 v1 v3 v4 (ix2 i k) * v8 (ix2 0 k)) j := by
  rw [← Cert.NormBack.short_eq_long _ 1024 (by norm_num) Cert.Words.w1024]
  pointwise [k0_pay7, k0_pay5, k0_pay4, Cert.NormBack.short, Cert.NormBack.mean]

theorem start (j : S1x1024.Idx) : k0_pay1 (F := Ideal) j = 0 := by
  pointwise [k0_pay1]

theorem step (v0 : FVec Ideal S512x2816 .bf16) (v1 : FVec Ideal S1024x2816 .bf16) (v3 : FVec Ideal S512x2816 .bf16) (v4 : FVec Ideal S1024x2816 .bf16) (v7 : FVec Ideal S512x1024 .f32) (acc : FVec Ideal S1x1024 .f32) (j : S1x1024.Idx) :
    k0_pay2 (k0_pay6 v0 v1 v3 v4 v7) acc j
      = acc j + ∑ l : Fin 512, k0_pay3 (F := Ideal) v0 v1 v3 v4 (ix2 l (j 1)) * (v7 (ix2 l (j 1)) * Ideal.rsqrt (Cert.NormBack.mean (Ideal.ofBits .f32 0x44800000#32) fun k => v7 (ix2 l k))) := by
  pointwise [k0_pay2, k0_pay6, k0_pay5, k0_pay4, Cert.NormBack.mean]

/-- The kernel's two products at a row of a block are the reference's at that row of the arrays. -/
theorem ct_at (m : (ℓ : Loc nD τ sig) → Buf (Elt Ideal) ℓ) (c : Dev nD) (t : Fin cfg0.N) (i : Fin 512) (l : Fin 8192) (hl : l.val = t.val * 512 + i.val) (k : Fin 1024) :
    k0_pay3 (iblk m c 0 t) (iblk m c 2 t) (iblk m c 1 t) (iblk m c 3 t) (ix2 i k)
      = Cert.FfnInGradReferenceIdeal.Local.ct (m ((c : Thread nD τ).loc main_arg0)) (m ((c : Thread nD τ).loc main_arg1)) (m ((c : Thread nD τ).loc main_arg2)) (m ((c : Thread nD τ).loc main_arg3)) (ix2 l k) := by
  pointwise [k0_pay3, Cert.FfnInGradReferenceIdeal.Local.ct]
  rw [add_comm]
  blk_point [iblk, V, blocks t]

/-- The gradient of the rows, at a row of a block. -/
theorem dx_block (m : (ℓ : Loc nD τ sig) → Buf (Elt Ideal) ℓ) (c : Dev nD) (t : Fin cfg0.N) (y : S512x1024.Idx) (z : S8192x1024.Idx)
    (h0 : (z 0).val = t.val * 512 + (y 0).val) (h1 : (z 1).val = (y 1).val) :
    k0_pay7 (F := Ideal) (iblk m c 0 t) (iblk m c 2 t) (iblk m c 1 t) (iblk m c 3 t) (iblk m c 4 t) (iblk m c 5 t) (iblk m c 6 t) y
      = Cert.FfnInGradReferenceIdeal.Local.dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) z := by
  obtain ⟨i, j, rfl⟩ : ∃ (i : Fin 512) (j : Fin 1024), y = ix2 i j := ⟨y 0, y 1, eq_ix2 y⟩
  obtain ⟨l, k, rfl⟩ : ∃ (l : Fin 8192) (k : Fin 1024), z = ix2 l k := ⟨z 0, z 1, eq_ix2 z⟩
  have hl : l.val = t.val * 512 + i.val := h0
  obtain rfl : k = j := Fin.ext h1
  have ex : ∀ k : Fin 1024, iblk m c 4 t (ix2 i k) = m ((c : Thread nD τ).loc main_arg4) (ix2 l k) := fun k => by
    blk_point [iblk, V, blocks t]
  have eg : ∀ k : Fin 1024, iblk m c 5 t (ix2 0 k) = m ((c : Thread nD τ).loc main_arg5) (ix2 0 k) := fun k => by
    blk_point [iblk, V, blocks t]
  have er : iblk m c 6 t (ix2 i k) = m ((c : Thread nD τ).loc main_arg6) (ix2 l k) := by
    blk_point [iblk, V, blocks t]
  refine (grad_at _ _ _ _ _ _ _ i k).trans ?_
  refine Eq.trans ?_ (congrArg₂ (fun a b : EReal => a + b) rfl (Cert.FfnInGradReferenceIdeal.Local.back_at _ _ l k).symm)
  refine congrArg₂ (fun a b : EReal => a + b) er (congrArg₂ (fun f g => Cert.NormBack.long (Ideal.ofBits .f32 0x44800000#32) f g k) (funext ex) (funext fun q => ?_))
  refine (congrArg₂ (fun a b : EReal => a * b) (ct_at m c t i l hl q) (eg q)).trans ?_
  pointwise []

theorem final_dx (m : (ℓ : Loc nD τ sig) → Buf (Elt Ideal) ℓ) (c : Dev nD) : (dats m 0 c).arrAt 7 cfg0.N
    = Cert.FfnInGradReferenceIdeal.Local.dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  have h0 : (((View.whole main_v0_0).slice (win0_7.rect t)).emb y 0 : ℕ) = t.val * 512 + (y 0 : ℕ) := by
    change ((((cfg0.win 7).blk t).view.emb y 0 : Fin _) : ℕ) = _
    blk_simp [blocks t]
  have h1 : (((View.whole main_v0_0).slice (win0_7.rect t)).emb y 1 : ℕ) = (y 1 : ℕ) := by
    change ((((cfg0.win 7).blk t).view.emb y 1 : Fin _) : ℕ) = _
    blk_simp [blocks t]
  by_cases h : t.val % 16 = 0
  · rw [outsAt0_A m c t h]
    dsimp only
    frame_out
    exact dx_block m c t y _ h0 h1
  · rw [outsAt0_B m c t h]
    dsimp only
    frame_out
    exact dx_block m c t y _ h0 h1

theorem final_dg (m : (ℓ : Loc nD τ sig) → Buf (Elt Ideal) ℓ) (c : Dev nD) : (dats m 0 c).arrAt 8 cfg0.N
    = Cert.FfnInGradReferenceIdeal.Local.dg (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 8 t0_15 (by decide +kernel) _ fun j => ?_
  blk_simp
  rw [after0_8, Pipeline.eq_sum_fin_of_reset_step_apply_last (fun n h => (outsAt0 m c n h).2) 16 (fun _ => 0) _
    (fun t h j => by rw [outsAt0_A m c t h]; dsimp only; frame_out; rw [step, start])
    (fun t h j => by rw [outsAt0_B m c t h]; dsimp only; frame_out; rw [step])
    (le_of_eq N_0) t0_15 rfl j, zero_add]
  refine Eq.trans ?_ (Cert.FfnInGradReferenceIdeal.Local.gain_at _ _ j).symm
  refine Fin.sum_mul_add_congr fun s k hl => ?_
  refine congrArg₂ (fun a b : EReal => a * b) (ct_at m c s k ⟨_, hl⟩ rfl _) (congrArg₂ (fun a b : EReal => a * b) ?_ (congrArg (fun f => Ideal.rsqrt (Cert.NormBack.mean (Ideal.ofBits .f32 0x44800000#32) f)) (funext fun q => ?_)))
  · blk_point [iblk, V, blocks s]
  · blk_point [iblk, V, blocks s]

/-- Kernel and reference, from memories that hold the same arrays. -/
theorem same (m : (ℓ : Loc nD τ sig) → Buf (Elt Ideal) ℓ) (g : Dev nD → PrngReg)
    (m' : (ℓ : Loc Cert.FfnInGradReferenceIdeal.nD Cert.FfnInGradReferenceIdeal.τ Cert.FfnInGradReferenceIdeal.sig) → Buf (Elt Ideal) ℓ) (g' : Dev Cert.FfnInGradReferenceIdeal.nD → PrngReg)
    (hm : ∀ c : Dev nD,
      m' ((c.tc : Thread Cert.FfnInGradReferenceIdeal.nD Cert.FfnInGradReferenceIdeal.τ).loc Cert.FfnInGradReferenceIdeal.main_arg0) = m ((c.tc : Thread nD τ).loc main_arg0)
      ∧ m' ((c.tc : Thread Cert.FfnInGradReferenceIdeal.nD Cert.FfnInGradReferenceIdeal.τ).loc Cert.FfnInGradReferenceIdeal.main_arg1) = m ((c.tc : Thread nD τ).loc main_arg1)
      ∧ m' ((c.tc : Thread Cert.FfnInGradReferenceIdeal.nD Cert.FfnInGradReferenceIdeal.τ).loc Cert.FfnInGradReferenceIdeal.main_arg2) = m ((c.tc : Thread nD τ).loc main_arg2)
      ∧ m' ((c.tc : Thread Cert.FfnInGradReferenceIdeal.nD Cert.FfnInGradReferenceIdeal.τ).loc Cert.FfnInGradReferenceIdeal.main_arg3) = m ((c.tc : Thread nD τ).loc main_arg3)
      ∧ m' ((c.tc : Thread Cert.FfnInGradReferenceIdeal.nD Cert.FfnInGradReferenceIdeal.τ).loc Cert.FfnInGradReferenceIdeal.main_arg4) = m ((c.tc : Thread nD τ).loc main_arg4)
      ∧ m' ((c.tc : Thread Cert.FfnInGradReferenceIdeal.nD Cert.FfnInGradReferenceIdeal.τ).loc Cert.FfnInGradReferenceIdeal.main_arg5) = m ((c.tc : Thread nD τ).loc main_arg5)
      ∧ m' ((c.tc : Thread Cert.FfnInGradReferenceIdeal.nD Cert.FfnInGradReferenceIdeal.τ).loc Cert.FfnInGradReferenceIdeal.main_arg6) = m ((c.tc : Thread nD τ).loc main_arg6)) :
    ∃ (v0 : (c : Dev nD) → Buf (Elt Ideal) ((c.tc : Thread nD τ).loc main_v0_0)) (v1 : (c : Dev nD) → Buf (Elt Ideal) ((c.tc : Thread nD τ).loc main_v0_1)),
      θ_run (defs (F := Ideal)) (onTc (τ := τ) (main (F := Ideal))) ⟨m, fun _ => 0, g⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6))
      ∧ θ_run (Cert.FfnInGradReferenceIdeal.defs (F := Ideal)) (onTc (τ := Cert.FfnInGradReferenceIdeal.τ) (Cert.FfnInGradReferenceIdeal.main (F := Ideal))) ⟨m', fun _ => 0, g'⟩ (fun r => ∀ c : Dev Cert.FfnInGradReferenceIdeal.nD,
          r.2.mem ((c.tc : Thread Cert.FfnInGradReferenceIdeal.nD Cert.FfnInGradReferenceIdeal.τ).loc Cert.FfnInGradReferenceIdeal.main_v43) = v0 c
          ∧ r.2.mem ((c.tc : Thread Cert.FfnInGradReferenceIdeal.nD Cert.FfnInGradReferenceIdeal.τ).loc Cert.FfnInGradReferenceIdeal.main_v26) = v1 c
          ∧ r.2.mem ((c.tc : Thread Cert.FfnInGradReferenceIdeal.nD Cert.FfnInGradReferenceIdeal.τ).loc Cert.FfnInGradReferenceIdeal.main_arg0) = m' ((c.tc : Thread Cert.FfnInGradReferenceIdeal.nD Cert.FfnInGradReferenceIdeal.τ).loc Cert.FfnInGradReferenceIdeal.main_arg0)
          ∧ r.2.mem ((c.tc : Thread Cert.FfnInGradReferenceIdeal.nD Cert.FfnInGradReferenceIdeal.τ).loc Cert.FfnInGradReferenceIdeal.main_arg1) = m' ((c.tc : Thread Cert.FfnInGradReferenceIdeal.nD Cert.FfnInGradReferenceIdeal.τ).loc Cert.FfnInGradReferenceIdeal.main_arg1)
          ∧ r.2.mem ((c.tc : Thread Cert.FfnInGradReferenceIdeal.nD Cert.FfnInGradReferenceIdeal.τ).loc Cert.FfnInGradReferenceIdeal.main_arg2) = m' ((c.tc : Thread Cert.FfnInGradReferenceIdeal.nD Cert.FfnInGradReferenceIdeal.τ).loc Cert.FfnInGradReferenceIdeal.main_arg2)
          ∧ r.2.mem ((c.tc : Thread Cert.FfnInGradReferenceIdeal.nD Cert.FfnInGradReferenceIdeal.τ).loc Cert.FfnInGradReferenceIdeal.main_arg3) = m' ((c.tc : Thread Cert.FfnInGradReferenceIdeal.nD Cert.FfnInGradReferenceIdeal.τ).loc Cert.FfnInGradReferenceIdeal.main_arg3)
          ∧ r.2.mem ((c.tc : Thread Cert.FfnInGradReferenceIdeal.nD Cert.FfnInGradReferenceIdeal.τ).loc Cert.FfnInGradReferenceIdeal.main_arg4) = m' ((c.tc : Thread Cert.FfnInGradReferenceIdeal.nD Cert.FfnInGradReferenceIdeal.τ).loc Cert.FfnInGradReferenceIdeal.main_arg4)
          ∧ r.2.mem ((c.tc : Thread Cert.FfnInGradReferenceIdeal.nD Cert.FfnInGradReferenceIdeal.τ).loc Cert.FfnInGradReferenceIdeal.main_arg5) = m' ((c.tc : Thread Cert.FfnInGradReferenceIdeal.nD Cert.FfnInGradReferenceIdeal.τ).loc Cert.FfnInGradReferenceIdeal.main_arg5)
          ∧ r.2.mem ((c.tc : Thread Cert.FfnInGradReferenceIdeal.nD Cert.FfnInGradReferenceIdeal.τ).loc Cert.FfnInGradReferenceIdeal.main_arg6) = m' ((c.tc : Thread Cert.FfnInGradReferenceIdeal.nD Cert.FfnInGradReferenceIdeal.τ).loc Cert.FfnInGradReferenceIdeal.main_arg6)) := by
  refine ⟨fun c => (dats m 0 c).arrAt 7 cfg0.N, fun c => (dats m 0 c).arrAt 8 cfg0.N, ?_,
    (θ_run _ _ _).mono (fun r h c => ?_) (Cert.FfnInGradReferenceIdeal.Value.run m' g')⟩
  · exact (θ_run defs _ _).mono (fun r h c => ⟨(h c).1 7, (h c).1 8, ((h c).1 0).trans ((dats m 0 c).arrAt_in 0 rfl _), ((h c).1 1).trans ((dats m 0 c).arrAt_in 1 rfl _), ((h c).1 2).trans ((dats m 0 c).arrAt_in 2 rfl _), ((h c).1 3).trans ((dats m 0 c).arrAt_in 3 rfl _), ((h c).1 4).trans ((dats m 0 c).arrAt_in 4 rfl _), ((h c).1 5).trans ((dats m 0 c).arrAt_in 5 rfl _), ((h c).1 6).trans ((dats m 0 c).arrAt_in 6 rfl _)⟩) (run_main m g)
  obtain ⟨h0, h1, hk⟩ := h c
  obtain ⟨e0, e1, e2, e3, e4, e5, e6⟩ := hm c
  unfold Cert.FfnInGradReferenceIdeal.Value.res_main_v43 at h0
  rw [e0, e1, e2, e3, e4, e5, e6] at h0
  rw [e0, e1, e2, e3, e4] at h1
  exact ⟨h0.trans (final_dx m c).symm, h1.trans (final_dg m c).symm, hk⟩

end Cert.FfnInGradIdeal.Local

end
-- ==== Proof.MixOutGradValue.lean ====
/-
# The gradient of the projection out of the mixers

Each point of the grid takes its rows of the cotangent back through the norm, multiplies them by the transpose of the weight and takes the
two halves of the product back through their norms. The kernel's form of the norm's gradient is not the reference's: NormBack has why
they are the same.
-/
module

public import proofs.«01_k».proof.Proof.Gen.MixOutGradIdeal.Frame
public import proofs.«01_k».proof.Proof.Gen.MixOutGradReferenceIdeal.Run
public import proofs.«01_k».proof.Proof.NormBack
public import Idealize.ShloMosaic.Lib.Pipeline.ValueKit

@[expose] public section

set_option maxRecDepth 16384

noncomputable section

open Idealize.ShloMosaic Idealize.ShloMosaic.TcCoe Idealize.SL.Sem

namespace Cert.MixOutGradReferenceIdeal.Local

open Cert.MixOutGradReferenceIdeal Cert.MixOutGradReferenceIdeal.Gen

/-- The gradient of the norm of the rows `x`, from the cotangent `d` after the gain. -/
abbrev back (x d : FVec Ideal S8192x1024 .f32) : FVec Ideal S8192x1024 .f32 :=
  addf (addf (mulf d (broadcastInDim S8192x1024 ![0, 1] bcast_S8192x1_S8192x1024_0_1 (Host.rsqrt (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (mulf x (broadcastInDim S8192x1024 ![0] bcast_S8192_S8192x1024_0 (Host.reduceAdd (Host.divf (mulf (shapeCast _ (Host.reduceAdd (mulf x d) (constant (F := Ideal) S_ .f32 0x00000000#32) reducesTo_S8192x1024_S8192_d1 h_S_) shapeCasts_S8192_S8192x1) (mulf (broadcastInDim S8192x1 ![] bcast_S_S8192x1 (constant (F := Ideal) S_ .f32 0xBF000000#32)) (Host.divf (Host.rsqrt (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))) (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1 ![] bcast_S_S8192x1 (constant (F := Ideal) S_ .f32 0x44800000#32))) (constant (F := Ideal) S_ .f32 0x00000000#32) reducesTo_S8192x1_S8192_d1 h_S_)))) (mulf (broadcastInDim S8192x1024 ![0] bcast_S8192_S8192x1024_0 (Host.reduceAdd (Host.divf (mulf (shapeCast _ (Host.reduceAdd (mulf x d) (constant (F := Ideal) S_ .f32 0x00000000#32) reducesTo_S8192x1024_S8192_d1 h_S_) shapeCasts_S8192_S8192x1) (mulf (broadcastInDim S8192x1 ![] bcast_S_S8192x1 (constant (F := Ideal) S_ .f32 0xBF000000#32)) (Host.divf (Host.rsqrt (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))) (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1 ![] bcast_S_S8192x1 (constant (F := Ideal) S_ .f32 0x44800000#32))) (constant (F := Ideal) S_ .f32 0x00000000#32) reducesTo_S8192x1_S8192_d1 h_S_)) x)

theorem back_at (x d : FVec Ideal S8192x1024 .f32) (i : Fin 8192) (j : Fin 1024) :
    back x d (ix2 i j) = Cert.NormBack.long (Ideal.ofBits .f32 0x44800000#32) (fun k => x (ix2 i k)) (fun k => d (ix2 i k)) j := by
  pointwise [back, Cert.NormBack.long, Cert.NormBack.inner, Cert.NormBack.mean]
  simp only [Fin.sum_univ_one]

/-- The gradient of the gain, from the rows `x` and the cotangent `d` of the norm. -/
abbrev gain (x d : FVec Ideal S8192x1024 .f32) : FVec Ideal S1x1024 .f32 :=
  shapeCast _ (Host.reduceAdd (mulf (mulf x (broadcastInDim S8192x1024 ![0, 1] bcast_S8192x1_S8192x1024_0_1 (Host.rsqrt (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) d) (constant (F := Ideal) S_ .f32 0x00000000#32) reducesTo_S8192x1024_S1024_d0 h_S_) shapeCasts_S1024_S1x1024

theorem gain_at (x d : FVec Ideal S8192x1024 .f32) (j : S1x1024.Idx) :
    gain x d j = ∑ l : Fin 8192, d (ix2 l (j 1)) * (x (ix2 l (j 1)) * Ideal.rsqrt (Cert.NormBack.mean (Ideal.ofBits .f32 0x44800000#32) fun k => x (ix2 l k))) := by
  pointwise [gain, Cert.NormBack.mean]
  exact Finset.sum_congr rfl fun l _ => mul_comm _ _

/-- The gradient of the norm of the rows of one half, from the cotangent `d` after the gain. -/
abbrev halfBack (x d : FVec Ideal S8192x512 .f32) : FVec Ideal S8192x512 .f32 :=
  addf (addf (mulf d (broadcastInDim S8192x512 ![0, 1] bcast_S8192x1_S8192x512_0_1 (Host.rsqrt (addf (Host.divf (broadcastInDim S8192x1 ![0] bcast_S8192_S8192x1_0 (Host.reduceAdd (mulf x x) (constant (F := Ideal) S_ .f32 0x00000000#32) reducesTo_S8192x512_S8192_d1 h_S_)) (broadcastInDim S8192x1 ![] bcast_S_S8192x1 (constant (F := Ideal) S_ .f32 0x44000000#32))) (broadcastInDim S8192x1 ![] bcast_S_S8192x1 (constant (F := Ideal) S_ .f32 0x358637BD#32)))))) (mulf x (broadcastInDim S8192x512 ![0] bcast_S8192_S8192x512_0 (Host.reduceAdd (Host.divf (mulf (shapeCast _ (Host.reduceAdd (mulf x d) (constant (F := Ideal) S_ .f32 0x00000000#32) reducesTo_S8192x512_S8192_d1 h_S_) shapeCasts_S8192_S8192x1) (mulf (broadcastInDim S8192x1 ![] bcast_S_S8192x1 (constant (F := Ideal) S_ .f32 0xBF000000#32)) (Host.divf (Host.rsqrt (addf (Host.divf (broadcastInDim S8192x1 ![0] bcast_S8192_S8192x1_0 (Host.reduceAdd (mulf x x) (constant (F := Ideal) S_ .f32 0x00000000#32) reducesTo_S8192x512_S8192_d1 h_S_)) (broadcastInDim S8192x1 ![] bcast_S_S8192x1 (constant (F := Ideal) S_ .f32 0x44000000#32))) (broadcastInDim S8192x1 ![] bcast_S_S8192x1 (constant (F := Ideal) S_ .f32 0x358637BD#32)))) (addf (Host.divf (broadcastInDim S8192x1 ![0] bcast_S8192_S8192x1_0 (Host.reduceAdd (mulf x x) (constant (F := Ideal) S_ .f32 0x00000000#32) reducesTo_S8192x512_S8192_d1 h_S_)) (broadcastInDim S8192x1 ![] bcast_S_S8192x1 (constant (F := Ideal) S_ .f32 0x44000000#32))) (broadcastInDim S8192x1 ![] bcast_S_S8192x1 (constant (F := Ideal) S_ .f32 0x358637BD#32)))))) (broadcastInDim S8192x1 ![] bcast_S_S8192x1 (constant (F := Ideal) S_ .f32 0x44000000#32))) (constant (F := Ideal) S_ .f32 0x00000000#32) reducesTo_S8192x1_S8192_d1 h_S_)))) (mulf (broadcastInDim S8192x512 ![0] bcast_S8192_S8192x512_0 (Host.reduceAdd (Host.divf (mulf (shapeCast _ (Host.reduceAdd (mulf x d) (constant (F := Ideal) S_ .f32 0x00000000#32) reducesTo_S8192x512_S8192_d1 h_S_) shapeCasts_S8192_S8192x1) (mulf (broadcastInDim S8192x1 ![] bcast_S_S8192x1 (constant (F := Ideal) S_ .f32 0xBF000000#32)) (Host.divf (Host.rsqrt (addf (Host.divf (broadcastInDim S8192x1 ![0] bcast_S8192_S8192x1_0 (Host.reduceAdd (mulf x x) (constant (F := Ideal) S_ .f32 0x00000000#32) reducesTo_S8192x512_S8192_d1 h_S_)) (broadcastInDim S8192x1 ![] bcast_S_S8192x1 (constant (F := Ideal) S_ .f32 0x44000000#32))) (broadcastInDim S8192x1 ![] bcast_S_S8192x1 (constant (F := Ideal) S_ .f32 0x358637BD#32)))) (addf (Host.divf (broadcastInDim S8192x1 ![0] bcast_S8192_S8192x1_0 (Host.reduceAdd (mulf x x) (constant (F := Ideal) S_ .f32 0x00000000#32) reducesTo_S8192x512_S8192_d1 h_S_)) (broadcastInDim S8192x1 ![] bcast_S_S8192x1 (constant (F := Ideal) S_ .f32 0x44000000#32))) (broadcastInDim S8192x1 ![] bcast_S_S8192x1 (constant (F := Ideal) S_ .f32 0x358637BD#32)))))) (broadcastInDim S8192x1 ![] bcast_S_S8192x1 (constant (F := Ideal) S_ .f32 0x44000000#32))) (constant (F := Ideal) S_ .f32 0x00000000#32) reducesTo_S8192x1_S8192_d1 h_S_)) x)

theorem halfBack_at (x d : FVec Ideal S8192x512 .f32) (i : Fin 8192) (j : Fin 512) :
    halfBack x d (ix2 i j) = Cert.NormBack.long (Ideal.ofBits .f32 0x44000000#32) (fun k => x (ix2 i k)) (fun k => d (ix2 i k)) j := by
  pointwise [halfBack, Cert.NormBack.long, Cert.NormBack.inner, Cert.NormBack.mean]
  simp only [Fin.sum_univ_one]

/-- The gradient of the gain, in one half, from the rows `x` and the cotangent `d` of the norm. -/
abbrev halfGain (x d : FVec Ideal S8192x512 .f32) : FVec Ideal S1x512 .f32 :=
  shapeCast _ (Host.reduceAdd (mulf (mulf x (broadcastInDim S8192x512 ![0, 1] bcast_S8192x1_S8192x512_0_1 (Host.rsqrt (addf (Host.divf (broadcastInDim S8192x1 ![0] bcast_S8192_S8192x1_0 (Host.reduceAdd (mulf x x) (constant (F := Ideal) S_ .f32 0x00000000#32) reducesTo_S8192x512_S8192_d1 h_S_)) (broadcastInDim S8192x1 ![] bcast_S_S8192x1 (constant (F := Ideal) S_ .f32 0x44000000#32))) (broadcastInDim S8192x1 ![] bcast_S_S8192x1 (constant (F := Ideal) S_ .f32 0x358637BD#32)))))) d) (constant (F := Ideal) S_ .f32 0x00000000#32) reducesTo_S8192x512_S512_d0 h_S_) shapeCasts_S512_S1x512

theorem halfGain_at (x d : FVec Ideal S8192x512 .f32) (j : S1x512.Idx) :
    halfGain x d j = ∑ l : Fin 8192, d (ix2 l (j 1)) * (x (ix2 l (j 1)) * Ideal.rsqrt (Cert.NormBack.mean (Ideal.ofBits .f32 0x44000000#32) fun k => x (ix2 l k))) := by
  pointwise [halfGain, Cert.NormBack.mean]
  exact Finset.sum_congr rfl fun l _ => mul_comm _ _

/-- The first half of the columns. -/
abbrev lo (x : FVec Ideal S8192x1024 .f32) : FVec Ideal S8192x512 .f32 :=
  extractStridedSlice S8192x512 ![0, 0] x slices_S8192x1024_S8192x512_0_0

/-- The second half of the columns. -/
abbrev hi (x : FVec Ideal S8192x1024 .f32) : FVec Ideal S8192x512 .f32 :=
  extractStridedSlice S8192x512 ![0, 512] x slices_S8192x1024_S8192x512_0_512

/-- The gradient of the projection, not rounded. -/
def dm (x0 x1 : FVec Ideal S8192x1024 .f32) (x2 : FVec Ideal S1x1024 .f32) : FVec Ideal S8192x1024 .f32 :=
  back x1 (mulf x0 (broadcastInDim S8192x1024 ![0, 1] bcast_S1x1024_S8192x1024_0_1 x2))

/-- The cotangent of the two norms. -/
def heads (x0 x1 : FVec Ideal S8192x1024 .f32) (x2 : FVec Ideal S1x1024 .f32) (x3 : FVec Ideal S1024x1024 .bf16) : FVec Ideal S8192x1024 .f32 :=
  Host.dotGeneral dot_S8192x1024_S1024x1024_S8192x1024_1_1_0_0_n_n none (dm x0 x1 x2) (extf .f32 x3 bitsLt_bf16_f32)

/-- The gradient of the projection. -/
abbrev dmix (x0 x1 : FVec Ideal S8192x1024 .f32) (x2 : FVec Ideal S1x1024 .f32) : FVec Ideal S8192x1024 .bf16 :=
  truncf .bf16 (dm x0 x1 x2) bitsLt_bf16_f32

/-- The gradient of the first half. -/
def dlo (x0 x1 : FVec Ideal S8192x1024 .f32) (x2 : FVec Ideal S1x1024 .f32) (x3 : FVec Ideal S1024x1024 .bf16) (x4 : FVec Ideal S8192x1024 .f32) (x5 : FVec Ideal S1x512 .f32) : FVec Ideal S8192x512 .f32 :=
  halfBack (lo x4) (mulf (lo (heads x0 x1 x2 x3)) (broadcastInDim S8192x512 ![0, 1] bcast_S1x512_S8192x512_0_1 x5))

/-- The gradient of the second half. -/
def dhi (x0 x1 : FVec Ideal S8192x1024 .f32) (x2 : FVec Ideal S1x1024 .f32) (x3 : FVec Ideal S1024x1024 .bf16) (x4 : FVec Ideal S8192x1024 .f32) (x6 : FVec Ideal S1x512 .f32) : FVec Ideal S8192x512 .f32 :=
  halfBack (hi x4) (mulf (hi (heads x0 x1 x2 x3)) (broadcastInDim S8192x512 ![0, 1] bcast_S1x512_S8192x512_0_1 x6))

/-- The gradient of the mixers' result. -/
abbrev dam (x0 x1 : FVec Ideal S8192x1024 .f32) (x2 : FVec Ideal S1x1024 .f32) (x3 : FVec Ideal S1024x1024 .bf16) (x4 : FVec Ideal S8192x1024 .f32) (x5 x6 : FVec Ideal S1x512 .f32) : FVec Ideal S8192x1024 .f32 :=
  addf (pad S8192x1024 ![0, 512] ![0, 0] ![0, 0] (dhi x0 x1 x2 x3 x4 x6) (constant (F := Ideal) S_ .f32 0x00000000#32) pads_S8192x512_S8192x1024_000_51200 h_S_)
    (pad S8192x1024 ![0, 0] ![0, 512] ![0, 0] (dlo x0 x1 x2 x3 x4 x5) (constant (F := Ideal) S_ .f32 0x00000000#32) pads_S8192x512_S8192x1024_000_05120 h_S_)

/-- The gradient of the outer gain. -/
abbrev dgp (x0 x1 : FVec Ideal S8192x1024 .f32) : FVec Ideal S1x1024 .f32 :=
  gain x1 x0

/-- The gradient of the first half's gain. -/
abbrev dga (x0 x1 : FVec Ideal S8192x1024 .f32) (x2 : FVec Ideal S1x1024 .f32) (x3 : FVec Ideal S1024x1024 .bf16) (x4 : FVec Ideal S8192x1024 .f32) : FVec Ideal S1x512 .f32 :=
  halfGain (lo x4) (lo (heads x0 x1 x2 x3))

/-- The gradient of the second half's gain. -/
abbrev dgg (x0 x1 : FVec Ideal S8192x1024 .f32) (x2 : FVec Ideal S1x1024 .f32) (x3 : FVec Ideal S1024x1024 .bf16) (x4 : FVec Ideal S8192x1024 .f32) : FVec Ideal S1x512 .f32 :=
  halfGain (hi x4) (hi (heads x0 x1 x2 x3))

theorem dam_lo (x0 x1 : FVec Ideal S8192x1024 .f32) (x2 : FVec Ideal S1x1024 .f32) (x3 : FVec Ideal S1024x1024 .bf16) (x4 : FVec Ideal S8192x1024 .f32) (x5 x6 : FVec Ideal S1x512 .f32) (l : Fin 8192) (k : Fin 1024) (j : Fin 512) (h : k.val = j.val) :
    dam x0 x1 x2 x3 x4 x5 x6 (ix2 l k) = dlo x0 x1 x2 x3 x4 x5 (ix2 l j) := by
  have hk : k = ⟨j.val, lt_trans j.isLt (by norm_num)⟩ := Fin.ext h
  subst hk
  pointwise [dam]
  rw [dif_neg (fun hh => hh.1)]
  exact zero_add _

theorem dam_hi (x0 x1 : FVec Ideal S8192x1024 .f32) (x2 : FVec Ideal S1x1024 .f32) (x3 : FVec Ideal S1024x1024 .bf16) (x4 : FVec Ideal S8192x1024 .f32) (x5 x6 : FVec Ideal S1x512 .f32) (l : Fin 8192) (k : Fin 1024) (j : Fin 512) (h : k.val = 512 + j.val) :
    dam x0 x1 x2 x3 x4 x5 x6 (ix2 l k) = dhi x0 x1 x2 x3 x4 x6 (ix2 l j) := by
  have hk : k = ⟨512 + j.val, Nat.add_lt_add_left j.isLt 512⟩ := Fin.ext h
  subst hk
  pointwise [dam]

end Cert.MixOutGradReferenceIdeal.Local

namespace Cert.MixOutGradIdeal.Local

open Cert.MixOutGradIdeal Cert.MixOutGradIdeal.Gen

/-- The blocks of the windows at a point of the grid. -/
theorem blocks : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![0, 0] ∧ win0_6.index t = ![0, 0] ∧ win0_7.index t = ![t.val, 0] ∧ win0_8.index t = ![t.val, 0] ∧ win0_9.index t = ![0, 0] ∧ win0_10.index t = ![0, 0] ∧ win0_11.index t = ![0, 0] :=
  (by decide +kernel : ∀ t : Fin grid0.N, _)

theorem grad_at (v0 v1 : FVec Ideal S512x1024 .f32) (v2 : FVec Ideal S1x1024 .f32) (i : Fin 512) (j : Fin 1024) :
    k0_pay5 (F := Ideal) v0 v1 v2 (ix2 i j) = Cert.NormBack.long (Ideal.ofBits .f32 0x44800000#32) (fun k => v1 (ix2 i k)) (fun k => v0 (ix2 i k) * v2 (ix2 0 k)) j := by
  rw [← Cert.NormBack.short_eq_long _ 1024 (by norm_num) Cert.Words.w1024]
  pointwise [k0_pay5, k0_pay2, k0_pay1, Cert.NormBack.short, Cert.NormBack.mean]

theorem lo_at (v35 : FVec Ideal S512x1024 .bf16) (v37 : FVec Ideal S1024x1024 .bf16) (v40 : FVec Ideal S512x512 .f32) (v41 : FVec Ideal S1x512 .f32) (i : Fin 512) (j : Fin 512) :
    k0_pay11 (F := Ideal) v35 v37 v40 v41 (ix2 i j)
      = Cert.NormBack.long (Ideal.ofBits .f32 0x44000000#32) (fun k => v40 (ix2 i k)) (fun k => k0_pay7 (F := Ideal) v35 v37 (ix2 i k) * v41 (ix2 0 k)) j := by
  rw [← Cert.NormBack.short_eq_long _ 512 (by norm_num) Cert.Words.w512]
  pointwise [k0_pay11, k0_pay9, k0_pay8, Cert.NormBack.short, Cert.NormBack.mean]

theorem hi_at (v67 v68 : FVec Ideal S512x512 .f32) (v69 : FVec Ideal S1x512 .f32) (i : Fin 512) (j : Fin 512) :
    k0_pay17 (F := Ideal) v67 v68 v69 (k0_pay13 v68) (k0_pay14 (F := Ideal)) (ix2 i j)
      = Cert.NormBack.long (Ideal.ofBits .f32 0x44000000#32) (fun k => v68 (ix2 i k)) (fun k => v67 (ix2 i k) * v69 (ix2 0 k)) j := by
  rw [← Cert.NormBack.short_eq_long _ 512 (by norm_num) Cert.Words.w512]
  pointwise [k0_pay17, k0_pay16, k0_pay15, k0_pay14, k0_pay13, Cert.NormBack.short, Cert.NormBack.mean]

theorem start_p (j : S1x1024.Idx) : k0_pay3 (F := Ideal) j = 0 := by
  pointwise [k0_pay3]

theorem start_a (j : S1x512.Idx) : k0_pay18 (F := Ideal) j = 0 := by
  pointwise [k0_pay18]

theorem start_g (j : S1x512.Idx) : k0_pay20 (F := Ideal) j = 0 := by
  pointwise [k0_pay20]

theorem step_p (v0 v1 : FVec Ideal S512x1024 .f32) (acc : FVec Ideal S1x1024 .f32) (j : S1x1024.Idx) :
    k0_pay4 (F := Ideal) v0 v1 acc j
      = acc j + ∑ l : Fin 512, v0 (ix2 l (j 1)) * (v1 (ix2 l (j 1)) * Ideal.rsqrt (Cert.NormBack.mean (Ideal.ofBits .f32 0x44800000#32) fun k => v1 (ix2 l k))) := by
  pointwise [k0_pay4, k0_pay2, k0_pay1, Cert.NormBack.mean]

theorem step_a (v35 : FVec Ideal S512x1024 .bf16) (v37 : FVec Ideal S1024x1024 .bf16) (v40 : FVec Ideal S512x512 .f32) (acc : FVec Ideal S1x512 .f32) (j : S1x512.Idx) :
    k0_pay19 (F := Ideal) (k0_pay10 v35 v37 v40) acc j
      = acc j + ∑ l : Fin 512, k0_pay7 (F := Ideal) v35 v37 (ix2 l (j 1)) * (v40 (ix2 l (j 1)) * Ideal.rsqrt (Cert.NormBack.mean (Ideal.ofBits .f32 0x44000000#32) fun k => v40 (ix2 l k))) := by
  pointwise [k0_pay19, k0_pay10, k0_pay9, k0_pay8, Cert.NormBack.mean]

theorem step_g (v67 v68 : FVec Ideal S512x512 .f32) (acc : FVec Ideal S1x512 .f32) (j : S1x512.Idx) :
    k0_pay21 (F := Ideal) v67 v68 (k0_pay13 v68) (k0_pay14 (F := Ideal)) acc j
      = acc j + ∑ l : Fin 512, v67 (ix2 l (j 1)) * (v68 (ix2 l (j 1)) * Ideal.rsqrt (Cert.NormBack.mean (Ideal.ofBits .f32 0x44000000#32) fun k => v68 (ix2 l k))) := by
  pointwise [k0_pay21, k0_pay16, k0_pay15, k0_pay14, k0_pay13, Cert.NormBack.mean]

/-- The gradient of the projection, at a row of a block. -/
theorem dm_block (m : (ℓ : Loc nD τ sig) → Buf (Elt Ideal) ℓ) (c : Dev nD) (t : Fin cfg0.N) (i : Fin 512) (l : Fin 8192) (hl : l.val = t.val * 512 + i.val) (k : Fin 1024) :
    (k0_pay5 (F := Ideal) (iblk m c 0 t) (iblk m c 1 t) (iblk m c 2 t)) (ix2 i k) = Cert.MixOutGradReferenceIdeal.Local.dm (m ((c : Thread nD τ).loc main_arg0)) (m ((c : Thread nD τ).loc main_arg1)) (m ((c : Thread nD τ).loc main_arg2)) (ix2 l k) := by
  refine (grad_at _ _ _ i k).trans (Eq.trans ?_ (Cert.MixOutGradReferenceIdeal.Local.back_at _ _ l k).symm)
  refine congrArg₂ (fun f g => Cert.NormBack.long (Ideal.ofBits .f32 0x44800000#32) f g k) (funext fun q => ?_) (funext fun q => ?_)
  · blk_point [iblk, V, blocks t]
  · pointwise []
    blk_point [iblk, V, blocks t]

/-- The product with the weight, at a row of a block. -/
theorem heads_block (m : (ℓ : Loc nD τ sig) → Buf (Elt Ideal) ℓ) (c : Dev nD) (t : Fin cfg0.N) (i : Fin 512) (l : Fin 8192) (hl : l.val = t.val * 512 + i.val) (k : Fin 1024) :
    k0_pay6 (F := Ideal) (k0_pay5 (F := Ideal) (iblk m c 0 t) (iblk m c 1 t) (iblk m c 2 t)) (iblk m c 3 t) (ix2 i k) = Cert.MixOutGradReferenceIdeal.Local.heads (m ((c : Thread nD τ).loc main_arg0)) (m ((c : Thread nD τ).loc main_arg1)) (m ((c : Thread nD τ).loc main_arg2)) (m ((c : Thread nD τ).loc main_arg3)) (ix2 l k) := by
  pointwise [k0_pay6, Cert.MixOutGradReferenceIdeal.Local.heads]
  refine Finset.sum_congr rfl fun q _ => congrArg₂ (fun a b : EReal => a * b) (dm_block m c t i l hl q) ?_
  blk_point [iblk, V, blocks t]

theorem lo_block (m : (ℓ : Loc nD τ sig) → Buf (Elt Ideal) ℓ) (c : Dev nD) (t : Fin cfg0.N) (i : Fin 512) (l : Fin 8192) (hl : l.val = t.val * 512 + i.val) (k : Fin 512) :
    k0_pay7 (F := Ideal) (k0_pay5 (F := Ideal) (iblk m c 0 t) (iblk m c 1 t) (iblk m c 2 t)) (iblk m c 3 t) (ix2 i k) = Cert.MixOutGradReferenceIdeal.Local.lo (Cert.MixOutGradReferenceIdeal.Local.heads (m ((c : Thread nD τ).loc main_arg0)) (m ((c : Thread nD τ).loc main_arg1)) (m ((c : Thread nD τ).loc main_arg2)) (m ((c : Thread nD τ).loc main_arg3))) (ix2 l k) := by
  pointwise [k0_pay7, Cert.MixOutGradReferenceIdeal.Local.lo]
  exact heads_block m c t i l hl _

theorem hi_block (m : (ℓ : Loc nD τ sig) → Buf (Elt Ideal) ℓ) (c : Dev nD) (t : Fin cfg0.N) (i : Fin 512) (l : Fin 8192) (hl : l.val = t.val * 512 + i.val) (k : Fin 512) :
    k0_pay12 (F := Ideal) (k0_pay5 (F := Ideal) (iblk m c 0 t) (iblk m c 1 t) (iblk m c 2 t)) (iblk m c 3 t) (ix2 i k) = Cert.MixOutGradReferenceIdeal.Local.hi (Cert.MixOutGradReferenceIdeal.Local.heads (m ((c : Thread nD τ).loc main_arg0)) (m ((c : Thread nD τ).loc main_arg1)) (m ((c : Thread nD τ).loc main_arg2)) (m ((c : Thread nD τ).loc main_arg3))) (ix2 l k) := by
  pointwise [k0_pay12, Cert.MixOutGradReferenceIdeal.Local.hi]
  exact heads_block m c t i l hl _

theorem xlo_block (m : (ℓ : Loc nD τ sig) → Buf (Elt Ideal) ℓ) (c : Dev nD) (t : Fin cfg0.N) (i : Fin 512) (l : Fin 8192) (hl : l.val = t.val * 512 + i.val) (k : Fin 512) :
    (View.ld (iblk m c 4 t) (Rect.unit ![0, 0] ![512, 512] inb_S512x1024_S512x512_0_0)) (ix2 i k) = Cert.MixOutGradReferenceIdeal.Local.lo (m ((c : Thread nD τ).loc main_arg4)) (ix2 l k) := by
  pointwise []
  blk_point [iblk, V, blocks t]

theorem xhi_block (m : (ℓ : Loc nD τ sig) → Buf (Elt Ideal) ℓ) (c : Dev nD) (t : Fin cfg0.N) (i : Fin 512) (l : Fin 8192) (hl : l.val = t.val * 512 + i.val) (k : Fin 512) :
    (View.ld (iblk m c 4 t) (Rect.unit ![0, 512] ![512, 512] inb_S512x1024_S512x512_0_512)) (ix2 i k) = Cert.MixOutGradReferenceIdeal.Local.hi (m ((c : Thread nD τ).loc main_arg4)) (ix2 l k) := by
  pointwise []
  blk_point [iblk, V, blocks t]

theorem dlo_block (m : (ℓ : Loc nD τ sig) → Buf (Elt Ideal) ℓ) (c : Dev nD) (t : Fin cfg0.N) (i : Fin 512) (l : Fin 8192) (hl : l.val = t.val * 512 + i.val) (k : Fin 512) :
    k0_pay11 (F := Ideal) (k0_pay5 (F := Ideal) (iblk m c 0 t) (iblk m c 1 t) (iblk m c 2 t)) (iblk m c 3 t) (View.ld (iblk m c 4 t) (Rect.unit ![0, 0] ![512, 512] inb_S512x1024_S512x512_0_0)) (iblk m c 5 t) (ix2 i k) = Cert.MixOutGradReferenceIdeal.Local.dlo (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 l k) := by
  refine (lo_at _ _ _ _ i k).trans (Eq.trans ?_ (Cert.MixOutGradReferenceIdeal.Local.halfBack_at _ _ l k).symm)
  refine congrArg₂ (fun f g => Cert.NormBack.long (Ideal.ofBits .f32 0x44000000#32) f g k) (funext fun q => xlo_block m c t i l hl q) (funext fun q => ?_)
  have eg : iblk m c 5 t (ix2 0 q) = m ((c : Thread nD τ).loc main_arg5) (ix2 0 q) := by
    blk_point [iblk, V, blocks t]
  refine (congrArg₂ (fun a b : EReal => a * b) (lo_block m c t i l hl q) eg).trans ?_
  pointwise []

theorem dhi_block (m : (ℓ : Loc nD τ sig) → Buf (Elt Ideal) ℓ) (c : Dev nD) (t : Fin cfg0.N) (i : Fin 512) (l : Fin 8192) (hl : l.val = t.val * 512 + i.val) (k : Fin 512) :
    k0_pay17 (F := Ideal) (k0_pay12 (k0_pay5 (F := Ideal) (iblk m c 0 t) (iblk m c 1 t) (iblk m c 2 t)) (iblk m c 3 t)) (View.ld (iblk m c 4 t) (Rect.unit ![0, 512] ![512, 512] inb_S512x1024_S512x512_0_512)) (iblk m c 6 t) (k0_pay13 (View.ld (iblk m c 4 t) (Rect.unit ![0, 512] ![512, 512] inb_S512x1024_S512x512_0_512))) (k0_pay14 (F := Ideal)) (ix2 i k) = Cert.MixOutGradReferenceIdeal.Local.dhi (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (ix2 l k) := by
  refine (hi_at _ _ _ i k).trans (Eq.trans ?_ (Cert.MixOutGradReferenceIdeal.Local.halfBack_at _ _ l k).symm)
  refine congrArg₂ (fun f g => Cert.NormBack.long (Ideal.ofBits .f32 0x44000000#32) f g k) (funext fun q => xhi_block m c t i l hl q) (funext fun q => ?_)
  have eg : iblk m c 6 t (ix2 0 q) = m ((c : Thread nD τ).loc main_arg6) (ix2 0 q) := by
    blk_point [iblk, V, blocks t]
  refine (congrArg₂ (fun a b : EReal => a * b) (hi_block m c t i l hl q) eg).trans ?_
  pointwise []

/-- The two stores of a point of the grid are the rows of the reference's sum of the two halves. -/
theorem dam_block (m : (ℓ : Loc nD τ sig) → Buf (Elt Ideal) ℓ) (c : Dev nD) (t : Fin cfg0.N) (y : S512x1024.Idx) (z : S8192x1024.Idx)
    (h0 : (z 0).val = t.val * 512 + (y 0).val) (h1 : (z 1).val = (y 1).val) :
    View.canon (Val := Elt Ideal) (s := S512x1024) (e := .f32) [⟨Rect.unit ![0, 512] ![512, 512] inb_S512x1024_S512x512_0_512, k0_pay17 (F := Ideal) (k0_pay12 (k0_pay5 (F := Ideal) (iblk m c 0 t) (iblk m c 1 t) (iblk m c 2 t)) (iblk m c 3 t)) (View.ld (iblk m c 4 t) (Rect.unit ![0, 512] ![512, 512] inb_S512x1024_S512x512_0_512)) (iblk m c 6 t) (k0_pay13 (View.ld (iblk m c 4 t) (Rect.unit ![0, 512] ![512, 512] inb_S512x1024_S512x512_0_512))) (k0_pay14 (F := Ideal))⟩, ⟨Rect.unit ![0, 0] ![512, 512] inb_S512x1024_S512x512_0_0, k0_pay11 (F := Ideal) (k0_pay5 (F := Ideal) (iblk m c 0 t) (iblk m c 1 t) (iblk m c 2 t)) (iblk m c 3 t) (View.ld (iblk m c 4 t) (Rect.unit ![0, 0] ![512, 512] inb_S512x1024_S512x512_0_0)) (iblk m c 5 t)⟩] y
      = Cert.MixOutGradReferenceIdeal.Local.dam (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) z := by
  obtain ⟨l, k, rfl⟩ : ∃ (l : Fin 8192) (k : Fin 1024), z = ix2 l k := ⟨z 0, z 1, eq_ix2 z⟩
  refine View.canon_eq_of_allAt _ y _ (View.cover_of_tiled_head _ _ _ rfl y)
    (View.allAt_cons_unit _ _ _ _ _ (fun x hx => ?_) (View.allAt_cons_unit _ _ _ _ _ (fun x hx => ?_) (View.allAt_nil _ _)))
  · obtain ⟨i, j, rfl⟩ : ∃ (i : Fin 512) (j : Fin 512), x = ix2 i j := ⟨x 0, x 1, eq_ix2 x⟩
    have e0 : (y 0).val = 0 + i.val := hx 0
    have e1 : (y 1).val = 512 + j.val := hx 1
    have hl : l.val = t.val * 512 + i.val := h0.trans (by omega)
    have hk : k.val = 512 + j.val := h1.trans e1
    exact (dhi_block m c t i l hl j).trans (Cert.MixOutGradReferenceIdeal.Local.dam_hi _ _ _ _ _ _ _ l k j hk).symm
  · obtain ⟨i, j, rfl⟩ : ∃ (i : Fin 512) (j : Fin 512), x = ix2 i j := ⟨x 0, x 1, eq_ix2 x⟩
    have e0 : (y 0).val = 0 + i.val := hx 0
    have e1 : (y 1).val = 0 + j.val := hx 1
    have hl : l.val = t.val * 512 + i.val := h0.trans (by omega)
    have hk : k.val = j.val := h1.trans (by omega)
    exact (dlo_block m c t i l hl j).trans (Cert.MixOutGradReferenceIdeal.Local.dam_lo _ _ _ _ _ _ _ l k j hk).symm

theorem final_dmix (m : (ℓ : Loc nD τ sig) → Buf (Elt Ideal) ℓ) (c : Dev nD) : (dats m 0 c).arrAt 7 cfg0.N
    = Cert.MixOutGradReferenceIdeal.Local.dmix (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  have h0 : (((View.whole main_v0_0).slice (win0_7.rect t)).emb y 0 : ℕ) = t.val * 512 + (y 0 : ℕ) := by
    change ((((cfg0.win 7).blk t).view.emb y 0 : Fin _) : ℕ) = _
    blk_simp [blocks t]
  have h1 : (((View.whole main_v0_0).slice (win0_7.rect t)).emb y 1 : ℕ) = (y 1 : ℕ) := by
    change ((((cfg0.win 7).blk t).view.emb y 1 : Fin _) : ℕ) = _
    blk_simp [blocks t]
  have key : ∀ (y : S512x1024.Idx) (z : S8192x1024.Idx), (z 0).val = t.val * 512 + (y 0).val → (z 1).val = (y 1).val →
      (k0_pay5 (F := Ideal) (iblk m c 0 t) (iblk m c 1 t) (iblk m c 2 t)) y = Cert.MixOutGradReferenceIdeal.Local.dmix (m ((c : Thread nD τ).loc main_arg0)) (m ((c : Thread nD τ).loc main_arg1)) (m ((c : Thread nD τ).loc main_arg2)) z := fun y z h0 h1 => by
    obtain ⟨i, j, rfl⟩ : ∃ (i : Fin 512) (j : Fin 1024), y = ix2 i j := ⟨y 0, y 1, eq_ix2 y⟩
    obtain ⟨l, k, rfl⟩ : ∃ (l : Fin 8192) (k : Fin 1024), z = ix2 l k := ⟨z 0, z 1, eq_ix2 z⟩
    obtain rfl : k = j := Fin.ext h1
    exact dm_block m c t i l h0 k
  by_cases h : t.val % 16 = 0
  · rw [outsAt0_A m c t h h h]
    dsimp only
    frame_out
    exact key y _ h0 h1
  · rw [outsAt0_B m c t h h h]
    dsimp only
    frame_out
    exact key y _ h0 h1

theorem final_dam (m : (ℓ : Loc nD τ sig) → Buf (Elt Ideal) ℓ) (c : Dev nD) : (dats m 0 c).arrAt 8 cfg0.N
    = Cert.MixOutGradReferenceIdeal.Local.dam (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  have h0 : (((View.whole main_v0_1).slice (win0_8.rect t)).emb y 0 : ℕ) = t.val * 512 + (y 0 : ℕ) := by
    change ((((cfg0.win 8).blk t).view.emb y 0 : Fin _) : ℕ) = _
    blk_simp [blocks t]
  have h1 : (((View.whole main_v0_1).slice (win0_8.rect t)).emb y 1 : ℕ) = (y 1 : ℕ) := by
    change ((((cfg0.win 8).blk t).view.emb y 1 : Fin _) : ℕ) = _
    blk_simp [blocks t]
  by_cases h : t.val % 16 = 0
  · rw [outsAt0_A m c t h h h]
    dsimp only
    frame_out
    exact dam_block m c t y _ h0 h1
  · rw [outsAt0_B m c t h h h]
    dsimp only
    frame_out
    exact dam_block m c t y _ h0 h1

theorem final_dgp (m : (ℓ : Loc nD τ sig) → Buf (Elt Ideal) ℓ) (c : Dev nD) : (dats m 0 c).arrAt 9 cfg0.N
    = Cert.MixOutGradReferenceIdeal.Local.dgp (m ((c : Thread nD τ).loc main_arg0)) (m ((c : Thread nD τ).loc main_arg1)) := by
  refine (dats m 0 c).arrAt_eq_of_after_last 9 t0_15 (by decide +kernel) _ fun j => ?_
  blk_simp
  rw [after0_9, Pipeline.eq_sum_fin_of_reset_step_apply_last (fun n h => (outsAt0 m c n h).2.2.1) 16 (fun _ => 0) _
    (fun t h j => by rw [outsAt0_A m c t h h h]; dsimp only; frame_out; rw [step_p, start_p])
    (fun t h j => by rw [outsAt0_B m c t h h h]; dsimp only; frame_out; rw [step_p])
    (le_of_eq N_0) t0_15 rfl j, zero_add]
  refine Eq.trans ?_ (Cert.MixOutGradReferenceIdeal.Local.gain_at _ _ j).symm
  refine Fin.sum_mul_add_congr fun s k hl => ?_
  refine congrArg₂ (fun a b : EReal => a * b) ?_ (congrArg₂ (fun a b : EReal => a * b) ?_ (congrArg (fun f => Ideal.rsqrt (Cert.NormBack.mean (Ideal.ofBits .f32 0x44800000#32) f)) (funext fun q => ?_)))
  · blk_point [iblk, V, blocks s]
  · blk_point [iblk, V, blocks s]
  · blk_point [iblk, V, blocks s]

theorem final_dga (m : (ℓ : Loc nD τ sig) → Buf (Elt Ideal) ℓ) (c : Dev nD) : (dats m 0 c).arrAt 10 cfg0.N
    = Cert.MixOutGradReferenceIdeal.Local.dga (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 10 t0_15 (by decide +kernel) _ fun j => ?_
  blk_simp
  rw [after0_10, Pipeline.eq_sum_fin_of_reset_step_apply_last (fun n h => (outsAt0 m c n h).2.2.2.1) 16 (fun _ => 0) _
    (fun t h j => by rw [outsAt0_A m c t h h h]; dsimp only; frame_out; rw [step_a, start_a])
    (fun t h j => by rw [outsAt0_B m c t h h h]; dsimp only; frame_out; rw [step_a])
    (le_of_eq N_0) t0_15 rfl j, zero_add]
  refine Eq.trans ?_ (Cert.MixOutGradReferenceIdeal.Local.halfGain_at _ _ j).symm
  refine Fin.sum_mul_add_congr fun s k hl => ?_
  refine congrArg₂ (fun a b : EReal => a * b) (lo_block m c s k ⟨_, hl⟩ rfl _) (congrArg₂ (fun a b : EReal => a * b) (xlo_block m c s k ⟨_, hl⟩ rfl _) (congrArg (fun f => Ideal.rsqrt (Cert.NormBack.mean (Ideal.ofBits .f32 0x44000000#32) f)) (funext fun q => (xlo_block m c s k ⟨_, hl⟩ rfl _))))

theorem final_dgg (m : (ℓ : Loc nD τ sig) → Buf (Elt Ideal) ℓ) (c : Dev nD) : (dats m 0 c).arrAt 11 cfg0.N
    = Cert.MixOutGradReferenceIdeal.Local.dgg (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 11 t0_15 (by decide +kernel) _ fun j => ?_
  blk_simp
  rw [after0_11, Pipeline.eq_sum_fin_of_reset_step_apply_last (fun n h => (outsAt0 m c n h).2.2.2.2) 16 (fun _ => 0) _
    (fun t h j => by rw [outsAt0_A m c t h h h]; dsimp only; frame_out; rw [step_g, start_g])
    (fun t h j => by rw [outsAt0_B m c t h h h]; dsimp only; frame_out; rw [step_g])
    (le_of_eq N_0) t0_15 rfl j, zero_add]
  refine Eq.trans ?_ (Cert.MixOutGradReferenceIdeal.Local.halfGain_at _ _ j).symm
  refine Fin.sum_mul_add_congr fun s k hl => ?_
  refine congrArg₂ (fun a b : EReal => a * b) (hi_block m c s k ⟨_, hl⟩ rfl _) (congrArg₂ (fun a b : EReal => a * b) (xhi_block m c s k ⟨_, hl⟩ rfl _) (congrArg (fun f => Ideal.rsqrt (Cert.NormBack.mean (Ideal.ofBits .f32 0x44000000#32) f)) (funext fun q => (xhi_block m c s k ⟨_, hl⟩ rfl _))))

/-- Kernel and reference, from memories that hold the same arrays. -/
theorem same (m : (ℓ : Loc nD τ sig) → Buf (Elt Ideal) ℓ) (g : Dev nD → PrngReg)
    (m' : (ℓ : Loc Cert.MixOutGradReferenceIdeal.nD Cert.MixOutGradReferenceIdeal.τ Cert.MixOutGradReferenceIdeal.sig) → Buf (Elt Ideal) ℓ) (g' : Dev Cert.MixOutGradReferenceIdeal.nD → PrngReg)
    (hm : ∀ c : Dev nD,
      m' ((c.tc : Thread Cert.MixOutGradReferenceIdeal.nD Cert.MixOutGradReferenceIdeal.τ).loc Cert.MixOutGradReferenceIdeal.main_arg0) = m ((c.tc : Thread nD τ).loc main_arg0)
      ∧ m' ((c.tc : Thread Cert.MixOutGradReferenceIdeal.nD Cert.MixOutGradReferenceIdeal.τ).loc Cert.MixOutGradReferenceIdeal.main_arg1) = m ((c.tc : Thread nD τ).loc main_arg1)
      ∧ m' ((c.tc : Thread Cert.MixOutGradReferenceIdeal.nD Cert.MixOutGradReferenceIdeal.τ).loc Cert.MixOutGradReferenceIdeal.main_arg2) = m ((c.tc : Thread nD τ).loc main_arg2)
      ∧ m' ((c.tc : Thread Cert.MixOutGradReferenceIdeal.nD Cert.MixOutGradReferenceIdeal.τ).loc Cert.MixOutGradReferenceIdeal.main_arg3) = m ((c.tc : Thread nD τ).loc main_arg3)
      ∧ m' ((c.tc : Thread Cert.MixOutGradReferenceIdeal.nD Cert.MixOutGradReferenceIdeal.τ).loc Cert.MixOutGradReferenceIdeal.main_arg4) = m ((c.tc : Thread nD τ).loc main_arg4)
      ∧ m' ((c.tc : Thread Cert.MixOutGradReferenceIdeal.nD Cert.MixOutGradReferenceIdeal.τ).loc Cert.MixOutGradReferenceIdeal.main_arg5) = m ((c.tc : Thread nD τ).loc main_arg5)
      ∧ m' ((c.tc : Thread Cert.MixOutGradReferenceIdeal.nD Cert.MixOutGradReferenceIdeal.τ).loc Cert.MixOutGradReferenceIdeal.main_arg6) = m ((c.tc : Thread nD τ).loc main_arg6)) :
    ∃ (v0 : (c : Dev nD) → Buf (Elt Ideal) ((c.tc : Thread nD τ).loc main_v0_0)) (v1 : (c : Dev nD) → Buf (Elt Ideal) ((c.tc : Thread nD τ).loc main_v0_1)) (v2 : (c : Dev nD) → Buf (Elt Ideal) ((c.tc : Thread nD τ).loc main_v0_2)) (v3 : (c : Dev nD) → Buf (Elt Ideal) ((c.tc : Thread nD τ).loc main_v0_3)) (v4 : (c : Dev nD) → Buf (Elt Ideal) ((c.tc : Thread nD τ).loc main_v0_4)),
      θ_run (defs (F := Ideal)) (onTc (τ := τ) (main (F := Ideal))) ⟨m, fun _ => 0, g⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_v0_2) = v2 c
          ∧ r.2.mem ((c.tc : Thread nD τ).loc main_v0_3) = v3 c
          ∧ r.2.mem ((c.tc : Thread nD τ).loc main_v0_4) = v4 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6))
      ∧ θ_run (Cert.MixOutGradReferenceIdeal.defs (F := Ideal)) (onTc (τ := Cert.MixOutGradReferenceIdeal.τ) (Cert.MixOutGradReferenceIdeal.main (F := Ideal))) ⟨m', fun _ => 0, g'⟩ (fun r => ∀ c : Dev Cert.MixOutGradReferenceIdeal.nD,
          r.2.mem ((c.tc : Thread Cert.MixOutGradReferenceIdeal.nD Cert.MixOutGradReferenceIdeal.τ).loc Cert.MixOutGradReferenceIdeal.main_v113) = v0 c
          ∧ r.2.mem ((c.tc : Thread Cert.MixOutGradReferenceIdeal.nD Cert.MixOutGradReferenceIdeal.τ).loc Cert.MixOutGradReferenceIdeal.main_v112) = v1 c
          ∧ r.2.mem ((c.tc : Thread Cert.MixOutGradReferenceIdeal.nD Cert.MixOutGradReferenceIdeal.τ).loc Cert.MixOutGradReferenceIdeal.main_v17) = v2 c
          ∧ r.2.mem ((c.tc : Thread Cert.MixOutGradReferenceIdeal.nD Cert.MixOutGradReferenceIdeal.τ).loc Cert.MixOutGradReferenceIdeal.main_v94) = v3 c
          ∧ r.2.mem ((c.tc : Thread Cert.MixOutGradReferenceIdeal.nD Cert.MixOutGradReferenceIdeal.τ).loc Cert.MixOutGradReferenceIdeal.main_v74) = v4 c
          ∧ r.2.mem ((c.tc : Thread Cert.MixOutGradReferenceIdeal.nD Cert.MixOutGradReferenceIdeal.τ).loc Cert.MixOutGradReferenceIdeal.main_arg0) = m' ((c.tc : Thread Cert.MixOutGradReferenceIdeal.nD Cert.MixOutGradReferenceIdeal.τ).loc Cert.MixOutGradReferenceIdeal.main_arg0)
          ∧ r.2.mem ((c.tc : Thread Cert.MixOutGradReferenceIdeal.nD Cert.MixOutGradReferenceIdeal.τ).loc Cert.MixOutGradReferenceIdeal.main_arg1) = m' ((c.tc : Thread Cert.MixOutGradReferenceIdeal.nD Cert.MixOutGradReferenceIdeal.τ).loc Cert.MixOutGradReferenceIdeal.main_arg1)
          ∧ r.2.mem ((c.tc : Thread Cert.MixOutGradReferenceIdeal.nD Cert.MixOutGradReferenceIdeal.τ).loc Cert.MixOutGradReferenceIdeal.main_arg2) = m' ((c.tc : Thread Cert.MixOutGradReferenceIdeal.nD Cert.MixOutGradReferenceIdeal.τ).loc Cert.MixOutGradReferenceIdeal.main_arg2)
          ∧ r.2.mem ((c.tc : Thread Cert.MixOutGradReferenceIdeal.nD Cert.MixOutGradReferenceIdeal.τ).loc Cert.MixOutGradReferenceIdeal.main_arg3) = m' ((c.tc : Thread Cert.MixOutGradReferenceIdeal.nD Cert.MixOutGradReferenceIdeal.τ).loc Cert.MixOutGradReferenceIdeal.main_arg3)
          ∧ r.2.mem ((c.tc : Thread Cert.MixOutGradReferenceIdeal.nD Cert.MixOutGradReferenceIdeal.τ).loc Cert.MixOutGradReferenceIdeal.main_arg4) = m' ((c.tc : Thread Cert.MixOutGradReferenceIdeal.nD Cert.MixOutGradReferenceIdeal.τ).loc Cert.MixOutGradReferenceIdeal.main_arg4)
          ∧ r.2.mem ((c.tc : Thread Cert.MixOutGradReferenceIdeal.nD Cert.MixOutGradReferenceIdeal.τ).loc Cert.MixOutGradReferenceIdeal.main_arg5) = m' ((c.tc : Thread Cert.MixOutGradReferenceIdeal.nD Cert.MixOutGradReferenceIdeal.τ).loc Cert.MixOutGradReferenceIdeal.main_arg5)
          ∧ r.2.mem ((c.tc : Thread Cert.MixOutGradReferenceIdeal.nD Cert.MixOutGradReferenceIdeal.τ).loc Cert.MixOutGradReferenceIdeal.main_arg6) = m' ((c.tc : Thread Cert.MixOutGradReferenceIdeal.nD Cert.MixOutGradReferenceIdeal.τ).loc Cert.MixOutGradReferenceIdeal.main_arg6)) := by
  refine ⟨fun c => (dats m 0 c).arrAt 7 cfg0.N, fun c => (dats m 0 c).arrAt 8 cfg0.N, fun c => (dats m 0 c).arrAt 9 cfg0.N, fun c => (dats m 0 c).arrAt 10 cfg0.N, fun c => (dats m 0 c).arrAt 11 cfg0.N, ?_,
    (θ_run _ _ _).mono (fun r h c => ?_) (Cert.MixOutGradReferenceIdeal.Value.run m' g')⟩
  · exact (θ_run defs _ _).mono (fun r h c => ⟨(h c).1 7, (h c).1 8, (h c).1 9, (h c).1 10, (h c).1 11, ((h c).1 0).trans ((dats m 0 c).arrAt_in 0 rfl _), ((h c).1 1).trans ((dats m 0 c).arrAt_in 1 rfl _), ((h c).1 2).trans ((dats m 0 c).arrAt_in 2 rfl _), ((h c).1 3).trans ((dats m 0 c).arrAt_in 3 rfl _), ((h c).1 4).trans ((dats m 0 c).arrAt_in 4 rfl _), ((h c).1 5).trans ((dats m 0 c).arrAt_in 5 rfl _), ((h c).1 6).trans ((dats m 0 c).arrAt_in 6 rfl _)⟩) (run_main m g)
  obtain ⟨h0, h1, h2, h3, h4, hk⟩ := h c
  obtain ⟨e0, e1, e2, e3, e4, e5, e6⟩ := hm c
  unfold Cert.MixOutGradReferenceIdeal.Value.res_main_v112 at h1
  unfold Cert.MixOutGradReferenceIdeal.Value.res_main_v94 at h3
  unfold Cert.MixOutGradReferenceIdeal.Value.res_main_v74 at h4
  rw [e0, e1, e2] at h0
  rw [e0, e1, e2, e3, e4, e5, e6] at h1
  rw [e0, e1] at h2
  rw [e0, e1, e2, e3, e4] at h3
  rw [e0, e1, e2, e3, e4] at h4
  exact ⟨h0.trans (final_dmix m c).symm, h1.trans (final_dam m c).symm, h2.trans (final_dgp m c).symm, h3.trans (final_dga m c).symm, h4.trans (final_dgg m c).symm, hk⟩

end Cert.MixOutGradIdeal.Local

end
-- ==== Proof.NormInGradValue.lean ====
/-
# The gradient of the norm before the input projection

Each point of the grid joins its rows of the three cotangents, multiplies them by the transpose of the weight and takes the product
back through the norm. The kernel's form of the norm's gradient is not the reference's: NormBack has why they are the same.
-/
module

public import proofs.«01_k».proof.Proof.Gen.NormInGradIdeal.Frame
public import proofs.«01_k».proof.Proof.Gen.NormInGradReferenceIdeal.Run
public import proofs.«01_k».proof.Proof.NormBack
public import Idealize.ShloMosaic.Lib.Pipeline.ValueKit

@[expose] public section

set_option maxRecDepth 16384

noncomputable section

open Idealize.ShloMosaic Idealize.ShloMosaic.TcCoe Idealize.SL.Sem

namespace Cert.NormInGradReferenceIdeal.Local

open Cert.NormInGradReferenceIdeal Cert.NormInGradReferenceIdeal.Gen

/-- The gradient of the norm of the rows `x`, from the cotangent `d` after the gain. -/
abbrev back (x d : FVec Ideal S8192x1024 .f32) : FVec Ideal S8192x1024 .f32 :=
  addf (addf (mulf d (broadcastInDim S8192x1024 ![0, 1] bcast_S8192x1_S8192x1024_0_1 (Host.rsqrt (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (mulf x (broadcastInDim S8192x1024 ![0] bcast_S8192_S8192x1024_0 (Host.reduceAdd (Host.divf (mulf (shapeCast _ (Host.reduceAdd (mulf x d) (constant (F := Ideal) S_ .f32 0x00000000#32) reducesTo_S8192x1024_S8192_d1 h_S_) shapeCasts_S8192_S8192x1) (mulf (broadcastInDim S8192x1 ![] bcast_S_S8192x1 (constant (F := Ideal) S_ .f32 0xBF000000#32)) (Host.divf (Host.rsqrt (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))) (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1 ![] bcast_S_S8192x1 (constant (F := Ideal) S_ .f32 0x44800000#32))) (constant (F := Ideal) S_ .f32 0x00000000#32) reducesTo_S8192x1_S8192_d1 h_S_)))) (mulf (broadcastInDim S8192x1024 ![0] bcast_S8192_S8192x1024_0 (Host.reduceAdd (Host.divf (mulf (shapeCast _ (Host.reduceAdd (mulf x d) (constant (F := Ideal) S_ .f32 0x00000000#32) reducesTo_S8192x1024_S8192_d1 h_S_) shapeCasts_S8192_S8192x1) (mulf (broadcastInDim S8192x1 ![] bcast_S_S8192x1 (constant (F := Ideal) S_ .f32 0xBF000000#32)) (Host.divf (Host.rsqrt (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))) (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1 ![] bcast_S_S8192x1 (constant (F := Ideal) S_ .f32 0x44800000#32))) (constant (F := Ideal) S_ .f32 0x00000000#32) reducesTo_S8192x1_S8192_d1 h_S_)) x)

theorem back_at (x d : FVec Ideal S8192x1024 .f32) (i : Fin 8192) (j : Fin 1024) :
    back x d (ix2 i j) = Cert.NormBack.long (Ideal.ofBits .f32 0x44800000#32) (fun k => x (ix2 i k)) (fun k => d (ix2 i k)) j := by
  pointwise [back, Cert.NormBack.long, Cert.NormBack.inner, Cert.NormBack.mean]
  simp only [Fin.sum_univ_one]

/-- The gradient of the gain, from the rows `x` and the cotangent `d` of the norm. -/
abbrev gain (x d : FVec Ideal S8192x1024 .f32) : FVec Ideal S1x1024 .f32 :=
  shapeCast _ (Host.reduceAdd (mulf (mulf x (broadcastInDim S8192x1024 ![0, 1] bcast_S8192x1_S8192x1024_0_1 (Host.rsqrt (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) d) (constant (F := Ideal) S_ .f32 0x00000000#32) reducesTo_S8192x1024_S1024_d0 h_S_) shapeCasts_S1024_S1x1024

theorem gain_at (x d : FVec Ideal S8192x1024 .f32) (j : S1x1024.Idx) :
    gain x d j = ∑ l : Fin 8192, d (ix2 l (j 1)) * (x (ix2 l (j 1)) * Ideal.rsqrt (Cert.NormBack.mean (Ideal.ofBits .f32 0x44800000#32) fun k => x (ix2 l k))) := by
  pointwise [gain, Cert.NormBack.mean]
  exact Finset.sum_congr rfl fun l _ => mul_comm _ _

/-- The three cotangents side by side. -/
abbrev joined (x0 : FVec Ideal S8192x512 .bf16) (x1 : FVec Ideal S8192x256 .f32) (x2 : FVec Ideal S8192x1024 .bf16) : FVec Ideal S8192x1792 .f32 :=
  (concatenate S8192x1792 1 [⟨S8192x512, ((extf .f32 x0 bitsLt_bf16_f32) : (⟨S8192x512, .f32⟩ : BufTy).Contents (Elt Ideal))⟩, ⟨S8192x256, (x1 : (⟨S8192x256, .f32⟩ : BufTy).Contents (Elt Ideal))⟩, ⟨S8192x1024, ((extf .f32 x2 bitsLt_bf16_f32) : (⟨S8192x1024, .f32⟩ : BufTy).Contents (Elt Ideal))⟩] concatenates_S8192x512_S8192x256_S8192x1024_S8192x1792_d1 : (⟨S8192x1792, .f32⟩ : BufTy).Contents (Elt Ideal))

/-- The cotangent of the norm. -/
def ct (x0 : FVec Ideal S8192x512 .bf16) (x1 : FVec Ideal S8192x256 .f32) (x2 : FVec Ideal S8192x1024 .bf16) (x3 : FVec Ideal S1024x1792 .bf16) : FVec Ideal S8192x1024 .f32 :=
  Host.dotGeneral dot_S8192x1792_S1024x1792_S8192x1024_1_1_0_0_n_n none (joined x0 x1 x2) (extf .f32 x3 bitsLt_bf16_f32)

/-- The joined cotangents, rounded. -/
abbrev dz (x0 : FVec Ideal S8192x512 .bf16) (x1 : FVec Ideal S8192x256 .f32) (x2 : FVec Ideal S8192x1024 .bf16) : FVec Ideal S8192x1792 .bf16 :=
  truncf .bf16 (joined x0 x1 x2) bitsLt_bf16_f32

/-- The gradient of the rows. -/
abbrev dx (x0 : FVec Ideal S8192x512 .bf16) (x1 : FVec Ideal S8192x256 .f32) (x2 : FVec Ideal S8192x1024 .bf16) (x3 : FVec Ideal S1024x1792 .bf16) (x4 : FVec Ideal S8192x1024 .f32) (x5 : FVec Ideal S1x1024 .f32) (x6 : FVec Ideal S8192x1024 .f32) : FVec Ideal S8192x1024 .f32 :=
  addf x6 (back x4 (mulf (ct x0 x1 x2 x3) (broadcastInDim S8192x1024 ![0, 1] bcast_S1x1024_S8192x1024_0_1 x5)))

/-- The gradient of the gain. -/
abbrev dg (x0 : FVec Ideal S8192x512 .bf16) (x1 : FVec Ideal S8192x256 .f32) (x2 : FVec Ideal S8192x1024 .bf16) (x3 : FVec Ideal S1024x1792 .bf16) (x4 : FVec Ideal S8192x1024 .f32) : FVec Ideal S1x1024 .f32 :=
  gain x4 (ct x0 x1 x2 x3)

end Cert.NormInGradReferenceIdeal.Local

namespace Cert.NormInGradIdeal.Local

open Cert.NormInGradIdeal Cert.NormInGradIdeal.Gen

/-- The blocks of the windows at a point of the grid. -/
theorem blocks : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![0, 0] ∧ win0_6.index t = ![t.val, 0] ∧ win0_7.index t = ![t.val, 0] ∧ win0_8.index t = ![t.val, 0] ∧ win0_9.index t = ![0, 0] :=
  (by decide +kernel : ∀ t : Fin grid0.N, _)

theorem grad_at (v0 : FVec Ideal S512x512 .bf16) (v1 : FVec Ideal S512x256 .f32) (v3 : FVec Ideal S512x1024 .bf16) (v6 : FVec Ideal S1024x1792 .bf16) (v8 : FVec Ideal S512x1024 .f32) (v9 : FVec Ideal S1x1024 .f32) (i : Fin 512) (j : Fin 1024) :
    k0_pay9 (F := Ideal) v0 v1 v3 v6 v8 v9 (ix2 i j)
      = Cert.NormBack.long (Ideal.ofBits .f32 0x44800000#32) (fun k => v8 (ix2 i k)) (fun k => k0_pay5 (F := Ideal) v0 v1 v3 v6 (ix2 i k) * v9 (ix2 0 k)) j := by
  rw [← Cert.NormBack.short_eq_long _ 1024 (by norm_num) Cert.Words.w1024]
  pointwise [k0_pay9, k0_pay7, k0_pay6, Cert.NormBack.short, Cert.NormBack.mean]

theorem start (j : S1x1024.Idx) : k0_pay2 (F := Ideal) j = 0 := by
  pointwise [k0_pay2]

theorem step (v0 : FVec Ideal S512x512 .bf16) (v1 : FVec Ideal S512x256 .f32) (v3 : FVec Ideal S512x1024 .bf16) (v6 : FVec Ideal S1024x1792 .bf16) (v8 : FVec Ideal S512x1024 .f32) (acc : FVec Ideal S1x1024 .f32) (j : S1x1024.Idx) :
    k0_pay3 (k0_pay8 v0 v1 v3 v6 v8) acc j
      = acc j + ∑ l : Fin 512, k0_pay5 v0 v1 v3 v6 (ix2 l (j 1)) * (v8 (ix2 l (j 1)) * Ideal.rsqrt (Cert.NormBack.mean (Ideal.ofBits .f32 0x44800000#32) fun k => v8 (ix2 l k))) := by
  pointwise [k0_pay3, k0_pay8, k0_pay7, k0_pay6, Cert.NormBack.mean]

/-- The kernel's product at a row of a block is the reference's at that row of the arrays. -/
theorem ct_at (m : (ℓ : Loc nD τ sig) → Buf (Elt Ideal) ℓ) (c : Dev nD) (t : Fin cfg0.N) (i : Fin 512) (l : Fin 8192) (hl : l.val = t.val * 512 + i.val) (k : Fin 1024) :
    k0_pay5 (iblk m c 0 t) (iblk m c 1 t) (iblk m c 2 t) (iblk m c 3 t) (ix2 i k)
      = Cert.NormInGradReferenceIdeal.Local.ct (m ((c : Thread nD τ).loc main_arg0)) (m ((c : Thread nD τ).loc main_arg1)) (m ((c : Thread nD τ).loc main_arg2)) (m ((c : Thread nD τ).loc main_arg3)) (ix2 l k) := by
  pointwise [k0_pay5, k0_pay4, Cert.NormInGradReferenceIdeal.Local.ct, Cert.NormInGradReferenceIdeal.Local.joined]
  blk_point [iblk, V, blocks t]

theorem final_dz (m : (ℓ : Loc nD τ sig) → Buf (Elt Ideal) ℓ) (c : Dev nD) : (dats m 0 c).arrAt 7 cfg0.N
    = Cert.NormInGradReferenceIdeal.Local.dz (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  have hy : (((View.whole main_v0_0).slice (win0_7.rect t)).emb y 1 : ℕ) = (y 1 : ℕ) := by
    change ((((cfg0.win 7).blk t).view.emb y 1 : Fin _) : ℕ) = _
    blk_simp [blocks t]
  by_cases h : t.val % 16 = 0
  · rw [outsAt0_A m c t h]
    dsimp only
    frame_out
    pointwise [k0_pay4, Cert.NormInGradReferenceIdeal.Local.dz, Cert.NormInGradReferenceIdeal.Local.joined]
    blk_point [iblk, V, blocks t]
    all_goals (exfalso; omega)
  · rw [outsAt0_B m c t h]
    dsimp only
    frame_out
    pointwise [k0_pay4, Cert.NormInGradReferenceIdeal.Local.dz, Cert.NormInGradReferenceIdeal.Local.joined]
    blk_point [iblk, V, blocks t]
    all_goals (exfalso; omega)

/-- The gradient of the rows, at a row of a block. -/
theorem dx_block (m : (ℓ : Loc nD τ sig) → Buf (Elt Ideal) ℓ) (c : Dev nD) (t : Fin cfg0.N) (y : S512x1024.Idx) (z : S8192x1024.Idx)
    (h0 : (z 0).val = t.val * 512 + (y 0).val) (h1 : (z 1).val = (y 1).val) :
    k0_pay1 (F := Ideal) (k0_pay9 (iblk m c 0 t) (iblk m c 1 t) (iblk m c 2 t) (iblk m c 3 t) (iblk m c 4 t) (iblk m c 5 t)) (iblk m c 6 t) y
      = Cert.NormInGradReferenceIdeal.Local.dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) z := by
  obtain ⟨i, j, rfl⟩ : ∃ (i : Fin 512) (j : Fin 1024), y = ix2 i j := ⟨y 0, y 1, eq_ix2 y⟩
  obtain ⟨l, k, rfl⟩ : ∃ (l : Fin 8192) (k : Fin 1024), z = ix2 l k := ⟨z 0, z 1, eq_ix2 z⟩
  have hl : l.val = t.val * 512 + i.val := h0
  obtain rfl : k = j := Fin.ext h1
  have e4 : ∀ k : Fin 1024, iblk m c 4 t (ix2 i k) = m ((c : Thread nD τ).loc main_arg4) (ix2 l k) := fun k => by
    blk_point [iblk, V, blocks t]
  have e5 : ∀ k : Fin 1024, iblk m c 5 t (ix2 0 k) = m ((c : Thread nD τ).loc main_arg5) (ix2 0 k) := fun k => by
    blk_point [iblk, V, blocks t]
  have e6 : iblk m c 6 t (ix2 i k) = m ((c : Thread nD τ).loc main_arg6) (ix2 l k) := by
    blk_point [iblk, V, blocks t]
  refine (congrArg₂ (fun a b : EReal => a + b) e6 ((grad_at _ _ _ _ _ _ i k).trans ?_)).trans
    (congrArg₂ (fun a b : EReal => a + b) rfl (Cert.NormInGradReferenceIdeal.Local.back_at _ _ l k).symm)
  refine congrArg₂ (fun f g => Cert.NormBack.long (Ideal.ofBits .f32 0x44800000#32) f g k) (funext e4) (funext fun q => ?_)
  refine (congrArg₂ (fun a b : EReal => a * b) (ct_at m c t i l hl q) (e5 q)).trans ?_
  pointwise []

theorem final_dx (m : (ℓ : Loc nD τ sig) → Buf (Elt Ideal) ℓ) (c : Dev nD) : (dats m 0 c).arrAt 8 cfg0.N
    = Cert.NormInGradReferenceIdeal.Local.dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  have h0 : (((View.whole main_v0_1).slice (win0_8.rect t)).emb y 0 : ℕ) = t.val * 512 + (y 0 : ℕ) := by
    change ((((cfg0.win 8).blk t).view.emb y 0 : Fin _) : ℕ) = _
    blk_simp [blocks t]
  have h1 : (((View.whole main_v0_1).slice (win0_8.rect t)).emb y 1 : ℕ) = (y 1 : ℕ) := by
    change ((((cfg0.win 8).blk t).view.emb y 1 : Fin _) : ℕ) = _
    blk_simp [blocks t]
  by_cases h : t.val % 16 = 0
  · rw [outsAt0_A m c t h]
    dsimp only
    frame_out
    exact dx_block m c t y _ h0 h1
  · rw [outsAt0_B m c t h]
    dsimp only
    frame_out
    exact dx_block m c t y _ h0 h1

theorem final_dg (m : (ℓ : Loc nD τ sig) → Buf (Elt Ideal) ℓ) (c : Dev nD) : (dats m 0 c).arrAt 9 cfg0.N
    = Cert.NormInGradReferenceIdeal.Local.dg (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 9 t0_15 (by decide +kernel) _ fun j => ?_
  blk_simp
  rw [after0_9, Pipeline.eq_sum_fin_of_reset_step_apply_last (fun n h => (outsAt0 m c n h).2.2) 16 (fun _ => 0) _
    (fun t h j => by rw [outsAt0_A m c t h]; dsimp only; frame_out; rw [step, start])
    (fun t h j => by rw [outsAt0_B m c t h]; dsimp only; frame_out; rw [step])
    (le_of_eq N_0) t0_15 rfl j, zero_add]
  refine Eq.trans ?_ (Cert.NormInGradReferenceIdeal.Local.gain_at _ _ j).symm
  refine Fin.sum_mul_add_congr fun s k hl => ?_
  refine congrArg₂ (fun a b : EReal => a * b) (ct_at m c s k ⟨_, hl⟩ rfl _) (congrArg₂ (fun a b : EReal => a * b) ?_ (congrArg (fun f => Ideal.rsqrt (Cert.NormBack.mean (Ideal.ofBits .f32 0x44800000#32) f)) (funext fun q => ?_)))
  · blk_point [iblk, V, blocks s]
  · blk_point [iblk, V, blocks s]

/-- Kernel and reference, from memories that hold the same arrays. -/
theorem same (m : (ℓ : Loc nD τ sig) → Buf (Elt Ideal) ℓ) (g : Dev nD → PrngReg)
    (m' : (ℓ : Loc Cert.NormInGradReferenceIdeal.nD Cert.NormInGradReferenceIdeal.τ Cert.NormInGradReferenceIdeal.sig) → Buf (Elt Ideal) ℓ) (g' : Dev Cert.NormInGradReferenceIdeal.nD → PrngReg)
    (hm : ∀ c : Dev nD,
      m' ((c.tc : Thread Cert.NormInGradReferenceIdeal.nD Cert.NormInGradReferenceIdeal.τ).loc Cert.NormInGradReferenceIdeal.main_arg0) = m ((c.tc : Thread nD τ).loc main_arg0)
      ∧ m' ((c.tc : Thread Cert.NormInGradReferenceIdeal.nD Cert.NormInGradReferenceIdeal.τ).loc Cert.NormInGradReferenceIdeal.main_arg1) = m ((c.tc : Thread nD τ).loc main_arg1)
      ∧ m' ((c.tc : Thread Cert.NormInGradReferenceIdeal.nD Cert.NormInGradReferenceIdeal.τ).loc Cert.NormInGradReferenceIdeal.main_arg2) = m ((c.tc : Thread nD τ).loc main_arg2)
      ∧ m' ((c.tc : Thread Cert.NormInGradReferenceIdeal.nD Cert.NormInGradReferenceIdeal.τ).loc Cert.NormInGradReferenceIdeal.main_arg3) = m ((c.tc : Thread nD τ).loc main_arg3)
      ∧ m' ((c.tc : Thread Cert.NormInGradReferenceIdeal.nD Cert.NormInGradReferenceIdeal.τ).loc Cert.NormInGradReferenceIdeal.main_arg4) = m ((c.tc : Thread nD τ).loc main_arg4)
      ∧ m' ((c.tc : Thread Cert.NormInGradReferenceIdeal.nD Cert.NormInGradReferenceIdeal.τ).loc Cert.NormInGradReferenceIdeal.main_arg5) = m ((c.tc : Thread nD τ).loc main_arg5)
      ∧ m' ((c.tc : Thread Cert.NormInGradReferenceIdeal.nD Cert.NormInGradReferenceIdeal.τ).loc Cert.NormInGradReferenceIdeal.main_arg6) = m ((c.tc : Thread nD τ).loc main_arg6)) :
    ∃ (v0 : (c : Dev nD) → Buf (Elt Ideal) ((c.tc : Thread nD τ).loc main_v0_0)) (v1 : (c : Dev nD) → Buf (Elt Ideal) ((c.tc : Thread nD τ).loc main_v0_1)) (v2 : (c : Dev nD) → Buf (Elt Ideal) ((c.tc : Thread nD τ).loc main_v0_2)),
      θ_run (defs (F := Ideal)) (onTc (τ := τ) (main (F := Ideal))) ⟨m, fun _ => 0, g⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_v0_2) = v2 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6))
      ∧ θ_run (Cert.NormInGradReferenceIdeal.defs (F := Ideal)) (onTc (τ := Cert.NormInGradReferenceIdeal.τ) (Cert.NormInGradReferenceIdeal.main (F := Ideal))) ⟨m', fun _ => 0, g'⟩ (fun r => ∀ c : Dev Cert.NormInGradReferenceIdeal.nD,
          r.2.mem ((c.tc : Thread Cert.NormInGradReferenceIdeal.nD Cert.NormInGradReferenceIdeal.τ).loc Cert.NormInGradReferenceIdeal.main_v40) = v0 c
          ∧ r.2.mem ((c.tc : Thread Cert.NormInGradReferenceIdeal.nD Cert.NormInGradReferenceIdeal.τ).loc Cert.NormInGradReferenceIdeal.main_v41) = v1 c
          ∧ r.2.mem ((c.tc : Thread Cert.NormInGradReferenceIdeal.nD Cert.NormInGradReferenceIdeal.τ).loc Cert.NormInGradReferenceIdeal.main_v23) = v2 c
          ∧ r.2.mem ((c.tc : Thread Cert.NormInGradReferenceIdeal.nD Cert.NormInGradReferenceIdeal.τ).loc Cert.NormInGradReferenceIdeal.main_arg0) = m' ((c.tc : Thread Cert.NormInGradReferenceIdeal.nD Cert.NormInGradReferenceIdeal.τ).loc Cert.NormInGradReferenceIdeal.main_arg0)
          ∧ r.2.mem ((c.tc : Thread Cert.NormInGradReferenceIdeal.nD Cert.NormInGradReferenceIdeal.τ).loc Cert.NormInGradReferenceIdeal.main_arg1) = m' ((c.tc : Thread Cert.NormInGradReferenceIdeal.nD Cert.NormInGradReferenceIdeal.τ).loc Cert.NormInGradReferenceIdeal.main_arg1)
          ∧ r.2.mem ((c.tc : Thread Cert.NormInGradReferenceIdeal.nD Cert.NormInGradReferenceIdeal.τ).loc Cert.NormInGradReferenceIdeal.main_arg2) = m' ((c.tc : Thread Cert.NormInGradReferenceIdeal.nD Cert.NormInGradReferenceIdeal.τ).loc Cert.NormInGradReferenceIdeal.main_arg2)
          ∧ r.2.mem ((c.tc : Thread Cert.NormInGradReferenceIdeal.nD Cert.NormInGradReferenceIdeal.τ).loc Cert.NormInGradReferenceIdeal.main_arg3) = m' ((c.tc : Thread Cert.NormInGradReferenceIdeal.nD Cert.NormInGradReferenceIdeal.τ).loc Cert.NormInGradReferenceIdeal.main_arg3)
          ∧ r.2.mem ((c.tc : Thread Cert.NormInGradReferenceIdeal.nD Cert.NormInGradReferenceIdeal.τ).loc Cert.NormInGradReferenceIdeal.main_arg4) = m' ((c.tc : Thread Cert.NormInGradReferenceIdeal.nD Cert.NormInGradReferenceIdeal.τ).loc Cert.NormInGradReferenceIdeal.main_arg4)
          ∧ r.2.mem ((c.tc : Thread Cert.NormInGradReferenceIdeal.nD Cert.NormInGradReferenceIdeal.τ).loc Cert.NormInGradReferenceIdeal.main_arg5) = m' ((c.tc : Thread Cert.NormInGradReferenceIdeal.nD Cert.NormInGradReferenceIdeal.τ).loc Cert.NormInGradReferenceIdeal.main_arg5)
          ∧ r.2.mem ((c.tc : Thread Cert.NormInGradReferenceIdeal.nD Cert.NormInGradReferenceIdeal.τ).loc Cert.NormInGradReferenceIdeal.main_arg6) = m' ((c.tc : Thread Cert.NormInGradReferenceIdeal.nD Cert.NormInGradReferenceIdeal.τ).loc Cert.NormInGradReferenceIdeal.main_arg6)) := by
  refine ⟨fun c => (dats m 0 c).arrAt 7 cfg0.N, fun c => (dats m 0 c).arrAt 8 cfg0.N, fun c => (dats m 0 c).arrAt 9 cfg0.N, ?_,
    (θ_run _ _ _).mono (fun r h c => ?_) (Cert.NormInGradReferenceIdeal.Value.run m' g')⟩
  · exact (θ_run defs _ _).mono (fun r h c => ⟨(h c).1 7, (h c).1 8, (h c).1 9, ((h c).1 0).trans ((dats m 0 c).arrAt_in 0 rfl _), ((h c).1 1).trans ((dats m 0 c).arrAt_in 1 rfl _), ((h c).1 2).trans ((dats m 0 c).arrAt_in 2 rfl _), ((h c).1 3).trans ((dats m 0 c).arrAt_in 3 rfl _), ((h c).1 4).trans ((dats m 0 c).arrAt_in 4 rfl _), ((h c).1 5).trans ((dats m 0 c).arrAt_in 5 rfl _), ((h c).1 6).trans ((dats m 0 c).arrAt_in 6 rfl _)⟩) (run_main m g)
  obtain ⟨h0, h1, h2, hk⟩ := h c
  obtain ⟨e0, e1, e2, e3, e4, e5, e6⟩ := hm c
  unfold Cert.NormInGradReferenceIdeal.Value.res_main_v41 at h1
  rw [e0, e1, e2] at h0
  rw [e0, e1, e2, e3, e4, e5, e6] at h1
  rw [e0, e1, e2, e3, e4] at h2
  exact ⟨h0.trans (final_dz m c).symm, h1.trans (final_dx m c).symm, h2.trans (final_dg m c).symm, hk⟩

end Cert.NormInGradIdeal.Local

end
-- ==== Proof.SiluBack.lean ====
/-
# The derivative of the sigmoid linear unit

The kernel takes the sigmoid out of the sum of two terms. The two forms are the same at every extended real: at the infinities the
sigmoid is one or zero, and elsewhere everything is real.
-/
module

public import proofs.«01_k».proof.Proof.Words

@[expose] public section

noncomputable section

namespace Cert.SiluBack

open Idealize.ShloMosaic

/-- The sigmoid. -/
abbrev sig (x : EReal) : EReal :=
  Ideal.div (Ideal.ofBits .f32 0x3F800000#32) (Ideal.ofBits .f32 0x3F800000#32 + Ideal.exp (-x))

theorem slope (x : EReal) :
    sig x * (Ideal.ofBits .f32 0x3F800000#32 + x * (Ideal.ofBits .f32 0x3F800000#32 - sig x))
      = Ideal.ofBits .f32 0x3F800000#32 * sig x
        + x * Ideal.ofBits .f32 0x3F800000#32 * (sig x * (Ideal.ofBits .f32 0x3F800000#32 - sig x)) := by
  unfold sig
  rw [Cert.Words.one]
  induction x using EReal.rec with
  | bot =>
    have h : Ideal.div ((1 : ℝ) : EReal) (((1 : ℝ) : EReal) + Ideal.exp (-⊥)) = 0 := by
      rw [EReal.neg_bot, Ideal.exp_top, EReal.coe_add_top]
      simp [Ideal.div]
    rw [h]
    simp
  | top =>
    have h : Ideal.div ((1 : ℝ) : EReal) (((1 : ℝ) : EReal) + Ideal.exp (-⊤)) = ((1 : ℝ) : EReal) := by
      simp [Ideal.div]
    rw [h, ← EReal.coe_sub]
    simp
  | coe v =>
    have he : (1 : ℝ) + Real.exp (-v) ≠ 0 := by positivity
    rw [← EReal.coe_neg, Ideal.exp_coe, ← EReal.coe_add, Ideal.div_coe he]
    norm_cast
    ring

end Cert.SiluBack

end
-- ==== Proof.FfnOutGradValue.lean ====
/-
# The gradient of the projection out of the feed-forward block

Each point of the grid takes its rows of the cotangent back through the norm, multiplies them by the transpose of the weight, and takes the
product back through the product of the sigmoid linear unit and the second factor. NormBack and SiluBack have why the kernel's forms of the
two derivatives are the reference's.
-/
module

public import proofs.«01_k».proof.Proof.Gen.FfnOutGradIdeal.Frame
public import proofs.«01_k».proof.Proof.Gen.FfnOutGradReferenceIdeal.Run
public import proofs.«01_k».proof.Proof.NormBack
public import proofs.«01_k».proof.Proof.SiluBack
public import Idealize.ShloMosaic.Lib.Pipeline.ValueKit

@[expose] public section

set_option maxRecDepth 16384

noncomputable section

open Idealize.ShloMosaic Idealize.ShloMosaic.TcCoe Idealize.SL.Sem

namespace Cert.FfnOutGradReferenceIdeal.Local

open Cert.FfnOutGradReferenceIdeal Cert.FfnOutGradReferenceIdeal.Gen

/-- The gradient of the norm of the rows `x`, from the cotangent `d` after the gain. -/
abbrev back (x d : FVec Ideal S8192x1024 .f32) : FVec Ideal S8192x1024 .f32 :=
  addf (addf (mulf d (broadcastInDim S8192x1024 ![0, 1] bcast_S8192x1_S8192x1024_0_1 (Host.rsqrt (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (mulf x (broadcastInDim S8192x1024 ![0] bcast_S8192_S8192x1024_0 (Host.reduceAdd (Host.divf (mulf (shapeCast _ (Host.reduceAdd (mulf x d) (constant (F := Ideal) S_ .f32 0x00000000#32) reducesTo_S8192x1024_S8192_d1 h_S_) shapeCasts_S8192_S8192x1) (mulf (broadcastInDim S8192x1 ![] bcast_S_S8192x1 (constant (F := Ideal) S_ .f32 0xBF000000#32)) (Host.divf (Host.rsqrt (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))) (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1 ![] bcast_S_S8192x1 (constant (F := Ideal) S_ .f32 0x44800000#32))) (constant (F := Ideal) S_ .f32 0x00000000#32) reducesTo_S8192x1_S8192_d1 h_S_)))) (mulf (broadcastInDim S8192x1024 ![0] bcast_S8192_S8192x1024_0 (Host.reduceAdd (Host.divf (mulf (shapeCast _ (Host.reduceAdd (mulf x d) (constant (F := Ideal) S_ .f32 0x00000000#32) reducesTo_S8192x1024_S8192_d1 h_S_) shapeCasts_S8192_S8192x1) (mulf (broadcastInDim S8192x1 ![] bcast_S_S8192x1 (constant (F := Ideal) S_ .f32 0xBF000000#32)) (Host.divf (Host.rsqrt (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))) (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1 ![] bcast_S_S8192x1 (constant (F := Ideal) S_ .f32 0x44800000#32))) (constant (F := Ideal) S_ .f32 0x00000000#32) reducesTo_S8192x1_S8192_d1 h_S_)) x)

theorem back_at (x d : FVec Ideal S8192x1024 .f32) (i : Fin 8192) (j : Fin 1024) :
    back x d (ix2 i j) = Cert.NormBack.long (Ideal.ofBits .f32 0x44800000#32) (fun k => x (ix2 i k)) (fun k => d (ix2 i k)) j := by
  pointwise [back, Cert.NormBack.long, Cert.NormBack.inner, Cert.NormBack.mean]
  simp only [Fin.sum_univ_one]

/-- The gradient of the gain, from the rows `x` and the cotangent `d` of the norm. -/
abbrev gain (x d : FVec Ideal S8192x1024 .f32) : FVec Ideal S1x1024 .f32 :=
  shapeCast _ (Host.reduceAdd (mulf (mulf x (broadcastInDim S8192x1024 ![0, 1] bcast_S8192x1_S8192x1024_0_1 (Host.rsqrt (addf (Host.divf (broadcastInDim S8192x1 ![0] bcast_S8192_S8192x1_0 (Host.reduceAdd (mulf x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) d) (constant (F := Ideal) S_ .f32 0x00000000#32) reducesTo_S8192x1024_S1024_d0 h_S_) shapeCasts_S1024_S1x1024

theorem gain_at (x d : FVec Ideal S8192x1024 .f32) (j : S1x1024.Idx) :
    gain x d j = ∑ l : Fin 8192, d (ix2 l (j 1)) * (x (ix2 l (j 1)) * Ideal.rsqrt (Cert.NormBack.mean (Ideal.ofBits .f32 0x44800000#32) fun k => x (ix2 l k))) := by
  pointwise [gain, Cert.NormBack.mean]
  exact Finset.sum_congr rfl fun l _ => mul_comm _ _

/-- The gradient of the projection, not rounded. -/
def dm (x0 x1 : FVec Ideal S8192x1024 .f32) (x2 : FVec Ideal S1x1024 .f32) : FVec Ideal S8192x1024 .f32 :=
  back x1 (mulf x0 (broadcastInDim S8192x1024 ![0, 1] bcast_S1x1024_S8192x1024_0_1 x2))

/-- The cotangent of the product with the sigmoid linear unit. -/
def dact (x0 x1 : FVec Ideal S8192x1024 .f32) (x2 : FVec Ideal S1x1024 .f32) (x3 : FVec Ideal S2816x1024 .bf16) : FVec Ideal S8192x2816 .f32 :=
  Host.dotGeneral dot_S8192x1024_S2816x1024_S8192x2816_1_1_0_0_n_n none (dm x0 x1 x2) (extf .f32 x3 bitsLt_bf16_f32)

/-- The sigmoid linear unit. -/
def silu (x4 : FVec Ideal S8192x2816 .f32) : FVec Ideal S8192x2816 .f32 :=
  mulf x4 (Host.divf (broadcastInDim S8192x2816 ![] bcast_S_S8192x2816 (constant (F := Ideal) S_ .f32 0x3F800000#32)) (addf (broadcastInDim S8192x2816 ![] bcast_S_S8192x2816 (constant (F := Ideal) S_ .f32 0x3F800000#32)) (Host.exp (Host.negf x4))))

/-- Its derivative. -/
def slope (x4 : FVec Ideal S8192x2816 .f32) : FVec Ideal S8192x2816 .f32 :=
  addf (mulf (broadcastInDim S8192x2816 ![] bcast_S_S8192x2816 (constant (F := Ideal) S_ .f32 0x3F800000#32)) (Host.divf (broadcastInDim S8192x2816 ![] bcast_S_S8192x2816 (constant (F := Ideal) S_ .f32 0x3F800000#32)) (addf (broadcastInDim S8192x2816 ![] bcast_S_S8192x2816 (constant (F := Ideal) S_ .f32 0x3F800000#32)) (Host.exp (Host.negf x4))))) (mulf (mulf x4 (broadcastInDim S8192x2816 ![] bcast_S_S8192x2816 (constant (F := Ideal) S_ .f32 0x3F800000#32))) (mulf (Host.divf (broadcastInDim S8192x2816 ![] bcast_S_S8192x2816 (constant (F := Ideal) S_ .f32 0x3F800000#32)) (addf (broadcastInDim S8192x2816 ![] bcast_S_S8192x2816 (constant (F := Ideal) S_ .f32 0x3F800000#32)) (Host.exp (Host.negf x4)))) (subf (broadcastInDim S8192x2816 ![] bcast_S_S8192x2816 (constant (F := Ideal) S_ .f32 0x3F800000#32)) (Host.divf (broadcastInDim S8192x2816 ![] bcast_S_S8192x2816 (constant (F := Ideal) S_ .f32 0x3F800000#32)) (addf (broadcastInDim S8192x2816 ![] bcast_S_S8192x2816 (constant (F := Ideal) S_ .f32 0x3F800000#32)) (Host.exp (Host.negf x4)))))))

theorem silu_at (x4 : FVec Ideal S8192x2816 .f32) (i : S8192x2816.Idx) : silu x4 i = x4 i * Cert.SiluBack.sig (x4 i) := by
  pointwise [silu, Cert.SiluBack.sig]

theorem slope_at (x4 : FVec Ideal S8192x2816 .f32) (i : S8192x2816.Idx) :
    slope x4 i = Cert.SiluBack.sig (x4 i) * (Ideal.ofBits .f32 0x3F800000#32 + x4 i * (Ideal.ofBits .f32 0x3F800000#32 - Cert.SiluBack.sig (x4 i))) := by
  rw [Cert.SiluBack.slope]
  pointwise [slope, Cert.SiluBack.sig]

/-- The gradient of the projection. -/
abbrev ddn (x0 x1 : FVec Ideal S8192x1024 .f32) (x2 : FVec Ideal S1x1024 .f32) : FVec Ideal S8192x1024 .bf16 :=
  truncf .bf16 (dm x0 x1 x2) bitsLt_bf16_f32

/-- The product, which the weight's gradient needs. -/
abbrev act (x4 x5 : FVec Ideal S8192x2816 .f32) : FVec Ideal S8192x2816 .bf16 :=
  truncf .bf16 (mulf (silu x4) x5) bitsLt_bf16_f32

/-- The gradient of the first projection. -/
abbrev dgt (x0 x1 : FVec Ideal S8192x1024 .f32) (x2 : FVec Ideal S1x1024 .f32) (x3 : FVec Ideal S2816x1024 .bf16) (x4 x5 : FVec Ideal S8192x2816 .f32) : FVec Ideal S8192x2816 .bf16 :=
  truncf .bf16 (mulf (mulf (dact x0 x1 x2 x3) x5) (slope x4)) bitsLt_bf16_f32

/-- The gradient of the second projection. -/
abbrev dup (x0 x1 : FVec Ideal S8192x1024 .f32) (x2 : FVec Ideal S1x1024 .f32) (x3 : FVec Ideal S2816x1024 .bf16) (x4 : FVec Ideal S8192x2816 .f32) : FVec Ideal S8192x2816 .bf16 :=
  truncf .bf16 (mulf (dact x0 x1 x2 x3) (silu x4)) bitsLt_bf16_f32

/-- The gradient of the gain. -/
abbrev dg (x0 x1 : FVec Ideal S8192x1024 .f32) : FVec Ideal S1x1024 .f32 :=
  gain x1 x0

end Cert.FfnOutGradReferenceIdeal.Local

namespace Cert.FfnOutGradIdeal.Local

open Cert.FfnOutGradIdeal Cert.FfnOutGradIdeal.Gen

/-- The blocks of the windows at a point of the grid. -/
theorem blocks : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![0, 0] :=
  (by decide +kernel : ∀ t : Fin grid0.N, _)

/-- The last point of the grid. -/
def lastPoint : Fin grid0.N := ⟨31, by rw [N_0]; decide⟩

theorem grad_at (v0 v1 : FVec Ideal S256x1024 .f32) (v2 : FVec Ideal S1x1024 .f32) (i : Fin 256) (j : Fin 1024) :
    k0_pay11 (F := Ideal) v0 v1 v2 (ix2 i j) = Cert.NormBack.long (Ideal.ofBits .f32 0x44800000#32) (fun k => v1 (ix2 i k)) (fun k => v0 (ix2 i k) * v2 (ix2 0 k)) j := by
  rw [← Cert.NormBack.short_eq_long _ 1024 (by norm_num) Cert.Words.w1024]
  pointwise [k0_pay11, k0_pay8, k0_pay7, Cert.NormBack.short, Cert.NormBack.mean]

theorem silu_at (v39 : FVec Ideal S256x2816 .f32) (i : S256x2816.Idx) : k0_pay3 (F := Ideal) v39 i = v39 i * Cert.SiluBack.sig (v39 i) := by
  pointwise [k0_pay3, k0_pay2, Cert.SiluBack.sig]
  simp only [zero_sub]

theorem dgt_at (v35 : FVec Ideal S256x1024 .bf16) (v37 : FVec Ideal S2816x1024 .bf16) (v39 v40 : FVec Ideal S256x2816 .f32) (i : S256x2816.Idx) :
    k0_pay6 (F := Ideal) v35 v37 v39 v40 i = k0_pay1 (F := Ideal) v35 v37 i * v40 i
      * (Cert.SiluBack.sig (v39 i) * (Ideal.ofBits .f32 0x3F800000#32 + v39 i * (Ideal.ofBits .f32 0x3F800000#32 - Cert.SiluBack.sig (v39 i)))) := by
  pointwise [k0_pay6, k0_pay2, Cert.SiluBack.sig]
  simp only [zero_sub]

theorem start (j : S1x1024.Idx) : k0_pay9 (F := Ideal) j = 0 := by
  pointwise [k0_pay9]

theorem step (v0 v1 : FVec Ideal S256x1024 .f32) (acc : FVec Ideal S1x1024 .f32) (j : S1x1024.Idx) :
    k0_pay10 (F := Ideal) v0 v1 acc j
      = acc j + ∑ l : Fin 256, v0 (ix2 l (j 1)) * (v1 (ix2 l (j 1)) * Ideal.rsqrt (Cert.NormBack.mean (Ideal.ofBits .f32 0x44800000#32) fun k => v1 (ix2 l k))) := by
  pointwise [k0_pay10, k0_pay8, k0_pay7, Cert.NormBack.mean]

/-- The gradient of the projection, at a row of a block. -/
theorem dm_block (m : (ℓ : Loc nD τ sig) → Buf (Elt Ideal) ℓ) (c : Dev nD) (t : Fin cfg0.N) (i : Fin 256) (l : Fin 8192) (hl : l.val = t.val * 256 + i.val) (k : Fin 1024) :
    (k0_pay11 (F := Ideal) (iblk m c 0 t) (iblk m c 1 t) (iblk m c 2 t)) (ix2 i k) = Cert.FfnOutGradReferenceIdeal.Local.dm (m ((c : Thread nD τ).loc main_arg0)) (m ((c : Thread nD τ).loc main_arg1)) (m ((c : Thread nD τ).loc main_arg2)) (ix2 l k) := by
  refine (grad_at _ _ _ i k).trans (Eq.trans ?_ (Cert.FfnOutGradReferenceIdeal.Local.back_at _ _ l k).symm)
  refine congrArg₂ (fun f g => Cert.NormBack.long (Ideal.ofBits .f32 0x44800000#32) f g k) (funext fun q => ?_) (funext fun q => ?_)
  · blk_point [iblk, V, blocks t]
  · pointwise []
    blk_point [iblk, V, blocks t]

/-- The product with the weight, at a row of a block. -/
theorem dact_block (m : (ℓ : Loc nD τ sig) → Buf (Elt Ideal) ℓ) (c : Dev nD) (t : Fin cfg0.N) (i : Fin 256) (l : Fin 8192) (hl : l.val = t.val * 256 + i.val) (k : Fin 2816) :
    k0_pay1 (F := Ideal) (k0_pay11 (F := Ideal) (iblk m c 0 t) (iblk m c 1 t) (iblk m c 2 t)) (iblk m c 3 t) (ix2 i k) = Cert.FfnOutGradReferenceIdeal.Local.dact (m ((c : Thread nD τ).loc main_arg0)) (m ((c : Thread nD τ).loc main_arg1)) (m ((c : Thread nD τ).loc main_arg2)) (m ((c : Thread nD τ).loc main_arg3)) (ix2 l k) := by
  pointwise [k0_pay1, Cert.FfnOutGradReferenceIdeal.Local.dact]
  refine Finset.sum_congr rfl fun q _ => congrArg₂ (fun a b : EReal => a * b) (dm_block m c t i l hl q) ?_
  blk_point [iblk, V, blocks t]

theorem gt_block (m : (ℓ : Loc nD τ sig) → Buf (Elt Ideal) ℓ) (c : Dev nD) (t : Fin cfg0.N) (i : Fin 256) (l : Fin 8192) (hl : l.val = t.val * 256 + i.val) (k : Fin 2816) :
    iblk m c 4 t (ix2 i k) = m ((c : Thread nD τ).loc main_arg4) (ix2 l k) := by
  blk_point [iblk, V, blocks t]

theorem up_block (m : (ℓ : Loc nD τ sig) → Buf (Elt Ideal) ℓ) (c : Dev nD) (t : Fin cfg0.N) (i : Fin 256) (l : Fin 8192) (hl : l.val = t.val * 256 + i.val) (k : Fin 2816) :
    iblk m c 5 t (ix2 i k) = m ((c : Thread nD τ).loc main_arg5) (ix2 l k) := by
  blk_point [iblk, V, blocks t]

theorem final_ddn (m : (ℓ : Loc nD τ sig) → Buf (Elt Ideal) ℓ) (c : Dev nD) : (dats m 0 c).arrAt 6 cfg0.N
    = Cert.FfnOutGradReferenceIdeal.Local.ddn (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  have h0 : (((View.whole main_v0_0).slice (win0_6.rect t)).emb y 0 : ℕ) = t.val * 256 + (y 0 : ℕ) := by
    change ((((cfg0.win 6).blk t).view.emb y 0 : Fin _) : ℕ) = _
    blk_simp [blocks t]
  have h1 : (((View.whole main_v0_0).slice (win0_6.rect t)).emb y 1 : ℕ) = (y 1 : ℕ) := by
    change ((((cfg0.win 6).blk t).view.emb y 1 : Fin _) : ℕ) = _
    blk_simp [blocks t]
  have key : ∀ (y : S256x1024.Idx) (z : S8192x1024.Idx), (z 0).val = t.val * 256 + (y 0).val → (z 1).val = (y 1).val →
      k0_pay11 (F := Ideal) (iblk m c 0 t) (iblk m c 1 t) (iblk m c 2 t) y = Cert.FfnOutGradReferenceIdeal.Local.ddn (m ((c : Thread nD τ).loc main_arg0)) (m ((c : Thread nD τ).loc main_arg1)) (m ((c : Thread nD τ).loc main_arg2)) z := fun y z h0 h1 => by
    obtain ⟨i, j, rfl⟩ : ∃ (i : Fin 256) (j : Fin 1024), y = ix2 i j := ⟨y 0, y 1, eq_ix2 y⟩
    obtain ⟨l, k, rfl⟩ : ∃ (l : Fin 8192) (k : Fin 1024), z = ix2 l k := ⟨z 0, z 1, eq_ix2 z⟩
    obtain rfl : k = j := Fin.ext h1
    have hl : l.val = t.val * 256 + i.val := h0
    exact dm_block m c t i l h0 k
  by_cases h : t.val % 32 = 0
  · rw [outsAt0_A m c t h]
    dsimp only
    frame_out
    exact key y _ h0 h1
  · rw [outsAt0_B m c t h]
    dsimp only
    frame_out
    exact key y _ h0 h1

theorem final_act (m : (ℓ : Loc nD τ sig) → Buf (Elt Ideal) ℓ) (c : Dev nD) : (dats m 0 c).arrAt 7 cfg0.N
    = Cert.FfnOutGradReferenceIdeal.Local.act (m ((c : Thread nD τ).loc main_arg4)) (m ((c : Thread nD τ).loc main_arg5)) := by
  refine (dats m 0 c).arrAt_eq_of_covers 7 _ (by decide +kernel) fun t hf y => ?_
  blk_simp
  rw [after0_7]
  have h0 : (((View.whole main_v0_1).slice (win0_7.rect t)).emb y 0 : ℕ) = t.val * 256 + (y 0 : ℕ) := by
    change ((((cfg0.win 7).blk t).view.emb y 0 : Fin _) : ℕ) = _
    blk_simp [blocks t]
  have h1 : (((View.whole main_v0_1).slice (win0_7.rect t)).emb y 1 : ℕ) = (y 1 : ℕ) := by
    change ((((cfg0.win 7).blk t).view.emb y 1 : Fin _) : ℕ) = _
    blk_simp [blocks t]
  have key : ∀ (y : S256x2816.Idx) (z : S8192x2816.Idx), (z 0).val = t.val * 256 + (y 0).val → (z 1).val = (y 1).val →
      k0_pay4 (F := Ideal) (iblk m c 4 t) (iblk m c 5 t) y = Cert.FfnOutGradReferenceIdeal.Local.act (m ((c : Thread nD τ).loc main_arg4)) (m ((c : Thread nD τ).loc main_arg5)) z := fun y z h0 h1 => by
    obtain ⟨i, j, rfl⟩ : ∃ (i : Fin 256) (j : Fin 2816), y = ix2 i j := ⟨y 0, y 1, eq_ix2 y⟩
    obtain ⟨l, k, rfl⟩ : ∃ (l : Fin 8192) (k : Fin 2816), z = ix2 l k := ⟨z 0, z 1, eq_ix2 z⟩
    obtain rfl : k = j := Fin.ext h1
    have hl : l.val = t.val * 256 + i.val := h0
    show k0_pay3 (F := Ideal) (iblk m c 4 t) (ix2 i k) * iblk m c 5 t (ix2 i k) = Cert.FfnOutGradReferenceIdeal.Local.silu (m ((c : Thread nD τ).loc main_arg4)) (ix2 l k) * m ((c : Thread nD τ).loc main_arg5) (ix2 l k)
    exact congrArg₂ (fun a b : EReal => a * b) ((silu_at _ _).trans ((congrArg (fun x : EReal => x * Cert.SiluBack.sig x) (gt_block m c t i l hl k)).trans (Cert.FfnOutGradReferenceIdeal.Local.silu_at _ _).symm)) (up_block m c t i l hl k)
  by_cases h : t.val % 32 = 0
  · rw [outsAt0_A m c t h]
    dsimp only
    frame_out
    exact key y _ h0 h1
  · rw [outsAt0_B m c t h]
    dsimp only
    frame_out
    exact key y _ h0 h1

theorem final_dgt (m : (ℓ : Loc nD τ sig) → Buf (Elt Ideal) ℓ) (c : Dev nD) : (dats m 0 c).arrAt 8 cfg0.N
    = Cert.FfnOutGradReferenceIdeal.Local.dgt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  have h0 : (((View.whole main_v0_2).slice (win0_8.rect t)).emb y 0 : ℕ) = t.val * 256 + (y 0 : ℕ) := by
    change ((((cfg0.win 8).blk t).view.emb y 0 : Fin _) : ℕ) = _
    blk_simp [blocks t]
  have h1 : (((View.whole main_v0_2).slice (win0_8.rect t)).emb y 1 : ℕ) = (y 1 : ℕ) := by
    change ((((cfg0.win 8).blk t).view.emb y 1 : Fin _) : ℕ) = _
    blk_simp [blocks t]
  have key : ∀ (y : S256x2816.Idx) (z : S8192x2816.Idx), (z 0).val = t.val * 256 + (y 0).val → (z 1).val = (y 1).val →
      k0_pay6 (F := Ideal) (k0_pay11 (F := Ideal) (iblk m c 0 t) (iblk m c 1 t) (iblk m c 2 t)) (iblk m c 3 t) (iblk m c 4 t) (iblk m c 5 t) y = Cert.FfnOutGradReferenceIdeal.Local.dgt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) z := fun y z h0 h1 => by
    obtain ⟨i, j, rfl⟩ : ∃ (i : Fin 256) (j : Fin 2816), y = ix2 i j := ⟨y 0, y 1, eq_ix2 y⟩
    obtain ⟨l, k, rfl⟩ : ∃ (l : Fin 8192) (k : Fin 2816), z = ix2 l k := ⟨z 0, z 1, eq_ix2 z⟩
    obtain rfl : k = j := Fin.ext h1
    have hl : l.val = t.val * 256 + i.val := h0
    refine (dgt_at _ _ _ _ _).trans ?_
    show _ = Cert.FfnOutGradReferenceIdeal.Local.dact (m ((c : Thread nD τ).loc main_arg0)) (m ((c : Thread nD τ).loc main_arg1)) (m ((c : Thread nD τ).loc main_arg2)) (m ((c : Thread nD τ).loc main_arg3)) (ix2 l k) * m ((c : Thread nD τ).loc main_arg5) (ix2 l k) * Cert.FfnOutGradReferenceIdeal.Local.slope (m ((c : Thread nD τ).loc main_arg4)) (ix2 l k)
    rw [Cert.FfnOutGradReferenceIdeal.Local.slope_at]
    exact congrArg₂ (fun a b : EReal => a * b) (congrArg₂ (fun a b : EReal => a * b) (dact_block m c t i l hl k) (up_block m c t i l hl k))
      (congrArg (fun x : EReal => Cert.SiluBack.sig x * (Ideal.ofBits .f32 0x3F800000#32 + x * (Ideal.ofBits .f32 0x3F800000#32 - Cert.SiluBack.sig x))) (gt_block m c t i l hl k))
  by_cases h : t.val % 32 = 0
  · rw [outsAt0_A m c t h]
    dsimp only
    frame_out
    exact key y _ h0 h1
  · rw [outsAt0_B m c t h]
    dsimp only
    frame_out
    exact key y _ h0 h1

theorem final_dup (m : (ℓ : Loc nD τ sig) → Buf (Elt Ideal) ℓ) (c : Dev nD) : (dats m 0 c).arrAt 9 cfg0.N
    = Cert.FfnOutGradReferenceIdeal.Local.dup (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9]
  have h0 : (((View.whole main_v0_3).slice (win0_9.rect t)).emb y 0 : ℕ) = t.val * 256 + (y 0 : ℕ) := by
    change ((((cfg0.win 9).blk t).view.emb y 0 : Fin _) : ℕ) = _
    blk_simp [blocks t]
  have h1 : (((View.whole main_v0_3).slice (win0_9.rect t)).emb y 1 : ℕ) = (y 1 : ℕ) := by
    change ((((cfg0.win 9).blk t).view.emb y 1 : Fin _) : ℕ) = _
    blk_simp [blocks t]
  have key : ∀ (y : S256x2816.Idx) (z : S8192x2816.Idx), (z 0).val = t.val * 256 + (y 0).val → (z 1).val = (y 1).val →
      k0_pay5 (F := Ideal) (k0_pay11 (F := Ideal) (iblk m c 0 t) (iblk m c 1 t) (iblk m c 2 t)) (iblk m c 3 t) (iblk m c 4 t) y = Cert.FfnOutGradReferenceIdeal.Local.dup (m ((c : Thread nD τ).loc main_arg0)) (m ((c : Thread nD τ).loc main_arg1)) (m ((c : Thread nD τ).loc main_arg2)) (m ((c : Thread nD τ).loc main_arg3)) (m ((c : Thread nD τ).loc main_arg4)) z := fun y z h0 h1 => by
    obtain ⟨i, j, rfl⟩ : ∃ (i : Fin 256) (j : Fin 2816), y = ix2 i j := ⟨y 0, y 1, eq_ix2 y⟩
    obtain ⟨l, k, rfl⟩ : ∃ (l : Fin 8192) (k : Fin 2816), z = ix2 l k := ⟨z 0, z 1, eq_ix2 z⟩
    obtain rfl : k = j := Fin.ext h1
    have hl : l.val = t.val * 256 + i.val := h0
    show k0_pay1 (F := Ideal) (k0_pay11 (F := Ideal) (iblk m c 0 t) (iblk m c 1 t) (iblk m c 2 t)) (iblk m c 3 t) (ix2 i k) * k0_pay3 (F := Ideal) (iblk m c 4 t) (ix2 i k) = Cert.FfnOutGradReferenceIdeal.Local.dact (m ((c : Thread nD τ).loc main_arg0)) (m ((c : Thread nD τ).loc main_arg1)) (m ((c : Thread nD τ).loc main_arg2)) (m ((c : Thread nD τ).loc main_arg3)) (ix2 l k) * Cert.FfnOutGradReferenceIdeal.Local.silu (m ((c : Thread nD τ).loc main_arg4)) (ix2 l k)
    exact congrArg₂ (fun a b : EReal => a * b) (dact_block m c t i l hl k) ((silu_at _ _).trans ((congrArg (fun x : EReal => x * Cert.SiluBack.sig x) (gt_block m c t i l hl k)).trans (Cert.FfnOutGradReferenceIdeal.Local.silu_at _ _).symm))
  by_cases h : t.val % 32 = 0
  · rw [outsAt0_A m c t h]
    dsimp only
    frame_out
    exact key y _ h0 h1
  · rw [outsAt0_B m c t h]
    dsimp only
    frame_out
    exact key y _ h0 h1

theorem final_dg (m : (ℓ : Loc nD τ sig) → Buf (Elt Ideal) ℓ) (c : Dev nD) : (dats m 0 c).arrAt 10 cfg0.N
    = Cert.FfnOutGradReferenceIdeal.Local.dg (m ((c : Thread nD τ).loc main_arg0)) (m ((c : Thread nD τ).loc main_arg1)) := by
  refine (dats m 0 c).arrAt_eq_of_after_last 10 lastPoint (by decide +kernel) _ fun j => ?_
  blk_simp
  rw [after0_10, Pipeline.eq_sum_fin_of_reset_step_apply_last (fun n h => (outsAt0 m c n h).2.2.2.2) 32 (fun _ => 0) _
    (fun t h j => by rw [outsAt0_A m c t h]; dsimp only; frame_out; rw [step, start])
    (fun t h j => by rw [outsAt0_B m c t h]; dsimp only; frame_out; rw [step])
    (le_of_eq N_0) lastPoint rfl j, zero_add]
  refine Eq.trans ?_ (Cert.FfnOutGradReferenceIdeal.Local.gain_at _ _ j).symm
  refine Fin.sum_mul_add_congr fun s k hl => ?_
  refine congrArg₂ (fun a b : EReal => a * b) ?_ (congrArg₂ (fun a b : EReal => a * b) ?_ (congrArg (fun f => Ideal.rsqrt (Cert.NormBack.mean (Ideal.ofBits .f32 0x44800000#32) f)) (funext fun q => ?_)))
  · blk_point [iblk, V, blocks s]
  · blk_point [iblk, V, blocks s]
  · blk_point [iblk, V, blocks s]

/-- Kernel and reference, from memories that hold the same arrays. -/
theorem same (m : (ℓ : Loc nD τ sig) → Buf (Elt Ideal) ℓ) (g : Dev nD → PrngReg)
    (m' : (ℓ : Loc Cert.FfnOutGradReferenceIdeal.nD Cert.FfnOutGradReferenceIdeal.τ Cert.FfnOutGradReferenceIdeal.sig) → Buf (Elt Ideal) ℓ) (g' : Dev Cert.FfnOutGradReferenceIdeal.nD → PrngReg)
    (hm : ∀ c : Dev nD,
      m' ((c.tc : Thread Cert.FfnOutGradReferenceIdeal.nD Cert.FfnOutGradReferenceIdeal.τ).loc Cert.FfnOutGradReferenceIdeal.main_arg0) = m ((c.tc : Thread nD τ).loc main_arg0)
      ∧ m' ((c.tc : Thread Cert.FfnOutGradReferenceIdeal.nD Cert.FfnOutGradReferenceIdeal.τ).loc Cert.FfnOutGradReferenceIdeal.main_arg1) = m ((c.tc : Thread nD τ).loc main_arg1)
      ∧ m' ((c.tc : Thread Cert.FfnOutGradReferenceIdeal.nD Cert.FfnOutGradReferenceIdeal.τ).loc Cert.FfnOutGradReferenceIdeal.main_arg2) = m ((c.tc : Thread nD τ).loc main_arg2)
      ∧ m' ((c.tc : Thread Cert.FfnOutGradReferenceIdeal.nD Cert.FfnOutGradReferenceIdeal.τ).loc Cert.FfnOutGradReferenceIdeal.main_arg3) = m ((c.tc : Thread nD τ).loc main_arg3)
      ∧ m' ((c.tc : Thread Cert.FfnOutGradReferenceIdeal.nD Cert.FfnOutGradReferenceIdeal.τ).loc Cert.FfnOutGradReferenceIdeal.main_arg4) = m ((c.tc : Thread nD τ).loc main_arg4)
      ∧ m' ((c.tc : Thread Cert.FfnOutGradReferenceIdeal.nD Cert.FfnOutGradReferenceIdeal.τ).loc Cert.FfnOutGradReferenceIdeal.main_arg5) = m ((c.tc : Thread nD τ).loc main_arg5)) :
    ∃ (v0 : (c : Dev nD) → Buf (Elt Ideal) ((c.tc : Thread nD τ).loc main_v0_0)) (v1 : (c : Dev nD) → Buf (Elt Ideal) ((c.tc : Thread nD τ).loc main_v0_1)) (v2 : (c : Dev nD) → Buf (Elt Ideal) ((c.tc : Thread nD τ).loc main_v0_2)) (v3 : (c : Dev nD) → Buf (Elt Ideal) ((c.tc : Thread nD τ).loc main_v0_3)) (v4 : (c : Dev nD) → Buf (Elt Ideal) ((c.tc : Thread nD τ).loc main_v0_4)),
      θ_run (defs (F := Ideal)) (onTc (τ := τ) (main (F := Ideal))) ⟨m, fun _ => 0, g⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_v0_2) = v2 c
          ∧ r.2.mem ((c.tc : Thread nD τ).loc main_v0_3) = v3 c
          ∧ r.2.mem ((c.tc : Thread nD τ).loc main_v0_4) = v4 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5))
      ∧ θ_run (Cert.FfnOutGradReferenceIdeal.defs (F := Ideal)) (onTc (τ := Cert.FfnOutGradReferenceIdeal.τ) (Cert.FfnOutGradReferenceIdeal.main (F := Ideal))) ⟨m', fun _ => 0, g'⟩ (fun r => ∀ c : Dev Cert.FfnOutGradReferenceIdeal.nD,
          r.2.mem ((c.tc : Thread Cert.FfnOutGradReferenceIdeal.nD Cert.FfnOutGradReferenceIdeal.τ).loc Cert.FfnOutGradReferenceIdeal.main_v45) = v0 c
          ∧ r.2.mem ((c.tc : Thread Cert.FfnOutGradReferenceIdeal.nD Cert.FfnOutGradReferenceIdeal.τ).loc Cert.FfnOutGradReferenceIdeal.main_v46) = v1 c
          ∧ r.2.mem ((c.tc : Thread Cert.FfnOutGradReferenceIdeal.nD Cert.FfnOutGradReferenceIdeal.τ).loc Cert.FfnOutGradReferenceIdeal.main_v47) = v2 c
          ∧ r.2.mem ((c.tc : Thread Cert.FfnOutGradReferenceIdeal.nD Cert.FfnOutGradReferenceIdeal.τ).loc Cert.FfnOutGradReferenceIdeal.main_v48) = v3 c
          ∧ r.2.mem ((c.tc : Thread Cert.FfnOutGradReferenceIdeal.nD Cert.FfnOutGradReferenceIdeal.τ).loc Cert.FfnOutGradReferenceIdeal.main_v18) = v4 c
          ∧ r.2.mem ((c.tc : Thread Cert.FfnOutGradReferenceIdeal.nD Cert.FfnOutGradReferenceIdeal.τ).loc Cert.FfnOutGradReferenceIdeal.main_arg0) = m' ((c.tc : Thread Cert.FfnOutGradReferenceIdeal.nD Cert.FfnOutGradReferenceIdeal.τ).loc Cert.FfnOutGradReferenceIdeal.main_arg0)
          ∧ r.2.mem ((c.tc : Thread Cert.FfnOutGradReferenceIdeal.nD Cert.FfnOutGradReferenceIdeal.τ).loc Cert.FfnOutGradReferenceIdeal.main_arg1) = m' ((c.tc : Thread Cert.FfnOutGradReferenceIdeal.nD Cert.FfnOutGradReferenceIdeal.τ).loc Cert.FfnOutGradReferenceIdeal.main_arg1)
          ∧ r.2.mem ((c.tc : Thread Cert.FfnOutGradReferenceIdeal.nD Cert.FfnOutGradReferenceIdeal.τ).loc Cert.FfnOutGradReferenceIdeal.main_arg2) = m' ((c.tc : Thread Cert.FfnOutGradReferenceIdeal.nD Cert.FfnOutGradReferenceIdeal.τ).loc Cert.FfnOutGradReferenceIdeal.main_arg2)
          ∧ r.2.mem ((c.tc : Thread Cert.FfnOutGradReferenceIdeal.nD Cert.FfnOutGradReferenceIdeal.τ).loc Cert.FfnOutGradReferenceIdeal.main_arg3) = m' ((c.tc : Thread Cert.FfnOutGradReferenceIdeal.nD Cert.FfnOutGradReferenceIdeal.τ).loc Cert.FfnOutGradReferenceIdeal.main_arg3)
          ∧ r.2.mem ((c.tc : Thread Cert.FfnOutGradReferenceIdeal.nD Cert.FfnOutGradReferenceIdeal.τ).loc Cert.FfnOutGradReferenceIdeal.main_arg4) = m' ((c.tc : Thread Cert.FfnOutGradReferenceIdeal.nD Cert.FfnOutGradReferenceIdeal.τ).loc Cert.FfnOutGradReferenceIdeal.main_arg4)
          ∧ r.2.mem ((c.tc : Thread Cert.FfnOutGradReferenceIdeal.nD Cert.FfnOutGradReferenceIdeal.τ).loc Cert.FfnOutGradReferenceIdeal.main_arg5) = m' ((c.tc : Thread Cert.FfnOutGradReferenceIdeal.nD Cert.FfnOutGradReferenceIdeal.τ).loc Cert.FfnOutGradReferenceIdeal.main_arg5)) := by
  refine ⟨fun c => (dats m 0 c).arrAt 6 cfg0.N, fun c => (dats m 0 c).arrAt 7 cfg0.N, fun c => (dats m 0 c).arrAt 8 cfg0.N, fun c => (dats m 0 c).arrAt 9 cfg0.N, fun c => (dats m 0 c).arrAt 10 cfg0.N, ?_,
    (θ_run _ _ _).mono (fun r h c => ?_) (Cert.FfnOutGradReferenceIdeal.Value.run m' g')⟩
  · exact (θ_run defs _ _).mono (fun r h c => ⟨(h c).1 6, (h c).1 7, (h c).1 8, (h c).1 9, (h c).1 10, ((h c).1 0).trans ((dats m 0 c).arrAt_in 0 rfl _), ((h c).1 1).trans ((dats m 0 c).arrAt_in 1 rfl _), ((h c).1 2).trans ((dats m 0 c).arrAt_in 2 rfl _), ((h c).1 3).trans ((dats m 0 c).arrAt_in 3 rfl _), ((h c).1 4).trans ((dats m 0 c).arrAt_in 4 rfl _), ((h c).1 5).trans ((dats m 0 c).arrAt_in 5 rfl _)⟩) (run_main m g)
  obtain ⟨h0, h1, h2, h3, h4, hk⟩ := h c
  obtain ⟨e0, e1, e2, e3, e4, e5⟩ := hm c
  unfold Cert.FfnOutGradReferenceIdeal.Value.res_main_v47 at h2
  unfold Cert.FfnOutGradReferenceIdeal.Value.res_main_v48 at h3
  rw [e0, e1, e2] at h0
  rw [e4, e5] at h1
  rw [e0, e1, e2, e3, e4, e5] at h2
  rw [e0, e1, e2, e3, e4] at h3
  rw [e0, e1] at h4
  exact ⟨h0.trans (final_ddn m c).symm, h1.trans (final_act m c).symm, h2.trans (final_dgt m c).symm, h3.trans (final_dup m c).symm, h4.trans (final_dg m c).symm, hk⟩

end Cert.FfnOutGradIdeal.Local

end
-- ==== Proof.UpdateSmallValue.lean ====
/-
# The optimizer's step for the small weights

The small weights lie in one packed array. Each point of the grid adds the eight devices' gradients over its block of rows
and takes the step there; the blocks fill the four results.
-/
module

public import proofs.«01_k».proof.Proof.Gen.UpdateSmallIdeal.Frame
public import proofs.«01_k».proof.Proof.Gen.UpdateSmallReferenceIdeal.Run
public import Idealize.ShloMosaic.Lib.Pipeline.ValueKit

@[expose] public section

set_option maxRecDepth 16384

noncomputable section

namespace Cert.UpdateSmallIdeal.Local

open Idealize.ShloMosaic Idealize.ShloMosaic.TcCoe Idealize.SL.Sem
open Cert.UpdateSmallIdeal Cert.UpdateSmallIdeal.Gen

/-- The blocks that a point of the grid reads and writes. -/
theorem blocks : ∀ t : Fin cfg0.N, win0_0.index t = ![0, t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- A number at every index. -/
abbrev all (w : BitVec 32) : FVec Ideal S4608x128 .f32 :=
  broadcastInDim S4608x128 ![] Cert.UpdateSmallReferenceIdeal.Gen.bcast_S_S4608x128
    (constant (F := Ideal) Cert.UpdateSmallReferenceIdeal.S_ .f32 w)

/-- The gradient: the sum of the eight devices' arrays. -/
def grad (x : FVec Ideal S8x4608x128 .f32) : FVec Ideal S4608x128 .f32 :=
  Host.reduceAdd x (constant (F := Ideal) Cert.UpdateSmallReferenceIdeal.S_ .f32 0x00000000#32)
    Cert.UpdateSmallReferenceIdeal.Gen.reducesTo_S8x4608x128_S4608x128_d0 Cert.UpdateSmallReferenceIdeal.Gen.h_S_

/-- The first moment after the step. -/
abbrev first (g u : FVec Ideal S4608x128 .f32) : FVec Ideal S4608x128 .f32 :=
  addf (mulf (all 0x3F666666#32) u) (mulf (all 0x3DCCCCCD#32) g)

/-- The second moment after the step. -/
abbrev second (g s : FVec Ideal S4608x128 .f32) : FVec Ideal S4608x128 .f32 :=
  addf (mulf (all 0x3F7FBE77#32) s) (mulf (all 0x3A83126F#32) (mulf g g))

/-- The weights' change, from the two moments and the weights. -/
abbrev change (u s w : FVec Ideal S4608x128 .f32) : FVec Ideal S4608x128 .f32 :=
  mulf (all 0xBA83126F#32)
    (addf (Host.divf (Host.divf u (all 0x3F26BD02#32))
        (addf (Host.sqrt (Host.divf s (all 0x3C231ACC#32))) (all 0x322BCC77#32)))
      (mulf (all 0x3C23D70A#32) w))

section pieces
variable (v w u s : FVec Ideal S512x128 .f32) (g a b d : FVec Ideal S4608x128 .f32) (y : S512x128.Idx) (z : S4608x128.Idx)

/-- What the body stores for the first moment, at an index where its operands agree with whole arrays. -/
theorem first_at (hv : v y = g z) (hu : u y = a z) : k0_pay1 v u y = first g a z := by
  pointwise [k0_pay1]
  rw [hv, hu]

/-- The same for the second moment. -/
theorem second_at (hv : v y = g z) (hs : s y = b z) : k0_pay2 v s y = second g b z := by
  pointwise [k0_pay2]
  rw [hv, hs]

/-- The same for the change. -/
theorem change_at (hv : v y = g z) (hw : w y = d z) (hu : u y = a z) (hs : s y = b z) :
    k0_pay3 v w u s y = change (first g a) (second g b) d z := by
  pointwise [k0_pay3, k0_pay1, k0_pay2]
  rw [hv, hw, hu, hs]

end pieces

section
variable (m : (ℓ : Loc nD τ sig) → Buf (Elt Ideal) ℓ) (c : Dev nD)

/-- What a point of the grid adds up is the gradient at the indices of its block. -/
theorem block_grad (t : Fin cfg0.N) (y : S512x128.Idx) :
    k0_pay5 (iblk m c 0 t) (iblk m c 1 t) (iblk m c 2 t) (iblk m c 3 t) y
      = grad (m ((c : Thread nD τ).loc main_arg0)) ((win0_4.blk t).view.emb y) := by
  pointwise [k0_pay5, k0_pay4, grad]
  rw [Fin.sum_univ_eight]
  blk_point [iblk, V, blocks t]

/-- A block of an argument holds that argument at the indices of the block. -/
theorem block_arg1 (t : Fin cfg0.N) (y : S512x128.Idx) :
    iblk m c 1 t y = m ((c : Thread nD τ).loc main_arg1) ((win0_4.blk t).view.emb y) := by
  blk_point [iblk, V, blocks t]

theorem block_arg2 (t : Fin cfg0.N) (y : S512x128.Idx) :
    iblk m c 2 t y = m ((c : Thread nD τ).loc main_arg2) ((win0_4.blk t).view.emb y) := by
  blk_point [iblk, V, blocks t]

theorem block_arg3 (t : Fin cfg0.N) (y : S512x128.Idx) :
    iblk m c 3 t y = m ((c : Thread nD τ).loc main_arg3) ((win0_4.blk t).view.emb y) := by
  blk_point [iblk, V, blocks t]

theorem final_grad : (dats m 0 c).arrAt 4 cfg0.N = grad (m ((c : Thread nD τ).loc main_arg0)) := by
  refine (dats m 0 c).arrAt_eq_of_covers 4 _ (by decide +kernel) fun t _ y => ?_
  blk_simp
  rw [after0_4]
  frame_out
  exact block_grad m c t y

theorem final_change : (dats m 0 c).arrAt 5 cfg0.N
    = change (first (grad (m ((c : Thread nD τ).loc main_arg0))) (m ((c : Thread nD τ).loc main_arg2)))
        (second (grad (m ((c : Thread nD τ).loc main_arg0))) (m ((c : Thread nD τ).loc main_arg3)))
        (m ((c : Thread nD τ).loc main_arg1)) := by
  refine (dats m 0 c).arrAt_eq_of_covers 5 _ (by decide +kernel) fun t _ y => ?_
  blk_simp
  rw [after0_5]
  frame_out
  exact change_at _ _ _ _ _ _ _ _ _ _ (block_grad m c t y) (block_arg1 m c t y) (block_arg2 m c t y) (block_arg3 m c t y)

theorem final_first : (dats m 0 c).arrAt 6 cfg0.N
    = first (grad (m ((c : Thread nD τ).loc main_arg0))) (m ((c : Thread nD τ).loc main_arg2)) := by
  refine (dats m 0 c).arrAt_eq_of_covers 6 _ (by decide +kernel) fun t _ y => ?_
  blk_simp
  rw [after0_6]
  frame_out
  exact first_at _ _ _ _ _ _ (block_grad m c t y) (block_arg2 m c t y)

theorem final_second : (dats m 0 c).arrAt 7 cfg0.N
    = second (grad (m ((c : Thread nD τ).loc main_arg0))) (m ((c : Thread nD τ).loc main_arg3)) := by
  refine (dats m 0 c).arrAt_eq_of_covers 7 _ (by decide +kernel) fun t _ y => ?_
  blk_simp
  rw [after0_7]
  frame_out
  exact second_at _ _ _ _ _ _ (block_grad m c t y) (block_arg3 m c t y)

end

/-- Kernel and reference, from memories that hold the same arrays. -/
theorem same (m : (ℓ : Loc nD τ sig) → Buf (Elt Ideal) ℓ) (g : Dev nD → PrngReg)
    (m' : (ℓ : Loc Cert.UpdateSmallReferenceIdeal.nD Cert.UpdateSmallReferenceIdeal.τ Cert.UpdateSmallReferenceIdeal.sig) → Buf (Elt Ideal) ℓ) (g' : Dev Cert.UpdateSmallReferenceIdeal.nD → PrngReg)
    (hm : ∀ c : Dev nD,
      m' ((c.tc : Thread Cert.UpdateSmallReferenceIdeal.nD Cert.UpdateSmallReferenceIdeal.τ).loc Cert.UpdateSmallReferenceIdeal.main_arg0) = m ((c.tc : Thread nD τ).loc main_arg0)
      ∧ m' ((c.tc : Thread Cert.UpdateSmallReferenceIdeal.nD Cert.UpdateSmallReferenceIdeal.τ).loc Cert.UpdateSmallReferenceIdeal.main_arg1) = m ((c.tc : Thread nD τ).loc main_arg1)
      ∧ m' ((c.tc : Thread Cert.UpdateSmallReferenceIdeal.nD Cert.UpdateSmallReferenceIdeal.τ).loc Cert.UpdateSmallReferenceIdeal.main_arg2) = m ((c.tc : Thread nD τ).loc main_arg2)
      ∧ m' ((c.tc : Thread Cert.UpdateSmallReferenceIdeal.nD Cert.UpdateSmallReferenceIdeal.τ).loc Cert.UpdateSmallReferenceIdeal.main_arg3) = m ((c.tc : Thread nD τ).loc main_arg3)) :
    ∃ (v0 : (c : Dev nD) → Buf (Elt Ideal) ((c.tc : Thread nD τ).loc main_v0_0)) (v1 : (c : Dev nD) → Buf (Elt Ideal) ((c.tc : Thread nD τ).loc main_v0_1)) (v2 : (c : Dev nD) → Buf (Elt Ideal) ((c.tc : Thread nD τ).loc main_v0_2)) (v3 : (c : Dev nD) → Buf (Elt Ideal) ((c.tc : Thread nD τ).loc main_v0_3)),
      θ_run (defs (F := Ideal)) (onTc (τ := τ) (main (F := Ideal))) ⟨m, fun _ => 0, g⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_v0_2) = v2 c
          ∧ r.2.mem ((c.tc : Thread nD τ).loc main_v0_3) = v3 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3))
      ∧ θ_run (Cert.UpdateSmallReferenceIdeal.defs (F := Ideal)) (onTc (τ := Cert.UpdateSmallReferenceIdeal.τ) (Cert.UpdateSmallReferenceIdeal.main (F := Ideal))) ⟨m', fun _ => 0, g'⟩ (fun r => ∀ c : Dev Cert.UpdateSmallReferenceIdeal.nD,
          r.2.mem ((c.tc : Thread Cert.UpdateSmallReferenceIdeal.nD Cert.UpdateSmallReferenceIdeal.τ).loc Cert.UpdateSmallReferenceIdeal.main_v0) = v0 c
          ∧ r.2.mem ((c.tc : Thread Cert.UpdateSmallReferenceIdeal.nD Cert.UpdateSmallReferenceIdeal.τ).loc Cert.UpdateSmallReferenceIdeal.main_v24) = v1 c
          ∧ r.2.mem ((c.tc : Thread Cert.UpdateSmallReferenceIdeal.nD Cert.UpdateSmallReferenceIdeal.τ).loc Cert.UpdateSmallReferenceIdeal.main_v5) = v2 c
          ∧ r.2.mem ((c.tc : Thread Cert.UpdateSmallReferenceIdeal.nD Cert.UpdateSmallReferenceIdeal.τ).loc Cert.UpdateSmallReferenceIdeal.main_v11) = v3 c
          ∧ r.2.mem ((c.tc : Thread Cert.UpdateSmallReferenceIdeal.nD Cert.UpdateSmallReferenceIdeal.τ).loc Cert.UpdateSmallReferenceIdeal.main_arg0) = m' ((c.tc : Thread Cert.UpdateSmallReferenceIdeal.nD Cert.UpdateSmallReferenceIdeal.τ).loc Cert.UpdateSmallReferenceIdeal.main_arg0)
          ∧ r.2.mem ((c.tc : Thread Cert.UpdateSmallReferenceIdeal.nD Cert.UpdateSmallReferenceIdeal.τ).loc Cert.UpdateSmallReferenceIdeal.main_arg1) = m' ((c.tc : Thread Cert.UpdateSmallReferenceIdeal.nD Cert.UpdateSmallReferenceIdeal.τ).loc Cert.UpdateSmallReferenceIdeal.main_arg1)
          ∧ r.2.mem ((c.tc : Thread Cert.UpdateSmallReferenceIdeal.nD Cert.UpdateSmallReferenceIdeal.τ).loc Cert.UpdateSmallReferenceIdeal.main_arg2) = m' ((c.tc : Thread Cert.UpdateSmallReferenceIdeal.nD Cert.UpdateSmallReferenceIdeal.τ).loc Cert.UpdateSmallReferenceIdeal.main_arg2)
          ∧ r.2.mem ((c.tc : Thread Cert.UpdateSmallReferenceIdeal.nD Cert.UpdateSmallReferenceIdeal.τ).loc Cert.UpdateSmallReferenceIdeal.main_arg3) = m' ((c.tc : Thread Cert.UpdateSmallReferenceIdeal.nD Cert.UpdateSmallReferenceIdeal.τ).loc Cert.UpdateSmallReferenceIdeal.main_arg3)) := by
  refine ⟨fun c => (dats m 0 c).arrAt 4 cfg0.N, fun c => (dats m 0 c).arrAt 5 cfg0.N, fun c => (dats m 0 c).arrAt 6 cfg0.N,
    fun c => (dats m 0 c).arrAt 7 cfg0.N, ?_, (θ_run _ _ _).mono (fun r h c => ?_) (Cert.UpdateSmallReferenceIdeal.Value.run m' g')⟩
  · exact (θ_run defs _ _).mono (fun r h c => ⟨(h c).1 4, (h c).1 5, (h c).1 6, (h c).1 7,
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _)⟩) (run_main m g)
  · obtain ⟨h0, h1, h2, h3, hk⟩ := h c
    obtain ⟨e0, e1, e2, e3⟩ := hm c
    rw [e0] at h0
    rw [e0, e1, e2, e3] at h1
    rw [e0, e2] at h2
    rw [e0, e3] at h3
    exact ⟨h0.trans (final_grad m c).symm, h1.trans (final_change m c).symm, h2.trans (final_first m c).symm,
      h3.trans (final_second m c).symm, hk⟩

end Cert.UpdateSmallIdeal.Local

end
-- ==== Proof.lean ====
module

public import proofs.«01_k».proof.Defs
public import proofs.«01_k».proof.Proof.Gen.SumIn
public import proofs.«01_k».proof.Proof.Gen.SumIn.Frame
public import proofs.«01_k».proof.Proof.Gen.SumInReferenceIdeal.Run
public import proofs.«01_k».proof.Proof.Gen.SumInIdeal.Frame
public import proofs.«01_k».proof.Proof.Gen.UpdateIn
public import proofs.«01_k».proof.Proof.Gen.UpdateIn.Frame
public import proofs.«01_k».proof.Proof.Gen.UpdateInReferenceIdeal.Run
public import proofs.«01_k».proof.Proof.Gen.UpdateInIdeal.Value
public import proofs.«01_k».proof.Proof.Gen.SumOut
public import proofs.«01_k».proof.Proof.Gen.SumOut.Frame
public import proofs.«01_k».proof.Proof.Gen.SumOutReferenceIdeal.Run
public import proofs.«01_k».proof.Proof.Gen.SumOutIdeal.Frame
public import proofs.«01_k».proof.Proof.Gen.UpdateOut
public import proofs.«01_k».proof.Proof.Gen.UpdateOut.Frame
public import proofs.«01_k».proof.Proof.Gen.UpdateOutReferenceIdeal.Run
public import proofs.«01_k».proof.Proof.Gen.UpdateOutIdeal.Value
public import proofs.«01_k».proof.Proof.Gen.SumFfn
public import proofs.«01_k».proof.Proof.Gen.SumFfn.Frame
public import proofs.«01_k».proof.Proof.Gen.SumFfnReferenceIdeal.Run
public import proofs.«01_k».proof.Proof.Gen.SumFfnIdeal.Frame
public import proofs.«01_k».proof.Proof.Gen.UpdateFfn
public import proofs.«01_k».proof.Proof.Gen.UpdateFfn.Frame
public import proofs.«01_k».proof.Proof.Gen.UpdateFfnReferenceIdeal.Run
public import proofs.«01_k».proof.Proof.Gen.UpdateFfnIdeal.Value
public import proofs.«01_k».proof.Proof.Gen.SumDown
public import proofs.«01_k».proof.Proof.Gen.SumDown.Frame
public import proofs.«01_k».proof.Proof.Gen.SumDownReferenceIdeal.Run
public import proofs.«01_k».proof.Proof.Gen.SumDownIdeal.Frame
public import proofs.«01_k».proof.Proof.Gen.UpdateDown
public import proofs.«01_k».proof.Proof.Gen.UpdateDown.Frame
public import proofs.«01_k».proof.Proof.Gen.UpdateDownReferenceIdeal.Run
public import proofs.«01_k».proof.Proof.Gen.UpdateDownIdeal.Value
public import proofs.«01_k».proof.Proof.Gen.SumPle
public import proofs.«01_k».proof.Proof.Gen.SumPle.Frame
public import proofs.«01_k».proof.Proof.Gen.SumPleReferenceIdeal.Run
public import proofs.«01_k».proof.Proof.Gen.SumPleIdeal.Frame
public import proofs.«01_k».proof.Proof.Gen.UpdatePle
public import proofs.«01_k».proof.Proof.Gen.UpdatePle.Frame
public import proofs.«01_k».proof.Proof.Gen.UpdatePleReferenceIdeal.Run
public import proofs.«01_k».proof.Proof.Gen.UpdatePleIdeal.Value
public import proofs.«01_k».proof.Proof.Gen.UpdateSmall
public import proofs.«01_k».proof.Proof.Gen.UpdateSmall.Frame
public import proofs.«01_k».proof.Proof.Gen.UpdateSmallReferenceIdeal.Run
public import proofs.«01_k».proof.Proof.Gen.UpdateSmallIdeal.Frame
public import proofs.«01_k».proof.Proof.Gen.GradIn
public import proofs.«01_k».proof.Proof.Gen.GradIn.Frame
public import proofs.«01_k».proof.Proof.Gen.GradInIdeal.Frame
public import proofs.«01_k».proof.Proof.Gen.GradInReferenceIdeal.Run
public import proofs.«01_k».proof.Proof.Gen.GradOut
public import proofs.«01_k».proof.Proof.Gen.GradOut.Frame
public import proofs.«01_k».proof.Proof.Gen.GradOutIdeal.Frame
public import proofs.«01_k».proof.Proof.Gen.GradOutReferenceIdeal.Run
public import proofs.«01_k».proof.Proof.Gen.GradFfn
public import proofs.«01_k».proof.Proof.Gen.GradFfn.Frame
public import proofs.«01_k».proof.Proof.Gen.GradFfnIdeal.Frame
public import proofs.«01_k».proof.Proof.Gen.GradFfnReferenceIdeal.Run
public import proofs.«01_k».proof.Proof.Gen.GradDown
public import proofs.«01_k».proof.Proof.Gen.GradDown.Frame
public import proofs.«01_k».proof.Proof.Gen.GradDownIdeal.Frame
public import proofs.«01_k».proof.Proof.Gen.GradDownReferenceIdeal.Run
public import proofs.«01_k».proof.Proof.Gen.GradPle
public import proofs.«01_k».proof.Proof.Gen.GradPle.Frame
public import proofs.«01_k».proof.Proof.Gen.GradPleIdeal.Frame
public import proofs.«01_k».proof.Proof.Gen.GradPleReferenceIdeal.Run
public import proofs.«01_k».proof.Proof.Gen.LossHead
public import proofs.«01_k».proof.Proof.Gen.LossHead.Frame
public import proofs.«01_k».proof.Proof.Gen.LossHeadIdeal.Frame
public import proofs.«01_k».proof.Proof.Gen.LossHeadReferenceIdeal.Run
public import proofs.«01_k».proof.Proof.Gen.NormIn
public import proofs.«01_k».proof.Proof.Gen.NormIn.Frame
public import proofs.«01_k».proof.Proof.Gen.NormInIdeal.Frame
public import proofs.«01_k».proof.Proof.Gen.NormInReferenceIdeal.Run
public import proofs.«01_k».proof.Proof.Gen.MixOut
public import proofs.«01_k».proof.Proof.Gen.MixOut.Frame
public import proofs.«01_k».proof.Proof.Gen.MixOutIdeal.Frame
public import proofs.«01_k».proof.Proof.Gen.MixOutReferenceIdeal.Run
public import proofs.«01_k».proof.Proof.Gen.FfnIn
public import proofs.«01_k».proof.Proof.Gen.FfnIn.Frame
public import proofs.«01_k».proof.Proof.Gen.FfnInIdeal.Frame
public import proofs.«01_k».proof.Proof.Gen.FfnInReferenceIdeal.Run
public import proofs.«01_k».proof.Proof.Gen.FfnOut
public import proofs.«01_k».proof.Proof.Gen.FfnOut.Frame
public import proofs.«01_k».proof.Proof.Gen.FfnOutIdeal.Frame
public import proofs.«01_k».proof.Proof.Gen.FfnOutReferenceIdeal.Run
public import proofs.«01_k».proof.Proof.Gen.PleGate
public import proofs.«01_k».proof.Proof.Gen.PleGate.Frame
public import proofs.«01_k».proof.Proof.Gen.PleGateIdeal.Frame
public import proofs.«01_k».proof.Proof.Gen.PleGateReferenceIdeal.Run
public import proofs.«01_k».proof.Proof.Gen.FfnOutGrad
public import proofs.«01_k».proof.Proof.Gen.FfnOutGrad.Frame
public import proofs.«01_k».proof.Proof.Gen.FfnOutGradIdeal.Frame
public import proofs.«01_k».proof.Proof.Gen.FfnOutGradReferenceIdeal.Run
public import proofs.«01_k».proof.Proof.Gen.PleGrad
public import proofs.«01_k».proof.Proof.Gen.PleGrad.Frame
public import proofs.«01_k».proof.Proof.Gen.PleGradIdeal.Frame
public import proofs.«01_k».proof.Proof.Gen.PleGradReferenceIdeal.Run
public import proofs.«01_k».proof.Proof.Gen.FfnInGrad
public import proofs.«01_k».proof.Proof.Gen.FfnInGrad.Frame
public import proofs.«01_k».proof.Proof.Gen.FfnInGradIdeal.Frame
public import proofs.«01_k».proof.Proof.Gen.FfnInGradReferenceIdeal.Run
public import proofs.«01_k».proof.Proof.Gen.MixOutGrad
public import proofs.«01_k».proof.Proof.Gen.MixOutGrad.Frame
public import proofs.«01_k».proof.Proof.Gen.MixOutGradIdeal.Frame
public import proofs.«01_k».proof.Proof.Gen.MixOutGradReferenceIdeal.Run
public import proofs.«01_k».proof.Proof.Gen.NormInGrad
public import proofs.«01_k».proof.Proof.Gen.NormInGrad.Frame
public import proofs.«01_k».proof.Proof.Gen.NormInGradIdeal.Frame
public import proofs.«01_k».proof.Proof.Gen.NormInGradReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.GatherReferenceIdeal
public import proofs.«01_k».proof.Proof.Gen.GatherReferenceIdeal.Run
public import proofs.«01_k».proof.Proof.Gen.GatherReference
public import proofs.«01_k».proof.Proof.Gen.GatherReference.Run
public import proofs.«01_k».proof.Proof.Gen.Sibling
public import proofs.«01_k».proof.Proof.Gen.Sibling.Skeleton
public import proofs.«01_k».proof.Proof.Gen.Sibling.Launch
public import proofs.«01_k».proof.Proof.Gen.Sibling.Points
public import proofs.«01_k».proof.Proof.Gen.Sibling.Frame
public import proofs.«01_k».proof.Proof.Gen.SiblingIdeal
public import proofs.«01_k».proof.Proof.Gen.SiblingIdeal.Skeleton
public import proofs.«01_k».proof.Proof.Gen.SiblingIdeal.Launch
public import proofs.«01_k».proof.Proof.Gen.SiblingIdeal.Points
public import proofs.«01_k».proof.Proof.Gen.SiblingIdeal.Frame
public import proofs.«01_k».proof.Proof.Gen.SiblingReferenceIdeal
public import proofs.«01_k».proof.Proof.Gen.SiblingReferenceIdeal.Run
public import proofs.«01_k».proof.Proof.Gen.SiblingReference
public import proofs.«01_k».proof.Proof.Gen.SiblingReference.Run
public import proofs.«01_k».proof.Proof.Gen.Small
public import proofs.«01_k».proof.Proof.Gen.Small.Skeleton
public import proofs.«01_k».proof.Proof.Gen.Small.Launch
public import proofs.«01_k».proof.Proof.Gen.Small.Points
public import proofs.«01_k».proof.Proof.Gen.Small.Frame
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Frame
public import proofs.«01_k».proof.Proof.Gen.SmallReferenceIdeal
public import proofs.«01_k».proof.Proof.Gen.SmallReferenceIdeal.Run
public import proofs.«01_k».proof.Proof.Gen.SmallReference
public import proofs.«01_k».proof.Proof.Gen.SmallReference.Run
public import proofs.«01_k».proof.Proof.ScatterValue
public import proofs.«01_k».proof.Proof.SmallValue
public import proofs.«01_k».proof.Proof.SiblingValue
public import proofs.«01_k».proof.Proof.GatherValue
public import proofs.«01_k».proof.Proof.SumInValue
public import proofs.«01_k».proof.Proof.UpdateInValue
public import proofs.«01_k».proof.Proof.SumOutValue
public import proofs.«01_k».proof.Proof.UpdateOutValue
public import proofs.«01_k».proof.Proof.SumFfnValue
public import proofs.«01_k».proof.Proof.UpdateFfnValue
public import proofs.«01_k».proof.Proof.SumDownValue
public import proofs.«01_k».proof.Proof.UpdateDownValue
public import proofs.«01_k».proof.Proof.SumPleValue
public import proofs.«01_k».proof.Proof.UpdatePleValue
public import proofs.«01_k».proof.Proof.GradInValue
public import proofs.«01_k».proof.Proof.GradOutValue
public import proofs.«01_k».proof.Proof.GradFfnValue
public import proofs.«01_k».proof.Proof.GradDownValue
public import proofs.«01_k».proof.Proof.GradPleValue
public import proofs.«01_k».proof.Proof.LossHeadValue
public import proofs.«01_k».proof.Proof.NormInValue
public import proofs.«01_k».proof.Proof.MixOutValue
public import proofs.«01_k».proof.Proof.FfnInValue
public import proofs.«01_k».proof.Proof.FfnOutValue
public import proofs.«01_k».proof.Proof.PleGateValue
public import proofs.«01_k».proof.Proof.PleGradValue
public import proofs.«01_k».proof.Proof.FfnInGradValue
public import proofs.«01_k».proof.Proof.MixOutGradValue
public import proofs.«01_k».proof.Proof.NormInGradValue
public import proofs.«01_k».proof.Proof.FfnOutGradValue
public import proofs.«01_k».proof.Proof.UpdateSmallValue
public import Idealize.ShloMosaic.Adequacy
public import Idealize.ShloMosaic.Init

@[expose] public section

noncomputable section

namespace Cert.Proof

open Idealize.ShloMosaic Idealize.SL.Sem Cert.Kernel

theorem quiet_kernel : Cert.quiescent_Kernel := fun m g _ => Cert.KernelIdeal.Scatter.quiet (F := Bits) m g

theorem quiet_kernelIdeal : Cert.quiescent_KernelIdeal := fun m g _ => Cert.KernelIdeal.Scatter.quiet (F := Ideal) m g

theorem quiet_referenceIdeal : Cert.quiescent_ReferenceIdeal := fun m g _ =>
  (θ_run Cert.ReferenceIdeal.defs _ _).mono (fun r h => ⟨fun c => ⟨(h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩,
      sem_eq_zero_of_no_sems rfl r.2⟩) (Cert.ReferenceIdeal.Value.run (F := Ideal) m g)

theorem quiet_reference : Cert.quiescent_Reference := fun m g _ =>
  (θ_run Cert.Reference.defs _ _).mono (fun r h => ⟨fun c => ⟨(h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩,
      sem_eq_zero_of_no_sems rfl r.2⟩) (Cert.Reference.Value.run (F := Bits) m g)

theorem algebraic_kernel : Cert.algebraic_KernelIdeal_ReferenceIdeal := fun m g m' g' _ hm => Cert.KernelIdeal.Scatter.same (F := Ideal) m g m' g' hm

theorem bitexact_kernel : Cert.bitexact_Kernel_Reference := fun m g m' g' _ hm => Cert.KernelIdeal.Scatter.same (F := Bits) m g m' g' hm

theorem quiet_gather : Cert.quiescent_Gather := fun m g _ => Cert.GatherIdeal.Gather.quiet (F := Bits) m g

theorem quiet_gatherIdeal : Cert.quiescent_GatherIdeal := fun m g _ => Cert.GatherIdeal.Gather.quiet (F := Ideal) m g

theorem quiet_gatherReferenceIdeal : Cert.quiescent_GatherReferenceIdeal := fun m g _ =>
  (θ_run Cert.GatherReferenceIdeal.defs _ _).mono (fun r h => ⟨fun c => ⟨(h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩,
      sem_eq_zero_of_no_sems rfl r.2⟩) (Cert.GatherReferenceIdeal.Value.run (F := Ideal) m g)

theorem quiet_gatherReference : Cert.quiescent_GatherReference := fun m g _ =>
  (θ_run Cert.GatherReference.defs _ _).mono (fun r h => ⟨fun c => ⟨(h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩,
      sem_eq_zero_of_no_sems rfl r.2⟩) (Cert.GatherReference.Value.run (F := Bits) m g)

theorem algebraic_gather : Cert.algebraic_GatherIdeal_GatherReferenceIdeal := fun m g m' g' _ hm => Cert.GatherIdeal.Gather.same (F := Ideal) m g m' g' hm

theorem bitexact_gather : Cert.bitexact_Gather_GatherReference := fun m g m' g' _ hm => Cert.GatherIdeal.Gather.same (F := Bits) m g m' g' hm

theorem quiet_sibling : Cert.quiescent_Sibling := fun m g _ => Cert.SiblingIdeal.Sibling.quiet (F := Bits) m g

theorem quiet_siblingIdeal : Cert.quiescent_SiblingIdeal := fun m g _ => Cert.SiblingIdeal.Sibling.quiet (F := Ideal) m g

theorem quiet_siblingReferenceIdeal : Cert.quiescent_SiblingReferenceIdeal := fun m g _ =>
  (θ_run Cert.SiblingReferenceIdeal.defs _ _).mono (fun r h => ⟨fun c => ⟨(h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩,
      sem_eq_zero_of_no_sems rfl r.2⟩) (Cert.SiblingReferenceIdeal.Value.run (F := Ideal) m g)

theorem quiet_siblingReference : Cert.quiescent_SiblingReference := fun m g _ =>
  (θ_run Cert.SiblingReference.defs _ _).mono (fun r h => ⟨fun c => ⟨(h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩,
      sem_eq_zero_of_no_sems rfl r.2⟩) (Cert.SiblingReference.Value.run (F := Bits) m g)

theorem algebraic_sibling : Cert.algebraic_SiblingIdeal_SiblingReferenceIdeal := fun m g m' g' _ hm => Cert.SiblingIdeal.Sibling.same (F := Ideal) m g m' g' hm

theorem bitexact_sibling : Cert.bitexact_Sibling_SiblingReference := fun m g m' g' _ hm => Cert.SiblingIdeal.Sibling.same (F := Bits) m g m' g' hm

theorem quiet_small : Cert.quiescent_Small := fun m g _ => Cert.SmallIdeal.Small.quiet (F := Bits) m g

theorem quiet_smallIdeal : Cert.quiescent_SmallIdeal := fun m g _ => Cert.SmallIdeal.Small.quiet (F := Ideal) m g

theorem quiet_smallReferenceIdeal : Cert.quiescent_SmallReferenceIdeal := fun m g _ =>
  (θ_run Cert.SmallReferenceIdeal.defs _ _).mono (fun r h => ⟨fun c => (h c).2,
      sem_eq_zero_of_no_sems rfl r.2⟩) (Cert.SmallReferenceIdeal.Value.run (F := Ideal) m g)

theorem quiet_smallReference : Cert.quiescent_SmallReference := fun m g _ =>
  (θ_run Cert.SmallReference.defs _ _).mono (fun r h => ⟨fun c => (h c).2,
      sem_eq_zero_of_no_sems rfl r.2⟩) (Cert.SmallReference.Value.run (F := Bits) m g)

theorem algebraic_small : Cert.algebraic_SmallIdeal_SmallReferenceIdeal := fun m g m' g' _ hm => Cert.SmallIdeal.Small.same (F := Ideal) m g m' g' hm

theorem bitexact_small : Cert.bitexact_Small_SmallReference := fun m g m' g' _ hm => Cert.SmallIdeal.Small.same (F := Bits) m g m' g' hm

theorem quiet_sumIn : Cert.quiescent_SumIn := fun m g _ => Cert.SumIn.Gen.frame (F := Bits) m g

theorem quiet_sumInIdeal : Cert.quiescent_SumInIdeal := fun m g _ => Cert.SumInIdeal.Gen.frame (F := Ideal) m g

theorem quiet_sumInReferenceIdeal : Cert.quiescent_SumInReferenceIdeal := fun m g _ =>
  (θ_run Cert.SumInReferenceIdeal.defs _ _).mono (fun r h => ⟨fun c => (h c).2,
      sem_eq_zero_of_no_sems rfl r.2⟩) (Cert.SumInReferenceIdeal.Value.run (F := Ideal) m g)

theorem algebraic_sumIn : Cert.algebraic_SumInIdeal_SumInReferenceIdeal := fun m g m' g' _ hm => Cert.SumInIdeal.Local.same m g m' g' hm

theorem quiet_updateIn : Cert.quiescent_UpdateIn := fun m g _ => Cert.UpdateIn.Gen.frame (F := Bits) m g

theorem quiet_updateInIdeal : Cert.quiescent_UpdateInIdeal := fun m g _ => Cert.UpdateInIdeal.Gen.frame (F := Ideal) m g

theorem quiet_updateInReferenceIdeal : Cert.quiescent_UpdateInReferenceIdeal := fun m g _ =>
  (θ_run Cert.UpdateInReferenceIdeal.defs _ _).mono (fun r h => ⟨fun c => (h c).2.2.2.2,
      sem_eq_zero_of_no_sems rfl r.2⟩) (Cert.UpdateInReferenceIdeal.Value.run (F := Ideal) m g)

theorem algebraic_updateIn : Cert.algebraic_UpdateInIdeal_UpdateInReferenceIdeal := fun m g m' g' _ hm => Cert.UpdateInIdeal.Local.same m g m' g' hm

theorem quiet_sumOut : Cert.quiescent_SumOut := fun m g _ => Cert.SumOut.Gen.frame (F := Bits) m g

theorem quiet_sumOutIdeal : Cert.quiescent_SumOutIdeal := fun m g _ => Cert.SumOutIdeal.Gen.frame (F := Ideal) m g

theorem quiet_sumOutReferenceIdeal : Cert.quiescent_SumOutReferenceIdeal := fun m g _ =>
  (θ_run Cert.SumOutReferenceIdeal.defs _ _).mono (fun r h => ⟨fun c => (h c).2,
      sem_eq_zero_of_no_sems rfl r.2⟩) (Cert.SumOutReferenceIdeal.Value.run (F := Ideal) m g)

theorem algebraic_sumOut : Cert.algebraic_SumOutIdeal_SumOutReferenceIdeal := fun m g m' g' _ hm => Cert.SumOutIdeal.Local.same m g m' g' hm

theorem quiet_updateOut : Cert.quiescent_UpdateOut := fun m g _ => Cert.UpdateOut.Gen.frame (F := Bits) m g

theorem quiet_updateOutIdeal : Cert.quiescent_UpdateOutIdeal := fun m g _ => Cert.UpdateOutIdeal.Gen.frame (F := Ideal) m g

theorem quiet_updateOutReferenceIdeal : Cert.quiescent_UpdateOutReferenceIdeal := fun m g _ =>
  (θ_run Cert.UpdateOutReferenceIdeal.defs _ _).mono (fun r h => ⟨fun c => (h c).2.2.2.2,
      sem_eq_zero_of_no_sems rfl r.2⟩) (Cert.UpdateOutReferenceIdeal.Value.run (F := Ideal) m g)

theorem algebraic_updateOut : Cert.algebraic_UpdateOutIdeal_UpdateOutReferenceIdeal := fun m g m' g' _ hm => Cert.UpdateOutIdeal.Local.same m g m' g' hm

theorem quiet_sumFfn : Cert.quiescent_SumFfn := fun m g _ => Cert.SumFfn.Gen.frame (F := Bits) m g

theorem quiet_sumFfnIdeal : Cert.quiescent_SumFfnIdeal := fun m g _ => Cert.SumFfnIdeal.Gen.frame (F := Ideal) m g

theorem quiet_sumFfnReferenceIdeal : Cert.quiescent_SumFfnReferenceIdeal := fun m g _ =>
  (θ_run Cert.SumFfnReferenceIdeal.defs _ _).mono (fun r h => ⟨fun c => (h c).2,
      sem_eq_zero_of_no_sems rfl r.2⟩) (Cert.SumFfnReferenceIdeal.Value.run (F := Ideal) m g)

theorem algebraic_sumFfn : Cert.algebraic_SumFfnIdeal_SumFfnReferenceIdeal := fun m g m' g' _ hm => Cert.SumFfnIdeal.Local.same m g m' g' hm

theorem quiet_updateFfn : Cert.quiescent_UpdateFfn := fun m g _ => Cert.UpdateFfn.Gen.frame (F := Bits) m g

theorem quiet_updateFfnIdeal : Cert.quiescent_UpdateFfnIdeal := fun m g _ => Cert.UpdateFfnIdeal.Gen.frame (F := Ideal) m g

theorem quiet_updateFfnReferenceIdeal : Cert.quiescent_UpdateFfnReferenceIdeal := fun m g _ =>
  (θ_run Cert.UpdateFfnReferenceIdeal.defs _ _).mono (fun r h => ⟨fun c => (h c).2.2.2.2,
      sem_eq_zero_of_no_sems rfl r.2⟩) (Cert.UpdateFfnReferenceIdeal.Value.run (F := Ideal) m g)

theorem algebraic_updateFfn : Cert.algebraic_UpdateFfnIdeal_UpdateFfnReferenceIdeal := fun m g m' g' _ hm => Cert.UpdateFfnIdeal.Local.same m g m' g' hm

theorem quiet_sumDown : Cert.quiescent_SumDown := fun m g _ => Cert.SumDown.Gen.frame (F := Bits) m g

theorem quiet_sumDownIdeal : Cert.quiescent_SumDownIdeal := fun m g _ => Cert.SumDownIdeal.Gen.frame (F := Ideal) m g

theorem quiet_sumDownReferenceIdeal : Cert.quiescent_SumDownReferenceIdeal := fun m g _ =>
  (θ_run Cert.SumDownReferenceIdeal.defs _ _).mono (fun r h => ⟨fun c => (h c).2,
      sem_eq_zero_of_no_sems rfl r.2⟩) (Cert.SumDownReferenceIdeal.Value.run (F := Ideal) m g)

theorem algebraic_sumDown : Cert.algebraic_SumDownIdeal_SumDownReferenceIdeal := fun m g m' g' _ hm => Cert.SumDownIdeal.Local.same m g m' g' hm

theorem quiet_updateDown : Cert.quiescent_UpdateDown := fun m g _ => Cert.UpdateDown.Gen.frame (F := Bits) m g

theorem quiet_updateDownIdeal : Cert.quiescent_UpdateDownIdeal := fun m g _ => Cert.UpdateDownIdeal.Gen.frame (F := Ideal) m g

theorem quiet_updateDownReferenceIdeal : Cert.quiescent_UpdateDownReferenceIdeal := fun m g _ =>
  (θ_run Cert.UpdateDownReferenceIdeal.defs _ _).mono (fun r h => ⟨fun c => (h c).2.2.2.2,
      sem_eq_zero_of_no_sems rfl r.2⟩) (Cert.UpdateDownReferenceIdeal.Value.run (F := Ideal) m g)

theorem algebraic_updateDown : Cert.algebraic_UpdateDownIdeal_UpdateDownReferenceIdeal := fun m g m' g' _ hm => Cert.UpdateDownIdeal.Local.same m g m' g' hm

theorem quiet_sumPle : Cert.quiescent_SumPle := fun m g _ => Cert.SumPle.Gen.frame (F := Bits) m g

theorem quiet_sumPleIdeal : Cert.quiescent_SumPleIdeal := fun m g _ => Cert.SumPleIdeal.Gen.frame (F := Ideal) m g

theorem quiet_sumPleReferenceIdeal : Cert.quiescent_SumPleReferenceIdeal := fun m g _ =>
  (θ_run Cert.SumPleReferenceIdeal.defs _ _).mono (fun r h => ⟨fun c => (h c).2,
      sem_eq_zero_of_no_sems rfl r.2⟩) (Cert.SumPleReferenceIdeal.Value.run (F := Ideal) m g)

theorem algebraic_sumPle : Cert.algebraic_SumPleIdeal_SumPleReferenceIdeal := fun m g m' g' _ hm => Cert.SumPleIdeal.Local.same m g m' g' hm

theorem quiet_updatePle : Cert.quiescent_UpdatePle := fun m g _ => Cert.UpdatePle.Gen.frame (F := Bits) m g

theorem quiet_updatePleIdeal : Cert.quiescent_UpdatePleIdeal := fun m g _ => Cert.UpdatePleIdeal.Gen.frame (F := Ideal) m g

theorem quiet_updatePleReferenceIdeal : Cert.quiescent_UpdatePleReferenceIdeal := fun m g _ =>
  (θ_run Cert.UpdatePleReferenceIdeal.defs _ _).mono (fun r h => ⟨fun c => (h c).2.2.2.2,
      sem_eq_zero_of_no_sems rfl r.2⟩) (Cert.UpdatePleReferenceIdeal.Value.run (F := Ideal) m g)

theorem algebraic_updatePle : Cert.algebraic_UpdatePleIdeal_UpdatePleReferenceIdeal := fun m g m' g' _ hm => Cert.UpdatePleIdeal.Local.same m g m' g' hm

theorem quiet_updateSmall : Cert.quiescent_UpdateSmall := fun m g _ => Cert.UpdateSmall.Gen.frame (F := Bits) m g

theorem quiet_updateSmallIdeal : Cert.quiescent_UpdateSmallIdeal := fun m g _ => Cert.UpdateSmallIdeal.Gen.frame (F := Ideal) m g

theorem quiet_updateSmallReferenceIdeal : Cert.quiescent_UpdateSmallReferenceIdeal := fun m g _ =>
  (θ_run Cert.UpdateSmallReferenceIdeal.defs _ _).mono (fun r h => ⟨fun c => (h c).2.2.2.2,
      sem_eq_zero_of_no_sems rfl r.2⟩) (Cert.UpdateSmallReferenceIdeal.Value.run (F := Ideal) m g)

theorem algebraic_updateSmall : Cert.algebraic_UpdateSmallIdeal_UpdateSmallReferenceIdeal := fun m g m' g' _ hm => Cert.UpdateSmallIdeal.Local.same m g m' g' hm

theorem quiet_gradIn : Cert.quiescent_GradIn := fun m g _ => Cert.GradIn.Gen.frame (F := Bits) m g

theorem quiet_gradInIdeal : Cert.quiescent_GradInIdeal := fun m g _ => Cert.GradInIdeal.Gen.frame (F := Ideal) m g

theorem quiet_gradInReferenceIdeal : Cert.quiescent_GradInReferenceIdeal := fun m g _ =>
  (θ_run Cert.GradInReferenceIdeal.defs _ _).mono (fun r h => ⟨fun c => (h c).2,
      sem_eq_zero_of_no_sems rfl r.2⟩) (Cert.GradInReferenceIdeal.Value.run (F := Ideal) m g)

theorem algebraic_gradIn : Cert.algebraic_GradInIdeal_GradInReferenceIdeal := fun m g m' g' _ hm => Cert.GradInIdeal.Local.same m g m' g' hm

theorem quiet_gradOut : Cert.quiescent_GradOut := fun m g _ => Cert.GradOut.Gen.frame (F := Bits) m g

theorem quiet_gradOutIdeal : Cert.quiescent_GradOutIdeal := fun m g _ => Cert.GradOutIdeal.Gen.frame (F := Ideal) m g

theorem quiet_gradOutReferenceIdeal : Cert.quiescent_GradOutReferenceIdeal := fun m g _ =>
  (θ_run Cert.GradOutReferenceIdeal.defs _ _).mono (fun r h => ⟨fun c => (h c).2,
      sem_eq_zero_of_no_sems rfl r.2⟩) (Cert.GradOutReferenceIdeal.Value.run (F := Ideal) m g)

theorem algebraic_gradOut : Cert.algebraic_GradOutIdeal_GradOutReferenceIdeal := fun m g m' g' _ hm => Cert.GradOutIdeal.Local.same m g m' g' hm

theorem quiet_gradFfn : Cert.quiescent_GradFfn := fun m g _ => Cert.GradFfn.Gen.frame (F := Bits) m g

theorem quiet_gradFfnIdeal : Cert.quiescent_GradFfnIdeal := fun m g _ => Cert.GradFfnIdeal.Gen.frame (F := Ideal) m g

theorem quiet_gradFfnReferenceIdeal : Cert.quiescent_GradFfnReferenceIdeal := fun m g _ =>
  (θ_run Cert.GradFfnReferenceIdeal.defs _ _).mono (fun r h => ⟨fun c => (h c).2,
      sem_eq_zero_of_no_sems rfl r.2⟩) (Cert.GradFfnReferenceIdeal.Value.run (F := Ideal) m g)

theorem algebraic_gradFfn : Cert.algebraic_GradFfnIdeal_GradFfnReferenceIdeal := fun m g m' g' _ hm => Cert.GradFfnIdeal.Local.same m g m' g' hm

theorem quiet_gradDown : Cert.quiescent_GradDown := fun m g _ => Cert.GradDown.Gen.frame (F := Bits) m g

theorem quiet_gradDownIdeal : Cert.quiescent_GradDownIdeal := fun m g _ => Cert.GradDownIdeal.Gen.frame (F := Ideal) m g

theorem quiet_gradDownReferenceIdeal : Cert.quiescent_GradDownReferenceIdeal := fun m g _ =>
  (θ_run Cert.GradDownReferenceIdeal.defs _ _).mono (fun r h => ⟨fun c => (h c).2,
      sem_eq_zero_of_no_sems rfl r.2⟩) (Cert.GradDownReferenceIdeal.Value.run (F := Ideal) m g)

theorem algebraic_gradDown : Cert.algebraic_GradDownIdeal_GradDownReferenceIdeal := fun m g m' g' _ hm => Cert.GradDownIdeal.Local.same m g m' g' hm

theorem quiet_gradPle : Cert.quiescent_GradPle := fun m g _ => Cert.GradPle.Gen.frame (F := Bits) m g

theorem quiet_gradPleIdeal : Cert.quiescent_GradPleIdeal := fun m g _ => Cert.GradPleIdeal.Gen.frame (F := Ideal) m g

theorem quiet_gradPleReferenceIdeal : Cert.quiescent_GradPleReferenceIdeal := fun m g _ =>
  (θ_run Cert.GradPleReferenceIdeal.defs _ _).mono (fun r h => ⟨fun c => (h c).2,
      sem_eq_zero_of_no_sems rfl r.2⟩) (Cert.GradPleReferenceIdeal.Value.run (F := Ideal) m g)

theorem algebraic_gradPle : Cert.algebraic_GradPleIdeal_GradPleReferenceIdeal := fun m g m' g' _ hm => Cert.GradPleIdeal.Local.same m g m' g' hm

theorem quiet_lossHead : Cert.quiescent_LossHead := fun m g _ => Cert.LossHead.Gen.frame (F := Bits) m g

theorem quiet_lossHeadIdeal : Cert.quiescent_LossHeadIdeal := fun m g _ => Cert.LossHeadIdeal.Gen.frame (F := Ideal) m g

theorem quiet_lossHeadReferenceIdeal : Cert.quiescent_LossHeadReferenceIdeal := fun m g _ =>
  (θ_run Cert.LossHeadReferenceIdeal.defs _ _).mono (fun r h => ⟨fun c => (h c).2.2,
      sem_eq_zero_of_no_sems rfl r.2⟩) (Cert.LossHeadReferenceIdeal.Value.run (F := Ideal) m g)

theorem algebraic_lossHead : Cert.algebraic_LossHeadIdeal_LossHeadReferenceIdeal := fun m g m' g' _ hm => Cert.LossHeadIdeal.Local.same m g m' g' hm

theorem quiet_normIn : Cert.quiescent_NormIn := fun m g _ => Cert.NormIn.Gen.frame (F := Bits) m g

theorem quiet_normInIdeal : Cert.quiescent_NormInIdeal := fun m g _ => Cert.NormInIdeal.Gen.frame (F := Ideal) m g

theorem quiet_normInReferenceIdeal : Cert.quiescent_NormInReferenceIdeal := fun m g _ =>
  (θ_run Cert.NormInReferenceIdeal.defs _ _).mono (fun r h => ⟨fun c => (h c).2.2,
      sem_eq_zero_of_no_sems rfl r.2⟩) (Cert.NormInReferenceIdeal.Value.run (F := Ideal) m g)

theorem algebraic_normIn : Cert.algebraic_NormInIdeal_NormInReferenceIdeal := fun m g m' g' _ hm => Cert.NormInIdeal.Local.same m g m' g' hm

theorem quiet_mixOut : Cert.quiescent_MixOut := fun m g _ => Cert.MixOut.Gen.frame (F := Bits) m g

theorem quiet_mixOutIdeal : Cert.quiescent_MixOutIdeal := fun m g _ => Cert.MixOutIdeal.Gen.frame (F := Ideal) m g

theorem quiet_mixOutReferenceIdeal : Cert.quiescent_MixOutReferenceIdeal := fun m g _ =>
  (θ_run Cert.MixOutReferenceIdeal.defs _ _).mono (fun r h => ⟨fun c => (h c).2.2.2,
      sem_eq_zero_of_no_sems rfl r.2⟩) (Cert.MixOutReferenceIdeal.Value.run (F := Ideal) m g)

theorem algebraic_mixOut : Cert.algebraic_MixOutIdeal_MixOutReferenceIdeal := fun m g m' g' _ hm => Cert.MixOutIdeal.Local.same m g m' g' hm

theorem quiet_ffnIn : Cert.quiescent_FfnIn := fun m g _ => Cert.FfnIn.Gen.frame (F := Bits) m g

theorem quiet_ffnInIdeal : Cert.quiescent_FfnInIdeal := fun m g _ => Cert.FfnInIdeal.Gen.frame (F := Ideal) m g

theorem quiet_ffnInReferenceIdeal : Cert.quiescent_FfnInReferenceIdeal := fun m g _ =>
  (θ_run Cert.FfnInReferenceIdeal.defs _ _).mono (fun r h => ⟨fun c => (h c).2.2.2,
      sem_eq_zero_of_no_sems rfl r.2⟩) (Cert.FfnInReferenceIdeal.Value.run (F := Ideal) m g)

theorem algebraic_ffnIn : Cert.algebraic_FfnInIdeal_FfnInReferenceIdeal := fun m g m' g' _ hm => Cert.FfnInIdeal.Local.same m g m' g' hm

theorem quiet_ffnOut : Cert.quiescent_FfnOut := fun m g _ => Cert.FfnOut.Gen.frame (F := Bits) m g

theorem quiet_ffnOutIdeal : Cert.quiescent_FfnOutIdeal := fun m g _ => Cert.FfnOutIdeal.Gen.frame (F := Ideal) m g

theorem quiet_ffnOutReferenceIdeal : Cert.quiescent_FfnOutReferenceIdeal := fun m g _ =>
  (θ_run Cert.FfnOutReferenceIdeal.defs _ _).mono (fun r h => ⟨fun c => (h c).2.2,
      sem_eq_zero_of_no_sems rfl r.2⟩) (Cert.FfnOutReferenceIdeal.Value.run (F := Ideal) m g)

theorem algebraic_ffnOut : Cert.algebraic_FfnOutIdeal_FfnOutReferenceIdeal := fun m g m' g' _ hm => Cert.FfnOutIdeal.Local.same m g m' g' hm

theorem quiet_pleGate : Cert.quiescent_PleGate := fun m g _ => Cert.PleGate.Gen.frame (F := Bits) m g

theorem quiet_pleGateIdeal : Cert.quiescent_PleGateIdeal := fun m g _ => Cert.PleGateIdeal.Gen.frame (F := Ideal) m g

theorem quiet_pleGateReferenceIdeal : Cert.quiescent_PleGateReferenceIdeal := fun m g _ =>
  (θ_run Cert.PleGateReferenceIdeal.defs _ _).mono (fun r h => ⟨fun c => (h c).2.2.2.2,
      sem_eq_zero_of_no_sems rfl r.2⟩) (Cert.PleGateReferenceIdeal.Value.run (F := Ideal) m g)

theorem algebraic_pleGate : Cert.algebraic_PleGateIdeal_PleGateReferenceIdeal := fun m g m' g' _ hm => Cert.PleGateIdeal.Local.same m g m' g' hm

theorem quiet_pleGrad : Cert.quiescent_PleGrad := fun m g _ => Cert.PleGrad.Gen.frame (F := Bits) m g

theorem quiet_pleGradIdeal : Cert.quiescent_PleGradIdeal := fun m g _ => Cert.PleGradIdeal.Gen.frame (F := Ideal) m g

theorem quiet_pleGradReferenceIdeal : Cert.quiescent_PleGradReferenceIdeal := fun m g _ =>
  (θ_run Cert.PleGradReferenceIdeal.defs _ _).mono (fun r h => ⟨fun c => (h c).2.2.2.2,
      sem_eq_zero_of_no_sems rfl r.2⟩) (Cert.PleGradReferenceIdeal.Value.run (F := Ideal) m g)

theorem algebraic_pleGrad : Cert.algebraic_PleGradIdeal_PleGradReferenceIdeal := fun m g m' g' _ hm => Cert.PleGradIdeal.Local.same m g m' g' hm

theorem quiet_ffnInGrad : Cert.quiescent_FfnInGrad := fun m g _ => Cert.FfnInGrad.Gen.frame (F := Bits) m g

theorem quiet_ffnInGradIdeal : Cert.quiescent_FfnInGradIdeal := fun m g _ => Cert.FfnInGradIdeal.Gen.frame (F := Ideal) m g

theorem quiet_ffnInGradReferenceIdeal : Cert.quiescent_FfnInGradReferenceIdeal := fun m g _ =>
  (θ_run Cert.FfnInGradReferenceIdeal.defs _ _).mono (fun r h => ⟨fun c => (h c).2.2,
      sem_eq_zero_of_no_sems rfl r.2⟩) (Cert.FfnInGradReferenceIdeal.Value.run (F := Ideal) m g)

theorem algebraic_ffnInGrad : Cert.algebraic_FfnInGradIdeal_FfnInGradReferenceIdeal := fun m g m' g' _ hm => Cert.FfnInGradIdeal.Local.same m g m' g' hm

theorem quiet_mixOutGrad : Cert.quiescent_MixOutGrad := fun m g _ => Cert.MixOutGrad.Gen.frame (F := Bits) m g

theorem quiet_mixOutGradIdeal : Cert.quiescent_MixOutGradIdeal := fun m g _ => Cert.MixOutGradIdeal.Gen.frame (F := Ideal) m g

theorem quiet_mixOutGradReferenceIdeal : Cert.quiescent_MixOutGradReferenceIdeal := fun m g _ =>
  (θ_run Cert.MixOutGradReferenceIdeal.defs _ _).mono (fun r h => ⟨fun c => (h c).2.2.2.2.2,
      sem_eq_zero_of_no_sems rfl r.2⟩) (Cert.MixOutGradReferenceIdeal.Value.run (F := Ideal) m g)

theorem algebraic_mixOutGrad : Cert.algebraic_MixOutGradIdeal_MixOutGradReferenceIdeal := fun m g m' g' _ hm => Cert.MixOutGradIdeal.Local.same m g m' g' hm

theorem quiet_normInGrad : Cert.quiescent_NormInGrad := fun m g _ => Cert.NormInGrad.Gen.frame (F := Bits) m g

theorem quiet_normInGradIdeal : Cert.quiescent_NormInGradIdeal := fun m g _ => Cert.NormInGradIdeal.Gen.frame (F := Ideal) m g

theorem quiet_normInGradReferenceIdeal : Cert.quiescent_NormInGradReferenceIdeal := fun m g _ =>
  (θ_run Cert.NormInGradReferenceIdeal.defs _ _).mono (fun r h => ⟨fun c => (h c).2.2.2,
      sem_eq_zero_of_no_sems rfl r.2⟩) (Cert.NormInGradReferenceIdeal.Value.run (F := Ideal) m g)

theorem algebraic_normInGrad : Cert.algebraic_NormInGradIdeal_NormInGradReferenceIdeal := fun m g m' g' _ hm => Cert.NormInGradIdeal.Local.same m g m' g' hm

theorem quiet_ffnOutGrad : Cert.quiescent_FfnOutGrad := fun m g _ => Cert.FfnOutGrad.Gen.frame (F := Bits) m g

theorem quiet_ffnOutGradIdeal : Cert.quiescent_FfnOutGradIdeal := fun m g _ => Cert.FfnOutGradIdeal.Gen.frame (F := Ideal) m g

theorem quiet_ffnOutGradReferenceIdeal : Cert.quiescent_FfnOutGradReferenceIdeal := fun m g _ =>
  (θ_run Cert.FfnOutGradReferenceIdeal.defs _ _).mono (fun r h => ⟨fun c => (h c).2.2.2.2.2,
      sem_eq_zero_of_no_sems rfl r.2⟩) (Cert.FfnOutGradReferenceIdeal.Value.run (F := Ideal) m g)

theorem algebraic_ffnOutGrad : Cert.algebraic_FfnOutGradIdeal_FfnOutGradReferenceIdeal := fun m g m' g' _ hm => Cert.FfnOutGradIdeal.Local.same m g m' g' hm

theorem claim : Cert.Claim := ⟨
  Cert.Kernel.Gen.facts, Cert.KernelIdeal.Gen.facts, Cert.ReferenceIdeal.Gen.facts, Cert.Reference.Gen.facts,
  Cert.Gather.Gen.facts, Cert.GatherIdeal.Gen.facts, Cert.GatherReferenceIdeal.Gen.facts, Cert.GatherReference.Gen.facts,
  Cert.Sibling.Gen.facts, Cert.SiblingIdeal.Gen.facts, Cert.SiblingReferenceIdeal.Gen.facts,
  Cert.SiblingReference.Gen.facts, Cert.Small.Gen.facts, Cert.SmallIdeal.Gen.facts, Cert.SmallReferenceIdeal.Gen.facts,
  Cert.SmallReference.Gen.facts, Cert.SumIn.Gen.facts, Cert.SumInIdeal.Gen.facts, Cert.SumInReferenceIdeal.Gen.facts,
  Cert.UpdateIn.Gen.facts, Cert.UpdateInIdeal.Gen.facts, Cert.UpdateInReferenceIdeal.Gen.facts, Cert.SumOut.Gen.facts,
  Cert.SumOutIdeal.Gen.facts, Cert.SumOutReferenceIdeal.Gen.facts, Cert.UpdateOut.Gen.facts, Cert.UpdateOutIdeal.Gen.facts,
  Cert.UpdateOutReferenceIdeal.Gen.facts, Cert.SumFfn.Gen.facts, Cert.SumFfnIdeal.Gen.facts,
  Cert.SumFfnReferenceIdeal.Gen.facts, Cert.UpdateFfn.Gen.facts, Cert.UpdateFfnIdeal.Gen.facts,
  Cert.UpdateFfnReferenceIdeal.Gen.facts, Cert.SumDown.Gen.facts, Cert.SumDownIdeal.Gen.facts,
  Cert.SumDownReferenceIdeal.Gen.facts, Cert.UpdateDown.Gen.facts, Cert.UpdateDownIdeal.Gen.facts,
  Cert.UpdateDownReferenceIdeal.Gen.facts, Cert.SumPle.Gen.facts, Cert.SumPleIdeal.Gen.facts,
  Cert.SumPleReferenceIdeal.Gen.facts, Cert.UpdatePle.Gen.facts, Cert.UpdatePleIdeal.Gen.facts,
  Cert.UpdatePleReferenceIdeal.Gen.facts, Cert.UpdateSmall.Gen.facts, Cert.UpdateSmallIdeal.Gen.facts,
  Cert.UpdateSmallReferenceIdeal.Gen.facts, Cert.GradIn.Gen.facts, Cert.GradInIdeal.Gen.facts,
  Cert.GradInReferenceIdeal.Gen.facts, Cert.GradOut.Gen.facts, Cert.GradOutIdeal.Gen.facts,
  Cert.GradOutReferenceIdeal.Gen.facts, Cert.GradFfn.Gen.facts, Cert.GradFfnIdeal.Gen.facts,
  Cert.GradFfnReferenceIdeal.Gen.facts, Cert.GradDown.Gen.facts, Cert.GradDownIdeal.Gen.facts,
  Cert.GradDownReferenceIdeal.Gen.facts, Cert.GradPle.Gen.facts, Cert.GradPleIdeal.Gen.facts,
  Cert.GradPleReferenceIdeal.Gen.facts, Cert.LossHead.Gen.facts, Cert.LossHeadIdeal.Gen.facts,
  Cert.LossHeadReferenceIdeal.Gen.facts, Cert.NormIn.Gen.facts, Cert.NormInIdeal.Gen.facts,
  Cert.NormInReferenceIdeal.Gen.facts, Cert.MixOut.Gen.facts, Cert.MixOutIdeal.Gen.facts,
  Cert.MixOutReferenceIdeal.Gen.facts, Cert.FfnIn.Gen.facts, Cert.FfnInIdeal.Gen.facts, Cert.FfnInReferenceIdeal.Gen.facts,
  Cert.FfnOut.Gen.facts, Cert.FfnOutIdeal.Gen.facts, Cert.FfnOutReferenceIdeal.Gen.facts, Cert.PleGate.Gen.facts,
  Cert.PleGateIdeal.Gen.facts, Cert.PleGateReferenceIdeal.Gen.facts, Cert.PleGrad.Gen.facts, Cert.PleGradIdeal.Gen.facts,
  Cert.PleGradReferenceIdeal.Gen.facts, Cert.FfnInGrad.Gen.facts, Cert.FfnInGradIdeal.Gen.facts,
  Cert.FfnInGradReferenceIdeal.Gen.facts, Cert.MixOutGrad.Gen.facts, Cert.MixOutGradIdeal.Gen.facts,
  Cert.MixOutGradReferenceIdeal.Gen.facts, Cert.NormInGrad.Gen.facts, Cert.NormInGradIdeal.Gen.facts,
  Cert.NormInGradReferenceIdeal.Gen.facts, Cert.FfnOutGrad.Gen.facts, Cert.FfnOutGradIdeal.Gen.facts,
  Cert.FfnOutGradReferenceIdeal.Gen.facts, quiet_kernel, quiet_kernelIdeal, quiet_referenceIdeal, quiet_reference,
  quiet_gather, quiet_gatherIdeal, quiet_gatherReferenceIdeal, quiet_gatherReference, quiet_sibling, quiet_siblingIdeal,
  quiet_siblingReferenceIdeal, quiet_siblingReference, quiet_small, quiet_smallIdeal, quiet_smallReferenceIdeal,
  quiet_smallReference, quiet_sumIn, quiet_sumInIdeal, quiet_sumInReferenceIdeal, quiet_updateIn, quiet_updateInIdeal,
  quiet_updateInReferenceIdeal, quiet_sumOut, quiet_sumOutIdeal, quiet_sumOutReferenceIdeal, quiet_updateOut,
  quiet_updateOutIdeal, quiet_updateOutReferenceIdeal, quiet_sumFfn, quiet_sumFfnIdeal, quiet_sumFfnReferenceIdeal,
  quiet_updateFfn, quiet_updateFfnIdeal, quiet_updateFfnReferenceIdeal, quiet_sumDown, quiet_sumDownIdeal,
  quiet_sumDownReferenceIdeal, quiet_updateDown, quiet_updateDownIdeal, quiet_updateDownReferenceIdeal, quiet_sumPle,
  quiet_sumPleIdeal, quiet_sumPleReferenceIdeal, quiet_updatePle, quiet_updatePleIdeal, quiet_updatePleReferenceIdeal,
  quiet_updateSmall, quiet_updateSmallIdeal, quiet_updateSmallReferenceIdeal, quiet_gradIn, quiet_gradInIdeal,
  quiet_gradInReferenceIdeal, quiet_gradOut, quiet_gradOutIdeal, quiet_gradOutReferenceIdeal, quiet_gradFfn,
  quiet_gradFfnIdeal, quiet_gradFfnReferenceIdeal, quiet_gradDown, quiet_gradDownIdeal, quiet_gradDownReferenceIdeal,
  quiet_gradPle, quiet_gradPleIdeal, quiet_gradPleReferenceIdeal, quiet_lossHead, quiet_lossHeadIdeal,
  quiet_lossHeadReferenceIdeal, quiet_normIn, quiet_normInIdeal, quiet_normInReferenceIdeal, quiet_mixOut,
  quiet_mixOutIdeal, quiet_mixOutReferenceIdeal, quiet_ffnIn, quiet_ffnInIdeal, quiet_ffnInReferenceIdeal, quiet_ffnOut,
  quiet_ffnOutIdeal, quiet_ffnOutReferenceIdeal, quiet_pleGate, quiet_pleGateIdeal, quiet_pleGateReferenceIdeal,
  quiet_pleGrad, quiet_pleGradIdeal, quiet_pleGradReferenceIdeal, quiet_ffnInGrad, quiet_ffnInGradIdeal,
  quiet_ffnInGradReferenceIdeal, quiet_mixOutGrad, quiet_mixOutGradIdeal, quiet_mixOutGradReferenceIdeal, quiet_normInGrad,
  quiet_normInGradIdeal, quiet_normInGradReferenceIdeal, quiet_ffnOutGrad, quiet_ffnOutGradIdeal,
  quiet_ffnOutGradReferenceIdeal, trivial, algebraic_kernel, bitexact_kernel, trivial, algebraic_gather, bitexact_gather,
  trivial, algebraic_sibling, bitexact_sibling, trivial, algebraic_small, bitexact_small, trivial, algebraic_sumIn,
  trivial, algebraic_updateIn, trivial, algebraic_sumOut, trivial, algebraic_updateOut, trivial, algebraic_sumFfn, trivial,
  algebraic_updateFfn, trivial, algebraic_sumDown, trivial, algebraic_updateDown, trivial, algebraic_sumPle, trivial,
  algebraic_updatePle, trivial, algebraic_updateSmall, trivial, algebraic_gradIn, trivial, algebraic_gradOut, trivial,
  algebraic_gradFfn, trivial, algebraic_gradDown, trivial, algebraic_gradPle, trivial, algebraic_lossHead, trivial,
  algebraic_normIn, trivial, algebraic_mixOut, trivial, algebraic_ffnIn, trivial, algebraic_ffnOut, trivial,
  algebraic_pleGate, trivial, algebraic_pleGrad, trivial, algebraic_ffnInGrad, trivial, algebraic_mixOutGrad, trivial,
  algebraic_normInGrad, trivial, algebraic_ffnOutGrad⟩

end Cert.Proof

end
